-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cotangent_and_value_half_finite [hPre_cotangent_and_value_half_finite : Cert.Pre_cotangent_and_value_half_finite.Facts] (m : (ℓ : Loc Cert.KernelIdeal.nD Cert.KernelIdeal.τ Cert.KernelIdeal.sig) → Buf (Elt Ideal) ℓ) : Prop :=
  ∀ c : Dev Cert.KernelIdeal.nD,
    (Cert.Pre_cotangent_and_value_half_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_cotangent_and_value_half_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_cotangent_and_value_half_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_cotangent_and_value_half_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cotangent_and_value_half_finite [hPre_cotangent_and_value_half_finite : Cert.Pre_cotangent_and_value_half_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cotangent_and_value_half_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_cotangent_and_value_half_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_cotangent_and_value_half_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_cotangent_and_value_half_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Kernel40Ideal_cotangent_finite [hPre_cotangent_finite : Cert.Pre_cotangent_finite.Facts] (m : (ℓ : Loc Cert.Kernel40Ideal.nD Cert.Kernel40Ideal.τ Cert.Kernel40Ideal.sig) → Buf (Elt Ideal) ℓ) : Prop :=
  ∀ c : Dev Cert.Kernel40Ideal.nD,
    (Cert.Pre_cotangent_finite.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1))) = (fun _ => 1#1)

def Pre_Reference40Ideal (m : (ℓ : Loc Cert.Reference40Ideal.nD Cert.Reference40Ideal.τ Cert.Reference40Ideal.sig) → Buf (Elt Ideal) ℓ) : Prop :=
  True

def Pre_Reference40Ideal_cotangent_finite [hPre_cotangent_finite : Cert.Pre_cotangent_finite.Facts] (m : (ℓ : Loc Cert.Reference40Ideal.nD Cert.Reference40Ideal.τ Cert.Reference40Ideal.sig) → Buf (Elt Ideal) ℓ) : Prop :=
  ∀ c : Dev Cert.Reference40Ideal.nD,
    (Cert.Pre_cotangent_finite.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_cotangent_and_value_half_finite [hKernelIdeal : Cert.KernelIdeal.Facts] [hPre_cotangent_and_value_half_finite : Cert.Pre_cotangent_and_value_half_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cotangent_and_value_half_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_cotangent_and_value_half_finite [hReferenceIdeal : Cert.ReferenceIdeal.Facts] [hPre_cotangent_and_value_half_finite : Cert.Pre_cotangent_and_value_half_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cotangent_and_value_half_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Kernel40Ideal_pre_cotangent_finite [hKernel40Ideal : Cert.Kernel40Ideal.Facts] [hPre_cotangent_finite : Cert.Pre_cotangent_finite.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal_cotangent_finite m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Reference40Ideal_pre_cotangent_finite [hReference40Ideal : Cert.Reference40Ideal.Facts] [hPre_cotangent_finite : Cert.Pre_cotangent_finite.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal_cotangent_finite m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def preserves_Kernel_KernelIdeal : Prop :=
  True

def algebraic_KernelIdeal_ReferenceIdeal_pre_cotangent_and_value_half_finite [hKernelIdeal : Cert.KernelIdeal.Facts] [hReferenceIdeal : Cert.ReferenceIdeal.Facts] [hPre_cotangent_and_value_half_finite : Cert.Pre_cotangent_and_value_half_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cotangent_and_value_half_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v26) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v48) = v0 c
          ∧ r.2.mem ((c.tc : Thread Cert.Reference26Ideal.nD Cert.Reference26Ideal.τ).loc Cert.Reference26Ideal.main_v32) = v1 c
          ∧ r.2.mem ((c.tc : Thread Cert.Reference26Ideal.nD Cert.Reference26Ideal.τ).loc Cert.Reference26Ideal.main_v49) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v68_0)) (v1 : (c : Dev Cert.Kernel39Ideal.nD) → Buf (Elt Ideal) ((c.tc : Thread Cert.Kernel39Ideal.nD Cert.Kernel39Ideal.τ).loc Cert.Kernel39Ideal.main_v68_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v68_0) = v0 c
          ∧ r.2.mem ((c.tc : Thread Cert.Kernel39Ideal.nD Cert.Kernel39Ideal.τ).loc Cert.Kernel39Ideal.main_v68_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v245) = v0 c
          ∧ r.2.mem ((c.tc : Thread Cert.Reference39Ideal.nD Cert.Reference39Ideal.τ).loc Cert.Reference39Ideal.main_v216) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def preserves_Kernel40_Kernel40Ideal : Prop :=
  True

def algebraic_Kernel40Ideal_Reference40Ideal_pre_cotangent_finite [hKernel40Ideal : Cert.Kernel40Ideal.Facts] [hReference40Ideal : Cert.Reference40Ideal.Facts] [hPre_cotangent_finite : Cert.Pre_cotangent_finite.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal_cotangent_finite m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v310)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v310) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v427) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_cotangent_and_value_half_finite : Cert.Pre_cotangent_and_value_half_finite.Facts) (hPre_cotangent_finite : Cert.Pre_cotangent_finite.Facts),
    quiescent_Kernel (hKernel := hKernel)
    ∧ quiescent_KernelIdeal (hKernelIdeal := hKernelIdeal)
    ∧ quiescent_KernelIdeal_pre_cotangent_and_value_half_finite (hKernelIdeal := hKernelIdeal) (hPre_cotangent_and_value_half_finite := hPre_cotangent_and_value_half_finite)
    ∧ quiescent_ReferenceIdeal (hReferenceIdeal := hReferenceIdeal)
    ∧ quiescent_ReferenceIdeal_pre_cotangent_and_value_half_finite (hReferenceIdeal := hReferenceIdeal) (hPre_cotangent_and_value_half_finite := hPre_cotangent_and_value_half_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Kernel40Ideal_pre_cotangent_finite (hKernel40Ideal := hKernel40Ideal) (hPre_cotangent_finite := hPre_cotangent_finite)
    ∧ quiescent_Reference40Ideal (hReference40Ideal := hReference40Ideal)
    ∧ quiescent_Reference40Ideal_pre_cotangent_finite (hReference40Ideal := hReference40Ideal) (hPre_cotangent_finite := hPre_cotangent_finite)
    ∧ preserves_Kernel_KernelIdeal
    ∧ algebraic_KernelIdeal_ReferenceIdeal_pre_cotangent_and_value_half_finite (hKernelIdeal := hKernelIdeal) (hReferenceIdeal := hReferenceIdeal) (hPre_cotangent_and_value_half_finite := hPre_cotangent_and_value_half_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal_pre_cotangent_finite (hKernel40Ideal := hKernel40Ideal) (hReference40Ideal := hReference40Ideal) (hPre_cotangent_finite := hPre_cotangent_finite)
-- ==== Pre_cotangent_and_value_half_finite.lean ====
abbrev S2x4x2048x704 : Shape := ⟨4, ![2, 4, 2048, 704]⟩
abbrev S4x2048x704 : Shape := ⟨3, ![4, 2048, 704]⟩
abbrev S2x4x3x704 : Shape := ⟨4, ![2, 4, 3, 704]⟩
abbrev S2x4x1x704 : Shape := ⟨4, ![2, 4, 1, 704]⟩
abbrev S1x4x2048x704 : Shape := ⟨4, ![1, 4, 2048, 704]⟩
abbrev S_ : Shape := ⟨0, ![]⟩
abbrev S1x4x3x704 : Shape := ⟨4, ![1, 4, 3, 704]⟩
abbrev S1x4x1x704 : Shape := ⟨4, ![1, 4, 1, 704]⟩

class Facts : Prop where
  slices_S2x4x2048x704_S1x4x2048x704_1_0_0_0 : S2x4x2048x704.Slices ![1, 0, 0, 0] S1x4x2048x704
  bcast_S_S1x4x2048x704 : S_.BroadcastsInDim S1x4x2048x704 (![] : Fin 0 → Fin S1x4x2048x704.rank)
  bcast_S_S4x2048x704 : S_.BroadcastsInDim S4x2048x704 (![] : Fin 0 → Fin S4x2048x704.rank)
  slices_S2x4x3x704_S1x4x3x704_1_0_0_0 : S2x4x3x704.Slices ![1, 0, 0, 0] S1x4x3x704
  bcast_S_S1x4x3x704 : S_.BroadcastsInDim S1x4x3x704 (![] : Fin 0 → Fin S1x4x3x704.rank)
  slices_S2x4x1x704_S1x4x1x704_1_0_0_0 : S2x4x1x704.Slices ![1, 0, 0, 0] S1x4x1x704
  bcast_S_S1x4x1x704 : S_.BroadcastsInDim S1x4x1x704 (![] : Fin 0 → Fin S1x4x1x704.rank)

variable [Facts]

def fn {F : FTy → Type} [FloatOps F] (main_arg0 : FVec F S2x4x2048x704 .f32) (main_arg1 : FVec F S4x2048x704 .f32) (main_arg2 : FVec F S2x4x3x704 .f32) (main_arg3 : FVec F S2x4x1x704 .f32) : IVec S1x4x2048x704 1 × IVec S4x2048x704 1 × IVec S1x4x3x704 1 × IVec S1x4x1x704 1 :=
  let main_v0 : FVec F S1x4x2048x704 .f32 := (extractStridedSlice S1x4x2048x704 ![1, 0, 0, 0] · slices_S2x4x2048x704_S1x4x2048x704_1_0_0_0) main_arg0
  let main_v1 : FVec F S1x4x2048x704 .f32 := Host.absf main_v0
  let main_cst : FVec F S_ .f32 := constant S_ .f32 0x7F800000#32
  let main_v2 : FVec F S1x4x2048x704 .f32 := broadcastInDim S1x4x2048x704 ![] bcast_S_S1x4x2048x704 main_cst
  let main_v3 : IVec S1x4x2048x704 1 := cmpf .olt main_v1 main_v2
  let main_v4 : FVec F S4x2048x704 .f32 := Host.absf main_arg1
  let main_cst_0 : FVec F S_ .f32 := constant S_ .f32 0x7F800000#32
  let main_v5 : FVec F S4x2048x704 .f32 := broadcastInDim S4x2048x704 ![] bcast_S_S4x2048x704 main_cst_0
  let main_v6 : IVec S4x2048x704 1 := cmpf .olt main_v4 main_v5
  let main_v7 : FVec F S1x4x3x704 .f32 := (extractStridedSlice S1x4x3x704 ![1, 0, 0, 0] · slices_S2x4x3x704_S1x4x3x704_1_0_0_0) main_arg2
  let main_v8 : FVec F S1x4x3x704 .f32 := Host.absf main_v7
  let main_cst_1 : FVec F S_ .f32 := constant S_ .f32 0x7F800000#32
  let main_v9 : FVec F S1x4x3x704 .f32 := broadcastInDim S1x4x3x704 ![] bcast_S_S1x4x3x704 main_cst_1
  let main_v10 : IVec S1x4x3x704 1 := cmpf .olt main_v8 main_v9
  let main_v11 : FVec F S1x4x1x704 .f32 := (extractStridedSlice S1x4x1x704 ![1, 0, 0, 0] · slices_S2x4x1x704_S1x4x1x704_1_0_0_0) main_arg3
  let main_v12 : FVec F S1x4x1x704 .f32 := Host.absf main_v11
  let main_cst_2 : FVec F S_ .f32 := constant S_ .f32 0x7F800000#32
  let main_v13 : FVec F S1x4x1x704 .f32 := broadcastInDim S1x4x1x704 ![] bcast_S_S1x4x1x704 main_cst_2
  let main_v14 : IVec S1x4x1x704 1 := cmpf .olt main_v12 main_v13
  (main_v3, main_v6, main_v10, main_v14)
-- ==== Pre_cotangent_finite.lean ====
abbrev S2048x2048 : Shape := ⟨2, ![2048, 2048]⟩
abbrev S2048x1024 : Shape := ⟨2, ![2048, 1024]⟩
abbrev S2048x512 : Shape := ⟨2, ![2048, 512]⟩
abbrev S_ : Shape := ⟨0, ![]⟩

class Facts : Prop where
  slices_S2048x1024_S2048x512_0_0 : S2048x1024.Slices ![0, 0] S2048x512
  bcast_S_S2048x512 : S_.BroadcastsInDim S2048x512 (![] : Fin 0 → Fin S2048x512.rank)

variable [Facts]

def fn {F : FTy → Type} [FloatOps F] (main_arg0 : FVec F S2048x2048 .f32) (main_arg1 : FVec F S2048x1024 .f32) : IVec S2048x512 1 :=
  let main_v0 : FVec F S2048x512 .f32 := (extractStridedSlice S2048x512 ![0, 0] · slices_S2048x1024_S2048x512_0_0) main_arg1
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  main_v3
-- ==== Kernel.lean ====
abbrev S2x4x2048x704 : Shape := ⟨4, ![2, 4, 2048, 704]⟩
abbrev S4x2048x704 : Shape := ⟨3, ![4, 2048, 704]⟩
abbrev S2x4x3x704 : Shape := ⟨4, ![2, 4, 3, 704]⟩
abbrev S2x4x1x704 : Shape := ⟨4, ![2, 4, 1, 704]⟩
abbrev S2x1x512x704 : Shape := ⟨4, ![2, 1, 512, 704]⟩
abbrev S2x1x8x704 : Shape := ⟨4, ![2, 1, 8, 704]⟩
abbrev S1x512x704 : Shape := ⟨3, ![1, 512, 704]⟩
abbrev S2x1x3x704 : Shape := ⟨4, ![2, 1, 3, 704]⟩
abbrev S2x1x1x704 : Shape := ⟨4, ![2, 1, 1, 704]⟩
abbrev S2x8x704 : Shape := ⟨3, ![2, 8, 704]⟩
abbrev S2x3x704 : Shape := ⟨3, ![2, 3, 704]⟩
abbrev S2x1x704 : Shape := ⟨3, ![2, 1, 704]⟩
abbrev S1x1x512x704 : Shape := ⟨4, ![1, 1, 512, 704]⟩
abbrev S512x704 : Shape := ⟨2, ![512, 704]⟩
abbrev S1x1x8x704 : Shape := ⟨4, ![1, 1, 8, 704]⟩
abbrev S8x704 : Shape := ⟨2, ![8, 704]⟩
abbrev S1x1x3x704 : Shape := ⟨4, ![1, 1, 3, 704]⟩
abbrev S3x704 : Shape := ⟨2, ![3, 704]⟩
abbrev S1x1x1x704 : Shape := ⟨4, ![1, 1, 1, 704]⟩
abbrev S1x704 : Shape := ⟨2, ![1, 704]⟩
abbrev S504x704 : Shape := ⟨2, ![504, 704]⟩
abbrev S1x8x704 : Shape := ⟨3, ![1, 8, 704]⟩
abbrev S704 : Shape := ⟨1, ![704]⟩

abbrev nBuf : Space → Nat
  | .hbm => 7
  | .vmem => 17
  | .smem => 0
  | _ => 0

abbrev bufTy : (tb : Table) → Fin (tcTables nBuf tb) → BufTy
  | .hbm, ⟨0, _⟩ => ⟨S2x4x2048x704, .f32⟩
  | .hbm, ⟨1, _⟩ => ⟨S4x2048x704, .f32⟩
  | .hbm, ⟨2, _⟩ => ⟨S2x4x3x704, .f32⟩
  | .hbm, ⟨3, _⟩ => ⟨S2x4x1x704, .f32⟩
  | .hbm, ⟨4, _⟩ => ⟨S2x4x2048x704, .bf16⟩
  | .hbm, ⟨5, _⟩ => ⟨S2x4x3x704, .f32⟩
  | .hbm, ⟨6, _⟩ => ⟨S2x4x1x704, .f32⟩
  | .local _ .vmem, ⟨0, _⟩ => ⟨S2x1x512x704, .f32⟩
  | .local _ .vmem, ⟨1, _⟩ => ⟨S2x1x512x704, .f32⟩
  | .local _ .vmem, ⟨2, _⟩ => ⟨S2x1x8x704, .f32⟩
  | .local _ .vmem, ⟨3, _⟩ => ⟨S2x1x8x704, .f32⟩
  | .local _ .vmem, ⟨4, _⟩ => ⟨S1x512x704, .f32⟩
  | .local _ .vmem, ⟨5, _⟩ => ⟨S1x512x704, .f32⟩
  | .local _ .vmem, ⟨6, _⟩ => ⟨S2x1x3x704, .f32⟩
  | .local _ .vmem, ⟨7, _⟩ => ⟨S2x1x3x704, .f32⟩
  | .local _ .vmem, ⟨8, _⟩ => ⟨S2x1x1x704, .f32⟩
  | .local _ .vmem, ⟨9, _⟩ => ⟨S2x1x1x704, .f32⟩
  | .local _ .vmem, ⟨10, _⟩ => ⟨S2x1x512x704, .bf16⟩
  | .local _ .vmem, ⟨11, _⟩ => ⟨S2x1x512x704, .bf16⟩
  | .local _ .vmem, ⟨12, _⟩ => ⟨S2x1x3x704, .f32⟩
  | .local _ .vmem, ⟨13, _⟩ => ⟨S2x1x3x704, .f32⟩
  | .local _ .vmem, ⟨14, _⟩ => ⟨S2x1x1x704, .f32⟩
  | .local _ .vmem, ⟨15, _⟩ => ⟨S2x1x1x704, .f32⟩
  | .local _ .vmem, ⟨16, _⟩ => ⟨S2x8x704, .f32⟩
  | _, _ => ⟨S2x4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x4x2048x704 : Shape := ⟨4, ![2, 4, 2048, 704]⟩
abbrev S4x2048x704 : Shape := ⟨3, ![4, 2048, 704]⟩
abbrev S2x4x3x704 : Shape := ⟨4, ![2, 4, 3, 704]⟩
abbrev S2x4x1x704 : Shape := ⟨4, ![2, 4, 1, 704]⟩
abbrev S_ : Shape := ⟨0, ![]⟩
abbrev S2x4x2x704 : Shape := ⟨4, ![2, 4, 2, 704]⟩
abbrev S2x4x2050x704 : Shape := ⟨4, ![2, 4, 2050, 704]⟩
abbrev S1x4x2048x704 : Shape := ⟨4, ![1, 4, 2048, 704]⟩
abbrev S2x4x704 : Shape := ⟨3, ![2, 4, 704]⟩

abbrev nBuf : Space → Nat
  | .hbm => 95
  | .vmem => 0
  | .smem => 0
  | _ => 0

abbrev bufTy : (tb : Table) → Fin (tcTables nBuf tb) → BufTy
  | .hbm, ⟨0, _⟩ => ⟨S2x4x2048x704, .f32⟩
  | .hbm, ⟨1, _⟩ => ⟨S4x2048x704, .f32⟩
  | .hbm, ⟨2, _⟩ => ⟨S2x4x3x704, .f32⟩
  | .hbm, ⟨3, _⟩ => ⟨S2x4x1x704, .f32⟩
  | .hbm, ⟨4, _⟩ => ⟨S_, .f32⟩
  | .hbm, ⟨5, _⟩ => ⟨S2x4x2x704, .f32⟩
  | .hbm, ⟨6, _⟩ => ⟨S2x4x2050x704, .f32⟩
  | .hbm, ⟨7, _⟩ => ⟨S_, .f32⟩
  | .hbm, ⟨8, _⟩ => ⟨S2x4x2x704, .f32⟩
  | .hbm, ⟨9, _⟩ => ⟨S2x4x1x704, .f32⟩
  | .hbm, ⟨10, _⟩ => ⟨S2x4x2048x704, .f32⟩
  | .hbm, ⟨11, _⟩ => ⟨S2x4x2048x704, .f32⟩
  | .hbm, ⟨12, _⟩ => ⟨S2x4x2048x704, .f32⟩
  | .hbm, ⟨13, _⟩ => ⟨S_, .f32⟩
  | .hbm, ⟨14, _⟩ => ⟨S2x4x2048x704, .f32⟩
  | .hbm, ⟨15, _⟩ => ⟨S2x4x2048x704, .f32⟩
  | .hbm, ⟨16, _⟩ => ⟨S2x4x1x704, .f32⟩
  | .hbm, ⟨17, _⟩ => ⟨S2x4x2048x704, .f32⟩
  | .hbm, ⟨18, _⟩ => ⟨S2x4x2048x704, .f32⟩
  | .hbm, ⟨19, _⟩ => ⟨S2x4x2048x704, .f32⟩
  | .hbm, ⟨20, _⟩ => ⟨S2x4x2048x704, .f32⟩
  | .hbm, ⟨21, _⟩ => ⟨S2x4x1x704, .f32⟩
  | .hbm, ⟨22, _⟩ => ⟨S2x4x2048x704, .f32⟩
  | .hbm, ⟨23, _⟩ => ⟨S2x4x2048x704, .f32⟩
  | .hbm, ⟨24, _⟩ => ⟨S2x4x2048x704, .f32⟩
  | .hbm, ⟨25, _⟩ => ⟨S2x4x2048x704, .f32⟩
  | .hbm, ⟨26, _⟩ => ⟨S2x4x2048x704, .f32⟩
  | .hbm, ⟨27, _⟩ => ⟨S2x4x2048x704, .f32⟩
  | .hbm, ⟨28, _⟩ => ⟨S1x4x2048x704, .f32⟩
  | .hbm, ⟨29, _⟩ => ⟨S4x2048x704, .f32⟩
  | .hbm, ⟨30, _⟩ => ⟨S1x4x2048x704, .f32⟩
  | .hbm, ⟨31, _⟩ => ⟨S4x2048x704, .f32⟩
  | .hbm, ⟨32, _⟩ => ⟨S4x2048x704, .f32⟩
  | .hbm, ⟨33, _⟩ => ⟨S4x2048x704, .f32⟩
  | .hbm, ⟨34, _⟩ => ⟨S_, .f32⟩
  | .hbm, ⟨35, _⟩ => ⟨S4x2048x704, .f32⟩
  | .hbm, ⟨36, _⟩ => ⟨S4x2048x704, .f32⟩
  | .hbm, ⟨37, _⟩ => ⟨S_, .f32⟩
  | .hbm, ⟨38, _⟩ => ⟨S4x2048x704, .f32⟩
  | .hbm, ⟨39, _⟩ => ⟨S4x2048x704, .f32⟩
  | .hbm, ⟨40, _⟩ => ⟨S_, .f32⟩
  | .hbm, ⟨41, _⟩ => ⟨S4x2048x704, .f32⟩
  | .hbm, ⟨42, _⟩ => ⟨S4x2048x704, .f32⟩
  | .hbm, ⟨43, _⟩ => ⟨S4x2048x704, .f32⟩
  | .hbm, ⟨44, _⟩ => ⟨S4x2048x704, .f32⟩
  | .hbm, ⟨45, _⟩ => ⟨S4x2048x704, .f32⟩
  | .hbm, ⟨46, _⟩ => ⟨S4x2048x704, .f32⟩
  | .hbm, ⟨47, _⟩ => ⟨S4x2048x704, .f32⟩
  | .hbm, ⟨48, _⟩ => ⟨S4x2048x704, .f32⟩
  | .hbm, ⟨49, _⟩ => ⟨S4x2048x704, .f32⟩
  | .hbm, ⟨50, _⟩ => ⟨S4x2048x704, .f32⟩
  | .hbm, ⟨51, _⟩ => ⟨S4x2048x704, .f32⟩
  | .hbm, ⟨52, _⟩ => ⟨S1x4x2048x704, .f32⟩
  | .hbm, ⟨53, _⟩ => ⟨S1x4x2048x704, .f32⟩
  | .hbm, ⟨54, _⟩ => ⟨S2x4x2048x704, .f32⟩
  | .hbm, ⟨55, _⟩ => ⟨S_, .f32⟩
  | .hbm, ⟨56, _⟩ => ⟨S2x4x704, .f32⟩
  | .hbm, ⟨57, _⟩ => ⟨S2x4x1x704, .f32⟩
  | .hbm, ⟨58, _⟩ => ⟨S2x4x2048x704, .f32⟩
  | .hbm, ⟨59, _⟩ => ⟨S2x4x2048x704, .f32⟩
  | .hbm, ⟨60, _⟩ => ⟨S2x4x2048x704, .f32⟩
  | .hbm, ⟨61, _⟩ => ⟨S_, .f32⟩
  | .hbm, ⟨62, _⟩ => ⟨S2x4x704, .f32⟩
  | .hbm, ⟨63, _⟩ => ⟨S2x4x1x704, .f32⟩
  | .hbm, ⟨64, _⟩ => ⟨S_, .f32⟩
  | .hbm, ⟨65, _⟩ => ⟨S2x4x2050x704, .f32⟩
  | .hbm, ⟨66, _⟩ => ⟨S_, .f32⟩
  | .hbm, ⟨67, _⟩ => ⟨S2x4x3x704, .f32⟩
  | .hbm, ⟨68, _⟩ => ⟨S2x4x2048x704, .f32⟩
  | .hbm, ⟨69, _⟩ => ⟨S2x4x2048x704, .f32⟩
  | .hbm, ⟨70, _⟩ => ⟨S2x4x2048x704, .f32⟩
  | .hbm, ⟨71, _⟩ => ⟨S_, .f32⟩
  | .hbm, ⟨72, _⟩ => ⟨S2x4x704, .f32⟩
  | .hbm, ⟨73, _⟩ => ⟨S2x4x1x704, .f32⟩
  | .hbm, ⟨74, _⟩ => ⟨S_, .f32⟩
  | .hbm, ⟨75, _⟩ => ⟨S2x4x2050x704, .f32⟩
  | .hbm, ⟨76, _⟩ => ⟨S2x4x2050x704, .f32⟩
  | .hbm, ⟨77, _⟩ => ⟨S_, .f32⟩
  | .hbm, ⟨78, _⟩ => ⟨S2x4x3x704, .f32⟩
  | .hbm, ⟨79, _⟩ => ⟨S2x4x3x704, .f32⟩
  | .hbm, ⟨80, _⟩ => ⟨S2x4x2048x704, .f32⟩
  | .hbm, ⟨81, _⟩ => ⟨S2x4x2048x704, .f32⟩
  | .hbm, ⟨82, _⟩ => ⟨S2x4x2048x704, .f32⟩
  | .hbm, ⟨83, _⟩ => ⟨S_, .f32⟩
  | .hbm, ⟨84, _⟩ => ⟨S2x4x704, .f32⟩
  | .hbm, ⟨85, _⟩ => ⟨S2x4x1x704, .f32⟩
  | .hbm, ⟨86, _⟩ => ⟨S_, .f32⟩
  | .hbm, ⟨87, _⟩ => ⟨S2x4x2050x704, .f32⟩
  | .hbm, ⟨88, _⟩ => ⟨S2x4x2050x704, .f32⟩
  | .hbm, ⟨89, _⟩ => ⟨S_, .f32⟩
  | .hbm, ⟨90, _⟩ => ⟨S2x4x3x704, .f32⟩
  | .hbm, ⟨91, _⟩ => ⟨S2x4x3x704, .f32⟩
  | .hbm, ⟨92, _⟩ => ⟨S2x4x2x704, .f32⟩
  | .hbm, ⟨93, _⟩ => ⟨S2x4x2048x704, .f32⟩
  | .hbm, ⟨94, _⟩ => ⟨S2x4x2048x704, .bf16⟩
  | _, _ => ⟨S2x4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v25_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v25_1 : Ref sig .tc := ⟨.hbm, 43, rfl⟩
abbrev main_v25_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Kernel2.lean ====
abbrev S2816x1024 : Shape := ⟨2, ![2816, 1024]⟩
abbrev S2048x1024 : Shape := ⟨2, ![2048, 1024]⟩
abbrev S4x2048x704 : Shape := ⟨3, ![4, 2048, 704]⟩
abbrev S1024x1024 : Shape := ⟨2, ![1024, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S2048x1024, .f32⟩
  | .hbm, ⟨2, _⟩ => ⟨S4x2048x704, .f32⟩
  | .local _ .vmem, ⟨0, _⟩ => ⟨S1024x1024, .f32⟩
  | .local _ .vmem, ⟨1, _⟩ => ⟨S1024x1024, .f32⟩
  | .local _ .vmem, ⟨2, _⟩ => ⟨S704x1024, .bf16⟩
  | .local _ .vmem, ⟨3, _⟩ => ⟨S704x1024, .bf16⟩
  | .local _ .vmem, ⟨4, _⟩ => ⟨S1x1024x704, .f32⟩
  | .local _ .vmem, ⟨5, _⟩ => ⟨S1x1024x704, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2816x1024 : Shape := ⟨2, ![2816, 1024]⟩
abbrev S2048x1024 : Shape := ⟨2, ![2048, 1024]⟩
abbrev S_ : Shape := ⟨0, ![]⟩
abbrev S4x2048x704 : Shape := ⟨3, ![4, 2048, 704]⟩
abbrev S4x704x1024 : Shape := ⟨3, ![4, 704, 1024]⟩
abbrev S2048x4x704 : Shape := ⟨3, ![2048, 4, 704]⟩

abbrev nBuf : Space → Nat
  | .hbm => 9
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S2048x1024, .f32⟩
  | .hbm, ⟨2, _⟩ => ⟨S2816x1024, .f32⟩
  | .hbm, ⟨3, _⟩ => ⟨S_, .f32⟩
  | .hbm, ⟨4, _⟩ => ⟨S4x2048x704, .f32⟩
  | .hbm, ⟨5, _⟩ => ⟨S4x704x1024, .f32⟩
  | .hbm, ⟨6, _⟩ => ⟨S2048x1024, .f32⟩
  | .hbm, ⟨7, _⟩ => ⟨S2048x4x704, .f32⟩
  | .hbm, ⟨8, _⟩ => ⟨S4x2048x704, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4x2048x704 : Shape := ⟨3, ![4, 2048, 704]⟩
abbrev S2048x1024 : Shape := ⟨2, ![2048, 1024]⟩
abbrev S2x4x352x1024 : Shape := ⟨4, ![2, 4, 352, 1024]⟩
abbrev S1x2048x704 : Shape := ⟨3, ![1, 2048, 704]⟩
abbrev S2048x512 : Shape := ⟨2, ![2048, 512]⟩
abbrev S2x1x352x512 : Shape := ⟨4, ![2, 1, 352, 512]⟩
abbrev S2048x704 : Shape := ⟨2, ![2048, 704]⟩
abbrev S704x512 : Shape := ⟨2, ![704, 512]⟩
abbrev S352x512 : Shape := ⟨2, ![352, 512]⟩
abbrev S1x1x352x512 : Shape := ⟨4, ![1, 1, 352, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S2x4x352x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .f32⟩
  | .local _ .vmem, ⟨3, _⟩ => ⟨S2048x512, .f32⟩
  | .local _ .vmem, ⟨4, _⟩ => ⟨S2x1x352x512, .bf16⟩
  | .local _ .vmem, ⟨5, _⟩ => ⟨S2x1x352x512, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x2048x704 : Shape := ⟨3, ![4, 2048, 704]⟩
abbrev S2048x1024 : Shape := ⟨2, ![2048, 1024]⟩
abbrev S_ : Shape := ⟨0, ![]⟩
abbrev S2816x1024 : Shape := ⟨2, ![2816, 1024]⟩
abbrev S4x704x1024 : Shape := ⟨3, ![4, 704, 1024]⟩
abbrev S1024x4x704 : Shape := ⟨3, ![1024, 4, 704]⟩
abbrev S8x352x1024 : Shape := ⟨3, ![8, 352, 1024]⟩
abbrev S4x2x352x1024 : Shape := ⟨4, ![4, 2, 352, 1024]⟩
abbrev S2x4x352x1024 : Shape := ⟨4, ![2, 4, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S4x2048x704, .f32⟩
  | .hbm, ⟨3, _⟩ => ⟨S_, .f32⟩
  | .hbm, ⟨4, _⟩ => ⟨S2816x1024, .f32⟩
  | .hbm, ⟨5, _⟩ => ⟨S4x704x1024, .f32⟩
  | .hbm, ⟨6, _⟩ => ⟨S2048x1024, .f32⟩
  | .hbm, ⟨7, _⟩ => ⟨S1024x4x704, .f32⟩
  | .hbm, ⟨8, _⟩ => ⟨S4x704x1024, .f32⟩
  | .hbm, ⟨9, _⟩ => ⟨S2816x1024, .f32⟩
  | .hbm, ⟨10, _⟩ => ⟨S8x352x1024, .f32⟩
  | .hbm, ⟨11, _⟩ => ⟨S4x2x352x1024, .f32⟩
  | .hbm, ⟨12, _⟩ => ⟨S2x4x352x1024, .f32⟩
  | .hbm, ⟨13, _⟩ => ⟨S2x4x352x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8x1024x704 : Shape := ⟨3, ![8, 1024, 704]⟩
abbrev S2x4x2048x704 : Shape := ⟨4, ![2, 4, 2048, 704]⟩
abbrev S2048x1024 : Shape := ⟨2, ![2048, 1024]⟩
abbrev S1x2x1024x704 : Shape := ⟨4, ![1, 2, 1024, 704]⟩
abbrev S2x512x704 : Shape := ⟨3, ![2, 512, 704]⟩
abbrev S1024x512 : Shape := ⟨2, ![1024, 512]⟩
abbrev S1x1x1024x704 : Shape := ⟨4, ![1, 1, 1024, 704]⟩
abbrev S1024x704 : Shape := ⟨2, ![1024, 704]⟩
abbrev S1x512x704 : Shape := ⟨3, ![1, 512, 704]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x1024x704, .bf16⟩
  | .hbm, ⟨1, _⟩ => ⟨S2x4x2048x704, .bf16⟩
  | .hbm, ⟨2, _⟩ => ⟨S2048x1024, .f32⟩
  | .local _ .vmem, ⟨0, _⟩ => ⟨S1x2x1024x704, .bf16⟩
  | .local _ .vmem, ⟨1, _⟩ => ⟨S1x2x1024x704, .bf16⟩
  | .local _ .vmem, ⟨2, _⟩ => ⟨S2x512x704, .bf16⟩
  | .local _ .vmem, ⟨3, _⟩ => ⟨S2x512x704, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_16 : BitVec 32 := 3#32
  let v19 : BitVec 1 := Scalar.cmpi .eq arg2 c3_i32_16
  let v20 : BitVec 32 := Scalar.extui v19
  let c0_i32_17 : BitVec 32 := 0#32
  let v21 : BitVec 1 := Scalar.cmpi .ne v20 c0_i32_17
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg0.toNat, c0_i32_10.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8x1024x704 : Shape := ⟨3, ![8, 1024, 704]⟩
abbrev S2x4x2048x704 : Shape := ⟨4, ![2, 4, 2048, 704]⟩
abbrev S_ : Shape := ⟨0, ![]⟩
abbrev S2048x1024 : Shape := ⟨2, ![2048, 1024]⟩
abbrev S8x704x2048 : Shape := ⟨3, ![8, 704, 2048]⟩
abbrev S8x2048x704 : Shape := ⟨3, ![8, 2048, 704]⟩

abbrev nBuf : Space → Nat
  | .hbm => 12
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S2x4x2048x704, .bf16⟩
  | .hbm, ⟨2, _⟩ => ⟨S8x1024x704, .f32⟩
  | .hbm, ⟨3, _⟩ => ⟨S_, .f32⟩
  | .hbm, ⟨4, _⟩ => ⟨S2048x1024, .f32⟩
  | .hbm, ⟨5, _⟩ => ⟨S8x704x2048, .f32⟩
  | .hbm, ⟨6, _⟩ => ⟨S8x2048x704, .f32⟩
  | .hbm, ⟨7, _⟩ => ⟨S2x4x2048x704, .f32⟩
  | .hbm, ⟨8, _⟩ => ⟨S2x4x2048x704, .f32⟩
  | .hbm, ⟨9, _⟩ => ⟨S8x2048x704, .f32⟩
  | .hbm, ⟨10, _⟩ => ⟨S8x704x2048, .f32⟩
  | .hbm, ⟨11, _⟩ => ⟨S2048x1024, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x1024 : Shape := ⟨2, ![2048, 1024]⟩
abbrev S8x1024x704 : Shape := ⟨3, ![8, 1024, 704]⟩
abbrev S2x4x2048x704 : Shape := ⟨4, ![2, 4, 2048, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8x1024x704, .bf16⟩
  | .hbm, ⟨2, _⟩ => ⟨S2x4x2048x704, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .f32⟩
  | .local _ .vmem, ⟨5, _⟩ => ⟨S1x1x1024x704, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg0.toNat, c0_i32_10.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S8x1024x704 : Shape := ⟨3, ![8, 1024, 704]⟩
abbrev S8x704x2048 : Shape := ⟨3, ![8, 704, 2048]⟩
abbrev S8x2048x704 : Shape := ⟨3, ![8, 2048, 704]⟩
abbrev S2x4x2048x704 : Shape := ⟨4, ![2, 4, 2048, 704]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x704, .bf16⟩
  | .hbm, ⟨2, _⟩ => ⟨S2048x1024, .f32⟩
  | .hbm, ⟨3, _⟩ => ⟨S8x1024x704, .f32⟩
  | .hbm, ⟨4, _⟩ => ⟨S8x704x2048, .f32⟩
  | .hbm, ⟨5, _⟩ => ⟨S8x2048x704, .f32⟩
  | .hbm, ⟨6, _⟩ => ⟨S2x4x2048x704, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S2048x1024 : Shape := ⟨2, ![2048, 1024]⟩
abbrev S2x4x2048x704 : Shape := ⟨4, ![2, 4, 2048, 704]⟩
abbrev S2x4x1024x704 : Shape := ⟨4, ![2, 4, 1024, 704]⟩
abbrev S1x1x2048x704 : Shape := ⟨4, ![1, 1, 2048, 704]⟩
abbrev S1x1x1024x704 : Shape := ⟨4, ![1, 1, 1024, 704]⟩
abbrev S2048x704 : Shape := ⟨2, ![2048, 704]⟩
abbrev S1024x704 : Shape := ⟨2, ![1024, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x4x2048x704, .bf16⟩
  | .hbm, ⟨2, _⟩ => ⟨S2x4x1024x704, .bf16⟩
  | .local _ .vmem, ⟨0, _⟩ => ⟨S2048x1024, .bf16⟩
  | .local _ .vmem, ⟨1, _⟩ => ⟨S1x1x2048x704, .bf16⟩
  | .local _ .vmem, ⟨2, _⟩ => ⟨S1x1x2048x704, .bf16⟩
  | .local _ .vmem, ⟨3, _⟩ => ⟨S1x1x1024x704, .bf16⟩
  | .local _ .vmem, ⟨4, _⟩ => ⟨S1x1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg2.toNat, c0_i32_10.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S2048x1024 : Shape := ⟨2, ![2048, 1024]⟩
abbrev S2x4x2048x704 : Shape := ⟨4, ![2, 4, 2048, 704]⟩
abbrev S_ : Shape := ⟨0, ![]⟩
abbrev S8x1024x704 : Shape := ⟨3, ![8, 1024, 704]⟩
abbrev S8x704x2048 : Shape := ⟨3, ![8, 704, 2048]⟩
abbrev S8x2048x704 : Shape := ⟨3, ![8, 2048, 704]⟩
abbrev S8x704x1024 : Shape := ⟨3, ![8, 704, 1024]⟩
abbrev S4x2x1024x704 : Shape := ⟨4, ![4, 2, 1024, 704]⟩
abbrev S2x4x1024x704 : Shape := ⟨4, ![2, 4, 1024, 704]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x4x2048x704, .bf16⟩
  | .hbm, ⟨2, _⟩ => ⟨S2048x1024, .f32⟩
  | .hbm, ⟨3, _⟩ => ⟨S_, .f32⟩
  | .hbm, ⟨4, _⟩ => ⟨S8x1024x704, .f32⟩
  | .hbm, ⟨5, _⟩ => ⟨S8x704x2048, .f32⟩
  | .hbm, ⟨6, _⟩ => ⟨S8x2048x704, .f32⟩
  | .hbm, ⟨7, _⟩ => ⟨S2x4x2048x704, .f32⟩
  | .hbm, ⟨8, _⟩ => ⟨S2x4x2048x704, .f32⟩
  | .hbm, ⟨9, _⟩ => ⟨S8x2048x704, .f32⟩
  | .hbm, ⟨10, _⟩ => ⟨S8x704x2048, .f32⟩
  | .hbm, ⟨11, _⟩ => ⟨S8x704x1024, .f32⟩
  | .hbm, ⟨12, _⟩ => ⟨S8x1024x704, .f32⟩
  | .hbm, ⟨13, _⟩ => ⟨S4x2x1024x704, .f32⟩
  | .hbm, ⟨14, _⟩ => ⟨S2x4x1024x704, .f32⟩
  | .hbm, ⟨15, _⟩ => ⟨S2x4x1024x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel7.lean ====
abbrev S4x2048x704 : Shape := ⟨3, ![4, 2048, 704]⟩
abbrev S2816x1024 : Shape := ⟨2, ![2816, 1024]⟩
abbrev S2048x1024 : Shape := ⟨2, ![2048, 1024]⟩
abbrev S4x704x1024 : Shape := ⟨3, ![4, 704, 1024]⟩
abbrev S2x1024x704 : Shape := ⟨3, ![2, 1024, 704]⟩
abbrev S2x704x512 : Shape := ⟨3, ![2, 704, 512]⟩
abbrev S1024x512 : Shape := ⟨2, ![1024, 512]⟩
abbrev S1x1024x704 : Shape := ⟨3, ![1, 1024, 704]⟩
abbrev S1024x704 : Shape := ⟨2, ![1024, 704]⟩
abbrev S1x704x512 : Shape := ⟨3, ![1, 704, 512]⟩
abbrev S704x512 : Shape := ⟨2, ![704, 512]⟩

abbrev nBuf : Space → Nat
  | .hbm => 5
  | .vmem => 9
  | .smem => 0
  | _ => 0

abbrev bufTy : (tb : Table) → Fin (tcTables nBuf tb) → BufTy
  | .hbm, ⟨0, _⟩ => ⟨S4x2048x704, .bf16⟩
  | .hbm, ⟨1, _⟩ => ⟨S2816x1024, .bf16⟩
  | .hbm, ⟨2, _⟩ => ⟨S2048x1024, .f32⟩
  | .hbm, ⟨3, _⟩ => ⟨S4x704x1024, .bf16⟩
  | .hbm, ⟨4, _⟩ => ⟨S2048x1024, .f32⟩
  | .local _ .vmem, ⟨0, _⟩ => ⟨S2x1024x704, .bf16⟩
  | .local _ .vmem, ⟨1, _⟩ => ⟨S2x1024x704, .bf16⟩
  | .local _ .vmem, ⟨2, _⟩ => ⟨S2x704x512, .bf16⟩
  | .local _ .vmem, ⟨3, _⟩ => ⟨S2x704x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_14 : BitVec 32 := 1#32
  let v19 : BitVec 1 := Scalar.cmpi .eq arg2 c1_i32_14
  let v20 : BitVec 32 := Scalar.extui v19
  let c0_i32_15 : BitVec 32 := 0#32
  let v21 : BitVec 1 := Scalar.cmpi .ne v20 c0_i32_15
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4x2048x704 : Shape := ⟨3, ![4, 2048, 704]⟩
abbrev S2816x1024 : Shape := ⟨2, ![2816, 1024]⟩
abbrev S2048x1024 : Shape := ⟨2, ![2048, 1024]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2816x1024, .bf16⟩
  | .hbm, ⟨2, _⟩ => ⟨S2048x1024, .f32⟩
  | .hbm, ⟨3, _⟩ => ⟨S4x2048x704, .f32⟩
  | .hbm, ⟨4, _⟩ => ⟨S2816x1024, .f32⟩
  | .hbm, ⟨5, _⟩ => ⟨S4x704x1024, .f32⟩
  | .hbm, ⟨6, _⟩ => ⟨S2048x1024, .f32⟩
  | .hbm, ⟨7, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x1024 : Shape := ⟨2, ![2048, 1024]⟩
abbrev S1024x4096 : Shape := ⟨2, ![1024, 4096]⟩
abbrev S2048x4096 : Shape := ⟨2, ![2048, 4096]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .local _ .vmem, ⟨0, _⟩ => ⟨S2048x1024, .bf16⟩
  | .local _ .vmem, ⟨1, _⟩ => ⟨S1024x128, .bf16⟩
  | .local _ .vmem, ⟨2, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x1024, .f32⟩
  | .hbm, ⟨3, _⟩ => ⟨S1024x128, .f32⟩
  | .hbm, ⟨4, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S2048x4096 : Shape := ⟨2, ![2048, 4096]⟩
abbrev S1024x4096 : Shape := ⟨2, ![1024, 4096]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S1024x4096, .f32⟩
  | .hbm, ⟨3, _⟩ => ⟨S_, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S2048x128 : Shape := ⟨2, ![2048, 128]⟩
abbrev S1024x128 : Shape := ⟨2, ![1024, 128]⟩
abbrev S2048x1024 : Shape := ⟨2, ![2048, 1024]⟩
abbrev S512x128 : Shape := ⟨2, ![512, 128]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x128, .bf16⟩
  | .hbm, ⟨1, _⟩ => ⟨S1024x128, .bf16⟩
  | .hbm, ⟨2, _⟩ => ⟨S2048x1024, .f32⟩
  | .hbm, ⟨3, _⟩ => ⟨S2048x1024, .f32⟩
  | .local _ .vmem, ⟨0, _⟩ => ⟨S2048x128, .bf16⟩
  | .local _ .vmem, ⟨1, _⟩ => ⟨S512x128, .bf16⟩
  | .local _ .vmem, ⟨2, _⟩ => ⟨S512x128, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S2048x128 : Shape := ⟨2, ![2048, 128]⟩
abbrev S1024x128 : Shape := ⟨2, ![1024, 128]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S1024x128, .bf16⟩
  | .hbm, ⟨2, _⟩ => ⟨S2048x1024, .f32⟩
  | .hbm, ⟨3, _⟩ => ⟨S1024x128, .f32⟩
  | .hbm, ⟨4, _⟩ => ⟨S_, .f32⟩
  | .hbm, ⟨5, _⟩ => ⟨S2048x1024, .f32⟩
  | .hbm, ⟨6, _⟩ => ⟨S2048x128, .f32⟩
  | .hbm, ⟨7, _⟩ => ⟨S2048x128, .f32⟩
  | .hbm, ⟨8, _⟩ => ⟨S2048x1024, .f32⟩
  | .hbm, ⟨9, _⟩ => ⟨S2048x1024, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel19.lean ====
abbrev S2048x1024 : Shape := ⟨2, ![2048, 1024]⟩
abbrev S2048x4096 : Shape := ⟨2, ![2048, 4096]⟩
abbrev S1024x4096 : Shape := ⟨2, ![1024, 4096]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x4096, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S_, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S1024x128, .bf16⟩
  | .local _ .vmem, ⟨0, _⟩ => ⟨S2048x1024, .bf16⟩
  | .local _ .vmem, ⟨1, _⟩ => ⟨S2048x128, .bf16⟩
  | .local _ .vmem, ⟨2, _⟩ => ⟨S1024x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S2048x1024 : Shape := ⟨2, ![2048, 1024]⟩
abbrev S2048x128 : Shape := ⟨2, ![2048, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S2048x1024, .f32⟩
  | .hbm, ⟨3, _⟩ => ⟨S_, .f32⟩
  | .hbm, ⟨4, _⟩ => ⟨S1024x128, .f32⟩
  | .hbm, ⟨5, _⟩ => ⟨S2048x128, .f32⟩
  | .hbm, ⟨6, _⟩ => ⟨S2048x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel22.lean ====
abbrev S2x4x2048x704 : Shape := ⟨4, ![2, 4, 2048, 704]⟩
abbrev S2x4x3x704 : Shape := ⟨4, ![2, 4, 3, 704]⟩
abbrev S2x4x1x704 : Shape := ⟨4, ![2, 4, 1, 704]⟩
abbrev S4x2048x704 : Shape := ⟨3, ![4, 2048, 704]⟩
abbrev S2x1x512x704 : Shape := ⟨4, ![2, 1, 512, 704]⟩
abbrev S2x1x8x704 : Shape := ⟨4, ![2, 1, 8, 704]⟩
abbrev S2x1x3x704 : Shape := ⟨4, ![2, 1, 3, 704]⟩
abbrev S2x1x1x704 : Shape := ⟨4, ![2, 1, 1, 704]⟩
abbrev S1x512x704 : Shape := ⟨3, ![1, 512, 704]⟩
abbrev S1x1x512x704 : Shape := ⟨4, ![1, 1, 512, 704]⟩
abbrev S512x704 : Shape := ⟨2, ![512, 704]⟩
abbrev S1x1x8x704 : Shape := ⟨4, ![1, 1, 8, 704]⟩
abbrev S8x704 : Shape := ⟨2, ![8, 704]⟩
abbrev S1x1x3x704 : Shape := ⟨4, ![1, 1, 3, 704]⟩
abbrev S3x704 : Shape := ⟨2, ![3, 704]⟩
abbrev S1x1x1x704 : Shape := ⟨4, ![1, 1, 1, 704]⟩
abbrev S1x704 : Shape := ⟨2, ![1, 704]⟩
abbrev S504x704 : Shape := ⟨2, ![504, 704]⟩

abbrev nBuf : Space → Nat
  | .hbm => 4
  | .vmem => 10
  | .smem => 0
  | _ => 0

abbrev bufTy : (tb : Table) → Fin (tcTables nBuf tb) → BufTy
  | .hbm, ⟨0, _⟩ => ⟨S2x4x2048x704, .f32⟩
  | .hbm, ⟨1, _⟩ => ⟨S2x4x3x704, .f32⟩
  | .hbm, ⟨2, _⟩ => ⟨S2x4x1x704, .f32⟩
  | .hbm, ⟨3, _⟩ => ⟨S4x2048x704, .bf16⟩
  | .local _ .vmem, ⟨0, _⟩ => ⟨S2x1x512x704, .f32⟩
  | .local _ .vmem, ⟨1, _⟩ => ⟨S2x1x512x704, .f32⟩
  | .local _ .vmem, ⟨2, _⟩ => ⟨S2x1x8x704, .f32⟩
  | .local _ .vmem, ⟨3, _⟩ => ⟨S2x1x8x704, .f32⟩
  | .local _ .vmem, ⟨4, _⟩ => ⟨S2x1x3x704, .f32⟩
  | .local _ .vmem, ⟨5, _⟩ => ⟨S2x1x3x704, .f32⟩
  | .local _ .vmem, ⟨6, _⟩ => ⟨S2x1x1x704, .f32⟩
  | .local _ .vmem, ⟨7, _⟩ => ⟨S2x1x1x704, .f32⟩
  | .local _ .vmem, ⟨8, _⟩ => ⟨S1x512x704, .bf16⟩
  | .local _ .vmem, ⟨9, _⟩ => ⟨S1x512x704, .bf16⟩
  | _, _ => ⟨S2x4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, arg0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x3x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S2x4x2048x704 : Shape := ⟨4, ![2, 4, 2048, 704]⟩
abbrev S2x4x3x704 : Shape := ⟨4, ![2, 4, 3, 704]⟩
abbrev S2x4x1x704 : Shape := ⟨4, ![2, 4, 1, 704]⟩
abbrev S_ : Shape := ⟨0, ![]⟩
abbrev S2x4x2x704 : Shape := ⟨4, ![2, 4, 2, 704]⟩
abbrev S2x4x2050x704 : Shape := ⟨4, ![2, 4, 2050, 704]⟩
abbrev S1x4x2048x704 : Shape := ⟨4, ![1, 4, 2048, 704]⟩
abbrev S4x2048x704 : Shape := ⟨3, ![4, 2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x4x2048x704, .f32⟩
  | .hbm, ⟨1, _⟩ => ⟨S2x4x3x704, .f32⟩
  | .hbm, ⟨2, _⟩ => ⟨S2x4x1x704, .f32⟩
  | .hbm, ⟨3, _⟩ => ⟨S_, .f32⟩
  | .hbm, ⟨4, _⟩ => ⟨S2x4x2x704, .f32⟩
  | .hbm, ⟨5, _⟩ => ⟨S2x4x2050x704, .f32⟩
  | .hbm, ⟨6, _⟩ => ⟨S2x4x1x704, .f32⟩
  | .hbm, ⟨7, _⟩ => ⟨S2x4x2048x704, .f32⟩
  | .hbm, ⟨8, _⟩ => ⟨S2x4x2048x704, .f32⟩
  | .hbm, ⟨9, _⟩ => ⟨S2x4x2048x704, .f32⟩
  | .hbm, ⟨10, _⟩ => ⟨S_, .f32⟩
  | .hbm, ⟨11, _⟩ => ⟨S2x4x2048x704, .f32⟩
  | .hbm, ⟨12, _⟩ => ⟨S2x4x2048x704, .f32⟩
  | .hbm, ⟨13, _⟩ => ⟨S2x4x1x704, .f32⟩
  | .hbm, ⟨14, _⟩ => ⟨S2x4x2048x704, .f32⟩
  | .hbm, ⟨15, _⟩ => ⟨S2x4x2048x704, .f32⟩
  | .hbm, ⟨16, _⟩ => ⟨S2x4x2048x704, .f32⟩
  | .hbm, ⟨17, _⟩ => ⟨S2x4x2048x704, .f32⟩
  | .hbm, ⟨18, _⟩ => ⟨S2x4x1x704, .f32⟩
  | .hbm, ⟨19, _⟩ => ⟨S2x4x2048x704, .f32⟩
  | .hbm, ⟨20, _⟩ => ⟨S2x4x2048x704, .f32⟩
  | .hbm, ⟨21, _⟩ => ⟨S2x4x2048x704, .f32⟩
  | .hbm, ⟨22, _⟩ => ⟨S2x4x2048x704, .f32⟩
  | .hbm, ⟨23, _⟩ => ⟨S2x4x2048x704, .f32⟩
  | .hbm, ⟨24, _⟩ => ⟨S2x4x2048x704, .f32⟩
  | .hbm, ⟨25, _⟩ => ⟨S1x4x2048x704, .f32⟩
  | .hbm, ⟨26, _⟩ => ⟨S4x2048x704, .f32⟩
  | .hbm, ⟨27, _⟩ => ⟨S1x4x2048x704, .f32⟩
  | .hbm, ⟨28, _⟩ => ⟨S4x2048x704, .f32⟩
  | .hbm, ⟨29, _⟩ => ⟨S4x2048x704, .f32⟩
  | .hbm, ⟨30, _⟩ => ⟨S4x2048x704, .f32⟩
  | .hbm, ⟨31, _⟩ => ⟨S_, .f32⟩
  | .hbm, ⟨32, _⟩ => ⟨S4x2048x704, .f32⟩
  | .hbm, ⟨33, _⟩ => ⟨S4x2048x704, .f32⟩
  | .hbm, ⟨34, _⟩ => ⟨S_, .f32⟩
  | .hbm, ⟨35, _⟩ => ⟨S4x2048x704, .f32⟩
  | .hbm, ⟨36, _⟩ => ⟨S4x2048x704, .f32⟩
  | .hbm, ⟨37, _⟩ => ⟨S4x2048x704, .f32⟩
  | .hbm, ⟨38, _⟩ => ⟨S4x2048x704, .f32⟩
  | .hbm, ⟨39, _⟩ => ⟨S4x2048x704, .bf16⟩
  | _, _ => ⟨S2x4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S2048x704 : Shape := ⟨2, ![2048, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel26.lean ====
abbrev S2048x1024 : Shape := ⟨2, ![2048, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel27.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S1024x513 : Shape := ⟨2, ![1024, 513]⟩
abbrev S512x513 : Shape := ⟨2, ![512, 513]⟩

abbrev nBuf : Space → Nat
  | .hbm => 7
  | .vmem => 14
  | .smem => 0
  | _ => 0

abbrev bufTy : (tb : Table) → Fin (tcTables nBuf tb) → BufTy
  | .hbm, ⟨0, _⟩ => ⟨S1024x513, .f32⟩
  | .hbm, ⟨1, _⟩ => ⟨S1024x513, .f32⟩
  | .hbm, ⟨2, _⟩ => ⟨S1024x513, .f32⟩
  | .hbm, ⟨3, _⟩ => ⟨S1024x513, .f32⟩
  | .hbm, ⟨4, _⟩ => ⟨S1024x513, .f32⟩
  | .hbm, ⟨5, _⟩ => ⟨S1024x513, .f32⟩
  | .hbm, ⟨6, _⟩ => ⟨S1024x513, .f32⟩
  | .local _ .vmem, ⟨0, _⟩ => ⟨S512x513, .f32⟩
  | .local _ .vmem, ⟨1, _⟩ => ⟨S512x513, .f32⟩
  | .local _ .vmem, ⟨2, _⟩ => ⟨S512x513, .f32⟩
  | .local _ .vmem, ⟨3, _⟩ => ⟨S512x513, .f32⟩
  | .local _ .vmem, ⟨4, _⟩ => ⟨S512x513, .f32⟩
  | .local _ .vmem, ⟨5, _⟩ => ⟨S512x513, .f32⟩
  | .local _ .vmem, ⟨6, _⟩ => ⟨S512x513, .f32⟩
  | .local _ .vmem, ⟨7, _⟩ => ⟨S512x513, .f32⟩
  | .local _ .vmem, ⟨8, _⟩ => ⟨S512x513, .f32⟩
  | .local _ .vmem, ⟨9, _⟩ => ⟨S512x513, .f32⟩
  | .local _ .vmem, ⟨10, _⟩ => ⟨S512x513, .f32⟩
  | .local _ .vmem, ⟨11, _⟩ => ⟨S512x513, .f32⟩
  | .local _ .vmem, ⟨12, _⟩ => ⟨S512x513, .f32⟩
  | .local _ .vmem, ⟨13, _⟩ => ⟨S512x513, .f32⟩
  | _, _ => ⟨S1024x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x513 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x513 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x513 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x513 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x513 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x513 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x513 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S1024x513 : Shape := ⟨2, ![1024, 513]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x513, .f32⟩
  | .hbm, ⟨1, _⟩ => ⟨S1024x513, .f32⟩
  | .hbm, ⟨2, _⟩ => ⟨S1024x513, .f32⟩
  | .hbm, ⟨3, _⟩ => ⟨S1024x513, .f32⟩
  | .hbm, ⟨4, _⟩ => ⟨S_, .f32⟩
  | .hbm, ⟨5, _⟩ => ⟨S1024x513, .f32⟩
  | .hbm, ⟨6, _⟩ => ⟨S1024x513, .f32⟩
  | .hbm, ⟨7, _⟩ => ⟨S_, .f32⟩
  | .hbm, ⟨8, _⟩ => ⟨S1024x513, .f32⟩
  | .hbm, ⟨9, _⟩ => ⟨S1024x513, .f32⟩
  | .hbm, ⟨10, _⟩ => ⟨S1024x513, .f32⟩
  | .hbm, ⟨11, _⟩ => ⟨S_, .f32⟩
  | .hbm, ⟨12, _⟩ => ⟨S1024x513, .f32⟩
  | .hbm, ⟨13, _⟩ => ⟨S1024x513, .f32⟩
  | .hbm, ⟨14, _⟩ => ⟨S1024x513, .f32⟩
  | .hbm, ⟨15, _⟩ => ⟨S_, .f32⟩
  | .hbm, ⟨16, _⟩ => ⟨S1024x513, .f32⟩
  | .hbm, ⟨17, _⟩ => ⟨S1024x513, .f32⟩
  | .hbm, ⟨18, _⟩ => ⟨S1024x513, .f32⟩
  | .hbm, ⟨19, _⟩ => ⟨S_, .f32⟩
  | .hbm, ⟨20, _⟩ => ⟨S1024x513, .f32⟩
  | .hbm, ⟨21, _⟩ => ⟨S1024x513, .f32⟩
  | .hbm, ⟨22, _⟩ => ⟨S_, .f32⟩
  | .hbm, ⟨23, _⟩ => ⟨S1024x513, .f32⟩
  | .hbm, ⟨24, _⟩ => ⟨S1024x513, .f32⟩
  | .hbm, ⟨25, _⟩ => ⟨S1024x513, .f32⟩
  | .hbm, ⟨26, _⟩ => ⟨S_, .f32⟩
  | .hbm, ⟨27, _⟩ => ⟨S1024x513, .f32⟩
  | .hbm, ⟨28, _⟩ => ⟨S1024x513, .f32⟩
  | .hbm, ⟨29, _⟩ => ⟨S1024x513, .f32⟩
  | .hbm, ⟨30, _⟩ => ⟨S_, .f32⟩
  | .hbm, ⟨31, _⟩ => ⟨S1024x513, .f32⟩
  | .hbm, ⟨32, _⟩ => ⟨S1024x513, .f32⟩
  | .hbm, ⟨33, _⟩ => ⟨S1024x513, .f32⟩
  | .hbm, ⟨34, _⟩ => ⟨S_, .f32⟩
  | .hbm, ⟨35, _⟩ => ⟨S1024x513, .f32⟩
  | .hbm, ⟨36, _⟩ => ⟨S1024x513, .f32⟩
  | _, _ => ⟨S1024x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S4x192 : Shape := ⟨2, ![4, 192]⟩

abbrev nBuf : Space → Nat
  | .hbm => 7
  | .vmem => 7
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S4x192 : Shape := ⟨2, ![4, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S4x192, .f32⟩
  | .hbm, ⟨10, _⟩ => ⟨S4x192, .f32⟩
  | .hbm, ⟨11, _⟩ => ⟨S_, .f32⟩
  | .hbm, ⟨12, _⟩ => ⟨S4x192, .f32⟩
  | .hbm, ⟨13, _⟩ => ⟨S4x192, .f32⟩
  | .hbm, ⟨14, _⟩ => ⟨S4x192, .f32⟩
  | .hbm, ⟨15, _⟩ => ⟨S_, .f32⟩
  | .hbm, ⟨16, _⟩ => ⟨S4x192, .f32⟩
  | .hbm, ⟨17, _⟩ => ⟨S4x192, .f32⟩
  | .hbm, ⟨18, _⟩ => ⟨S4x192, .f32⟩
  | .hbm, ⟨19, _⟩ => ⟨S_, .f32⟩
  | .hbm, ⟨20, _⟩ => ⟨S4x192, .f32⟩
  | .hbm, ⟨21, _⟩ => ⟨S4x192, .f32⟩
  | .hbm, ⟨22, _⟩ => ⟨S_, .f32⟩
  | .hbm, ⟨23, _⟩ => ⟨S4x192, .f32⟩
  | .hbm, ⟨24, _⟩ => ⟨S4x192, .f32⟩
  | .hbm, ⟨25, _⟩ => ⟨S4x192, .f32⟩
  | .hbm, ⟨26, _⟩ => ⟨S_, .f32⟩
  | .hbm, ⟨27, _⟩ => ⟨S4x192, .f32⟩
  | .hbm, ⟨28, _⟩ => ⟨S4x192, .f32⟩
  | .hbm, ⟨29, _⟩ => ⟨S4x192, .f32⟩
  | .hbm, ⟨30, _⟩ => ⟨S_, .f32⟩
  | .hbm, ⟨31, _⟩ => ⟨S4x192, .f32⟩
  | .hbm, ⟨32, _⟩ => ⟨S4x192, .f32⟩
  | .hbm, ⟨33, _⟩ => ⟨S4x192, .f32⟩
  | .hbm, ⟨34, _⟩ => ⟨S_, .f32⟩
  | .hbm, ⟨35, _⟩ => ⟨S4x192, .f32⟩
  | .hbm, ⟨36, _⟩ => ⟨S4x192, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1x4 : Shape := ⟨2, ![1, 4]⟩

abbrev nBuf : Space → Nat
  | .hbm => 7
  | .vmem => 7
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S1x4 : Shape := ⟨2, ![1, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S_, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S_, .f32⟩
  | .hbm, ⟨12, _⟩ => ⟨S1x4, .f32⟩
  | .hbm, ⟨13, _⟩ => ⟨S1x4, .f32⟩
  | .hbm, ⟨14, _⟩ => ⟨S1x4, .f32⟩
  | .hbm, ⟨15, _⟩ => ⟨S_, .f32⟩
  | .hbm, ⟨16, _⟩ => ⟨S1x4, .f32⟩
  | .hbm, ⟨17, _⟩ => ⟨S1x4, .f32⟩
  | .hbm, ⟨18, _⟩ => ⟨S1x4, .f32⟩
  | .hbm, ⟨19, _⟩ => ⟨S_, .f32⟩
  | .hbm, ⟨20, _⟩ => ⟨S1x4, .f32⟩
  | .hbm, ⟨21, _⟩ => ⟨S1x4, .f32⟩
  | .hbm, ⟨22, _⟩ => ⟨S_, .f32⟩
  | .hbm, ⟨23, _⟩ => ⟨S1x4, .f32⟩
  | .hbm, ⟨24, _⟩ => ⟨S1x4, .f32⟩
  | .hbm, ⟨25, _⟩ => ⟨S1x4, .f32⟩
  | .hbm, ⟨26, _⟩ => ⟨S_, .f32⟩
  | .hbm, ⟨27, _⟩ => ⟨S1x4, .f32⟩
  | .hbm, ⟨28, _⟩ => ⟨S1x4, .f32⟩
  | .hbm, ⟨29, _⟩ => ⟨S1x4, .f32⟩
  | .hbm, ⟨30, _⟩ => ⟨S_, .f32⟩
  | .hbm, ⟨31, _⟩ => ⟨S1x4, .f32⟩
  | .hbm, ⟨32, _⟩ => ⟨S1x4, .f32⟩
  | .hbm, ⟨33, _⟩ => ⟨S1x4, .f32⟩
  | .hbm, ⟨34, _⟩ => ⟨S_, .f32⟩
  | .hbm, ⟨35, _⟩ => ⟨S1x4, .f32⟩
  | .hbm, ⟨36, _⟩ => ⟨S1x4, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S6x704 : Shape := ⟨2, ![6, 704]⟩

abbrev nBuf : Space → Nat
  | .hbm => 7
  | .vmem => 7
  | .smem => 0
  | _ => 0

abbrev bufTy : (tb : Table) → Fin (tcTables nBuf tb) → BufTy
  | .hbm, ⟨0, _⟩ => ⟨S6x704, .f32⟩
  | .hbm, ⟨1, _⟩ => ⟨S6x704, .f32⟩
  | .hbm, ⟨2, _⟩ => ⟨S6x704, .f32⟩
  | .hbm, ⟨3, _⟩ => ⟨S6x704, .f32⟩
  | .hbm, ⟨4, _⟩ => ⟨S6x704, .f32⟩
  | .hbm, ⟨5, _⟩ => ⟨S6x704, .f32⟩
  | .hbm, ⟨6, _⟩ => ⟨S6x704, .f32⟩
  | .local _ .vmem, ⟨0, _⟩ => ⟨S6x704, .f32⟩
  | .local _ .vmem, ⟨1, _⟩ => ⟨S6x704, .f32⟩
  | .local _ .vmem, ⟨2, _⟩ => ⟨S6x704, .f32⟩
  | .local _ .vmem, ⟨3, _⟩ => ⟨S6x704, .f32⟩
  | .local _ .vmem, ⟨4, _⟩ => ⟨S6x704, .f32⟩
  | .local _ .vmem, ⟨5, _⟩ => ⟨S6x704, .f32⟩
  | .local _ .vmem, ⟨6, _⟩ => ⟨S6x704, .f32⟩
  | _, _ => ⟨S6x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S6x704 : Shape := ⟨2, ![6, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x704, .f32⟩
  | .hbm, ⟨1, _⟩ => ⟨S6x704, .f32⟩
  | .hbm, ⟨2, _⟩ => ⟨S6x704, .f32⟩
  | .hbm, ⟨3, _⟩ => ⟨S6x704, .f32⟩
  | .hbm, ⟨4, _⟩ => ⟨S_, .f32⟩
  | .hbm, ⟨5, _⟩ => ⟨S6x704, .f32⟩
  | .hbm, ⟨6, _⟩ => ⟨S6x704, .f32⟩
  | .hbm, ⟨7, _⟩ => ⟨S_, .f32⟩
  | .hbm, ⟨8, _⟩ => ⟨S6x704, .f32⟩
  | .hbm, ⟨9, _⟩ => ⟨S6x704, .f32⟩
  | .hbm, ⟨10, _⟩ => ⟨S6x704, .f32⟩
  | .hbm, ⟨11, _⟩ => ⟨S_, .f32⟩
  | .hbm, ⟨12, _⟩ => ⟨S6x704, .f32⟩
  | .hbm, ⟨13, _⟩ => ⟨S6x704, .f32⟩
  | .hbm, ⟨14, _⟩ => ⟨S6x704, .f32⟩
  | .hbm, ⟨15, _⟩ => ⟨S_, .f32⟩
  | .hbm, ⟨16, _⟩ => ⟨S6x704, .f32⟩
  | .hbm, ⟨17, _⟩ => ⟨S6x704, .f32⟩
  | .hbm, ⟨18, _⟩ => ⟨S6x704, .f32⟩
  | .hbm, ⟨19, _⟩ => ⟨S_, .f32⟩
  | .hbm, ⟨20, _⟩ => ⟨S6x704, .f32⟩
  | .hbm, ⟨21, _⟩ => ⟨S6x704, .f32⟩
  | .hbm, ⟨22, _⟩ => ⟨S_, .f32⟩
  | .hbm, ⟨23, _⟩ => ⟨S6x704, .f32⟩
  | .hbm, ⟨24, _⟩ => ⟨S6x704, .f32⟩
  | .hbm, ⟨25, _⟩ => ⟨S6x704, .f32⟩
  | .hbm, ⟨26, _⟩ => ⟨S_, .f32⟩
  | .hbm, ⟨27, _⟩ => ⟨S6x704, .f32⟩
  | .hbm, ⟨28, _⟩ => ⟨S6x704, .f32⟩
  | .hbm, ⟨29, _⟩ => ⟨S6x704, .f32⟩
  | .hbm, ⟨30, _⟩ => ⟨S_, .f32⟩
  | .hbm, ⟨31, _⟩ => ⟨S6x704, .f32⟩
  | .hbm, ⟨32, _⟩ => ⟨S6x704, .f32⟩
  | .hbm, ⟨33, _⟩ => ⟨S6x704, .f32⟩
  | .hbm, ⟨34, _⟩ => ⟨S_, .f32⟩
  | .hbm, ⟨35, _⟩ => ⟨S6x704, .f32⟩
  | .hbm, ⟨36, _⟩ => ⟨S6x704, .f32⟩
  | _, _ => ⟨S6x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S2x5632 : Shape := ⟨2, ![2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference37Ideal.lean ====
abbrev S2x5632 : Shape := ⟨2, ![2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S_, .f32⟩
  | .hbm, ⟨5, _⟩ => ⟨S2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S2x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2x5632, .f32⟩
  | .hbm, ⟨14, _⟩ => ⟨S2x5632, .f32⟩
  | .hbm, ⟨15, _⟩ => ⟨S_, .f32⟩
  | .hbm, ⟨16, _⟩ => ⟨S2x5632, .f32⟩
  | .hbm, ⟨17, _⟩ => ⟨S2x5632, .f32⟩
  | .hbm, ⟨18, _⟩ => ⟨S2x5632, .f32⟩
  | .hbm, ⟨19, _⟩ => ⟨S_, .f32⟩
  | .hbm, ⟨20, _⟩ => ⟨S2x5632, .f32⟩
  | .hbm, ⟨21, _⟩ => ⟨S2x5632, .f32⟩
  | .hbm, ⟨22, _⟩ => ⟨S_, .f32⟩
  | .hbm, ⟨23, _⟩ => ⟨S2x5632, .f32⟩
  | .hbm, ⟨24, _⟩ => ⟨S2x5632, .f32⟩
  | .hbm, ⟨25, _⟩ => ⟨S2x5632, .f32⟩
  | .hbm, ⟨26, _⟩ => ⟨S_, .f32⟩
  | .hbm, ⟨27, _⟩ => ⟨S2x5632, .f32⟩
  | .hbm, ⟨28, _⟩ => ⟨S2x5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S2x5632, .f32⟩
  | .hbm, ⟨33, _⟩ => ⟨S2x5632, .f32⟩
  | .hbm, ⟨34, _⟩ => ⟨S_, .f32⟩
  | .hbm, ⟨35, _⟩ => ⟨S2x5632, .f32⟩
  | .hbm, ⟨36, _⟩ => ⟨S2x5632, .f32⟩
  | _, _ => ⟨S2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference38Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S2048x2048 : Shape := ⟨2, ![2048, 2048]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x1x128 : Shape := ⟨3, ![4, 1, 128]⟩
abbrev S4x2x128 : Shape := ⟨3, ![4, 2, 128]⟩
abbrev S4x2x128x1 : Shape := ⟨4, ![4, 2, 128, 1]⟩
abbrev S4x2x128x128 : Shape := ⟨4, ![4, 2, 128, 128]⟩
abbrev S4x8x128 : Shape := ⟨3, ![4, 8, 128]⟩
abbrev S2048x512 : Shape := ⟨2, ![2048, 512]⟩
abbrev S16x4x128x128 : Shape := ⟨4, ![16, 4, 128, 128]⟩
abbrev S128x2048 : Shape := ⟨2, ![128, 2048]⟩
abbrev S128x512 : Shape := ⟨2, ![128, 512]⟩
abbrev S1x4x128x128 : Shape := ⟨4, ![1, 4, 128, 128]⟩
abbrev S1x1x128x128 : Shape := ⟨4, ![1, 1, 128, 128]⟩
abbrev S1x8x128 : Shape := ⟨3, ![1, 8, 128]⟩
abbrev S8x128 : Shape := ⟨2, ![8, 128]⟩

abbrev nBuf : Space → Nat
  | .hbm => 86
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S2048, .i32⟩
  | .hbm, ⟨10, _⟩ => ⟨S2048, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S128, .f32⟩
  | .hbm, ⟨32, _⟩ => ⟨S128x1, .f32⟩
  | .hbm, ⟨33, _⟩ => ⟨S1x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .i1⟩
  | .hbm, ⟨40, _⟩ => ⟨S4x1x1, .f32⟩
  | .hbm, ⟨41, _⟩ => ⟨S_, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S1x128x128, .f32⟩
  | .hbm, ⟨46, _⟩ => ⟨S4x128x128, .f32⟩
  | .hbm, ⟨47, _⟩ => ⟨S4x128x128, .f32⟩
  | .hbm, ⟨48, _⟩ => ⟨S4x128x128, .f32⟩
  | .hbm, ⟨49, _⟩ => ⟨S4x128x128, .f32⟩
  | .hbm, ⟨50, _⟩ => ⟨S_, .f32⟩
  | .hbm, ⟨51, _⟩ => ⟨S_, .f32⟩
  | .hbm, ⟨52, _⟩ => ⟨S4x128x128, .i1⟩
  | .hbm, ⟨53, _⟩ => ⟨S4x128x128, .f32⟩
  | .hbm, ⟨54, _⟩ => ⟨S4x128x128, .f32⟩
  | .hbm, ⟨55, _⟩ => ⟨S4x1, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x128, .f32⟩
  | .hbm, ⟨64, _⟩ => ⟨S4x1, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S4x128, .f32⟩
  | .hbm, ⟨70, _⟩ => ⟨S4x128, .f32⟩
  | .hbm, ⟨71, _⟩ => ⟨S4x128, .f32⟩
  | .hbm, ⟨72, _⟩ => ⟨S4x128, .f32⟩
  | .hbm, ⟨73, _⟩ => ⟨S4x1x128, .f32⟩
  | .hbm, ⟨74, _⟩ => ⟨S4x1x128, .f32⟩
  | .hbm, ⟨75, _⟩ => ⟨S4x2x128, .f32⟩
  | .hbm, ⟨76, _⟩ => ⟨S4x2x128x1, .f32⟩
  | .hbm, ⟨77, _⟩ => ⟨S4x2x128x128, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4x1x1, .f32⟩
  | .hbm, ⟨83, _⟩ => ⟨S4x8x128, .f32⟩
  | .hbm, ⟨84, _⟩ => ⟨S2048x512, .bf16⟩
  | .hbm, ⟨85, _⟩ => ⟨S16x4x128x128, .f32⟩
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S4x128x128, .f32⟩
  | .local _ .vmem, ⟨7, _⟩ => ⟨S4x2x128x128, .f32⟩
  | .local _ .vmem, ⟨8, _⟩ => ⟨S4x8x128, .f32⟩
  | .local _ .vmem, ⟨9, _⟩ => ⟨S128x512, .bf16⟩
  | .local _ .vmem, ⟨10, _⟩ => ⟨S128x512, .bf16⟩
  | .local _ .vmem, ⟨11, _⟩ => ⟨S1x4x128x128, .f32⟩
  | .local _ .vmem, ⟨12, _⟩ => ⟨S1x4x128x128, .f32⟩
  | .local _ .vmem, ⟨13, _⟩ => ⟨S4x128x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68_0 : Ref sig .tc := ⟨.hbm, 84, rfl⟩
abbrev main_v68_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S2048x2048 : Shape := ⟨2, ![2048, 2048]⟩
abbrev S2048x512 : Shape := ⟨2, ![2048, 512]⟩
abbrev S2048 : Shape := ⟨1, ![2048]⟩
abbrev S2048x4x128 : Shape := ⟨3, ![2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S2048x4x64 : Shape := ⟨3, ![2048, 4, 64]⟩
abbrev S4 : Shape := ⟨1, ![4]⟩
abbrev S16x128x4x128 : Shape := ⟨4, ![16, 128, 4, 128]⟩
abbrev S4x16x128x128 : Shape := ⟨4, ![4, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1x128x128 : Shape := ⟨4, ![4, 1, 128, 128]⟩
abbrev S1x1x128 : Shape := ⟨3, ![1, 1, 128]⟩
abbrev S4x1x128 : Shape := ⟨3, ![4, 1, 128]⟩
abbrev S4x1x128x1 : Shape := ⟨4, ![4, 1, 128, 1]⟩
abbrev S16x4x128x128 : Shape := ⟨4, ![16, 4, 128, 128]⟩
abbrev S1x4x128x128 : Shape := ⟨4, ![1, 4, 128, 128]⟩
abbrev S2048x4 : Shape := ⟨2, ![2048, 4]⟩
abbrev S2048x4x1 : Shape := ⟨3, ![2048, 4, 1]⟩

abbrev nBuf : Space → Nat
  | .hbm => 277
  | .vmem => 0
  | .smem => 0
  | _ => 0

abbrev hbmTy0_0 (i : Nat) : BufTy := match i % 128 with
  | 0 => ⟨S2048x2048, .f32⟩
  | 1 => ⟨S2048x512, .f32⟩
  | 2 => ⟨S2048x512, .f32⟩
  | 3 => ⟨S2048x512, .f32⟩
  | 4 => ⟨S2048x512, .f32⟩
  | 5 => ⟨S2048, .i32⟩
  | 6 => ⟨S2048x4x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S2048, .f32⟩
  | 16 => ⟨S2048x1, .f32⟩
  | 17 => ⟨S1x64, .f32⟩
  | 18 => ⟨S2048x64, .f32⟩
  | 19 => ⟨S2048x64, .f32⟩
  | 20 => ⟨S2048x64, .f32⟩
  | 21 => ⟨S2048x64, .f32⟩
  | 22 => ⟨S2048x1x64, .f32⟩
  | 23 => ⟨S2048x64, .f32⟩
  | 24 => ⟨S2048x1x64, .f32⟩
  | 25 => ⟨S2048x4x64, .f32⟩
  | 26 => ⟨S2048x4x64, .f32⟩
  | 27 => ⟨S2048x4x64, .f32⟩
  | 28 => ⟨S2048x4x64, .f32⟩
  | 29 => ⟨S2048x4x64, .f32⟩
  | 30 => ⟨S2048x4x64, .f32⟩
  | 31 => ⟨S2048x4x64, .f32⟩
  | 32 => ⟨S2048x4x64, .f32⟩
  | 33 => ⟨S2048x4x64, .f32⟩
  | 34 => ⟨S2048x4x64, .f32⟩
  | 35 => ⟨S2048x4x64, .f32⟩
  | 36 => ⟨S2048x4x64, .f32⟩
  | 37 => ⟨S2048x4x128, .f32⟩
  | 38 => ⟨S2048x4x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S2048, .f32⟩
  | 48 => ⟨S2048x1, .f32⟩
  | 49 => ⟨S1x64, .f32⟩
  | 50 => ⟨S2048x64, .f32⟩
  | 51 => ⟨S2048x64, .f32⟩
  | 52 => ⟨S2048x64, .f32⟩
  | 53 => ⟨S2048x64, .f32⟩
  | 54 => ⟨S2048x1x64, .f32⟩
  | 55 => ⟨S2048x64, .f32⟩
  | 56 => ⟨S2048x1x64, .f32⟩
  | 57 => ⟨S2048x4x64, .f32⟩
  | 58 => ⟨S2048x4x64, .f32⟩
  | 59 => ⟨S2048x4x64, .f32⟩
  | 60 => ⟨S2048x4x64, .f32⟩
  | 61 => ⟨S2048x4x64, .f32⟩
  | 62 => ⟨S2048x4x64, .f32⟩
  | 63 => ⟨S2048x4x64, .f32⟩
  | 64 => ⟨S2048x4x64, .f32⟩
  | 65 => ⟨S2048x4x64, .f32⟩
  | 66 => ⟨S2048x4x64, .f32⟩
  | 67 => ⟨S2048x4x64, .f32⟩
  | 68 => ⟨S2048x4x64, .f32⟩
  | 69 => ⟨S2048x4x128, .f32⟩
  | 70 => ⟨S2048x4x128, .f32⟩
  | 71 => ⟨S4, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S4, .f32⟩
  | 79 => ⟨S4, .f32⟩
  | 80 => ⟨S4, .f32⟩
  | 81 => ⟨S16x128x4x128, .f32⟩
  | 82 => ⟨S4x16x128x128, .f32⟩
  | 83 => ⟨S_, .f32⟩
  | 84 => ⟨S2048x4x128, .f32⟩
  | 85 => ⟨S2048x4x128, .f32⟩
  | 86 => ⟨S16x128x4x128, .f32⟩
  | 87 => ⟨S4x16x128x128, .f32⟩
  | 88 => ⟨S16x128x4x128, .f32⟩
  | 89 => ⟨S4x16x128x128, .f32⟩
  | 90 => ⟨S128, .f32⟩
  | 91 => ⟨S128x1, .f32⟩
  | 92 => ⟨S1x128, .f32⟩
  | 93 => ⟨S128x128, .f32⟩
  | 94 => ⟨S128x128, .f32⟩
  | 95 => ⟨S128x128, .f32⟩
  | 96 => ⟨S_, .f32⟩
  | 97 => ⟨S128x128, .f32⟩
  | 98 => ⟨S128x128, .i1⟩
  | 99 => ⟨S4x1x1, .f32⟩
  | 100 => ⟨S_, .f32⟩
  | 101 => ⟨S_, .f32⟩
  | 102 => ⟨S128x128, .f32⟩
  | 103 => ⟨S128x128, .f32⟩
  | 104 => ⟨S1x128x128, .f32⟩
  | 105 => ⟨S4x128x128, .f32⟩
  | 106 => ⟨S4x128x128, .f32⟩
  | 107 => ⟨S4x128x128, .f32⟩
  | 108 => ⟨S4x128x128, .f32⟩
  | 109 => ⟨S_, .f32⟩
  | 110 => ⟨S_, .f32⟩
  | 111 => ⟨S4x128x128, .i1⟩
  | 112 => ⟨S4x128x128, .f32⟩
  | 113 => ⟨S4x128x128, .f32⟩
  | 114 => ⟨S4x16x128x128, .f32⟩
  | 115 => ⟨S4x1x128x128, .f32⟩
  | 116 => ⟨S4x16x128x128, .f32⟩
  | 117 => ⟨S4x16x128x128, .f32⟩
  | 118 => ⟨S4x16x128x128, .f32⟩
  | 119 => ⟨S4x1x1, .f32⟩
  | 120 => ⟨S_, .f32⟩
  | 121 => ⟨S128, .f32⟩
  | 122 => ⟨S128, .f32⟩
  | 123 => ⟨S1x1x128, .f32⟩
  | 124 => ⟨S4x1x128, .f32⟩
  | 125 => ⟨S4x1x128, .f32⟩
  | 126 => ⟨S4x1x128, .f32⟩
  | 127 => ⟨S4x1x128, .f32⟩
  | _ => ⟨S2048x2048, .f32⟩

abbrev hbmTy0_1 (i : Nat) : BufTy := match i % 128 with
  | 0 => ⟨S4x1x128x1, .f32⟩
  | 1 => ⟨S4x16x128x128, .f32⟩
  | 2 => ⟨S4x16x128x128, .f32⟩
  | 3 => ⟨S16x4x128x128, .f32⟩
  | 4 => ⟨S_, .f32⟩
  | 5 => ⟨S4, .f32⟩
  | 6 => ⟨S4, .f32⟩
  | 7 => ⟨S4, .f32⟩
  | 8 => ⟨S4x1x1, .f32⟩
  | 9 => ⟨S_, .f32⟩
  | 10 => ⟨S4x128x128, .f32⟩
  | 11 => ⟨S1x4x128x128, .f32⟩
  | 12 => ⟨S4x128x128, .f32⟩
  | 13 => ⟨S1x4x128x128, .f32⟩
  | 14 => ⟨S4x128x128, .f32⟩
  | 15 => ⟨S1x4x128x128, .f32⟩
  | 16 => ⟨S4x128x128, .f32⟩
  | 17 => ⟨S1x4x128x128, .f32⟩
  | 18 => ⟨S4x128x128, .f32⟩
  | 19 => ⟨S1x4x128x128, .f32⟩
  | 20 => ⟨S4x128x128, .f32⟩
  | 21 => ⟨S1x4x128x128, .f32⟩
  | 22 => ⟨S4x128x128, .f32⟩
  | 23 => ⟨S1x4x128x128, .f32⟩
  | 24 => ⟨S4x128x128, .f32⟩
  | 25 => ⟨S1x4x128x128, .f32⟩
  | 26 => ⟨S4x128x128, .f32⟩
  | 27 => ⟨S1x4x128x128, .f32⟩
  | 28 => ⟨S4x128x128, .f32⟩
  | 29 => ⟨S1x4x128x128, .f32⟩
  | 30 => ⟨S4x128x128, .f32⟩
  | 31 => ⟨S1x4x128x128, .f32⟩
  | 32 => ⟨S4x128x128, .f32⟩
  | 33 => ⟨S1x4x128x128, .f32⟩
  | 34 => ⟨S4x128x128, .f32⟩
  | 35 => ⟨S1x4x128x128, .f32⟩
  | 36 => ⟨S4x128x128, .f32⟩
  | 37 => ⟨S1x4x128x128, .f32⟩
  | 38 => ⟨S4x128x128, .f32⟩
  | 39 => ⟨S1x4x128x128, .f32⟩
  | 40 => ⟨S4x128x128, .f32⟩
  | 41 => ⟨S1x4x128x128, .f32⟩
  | 42 => ⟨S4x128x128, .f32⟩
  | 43 => ⟨S4x128x128, .f32⟩
  | 44 => ⟨S4x128x128, .f32⟩
  | 45 => ⟨S4x128x128, .f32⟩
  | 46 => ⟨S4x128x128, .f32⟩
  | 47 => ⟨S4x128x128, .f32⟩
  | 48 => ⟨S4x128x128, .f32⟩
  | 49 => ⟨S4x128x128, .f32⟩
  | 50 => ⟨S4x128x128, .f32⟩
  | 51 => ⟨S4x128x128, .f32⟩
  | 52 => ⟨S4x128x128, .f32⟩
  | 53 => ⟨S4x128x128, .f32⟩
  | 54 => ⟨S4x128x128, .f32⟩
  | 55 => ⟨S4x128x128, .f32⟩
  | 56 => ⟨S4x128x128, .f32⟩
  | 57 => ⟨S4x128x128, .f32⟩
  | 58 => ⟨S4x128x128, .f32⟩
  | 59 => ⟨S4x128x128, .f32⟩
  | 60 => ⟨S4x128x128, .f32⟩
  | 61 => ⟨S4x128x128, .f32⟩
  | 62 => ⟨S4x128x128, .f32⟩
  | 63 => ⟨S4x128x128, .f32⟩
  | 64 => ⟨S4x128x128, .f32⟩
  | 65 => ⟨S4x128x128, .f32⟩
  | 66 => ⟨S4x128x128, .f32⟩
  | 67 => ⟨S4x128x128, .f32⟩
  | 68 => ⟨S4x128x128, .f32⟩
  | 69 => ⟨S4x128x128, .f32⟩
  | 70 => ⟨S4x128x128, .f32⟩
  | 71 => ⟨S4x128x128, .f32⟩
  | 72 => ⟨S4x128x128, .f32⟩
  | 73 => ⟨S4x128x128, .f32⟩
  | 74 => ⟨S4x128x128, .f32⟩
  | 75 => ⟨S4x128x128, .f32⟩
  | 76 => ⟨S4x128x128, .f32⟩
  | 77 => ⟨S4x128x128, .f32⟩
  | 78 => ⟨S4x128x128, .f32⟩
  | 79 => ⟨S4x128x128, .f32⟩
  | 80 => ⟨S4x128x128, .f32⟩
  | 81 => ⟨S4x128x128, .f32⟩
  | 82 => ⟨S4x128x128, .f32⟩
  | 83 => ⟨S4x128x128, .f32⟩
  | 84 => ⟨S4x128x128, .f32⟩
  | 85 => ⟨S4x128x128, .f32⟩
  | 86 => ⟨S4x128x128, .f32⟩
  | 87 => ⟨S4x128x128, .f32⟩
  | 88 => ⟨S4x128x128, .f32⟩
  | 89 => ⟨S4x128x128, .f32⟩
  | 90 => ⟨S4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S16x4x128x128, .f32⟩
  | 108 => ⟨S4x1x1, .f32⟩
  | 109 => ⟨S_, .f32⟩
  | 110 => ⟨S128, .f32⟩
  | 111 => ⟨S128, .f32⟩
  | 112 => ⟨S1x1x128, .f32⟩
  | 113 => ⟨S4x1x128, .f32⟩
  | 114 => ⟨S4x1x128, .f32⟩
  | 115 => ⟨S4x1x128, .f32⟩
  | 116 => ⟨S4x1x128, .f32⟩
  | 117 => ⟨S4x1x128x1, .f32⟩
  | 118 => ⟨S4x16x128x128, .f32⟩
  | 119 => ⟨S4x16x128x128, .f32⟩
  | 120 => ⟨S4x16x128x128, .f32⟩
  | 121 => ⟨S4x16x128x128, .f32⟩
  | 122 => ⟨S16x128x4x128, .f32⟩
  | 123 => ⟨S2048x4x128, .f32⟩
  | 124 => ⟨S2048x4x128, .f32⟩
  | 125 => ⟨S_, .f32⟩
  | 126 => ⟨S2048x4, .f32⟩
  | 127 => ⟨S2048x4x1, .f32⟩
  | _ => ⟨S2048x2048, .f32⟩

abbrev hbmTy0_2 (i : Nat) : BufTy := match i % 128 with
  | 0 => ⟨S_, .f32⟩
  | 1 => ⟨S2048x4x1, .f32⟩
  | 2 => ⟨S2048x4x1, .f32⟩
  | 3 => ⟨S_, .f32⟩
  | 4 => ⟨S2048x4x1, .f32⟩
  | 5 => ⟨S2048x4x1, .f32⟩
  | 6 => ⟨S2048x4x1, .f32⟩
  | 7 => ⟨S2048x4x128, .f32⟩
  | 8 => ⟨S2048x4x128, .f32⟩
  | 9 => ⟨S2048x512, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2048x512, .f32⟩
  | 20 => ⟨S2048x512, .bf16⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_1 : Ref sig .tc := ⟨.hbm, 41, rfl⟩
abbrev main_v38 : Ref sig .tc := ⟨.hbm, 42, rfl⟩
abbrev main_v39 : Ref sig .tc := ⟨.hbm, 43, rfl⟩
abbrev main_cst_2 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_cst_3 : Ref sig .tc := ⟨.hbm, 72, rfl⟩
abbrev main_v67 : Ref sig .tc := ⟨.hbm, 73, rfl⟩
abbrev main_v68 : Ref sig .tc := ⟨.hbm, 74, rfl⟩
abbrev main_cst_4 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst_5 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_cst_6 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_cst_7 : Ref sig .tc := ⟨.hbm, 100, rfl⟩
abbrev main_call0_v0 : Ref sig .tc := ⟨.hbm, 101, rfl⟩
abbrev main_call0_v1 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_8 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_9 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_10 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_11 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_cst_12 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_cst_13 : Ref sig .tc := ⟨.hbm, 253, rfl⟩
abbrev main_v233 : Ref sig .tc := ⟨.hbm, 254, rfl⟩
abbrev main_v234 : Ref sig .tc := ⟨.hbm, 255, rfl⟩
abbrev main_cst_14 : Ref sig .tc := ⟨.hbm, 256, rfl⟩
abbrev main_v235 : Ref sig .tc := ⟨.hbm, 257, rfl⟩
abbrev main_v236 : Ref sig .tc := ⟨.hbm, 258, rfl⟩
abbrev main_cst_15 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_call2_v0 : Ref sig .tc := ⟨.hbm, 266, rfl⟩
abbrev main_call2_v1 : Ref sig .tc := ⟨.hbm, 267, rfl⟩
abbrev main_call2_cst : Ref sig .tc := ⟨.hbm, 268, rfl⟩
abbrev main_call2_v2 : Ref sig .tc := ⟨.hbm, 269, rfl⟩
abbrev main_call2_v3 : Ref sig .tc := ⟨.hbm, 270, rfl⟩
abbrev main_call2_cst_0 : Ref sig .tc := ⟨.hbm, 271, rfl⟩
abbrev main_call2_v4 : Ref sig .tc := ⟨.hbm, 272, rfl⟩
abbrev main_call2_v5 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩

abbrev nD : Nat := 1
abbrev τ : Topo := Topo.v7x

variable {F : FTy → Type} [FloatOps F]
-- ==== Kernel40.lean ====
abbrev S2048x2048 : Shape := ⟨2, ![2048, 2048]⟩
abbrev S2048x1024 : Shape := ⟨2, ![2048, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x1x128 : Shape := ⟨3, ![4, 1, 128]⟩
abbrev S4x2x128 : Shape := ⟨3, ![4, 2, 128]⟩
abbrev S4x2x128x1 : Shape := ⟨4, ![4, 2, 128, 1]⟩
abbrev S4x2x128x128 : Shape := ⟨4, ![4, 2, 128, 128]⟩
abbrev S4x8x128 : Shape := ⟨3, ![4, 8, 128]⟩
abbrev S2048x512 : Shape := ⟨2, ![2048, 512]⟩
abbrev S2048x4x128 : Shape := ⟨3, ![2048, 4, 128]⟩
abbrev S2048x1x64 : Shape := ⟨3, ![2048, 1, 64]⟩
abbrev S2048x4x64 : Shape := ⟨3, ![2048, 4, 64]⟩
abbrev S16x128x4x128 : Shape := ⟨4, ![16, 128, 4, 128]⟩
abbrev S4x16x128x128 : Shape := ⟨4, ![4, 16, 128, 128]⟩
abbrev S1x1x128 : Shape := ⟨3, ![1, 1, 128]⟩
abbrev S4x1x128x1 : Shape := ⟨4, ![4, 1, 128, 1]⟩
abbrev S4x1x128x128 : Shape := ⟨4, ![4, 1, 128, 128]⟩
abbrev S1x4x128x128 : Shape := ⟨4, ![1, 4, 128, 128]⟩
abbrev S16x4x128x128 : Shape := ⟨4, ![16, 4, 128, 128]⟩
abbrev S128x2048 : Shape := ⟨2, ![128, 2048]⟩
abbrev S128x512 : Shape := ⟨2, ![128, 512]⟩
abbrev S1x1x128x128 : Shape := ⟨4, ![1, 1, 128, 128]⟩
abbrev S1x8x128 : Shape := ⟨3, ![1, 8, 128]⟩
abbrev S8x128 : Shape := ⟨2, ![8, 128]⟩

abbrev nBuf : Space → Nat
  | .hbm => 338
  | .vmem => 16
  | .smem => 0
  | _ => 0

abbrev hbmTy0_0 (i : Nat) : BufTy := match i % 128 with
  | 0 => ⟨S2048x2048, .f32⟩
  | 1 => ⟨S2048x1024, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S2048, .i32⟩
  | 11 => ⟨S2048, .f32⟩
  | 12 => ⟨S2048x1, .f32⟩
  | 13 => ⟨S1x64, .f32⟩
  | 14 => ⟨S2048x64, .f32⟩
  | 15 => ⟨S2048x64, .f32⟩
  | 16 => ⟨S2048x64, .f32⟩
  | 17 => ⟨S2048x64, .f32⟩
  | 18 => ⟨S2048x64, .f32⟩
  | 19 => ⟨S2048x128, .f32⟩
  | 20 => ⟨S2048x64, .f32⟩
  | 21 => ⟨S2048x128, .f32⟩
  | 22 => ⟨S4, .f32⟩
  | 23 => ⟨S_, .f32⟩
  | 24 => ⟨S4, .f32⟩
  | 25 => ⟨S4, .f32⟩
  | 26 => ⟨S_, .f32⟩
  | 27 => ⟨S4, .f32⟩
  | 28 => ⟨S4, .f32⟩
  | 29 => ⟨S4, .f32⟩
  | 30 => ⟨S4, .f32⟩
  | 31 => ⟨S4, .f32⟩
  | 32 => ⟨S128, .f32⟩
  | 33 => ⟨S128x1, .f32⟩
  | 34 => ⟨S1x128, .f32⟩
  | 35 => ⟨S128x128, .f32⟩
  | 36 => ⟨S128x128, .f32⟩
  | 37 => ⟨S128x128, .f32⟩
  | 38 => ⟨S_, .f32⟩
  | 39 => ⟨S128x128, .f32⟩
  | 40 => ⟨S128x128, .i1⟩
  | 41 => ⟨S4x1x1, .f32⟩
  | 42 => ⟨S_, .f32⟩
  | 43 => ⟨S_, .f32⟩
  | 44 => ⟨S128x128, .f32⟩
  | 45 => ⟨S128x128, .f32⟩
  | 46 => ⟨S1x128x128, .f32⟩
  | 47 => ⟨S4x128x128, .f32⟩
  | 48 => ⟨S4x128x128, .f32⟩
  | 49 => ⟨S4x128x128, .f32⟩
  | 50 => ⟨S4x128x128, .f32⟩
  | 51 => ⟨S_, .f32⟩
  | 52 => ⟨S_, .f32⟩
  | 53 => ⟨S4x128x128, .i1⟩
  | 54 => ⟨S4x128x128, .f32⟩
  | 55 => ⟨S4x128x128, .f32⟩
  | 56 => ⟨S4x1, .f32⟩
  | 57 => ⟨S_, .f32⟩
  | 58 => ⟨S128, .f32⟩
  | 59 => ⟨S128, .f32⟩
  | 60 => ⟨S1x128, .f32⟩
  | 61 => ⟨S4x128, .f32⟩
  | 62 => ⟨S4x128, .f32⟩
  | 63 => ⟨S4x128, .f32⟩
  | 64 => ⟨S4x128, .f32⟩
  | 65 => ⟨S4x1, .f32⟩
  | 66 => ⟨S_, .f32⟩
  | 67 => ⟨S128, .f32⟩
  | 68 => ⟨S128, .f32⟩
  | 69 => ⟨S1x128, .f32⟩
  | 70 => ⟨S4x128, .f32⟩
  | 71 => ⟨S4x128, .f32⟩
  | 72 => ⟨S4x128, .f32⟩
  | 73 => ⟨S4x128, .f32⟩
  | 74 => ⟨S4x1x128, .f32⟩
  | 75 => ⟨S4x1x128, .f32⟩
  | 76 => ⟨S4x2x128, .f32⟩
  | 77 => ⟨S4x2x128x1, .f32⟩
  | 78 => ⟨S4x2x128x128, .f32⟩
  | 79 => ⟨S_, .f32⟩
  | 80 => ⟨S4, .f32⟩
  | 81 => ⟨S4, .f32⟩
  | 82 => ⟨S4, .f32⟩
  | 83 => ⟨S4x1x1, .f32⟩
  | 84 => ⟨S4x8x128, .f32⟩
  | 85 => ⟨S2048x512, .f32⟩
  | 86 => ⟨S2048x512, .f32⟩
  | 87 => ⟨S2048x512, .f32⟩
  | 88 => ⟨S2048x512, .f32⟩
  | 89 => ⟨S2048, .i32⟩
  | 90 => ⟨S2048x4x128, .f32⟩
  | 91 => ⟨S64, .f32⟩
  | 92 => ⟨S64, .f32⟩
  | 93 => ⟨S_, .f32⟩
  | 94 => ⟨S64, .f32⟩
  | 95 => ⟨S64, .f32⟩
  | 96 => ⟨S_, .f32⟩
  | 97 => ⟨S64, .f32⟩
  | 98 => ⟨S64, .f32⟩
  | 99 => ⟨S2048, .f32⟩
  | 100 => ⟨S2048x1, .f32⟩
  | 101 => ⟨S1x64, .f32⟩
  | 102 => ⟨S2048x64, .f32⟩
  | 103 => ⟨S2048x64, .f32⟩
  | 104 => ⟨S2048x64, .f32⟩
  | 105 => ⟨S2048x64, .f32⟩
  | 106 => ⟨S2048x1x64, .f32⟩
  | 107 => ⟨S2048x64, .f32⟩
  | 108 => ⟨S2048x1x64, .f32⟩
  | 109 => ⟨S2048x4x64, .f32⟩
  | 110 => ⟨S2048x4x64, .f32⟩
  | 111 => ⟨S2048x4x64, .f32⟩
  | 112 => ⟨S2048x4x64, .f32⟩
  | 113 => ⟨S2048x4x64, .f32⟩
  | 114 => ⟨S2048x4x64, .f32⟩
  | 115 => ⟨S2048x4x64, .f32⟩
  | 116 => ⟨S2048x4x64, .f32⟩
  | 117 => ⟨S2048x4x64, .f32⟩
  | 118 => ⟨S2048x4x64, .f32⟩
  | 119 => ⟨S2048x4x64, .f32⟩
  | 120 => ⟨S2048x4x64, .f32⟩
  | 121 => ⟨S2048x4x128, .f32⟩
  | 122 => ⟨S2048x4x128, .f32⟩
  | 123 => ⟨S64, .f32⟩
  | 124 => ⟨S64, .f32⟩
  | 125 => ⟨S_, .f32⟩
  | 126 => ⟨S64, .f32⟩
  | 127 => ⟨S64, .f32⟩
  | _ => ⟨S2048x2048, .f32⟩

abbrev hbmTy0_1 (i : Nat) : BufTy := match i % 128 with
  | 0 => ⟨S_, .f32⟩
  | 1 => ⟨S64, .f32⟩
  | 2 => ⟨S64, .f32⟩
  | 3 => ⟨S2048, .f32⟩
  | 4 => ⟨S2048x1, .f32⟩
  | 5 => ⟨S1x64, .f32⟩
  | 6 => ⟨S2048x64, .f32⟩
  | 7 => ⟨S2048x64, .f32⟩
  | 8 => ⟨S2048x64, .f32⟩
  | 9 => ⟨S2048x64, .f32⟩
  | 10 => ⟨S2048x1x64, .f32⟩
  | 11 => ⟨S2048x64, .f32⟩
  | 12 => ⟨S2048x1x64, .f32⟩
  | 13 => ⟨S2048x4x64, .f32⟩
  | 14 => ⟨S2048x4x64, .f32⟩
  | 15 => ⟨S2048x4x64, .f32⟩
  | 16 => ⟨S2048x4x64, .f32⟩
  | 17 => ⟨S2048x4x64, .f32⟩
  | 18 => ⟨S2048x4x64, .f32⟩
  | 19 => ⟨S2048x4x64, .f32⟩
  | 20 => ⟨S2048x4x64, .f32⟩
  | 21 => ⟨S2048x4x64, .f32⟩
  | 22 => ⟨S2048x4x64, .f32⟩
  | 23 => ⟨S2048x4x64, .f32⟩
  | 24 => ⟨S2048x4x64, .f32⟩
  | 25 => ⟨S2048x4x128, .f32⟩
  | 26 => ⟨S2048x4x128, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4, .f32⟩
  | 35 => ⟨S4, .f32⟩
  | 36 => ⟨S4, .f32⟩
  | 37 => ⟨S_, .f32⟩
  | 38 => ⟨S2048x4x128, .f32⟩
  | 39 => ⟨S2048x4x128, .f32⟩
  | 40 => ⟨S16x128x4x128, .f32⟩
  | 41 => ⟨S4x16x128x128, .f32⟩
  | 42 => ⟨S16x128x4x128, .f32⟩
  | 43 => ⟨S4x16x128x128, .f32⟩
  | 44 => ⟨S128, .f32⟩
  | 45 => ⟨S4x1x1, .f32⟩
  | 46 => ⟨S_, .f32⟩
  | 47 => ⟨S128, .f32⟩
  | 48 => ⟨S128, .f32⟩
  | 49 => ⟨S1x1x128, .f32⟩
  | 50 => ⟨S4x1x128, .f32⟩
  | 51 => ⟨S4x1x128, .f32⟩
  | 52 => ⟨S4x1x128, .f32⟩
  | 53 => ⟨S4x1x128, .f32⟩
  | 54 => ⟨S4x1x128x1, .f32⟩
  | 55 => ⟨S4x16x128x128, .f32⟩
  | 56 => ⟨S4x16x128x128, .f32⟩
  | 57 => ⟨S_, .f32⟩
  | 58 => ⟨S4, .f32⟩
  | 59 => ⟨S4, .f32⟩
  | 60 => ⟨S4, .f32⟩
  | 61 => ⟨S4x1x1, .f32⟩
  | 62 => ⟨S_, .f32⟩
  | 63 => ⟨S4x128x128, .f32⟩
  | 64 => ⟨S4x128x128, .f32⟩
  | 65 => ⟨S4x128x128, .f32⟩
  | 66 => ⟨S4x1x128x128, .f32⟩
  | 67 => ⟨S4x128x128, .f32⟩
  | 68 => ⟨S4x1x128x128, .f32⟩
  | 69 => ⟨S4x128x128, .f32⟩
  | 70 => ⟨S4x128x128, .f32⟩
  | 71 => ⟨S4x128x128, .f32⟩
  | 72 => ⟨S4x128x128, .f32⟩
  | 73 => ⟨S4x128x128, .f32⟩
  | 74 => ⟨S4x1x128x128, .f32⟩
  | 75 => ⟨S4x128x128, .f32⟩
  | 76 => ⟨S4x1x128x128, .f32⟩
  | 77 => ⟨S4x128x128, .f32⟩
  | 78 => ⟨S4x128x128, .f32⟩
  | 79 => ⟨S4x128x128, .f32⟩
  | 80 => ⟨S4x128x128, .f32⟩
  | 81 => ⟨S4x128x128, .f32⟩
  | 82 => ⟨S4x1x128x128, .f32⟩
  | 83 => ⟨S4x128x128, .f32⟩
  | 84 => ⟨S4x1x128x128, .f32⟩
  | 85 => ⟨S4x128x128, .f32⟩
  | 86 => ⟨S4x128x128, .f32⟩
  | 87 => ⟨S4x128x128, .f32⟩
  | 88 => ⟨S4x128x128, .f32⟩
  | 89 => ⟨S4x128x128, .f32⟩
  | 90 => ⟨S4x1x128x128, .f32⟩
  | 91 => ⟨S4x128x128, .f32⟩
  | 92 => ⟨S4x1x128x128, .f32⟩
  | 93 => ⟨S4x128x128, .f32⟩
  | 94 => ⟨S4x128x128, .f32⟩
  | 95 => ⟨S4x128x128, .f32⟩
  | 96 => ⟨S4x128x128, .f32⟩
  | 97 => ⟨S4x128x128, .f32⟩
  | 98 => ⟨S4x1x128x128, .f32⟩
  | 99 => ⟨S4x128x128, .f32⟩
  | 100 => ⟨S4x1x128x128, .f32⟩
  | 101 => ⟨S4x128x128, .f32⟩
  | 102 => ⟨S4x128x128, .f32⟩
  | 103 => ⟨S4x128x128, .f32⟩
  | 104 => ⟨S4x128x128, .f32⟩
  | 105 => ⟨S4x128x128, .f32⟩
  | 106 => ⟨S4x1x128x128, .f32⟩
  | 107 => ⟨S4x128x128, .f32⟩
  | 108 => ⟨S4x1x128x128, .f32⟩
  | 109 => ⟨S4x128x128, .f32⟩
  | 110 => ⟨S4x128x128, .f32⟩
  | 111 => ⟨S4x128x128, .f32⟩
  | 112 => ⟨S4x128x128, .f32⟩
  | 113 => ⟨S4x128x128, .f32⟩
  | 114 => ⟨S4x1x128x128, .f32⟩
  | 115 => ⟨S4x128x128, .f32⟩
  | 116 => ⟨S4x1x128x128, .f32⟩
  | 117 => ⟨S4x128x128, .f32⟩
  | 118 => ⟨S4x128x128, .f32⟩
  | 119 => ⟨S4x128x128, .f32⟩
  | 120 => ⟨S4x128x128, .f32⟩
  | 121 => ⟨S4x128x128, .f32⟩
  | 122 => ⟨S4x1x128x128, .f32⟩
  | 123 => ⟨S4x128x128, .f32⟩
  | 124 => ⟨S4x1x128x128, .f32⟩
  | 125 => ⟨S4x128x128, .f32⟩
  | 126 => ⟨S4x128x128, .f32⟩
  | 127 => ⟨S4x128x128, .f32⟩
  | _ => ⟨S2048x2048, .f32⟩

abbrev hbmTy0_2 (i : Nat) : BufTy := match i % 128 with
  | 0 => ⟨S4x128x128, .f32⟩
  | 1 => ⟨S4x128x128, .f32⟩
  | 2 => ⟨S4x1x128x128, .f32⟩
  | 3 => ⟨S4x128x128, .f32⟩
  | 4 => ⟨S4x1x128x128, .f32⟩
  | 5 => ⟨S4x128x128, .f32⟩
  | 6 => ⟨S4x128x128, .f32⟩
  | 7 => ⟨S4x128x128, .f32⟩
  | 8 => ⟨S4x128x128, .f32⟩
  | 9 => ⟨S4x128x128, .f32⟩
  | 10 => ⟨S4x1x128x128, .f32⟩
  | 11 => ⟨S4x128x128, .f32⟩
  | 12 => ⟨S4x1x128x128, .f32⟩
  | 13 => ⟨S4x128x128, .f32⟩
  | 14 => ⟨S4x128x128, .f32⟩
  | 15 => ⟨S4x128x128, .f32⟩
  | 16 => ⟨S4x128x128, .f32⟩
  | 17 => ⟨S4x128x128, .f32⟩
  | 18 => ⟨S4x1x128x128, .f32⟩
  | 19 => ⟨S4x128x128, .f32⟩
  | 20 => ⟨S4x1x128x128, .f32⟩
  | 21 => ⟨S4x128x128, .f32⟩
  | 22 => ⟨S4x128x128, .f32⟩
  | 23 => ⟨S4x128x128, .f32⟩
  | 24 => ⟨S4x128x128, .f32⟩
  | 25 => ⟨S4x128x128, .f32⟩
  | 26 => ⟨S4x1x128x128, .f32⟩
  | 27 => ⟨S4x128x128, .f32⟩
  | 28 => ⟨S4x1x128x128, .f32⟩
  | 29 => ⟨S4x128x128, .f32⟩
  | 30 => ⟨S4x128x128, .f32⟩
  | 31 => ⟨S4x128x128, .f32⟩
  | 32 => ⟨S4x128x128, .f32⟩
  | 33 => ⟨S4x128x128, .f32⟩
  | 34 => ⟨S4x1x128x128, .f32⟩
  | 35 => ⟨S4x128x128, .f32⟩
  | 36 => ⟨S4x1x128x128, .f32⟩
  | 37 => ⟨S4x128x128, .f32⟩
  | 38 => ⟨S4x128x128, .f32⟩
  | 39 => ⟨S4x128x128, .f32⟩
  | 40 => ⟨S4x128x128, .f32⟩
  | 41 => ⟨S4x128x128, .f32⟩
  | 42 => ⟨S4x1x128x128, .f32⟩
  | 43 => ⟨S4x128x128, .f32⟩
  | 44 => ⟨S4x1x128x128, .f32⟩
  | 45 => ⟨S4x128x128, .f32⟩
  | 46 => ⟨S4x128x128, .f32⟩
  | 47 => ⟨S4x128x128, .f32⟩
  | 48 => ⟨S4x128x128, .f32⟩
  | 49 => ⟨S4x128x128, .f32⟩
  | 50 => ⟨S4x1x128x128, .f32⟩
  | 51 => ⟨S4x128x128, .f32⟩
  | 52 => ⟨S4x1x128x128, .f32⟩
  | 53 => ⟨S4x128x128, .f32⟩
  | 54 => ⟨S4x128x128, .f32⟩
  | 55 => ⟨S4x128x128, .f32⟩
  | 56 => ⟨S4x128x128, .f32⟩
  | 57 => ⟨S4x128x128, .f32⟩
  | 58 => ⟨S4x1x128x128, .f32⟩
  | 59 => ⟨S4x128x128, .f32⟩
  | 60 => ⟨S4x1x128x128, .f32⟩
  | 61 => ⟨S4x128x128, .f32⟩
  | 62 => ⟨S4x128x128, .f32⟩
  | 63 => ⟨S4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S16x4x128x128, .f32⟩
  | 81 => ⟨S2048x2048, .bf16⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S4x128x128, .f32⟩
  | .local _ .vmem, ⟨7, _⟩ => ⟨S4x2x128x128, .f32⟩
  | .local _ .vmem, ⟨8, _⟩ => ⟨S4x8x128, .f32⟩
  | .local _ .vmem, ⟨9, _⟩ => ⟨S1x4x128x128, .f32⟩
  | .local _ .vmem, ⟨10, _⟩ => ⟨S1x4x128x128, .f32⟩
  | .local _ .vmem, ⟨11, _⟩ => ⟨S128x512, .f32⟩
  | .local _ .vmem, ⟨12, _⟩ => ⟨S128x512, .f32⟩
  | .local _ .vmem, ⟨13, _⟩ => ⟨S128x2048, .bf16⟩
  | .local _ .vmem, ⟨14, _⟩ => ⟨S128x2048, .bf16⟩
  | .local _ .vmem, ⟨15, _⟩ => ⟨S4x128x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_cst_12 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_13 : Ref sig .tc := ⟨.hbm, 156, rfl⟩
abbrev main_v135 : Ref sig .tc := ⟨.hbm, 157, rfl⟩
abbrev main_v136 : Ref sig .tc := ⟨.hbm, 158, rfl⟩
abbrev main_cst_14 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_15 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_cst_16 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_cst_17 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_cst_18 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_v295 : Ref sig .tc := ⟨.hbm, 322, rfl⟩
abbrev main_v296 : Ref sig .tc := ⟨.hbm, 323, rfl⟩
abbrev main_v297 : Ref sig .tc := ⟨.hbm, 324, rfl⟩
abbrev main_v298 : Ref sig .tc := ⟨.hbm, 325, rfl⟩
abbrev main_v299 : Ref sig .tc := ⟨.hbm, 326, rfl⟩
abbrev main_v300 : Ref sig .tc := ⟨.hbm, 327, rfl⟩
abbrev main_v301 : Ref sig .tc := ⟨.hbm, 328, rfl⟩
abbrev main_v302 : Ref sig .tc := ⟨.hbm, 329, rfl⟩
abbrev main_v303 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_v307 : Ref sig .tc := ⟨.hbm, 334, rfl⟩
abbrev main_v308 : Ref sig .tc := ⟨.hbm, 335, rfl⟩
abbrev main_v309 : Ref sig .tc := ⟨.hbm, 336, rfl⟩
abbrev main_v310 : Ref sig .tc := ⟨.hbm, 337, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference40Ideal.lean ====
abbrev S2048x2048 : Shape := ⟨2, ![2048, 2048]⟩
abbrev S2048x1024 : Shape := ⟨2, ![2048, 1024]⟩
abbrev S2048x512 : Shape := ⟨2, ![2048, 512]⟩
abbrev S2048 : Shape := ⟨1, ![2048]⟩
abbrev S2048x4x128 : Shape := ⟨3, ![2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S2048x4x64 : Shape := ⟨3, ![2048, 4, 64]⟩
abbrev S4 : Shape := ⟨1, ![4]⟩
abbrev S16x128x4x128 : Shape := ⟨4, ![16, 128, 4, 128]⟩
abbrev S4x16x128x128 : Shape := ⟨4, ![4, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1x128x128 : Shape := ⟨4, ![4, 1, 128, 128]⟩
abbrev S1x1x128 : Shape := ⟨3, ![1, 1, 128]⟩
abbrev S4x1x128 : Shape := ⟨3, ![4, 1, 128]⟩
abbrev S4x1x128x1 : Shape := ⟨4, ![4, 1, 128, 1]⟩
abbrev S16x4x128x128 : Shape := ⟨4, ![16, 4, 128, 128]⟩
abbrev S1x4x128x128 : Shape := ⟨4, ![1, 4, 128, 128]⟩
abbrev S2048x4 : Shape := ⟨2, ![2048, 4]⟩
abbrev S2048x4x1 : Shape := ⟨3, ![2048, 4, 1]⟩

abbrev nBuf : Space → Nat
  | .hbm => 479
  | .vmem => 0
  | .smem => 0
  | _ => 0

abbrev hbmTy0_0 (i : Nat) : BufTy := match i % 128 with
  | 0 => ⟨S2048x2048, .f32⟩
  | 1 => ⟨S2048x1024, .f32⟩
  | 2 => ⟨S2048x512, .f32⟩
  | 3 => ⟨S2048x512, .f32⟩
  | 4 => ⟨S2048x512, .f32⟩
  | 5 => ⟨S2048x512, .f32⟩
  | 6 => ⟨S2048, .i32⟩
  | 7 => ⟨S2048x4x128, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S2048, .f32⟩
  | 17 => ⟨S2048x1, .f32⟩
  | 18 => ⟨S1x64, .f32⟩
  | 19 => ⟨S2048x64, .f32⟩
  | 20 => ⟨S2048x64, .f32⟩
  | 21 => ⟨S2048x64, .f32⟩
  | 22 => ⟨S2048x64, .f32⟩
  | 23 => ⟨S2048x1x64, .f32⟩
  | 24 => ⟨S2048x64, .f32⟩
  | 25 => ⟨S2048x1x64, .f32⟩
  | 26 => ⟨S2048x4x64, .f32⟩
  | 27 => ⟨S2048x4x64, .f32⟩
  | 28 => ⟨S2048x4x64, .f32⟩
  | 29 => ⟨S2048x4x64, .f32⟩
  | 30 => ⟨S2048x4x64, .f32⟩
  | 31 => ⟨S2048x4x64, .f32⟩
  | 32 => ⟨S2048x4x64, .f32⟩
  | 33 => ⟨S2048x4x64, .f32⟩
  | 34 => ⟨S2048x4x64, .f32⟩
  | 35 => ⟨S2048x4x64, .f32⟩
  | 36 => ⟨S2048x4x64, .f32⟩
  | 37 => ⟨S2048x4x64, .f32⟩
  | 38 => ⟨S2048x4x128, .f32⟩
  | 39 => ⟨S2048x4x128, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S2048, .f32⟩
  | 49 => ⟨S2048x1, .f32⟩
  | 50 => ⟨S1x64, .f32⟩
  | 51 => ⟨S2048x64, .f32⟩
  | 52 => ⟨S2048x64, .f32⟩
  | 53 => ⟨S2048x64, .f32⟩
  | 54 => ⟨S2048x64, .f32⟩
  | 55 => ⟨S2048x1x64, .f32⟩
  | 56 => ⟨S2048x64, .f32⟩
  | 57 => ⟨S2048x1x64, .f32⟩
  | 58 => ⟨S2048x4x64, .f32⟩
  | 59 => ⟨S2048x4x64, .f32⟩
  | 60 => ⟨S2048x4x64, .f32⟩
  | 61 => ⟨S2048x4x64, .f32⟩
  | 62 => ⟨S2048x4x64, .f32⟩
  | 63 => ⟨S2048x4x64, .f32⟩
  | 64 => ⟨S2048x4x64, .f32⟩
  | 65 => ⟨S2048x4x64, .f32⟩
  | 66 => ⟨S2048x4x64, .f32⟩
  | 67 => ⟨S2048x4x64, .f32⟩
  | 68 => ⟨S2048x4x64, .f32⟩
  | 69 => ⟨S2048x4x64, .f32⟩
  | 70 => ⟨S2048x4x128, .f32⟩
  | 71 => ⟨S2048x4x128, .f32⟩
  | 72 => ⟨S4, .f32⟩
  | 73 => ⟨S_, .f32⟩
  | 74 => ⟨S4, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S4, .f32⟩
  | 82 => ⟨S16x128x4x128, .f32⟩
  | 83 => ⟨S4x16x128x128, .f32⟩
  | 84 => ⟨S_, .f32⟩
  | 85 => ⟨S2048x4x128, .f32⟩
  | 86 => ⟨S2048x4x128, .f32⟩
  | 87 => ⟨S16x128x4x128, .f32⟩
  | 88 => ⟨S4x16x128x128, .f32⟩
  | 89 => ⟨S16x128x4x128, .f32⟩
  | 90 => ⟨S4x16x128x128, .f32⟩
  | 91 => ⟨S128, .f32⟩
  | 92 => ⟨S128x1, .f32⟩
  | 93 => ⟨S1x128, .f32⟩
  | 94 => ⟨S128x128, .f32⟩
  | 95 => ⟨S128x128, .f32⟩
  | 96 => ⟨S128x128, .f32⟩
  | 97 => ⟨S_, .f32⟩
  | 98 => ⟨S128x128, .f32⟩
  | 99 => ⟨S128x128, .i1⟩
  | 100 => ⟨S4x1x1, .f32⟩
  | 101 => ⟨S_, .f32⟩
  | 102 => ⟨S_, .f32⟩
  | 103 => ⟨S128x128, .f32⟩
  | 104 => ⟨S128x128, .f32⟩
  | 105 => ⟨S1x128x128, .f32⟩
  | 106 => ⟨S4x128x128, .f32⟩
  | 107 => ⟨S4x128x128, .f32⟩
  | 108 => ⟨S4x128x128, .f32⟩
  | 109 => ⟨S4x128x128, .f32⟩
  | 110 => ⟨S_, .f32⟩
  | 111 => ⟨S_, .f32⟩
  | 112 => ⟨S4x128x128, .i1⟩
  | 113 => ⟨S4x128x128, .f32⟩
  | 114 => ⟨S4x128x128, .f32⟩
  | 115 => ⟨S4x16x128x128, .f32⟩
  | 116 => ⟨S4x1x128x128, .f32⟩
  | 117 => ⟨S4x16x128x128, .f32⟩
  | 118 => ⟨S4x16x128x128, .f32⟩
  | 119 => ⟨S4x16x128x128, .f32⟩
  | 120 => ⟨S4x1x1, .f32⟩
  | 121 => ⟨S_, .f32⟩
  | 122 => ⟨S128, .f32⟩
  | 123 => ⟨S128, .f32⟩
  | 124 => ⟨S1x1x128, .f32⟩
  | 125 => ⟨S4x1x128, .f32⟩
  | 126 => ⟨S4x1x128, .f32⟩
  | 127 => ⟨S4x1x128, .f32⟩
  | _ => ⟨S2048x2048, .f32⟩

abbrev hbmTy0_1 (i : Nat) : BufTy := match i % 128 with
  | 0 => ⟨S4x1x128, .f32⟩
  | 1 => ⟨S4x1x128x1, .f32⟩
  | 2 => ⟨S4x16x128x128, .f32⟩
  | 3 => ⟨S4x16x128x128, .f32⟩
  | 4 => ⟨S16x4x128x128, .f32⟩
  | 5 => ⟨S_, .f32⟩
  | 6 => ⟨S4, .f32⟩
  | 7 => ⟨S4, .f32⟩
  | 8 => ⟨S4, .f32⟩
  | 9 => ⟨S4x1x1, .f32⟩
  | 10 => ⟨S_, .f32⟩
  | 11 => ⟨S4x128x128, .f32⟩
  | 12 => ⟨S1x4x128x128, .f32⟩
  | 13 => ⟨S4x128x128, .f32⟩
  | 14 => ⟨S1x4x128x128, .f32⟩
  | 15 => ⟨S4x128x128, .f32⟩
  | 16 => ⟨S1x4x128x128, .f32⟩
  | 17 => ⟨S4x128x128, .f32⟩
  | 18 => ⟨S1x4x128x128, .f32⟩
  | 19 => ⟨S4x128x128, .f32⟩
  | 20 => ⟨S1x4x128x128, .f32⟩
  | 21 => ⟨S4x128x128, .f32⟩
  | 22 => ⟨S1x4x128x128, .f32⟩
  | 23 => ⟨S4x128x128, .f32⟩
  | 24 => ⟨S1x4x128x128, .f32⟩
  | 25 => ⟨S4x128x128, .f32⟩
  | 26 => ⟨S1x4x128x128, .f32⟩
  | 27 => ⟨S4x128x128, .f32⟩
  | 28 => ⟨S1x4x128x128, .f32⟩
  | 29 => ⟨S4x128x128, .f32⟩
  | 30 => ⟨S1x4x128x128, .f32⟩
  | 31 => ⟨S4x128x128, .f32⟩
  | 32 => ⟨S1x4x128x128, .f32⟩
  | 33 => ⟨S4x128x128, .f32⟩
  | 34 => ⟨S1x4x128x128, .f32⟩
  | 35 => ⟨S4x128x128, .f32⟩
  | 36 => ⟨S1x4x128x128, .f32⟩
  | 37 => ⟨S4x128x128, .f32⟩
  | 38 => ⟨S1x4x128x128, .f32⟩
  | 39 => ⟨S4x128x128, .f32⟩
  | 40 => ⟨S1x4x128x128, .f32⟩
  | 41 => ⟨S4x128x128, .f32⟩
  | 42 => ⟨S1x4x128x128, .f32⟩
  | 43 => ⟨S4x128x128, .f32⟩
  | 44 => ⟨S4x128x128, .f32⟩
  | 45 => ⟨S4x128x128, .f32⟩
  | 46 => ⟨S4x128x128, .f32⟩
  | 47 => ⟨S4x128x128, .f32⟩
  | 48 => ⟨S4x128x128, .f32⟩
  | 49 => ⟨S4x128x128, .f32⟩
  | 50 => ⟨S4x128x128, .f32⟩
  | 51 => ⟨S4x128x128, .f32⟩
  | 52 => ⟨S4x128x128, .f32⟩
  | 53 => ⟨S4x128x128, .f32⟩
  | 54 => ⟨S4x128x128, .f32⟩
  | 55 => ⟨S4x128x128, .f32⟩
  | 56 => ⟨S4x128x128, .f32⟩
  | 57 => ⟨S4x128x128, .f32⟩
  | 58 => ⟨S4x128x128, .f32⟩
  | 59 => ⟨S4x128x128, .f32⟩
  | 60 => ⟨S4x128x128, .f32⟩
  | 61 => ⟨S4x128x128, .f32⟩
  | 62 => ⟨S4x128x128, .f32⟩
  | 63 => ⟨S4x128x128, .f32⟩
  | 64 => ⟨S4x128x128, .f32⟩
  | 65 => ⟨S4x128x128, .f32⟩
  | 66 => ⟨S4x128x128, .f32⟩
  | 67 => ⟨S4x128x128, .f32⟩
  | 68 => ⟨S4x128x128, .f32⟩
  | 69 => ⟨S4x128x128, .f32⟩
  | 70 => ⟨S4x128x128, .f32⟩
  | 71 => ⟨S4x128x128, .f32⟩
  | 72 => ⟨S4x128x128, .f32⟩
  | 73 => ⟨S4x128x128, .f32⟩
  | 74 => ⟨S4x128x128, .f32⟩
  | 75 => ⟨S4x128x128, .f32⟩
  | 76 => ⟨S4x128x128, .f32⟩
  | 77 => ⟨S4x128x128, .f32⟩
  | 78 => ⟨S4x128x128, .f32⟩
  | 79 => ⟨S4x128x128, .f32⟩
  | 80 => ⟨S4x128x128, .f32⟩
  | 81 => ⟨S4x128x128, .f32⟩
  | 82 => ⟨S4x128x128, .f32⟩
  | 83 => ⟨S4x128x128, .f32⟩
  | 84 => ⟨S4x128x128, .f32⟩
  | 85 => ⟨S4x128x128, .f32⟩
  | 86 => ⟨S4x128x128, .f32⟩
  | 87 => ⟨S4x128x128, .f32⟩
  | 88 => ⟨S4x128x128, .f32⟩
  | 89 => ⟨S4x128x128, .f32⟩
  | 90 => ⟨S4x128x128, .f32⟩
  | 91 => ⟨S4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S16x4x128x128, .f32⟩
  | 109 => ⟨S_, .f32⟩
  | 110 => ⟨S4x128x128, .f32⟩
  | 111 => ⟨S4x1x1, .f32⟩
  | 112 => ⟨S_, .f32⟩
  | 113 => ⟨S128, .f32⟩
  | 114 => ⟨S128, .f32⟩
  | 115 => ⟨S1x1x128, .f32⟩
  | 116 => ⟨S4x1x128, .f32⟩
  | 117 => ⟨S4x1x128, .f32⟩
  | 118 => ⟨S4x1x128, .f32⟩
  | 119 => ⟨S4x1x128, .f32⟩
  | 120 => ⟨S4x1x128x1, .f32⟩
  | 121 => ⟨S4x16x128x128, .f32⟩
  | 122 => ⟨S4x16x128x128, .f32⟩
  | 123 => ⟨S4x16x128x128, .f32⟩
  | 124 => ⟨S4x16x128x128, .f32⟩
  | 125 => ⟨S16x128x4x128, .f32⟩
  | 126 => ⟨S2048x4x128, .f32⟩
  | 127 => ⟨S2048x4x128, .f32⟩
  | _ => ⟨S2048x2048, .f32⟩

abbrev hbmTy0_2 (i : Nat) : BufTy := match i % 128 with
  | 0 => ⟨S_, .f32⟩
  | 1 => ⟨S2048x4x128, .f32⟩
  | 2 => ⟨S2048x4x128, .f32⟩
  | 3 => ⟨S_, .f32⟩
  | 4 => ⟨S2048x4, .f32⟩
  | 5 => ⟨S2048x4x1, .f32⟩
  | 6 => ⟨S_, .f32⟩
  | 7 => ⟨S2048x4x1, .f32⟩
  | 8 => ⟨S2048x4x1, .f32⟩
  | 9 => ⟨S_, .f32⟩
  | 10 => ⟨S2048x4x1, .f32⟩
  | 11 => ⟨S2048x4x1, .f32⟩
  | 12 => ⟨S2048x4x1, .f32⟩
  | 13 => ⟨S2048x4x1, .f32⟩
  | 14 => ⟨S_, .f32⟩
  | 15 => ⟨S2048x4x1, .f32⟩
  | 16 => ⟨S2048x4x1, .f32⟩
  | 17 => ⟨S2048x4x128, .f32⟩
  | 18 => ⟨S2048x4x128, .f32⟩
  | 19 => ⟨S2048x512, .f32⟩
  | 20 => ⟨S2048x512, .f32⟩
  | 21 => ⟨S2048x512, .f32⟩
  | 22 => ⟨S_, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x512, .f32⟩
  | 38 => ⟨S2048x512, .f32⟩
  | 39 => ⟨S2048x512, .f32⟩
  | 40 => ⟨S2048x512, .f32⟩
  | 41 => ⟨S2048x4x128, .f32⟩
  | 42 => ⟨S2048x4x128, .f32⟩
  | 43 => ⟨S_, .f32⟩
  | 44 => ⟨S2048x4, .f32⟩
  | 45 => ⟨S2048x4x1, .f32⟩
  | 46 => ⟨S2048x4x128, .f32⟩
  | 47 => ⟨S2048x4x128, .f32⟩
  | 48 => ⟨S2048x4x1, .f32⟩
  | 49 => ⟨S_, .f32⟩
  | 50 => ⟨S2048x4x1, .f32⟩
  | 51 => ⟨S2048x4x1, .f32⟩
  | 52 => ⟨S_, .f32⟩
  | 53 => ⟨S2048x4, .f32⟩
  | 54 => ⟨S2048x4x128, .f32⟩
  | 55 => ⟨S2048x4x128, .f32⟩
  | 56 => ⟨S2048x4x128, .f32⟩
  | 57 => ⟨S16x128x4x128, .f32⟩
  | 58 => ⟨S4x16x128x128, .f32⟩
  | 59 => ⟨S4x16x128x128, .f32⟩
  | 60 => ⟨S16x4x128x128, .f32⟩
  | 61 => ⟨S4x16x128x128, .f32⟩
  | 62 => ⟨S4x16x128x128, .f32⟩
  | 63 => ⟨S4x16x128x128, .f32⟩
  | 64 => ⟨S1x4x128x128, .f32⟩
  | 65 => ⟨S4x128x128, .f32⟩
  | 66 => ⟨S1x4x128x128, .f32⟩
  | 67 => ⟨S4x128x128, .f32⟩
  | 68 => ⟨S1x4x128x128, .f32⟩
  | 69 => ⟨S4x128x128, .f32⟩
  | 70 => ⟨S1x4x128x128, .f32⟩
  | 71 => ⟨S4x128x128, .f32⟩
  | 72 => ⟨S1x4x128x128, .f32⟩
  | 73 => ⟨S4x128x128, .f32⟩
  | 74 => ⟨S1x4x128x128, .f32⟩
  | 75 => ⟨S4x128x128, .f32⟩
  | 76 => ⟨S1x4x128x128, .f32⟩
  | 77 => ⟨S4x128x128, .f32⟩
  | 78 => ⟨S1x4x128x128, .f32⟩
  | 79 => ⟨S4x128x128, .f32⟩
  | 80 => ⟨S1x4x128x128, .f32⟩
  | 81 => ⟨S4x128x128, .f32⟩
  | 82 => ⟨S1x4x128x128, .f32⟩
  | 83 => ⟨S4x128x128, .f32⟩
  | 84 => ⟨S1x4x128x128, .f32⟩
  | 85 => ⟨S4x128x128, .f32⟩
  | 86 => ⟨S1x4x128x128, .f32⟩
  | 87 => ⟨S4x128x128, .f32⟩
  | 88 => ⟨S1x4x128x128, .f32⟩
  | 89 => ⟨S4x128x128, .f32⟩
  | 90 => ⟨S1x4x128x128, .f32⟩
  | 91 => ⟨S4x128x128, .f32⟩
  | 92 => ⟨S1x4x128x128, .f32⟩
  | 93 => ⟨S4x128x128, .f32⟩
  | 94 => ⟨S1x4x128x128, .f32⟩
  | 95 => ⟨S4x128x128, .f32⟩
  | 96 => ⟨S4x128x128, .f32⟩
  | 97 => ⟨S4x128x128, .f32⟩
  | 98 => ⟨S4x128x128, .f32⟩
  | 99 => ⟨S4x128x128, .f32⟩
  | 100 => ⟨S4x128x128, .f32⟩
  | 101 => ⟨S4x128x128, .f32⟩
  | 102 => ⟨S4x128x128, .f32⟩
  | 103 => ⟨S4x128x128, .f32⟩
  | 104 => ⟨S4x128x128, .f32⟩
  | 105 => ⟨S4x128x128, .f32⟩
  | 106 => ⟨S4x128x128, .f32⟩
  | 107 => ⟨S4x128x128, .f32⟩
  | 108 => ⟨S4x128x128, .f32⟩
  | 109 => ⟨S4x128x128, .f32⟩
  | 110 => ⟨S4x128x128, .f32⟩
  | 111 => ⟨S4x128x128, .f32⟩
  | 112 => ⟨S4x128x128, .f32⟩
  | 113 => ⟨S4x128x128, .f32⟩
  | 114 => ⟨S4x128x128, .f32⟩
  | 115 => ⟨S4x128x128, .f32⟩
  | 116 => ⟨S4x128x128, .f32⟩
  | 117 => ⟨S4x128x128, .f32⟩
  | 118 => ⟨S4x128x128, .f32⟩
  | 119 => ⟨S4x128x128, .f32⟩
  | 120 => ⟨S4x128x128, .f32⟩
  | 121 => ⟨S4x128x128, .f32⟩
  | 122 => ⟨S4x128x128, .f32⟩
  | 123 => ⟨S4x128x128, .f32⟩
  | 124 => ⟨S4x128x128, .f32⟩
  | 125 => ⟨S4x128x128, .f32⟩
  | 126 => ⟨S4x128x128, .f32⟩
  | 127 => ⟨S4x128x128, .f32⟩
  | _ => ⟨S2048x2048, .f32⟩

abbrev hbmTy0_3 (i : Nat) : BufTy := match i % 128 with
  | 0 => ⟨S4x128x128, .f32⟩
  | 1 => ⟨S4x128x128, .f32⟩
  | 2 => ⟨S4x128x128, .f32⟩
  | 3 => ⟨S4x128x128, .f32⟩
  | 4 => ⟨S4x128x128, .f32⟩
  | 5 => ⟨S4x128x128, .f32⟩
  | 6 => ⟨S4x128x128, .f32⟩
  | 7 => ⟨S4x128x128, .f32⟩
  | 8 => ⟨S4x128x128, .f32⟩
  | 9 => ⟨S4x128x128, .f32⟩
  | 10 => ⟨S_, .f32⟩
  | 11 => ⟨S4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S16x4x128x128, .f32⟩
  | 29 => ⟨S16x4x128x128, .f32⟩
  | 30 => ⟨S4x16x128x128, .f32⟩
  | 31 => ⟨S16x4x128x128, .f32⟩
  | 32 => ⟨S4x16x128x128, .f32⟩
  | 33 => ⟨S4x16x128x128, .f32⟩
  | 34 => ⟨S4x16x128x128, .f32⟩
  | 35 => ⟨S4x16x128x128, .f32⟩
  | 36 => ⟨S4x16x128x128, .f32⟩
  | 37 => ⟨S4x16x128x128, .f32⟩
  | 38 => ⟨S4x16x128x128, .f32⟩
  | 39 => ⟨S4x16x128x128, .f32⟩
  | 40 => ⟨S4x16x128x128, .f32⟩
  | 41 => ⟨S4x16x128x128, .f32⟩
  | 42 => ⟨S4x16x128x128, .f32⟩
  | 43 => ⟨S4x16x128x128, .f32⟩
  | 44 => ⟨S4x16x128x128, .f32⟩
  | 45 => ⟨S16x128x4x128, .f32⟩
  | 46 => ⟨S2048x4x128, .f32⟩
  | 47 => ⟨S16x128x4x128, .f32⟩
  | 48 => ⟨S2048x4x128, .f32⟩
  | 49 => ⟨S_, .f32⟩
  | 50 => ⟨S2048x4x128, .f32⟩
  | 51 => ⟨S2048x4x128, .f32⟩
  | 52 => ⟨S16x128x4x128, .f32⟩
  | 53 => ⟨S2048x4x128, .f32⟩
  | 54 => ⟨S2048x512, .f32⟩
  | 55 => ⟨S2048x4x64, .f32⟩
  | 56 => ⟨S2048x4x64, .f32⟩
  | 57 => ⟨S2048x4x64, .f32⟩
  | 58 => ⟨S2048x4x64, .f32⟩
  | 59 => ⟨S2048x4x64, .f32⟩
  | 60 => ⟨S2048x4x64, .f32⟩
  | 61 => ⟨S2048x4x64, .f32⟩
  | 62 => ⟨S2048x4x64, .f32⟩
  | 63 => ⟨S2048x4x64, .f32⟩
  | 64 => ⟨S2048x4x64, .f32⟩
  | 65 => ⟨S2048x4x64, .f32⟩
  | 66 => ⟨S2048x4x64, .f32⟩
  | 67 => ⟨S2048x4x64, .f32⟩
  | 68 => ⟨S_, .f32⟩
  | 69 => ⟨S2048x4x128, .f32⟩
  | 70 => ⟨S_, .f32⟩
  | 71 => ⟨S2048x4x128, .f32⟩
  | 72 => ⟨S2048x4x128, .f32⟩
  | 73 => ⟨S2048x512, .f32⟩
  | 74 => ⟨S2048x4x64, .f32⟩
  | 75 => ⟨S2048x4x64, .f32⟩
  | 76 => ⟨S2048x4x64, .f32⟩
  | 77 => ⟨S2048x4x64, .f32⟩
  | 78 => ⟨S2048x4x64, .f32⟩
  | 79 => ⟨S2048x4x64, .f32⟩
  | 80 => ⟨S2048x4x64, .f32⟩
  | 81 => ⟨S2048x4x64, .f32⟩
  | 82 => ⟨S2048x4x64, .f32⟩
  | 83 => ⟨S2048x4x64, .f32⟩
  | 84 => ⟨S2048x4x64, .f32⟩
  | 85 => ⟨S2048x4x64, .f32⟩
  | 86 => ⟨S2048x4x64, .f32⟩
  | 87 => ⟨S_, .f32⟩
  | 88 => ⟨S2048x4x128, .f32⟩
  | 89 => ⟨S_, .f32⟩
  | 90 => ⟨S2048x4x128, .f32⟩
  | 91 => ⟨S2048x4x128, .f32⟩
  | 92 => ⟨S2048x512, .f32⟩
  | 93 => ⟨S2048x2048, .f32⟩
  | 94 => ⟨S2048x2048, .bf16⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_cst_3 : Ref sig .tc := ⟨.hbm, 73, rfl⟩
abbrev main_v67 : Ref sig .tc := ⟨.hbm, 74, rfl⟩
abbrev main_v68 : Ref sig .tc := ⟨.hbm, 75, rfl⟩
abbrev main_cst_4 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_5 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_cst_6 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_cst_7 : Ref sig .tc := ⟨.hbm, 101, rfl⟩
abbrev main_call0_v0 : Ref sig .tc := ⟨.hbm, 102, rfl⟩
abbrev main_call0_v1 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_8 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_9 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_10 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_11 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_cst_12 : Ref sig .tc := ⟨.hbm, 237, rfl⟩
abbrev main_v217 : Ref sig .tc := ⟨.hbm, 238, rfl⟩
abbrev main_v218 : Ref sig .tc := ⟨.hbm, 239, rfl⟩
abbrev main_cst_13 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_cst_14 : Ref sig .tc := ⟨.hbm, 256, rfl⟩
abbrev main_v234 : Ref sig .tc := ⟨.hbm, 257, rfl⟩
abbrev main_v235 : Ref sig .tc := ⟨.hbm, 258, rfl⟩
abbrev main_cst_15 : Ref sig .tc := ⟨.hbm, 259, rfl⟩
abbrev main_v236 : Ref sig .tc := ⟨.hbm, 260, rfl⟩
abbrev main_v237 : Ref sig .tc := ⟨.hbm, 261, rfl⟩
abbrev main_cst_16 : Ref sig .tc := ⟨.hbm, 262, rfl⟩
abbrev main_v238 : Ref sig .tc := ⟨.hbm, 263, rfl⟩
abbrev main_v239 : Ref sig .tc := ⟨.hbm, 264, rfl⟩
abbrev main_cst_17 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_cst_18 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_call2_v0 : Ref sig .tc := ⟨.hbm, 276, rfl⟩
abbrev main_call2_v1 : Ref sig .tc := ⟨.hbm, 277, rfl⟩
abbrev main_call2_cst : Ref sig .tc := ⟨.hbm, 278, rfl⟩
abbrev main_call2_v2 : Ref sig .tc := ⟨.hbm, 279, rfl⟩
abbrev main_call2_v3 : Ref sig .tc := ⟨.hbm, 280, rfl⟩
abbrev main_call2_cst_0 : Ref sig .tc := ⟨.hbm, 281, rfl⟩
abbrev main_call2_v4 : Ref sig .tc := ⟨.hbm, 282, rfl⟩
abbrev main_v249_2 : Ref sig .tc := ⟨.hbm, 283, rfl⟩
abbrev main_call2_cst_1 : Ref sig .tc := ⟨.hbm, 284, rfl⟩
abbrev main_call2_v6 : Ref sig .tc := ⟨.hbm, 285, rfl⟩
abbrev main_call2_v7 : Ref sig .tc := ⟨.hbm, 286, rfl⟩
abbrev main_v249_1 : Ref sig .tc := ⟨.hbm, 287, rfl⟩
abbrev main_v249_0 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_call3_v0 : Ref sig .tc := ⟨.hbm, 293, rfl⟩
abbrev main_call3_v1 : Ref sig .tc := ⟨.hbm, 294, rfl⟩
abbrev main_call3_v2 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_cst_19 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_cst_20 : Ref sig .tc := ⟨.hbm, 305, rfl⟩
abbrev main_v262 : Ref sig .tc := ⟨.hbm, 306, rfl⟩
abbrev main_v263 : Ref sig .tc := ⟨.hbm, 307, rfl⟩
abbrev main_cst_21 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩
abbrev main_v344 : Ref sig .tc := ⟨.hbm, 389, rfl⟩
abbrev main_v345 : Ref sig .tc := ⟨.hbm, 390, rfl⟩
abbrev main_v346 : Ref sig .tc := ⟨.hbm, 391, rfl⟩
abbrev main_v347 : Ref sig .tc := ⟨.hbm, 392, rfl⟩
abbrev main_v348 : Ref sig .tc := ⟨.hbm, 393, rfl⟩
abbrev main_cst_22 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_v370 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_v385 : Ref sig .tc := ⟨.hbm, 431, rfl⟩
abbrev main_v386 : Ref sig .tc := ⟨.hbm, 432, rfl⟩
abbrev main_cst_23 : Ref sig .tc := ⟨.hbm, 433, rfl⟩
abbrev main_v387 : Ref sig .tc := ⟨.hbm, 434, rfl⟩
abbrev main_v388 : Ref sig .tc := ⟨.hbm, 435, rfl⟩
abbrev main_v389 : Ref sig .tc := ⟨.hbm, 436, rfl⟩
abbrev main_v390 : Ref sig .tc := ⟨.hbm, 437, rfl⟩
abbrev main_v391 : Ref sig .tc := ⟨.hbm, 438, rfl⟩
abbrev main_v392 : Ref sig .tc := ⟨.hbm, 439, rfl⟩
abbrev main_v393 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_cst_24 : Ref sig .tc := ⟨.hbm, 452, rfl⟩
abbrev main_v405 : Ref sig .tc := ⟨.hbm, 453, rfl⟩
abbrev main_cst_25 : Ref sig .tc := ⟨.hbm, 454, rfl⟩
abbrev main_v406 : Ref sig .tc := ⟨.hbm, 455, rfl⟩
abbrev main_v407 : Ref sig .tc := ⟨.hbm, 456, rfl⟩
abbrev main_v408 : Ref sig .tc := ⟨.hbm, 457, rfl⟩
abbrev main_v409 : Ref sig .tc := ⟨.hbm, 458, rfl⟩
abbrev main_v410 : Ref sig .tc := ⟨.hbm, 459, rfl⟩
abbrev main_v411 : Ref sig .tc := ⟨.hbm, 460, rfl⟩
abbrev main_v412 : Ref sig .tc := ⟨.hbm, 461, rfl⟩
abbrev main_v413 : Ref sig .tc := ⟨.hbm, 462, rfl⟩
abbrev main_v414 : Ref sig .tc := ⟨.hbm, 463, rfl⟩
abbrev main_v415 : Ref sig .tc := ⟨.hbm, 464, rfl⟩
abbrev main_v416 : Ref sig .tc := ⟨.hbm, 465, rfl⟩
abbrev main_v417 : Ref sig .tc := ⟨.hbm, 466, rfl⟩
abbrev main_v418 : Ref sig .tc := ⟨.hbm, 467, rfl⟩
abbrev main_v419 : Ref sig .tc := ⟨.hbm, 468, rfl⟩
abbrev main_v420 : Ref sig .tc := ⟨.hbm, 469, rfl⟩
abbrev main_v421 : Ref sig .tc := ⟨.hbm, 470, rfl⟩
abbrev main_cst_26 : Ref sig .tc := ⟨.hbm, 471, rfl⟩
abbrev main_v422 : Ref sig .tc := ⟨.hbm, 472, rfl⟩
abbrev main_cst_27 : Ref sig .tc := ⟨.hbm, 473, rfl⟩
abbrev main_v423 : Ref sig .tc := ⟨.hbm, 474, rfl⟩
abbrev main_v424 : Ref sig .tc := ⟨.hbm, 475, rfl⟩
abbrev main_v425 : Ref sig .tc := ⟨.hbm, 476, rfl⟩
abbrev main_v426 : Ref sig .tc := ⟨.hbm, 477, rfl⟩
abbrev main_v427 : Ref sig .tc := ⟨.hbm, 478, rfl⟩

abbrev nD : Nat := 1
abbrev τ : Topo := Topo.v7x

variable {F : FTy → Type} [FloatOps F]
-- ==== Proof.FfnBlock.lean ====
module

public import proofs.«01_k».proof.Proof.Gen.KernelIdeal.Skeleton
public import Idealize.ShloMosaic.Lib.Pointwise

@[expose] public section

/-! # The feed-forward activation's gradient: what one step of the kernel computes, row by row

A step works on a block of 512 rows of one half (gate or value). `past` is a row of the block moved down by
0, 1 or 2, reading the eight rows before the block at its top; `future` is a row moved up, reading the eight
rows after the block at its bottom. -/

noncomputable section

namespace Cert.FfnBlock

open Cert.KernelIdeal Cert.KernelIdeal.Gen Idealize.ShloMosaic

/-- Row `r - k` of a block: above the block it is a row of `p`, the eight rows before, or zero at the start of the sequence. -/
def past (first : Prop) [Decidable first] (u : Fin 512 → Fin 704 → EReal) (p : Fin 8 → Fin 704 → EReal) (k : Fin 3)
    (r : Fin 512) (c : Fin 704) : EReal :=
  if h : r.val < k.val then (if first then 0 else p ⟨8 - k.val + r.val, by omega⟩ c) else u ⟨r.val - k.val, by omega⟩ c

/-- Row `r + k` of a block: below the block it is a row of `n`, the eight rows after. -/
def future (x : Fin 512 → Fin 704 → EReal) (n : Fin 8 → Fin 704 → EReal) (k : Fin 3) (r : Fin 512) (c : Fin 704) : EReal :=
  if h : r.val + k.val < 512 then x ⟨r.val + k.val, h⟩ c else n ⟨r.val + k.val - 512, by omega⟩ c

/-- The causal three-tap convolution of a block. -/
def conv (first : Prop) [Decidable first] (u : Fin 512 → Fin 704 → EReal) (p : Fin 8 → Fin 704 → EReal)
    (w : Fin 3 → Fin 704 → EReal) (b : Fin 704 → EReal) (r : Fin 512) (c : Fin 704) : EReal :=
  w 0 c * past first u p 2 r c + w 1 c * past first u p 1 r c + w 2 c * u r c + b c

/-- The transposed convolution of a block. -/
def back (x : Fin 512 → Fin 704 → EReal) (n : Fin 8 → Fin 704 → EReal) (w : Fin 3 → Fin 704 → EReal)
    (r : Fin 512) (c : Fin 704) : EReal :=
  w 2 c * x r c + w 1 c * future x n 1 r c + w 0 c * future x n 2 r c

/-- The logistic function. -/
def sig (x : EReal) : EReal := Ideal.div 1 (1 + Ideal.exp (0 - x))

/-- The gradient at the gate, as the kernel writes it. -/
def dGate (d g v : EReal) : EReal := d * v * sig g * (1 + g * (1 - sig g))

/-- The gradient at the value, as the kernel writes it. -/
def dVal (d g : EReal) : EReal := d * g * sig g

/-- A decision written as a choice on a bit. -/
theorem select_slt {α : Type} (a k : ℕ) (ha : a < 1024) (hk : k < 1024) (x y : α) :
    Scalar.select (IntOp.cmpi .slt (BitVec.ofNat 32 a) (BitVec.ofNat 32 k)) x y = if a < k then x else y := by
  have h : (BitVec.ofNat 32 a).slt (BitVec.ofNat 32 k) = decide (a < k) := by
    rw [BitVec.slt_eq_decide, BitVec.toInt_eq_toNat_of_lt, BitVec.toInt_eq_toNat_of_lt] <;> simp <;> omega
  unfold Scalar.select IntOp.cmpi
  by_cases hc : a < k <;> simp [h, hc]

theorem select_sge {α : Type} (a k : ℕ) (ha : a < 1024) (hk : k < 1024) (x y : α) :
    Scalar.select (IntOp.cmpi .sge (BitVec.ofNat 32 a) (BitVec.ofNat 32 k)) x y = if k ≤ a then x else y := by
  have h : (BitVec.ofNat 32 k).sle (BitVec.ofNat 32 a) = decide (k ≤ a) := by
    rw [BitVec.sle_eq_decide, BitVec.toInt_eq_toNat_of_lt, BitVec.toInt_eq_toNat_of_lt] <;> simp <;> omega
  unfold Scalar.select IntOp.cmpi
  by_cases hc : k ≤ a <;> simp [h, hc]

/-- A step is the first of its sequence when its tile coordinate, which runs backwards, is 3. -/
def firstBit (i : grid0.Coords) : BitVec 1 := Scalar.cmpi .eq (BitVec.ofNat 32 (i 1).val) 3#32

theorem firstBit_iff (i : grid0.Coords) : firstBit i = 1#1 ↔ (i 1).val = 3 := by
  have hi : (i 1).val < 4 := (i 1).isLt
  unfold firstBit
  generalize (i 1).val = n at hi
  interval_cases n <;> decide

theorem past_of_lt (first : Prop) [Decidable first] (u p) (k : Fin 3) (r : Fin 512) (c : Fin 704) (h : r.val < k.val) :
    past first u p k r c = if first then 0 else p ⟨8 - k.val + r.val, by omega⟩ c := dif_pos h

theorem past_of_not_lt (first : Prop) [Decidable first] (u p) (k : Fin 3) (r : Fin 512) (c : Fin 704) (h : ¬ r.val < k.val) :
    past first u p k r c = u ⟨r.val - k.val, by omega⟩ c := dif_neg h

/-- The kernel moves a block down by turning it round, and mends the first eight rows by turning the eight rows before. -/
theorem past_read (v0 : BitVec 1) (u : Fin 512 → Fin 704 → EReal) (p : Fin 8 → Fin 704 → EReal) (k : Fin 3) (r : Fin 512) (c : Fin 704) :
    (if h : r.val < 8 then
        Scalar.select (IntOp.cmpi .slt (BitVec.ofNat 32 r.val) (BitVec.ofNat 32 k.val))
          (Scalar.select v0 0 (p ⟨(r.val + 8 - k.val) % 8, Nat.mod_lt _ (by decide)⟩ c)) (u ⟨(r.val + 512 - k.val) % 512, Nat.mod_lt _ (by decide)⟩ c)
      else u ⟨(8 + (r.val - 8) + 512 - k.val) % 512, Nat.mod_lt _ (by decide)⟩ c) = past (v0 = 1#1) u p k r c := by
  have hk := k.isLt
  by_cases h8 : r.val < 8
  · rw [dif_pos h8, select_slt _ _ (by omega) (by omega)]
    by_cases h1 : r.val < k.val
    · rw [if_pos h1, past_of_lt _ _ _ _ _ _ h1]
      show (if v0 = 1#1 then _ else _) = _
      congr 3
      show (r.val + 8 - k.val) % 8 = 8 - k.val + r.val; omega
    · rw [if_neg h1, past_of_not_lt _ _ _ _ _ _ h1]
      congr 2
      show (r.val + 512 - k.val) % 512 = r.val - k.val; omega
  · rw [dif_neg h8, past_of_not_lt _ _ _ _ _ _ (by omega)]
    congr 2
    show (8 + (r.val - 8) + 512 - k.val) % 512 = r.val - k.val; omega

/-- The kernel moves a block up in the same way, mending the last eight rows from the eight rows after. -/
theorem future_read (x : Fin 512 → Fin 704 → EReal) (n : Fin 8 → Fin 704 → EReal) (k : Fin 3) (r : Fin 512) (c : Fin 704) (hk : 0 < k.val) :
    (if h : r.val < 504 then x ⟨(r.val + 512 - (512 - k.val)) % 512, Nat.mod_lt _ (by decide)⟩ c
      else Scalar.select (IntOp.cmpi .sge (BitVec.ofNat 32 (r.val - 504)) (BitVec.ofNat 32 (8 - k.val)))
          (n ⟨(r.val - 504 + 8 - (8 - k.val)) % 8, Nat.mod_lt _ (by decide)⟩ c)
          (x ⟨(504 + (r.val - 504) + 512 - (512 - k.val)) % 512, Nat.mod_lt _ (by decide)⟩ c)) = future x n k r c := by
  have hk := k.isLt
  have hr := r.isLt
  unfold future
  by_cases h8 : r.val < 504
  · rw [dif_pos h8, dif_pos (by omega)]
    congr 2
    show (r.val + 512 - (512 - k.val)) % 512 = r.val + k.val; omega
  · rw [dif_neg h8, select_sge _ _ (by omega) (by omega)]
    by_cases h1 : r.val + k.val < 512
    · rw [dif_pos h1, if_neg (by omega)]
      congr 2
      show (504 + (r.val - 504) + 512 - (512 - k.val)) % 512 = r.val + k.val; omega
    · rw [dif_neg h1, if_pos (by omega)]
      congr 2
      show (r.val - 504 + 8 - (8 - k.val)) % 8 = r.val + k.val - 512; omega

section
variable (i : grid0.Coords) (v0 : BitVec 1) (v4 : Vec Ideal S1x1x512x704 .f32) (v6 : Vec Ideal S1x1x8x704 .f32)
  (w : Vec Ideal S1x1x3x704 .f32) (b : Vec Ideal S1x1x1x704 .f32) (r : Fin 512) (c : Fin 704)

/-- The gate block moved down by one. -/
theorem pay11_apply : k0_pay11 i v4 v6 (ix2 r c)
      = past (firstBit i = 1#1) (fun r c => v4 (ix4 0 0 r c)) (fun r c => v6 (ix4 0 0 r c)) 1 r c := by
  unfold k0_pay11 k0_pay8 k0_pay7
  pointwise
  exact past_read (firstBit i) (fun r c => v4 (ix4 0 0 r c)) (fun r c => v6 (ix4 0 0 r c)) 1 r c

/-- The gate block moved down by two. -/
theorem pay15_apply : k0_pay15 (k0_pay13 i v4 v6) (k0_pay14 v4) (ix2 r c)
      = past (firstBit i = 1#1) (fun r c => v4 (ix4 0 0 r c)) (fun r c => v6 (ix4 0 0 r c)) 2 r c := by
  unfold k0_pay15 k0_pay14 k0_pay13 k0_pay12 k0_pay8 k0_pay7
  pointwise
  exact past_read (firstBit i) (fun r c => v4 (ix4 0 0 r c)) (fun r c => v6 (ix4 0 0 r c)) 2 r c

/-- The value block moved down by one. -/
theorem pay21_apply : k0_pay21 v0 v4 v6 (ix2 r c)
      = past (v0 = 1#1) (fun r c => v4 (ix4 0 0 r c)) (fun r c => v6 (ix4 0 0 r c)) 1 r c := by
  unfold k0_pay21 k0_pay18 k0_pay17
  pointwise
  exact past_read v0 (fun r c => v4 (ix4 0 0 r c)) (fun r c => v6 (ix4 0 0 r c)) 1 r c

/-- The value block moved down by two. -/
theorem pay25_apply (hI) : k0_pay25 (k0_pay22 v4) (k0_pay23 v0 v6) (iota .tc S8x704 32 [0] hI) k0_pay24 (ix2 r c)
      = past (v0 = 1#1) (fun r c => v4 (ix4 0 0 r c)) (fun r c => v6 (ix4 0 0 r c)) 2 r c := by
  unfold k0_pay25 k0_pay24 k0_pay23 k0_pay22 k0_pay18 k0_pay17
  pointwise
  exact past_read v0 (fun r c => v4 (ix4 0 0 r c)) (fun r c => v6 (ix4 0 0 r c)) 2 r c

/-- The gate's convolution. -/
theorem pay16_apply :
    k0_pay16 (k0_pay7 v4) (k0_pay9 w) (k0_pay10 b) (k0_pay11 i v4 v6) (k0_pay13 i v4 v6) (k0_pay14 v4) (ix2 r c)
      = conv (firstBit i = 1#1) (fun r c => v4 (ix4 0 0 r c)) (fun r c => v6 (ix4 0 0 r c)) (fun k c => w (ix4 0 0 k c))
          (fun c => b (ix4 0 0 0 c)) r c := by
  unfold conv
  rw [← pay11_apply, ← pay15_apply]
  unfold k0_pay16 k0_pay9 k0_pay10 k0_pay7
  generalize k0_pay15 (k0_pay13 i v4 v6) (k0_pay14 v4) = s2
  generalize k0_pay11 i v4 v6 = s1
  pointwise

/-- The value's convolution. -/
def val (v0 : BitVec 1) (v4 : Vec Ideal S1x1x512x704 .f32) (v6 : Vec Ideal S1x1x8x704 .f32)
    (w : Vec Ideal S1x1x3x704 .f32) (b : Vec Ideal S1x1x1x704 .f32) (r : Fin 512) (c : Fin 704) : EReal :=
  conv (v0 = 1#1) (fun r c => v4 (ix4 0 0 r c)) (fun r c => v6 (ix4 0 0 r c)) (fun k c => w (ix4 0 0 k c)) (fun c => b (ix4 0 0 0 c)) r c

/-- The gradient at the gate's convolution. -/
theorem pay28_apply (g : FVec Ideal S512x704 .f32) (d : Vec Ideal S1x512x704 .f32) (hI) :
    k0_pay28 g (k0_pay17 v4) (k0_pay19 w) (k0_pay20 b) (k0_pay21 v0 v4 v6) (k0_pay22 v4) (k0_pay23 v0 v6) (iota .tc S8x704 32 [0] hI) k0_pay24 d (ix2 r c)
      = dGate (d (ix3 0 r c)) (g (ix2 r c)) (val v0 v4 v6 w b r c) := by
  unfold dGate sig val conv
  rw [← pay21_apply, ← pay25_apply v0 v4 v6 r c hI]
  unfold k0_pay28 k0_pay27 k0_pay26 k0_pay20 k0_pay19 k0_pay17
  generalize k0_pay25 (k0_pay22 v4) (k0_pay23 v0 v6) (iota .tc S8x704 32 [0] hI) k0_pay24 = s2
  generalize k0_pay21 v0 v4 v6 = s1
  pointwise

/-- The gradient at the value's convolution. -/
theorem pay29_apply (g : FVec Ideal S512x704 .f32) (d : Vec Ideal S1x512x704 .f32) :
    k0_pay29 g d (ix2 r c) = dVal (d (ix3 0 r c)) (g (ix2 r c)) := by
  unfold dVal sig k0_pay29 k0_pay27 k0_pay26
  pointwise

/-- The first product of the transposed convolution, at the gate. -/
theorem pay32_apply (v44 v46 v52 v54 v63 v64 v65 v66 v67) (d : Vec Ideal S1x512x704 .f32) :
    k0_pay32 v44 v46 v52 v54 v63 v64 v65 v66 v67 d w (ix2 r c)
      = w (ix4 0 0 2 c) * k0_pay28 v44 v46 v52 v54 v63 v64 v65 v66 v67 d (ix2 r c) := by
  unfold k0_pay32 k0_pay30
  generalize k0_pay28 v44 v46 v52 v54 v63 v64 v65 v66 v67 d = x
  pointwise

/-- The gate half of the gradient of the input. -/
theorem pay34_apply (x : FVec Ideal S512x704 .f32) (n : Vec Ideal S1x8x704 .f32) (k)
    (hk : k (ix2 r c) = w (ix4 0 0 2 c) * x (ix2 r c)) :
    k0_pay34 x (k0_pay30 w) (k0_pay31 n) k (k0_pay33 w) (ix4 0 0 r c)
      = back (fun r c => x (ix2 r c)) (fun r c => n (ix3 0 r c)) (fun k c => w (ix4 0 0 k c)) r c := by
  unfold back
  rw [← hk, ← future_read _ _ 1 _ _ (by decide), ← future_read _ _ 2 _ _ (by decide)]
  unfold k0_pay34 k0_pay33 k0_pay31 k0_pay30
  pointwise

/-- The value half of the gradient of the input. -/
theorem pay41_apply (x : FVec Ideal S512x704 .f32) (n : Vec Ideal S1x8x704 .f32) :
    k0_pay41 (k0_pay40 x w n) (ix4 0 0 r c)
      = back (fun r c => x (ix2 r c)) (fun r c => n (ix3 0 r c)) (fun k c => w (ix4 0 0 k c)) r c := by
  unfold back
  rw [← future_read _ _ 1 _ _ (by decide), ← future_read _ _ 2 _ _ (by decide)]
  unfold k0_pay41 k0_pay40
  pointwise

end

section
variable (x y : FVec Ideal S512x704 .f32) (o : Vec Ideal S1x1x1x704 .f32) (u : Vec Ideal S1x1x512x704 .f32) (c : Fin 704)

/-! What a step adds to the weights' and the bias's gradients. -/

theorem pay35_apply : k0_pay35 y x o (ix4 0 0 0 c) = o (ix4 0 0 0 c) + ∑ r : Fin 512, x (ix2 r c) * y (ix2 r c) := by
  unfold k0_pay35; pointwise

theorem pay36_apply : k0_pay36 y x o (ix4 0 0 0 c) = o (ix4 0 0 0 c) + ∑ r : Fin 512, x (ix2 r c) * y (ix2 r c) := by
  unfold k0_pay36; pointwise

theorem pay37_apply : k0_pay37 x o u (ix4 0 0 0 c) = o (ix4 0 0 0 c) + ∑ r : Fin 512, x (ix2 r c) * u (ix4 0 0 r c) := by
  unfold k0_pay37; pointwise

theorem pay38_apply : k0_pay38 x o (ix4 0 0 0 c) = o (ix4 0 0 0 c) + ∑ r : Fin 512, x (ix2 r c) := by
  unfold k0_pay38; pointwise

theorem pay42_apply : k0_pay42 y x o (ix4 0 0 0 c) = o (ix4 0 0 0 c) + ∑ r : Fin 512, x (ix2 r c) * y (ix2 r c) := by
  unfold k0_pay42; pointwise

theorem pay43_apply : k0_pay43 y x o (ix4 0 0 0 c) = o (ix4 0 0 0 c) + ∑ r : Fin 512, x (ix2 r c) * y (ix2 r c) := by
  unfold k0_pay43; pointwise

theorem pay44_apply : k0_pay1 (k0_pay44 x o u) (ix4 0 0 0 c) = o (ix4 0 0 0 c) + ∑ r : Fin 512, x (ix2 r c) * u (ix4 0 0 r c) := by
  unfold k0_pay1 k0_pay44; pointwise

theorem pay2_apply : k0_pay2 x o (ix4 0 0 0 c) = o (ix4 0 0 0 c) + ∑ r : Fin 512, x (ix2 r c) := by
  unfold k0_pay2; pointwise

/-! The first eight rows, kept for the step before in the sequence. -/

theorem pay39_apply (r : Fin 8) : k0_pay39 x (ix3 0 r c) = x (ix2 ⟨r.val, by omega⟩ c) := by
  unfold k0_pay39; pointwise

theorem pay3_apply (r : Fin 8) : k0_pay3 x (ix3 0 r c) = x (ix2 ⟨r.val, by omega⟩ c) := by
  unfold k0_pay3; pointwise

/-! The zeros a sequence starts from. -/

theorem pay4_apply (y : S2x8x704.Idx) : k0_pay4 (F := Ideal) y = 0 := by
  unfold k0_pay4; exact Ideal.ofBits_zero_f32

theorem pay5_apply (y : S2x1x3x704.Idx) : k0_pay5 (F := Ideal) y = 0 := by
  unfold k0_pay5; exact Ideal.ofBits_zero_f32

theorem pay6_apply (y : S2x1x1x704.Idx) : k0_pay6 (F := Ideal) y = 0 := by
  unfold k0_pay6; exact Ideal.ofBits_zero_f32

end

end Cert.FfnBlock

end
-- ==== Proof.FfnStep.lean ====
module

public import proofs.«01_k».proof.Proof.Gen.KernelIdeal.Value
public import proofs.«01_k».proof.Proof.FfnBlock
public import Idealize.ShloMosaic.Lib.Pipeline.ReadBack
public import Idealize.ShloMosaic.Lib.Pipeline.ValueKit.Tiles

@[expose] public section

/-! # The feed-forward activation's gradient: what one step of the kernel leaves in its buffers

`n` are the eight rows the step after in the sequence left, `o` what the weights' or the bias's gradient held
before the step. -/

set_option maxRecDepth 16384

noncomputable section

namespace Cert.FfnStep

open Cert.KernelIdeal Cert.KernelIdeal.Gen Idealize.ShloMosaic Idealize.ShloMosaic.Tactic Cert.FfnBlock

/-! A half of a block, or a row of a half, as a load reads it. -/

def half0 (s : Fin 2) (x : Vec Ideal S2x1x512x704 .f32) : Vec Ideal S1x1x512x704 .f32 := fun y => x (ix4 s 0 (y 2) (y 3))
def half1 (s : Fin 2) (x : Vec Ideal S2x1x8x704 .f32) : Vec Ideal S1x1x8x704 .f32 := fun y => x (ix4 s 0 (y 2) (y 3))
def half3 (s : Fin 2) (x : Vec Ideal S2x1x3x704 .f32) : Vec Ideal S1x1x3x704 .f32 := fun y => x (ix4 s 0 (y 2) (y 3))
def half4 (s : Fin 2) (x : Vec Ideal S2x1x1x704 .f32) : Vec Ideal S1x1x1x704 .f32 := fun y => x (ix4 s 0 0 (y 3))
def row3 (s : Fin 2) (k : Fin 3) (x : Vec Ideal S2x1x3x704 .f32) : Vec Ideal S1x1x1x704 .f32 := fun y => x (ix4 s 0 k (y 3))
def halfS (s : Fin 2) (x : Vec Ideal S2x8x704 .f32) : Vec Ideal S1x8x704 .f32 := fun y => x (ix3 s (y 1) (y 2))

theorem ld_half0 (s : Fin 2) (x : Vec Ideal S2x1x512x704 .f32) (inb) :
    View.ld x (Rect.unit ![s.val, 0, 0, 0] ![1, 1, 512, 704] inb) = half0 s x := by
  funext y
  refine View.ld_unit_apply_of _ _ _ _ _ _ fun a => ?_
  have h0 : (y 0).val < 1 := (y 0).isLt
  have h1 : (y 1).val < 1 := (y 1).isLt
  match a with
  | 0 => show s.val = s.val + (y 0).val; omega
  | 1 => show 0 = 0 + (y 1).val; omega
  | 2 => show (y 2).val = 0 + (y 2).val; omega
  | 3 => show (y 3).val = 0 + (y 3).val; omega

theorem ld_half1 (s : Fin 2) (x : Vec Ideal S2x1x8x704 .f32) (inb) :
    View.ld x (Rect.unit ![s.val, 0, 0, 0] ![1, 1, 8, 704] inb) = half1 s x := by
  funext y
  refine View.ld_unit_apply_of _ _ _ _ _ _ fun a => ?_
  have h0 : (y 0).val < 1 := (y 0).isLt
  have h1 : (y 1).val < 1 := (y 1).isLt
  match a with
  | 0 => show s.val = s.val + (y 0).val; omega
  | 1 => show 0 = 0 + (y 1).val; omega
  | 2 => show (y 2).val = 0 + (y 2).val; omega
  | 3 => show (y 3).val = 0 + (y 3).val; omega

theorem ld_half3 (s : Fin 2) (x : Vec Ideal S2x1x3x704 .f32) (inb) :
    View.ld x (Rect.unit ![s.val, 0, 0, 0] ![1, 1, 3, 704] inb) = half3 s x := by
  funext y
  refine View.ld_unit_apply_of _ _ _ _ _ _ fun a => ?_
  have h0 : (y 0).val < 1 := (y 0).isLt
  have h1 : (y 1).val < 1 := (y 1).isLt
  match a with
  | 0 => show s.val = s.val + (y 0).val; omega
  | 1 => show 0 = 0 + (y 1).val; omega
  | 2 => show (y 2).val = 0 + (y 2).val; omega
  | 3 => show (y 3).val = 0 + (y 3).val; omega

theorem ld_half4 (s : Fin 2) (x : Vec Ideal S2x1x1x704 .f32) (inb) :
    View.ld x (Rect.unit ![s.val, 0, 0, 0] ![1, 1, 1, 704] inb) = half4 s x := by
  funext y
  refine View.ld_unit_apply_of _ _ _ _ _ _ fun a => ?_
  have h0 : (y 0).val < 1 := (y 0).isLt
  have h1 : (y 1).val < 1 := (y 1).isLt
  have h2 : (y 2).val < 1 := (y 2).isLt
  match a with
  | 0 => show s.val = s.val + (y 0).val; omega
  | 1 => show 0 = 0 + (y 1).val; omega
  | 2 => show 0 = 0 + (y 2).val; omega
  | 3 => show (y 3).val = 0 + (y 3).val; omega

theorem ld_row3 (s : Fin 2) (k : Fin 3) (x : Vec Ideal S2x1x3x704 .f32) (inb) :
    View.ld x (Rect.unit ![s.val, 0, k.val, 0] ![1, 1, 1, 704] inb) = row3 s k x := by
  funext y
  refine View.ld_unit_apply_of _ _ _ _ _ _ fun a => ?_
  have h0 : (y 0).val < 1 := (y 0).isLt
  have h1 : (y 1).val < 1 := (y 1).isLt
  have h2 : (y 2).val < 1 := (y 2).isLt
  match a with
  | 0 => show s.val = s.val + (y 0).val; omega
  | 1 => show 0 = 0 + (y 1).val; omega
  | 2 => show k.val = k.val + (y 2).val; omega
  | 3 => show (y 3).val = 0 + (y 3).val; omega

theorem ld_halfS (s : Fin 2) (x : Vec Ideal S2x8x704 .f32) (inb) :
    View.ld x (Rect.unit ![s.val, 0, 0] ![1, 8, 704] inb) = halfS s x := by
  funext y
  refine View.ld_unit_apply_of _ _ _ _ _ _ fun a => ?_
  have h0 : (y 0).val < 1 := (y 0).isLt
  match a with
  | 0 => show s.val = s.val + (y 0).val; omega
  | 1 => show (y 1).val = 0 + (y 1).val; omega
  | 2 => show (y 2).val = 0 + (y 2).val; omega

theorem ld_x2 (x : Vec Ideal S1x512x704 .f32) (inb) : View.ld x (Rect.unit ![0, 0, 0] ![1, 512, 704] inb) = x :=
  View.ld_unit_zero (S := S1x512x704) (by funext a; match a with | 0 => rfl | 1 => rfl | 2 => rfl) _ _

/-! The same loads at the literal offsets the kernel writes. -/

theorem ld0_0 (x : Vec Ideal S2x1x512x704 .f32) (inb) : View.ld x (Rect.unit ![0, 0, 0, 0] ![1, 1, 512, 704] inb) = half0 0 x := ld_half0 0 x inb
theorem ld1_0 (x : Vec Ideal S2x1x8x704 .f32) (inb) : View.ld x (Rect.unit ![0, 0, 0, 0] ![1, 1, 8, 704] inb) = half1 0 x := ld_half1 0 x inb
theorem ld3_0 (x : Vec Ideal S2x1x3x704 .f32) (inb) : View.ld x (Rect.unit ![0, 0, 0, 0] ![1, 1, 3, 704] inb) = half3 0 x := ld_half3 0 x inb
theorem ld4_0 (x : Vec Ideal S2x1x1x704 .f32) (inb) : View.ld x (Rect.unit ![0, 0, 0, 0] ![1, 1, 1, 704] inb) = half4 0 x := ld_half4 0 x inb
theorem ldS_0 (x : Vec Ideal S2x8x704 .f32) (inb) : View.ld x (Rect.unit ![0, 0, 0] ![1, 8, 704] inb) = halfS 0 x := ld_halfS 0 x inb
theorem ldR_00 (x : Vec Ideal S2x1x3x704 .f32) (inb) : View.ld x (Rect.unit ![0, 0, 0, 0] ![1, 1, 1, 704] inb) = row3 0 0 x := ld_row3 0 0 x inb
theorem ldR_01 (x : Vec Ideal S2x1x3x704 .f32) (inb) : View.ld x (Rect.unit ![0, 0, 1, 0] ![1, 1, 1, 704] inb) = row3 0 1 x := ld_row3 0 1 x inb
theorem ldR_02 (x : Vec Ideal S2x1x3x704 .f32) (inb) : View.ld x (Rect.unit ![0, 0, 2, 0] ![1, 1, 1, 704] inb) = row3 0 2 x := ld_row3 0 2 x inb
theorem ld0_1 (x : Vec Ideal S2x1x512x704 .f32) (inb) : View.ld x (Rect.unit ![1, 0, 0, 0] ![1, 1, 512, 704] inb) = half0 1 x := ld_half0 1 x inb
theorem ld1_1 (x : Vec Ideal S2x1x8x704 .f32) (inb) : View.ld x (Rect.unit ![1, 0, 0, 0] ![1, 1, 8, 704] inb) = half1 1 x := ld_half1 1 x inb
theorem ld3_1 (x : Vec Ideal S2x1x3x704 .f32) (inb) : View.ld x (Rect.unit ![1, 0, 0, 0] ![1, 1, 3, 704] inb) = half3 1 x := ld_half3 1 x inb
theorem ld4_1 (x : Vec Ideal S2x1x1x704 .f32) (inb) : View.ld x (Rect.unit ![1, 0, 0, 0] ![1, 1, 1, 704] inb) = half4 1 x := ld_half4 1 x inb
theorem ldS_1 (x : Vec Ideal S2x8x704 .f32) (inb) : View.ld x (Rect.unit ![1, 0, 0] ![1, 8, 704] inb) = halfS 1 x := ld_halfS 1 x inb
theorem ldR_10 (x : Vec Ideal S2x1x3x704 .f32) (inb) : View.ld x (Rect.unit ![1, 0, 0, 0] ![1, 1, 1, 704] inb) = row3 1 0 x := ld_row3 1 0 x inb
theorem ldR_11 (x : Vec Ideal S2x1x3x704 .f32) (inb) : View.ld x (Rect.unit ![1, 0, 1, 0] ![1, 1, 1, 704] inb) = row3 1 1 x := ld_row3 1 1 x inb
theorem ldR_12 (x : Vec Ideal S2x1x3x704 .f32) (inb) : View.ld x (Rect.unit ![1, 0, 2, 0] ![1, 1, 1, 704] inb) = row3 1 2 x := ld_row3 1 2 x inb

/-! Where a stored row, half or head lies in its buffer. -/

theorem emb_row (s : Fin 2) (k : Fin 3) (c : Fin 704) (inb) :
    (Rect.unit (s := S2x1x3x704) ![s.val, 0, k.val, 0] ![1, 1, 1, 704] inb).emb (ix4 0 0 0 c) = ix4 s 0 k c := by
  funext a
  apply Fin.ext
  match a with
  | 0 => show s.val + 1 * 0 = s.val; omega
  | 1 => rfl
  | 2 => show k.val + 1 * 0 = k.val; omega
  | 3 => show 0 + 1 * c.val = c.val; omega

theorem emb_bias (s : Fin 2) (c : Fin 704) (inb) :
    (Rect.unit (s := S2x1x1x704) ![s.val, 0, 0, 0] ![1, 1, 1, 704] inb).emb (ix4 0 0 0 c) = ix4 s 0 0 c := by
  funext a
  apply Fin.ext
  match a with
  | 0 => show s.val + 1 * 0 = s.val; omega
  | 1 => rfl
  | 2 => rfl
  | 3 => show 0 + 1 * c.val = c.val; omega

theorem emb_half (s : Fin 2) (r : Fin 512) (c : Fin 704) (inb) :
    (Rect.unit (s := S2x1x512x704) ![s.val, 0, 0, 0] ![1, 1, 512, 704] inb).emb (ix4 0 0 r c) = ix4 s 0 r c := by
  funext a
  apply Fin.ext
  match a with
  | 0 => show s.val + 1 * 0 = s.val; omega
  | 1 => rfl
  | 2 => show 0 + 1 * r.val = r.val; omega
  | 3 => show 0 + 1 * c.val = c.val; omega

theorem emb_head (s : Fin 2) (r : Fin 8) (c : Fin 704) (inb) :
    (Rect.unit (s := S2x8x704) ![s.val, 0, 0] ![1, 8, 704] inb).emb (ix3 0 r c) = ix3 s r c := by
  funext a
  apply Fin.ext
  match a with
  | 0 => show s.val + 1 * 0 = s.val; omega
  | 1 => show 0 + 1 * r.val = r.val; omega
  | 2 => show 0 + 1 * c.val = c.val; omega

/-! Two or six stores over any earlier ones, read back. -/

section
variable {S : Shape} {e : EltTy} (G : S.Idx → Elt Ideal e) {p1 p2 p3 p4 p5 p6 : View.Piece (Elt Ideal) S e} (L : List (View.Piece (Elt Ideal) S e))

theorem canon_over2 (h : View.PiecesOf G [p1, p2]) (y : S.Idx) (hc : ∃ p ∈ [p1, p2], y ∈ p.1.set) :
    View.canon (p1 :: p2 :: L) y = G y := View.canon_append_of_piecesOf G L [p1, p2] h y hc

theorem canon_over6 (h : View.PiecesOf G [p1, p2, p3, p4, p5, p6]) (y : S.Idx) (hc : ∃ p ∈ [p1, p2, p3, p4, p5, p6], y ∈ p.1.set) :
    View.canon (p1 :: p2 :: p3 :: p4 :: p5 :: p6 :: L) y = G y := View.canon_append_of_piecesOf G L [p1, p2, p3, p4, p5, p6] h y hc

end

section
variable (i : grid0.Coords) (x0 : Vec Ideal S2x1x512x704 .f32) (x1 : Vec Ideal S2x1x8x704 .f32) (x2 : Vec Ideal S1x512x704 .f32)
  (x3 : Vec Ideal S2x1x3x704 .f32) (x4 : Vec Ideal S2x1x1x704 .f32)

/-- Half `s` of the block, moved down by `k`. -/
def pastB (s : Fin 2) (k : Fin 3) (r : Fin 512) (c : Fin 704) : EReal :=
  past (firstBit i = 1#1) (fun r c => x0 (ix4 s 0 r c)) (fun r c => x1 (ix4 s 0 r c)) k r c

/-- Half `s` of the convolution. -/
def convB (s : Fin 2) (r : Fin 512) (c : Fin 704) : EReal :=
  conv (firstBit i = 1#1) (fun r c => x0 (ix4 s 0 r c)) (fun r c => x1 (ix4 s 0 r c)) (fun k c => x3 (ix4 s 0 k c)) (fun c => x4 (ix4 s 0 0 c)) r c

/-- Half `s` of the gradient at the convolution. -/
def dcB (s : Fin 2) (r : Fin 512) (c : Fin 704) : EReal :=
  if s = 0 then dGate (x2 (ix3 0 r c)) (convB i x0 x1 x3 x4 0 r c) (convB i x0 x1 x3 x4 1 r c)
  else dVal (x2 (ix3 0 r c)) (convB i x0 x1 x3 x4 0 r c)

/-- What the step leaves in the input's gradient. -/
def step5 (n : Vec Ideal S2x8x704 .f32) : Vec Ideal S2x1x512x704 .bf16 := fun y =>
  back (dcB i x0 x1 x2 x3 x4 (y 0)) (fun r c => n (ix3 (y 0) r c)) (fun k c => x3 (ix4 (y 0) 0 k c)) (y 2) (y 3)

/-- What it leaves in the weights' gradient. -/
def step6 (o : Vec Ideal S2x1x3x704 .f32) : Vec Ideal S2x1x3x704 .f32 := fun y =>
  o y + ∑ r : Fin 512, dcB i x0 x1 x2 x3 x4 (y 0) r (y 3) * pastB i x0 x1 (y 0) (Fin.rev (y 2)) r (y 3)

/-- What it leaves in the bias's gradient. -/
def step7 (o : Vec Ideal S2x1x1x704 .f32) : Vec Ideal S2x1x1x704 .f32 := fun y =>
  o y + ∑ r : Fin 512, dcB i x0 x1 x2 x3 x4 (y 0) r (y 3)

/-- What it keeps for the step before in the sequence. -/
def stepS : Vec Ideal S2x8x704 .f32 := fun y => dcB i x0 x1 x2 x3 x4 (y 0) (Fin.castLE (by decide) (y 1)) (y 2)

/-! The kernel's intermediate values. -/

def convV (s : Fin 2) : FVec Ideal S512x704 .f32 := fun y => convB i x0 x1 x3 x4 s (y 0) (y 1)
def pastV (s : Fin 2) (k : Fin 3) : FVec Ideal S512x704 .f32 := fun y => pastB i x0 x1 s k (y 0) (y 1)
def dcV (s : Fin 2) : FVec Ideal S512x704 .f32 := fun y => dcB i x0 x1 x2 x3 x4 s (y 0) (y 1)

theorem gate_eq : k0_pay16 (k0_pay7 (half0 0 x0)) (k0_pay9 (half3 0 x3)) (k0_pay10 (half4 0 x4)) (k0_pay11 i (half0 0 x0) (half1 0 x1))
    (k0_pay13 i (half0 0 x0) (half1 0 x1)) (k0_pay14 (half0 0 x0)) = convV i x0 x1 x3 x4 0 := by
  funext y
  idx_vars y
  exact pay16_apply i _ _ _ _ _ _

theorem dc0_eq (hI) : k0_pay28 (convV i x0 x1 x3 x4 0) (k0_pay17 (half0 1 x0)) (k0_pay19 (half3 1 x3)) (k0_pay20 (half4 1 x4))
    (k0_pay21 (firstBit i) (half0 1 x0) (half1 1 x1)) (k0_pay22 (half0 1 x0)) (k0_pay23 (firstBit i) (half1 1 x1)) (iota .tc S8x704 32 [0] hI)
    k0_pay24 x2 = dcV i x0 x1 x2 x3 x4 0 := by
  funext y
  idx_vars y
  exact pay28_apply (firstBit i) _ _ _ _ _ _ _ _ _

theorem dc1_eq : k0_pay29 (convV i x0 x1 x3 x4 0) x2 = dcV i x0 x1 x2 x3 x4 1 := by
  funext y
  idx_vars y
  exact pay29_apply _ _ _ _

theorem past01_eq : k0_pay11 i (half0 0 x0) (half1 0 x1) = pastV i x0 x1 0 1 := by
  funext y
  idx_vars y
  exact pay11_apply _ _ _ _ _

theorem past02_eq : k0_pay15 (k0_pay13 i (half0 0 x0) (half1 0 x1)) (k0_pay14 (half0 0 x0)) = pastV i x0 x1 0 2 := by
  funext y
  idx_vars y
  exact pay15_apply _ _ _ _ _

theorem pastB_zero (s : Fin 2) (r : Fin 512) (c : Fin 704) : pastB i x0 x1 s 0 r c = half0 s x0 (ix4 0 0 r c) :=
  past_of_not_lt _ _ _ _ _ _ (Nat.not_lt_zero _)

/-- What a step adds to one row of the weights' gradient. -/
theorem step6_row (o : Vec Ideal S2x1x3x704 .f32) (s : Fin 2) (k j : Fin 3) (hj : Fin.rev k = j) (c : Fin 704) :
    step6 i x0 x1 x2 x3 x4 o (ix4 s 0 k c)
      = row3 s k o (ix4 0 0 0 c) + ∑ r : Fin 512, dcV i x0 x1 x2 x3 x4 s (ix2 r c) * pastV i x0 x1 s j (ix2 r c) := by
  subst hj; rfl

theorem step6_row_zero (o : Vec Ideal S2x1x3x704 .f32) (s : Fin 2) (c : Fin 704) :
    step6 i x0 x1 x2 x3 x4 o (ix4 s 0 2 c)
      = row3 s 2 o (ix4 0 0 0 c) + ∑ r : Fin 512, dcV i x0 x1 x2 x3 x4 s (ix2 r c) * half0 s x0 (ix4 0 0 r c) := by
  rw [step6_row i x0 x1 x2 x3 x4 o s 2 0 rfl c]
  refine congrArg _ (Finset.sum_congr rfl fun r _ => congrArg _ ?_)
  exact pastB_zero i x0 x1 s r c

theorem past11_eq : k0_pay21 (firstBit i) (half0 1 x0) (half1 1 x1) = pastV i x0 x1 1 1 := by
  funext y
  idx_vars y
  exact pay21_apply _ _ _ _ _

theorem past12_eq (hI) : k0_pay25 (k0_pay22 (half0 1 x0)) (k0_pay23 (firstBit i) (half1 1 x1)) (iota .tc S8x704 32 [0] hI) k0_pay24
    = pastV i x0 x1 1 2 := by
  funext y
  idx_vars y
  exact pay25_apply _ _ _ _ _ _

end

section
variable (c : Dev nD) (i : grid0.Coords) (arg2 : Memref sig .tc .vmem S2x1x512x704 .f32) (harg2 : arg2.IsWhole) (arg3 : Memref sig .tc .vmem S2x1x8x704 .f32) (harg3 : arg3.IsWhole)
  (arg4 : Memref sig .tc .vmem S1x512x704 .f32) (harg4 : arg4.IsWhole) (arg5 : Memref sig .tc .vmem S2x1x3x704 .f32) (harg5 : arg5.IsWhole)
  (arg6 : Memref sig .tc .vmem S2x1x1x704 .f32) (harg6 : arg6.IsWhole) (arg7 : Memref sig .tc .vmem S2x1x512x704 .bf16) (harg7 : arg7.IsWhole)
  (arg8 : Memref sig .tc .vmem S2x1x3x704 .f32) (harg8 : arg8.IsWhole) (arg9 : Memref sig .tc .vmem S2x1x1x704 .f32) (harg9 : arg9.IsWhole)
  (arg10 : Memref sig .tc .vmem S2x8x704 .f32) (harg10 : arg10.IsWhole)
  (x0 : Vec Ideal S2x1x512x704 .f32) (x1 : Vec Ideal S2x1x8x704 .f32) (x2 : Vec Ideal S1x512x704 .f32) (x3 : Vec Ideal S2x1x3x704 .f32)
  (x4 : Vec Ideal S2x1x1x704 .f32) (xo6 : Vec Ideal S2x1x3x704 .f32) (xo7 : Vec Ideal S2x1x1x704 .f32) (xs0 : Vec Ideal S2x8x704 .f32)

set_option maxHeartbeats 400000 in
theorem out0_B_6_eq (hc0 : ¬cond0_0 i) : out0_B_6 c i arg2 harg2 arg3 harg3 arg4 harg4 arg5 harg5 arg6 harg6 arg7 harg7 arg8 harg8 arg9 harg9 arg10 harg10 hc0 x0 x1 x2 x3 x4 xo6 xo7 xs0 = step6 i x0 x1 x2 x3 x4 xo6 := by
  funext y
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 xo6 xo7 xs0)]
  unfold kernelRun0_B
  dsimp only
  sl_unfold_words
  simp (disch := decide) only [↓View.readCov_skip, ↓View.readCov_fill, View.readAt_eq_ld, harg2.read_unread, harg3.read_unread, harg4.read_unread, harg5.read_unread,
    harg6.read_unread, harg8.read_unread, harg9.read_unread, harg10.read_unread, ld0_0, ld0_1, ld1_0, ld1_1, ld3_0, ld3_1, ld4_0, ld4_1, ldS_0, ldS_1, ldR_00, ldR_01, ldR_02, ldR_10, ldR_11, ldR_12, ld_x2, gate_eq,
    show Scalar.cmpi CmpIPredicate.eq (BitVec.ofNat 32 (i 1).val) 3#32 = firstBit i from rfl]
  try simp only [dc1_eq]
  try rw [dc0_eq]
  try rw [past12_eq]
  simp only [past01_eq, past02_eq, past11_eq]
  refine View.canon_apply_of_pieces (step6 i x0 x1 x2 x3 x4 xo6) [_, _, _, _, _, _] (View.PiecesOf.mem (show View.PiecesOf (step6 i x0 x1 x2 x3 x4 xo6) [_, _, _, _, _, _] from ⟨?_, ?_, ?_, ?_, ?_, ?_, trivial⟩)) y ?_
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay44_apply _ _ _ _).trans (Eq.trans ?_ (congrArg (step6 i x0 x1 x2 x3 x4 xo6) (emb_row 1 2 _ _).symm))
    exact (step6_row_zero i x0 x1 x2 x3 x4 _ 1 _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay43_apply _ _ _ _).trans (Eq.trans ?_ (congrArg (step6 i x0 x1 x2 x3 x4 xo6) (emb_row 1 1 _ _).symm))
    exact (step6_row i x0 x1 x2 x3 x4 _ 1 1 1 rfl _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay42_apply _ _ _ _).trans (Eq.trans ?_ (congrArg (step6 i x0 x1 x2 x3 x4 xo6) (emb_row 1 0 _ _).symm))
    exact (step6_row i x0 x1 x2 x3 x4 _ 1 0 2 rfl _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay37_apply _ _ _ _).trans (Eq.trans ?_ (congrArg (step6 i x0 x1 x2 x3 x4 xo6) (emb_row 0 2 _ _).symm))
    exact (step6_row_zero i x0 x1 x2 x3 x4 _ 0 _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay36_apply _ _ _ _).trans (Eq.trans ?_ (congrArg (step6 i x0 x1 x2 x3 x4 xo6) (emb_row 0 1 _ _).symm))
    exact (step6_row i x0 x1 x2 x3 x4 _ 0 1 1 rfl _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay35_apply _ _ _ _).trans (Eq.trans ?_ (congrArg (step6 i x0 x1 x2 x3 x4 xo6) (emb_row 0 0 _ _).symm))
    exact (step6_row i x0 x1 x2 x3 x4 _ 0 0 2 rfl _).symm
  · exact View.cover_of_tiledL (_ : List (View.Piece (Elt Ideal) S2x1x3x704 .f32)) S1x1x1x704.size (by sl_kernel_rfl) y

set_option maxHeartbeats 400000 in
theorem out0_A_6_eq (hc0 : cond0_0 i) : out0_A_6 c i arg2 harg2 arg3 harg3 arg4 harg4 arg5 harg5 arg6 harg6 arg7 harg7 arg8 harg8 arg9 harg9 arg10 harg10 hc0 x0 x1 x2 x3 x4 = step6 i x0 x1 x2 x3 x4 (k0_pay5 (F := Ideal)) := by
  funext y
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp (disch := decide) only [↓View.readCov_skip, ↓View.readCov_fill, View.readAt_eq_ld, harg2.read_unread, harg3.read_unread, harg4.read_unread, harg5.read_unread,
    harg6.read_unread, harg8.read_unread, harg9.read_unread, harg10.read_unread, ld0_0, ld0_1, ld1_0, ld1_1, ld3_0, ld3_1, ld4_0, ld4_1, ldS_0, ldS_1, ldR_00, ldR_01, ldR_02, ldR_10, ldR_11, ldR_12, ld_x2, gate_eq,
    show Scalar.cmpi CmpIPredicate.eq (BitVec.ofNat 32 (i 1).val) 3#32 = firstBit i from rfl]
  try simp only [dc1_eq]
  try rw [dc0_eq]
  try rw [past12_eq]
  simp only [past01_eq, past02_eq, past11_eq]
  refine canon_over6 (step6 i x0 x1 x2 x3 x4 (k0_pay5 (F := Ideal))) _ ⟨?_, ?_, ?_, ?_, ?_, ?_, trivial⟩ y ?_
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay44_apply _ _ _ _).trans (Eq.trans ?_ (congrArg (step6 i x0 x1 x2 x3 x4 (k0_pay5 (F := Ideal))) (emb_row 1 2 _ _).symm))
    exact (step6_row_zero i x0 x1 x2 x3 x4 _ 1 _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay43_apply _ _ _ _).trans (Eq.trans ?_ (congrArg (step6 i x0 x1 x2 x3 x4 (k0_pay5 (F := Ideal))) (emb_row 1 1 _ _).symm))
    exact (step6_row i x0 x1 x2 x3 x4 _ 1 1 1 rfl _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay42_apply _ _ _ _).trans (Eq.trans ?_ (congrArg (step6 i x0 x1 x2 x3 x4 (k0_pay5 (F := Ideal))) (emb_row 1 0 _ _).symm))
    exact (step6_row i x0 x1 x2 x3 x4 _ 1 0 2 rfl _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay37_apply _ _ _ _).trans (Eq.trans ?_ (congrArg (step6 i x0 x1 x2 x3 x4 (k0_pay5 (F := Ideal))) (emb_row 0 2 _ _).symm))
    exact (step6_row_zero i x0 x1 x2 x3 x4 _ 0 _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay36_apply _ _ _ _).trans (Eq.trans ?_ (congrArg (step6 i x0 x1 x2 x3 x4 (k0_pay5 (F := Ideal))) (emb_row 0 1 _ _).symm))
    exact (step6_row i x0 x1 x2 x3 x4 _ 0 1 1 rfl _).symm
  · intro q
    change S1x1x1x704.Idx at q
    idx_vars q
    obtain rfl : q0 = 0 := Subsingleton.elim _ _
    obtain rfl : q1 = 0 := Subsingleton.elim _ _
    obtain rfl : q2 = 0 := Subsingleton.elim _ _
    refine (pay35_apply _ _ _ _).trans (Eq.trans ?_ (congrArg (step6 i x0 x1 x2 x3 x4 (k0_pay5 (F := Ideal))) (emb_row 0 0 _ _).symm))
    exact (step6_row i x0 x1 x2 x3 x4 _ 0 0 2 rfl _).symm
  · exact View.cover_of_tiledL (_ : List (View.Piece (Elt Ideal) S2x1x3x704 .f32)) S1x1x1x704.size (by sl_kernel_rfl) y

set_option maxHeartbeats 400000 in
theorem out0_B_7_eq (hc0 : ¬cond0_0 i) : out0_B_7 c i arg2 harg2 arg3 harg3 arg4 harg4 arg5 harg5 arg6 harg6 arg7 harg7 arg8 harg8 arg9 harg9 arg10 harg10 hc0 x0 x1 x2 x3 x4 xo6 xo7 xs0 = step7 i x0 x1 x2 x3 x4 xo7 := by
  funext y
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 xo6 xo7 xs0)]
  unfold kernelRun0_B
  dsimp only
  sl_unfold_words
  simp (disch := decide) only [↓View.readCov_skip, ↓View.readCov_fill, View.readAt_eq_ld, harg2.read_unread, harg3.read_unread, harg4.read_unread, harg5.read_unread,
    harg6.read_unread, harg8.read_unread, harg9.read_unread, harg10.read_unread, ld0_0, ld0_1, ld1_0, ld1_1, ld3_0, ld3_1, ld4_0, ld4_1, ldS_0, ldS_1, ldR_00, ldR_01, ldR_02, ldR_10, ldR_11, ldR_12, ld_x2, gate_eq,
    show Scalar.cmpi CmpIPredicate.eq (BitVec.ofNat 32 (i 1).val) 3#32 = firstBit i from rfl]
  try simp only [dc1_eq]
  try rw [dc0_eq]
  try rw [past12_eq]
  refine View.canon_apply_of_pieces (step7 i x0 x1 x2 x3 x4 xo7) [_, _] (View.PiecesOf.mem (show View.PiecesOf (step7 i x0 x1 x2 x3 x4 xo7) [_, _] from ⟨?_, ?_, trivial⟩)) y ?_
  · intro q
    change S1x1x1x704.Idx at q
    idx_vars q
    obtain rfl : q0 = 0 := Subsingleton.elim _ _
    obtain rfl : q1 = 0 := Subsingleton.elim _ _
    obtain rfl : q2 = 0 := Subsingleton.elim _ _
    exact (pay2_apply _ _ _).trans (congrArg (step7 i x0 x1 x2 x3 x4 xo7) (emb_bias 1 _ _).symm)
  · intro q
    change S1x1x1x704.Idx at q
    idx_vars q
    obtain rfl : q0 = 0 := Subsingleton.elim _ _
    obtain rfl : q1 = 0 := Subsingleton.elim _ _
    obtain rfl : q2 = 0 := Subsingleton.elim _ _
    exact (pay38_apply _ _ _).trans (congrArg (step7 i x0 x1 x2 x3 x4 xo7) (emb_bias 0 _ _).symm)
  · exact View.cover_of_tiledL (_ : List (View.Piece (Elt Ideal) S2x1x1x704 .f32)) S1x1x1x704.size (by sl_kernel_rfl) y

set_option maxHeartbeats 400000 in
theorem out0_A_7_eq (hc0 : cond0_0 i) : out0_A_7 c i arg2 harg2 arg3 harg3 arg4 harg4 arg5 harg5 arg6 harg6 arg7 harg7 arg8 harg8 arg9 harg9 arg10 harg10 hc0 x0 x1 x2 x3 x4 = step7 i x0 x1 x2 x3 x4 (k0_pay6 (F := Ideal)) := by
  funext y
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp (disch := decide) only [↓View.readCov_skip, ↓View.readCov_fill, View.readAt_eq_ld, harg2.read_unread, harg3.read_unread, harg4.read_unread, harg5.read_unread,
    harg6.read_unread, harg8.read_unread, harg9.read_unread, harg10.read_unread, ld0_0, ld0_1, ld1_0, ld1_1, ld3_0, ld3_1, ld4_0, ld4_1, ldS_0, ldS_1, ldR_00, ldR_01, ldR_02, ldR_10, ldR_11, ldR_12, ld_x2, gate_eq,
    show Scalar.cmpi CmpIPredicate.eq (BitVec.ofNat 32 (i 1).val) 3#32 = firstBit i from rfl]
  try simp only [dc1_eq]
  try rw [dc0_eq]
  try rw [past12_eq]
  refine canon_over2 (step7 i x0 x1 x2 x3 x4 (k0_pay6 (F := Ideal))) _ ⟨?_, ?_, trivial⟩ y ?_
  · intro q
    change S1x1x1x704.Idx at q
    idx_vars q
    obtain rfl : q0 = 0 := Subsingleton.elim _ _
    obtain rfl : q1 = 0 := Subsingleton.elim _ _
    obtain rfl : q2 = 0 := Subsingleton.elim _ _
    exact (pay2_apply _ _ _).trans (congrArg (step7 i x0 x1 x2 x3 x4 (k0_pay6 (F := Ideal))) (emb_bias 1 _ _).symm)
  · intro q
    change S1x1x1x704.Idx at q
    idx_vars q
    obtain rfl : q0 = 0 := Subsingleton.elim _ _
    obtain rfl : q1 = 0 := Subsingleton.elim _ _
    obtain rfl : q2 = 0 := Subsingleton.elim _ _
    exact (pay38_apply _ _ _).trans (congrArg (step7 i x0 x1 x2 x3 x4 (k0_pay6 (F := Ideal))) (emb_bias 0 _ _).symm)
  · exact View.cover_of_tiledL (_ : List (View.Piece (Elt Ideal) S2x1x1x704 .f32)) S1x1x1x704.size (by sl_kernel_rfl) y

set_option maxHeartbeats 400000 in
theorem sout0_B_0_eq (hc0 : ¬cond0_0 i) : sout0_B_0 c i arg2 harg2 arg3 harg3 arg4 harg4 arg5 harg5 arg6 harg6 arg7 harg7 arg8 harg8 arg9 harg9 arg10 harg10 hc0 x0 x1 x2 x3 x4 xo6 xo7 xs0 = stepS i x0 x1 x2 x3 x4  := by
  funext y
  unfold sout0_B_0
  rw [View.read_writes_eq_canon _ _ _ (scover0_B_0 c i arg2 harg2 arg3 harg3 arg4 harg4 arg5 harg5 arg6 harg6 arg7 harg7 arg8 harg8 arg9 harg9 arg10 harg10 hc0 x0 x1 x2 x3 x4 xo6 xo7 xs0)]
  unfold kernelRun0_B
  dsimp only
  sl_unfold_words
  simp (disch := decide) only [↓View.readCov_skip, ↓View.readCov_fill, View.readAt_eq_ld, harg2.read_unread, harg3.read_unread, harg4.read_unread, harg5.read_unread,
    harg6.read_unread, harg8.read_unread, harg9.read_unread, harg10.read_unread, ld0_0, ld0_1, ld1_0, ld1_1, ld3_0, ld3_1, ld4_0, ld4_1, ldS_0, ldS_1, ldR_00, ldR_01, ldR_02, ldR_10, ldR_11, ldR_12, ld_x2, gate_eq,
    show Scalar.cmpi CmpIPredicate.eq (BitVec.ofNat 32 (i 1).val) 3#32 = firstBit i from rfl]
  try simp only [dc1_eq]
  try rw [dc0_eq]
  try rw [past12_eq]
  refine View.canon_apply_of_pieces (stepS i x0 x1 x2 x3 x4 ) [_, _] (View.PiecesOf.mem (show View.PiecesOf (stepS i x0 x1 x2 x3 x4 ) [_, _] from ⟨?_, ?_, trivial⟩)) y ?_
  · intro q
    change S1x8x704.Idx at q
    idx_vars q
    obtain rfl : q0 = 0 := Subsingleton.elim _ _
    exact (pay3_apply _ _ _).trans (congrArg (stepS i x0 x1 x2 x3 x4 ) (emb_head 1 _ _ _).symm)
  · intro q
    change S1x8x704.Idx at q
    idx_vars q
    obtain rfl : q0 = 0 := Subsingleton.elim _ _
    exact (pay39_apply _ _ _).trans (congrArg (stepS i x0 x1 x2 x3 x4 ) (emb_head 0 _ _ _).symm)
  · exact View.cover_of_tiledL (_ : List (View.Piece (Elt Ideal) S2x8x704 .f32)) S1x8x704.size (by sl_kernel_rfl) y

set_option maxHeartbeats 400000 in
theorem sout0_A_0_eq (hc0 : cond0_0 i) : sout0_A_0 c i arg2 harg2 arg3 harg3 arg4 harg4 arg5 harg5 arg6 harg6 arg7 harg7 arg8 harg8 arg9 harg9 arg10 harg10 hc0 x0 x1 x2 x3 x4 = stepS i x0 x1 x2 x3 x4  := by
  funext y
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp (disch := decide) only [↓View.readCov_skip, ↓View.readCov_fill, View.readAt_eq_ld, harg2.read_unread, harg3.read_unread, harg4.read_unread, harg5.read_unread,
    harg6.read_unread, harg8.read_unread, harg9.read_unread, harg10.read_unread, ld0_0, ld0_1, ld1_0, ld1_1, ld3_0, ld3_1, ld4_0, ld4_1, ldS_0, ldS_1, ldR_00, ldR_01, ldR_02, ldR_10, ldR_11, ldR_12, ld_x2, gate_eq,
    show Scalar.cmpi CmpIPredicate.eq (BitVec.ofNat 32 (i 1).val) 3#32 = firstBit i from rfl]
  try simp only [dc1_eq]
  try rw [dc0_eq]
  try rw [past12_eq]
  refine canon_over2 (stepS i x0 x1 x2 x3 x4 ) _ ⟨?_, ?_, trivial⟩ y ?_
  · intro q
    change S1x8x704.Idx at q
    idx_vars q
    obtain rfl : q0 = 0 := Subsingleton.elim _ _
    exact (pay3_apply _ _ _).trans (congrArg (stepS i x0 x1 x2 x3 x4 ) (emb_head 1 _ _ _).symm)
  · intro q
    change S1x8x704.Idx at q
    idx_vars q
    obtain rfl : q0 = 0 := Subsingleton.elim _ _
    exact (pay39_apply _ _ _).trans (congrArg (stepS i x0 x1 x2 x3 x4 ) (emb_head 0 _ _ _).symm)
  · exact View.cover_of_tiledL (_ : List (View.Piece (Elt Ideal) S2x8x704 .f32)) S1x8x704.size (by sl_kernel_rfl) y

set_option maxHeartbeats 400000 in
theorem out0_B_5_eq (hc0 : ¬cond0_0 i) : out0_B_5 c i arg2 harg2 arg3 harg3 arg4 harg4 arg5 harg5 arg6 harg6 arg7 harg7 arg8 harg8 arg9 harg9 arg10 harg10 hc0 x0 x1 x2 x3 x4 xo6 xo7 xs0 = step5 i x0 x1 x2 x3 x4 xs0 := by
  funext y
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xo6 xo7 xs0)]
  unfold kernelRun0_B
  dsimp only
  sl_unfold_words
  simp (disch := decide) only [↓View.readCov_skip, ↓View.readCov_fill, View.readAt_eq_ld, harg2.read_unread, harg3.read_unread, harg4.read_unread, harg5.read_unread,
    harg6.read_unread, harg8.read_unread, harg9.read_unread, harg10.read_unread, ld0_0, ld0_1, ld1_0, ld1_1, ld3_0, ld3_1, ld4_0, ld4_1, ldS_0, ldS_1, ldR_00, ldR_01, ldR_02, ldR_10, ldR_11, ldR_12, ld_x2, gate_eq,
    show Scalar.cmpi CmpIPredicate.eq (BitVec.ofNat 32 (i 1).val) 3#32 = firstBit i from rfl]
  try simp only [dc1_eq]
  try rw [dc0_eq]
  try rw [past12_eq]
  refine View.canon_apply_of_pieces (step5 i x0 x1 x2 x3 x4 xs0) [_, _] (View.PiecesOf.mem (show View.PiecesOf (step5 i x0 x1 x2 x3 x4 xs0) [_, _] from ⟨?_, ?_, trivial⟩)) y ?_
  · intro q
    change S1x1x512x704.Idx at q
    idx_vars q
    obtain rfl : q0 = 0 := Subsingleton.elim _ _
    obtain rfl : q1 = 0 := Subsingleton.elim _ _
    exact (pay41_apply _ _ _ _ _).trans (congrArg (step5 i x0 x1 x2 x3 x4 xs0) (emb_half 1 _ _ _).symm)
  · intro q
    change S1x1x512x704.Idx at q
    idx_vars q
    obtain rfl : q0 = 0 := Subsingleton.elim _ _
    obtain rfl : q1 = 0 := Subsingleton.elim _ _
    exact (pay34_apply _ _ _ _ _ _ (by rw [pay32_apply, dc0_eq])).trans (congrArg (step5 i x0 x1 x2 x3 x4 xs0) (emb_half 0 _ _ _).symm)
  · exact View.cover_of_tiledL (_ : List (View.Piece (Elt Ideal) S2x1x512x704 .bf16)) S1x1x512x704.size (by sl_kernel_rfl) y

set_option maxHeartbeats 400000 in
theorem out0_A_5_eq (hc0 : cond0_0 i) : out0_A_5 c i arg2 harg2 arg3 harg3 arg4 harg4 arg5 harg5 arg6 harg6 arg7 harg7 arg8 harg8 arg9 harg9 arg10 harg10 hc0 x0 x1 x2 x3 x4 = step5 i x0 x1 x2 x3 x4 (k0_pay4 (F := Ideal)) := by
  funext y
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp (disch := decide) only [↓View.readCov_skip, ↓View.readCov_fill, View.readAt_eq_ld, harg2.read_unread, harg3.read_unread, harg4.read_unread, harg5.read_unread,
    harg6.read_unread, harg8.read_unread, harg9.read_unread, harg10.read_unread, ld0_0, ld0_1, ld1_0, ld1_1, ld3_0, ld3_1, ld4_0, ld4_1, ldS_0, ldS_1, ldR_00, ldR_01, ldR_02, ldR_10, ldR_11, ldR_12, ld_x2, gate_eq,
    show Scalar.cmpi CmpIPredicate.eq (BitVec.ofNat 32 (i 1).val) 3#32 = firstBit i from rfl]
  try simp only [dc1_eq]
  try rw [dc0_eq]
  try rw [past12_eq]
  refine View.canon_apply_of_pieces (step5 i x0 x1 x2 x3 x4 (k0_pay4 (F := Ideal))) [_, _] (View.PiecesOf.mem (show View.PiecesOf (step5 i x0 x1 x2 x3 x4 (k0_pay4 (F := Ideal))) [_, _] from ⟨?_, ?_, trivial⟩)) y ?_
  · intro q
    change S1x1x512x704.Idx at q
    idx_vars q
    obtain rfl : q0 = 0 := Subsingleton.elim _ _
    obtain rfl : q1 = 0 := Subsingleton.elim _ _
    exact (pay41_apply _ _ _ _ _).trans (congrArg (step5 i x0 x1 x2 x3 x4 (k0_pay4 (F := Ideal))) (emb_half 1 _ _ _).symm)
  · intro q
    change S1x1x512x704.Idx at q
    idx_vars q
    obtain rfl : q0 = 0 := Subsingleton.elim _ _
    obtain rfl : q1 = 0 := Subsingleton.elim _ _
    exact (pay34_apply _ _ _ _ _ _ (by rw [pay32_apply, dc0_eq])).trans (congrArg (step5 i x0 x1 x2 x3 x4 (k0_pay4 (F := Ideal))) (emb_half 0 _ _ _).symm)
  · exact View.cover_of_tiledL (_ : List (View.Piece (Elt Ideal) S2x1x512x704 .bf16)) S1x1x512x704.size (by sl_kernel_rfl) y

end

end Cert.FfnStep

end
-- ==== Proof.FfnRun.lean ====
module

public import proofs.«01_k».proof.Proof.FfnStep
public import Idealize.ShloMosaic.Lib.Pipeline.ValueKit

@[expose] public section

/-! # The feed-forward activation's gradient: what the whole run leaves in the three arrays

The grid walks each block of 704 features through its four tiles of 512 rows, from the last tile to the first. -/

set_option maxRecDepth 16384

noncomputable section

namespace Cert.FfnRun

open Cert.KernelIdeal Cert.KernelIdeal.Gen Idealize.ShloMosaic Idealize.ShloMosaic.Tactic Cert.FfnBlock Cert.FfnStep

/-! ## The gradient over the whole sequence -/

section
variable (up : Vec Ideal S2x4x2048x704 .f32) (da : Vec Ideal S4x2048x704 .f32) (cw : Vec Ideal S2x4x3x704 .f32) (cb : Vec Ideal S2x4x1x704 .f32)

/-- A row of the sequence; zero outside it. -/
def U (s : Fin 2) (j : Fin 4) (t : ℕ) (q : Fin 704) : EReal := if h : t < 2048 then up (ix4 s j ⟨t, h⟩ q) else 0

/-- The row `k` before; zero before the sequence. -/
def lag (s : Fin 2) (j : Fin 4) (k t : ℕ) (q : Fin 704) : EReal := if t < k then 0 else U up s j (t - k) q

/-- The causal convolution. -/
def convG (s : Fin 2) (j : Fin 4) (t : ℕ) (q : Fin 704) : EReal :=
  cw (ix4 s j 0 q) * lag up s j 2 t q + cw (ix4 s j 1 q) * lag up s j 1 t q + cw (ix4 s j 2 q) * U up s j t q + cb (ix4 s j 0 q)

/-- The gradient at the convolution; zero outside the sequence. -/
def dcG (s : Fin 2) (j : Fin 4) (t : ℕ) (q : Fin 704) : EReal :=
  if h : t < 2048 then
    if s = 0 then dGate (da (ix3 j ⟨t, h⟩ q)) (convG up cw cb 0 j t q) (convG up cw cb 1 j t q)
    else dVal (da (ix3 j ⟨t, h⟩ q)) (convG up cw cb 0 j t q)
  else 0

/-- The gradient of the input. -/
def duG : Vec Ideal S2x4x2048x704 .bf16 := fun y =>
  cw (ix4 (y 0) (y 1) 2 (y 3)) * dcG up da cw cb (y 0) (y 1) (y 2).val (y 3)
    + cw (ix4 (y 0) (y 1) 1 (y 3)) * dcG up da cw cb (y 0) (y 1) ((y 2).val + 1) (y 3)
    + cw (ix4 (y 0) (y 1) 0 (y 3)) * dcG up da cw cb (y 0) (y 1) ((y 2).val + 2) (y 3)

/-- The gradient of the weights. -/
def dwG : Vec Ideal S2x4x3x704 .f32 := fun y =>
  ∑ t : Fin 2048, dcG up da cw cb (y 0) (y 1) t.val (y 3) * lag up (y 0) (y 1) (2 - (y 2).val) t.val (y 3)

/-- The gradient of the bias. -/
def dbG : Vec Ideal S2x4x1x704 .f32 := fun y => ∑ t : Fin 2048, dcG up da cw cb (y 0) (y 1) t.val (y 3)

end

/-! ## A block of the run -/

section
variable (m : (ℓ : Loc nD τ sig) → Buf (Elt Ideal) ℓ) (c : Dev nD)

theorem t_lt (t : Fin cfg0.N) : t.val < 16 := t.isLt

/-- The block of features a step works on, and the tile of rows. -/
def fb (t : Fin cfg0.N) : Fin 4 := ⟨t.val / 4, by have := t_lt t; omega⟩
def tile (t : Fin cfg0.N) : ℕ := 3 - t.val % 4

theorem tile_le (t : Fin cfg0.N) : tile t ≤ 3 := by unfold tile; omega

theorem index0 : ∀ t : Fin cfg0.N, (cfg0.win 0).index t 0 = 0 ∧ (cfg0.win 0).index t 1 = t.val / 4
    ∧ (cfg0.win 0).index t 2 = 3 - t.val % 4 ∧ (cfg0.win 0).index t 3 = 0 := by decide +kernel

theorem index1 : ∀ t : Fin cfg0.N, (cfg0.win 1).index t 0 = 0 ∧ (cfg0.win 1).index t 1 = t.val / 4
    ∧ (cfg0.win 1).index t 2 = 64 * (3 - t.val % 4) - 1 ∧ (cfg0.win 1).index t 3 = 0 := by decide +kernel

theorem index2 : ∀ t : Fin cfg0.N, (cfg0.win 2).index t 0 = t.val / 4 ∧ (cfg0.win 2).index t 1 = 3 - t.val % 4
    ∧ (cfg0.win 2).index t 2 = 0 := by decide +kernel

theorem index3 : ∀ t : Fin cfg0.N, (cfg0.win 3).index t 0 = 0 ∧ (cfg0.win 3).index t 1 = t.val / 4
    ∧ (cfg0.win 3).index t 2 = 0 ∧ (cfg0.win 3).index t 3 = 0 := by decide +kernel

theorem index4 : ∀ t : Fin cfg0.N, (cfg0.win 4).index t 0 = 0 ∧ (cfg0.win 4).index t 1 = t.val / 4
    ∧ (cfg0.win 4).index t 2 = 0 ∧ (cfg0.win 4).index t 3 = 0 := by decide +kernel

theorem firstBit_tile : ∀ t : Fin cfg0.N, firstBit (grid0.coords t) = 1#1 ↔ t.val % 4 = 3 := by decide +kernel

theorem iblk0_eq (t : Fin cfg0.N) (s : Fin 2) (r : Fin 512) (q : Fin 704) :
    iblk m c 0 t (ix4 s 0 r q) = V m c main_arg0 (ix4 s (fb t) ⟨512 * tile t + r.val, by have := tile_le t; omega⟩ q) := by
  obtain ⟨e0, e1, e2, e3⟩ := index0 t
  unfold fb tile
  blk_ext [iblk, e0, e1, e2, e3]

theorem iblk1_eq (t : Fin cfg0.N) (h : tile t ≠ 0) (s : Fin 2) (r : Fin 8) (q : Fin 704) :
    iblk m c 1 t (ix4 s 0 r q) = V m c main_arg0 (ix4 s (fb t) ⟨8 * (64 * tile t - 1) + r.val, by have := tile_le t; omega⟩ q) := by
  obtain ⟨e0, e1, e2, e3⟩ := index1 t
  unfold fb tile
  blk_ext [iblk, e0, e1, e2, e3]

theorem iblk2_eq (t : Fin cfg0.N) (r : Fin 512) (q : Fin 704) :
    iblk m c 2 t (ix3 0 r q) = V m c main_arg1 (ix3 (fb t) ⟨512 * tile t + r.val, by have := tile_le t; omega⟩ q) := by
  obtain ⟨e0, e1, e2⟩ := index2 t
  unfold fb tile
  blk_ext [iblk, e0, e1, e2]

theorem iblk3_eq (t : Fin cfg0.N) (s : Fin 2) (k : Fin 3) (q : Fin 704) :
    iblk m c 3 t (ix4 s 0 k q) = V m c main_arg2 (ix4 s (fb t) k q) := by
  obtain ⟨e0, e1, e2, e3⟩ := index3 t
  unfold fb
  blk_ext [iblk, e0, e1, e2, e3]

theorem iblk4_eq (t : Fin cfg0.N) (s : Fin 2) (q : Fin 704) :
    iblk m c 4 t (ix4 s 0 0 q) = V m c main_arg3 (ix4 s (fb t) 0 q) := by
  obtain ⟨e0, e1, e2, e3⟩ := index4 t
  unfold fb
  blk_ext [iblk, e0, e1, e2, e3]

/-! ## A step's values are the sequence's -/

/-- The gradient at the convolution, of the run's arguments. -/
abbrev dcM := dcG (V m c main_arg0) (V m c main_arg1) (V m c main_arg2) (V m c main_arg3)
abbrev lagM := lag (V m c main_arg0)

theorem pastB_eq (t : Fin cfg0.N) (s : Fin 2) (k : Fin 3) (r : Fin 512) (q : Fin 704) :
    pastB (grid0.coords t) (iblk m c 0 t) (iblk m c 1 t) s k r q = lagM m c s (fb t) k.val (512 * tile t + r.val) q := by
  have hk := k.isLt
  have hr := r.isLt
  have ht := tile_le t
  have hf := firstBit_tile t
  have h3 : tile t = 0 ↔ t.val % 4 = 3 := by unfold tile; omega
  unfold pastB past lagM lag U
  by_cases hlt : r.val < k.val
  · rw [dif_pos hlt]
    by_cases h0 : tile t = 0
    · rw [if_pos (hf.mpr (h3.mp h0)), if_pos (by omega)]
    · rw [if_neg (fun h => h0 (h3.mpr (hf.mp h))), if_neg (by omega), dif_pos (by omega)]
      beta_reduce
      rw [iblk1_eq m c t h0]
      congr 2
      apply Fin.ext
      show 8 * (64 * tile t - 1) + (8 - k.val + r.val) = 512 * tile t + r.val - k.val
      omega
  · rw [dif_neg hlt, if_neg (by omega), dif_pos (by omega)]
    beta_reduce
    rw [iblk0_eq]
    congr 2
    apply Fin.ext
    show 512 * tile t + (r.val - k.val) = 512 * tile t + r.val - k.val
    omega

theorem convB_eq (t : Fin cfg0.N) (s : Fin 2) (r : Fin 512) (q : Fin 704) :
    convB (grid0.coords t) (iblk m c 0 t) (iblk m c 1 t) (iblk m c 3 t) (iblk m c 4 t) s r q
      = convG (V m c main_arg0) (V m c main_arg2) (V m c main_arg3) s (fb t) (512 * tile t + r.val) q := by
  have ht := tile_le t
  have h2 := pastB_eq m c t s 2 r q
  have h1 := pastB_eq m c t s 1 r q
  unfold pastB at h1 h2
  unfold convB conv convG
  rw [h2, h1]
  beta_reduce
  rw [iblk3_eq, iblk3_eq, iblk3_eq, iblk4_eq, iblk0_eq]
  unfold U
  rw [dif_pos (by omega)]
  rfl

theorem dcB_eq (t : Fin cfg0.N) (s : Fin 2) (r : Fin 512) (q : Fin 704) :
    dcB (grid0.coords t) (iblk m c 0 t) (iblk m c 1 t) (iblk m c 2 t) (iblk m c 3 t) (iblk m c 4 t) s r q
      = dcM m c s (fb t) (512 * tile t + r.val) q := by
  have ht := tile_le t
  unfold dcB dcM dcG
  rw [dif_pos (by omega), convB_eq, convB_eq, iblk2_eq]

/-! ## What a step leaves -/

theorem outs_A (t : Fin cfg0.N) (h0 : t.val % 4 = 0) : outsAt0 m c t.val t.isLt
    = (step5 (grid0.coords t) (iblk m c 0 t) (iblk m c 1 t) (iblk m c 2 t) (iblk m c 3 t) (iblk m c 4 t) (k0_pay4 (F := Ideal)), step6 (grid0.coords t) (iblk m c 0 t) (iblk m c 1 t) (iblk m c 2 t) (iblk m c 3 t) (iblk m c 4 t) (k0_pay5 (F := Ideal)), step7 (grid0.coords t) (iblk m c 0 t) (iblk m c 1 t) (iblk m c 2 t) (iblk m c 3 t) (iblk m c 4 t) (k0_pay6 (F := Ideal)), stepS (grid0.coords t) (iblk m c 0 t) (iblk m c 1 t) (iblk m c 2 t) (iblk m c 3 t) (iblk m c 4 t)) := by
  rw [outsAt0_A m c t h0, out0_A_5_eq, out0_A_6_eq, out0_A_7_eq, sout0_A_0_eq]

theorem outs_B (t : Fin cfg0.N) (h0 : ¬t.val % 4 = 0) : outsAt0 m c t.val t.isLt
    = (step5 (grid0.coords t) (iblk m c 0 t) (iblk m c 1 t) (iblk m c 2 t) (iblk m c 3 t) (iblk m c 4 t) (outsAt0 m c (t.val - 1) (Nat.lt_of_le_of_lt (Nat.sub_le _ _) t.isLt)).2.2.2,
      step6 (grid0.coords t) (iblk m c 0 t) (iblk m c 1 t) (iblk m c 2 t) (iblk m c 3 t) (iblk m c 4 t) (outsAt0 m c (t.val - 1) (Nat.lt_of_le_of_lt (Nat.sub_le _ _) t.isLt)).2.1,
      step7 (grid0.coords t) (iblk m c 0 t) (iblk m c 1 t) (iblk m c 2 t) (iblk m c 3 t) (iblk m c 4 t) (outsAt0 m c (t.val - 1) (Nat.lt_of_le_of_lt (Nat.sub_le _ _) t.isLt)).2.2.1, stepS (grid0.coords t) (iblk m c 0 t) (iblk m c 1 t) (iblk m c 2 t) (iblk m c 3 t) (iblk m c 4 t)) := by
  rw [outsAt0_B m c t h0, out0_B_5_eq, out0_B_6_eq, out0_B_7_eq, sout0_B_0_eq]

theorem kept_eq (t : Fin cfg0.N) (s : Fin 2) (r : Fin 8) (q : Fin 704) :
    (outsAt0 m c t.val t.isLt).2.2.2 (ix3 s r q) = dcM m c s (fb t) (512 * tile t + r.val) q := by
  have h : (outsAt0 m c t.val t.isLt).2.2.2 = stepS (grid0.coords t) (iblk m c 0 t) (iblk m c 1 t) (iblk m c 2 t) (iblk m c 3 t) (iblk m c 4 t) := by
    by_cases h0 : t.val % 4 = 0
    · rw [outs_A m c t h0]
    · rw [outs_B m c t h0]
  rw [h]
  exact dcB_eq m c t s (Fin.castLE (by decide) r) q

theorem step5_eq (t : Fin cfg0.N) (n : Vec Ideal S2x8x704 .f32)
    (hn : ∀ s r q, n (ix3 s r q) = dcM m c s (fb t) (512 * (tile t + 1) + r.val) q) (s : Fin 2) (r : Fin 512) (q : Fin 704) :
    step5 (grid0.coords t) (iblk m c 0 t) (iblk m c 1 t) (iblk m c 2 t) (iblk m c 3 t) (iblk m c 4 t) n (ix4 s 0 r q)
      = duG (V m c main_arg0) (V m c main_arg1) (V m c main_arg2) (V m c main_arg3) (ix4 s (fb t) ⟨512 * tile t + r.val, by have := tile_le t; omega⟩ q) := by
  have hf (k : Fin 3) (hk : 0 < k.val) : future (dcB (grid0.coords t) (iblk m c 0 t) (iblk m c 1 t) (iblk m c 2 t) (iblk m c 3 t) (iblk m c 4 t) s) (fun r c => n (ix3 s r c)) k r q = dcM m c s (fb t) (512 * tile t + r.val + k.val) q := by
    unfold future
    by_cases h : r.val + k.val < 512
    · rw [dif_pos h, dcB_eq]
      congr 1
      exact (Nat.add_assoc _ _ _).symm
    · rw [dif_neg h]
      beta_reduce
      rw [hn]
      congr 1
      show 512 * (tile t + 1) + (r.val + k.val - 512) = _
      omega
  show back (dcB (grid0.coords t) (iblk m c 0 t) (iblk m c 1 t) (iblk m c 2 t) (iblk m c 3 t) (iblk m c 4 t) s) (fun r c => n (ix3 s r c)) (fun k p => iblk m c 3 t (ix4 s 0 k p)) r q = _
  unfold back
  rw [hf 1 (by decide), hf 2 (by decide), dcB_eq]
  beta_reduce
  rw [iblk3_eq, iblk3_eq, iblk3_eq]
  rfl

theorem out5_eq (t : Fin cfg0.N) (s : Fin 2) (r : Fin 512) (q : Fin 704) :
    (outsAt0 m c t.val t.isLt).1 (ix4 s 0 r q)
      = duG (V m c main_arg0) (V m c main_arg1) (V m c main_arg2) (V m c main_arg3) (ix4 s (fb t) ⟨512 * tile t + r.val, by have := tile_le t; omega⟩ q) := by
  by_cases h0 : t.val % 4 = 0
  · rw [outs_A m c t h0]
    refine step5_eq m c t _ (fun s r q => ?_) s r q
    have ht : tile t = 3 := by unfold tile; omega
    rw [pay4_apply, ht]
    unfold dcM dcG
    rw [dif_neg (by omega)]
  · rw [outs_B m c t h0]
    refine step5_eq m c t _ (fun s r q => ?_) s r q
    have h := kept_eq m c ⟨t.val - 1, Nat.lt_of_le_of_lt (Nat.sub_le _ _) t.isLt⟩ s r q
    have hb : fb ⟨t.val - 1, Nat.lt_of_le_of_lt (Nat.sub_le _ _) t.isLt⟩ = fb t := Fin.ext (by unfold fb; dsimp only; omega)
    have ht : tile ⟨t.val - 1, Nat.lt_of_le_of_lt (Nat.sub_le _ _) t.isLt⟩ = tile t + 1 := by unfold tile; dsimp only; omega
    rw [hb, ht] at h
    exact h

/-! ## The sums over the tiles -/

/-- A sum over the sequence, tile by tile from the last one. -/
theorem sum_tiles (f : ℕ → EReal) :
    ∑ k ∈ Finset.range 4, ∑ r : Fin 512, f (512 * (3 - k) + r.val) = ∑ t : Fin 2048, f t.val := by
  have h (a : ℕ) : ∑ r : Fin 512, f (a + r.val) = ∑ r ∈ Finset.range 512, f (a + r) := Fin.sum_univ_eq_sum_range (fun r => f (a + r)) 512
  simp only [h]
  rw [Fin.sum_univ_eq_sum_range f 2048, show 2048 = 512 + 512 + 512 + 512 from rfl, Finset.sum_range_add, Finset.sum_range_add, Finset.sum_range_add]
  simp only [Finset.sum_range_succ _ 3, Finset.sum_range_succ _ 2, Finset.sum_range_succ _ 1, Finset.sum_range_one]
  norm_num
  ac_rfl

/-- The block of features number `a`. -/
def fbN (a : ℕ) : Fin 4 := ⟨a % 4, Nat.mod_lt _ (by decide)⟩

theorem fbN_eq (t : Fin cfg0.N) : fbN (t.val / 4) = fb t := Fin.ext (Nat.mod_eq_of_lt (fb t).isLt)

/-- A tile's part of the weights' gradient, and of the bias's. -/
def term6 (a b : ℕ) (y : S2x1x3x704.Idx) : EReal :=
  ∑ r : Fin 512, dcM m c (y 0) (fbN a) (512 * (3 - b) + r.val) (y 3) * lagM m c (y 0) (fbN a) (Fin.rev (y 2)).val (512 * (3 - b) + r.val) (y 3)
def term7 (a b : ℕ) (y : S2x1x1x704.Idx) : EReal := ∑ r : Fin 512, dcM m c (y 0) (fbN a) (512 * (3 - b) + r.val) (y 3)

theorem step6_eq (t : Fin cfg0.N) (o : Vec Ideal S2x1x3x704 .f32) (y : S2x1x3x704.Idx) :
    step6 (grid0.coords t) (iblk m c 0 t) (iblk m c 1 t) (iblk m c 2 t) (iblk m c 3 t) (iblk m c 4 t) o y = o y + term6 m c (t.val / 4) (t.val % 4) y := by
  unfold step6 term6
  rw [fbN_eq]
  congr 1
  refine Finset.sum_congr rfl fun r _ => ?_
  exact congrArg₂ (· * ·) (dcB_eq m c t (y 0) r (y 3)) (pastB_eq m c t (y 0) (Fin.rev (y 2)) r (y 3))

theorem step7_eq (t : Fin cfg0.N) (o : Vec Ideal S2x1x1x704 .f32) (y : S2x1x1x704.Idx) :
    step7 (grid0.coords t) (iblk m c 0 t) (iblk m c 1 t) (iblk m c 2 t) (iblk m c 3 t) (iblk m c 4 t) o y = o y + term7 m c (t.val / 4) (t.val % 4) y := by
  unfold step7 term7
  rw [fbN_eq]
  congr 1
  exact Finset.sum_congr rfl fun r _ => dcB_eq m c t (y 0) r (y 3)

theorem out6_sum (t : Fin cfg0.N) (y : S2x1x3x704.Idx) :
    (outsAt0 m c t.val t.isLt).2.1 y = 0 + ∑ k ∈ Finset.range (t.val % 4 + 1), term6 m c (t.val / 4) k y := by
  refine Pipeline.eq_sum_of_reset_step_apply_divmod (fun n h => (outsAt0 m c n h).2.1) 4 (fun _ => (0 : EReal)) (term6 m c) (fun t h0 y => ?_) (fun t h0 y => ?_) t y
  · beta_reduce
    rw [outs_A m c t h0]
    dsimp only
    rw [step6_eq, pay5_apply]
  · beta_reduce
    rw [outs_B m c t h0]
    exact step6_eq m c t _ y

theorem out7_sum (t : Fin cfg0.N) (y : S2x1x1x704.Idx) :
    (outsAt0 m c t.val t.isLt).2.2.1 y = 0 + ∑ k ∈ Finset.range (t.val % 4 + 1), term7 m c (t.val / 4) k y := by
  refine Pipeline.eq_sum_of_reset_step_apply_divmod (fun n h => (outsAt0 m c n h).2.2.1) 4 (fun _ => (0 : EReal)) (term7 m c) (fun t h0 y => ?_) (fun t h0 y => ?_) t y
  · beta_reduce
    rw [outs_A m c t h0]
    dsimp only
    rw [step7_eq, pay6_apply]
  · beta_reduce
    rw [outs_B m c t h0]
    exact step7_eq m c t _ y

theorem out6_eq (t : Fin cfg0.N) (h3 : t.val % 4 = 3) (s : Fin 2) (k : Fin 3) (q : Fin 704) :
    (outsAt0 m c t.val t.isLt).2.1 (ix4 s 0 k q)
      = dwG (V m c main_arg0) (V m c main_arg1) (V m c main_arg2) (V m c main_arg3) (ix4 s (fb t) k q) := by
  rw [out6_sum, h3, zero_add]
  unfold term6
  rw [fbN_eq]
  refine (sum_tiles fun u => dcM m c s (fb t) u q * lagM m c s (fb t) (Fin.rev k).val u q).trans ?_
  unfold dwG
  refine Finset.sum_congr rfl fun u _ => ?_
  have hk : (Fin.rev k).val = 2 - k.val := by rw [Fin.val_rev]; omega
  rw [hk]
  rfl

theorem out7_eq (t : Fin cfg0.N) (h3 : t.val % 4 = 3) (s : Fin 2) (q : Fin 704) :
    (outsAt0 m c t.val t.isLt).2.2.1 (ix4 s 0 0 q)
      = dbG (V m c main_arg0) (V m c main_arg1) (V m c main_arg2) (V m c main_arg3) (ix4 s (fb t) 0 q) := by
  rw [out7_sum, h3, zero_add]
  unfold term7
  rw [fbN_eq]
  exact sum_tiles fun u => dcM m c s (fb t) u q

/-! ## The arrays -/

theorem flush6 : ∀ t : Fin cfg0.N, (cfg0.win 6).flush t = true → t.val % 4 = 3 := by decide +kernel
theorem flush7 : ∀ t : Fin cfg0.N, (cfg0.win 7).flush t = true → t.val % 4 = 3 := by decide +kernel

theorem index5 : ∀ t : Fin cfg0.N, (cfg0.win 5).index t 0 = 0 ∧ (cfg0.win 5).index t 1 = t.val / 4
    ∧ (cfg0.win 5).index t 2 = 3 - t.val % 4 ∧ (cfg0.win 5).index t 3 = 0 := by decide +kernel

theorem index6 : ∀ t : Fin cfg0.N, (cfg0.win 6).index t 0 = 0 ∧ (cfg0.win 6).index t 1 = t.val / 4
    ∧ (cfg0.win 6).index t 2 = 0 ∧ (cfg0.win 6).index t 3 = 0 := by decide +kernel

theorem index7 : ∀ t : Fin cfg0.N, (cfg0.win 7).index t 0 = 0 ∧ (cfg0.win 7).index t 1 = t.val / 4
    ∧ (cfg0.win 7).index t 2 = 0 ∧ (cfg0.win 7).index t 3 = 0 := by decide +kernel

theorem arr5 : (dats m 0 c).arrAt 5 cfg0.N = duG (V m c main_arg0) (V m c main_arg1) (V m c main_arg2) (V m c main_arg3) := by
  refine (dats m 0 c).arrAt_eq_of_covers 5 _ (by decide +kernel) fun t hf y => ?_
  obtain ⟨e0, e1, e2, e3⟩ := index5 t
  blk_simp
  rw [after0_5]
  idx_vars y
  obtain rfl : y1 = 0 := Subsingleton.elim _ _
  refine (out5_eq m c t y0 y2 y3).trans ?_
  congr 1
  unfold fb tile
  blk_ext [e0, e1, e2, e3]

theorem arr6 : (dats m 0 c).arrAt 6 cfg0.N = dwG (V m c main_arg0) (V m c main_arg1) (V m c main_arg2) (V m c main_arg3) := by
  refine (dats m 0 c).arrAt_eq_of_covers 6 _ (by decide +kernel) fun t hf y => ?_
  obtain ⟨e0, e1, e2, e3⟩ := index6 t
  blk_simp
  rw [after0_6]
  idx_vars y
  obtain rfl : y1 = 0 := Subsingleton.elim _ _
  refine (out6_eq m c t (flush6 t hf) y0 y2 y3).trans ?_
  congr 1
  unfold fb
  blk_ext [e0, e1, e2, e3]

theorem arr7 : (dats m 0 c).arrAt 7 cfg0.N = dbG (V m c main_arg0) (V m c main_arg1) (V m c main_arg2) (V m c main_arg3) := by
  refine (dats m 0 c).arrAt_eq_of_covers 7 _ (by decide +kernel) fun t hf y => ?_
  obtain ⟨e0, e1, e2, e3⟩ := index7 t
  blk_simp
  rw [after0_7]
  idx_vars y
  obtain rfl : y1 = 0 := Subsingleton.elim _ _
  obtain rfl : y2 = 0 := Subsingleton.elim _ _
  refine (out7_eq m c t (flush7 t hf) y0 y3).trans ?_
  congr 1
  unfold fb
  blk_ext [e0, e1, e2, e3]

end

end Cert.FfnRun

end
-- ==== Proof.FfnRef.lean ====
module

public import proofs.«01_k».proof.Proof.FfnRun
public import proofs.«01_k».proof.Proof.Gen.ReferenceIdeal.Read

@[expose] public section

/-! # The reference's values, read at an index -/

set_option maxRecDepth 16384

noncomputable section

namespace Cert.FfnRef

open Cert.ReferenceIdeal Cert.ReferenceIdeal.Gen Cert.ReferenceIdeal.Read Idealize.ShloMosaic Idealize.ShloMosaic.Tactic Cert.FfnBlock Cert.FfnRun

/-! ## Where the two forms of the gradient agree -/

theorem coe_mul_one_add (a : ℝ) (c : EReal) : (a : EReal) * (1 + c) = a + a * c := by
  induction c using EReal.rec with
  | bot =>
    rw [EReal.add_bot]
    rcases lt_trichotomy a 0 with h | h | h
    · rw [EReal.coe_mul_bot_of_neg h, EReal.coe_add_top]
    · subst h; simp
    · rw [EReal.coe_mul_bot_of_pos h, EReal.add_bot]
  | coe r => rw [← EReal.coe_one]; norm_cast; ring
  | top =>
    have h1 : (1 : EReal) + ⊤ = ⊤ := EReal.coe_add_top 1
    rw [h1]
    rcases lt_trichotomy a 0 with h | h | h
    · rw [EReal.coe_mul_top_of_neg h, EReal.add_bot]
    · subst h; simp
    · rw [EReal.coe_mul_top_of_pos h, EReal.coe_add_top]

theorem exp_nonneg (x : EReal) : (0 : EReal) ≤ Ideal.exp x := by
  induction x using EReal.rec with
  | bot => exact le_refl _
  | coe r => exact EReal.coe_nonneg.mpr (Real.exp_pos r).le
  | top => exact le_top

/-- The sigmoid of an extended real is a real number. -/
theorem sig_real (g : EReal) : ∃ r : ℝ, FfnBlock.sig g = r := by
  unfold FfnBlock.sig Ideal.div
  have he : (0 : EReal) ≤ Ideal.exp (0 - g) := exp_nonneg _
  have h1 : (1 : EReal) ≤ 1 + Ideal.exp (0 - g) := le_add_of_nonneg_right he
  generalize 1 + Ideal.exp (0 - g) = x at h1
  have h0 : x ≠ 0 := fun h => by rw [h] at h1; exact absurd h1 (by norm_num)
  rw [if_neg h0, one_mul]
  induction x using EReal.rec with
  | bot => exact absurd (le_bot_iff.mp h1) (by decide)
  | coe r => exact ⟨r⁻¹, (EReal.coe_inv r).symm⟩
  | top => exact ⟨0, by rw [EReal.inv_top]; rfl⟩

/-- The gradient of a gate times its sigmoid, as the sum the chain rule gives. -/
theorem dGate_sum (d v : ℝ) (g : EReal) :
    (d : EReal) * v * FfnBlock.sig g + (g * (d * v)) * (FfnBlock.sig g * (1 - FfnBlock.sig g)) = dGate d g v := by
  obtain ⟨r, hr⟩ := sig_real g
  unfold dGate
  rw [hr]
  have h := coe_mul_one_add (d * v * r) (g * (1 - r))
  rw [EReal.coe_mul, EReal.coe_mul] at h
  rw [h]
  congr 1
  ac_rfl

section
variable (up : Vec Ideal S2x4x2048x704 .f32) (da : Vec Ideal S4x2048x704 .f32) (cw : Vec Ideal S2x4x3x704 .f32) (cb : Vec Ideal S2x4x1x704 .f32)

/-! ## The forward pass -/

theorem padded_apply (s : Fin 2) (j : Fin 4) (t : Fin 2050) (q : Fin 704) : val_main_v1 up (ix4 s j t q) = lag up s j 2 t.val q := by
  have ht := t.isLt
  unfold val_main_v1 val_main_v0 val_main_cst lag U
  pointwise
  by_cases h : t.val < 2
  · rw [dif_pos h, if_pos h]
  · rw [dif_neg h, if_neg h, dif_pos (by omega)]

theorem lag2_apply (s : Fin 2) (j : Fin 4) (t : Fin 2048) (q : Fin 704) : val_main_v4 up (ix4 s j t q) = lag up s j 2 t.val q := by
  unfold val_main_v4
  pointwise
  rw [padded_apply]

theorem lag1_apply (s : Fin 2) (j : Fin 4) (t : Fin 2048) (q : Fin 704) : val_main_v10 up (ix4 s j t q) = lag up s j 1 t.val q := by
  unfold val_main_v10
  pointwise
  rw [padded_apply]
  unfold lag
  dsimp only
  by_cases h : t.val < 1
  · rw [if_pos h, if_pos (by omega)]
  · rw [if_neg h, if_neg (by omega)]
    congr 1
    omega

theorem lag0_apply (s : Fin 2) (j : Fin 4) (t : Fin 2048) (q : Fin 704) : val_main_v15 up (ix4 s j t q) = U up s j t.val q := by
  unfold val_main_v15
  pointwise
  rw [padded_apply]
  unfold lag
  dsimp only
  rw [if_neg (by omega)]
  congr 1
  omega

theorem conv_apply (s : Fin 2) (j : Fin 4) (t : Fin 2048) (q : Fin 704) : val_main_v20 up cw cb (ix4 s j t q) = convG up cw cb s j t.val q := by
  unfold val_main_v20 val_main_v18 val_main_v19 val_main_v17 val_main_v16 val_main_v14 val_main_v13 val_main_v12 val_main_v11 val_main_v9 val_main_v8 val_main_v7 val_main_v6 val_main_v5 val_main_v3 val_main_cst_1
  pointwise
  rw [lag2_apply, lag1_apply, lag0_apply]
  unfold convG
  simp only [zero_add]

theorem gate_apply (j : Fin 4) (t : Fin 2048) (q : Fin 704) : val_main_v22 up cw cb (ix3 j t q) = convG up cw cb 0 j t.val q := by
  unfold val_main_v22 val_main_v21
  pointwise
  exact conv_apply up cw cb 0 j t q

theorem value_apply (j : Fin 4) (t : Fin 2048) (q : Fin 704) : val_main_v24 up cw cb (ix3 j t q) = convG up cw cb 1 j t.val q := by
  unfold val_main_v24 val_main_v23
  pointwise
  exact conv_apply up cw cb 1 j t q

theorem sig_apply (j : Fin 4) (t : Fin 2048) (q : Fin 704) : val_main_v25_2 up cw cb (ix3 j t q) = FfnBlock.sig (convG up cw cb 0 j t.val q) := by
  unfold val_main_v25_2 val_main_call0_v4 val_main_call0_cst_0 val_main_call0_v3 val_main_call0_v2 val_main_call0_cst val_main_call0_v1 val_main_call0_v0
  pointwise
  rw [gate_apply]
  unfold FfnBlock.sig
  simp only [zero_sub]

/-! ## The backward pass -/

theorem dGate_apply (j : Fin 4) (t : Fin 2048) (q : Fin 704) (hd : ∃ r : ℝ, da (ix3 j t q) = r) (hv : ∃ r : ℝ, convG up cw cb 1 j t.val q = r) :
    val_main_v29 up da cw cb (ix3 j t q) = dGate (da (ix3 j t q)) (convG up cw cb 0 j t.val q) (convG up cw cb 1 j t.val q) := by
  unfold val_main_v29 val_main_call1_v2 val_main_call1_v1 val_main_call1_v0 val_main_v28 val_main_v25_1 val_main_call0_v7 val_main_call0_v6 val_main_call0_cst_1
  pointwise
  rw [sig_apply, gate_apply, value_apply]
  obtain ⟨d, hd⟩ := hd
  obtain ⟨v, hv⟩ := hv
  rw [hd, hv]
  exact dGate_sum d v _

theorem dVal_apply (j : Fin 4) (t : Fin 2048) (q : Fin 704) :
    val_main_v27 up da cw cb (ix3 j t q) = dVal (da (ix3 j t q)) (convG up cw cb 0 j t.val q) := by
  unfold val_main_v27 val_main_v25_0
  pointwise
  rw [sig_apply, gate_apply]
  unfold dVal
  ac_rfl

/-- The arguments whose infinities would tell the two forms apart are real. -/
structure Finite : Prop where
  da : ∀ j t q, ∃ r : ℝ, da (ix3 j t q) = r
  up : ∀ j t q, ∃ r : ℝ, up (ix4 1 j t q) = r
  cw : ∀ j k q, ∃ r : ℝ, cw (ix4 1 j k q) = r
  cb : ∀ j q, ∃ r : ℝ, cb (ix4 1 j 0 q) = r

variable (hf : Finite up da cw cb)
include hf

theorem U_real (j : Fin 4) (t : ℕ) (q : Fin 704) : ∃ r : ℝ, U up 1 j t q = r := by
  unfold U
  split
  · exact hf.up _ _ _
  · exact ⟨0, rfl⟩

theorem lag_real (j : Fin 4) (k t : ℕ) (q : Fin 704) : ∃ r : ℝ, lag up 1 j k t q = r := by
  unfold lag
  split
  · exact ⟨0, rfl⟩
  · exact U_real up da cw cb hf _ _ _

theorem value_real (j : Fin 4) (t : ℕ) (q : Fin 704) : ∃ r : ℝ, convG up cw cb 1 j t q = r := by
  unfold convG
  obtain ⟨a, ha⟩ := lag_real up da cw cb hf j 2 t q
  obtain ⟨b, hb⟩ := lag_real up da cw cb hf j 1 t q
  obtain ⟨u, hu⟩ := U_real up da cw cb hf j t q
  obtain ⟨w0, h0⟩ := hf.cw j 0 q
  obtain ⟨w1, h1⟩ := hf.cw j 1 q
  obtain ⟨w2, h2⟩ := hf.cw j 2 q
  obtain ⟨v, hv⟩ := hf.cb j q
  rw [ha, hb, hu, h0, h1, h2, hv]
  exact ⟨w0 * a + w1 * b + w2 * u + v, by push_cast; rfl⟩

theorem dc_apply (s : Fin 2) (j : Fin 4) (t : Fin 2048) (q : Fin 704) : val_main_v32 up da cw cb (ix4 s j t q) = dcG up da cw cb s j t.val q := by
  unfold val_main_v32 val_main_v31 val_main_v30 dcG
  pointwise
  rw [dGate_apply _ _ _ _ _ _ _ (hf.da _ _ _) (value_real up da cw cb hf _ _ _), dVal_apply]
  by_cases h : s = 0
  · subst h; rfl
  · rw [if_neg h, dif_neg (by omega)]

omit hf in
theorem dcG_of_ge (s : Fin 2) (j : Fin 4) (t : ℕ) (q : Fin 704) (h : 2048 ≤ t) : dcG up da cw cb s j t q = 0 := dif_neg (by omega)

theorem du_eq : val_main_v62 up da cw cb = duG up da cw cb := by
  funext y
  idx_vars y
  unfold val_main_v62 val_main_v61 val_main_v57 val_main_v56 val_main_v48 val_main_v47 val_main_v40 val_main_v36 val_main_v43 val_main_v52 val_main_v35 val_main_v42 val_main_v51 val_main_v14 val_main_v9 val_main_v3 val_main_cst_4 val_main_cst_7 val_main_cst_10
  pointwise
  simp only [dc_apply up da cw cb hf]
  unfold duG
  dsimp only
  congr 1
  · congr 1
    by_cases h : y2.val + 1 < 2048
    · rw [dif_pos (by omega)]
      exact congrArg (fun u => cw (ix4 y0 y1 1 y3) * dcG up da cw cb y0 y1 u y3) (show 2 + y2.val - 1 = y2.val + 1 by omega)
    · rw [dif_neg (by omega)]
      show (0 : EReal) = _ * dcG up da cw cb y0 y1 (y2.val + 1) y3
      rw [dcG_of_ge _ _ _ _ _ _ _ _ (by omega), mul_zero]
  · by_cases h : y2.val + 2 < 2048
    · rw [dif_pos (by omega)]
      exact congrArg (fun u => cw (ix4 y0 y1 0 y3) * dcG up da cw cb y0 y1 u y3) (Nat.add_comm 2 y2.val)
    · rw [dif_neg (by omega)]
      show (0 : EReal) = _ * dcG up da cw cb y0 y1 (y2.val + 2) y3
      rw [dcG_of_ge _ _ _ _ _ _ _ _ (by omega), mul_zero]

theorem dw_eq : val_main_v59 up da cw cb = dwG up da cw cb := by
  funext y
  idx_vars y
  unfold val_main_v59 val_main_v58 val_main_v55 val_main_v54 val_main_v53 val_main_v50 val_main_v49 val_main_v46 val_main_v45 val_main_v44 val_main_v41 val_main_v39 val_main_v38 val_main_v37 val_main_cst_3 val_main_cst_5 val_main_cst_6 val_main_cst_8 val_main_cst_9 val_main_cst_11
  pointwise
  simp only [dc_apply up da cw cb hf, lag0_apply, lag1_apply, lag2_apply]
  unfold dwG
  fin_cases y2
  · simp
  · simp
  · simp [lag]

theorem db_eq : val_main_v34 up da cw cb = dbG up da cw cb := by
  funext y
  idx_vars y
  unfold val_main_v34 val_main_v33 val_main_cst_2
  pointwise
  simp only [dc_apply up da cw cb hf]
  rfl

end
end Cert.FfnRef

end
-- ==== Proof.Ffn.lean ====
module

public import proofs.«01_k».proof.Proof.FfnRef
public import proofs.«01_k».proof.Proof.Gen.ReferenceIdeal.Run
public import proofs.«01_k».proof.Proof.Gen.Pre_cotangent_and_value_half_finite
public import proofs.«01_k».proof.Defs
public import Idealize.ShloMosaic.Lib.Quiescent

@[expose] public section

/-! # The feed-forward activation's gradient: the kernel's results are the reference's -/

set_option maxRecDepth 16384

noncomputable section

namespace Cert.Ffn

open Idealize.ShloMosaic Idealize.ShloMosaic.Tactic Idealize.SL.Sem Cert.FfnRun

section
open Cert.ReferenceIdeal Cert.Pre_cotangent_and_value_half_finite.Gen
variable (up : Vec Ideal S2x4x2048x704 .f32) (da : Vec Ideal S4x2048x704 .f32) (cw : Vec Ideal S2x4x3x704 .f32) (cb : Vec Ideal S2x4x1x704 .f32)

/-- A number whose absolute value is below some number is real. -/
theorem real_of_mask (x y : EReal) (h : BitVec.ofBool (decide (FloatOps.absf (F := Ideal) (φ := .f32) x < y)) = 1#1) : ∃ r : ℝ, x = r := by
  have hlt : FloatOps.absf (F := Ideal) (φ := .f32) x < y := by
    by_contra hn
    rw [decide_eq_false hn] at h
    exact absurd h (by decide)
  induction x using EReal.rec with
  | bot => exact absurd (show (⊤ : EReal) < y from lt_of_le_of_lt (le_of_eq_of_le EReal.neg_bot.symm (le_max_right ⊥ (-⊥))) hlt) not_top_lt
  | coe r => exact ⟨r, rfl⟩
  | top => exact absurd (show (⊤ : EReal) < y from lt_of_le_of_lt (le_max_left ⊤ (-⊤)) hlt) not_top_lt

theorem finite_of_masks (h : (Cert.Pre_cotangent_and_value_half_finite.fn (F := Ideal) up da cw cb).1 = (fun _ => 1#1)
    ∧ (Cert.Pre_cotangent_and_value_half_finite.fn (F := Ideal) up da cw cb).2.1 = (fun _ => 1#1)
    ∧ (Cert.Pre_cotangent_and_value_half_finite.fn (F := Ideal) up da cw cb).2.2.1 = (fun _ => 1#1)
    ∧ (Cert.Pre_cotangent_and_value_half_finite.fn (F := Ideal) up da cw cb).2.2.2 = (fun _ => 1#1)) : Cert.FfnRef.Finite up da cw cb := by
  obtain ⟨hu, hd, hw, hb⟩ := h
  constructor
  · intro j t q
    have e := congrFun hd (ix3 j t q)
    revert e
    unfold Cert.Pre_cotangent_and_value_half_finite.fn
    dsimp only
    pointwise
    exact real_of_mask _ _
  · intro j t q
    have e := congrFun hu (ix4 0 j t q)
    revert e
    unfold Cert.Pre_cotangent_and_value_half_finite.fn
    dsimp only
    pointwise
    exact real_of_mask _ _
  · intro j t q
    have e := congrFun hw (ix4 0 j t q)
    revert e
    unfold Cert.Pre_cotangent_and_value_half_finite.fn
    dsimp only
    pointwise
    exact real_of_mask _ _
  · intro j q
    have e := congrFun hb (ix4 0 j 0 q)
    revert e
    unfold Cert.Pre_cotangent_and_value_half_finite.fn
    dsimp only
    pointwise
    exact real_of_mask _ _

end

/-! ## The claims -/

theorem frame_reference : Cert.quiescent_ReferenceIdeal := fun m g _ =>
  (θ_run (Cert.ReferenceIdeal.defs (F := Ideal)) _ _).mono
    (fun r h => ⟨fun c => (h c).2.2.2, sem_eq_zero_of_no_sems (by decide) r.2⟩)
    (Cert.ReferenceIdeal.Value.run (F := Ideal) m g)

theorem algebraic : Cert.algebraic_KernelIdeal_ReferenceIdeal_pre_cotangent_and_value_half_finite := by
  intro m g m' g' hpre hargs
  refine ⟨fun c => duG (Cert.KernelIdeal.Gen.V m c Cert.KernelIdeal.main_arg0) (Cert.KernelIdeal.Gen.V m c Cert.KernelIdeal.main_arg1) (Cert.KernelIdeal.Gen.V m c Cert.KernelIdeal.main_arg2) (Cert.KernelIdeal.Gen.V m c Cert.KernelIdeal.main_arg3),
    fun c => dwG (Cert.KernelIdeal.Gen.V m c Cert.KernelIdeal.main_arg0) (Cert.KernelIdeal.Gen.V m c Cert.KernelIdeal.main_arg1) (Cert.KernelIdeal.Gen.V m c Cert.KernelIdeal.main_arg2) (Cert.KernelIdeal.Gen.V m c Cert.KernelIdeal.main_arg3),
    fun c => dbG (Cert.KernelIdeal.Gen.V m c Cert.KernelIdeal.main_arg0) (Cert.KernelIdeal.Gen.V m c Cert.KernelIdeal.main_arg1) (Cert.KernelIdeal.Gen.V m c Cert.KernelIdeal.main_arg2) (Cert.KernelIdeal.Gen.V m c Cert.KernelIdeal.main_arg3), ?_, ?_⟩
  · refine (θ_run _ _ _).mono (fun r h c => ?_) (Cert.KernelIdeal.Value.run_blocks m g)
    obtain ⟨h5, h6, h7, hk⟩ := h c
    exact ⟨h5.trans (arr5 m c), h6.trans (arr6 m c), h7.trans (arr7 m c), hk⟩
  · refine (θ_run _ _ _).mono (fun r h c => ?_) (Cert.ReferenceIdeal.Value.run m' g')
    obtain ⟨h0, h1, h2, hk⟩ := h c
    have hf := finite_of_masks _ _ _ _ (hpre c)
    rw [Cert.ReferenceIdeal.Read.val_main_v62_eq, (hargs c).1, (hargs c).2.1, (hargs c).2.2.1, (hargs c).2.2.2] at h0
    rw [Cert.ReferenceIdeal.Read.val_main_v59_eq, (hargs c).1, (hargs c).2.1, (hargs c).2.2.1, (hargs c).2.2.2] at h1
    rw [Cert.ReferenceIdeal.Read.val_main_v34_eq, (hargs c).1, (hargs c).2.1, (hargs c).2.2.1, (hargs c).2.2.2] at h2
    exact ⟨h0.trans (Cert.FfnRef.du_eq _ _ _ _ hf), h1.trans (Cert.FfnRef.dw_eq _ _ _ _ hf), h2.trans (Cert.FfnRef.db_eq _ _ _ _ hf), hk⟩

end Cert.Ffn

end
-- ==== Proof.Down.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ValueKit.Tiles
public import Idealize.ShloMosaic.Lib.Pipeline.ReadBack
public import Idealize.ShloMosaic.Lib.Pointwise
public import Idealize.ShloMosaic.Lib.Quiescent

@[expose] public section

/-! # The down-projection, and the residual

The grid has two tiles of 1024 rows by two blocks of 512 columns; over each the product is summed in two steps, each over two
blocks of 704 features. The first step's sum is kept in a scratch; the second adds its own, and the residual. -/

set_option maxRecDepth 16384

noncomputable section

namespace Cert.Down

open Cert.Kernel7Ideal Cert.Kernel7Ideal.Gen Idealize.ShloMosaic Idealize.ShloMosaic.Tactic Idealize.SL.Sem

/-- The part of the product over the features' block `j`. -/
def part (a : Vec Ideal S4x2048x704 .bf16) (w : Vec Ideal S2816x1024 .bf16) (j : Fin 4) (y : S2048x1024.Idx) : EReal :=
  ∑ k : Fin 704, a (ix3 j (y 0) k) * w (ix2 ⟨j.val * 704 + k.val, by omega⟩ (y 1))

/-- The residual and the product: the four blocks' parts summed. -/
def prod (a : Vec Ideal S4x2048x704 .bf16) (w : Vec Ideal S2816x1024 .bf16) (h : Vec Ideal S2048x1024 .f32) : Vec Ideal S2048x1024 .f32 := fun y =>
  h y + ∑ j : Fin 4, part a w j y

/-! ## One step -/

theorem zero2 : (![0, 0] : Fin 2 → ℕ) = fun _ => 0 := by decide

/-- One of the two blocks of activations a step reads. -/
def halfA (s : Fin 2) (x : Vec Ideal S2x1024x704 .bf16) : Vec Ideal S1x1024x704 .bf16 := fun y => x (ix3 s (y 1) (y 2))

/-- One of the two blocks of the weight a step reads. -/
def halfW (s : Fin 2) (x : Vec Ideal S2x704x512 .bf16) : Vec Ideal S1x704x512 .bf16 := fun y => x (ix3 s (y 1) (y 2))

theorem ld_halfA (s : Fin 2) (x : Vec Ideal S2x1024x704 .bf16) (inb) :
    View.ld x (Rect.unit ![s.val, 0, 0] ![1, 1024, 704] inb) = halfA s x := by
  funext y
  refine View.ld_unit_apply_of _ _ _ _ _ _ fun a => ?_
  have h0 : (y 0).val < 1 := (y 0).isLt
  match a with
  | 0 => show s.val = s.val + (y 0).val; omega
  | 1 => show (y 1).val = 0 + (y 1).val; omega
  | 2 => show (y 2).val = 0 + (y 2).val; omega

theorem ld_halfW (s : Fin 2) (x : Vec Ideal S2x704x512 .bf16) (inb) :
    View.ld x (Rect.unit ![s.val, 0, 0] ![1, 704, 512] inb) = halfW s x := by
  funext y
  refine View.ld_unit_apply_of _ _ _ _ _ _ fun a => ?_
  have h0 : (y 0).val < 1 := (y 0).isLt
  match a with
  | 0 => show s.val = s.val + (y 0).val; omega
  | 1 => show (y 1).val = 0 + (y 1).val; omega
  | 2 => show (y 2).val = 0 + (y 2).val; omega

theorem ld_a0 (x : Vec Ideal S2x1024x704 .bf16) (inb) :
    View.ld x (Rect.unit ![0, 0, 0] ![1, 1024, 704] inb) = halfA 0 x := ld_halfA 0 x inb
theorem ld_a1 (x : Vec Ideal S2x1024x704 .bf16) (inb) :
    View.ld x (Rect.unit ![1, 0, 0] ![1, 1024, 704] inb) = halfA 1 x := ld_halfA 1 x inb
theorem ld_w0 (x : Vec Ideal S2x704x512 .bf16) (inb) :
    View.ld x (Rect.unit ![0, 0, 0] ![1, 704, 512] inb) = halfW 0 x := ld_halfW 0 x inb
theorem ld_w1 (x : Vec Ideal S2x704x512 .bf16) (inb) :
    View.ld x (Rect.unit ![1, 0, 0] ![1, 704, 512] inb) = halfW 1 x := ld_halfW 1 x inb

/-- A step's two products, summed. -/
def both (x0 : Vec Ideal S2x1024x704 .bf16) (x1 : Vec Ideal S2x704x512 .bf16) : Vec Ideal S1024x512 .f32 := fun y =>
  (∑ k : Fin 704, x0 (ix3 0 (y 0) k) * x1 (ix3 0 k (y 1))) + ∑ k : Fin 704, x0 (ix3 1 (y 0) k) * x1 (ix3 1 k (y 1))

theorem pay1_eq (x0 : Vec Ideal S2x1024x704 .bf16) (x1 : Vec Ideal S2x704x512 .bf16) :
    k0_pay1 (halfA 0 x0) (halfW 0 x1) (halfA 1 x0) (halfW 1 x1) = both x0 x1 := by
  funext y
  idx_vars y
  unfold k0_pay1 halfA halfW both
  pointwise

section
variable (c : Dev nD) (i : grid0.Coords) (arg3 : Memref sig .tc .vmem S2x1024x704 .bf16) (harg3 : arg3.IsWhole) (arg4 : Memref sig .tc .vmem S2x704x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole)
variable (x0 : Vec Ideal S2x1024x704 .bf16) (x1 : Vec Ideal S2x704x512 .bf16) (x2 xs : Vec Ideal S1024x512 .f32)

/-- The first step leaves its products in the scratch; -/
theorem scr_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = both x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  simp (disch := decide) only [↓View.readCov_skip, ↓View.readCov_fill, View.readAt_eq_ld, harg3.read_unread, harg4.read_unread,
    harg5.read_unread, harg7.read_unread, ld_a0, ld_a1, ld_w0, ld_w1]
  rw [View.canon_unit_zero zero2]
  unfold k0_pay2
  rw [pay1_eq]
  funext y
  idx_vars y
  pointwise

/-- the second writes the sum of both, and the residual. -/
theorem out_B (hc0 : ¬cond0_0 i) (hc1 : ¬cond0_1 i) (hc2 : cond0_2 i) :
    out0_B_3 c i arg3 harg3 arg4 harg4 arg5 harg5 arg6 harg6 arg7 harg7 hc0 hc1 hc2 x0 x1 x2 xs = fun y => xs y + both x0 x1 y + x2 y := by
  unfold out0_B_3
  rw [View.read_writes_eq_canon _ _ _ (cover0_B_3 c i arg3 harg3 arg4 harg4 arg5 harg5 arg6 harg6 arg7 harg7 hc0 hc1 hc2 x0 x1 x2 xs)]
  unfold kernelRun0_B
  dsimp only
  sl_unfold_words
  simp (disch := decide) only [↓View.readCov_skip, ↓View.readCov_fill, View.readAt_eq_ld, harg3.read_unread, harg4.read_unread,
    harg5.read_unread, harg7.read_unread, ld_a0, ld_a1, ld_w0, ld_w1]
  rw [View.canon_unit_zero zero2, View.ld_unit_zero zero2, View.ld_unit_zero zero2]
  unfold k0_pay4
  rw [pay1_eq]
  funext y
  idx_vars y
  pointwise

end

/-! ## The two steps of one tile -/

section
variable (m : (ℓ : Loc nD τ sig) → Buf (Elt Ideal) ℓ) (c : Dev nD)

theorem t_lt (t : Fin cfg0.N) : t.val < 8 := t.isLt

theorem index0 : ∀ t : Fin cfg0.N, (cfg0.win 0).index t 0 = t.val % 2 ∧ (cfg0.win 0).index t 1 = t.val / 4 ∧ (cfg0.win 0).index t 2 = 0 := by decide +kernel

theorem index1 : ∀ t : Fin cfg0.N, (cfg0.win 1).index t 0 = t.val % 2 ∧ (cfg0.win 1).index t 1 = 0 ∧ (cfg0.win 1).index t 2 = t.val / 2 % 2 := by decide +kernel

theorem index2 : ∀ t : Fin cfg0.N, (cfg0.win 2).index t 0 = t.val / 4 ∧ (cfg0.win 2).index t 1 = t.val / 2 % 2 := by decide +kernel

theorem index3 : ∀ t : Fin cfg0.N, (cfg0.win 3).index t 0 = t.val / 4 ∧ (cfg0.win 3).index t 1 = t.val / 2 % 2 := by decide +kernel

theorem flush3 : ∀ t : Fin cfg0.N, (cfg0.win 3).flush t = true → t.val % 2 = 1 := by decide +kernel

/-- The kernel's second operand is the weight by blocks of features. -/
theorem weight_eq : V m c main_v0 = shapeCast S4x704x1024 (V m c main_arg1 : Vec Ideal S2816x1024 .bf16) shapeCasts_S2816x1024_S4x704x1024 := by
  rw [V_main_arg1]
  unfold_abbrev_sides
  after_results
  rfl

theorem blocks_apply (w : Vec Ideal S2816x1024 .bf16) (j : Fin 4) (k : Fin 704) (q : Fin 1024) :
    shapeCast S4x704x1024 w shapeCasts_S2816x1024_S4x704x1024 (ix3 j k q) = w (ix2 ⟨j.val * 704 + k.val, by omega⟩ q) := by
  pointwise

theorem weight_apply (j : Fin 4) (k : Fin 704) (q : Fin 1024) :
    V m c main_v0 (ix3 j k q) = V m c main_arg1 (ix2 ⟨j.val * 704 + k.val, by omega⟩ q) := by
  rw [weight_eq]
  exact blocks_apply _ j k q

/-- A tile's place in the whole. -/
def at2 (t : Fin cfg0.N) (y : S1024x512.Idx) : S2048x1024.Idx :=
  ix2 ⟨1024 * (t.val / 4) + (y 0).val, by have := t_lt t; have h : (y 0).val < 1024 := (y 0).isLt; omega⟩
    ⟨512 * (t.val / 2 % 2) + (y 1).val, by have h : (y 1).val < 512 := (y 1).isLt; omega⟩

theorem iblk0_eq (t : Fin cfg0.N) (s : Fin 2) (r : Fin 1024) (q : Fin 704) :
    iblk m c 0 t (ix3 s r q) = V m c main_arg0 (ix3 ⟨2 * (t.val % 2) + s.val, by omega⟩ ⟨1024 * (t.val / 4) + r.val, by have := t_lt t; omega⟩ q) := by
  obtain ⟨e0, e1, e2⟩ := index0 t
  blk_ext [iblk, e0, e1, e2]

theorem iblk1_eq (t : Fin cfg0.N) (s : Fin 2) (k : Fin 704) (q : Fin 512) :
    iblk m c 1 t (ix3 s k q) = V m c main_v0 (ix3 ⟨2 * (t.val % 2) + s.val, by omega⟩ k ⟨512 * (t.val / 2 % 2) + q.val, by omega⟩) := by
  obtain ⟨e0, e1, e2⟩ := index1 t
  blk_ext [iblk, e0, e1, e2]

theorem iblk2_eq (t : Fin cfg0.N) (y : S1024x512.Idx) : iblk m c 2 t y = V m c main_arg2 (at2 t y) := by
  obtain ⟨e0, e1⟩ := index2 t
  idx_vars y
  unfold at2
  blk_ext [iblk, e0, e1]

/-- A step's products are two of the four parts. -/
theorem both_eq (t : Fin cfg0.N) (y : S1024x512.Idx) :
    both (iblk m c 0 t) (iblk m c 1 t) y
      = part (V m c main_arg0) (V m c main_arg1) ⟨2 * (t.val % 2), by omega⟩ (at2 t y)
        + part (V m c main_arg0) (V m c main_arg1) ⟨2 * (t.val % 2) + 1, by omega⟩ (at2 t y) := by
  unfold both part
  refine congrArg₂ (· + ·) (Finset.sum_congr rfl fun k _ => ?_) (Finset.sum_congr rfl fun k _ => ?_)
  · exact congrArg₂ (· * ·) (iblk0_eq m c t 0 (y 0) k) ((iblk1_eq m c t 0 k (y 1)).trans (weight_apply m c _ _ _))
  · exact congrArg₂ (· * ·) (iblk0_eq m c t 1 (y 0) k) ((iblk1_eq m c t 1 k (y 1)).trans (weight_apply m c _ _ _))

theorem scr_first (t : Fin cfg0.N) (h : t.val % 2 = 0) :
    (outsAt0 m c t.val t.isLt).2 = both (iblk m c 0 t) (iblk m c 1 t) := by
  rw [outsAt0_A m c t h (by omega)]
  dsimp only
  rw [scr_A]

theorem out_last (t : Fin cfg0.N) (h : t.val % 2 = 1) :
    (outsAt0 m c t.val t.isLt).1 = fun y => (outsAt0 m c (t.val - 1) (Nat.lt_of_le_of_lt (Nat.sub_le _ _) t.isLt)).2 y + both (iblk m c 0 t) (iblk m c 1 t) y
      + iblk m c 2 t y := by
  rw [outsAt0_B m c t (by omega) h]
  dsimp only
  rw [out_B]

/-- The second step's result is the residual and all four parts. -/
theorem out_eq (t : Fin cfg0.N) (h : t.val % 2 = 1) (y : S1024x512.Idx) :
    (outsAt0 m c t.val t.isLt).1 y = prod (V m c main_arg0) (V m c main_arg1) (V m c main_arg2) (at2 t y) := by
  have hN := t_lt t
  have h1 : t.val - 1 < cfg0.N := lt_of_le_of_lt (Nat.sub_le _ _) t.isLt
  have e1 := congrFun (scr_first m c ⟨t.val - 1, h1⟩ (by dsimp only; omega)) y
  dsimp only at e1
  rw [out_last m c t h]
  dsimp only
  rw [e1, both_eq, both_eq, iblk2_eq]
  have f (u : ℕ) (hu : u < cfg0.N) (hd : u / 2 = t.val / 2) : at2 ⟨u, hu⟩ y = at2 t y := by
    unfold at2
    congr 2
    · show 1024 * (u / 4) + _ = _; omega
    · show 512 * (u / 2 % 2) + _ = _; omega
  rw [f _ h1 (by omega)]
  unfold prod
  rw [Fin.sum_univ_four]
  have g (u : ℕ) (a : Fin 4) (hu : u = a.val) (hl : u < 4) : (⟨u, hl⟩ : Fin 4) = a := Fin.ext hu
  rw [g (2 * (t.val % 2)) 2 (by show _ = 2; omega), g (2 * (t.val % 2) + 1) 3 (by show _ = 3; omega)]
  dsimp only
  rw [g (2 * ((t.val - 1) % 2)) 0 (by show _ = 0; omega), g (2 * ((t.val - 1) % 2) + 1) 1 (by show _ = 1; omega)]
  rw [add_comm]
  simp only [add_assoc]

theorem arr : (dats m 0 c).arrAt 3 cfg0.N
    = prod (V m c main_arg0) (V m c main_arg1) (V m c main_arg2) := by
  refine (dats m 0 c).arrAt_eq_of_covers 3 _ (by decide +kernel) fun t hf y => ?_
  obtain ⟨e0, e1⟩ := index3 t
  blk_simp
  rw [after0_3]
  refine (out_eq m c t (flush3 t hf) y).trans (congrArg _ ?_)
  idx_vars y
  unfold at2
  blk_ext [e0, e1]

end

/-- The reference's result is the same sum. -/
theorem ref_eq (a : Vec Ideal S4x2048x704 .bf16) (w : Vec Ideal S2816x1024 .bf16) (h : Vec Ideal S2048x1024 .f32) :
    Cert.Reference7Ideal.Read.val_main_v4 (F := Ideal) a w h = prod a w h := by
  funext y
  idx_vars y
  unfold Cert.Reference7Ideal.Read.val_main_v4 Cert.Reference7Ideal.Read.val_main_v3 Cert.Reference7Ideal.Read.val_main_v2 Cert.Reference7Ideal.Read.val_main_v1 Cert.Reference7Ideal.Read.val_main_v0 prod part
  pointwise

/-! ## The claims -/

theorem frame_reference : Cert.quiescent_Reference7Ideal := fun m g _ =>
  (θ_run (Cert.Reference7Ideal.defs (F := Ideal)) _ _).mono
    (fun r h => ⟨fun c => (h c).2, sem_eq_zero_of_no_sems (by decide) r.2⟩)
    (Cert.Reference7Ideal.Value.run (F := Ideal) m g)

theorem algebraic : Cert.algebraic_Kernel7Ideal_Reference7Ideal := by
  intro m g m' g' _ hargs
  refine ⟨fun c => prod (V m c main_arg0) (V m c main_arg1) (V m c main_arg2), ?_, ?_⟩
  · refine (θ_run _ _ _).mono (fun r h c => ?_) (Cert.Kernel7Ideal.Value.run_blocks m g)
    obtain ⟨h0, hk⟩ := h c
    exact ⟨h0.trans (arr m c), hk⟩
  · refine (θ_run _ _ _).mono (fun r h c => ?_) (Cert.Reference7Ideal.Value.run m' g')
    obtain ⟨h0, hk⟩ := h c
    rw [Cert.Reference7Ideal.Read.val_main_v4_eq, (hargs c).1, (hargs c).2.1, (hargs c).2.2, ← V_main_arg0 m c, ← V_main_arg1 m c, ← V_main_arg2 m c] at h0
    exact ⟨h0.trans (ref_eq _ _ _), hk⟩

end Cert.Down

end
-- ==== Proof.DWUp.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Quiescent

@[expose] public section

/-! # The up-projection's gradient, of its weight

The grid has the eight blocks of 704 features; a step is one product over all 2048 rows. The blocks of even number come first. -/

set_option maxRecDepth 16384

noncomputable section

namespace Cert.DWUp

open Cert.Kernel6Ideal Cert.Kernel6Ideal.Gen Idealize.ShloMosaic Idealize.ShloMosaic.Tactic Idealize.SL.Sem

/-- The left factor's transpose times the cotangent, in blocks of features. -/
def grad (x : Vec Ideal S2048x1024 .bf16) (d : Vec Ideal S2x4x2048x704 .bf16) : Vec Ideal S2x4x1024x704 .bf16 := fun y =>
  ∑ k : Fin 2048, x (ix2 k (y 2)) * d (ix4 ⟨(y 1).val / 2, by
    have h1 : (y 1).val < 4 := (y 1).isLt
    omega⟩ ⟨((y 1).val * 2 + (y 0).val) % 4, by omega⟩ k (y 3))

section
variable (m : (ℓ : Loc nD τ sig) → Buf (Elt Ideal) ℓ) (c : Dev nD)

theorem t_lt (t : Fin cfg0.N) : t.val < 8 := t.isLt

theorem index0 : ∀ t : Fin cfg0.N, (cfg0.win 0).index t 0 = 0 ∧ (cfg0.win 0).index t 1 = 0 := by decide +kernel

theorem index1 : ∀ t : Fin cfg0.N, (cfg0.win 1).index t 0 = t.val / 4 ∧ (cfg0.win 1).index t 1 = t.val % 4 ∧ (cfg0.win 1).index t 2 = 0 ∧ (cfg0.win 1).index t 3 = 0 := by decide +kernel

theorem index2 : ∀ t : Fin cfg0.N, (cfg0.win 2).index t 0 = t.val % 2 ∧ (cfg0.win 2).index t 1 = t.val / 2 ∧ (cfg0.win 2).index t 2 = 0 ∧ (cfg0.win 2).index t 3 = 0 := by decide +kernel

theorem iblk0_eq (t : Fin cfg0.N) (r : Fin 2048) (k : Fin 1024) : iblk m c 0 t (ix2 r k) = V m c main_arg0 (ix2 r k) := by
  obtain ⟨e0, e1⟩ := index0 t
  blk_ext [iblk, e0, e1]

theorem iblk1_eq (t : Fin cfg0.N) (r : Fin 2048) (q : Fin 704) :
    iblk m c 1 t (ix4 0 0 r q) = V m c main_arg1 (ix4 ⟨t.val / 4, by have := t_lt t; omega⟩ ⟨t.val % 4, by omega⟩ r q) := by
  obtain ⟨e0, e1, e2, e3⟩ := index1 t
  blk_ext [iblk, e0, e1, e2, e3]

theorem zero2 : (![0, 0] : Fin 2 → ℕ) = fun _ => 0 := by decide

theorem zero4 : (![0, 0, 0, 0] : Fin 4 → ℕ) = fun _ => 0 := by decide

/-- A step's result is the product of its two blocks, the first transposed. -/
theorem out_apply (x0 : Vec Ideal S2048x1024 .bf16) (x1 : Vec Ideal S1x1x2048x704 .bf16) (r : Fin 1024) (q : Fin 704) :
    out0_2 x0 x1 (ix4 0 0 r q) = ∑ k : Fin 2048, x0 (ix2 k r) * x1 (ix4 0 0 k q) := by
  unfold out0_2 r0_0 r0_1 r0_2
  rw [View.canon_unit_zero zero4, View.ld_unit_zero zero2, View.ld_unit_zero zero4]
  unfold k0_pay1
  pointwise

theorem arr : (dats m 0 c).arrAt 2 cfg0.N = grad (V m c main_arg0) (V m c main_arg1) := by
  refine (dats m 0 c).arrAt_eq_of_covers 2 _ (by decide +kernel) fun t hf y => ?_
  obtain ⟨e0, e1, e2, e3⟩ := index2 t
  blk_simp
  rw [after0_2]
  idx_vars y
  obtain rfl : y0 = 0 := Subsingleton.elim _ _
  obtain rfl : y1 = 0 := Subsingleton.elim _ _
  refine (out_apply _ _ _ _).trans ?_
  unfold grad
  refine Finset.sum_congr rfl fun k _ => ?_
  rw [iblk0_eq, iblk1_eq]
  congr 2
  · blk_ext [e0, e1, e2, e3]
  · blk_ext [e0, e1, e2, e3]

end

/-- The reference's result is the same sum. -/
theorem ref_eq (x : Vec Ideal S2048x1024 .bf16) (d : Vec Ideal S2x4x2048x704 .bf16) :
    Cert.Reference6Ideal.Read.val_main_v12 (F := Ideal) x d = grad x d := by
  funext y
  idx_vars y
  unfold Cert.Reference6Ideal.Read.val_main_v12 Cert.Reference6Ideal.Read.val_main_v11 Cert.Reference6Ideal.Read.val_main_v10 Cert.Reference6Ideal.Read.val_main_v9 Cert.Reference6Ideal.Read.val_main_v8 Cert.Reference6Ideal.Read.val_main_v7 Cert.Reference6Ideal.Read.val_main_v6 Cert.Reference6Ideal.Read.val_main_v5 Cert.Reference6Ideal.Read.val_main_v0 grad
  pointwise
  refine Finset.sum_congr rfl fun k _ => ?_
  rw [mul_comm]
  congr 3
  exact Fin.ext (by show (y1.val * 2 + y0.val) / 4 = y1.val / 2; omega)

/-! ## The claims -/

theorem frame_reference : Cert.quiescent_Reference6Ideal := fun m g _ =>
  (θ_run (Cert.Reference6Ideal.defs (F := Ideal)) _ _).mono
    (fun r h => ⟨fun c => (h c).2, sem_eq_zero_of_no_sems (by decide) r.2⟩)
    (Cert.Reference6Ideal.Value.run (F := Ideal) m g)

theorem algebraic : Cert.algebraic_Kernel6Ideal_Reference6Ideal := by
  intro m g m' g' _ hargs
  refine ⟨fun c => grad (V m c main_arg0) (V m c main_arg1), ?_, ?_⟩
  · refine (θ_run _ _ _).mono (fun r h c => ?_) (Cert.Kernel6Ideal.Value.run_blocks m g)
    obtain ⟨h0, hk⟩ := h c
    exact ⟨h0.trans (arr m c), hk⟩
  · refine (θ_run _ _ _).mono (fun r h c => ?_) (Cert.Reference6Ideal.Value.run m' g')
    obtain ⟨h0, hk⟩ := h c
    rw [Cert.Reference6Ideal.Read.val_main_v12_eq, (hargs c).1, (hargs c).2] at h0
    exact ⟨h0.trans (ref_eq _ _), hk⟩

end Cert.DWUp

end
-- ==== Proof.Up.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Quiescent

@[expose] public section

/-! # The up-projection

The grid has two tiles of 1024 rows by eight blocks of 704 features; a step is one product over all 1024 columns. -/

set_option maxRecDepth 16384

noncomputable section

namespace Cert.Up

open Cert.Kernel5Ideal Cert.Kernel5Ideal.Gen Idealize.ShloMosaic Idealize.ShloMosaic.Tactic Idealize.SL.Sem

/-- The product, in blocks of features. -/
def prod (x : Vec Ideal S2048x1024 .bf16) (w : Vec Ideal S8x1024x704 .bf16) : Vec Ideal S2x4x2048x704 .f32 := fun y =>
  ∑ k : Fin 1024, x (ix2 (y 2) k) * w (ix3 ⟨(y 0).val * 4 + (y 1).val, by
    have h0 : (y 0).val < 2 := (y 0).isLt
    have h1 : (y 1).val < 4 := (y 1).isLt
    omega⟩ k (y 3))

section
variable (m : (ℓ : Loc nD τ sig) → Buf (Elt Ideal) ℓ) (c : Dev nD)

theorem t_lt (t : Fin cfg0.N) : t.val < 16 := t.isLt

theorem index0 : ∀ t : Fin cfg0.N, (cfg0.win 0).index t 0 = t.val / 8 ∧ (cfg0.win 0).index t 1 = 0 := by decide +kernel

theorem index1 : ∀ t : Fin cfg0.N, (cfg0.win 1).index t 0 = t.val % 8 ∧ (cfg0.win 1).index t 1 = 0 ∧ (cfg0.win 1).index t 2 = 0 := by decide +kernel

theorem index2 : ∀ t : Fin cfg0.N, (cfg0.win 2).index t 0 = t.val % 8 / 4 ∧ (cfg0.win 2).index t 1 = t.val % 4 ∧ (cfg0.win 2).index t 2 = t.val / 8 ∧ (cfg0.win 2).index t 3 = 0 := by decide +kernel

theorem iblk0_eq (t : Fin cfg0.N) (r k : Fin 1024) :
    iblk m c 0 t (ix2 r k) = V m c main_arg0 (ix2 ⟨1024 * (t.val / 8) + r.val, by have := t_lt t; omega⟩ k) := by
  obtain ⟨e0, e1⟩ := index0 t
  blk_ext [iblk, e0, e1]

theorem iblk1_eq (t : Fin cfg0.N) (k : Fin 1024) (q : Fin 704) :
    iblk m c 1 t (ix3 0 k q) = V m c main_arg1 (ix3 ⟨t.val % 8, by omega⟩ k q) := by
  obtain ⟨e0, e1, e2⟩ := index1 t
  blk_ext [iblk, e0, e1, e2]

theorem zero2 : (![0, 0] : Fin 2 → ℕ) = fun _ => 0 := by decide

theorem zero3 : (![0, 0, 0] : Fin 3 → ℕ) = fun _ => 0 := by decide

theorem zero4 : (![0, 0, 0, 0] : Fin 4 → ℕ) = fun _ => 0 := by decide

/-- A step's result is the product of its two blocks. -/
theorem out_apply (x0 : Vec Ideal S1024x1024 .bf16) (x1 : Vec Ideal S1x1024x704 .bf16) (r : Fin 1024) (q : Fin 704) :
    out0_2 x0 x1 (ix4 0 0 r q) = ∑ k : Fin 1024, x0 (ix2 r k) * x1 (ix3 0 k q) := by
  unfold out0_2 r0_0 r0_1 r0_2
  rw [View.canon_unit_zero zero4, View.ld_unit_zero zero2, View.ld_unit_zero zero3]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1, e2, e3⟩ := index2 t
  blk_simp
  rw [after0_2]
  idx_vars y
  obtain rfl : y0 = 0 := Subsingleton.elim _ _
  obtain rfl : y1 = 0 := Subsingleton.elim _ _
  refine (out_apply _ _ _ _).trans ?_
  unfold prod
  refine Finset.sum_congr rfl fun k _ => ?_
  rw [iblk0_eq, iblk1_eq]
  congr 2
  · blk_ext [e0, e1, e2, e3]
  · blk_ext [e0, e1, e2, e3]

end

/-- The reference's result is the same sum. -/
theorem ref_eq (x : Vec Ideal S2048x1024 .bf16) (w : Vec Ideal S8x1024x704 .bf16) :
    Cert.Reference5Ideal.Read.val_main_v4 (F := Ideal) x w = prod x w := by
  funext y
  idx_vars y
  unfold Cert.Reference5Ideal.Read.val_main_v4 Cert.Reference5Ideal.Read.val_main_v3 Cert.Reference5Ideal.Read.val_main_v2 Cert.Reference5Ideal.Read.val_main_v1 Cert.Reference5Ideal.Read.val_main_v0 prod
  pointwise
  exact Finset.sum_congr rfl fun k _ => mul_comm _ _

/-! ## The claims -/

theorem frame_reference : Cert.quiescent_Reference5Ideal := fun m g _ =>
  (θ_run (Cert.Reference5Ideal.defs (F := Ideal)) _ _).mono
    (fun r h => ⟨fun c => (h c).2, sem_eq_zero_of_no_sems (by decide) r.2⟩)
    (Cert.Reference5Ideal.Value.run (F := Ideal) m g)

theorem algebraic : Cert.algebraic_Kernel5Ideal_Reference5Ideal := by
  intro m g m' g' _ hargs
  refine ⟨fun c => prod (V m c main_arg0) (V m c main_arg1), ?_, ?_⟩
  · refine (θ_run _ _ _).mono (fun r h c => ?_) (Cert.Kernel5Ideal.Value.run_blocks m g)
    obtain ⟨h0, hk⟩ := h c
    exact ⟨h0.trans (arr m c), hk⟩
  · refine (θ_run _ _ _).mono (fun r h c => ?_) (Cert.Reference5Ideal.Value.run m' g')
    obtain ⟨h0, hk⟩ := h c
    rw [Cert.Reference5Ideal.Read.val_main_v4_eq, (hargs c).1, (hargs c).2] at h0
    exact ⟨h0.trans (ref_eq _ _), hk⟩

end Cert.Up

end
-- ==== Proof.DHn.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ValueKit.Tiles
public import Idealize.ShloMosaic.Lib.Pipeline.ReadBack
public import Idealize.ShloMosaic.Lib.Pointwise
public import Idealize.ShloMosaic.Lib.Quiescent

@[expose] public section

/-! # The up-projection's gradient, of its input

The grid has two tiles of 1024 rows by two blocks of 512 columns; over each the product is summed in four steps, each over two
parts of 704 features. The first three steps' sum is kept in a scratch; the fourth writes the whole sum. -/

set_option maxRecDepth 16384

noncomputable section

namespace Cert.DHn

open Cert.Kernel4Ideal Cert.Kernel4Ideal.Gen Idealize.ShloMosaic Idealize.ShloMosaic.Tactic Idealize.SL.Sem

/-- The part of the gradient from the features' block `j`. -/
def part (d : Vec Ideal S2x4x2048x704 .bf16) (w : Vec Ideal S8x1024x704 .bf16) (j : Fin 8) (y : S2048x1024.Idx) : EReal :=
  ∑ k : Fin 704, d (ix4 ⟨j.val / 4, by omega⟩ ⟨j.val % 4, by omega⟩ (y 0) k) * w (ix3 j (y 1) k)

/-- The gradient: the eight blocks' parts summed. -/
def grad (w : Vec Ideal S8x1024x704 .bf16) (d : Vec Ideal S2x4x2048x704 .bf16) : Vec Ideal S2048x1024 .f32 := fun y =>
  ∑ j : Fin 8, part d w j y

/-! ## One step -/

theorem zero2 : (![0, 0] : Fin 2 → ℕ) = fun _ => 0 := by decide

/-- One of the two parts of a block of the cotangent. -/
def halfD (s : Fin 2) (x : Vec Ideal S1x2x1024x704 .bf16) : Vec Ideal S1x1x1024x704 .bf16 := fun y => x (ix4 0 s (y 2) (y 3))

/-- One of the two parts of a block of the weight. -/
def halfW (s : Fin 2) (x : Vec Ideal S2x512x704 .bf16) : Vec Ideal S1x512x704 .bf16 := fun y => x (ix3 s (y 1) (y 2))

theorem ld_halfD (s : Fin 2) (x : Vec Ideal S1x2x1024x704 .bf16) (inb) :
    View.ld x (Rect.unit ![0, s.val, 0, 0] ![1, 1, 1024, 704] inb) = halfD s x := by
  funext y
  refine View.ld_unit_apply_of _ _ _ _ _ _ fun a => ?_
  have h0 : (y 0).val < 1 := (y 0).isLt
  have h1 : (y 1).val < 1 := (y 1).isLt
  match a with
  | 0 => show 0 = 0 + (y 0).val; omega
  | 1 => show s.val = s.val + (y 1).val; omega
  | 2 => show (y 2).val = 0 + (y 2).val; omega
  | 3 => show (y 3).val = 0 + (y 3).val; omega

theorem ld_halfW (s : Fin 2) (x : Vec Ideal S2x512x704 .bf16) (inb) :
    View.ld x (Rect.unit ![s.val, 0, 0] ![1, 512, 704] inb) = halfW s x := by
  funext y
  refine View.ld_unit_apply_of _ _ _ _ _ _ fun a => ?_
  have h0 : (y 0).val < 1 := (y 0).isLt
  match a with
  | 0 => show s.val = s.val + (y 0).val; omega
  | 1 => show (y 1).val = 0 + (y 1).val; omega
  | 2 => show (y 2).val = 0 + (y 2).val; omega

theorem ld_d0 (x : Vec Ideal S1x2x1024x704 .bf16) (inb) :
    View.ld x (Rect.unit ![0, 0, 0, 0] ![1, 1, 1024, 704] inb) = halfD 0 x := ld_halfD 0 x inb
theorem ld_d1 (x : Vec Ideal S1x2x1024x704 .bf16) (inb) :
    View.ld x (Rect.unit ![0, 1, 0, 0] ![1, 1, 1024, 704] inb) = halfD 1 x := ld_halfD 1 x inb
theorem ld_w0 (x : Vec Ideal S2x512x704 .bf16) (inb) :
    View.ld x (Rect.unit ![0, 0, 0] ![1, 512, 704] inb) = halfW 0 x := ld_halfW 0 x inb
theorem ld_w1 (x : Vec Ideal S2x512x704 .bf16) (inb) :
    View.ld x (Rect.unit ![1, 0, 0] ![1, 512, 704] inb) = halfW 1 x := ld_halfW 1 x inb

/-- A step's two products, summed. -/
def both (x0 : Vec Ideal S1x2x1024x704 .bf16) (x1 : Vec Ideal S2x512x704 .bf16) : Vec Ideal S1024x512 .f32 := fun y =>
  (∑ k : Fin 704, x0 (ix4 0 0 (y 0) k) * x1 (ix3 0 (y 1) k)) + ∑ k : Fin 704, x0 (ix4 0 1 (y 0) k) * x1 (ix3 1 (y 1) k)

theorem pay1_eq (x0 : Vec Ideal S1x2x1024x704 .bf16) (x1 : Vec Ideal S2x512x704 .bf16) :
    k0_pay1 (halfD 0 x0) (halfW 0 x1) (halfD 1 x0) (halfW 1 x1) = both x0 x1 := by
  funext y
  idx_vars y
  unfold k0_pay1 halfD halfW both
  pointwise

section
variable (c : Dev nD) (i : grid0.Coords) (arg3 : Memref sig .tc .vmem S1x2x1024x704 .bf16) (harg3 : arg3.IsWhole) (arg4 : Memref sig .tc .vmem S2x512x704 .bf16) (harg4 : arg4.IsWhole) (arg5 : Memref sig .tc .vmem S1024x512 .f32) (harg5 : arg5.IsWhole) (arg6 : Memref sig .tc .vmem S1024x512 .f32) (harg6 : arg6.IsWhole)
variable (x0 : Vec Ideal S1x2x1024x704 .bf16) (x1 : Vec Ideal S2x512x704 .bf16) (xs : Vec Ideal S1024x512 .f32)

/-- The first step leaves its products in the scratch; -/
theorem scr_A (hc0 : cond0_0 i) (hc1 : ¬cond0_1 i) (hc2 : ¬cond0_2 i) :
    sout0_A_0 c i arg3 harg3 arg4 harg4 arg5 harg5 arg6 harg6 hc0 hc1 hc2 x0 x1 = both x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp (disch := decide) only [↓View.readCov_skip, ↓View.readCov_fill, View.readAt_eq_ld, harg3.read_unread, harg4.read_unread,
    harg6.read_unread, ld_d0, ld_d1, ld_w0, ld_w1]
  rw [View.canon_unit_zero zero2]
  unfold k0_pay2
  rw [pay1_eq]
  funext y
  idx_vars y
  pointwise

/-- a later one adds its own to them; -/
theorem scr_B (hc0 : ¬cond0_0 i) (hc1 : cond0_1 i) (hc2 : ¬cond0_2 i) :
    sout0_B_0 c i arg3 harg3 arg4 harg4 arg5 harg5 arg6 harg6 hc0 hc1 hc2 x0 x1 xs = fun y => xs y + both x0 x1 y := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  simp (disch := decide) only [↓View.readCov_skip, ↓View.readCov_fill, View.readAt_eq_ld, harg3.read_unread, harg4.read_unread,
    harg6.read_unread, ld_d0, ld_d1, ld_w0, ld_w1]
  rw [View.canon_unit_zero zero2, View.ld_unit_zero zero2]
  unfold k0_pay3
  rw [pay1_eq]
  funext y
  idx_vars y
  pointwise

/-- the last writes the sum. -/
theorem out_C (hc0 : ¬cond0_0 i) (hc1 : ¬cond0_1 i) (hc2 : cond0_2 i) :
    out0_C_2 c i arg3 harg3 arg4 harg4 arg5 harg5 arg6 harg6 hc0 hc1 hc2 x0 x1 xs = fun y => xs y + both x0 x1 y := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  simp (disch := decide) only [↓View.readCov_skip, ↓View.readCov_fill, View.readAt_eq_ld, harg3.read_unread, harg4.read_unread,
    harg6.read_unread, ld_d0, ld_d1, ld_w0, ld_w1]
  rw [View.canon_unit_zero zero2, View.ld_unit_zero zero2]
  unfold k0_pay4
  rw [pay1_eq]
  funext y
  idx_vars y
  pointwise

end

/-! ## The four steps of one tile -/

section
variable (m : (ℓ : Loc nD τ sig) → Buf (Elt Ideal) ℓ) (c : Dev nD)

theorem t_lt (t : Fin cfg0.N) : t.val < 16 := t.isLt

theorem index0 : ∀ t : Fin cfg0.N, (cfg0.win 0).index t 0 = t.val % 4 / 2 ∧ (cfg0.win 0).index t 1 = t.val % 2 ∧ (cfg0.win 0).index t 2 = t.val / 8 ∧ (cfg0.win 0).index t 3 = 0 := by decide +kernel

theorem index1 : ∀ t : Fin cfg0.N, (cfg0.win 1).index t 0 = t.val % 4 ∧ (cfg0.win 1).index t 1 = t.val / 4 % 2 ∧ (cfg0.win 1).index t 2 = 0 := by decide +kernel

theorem index2 : ∀ t : Fin cfg0.N, (cfg0.win 2).index t 0 = t.val / 8 ∧ (cfg0.win 2).index t 1 = t.val / 4 % 2 := by decide +kernel

theorem flush2 : ∀ t : Fin cfg0.N, (cfg0.win 2).flush t = true → t.val % 4 = 3 := by decide +kernel

theorem iblk0_eq (t : Fin cfg0.N) (s : Fin 2) (r : Fin 1024) (q : Fin 704) :
    iblk m c 0 t (ix4 0 s r q) = V m c main_arg1 (ix4 ⟨(2 * (t.val % 4) + s.val) / 4, by omega⟩ ⟨(2 * (t.val % 4) + s.val) % 4, by omega⟩
      ⟨1024 * (t.val / 8) + r.val, by have := t_lt t; omega⟩ q) := by
  obtain ⟨e0, e1, e2, e3⟩ := index0 t
  blk_ext [iblk, e0, e1, e2, e3]

theorem iblk1_eq (t : Fin cfg0.N) (s : Fin 2) (r : Fin 512) (q : Fin 704) :
    iblk m c 1 t (ix3 s r q) = V m c main_arg0 (ix3 ⟨2 * (t.val % 4) + s.val, by omega⟩ ⟨512 * (t.val / 4 % 2) + r.val, by omega⟩ q) := by
  obtain ⟨e0, e1, e2⟩ := index1 t
  blk_ext [iblk, e0, e1, e2]

/-- A tile's place in the whole. -/
def at2 (t : Fin cfg0.N) (y : S1024x512.Idx) : S2048x1024.Idx :=
  ix2 ⟨1024 * (t.val / 8) + (y 0).val, by have := t_lt t; have h : (y 0).val < 1024 := (y 0).isLt; omega⟩
    ⟨512 * (t.val / 4 % 2) + (y 1).val, by have h : (y 1).val < 512 := (y 1).isLt; omega⟩

/-- A step's products are two of the eight parts. -/
theorem both_eq (t : Fin cfg0.N) (y : S1024x512.Idx) :
    both (iblk m c 0 t) (iblk m c 1 t) y
      = part (V m c main_arg1) (V m c main_arg0) ⟨2 * (t.val % 4), by omega⟩ (at2 t y)
        + part (V m c main_arg1) (V m c main_arg0) ⟨2 * (t.val % 4) + 1, by omega⟩ (at2 t y) := by
  unfold both part
  refine congrArg₂ (· + ·) (Finset.sum_congr rfl fun k _ => ?_) (Finset.sum_congr rfl fun k _ => ?_)
  · exact congrArg₂ (· * ·) (iblk0_eq m c t 0 (y 0) k) (iblk1_eq m c t 0 (y 1) k)
  · exact congrArg₂ (· * ·) (iblk0_eq m c t 1 (y 0) k) (iblk1_eq m c t 1 (y 1) k)

theorem scr_first (t : Fin cfg0.N) (h : t.val % 4 = 0) :
    (outsAt0 m c t.val t.isLt).2 = both (iblk m c 0 t) (iblk m c 1 t) := by
  rw [outsAt0_A m c t h (by omega) (by omega)]
  dsimp only
  rw [scr_A]

theorem scr_next (t : Fin cfg0.N) (h : 1 ≤ t.val % 4 ∧ t.val % 4 ≤ 2) :
    (outsAt0 m c t.val t.isLt).2 = fun y => (outsAt0 m c (t.val - 1) (Nat.lt_of_le_of_lt (Nat.sub_le _ _) t.isLt)).2 y + both (iblk m c 0 t) (iblk m c 1 t) y := by
  rw [outsAt0_B m c t (by omega) h (by omega)]
  dsimp only
  rw [scr_B]

theorem out_last (t : Fin cfg0.N) (h : t.val % 4 = 3) :
    (outsAt0 m c t.val t.isLt).1 = fun y => (outsAt0 m c (t.val - 1) (Nat.lt_of_le_of_lt (Nat.sub_le _ _) t.isLt)).2 y + both (iblk m c 0 t) (iblk m c 1 t) y := by
  rw [outsAt0_C m c t (by omega) (by omega) h]
  dsimp only
  rw [out_C]

/-- The last step's result is all eight parts. -/
theorem out_eq (t : Fin cfg0.N) (h : t.val % 4 = 3) (y : S1024x512.Idx) :
    (outsAt0 m c t.val t.isLt).1 y = grad (V m c main_arg0) (V m c main_arg1) (at2 t y) := by
  have hN := t_lt t
  have h1 : t.val - 1 < cfg0.N := lt_of_le_of_lt (Nat.sub_le _ _) t.isLt
  have h2 : t.val - 1 - 1 < cfg0.N := lt_of_le_of_lt (Nat.sub_le _ _) h1
  have h3 : t.val - 1 - 1 - 1 < cfg0.N := lt_of_le_of_lt (Nat.sub_le _ _) h2
  have e1 := congrFun (scr_next m c ⟨t.val - 1, h1⟩ (by dsimp only; omega)) y
  have e2 := congrFun (scr_next m c ⟨t.val - 1 - 1, h2⟩ (by dsimp only; omega)) y
  have e3 := congrFun (scr_first m c ⟨t.val - 1 - 1 - 1, h3⟩ (by dsimp only; omega)) y
  dsimp only at e1 e2 e3
  rw [out_last m c t h]
  dsimp only
  rw [e1, e2, e3, both_eq, both_eq, both_eq, both_eq]
  have f (u : ℕ) (hu : u < cfg0.N) (hd : u / 4 = t.val / 4) : at2 ⟨u, hu⟩ y = at2 t y := by
    unfold at2
    congr 2
    · show 1024 * (u / 8) + _ = _; omega
    · show 512 * (u / 4 % 2) + _ = _; omega
  rw [f _ h1 (by omega), f _ h2 (by omega), f _ h3 (by omega)]
  unfold grad
  rw [Fin.sum_univ_eight]
  have g (u : ℕ) (a : Fin 8) (hu : u = a.val) (hl : u < 8) : (⟨u, hl⟩ : Fin 8) = a := Fin.ext hu
  rw [g (2 * (t.val % 4)) 6 (by show _ = 6; omega), g (2 * (t.val % 4) + 1) 7 (by show _ = 7; omega)]
  dsimp only
  rw [g (2 * ((t.val - 1) % 4)) 4 (by show _ = 4; omega), g (2 * ((t.val - 1) % 4) + 1) 5 (by show _ = 5; omega),
    g (2 * ((t.val - 1 - 1) % 4)) 2 (by show _ = 2; omega), g (2 * ((t.val - 1 - 1) % 4) + 1) 3 (by show _ = 3; omega),
    g (2 * ((t.val - 1 - 1 - 1) % 4)) 0 (by show _ = 0; omega), g (2 * ((t.val - 1 - 1 - 1) % 4) + 1) 1 (by show _ = 1; omega)]
  simp only [add_assoc]

theorem arr : (dats m 0 c).arrAt 2 cfg0.N = grad (V m c main_arg0) (V m c main_arg1) := by
  refine (dats m 0 c).arrAt_eq_of_covers 2 _ (by decide +kernel) fun t hf y => ?_
  obtain ⟨e0, e1⟩ := index2 t
  blk_simp
  rw [after0_2]
  refine (out_eq m c t (flush2 t hf) y).trans (congrArg _ ?_)
  idx_vars y
  unfold at2
  blk_ext [e0, e1]

end

/-- The reference's result is the same sum. -/
theorem ref_eq (w : Vec Ideal S8x1024x704 .bf16) (d : Vec Ideal S2x4x2048x704 .bf16) :
    Cert.Reference4Ideal.Read.val_main_v8 (F := Ideal) w d = grad w d := by
  funext y
  idx_vars y
  unfold Cert.Reference4Ideal.Read.val_main_v8 Cert.Reference4Ideal.Read.val_main_v7 Cert.Reference4Ideal.Read.val_main_v6 Cert.Reference4Ideal.Read.val_main_v5 Cert.Reference4Ideal.Read.val_main_v0 grad part
  pointwise

/-! ## The claims -/

theorem frame_reference : Cert.quiescent_Reference4Ideal := fun m g _ =>
  (θ_run (Cert.Reference4Ideal.defs (F := Ideal)) _ _).mono
    (fun r h => ⟨fun c => (h c).2, sem_eq_zero_of_no_sems (by decide) r.2⟩)
    (Cert.Reference4Ideal.Value.run (F := Ideal) m g)

theorem algebraic : Cert.algebraic_Kernel4Ideal_Reference4Ideal := by
  intro m g m' g' _ hargs
  refine ⟨fun c => grad (V m c main_arg0) (V m c main_arg1), ?_, ?_⟩
  · refine (θ_run _ _ _).mono (fun r h c => ?_) (Cert.Kernel4Ideal.Value.run_blocks m g)
    obtain ⟨h0, hk⟩ := h c
    exact ⟨h0.trans (arr m c), hk⟩
  · refine (θ_run _ _ _).mono (fun r h c => ?_) (Cert.Reference4Ideal.Value.run m' g')
    obtain ⟨h0, hk⟩ := h c
    rw [Cert.Reference4Ideal.Read.val_main_v8_eq, (hargs c).1, (hargs c).2] at h0
    exact ⟨h0.trans (ref_eq _ _), hk⟩

end Cert.DHn

end
-- ==== Proof.DWDown.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Quiescent

@[expose] public section

/-! # The down-projection's gradient, of its weight

The grid has four blocks of 704 features by two blocks of 512 columns; a step is one product over all 2048 rows, whose upper
and lower 352 rows go to the parts of two devices. The parts of even number come first. -/

set_option maxRecDepth 16384

noncomputable section

namespace Cert.DWDown

open Cert.Kernel3Ideal Cert.Kernel3Ideal.Gen Idealize.ShloMosaic Idealize.ShloMosaic.Tactic Idealize.SL.Sem

/-- The left factor's transpose times the cotangent, in the devices' parts of 352 features. -/
def grad (x : Vec Ideal S4x2048x704 .bf16) (d : Vec Ideal S2048x1024 .f32) : Vec Ideal S2x4x352x1024 .bf16 := fun y =>
  ∑ k : Fin 2048, x (ix3 (y 1) k ⟨(y 0).val * 352 + (y 2).val, by
    have h0 : (y 0).val < 2 := (y 0).isLt
    have h2 : (y 2).val < 352 := (y 2).isLt
    omega⟩) * d (ix2 k (y 3))

section
variable (m : (ℓ : Loc nD τ sig) → Buf (Elt Ideal) ℓ) (c : Dev nD)

theorem t_lt (t : Fin cfg0.N) : t.val < 8 := t.isLt

theorem index0 : ∀ t : Fin cfg0.N, (cfg0.win 0).index t 0 = t.val / 2 ∧ (cfg0.win 0).index t 1 = 0 ∧ (cfg0.win 0).index t 2 = 0 := by decide +kernel

theorem index1 : ∀ t : Fin cfg0.N, (cfg0.win 1).index t 0 = 0 ∧ (cfg0.win 1).index t 1 = t.val % 2 := by decide +kernel

theorem index2 : ∀ t : Fin cfg0.N, (cfg0.win 2).index t 0 = 0 ∧ (cfg0.win 2).index t 1 = t.val / 2 ∧ (cfg0.win 2).index t 2 = 0 ∧ (cfg0.win 2).index t 3 = t.val % 2 := by decide +kernel

theorem iblk0_eq (t : Fin cfg0.N) (r : Fin 2048) (q : Fin 704) :
    iblk m c 0 t (ix3 0 r q) = V m c main_arg0 (ix3 ⟨t.val / 2, by have := t_lt t; omega⟩ r q) := by
  obtain ⟨e0, e1, e2⟩ := index0 t
  blk_ext [iblk, e0, e1, e2]

theorem iblk1_eq (t : Fin cfg0.N) (r : Fin 2048) (q : Fin 512) :
    iblk m c 1 t (ix2 r q) = V m c main_arg1 (ix2 r ⟨512 * (t.val % 2) + q.val, by omega⟩) := by
  obtain ⟨e0, e1⟩ := index1 t
  blk_ext [iblk, e0, e1]

theorem zero2 : (![0, 0] : Fin 2 → ℕ) = fun _ => 0 := by decide

theorem zero3 : (![0, 0, 0] : Fin 3 → ℕ) = fun _ => 0 := by decide

theorem emb_part (s : Fin 2) (r : Fin 352) (q : Fin 512) (inb) :
    (Rect.unit (s := S2x1x352x512) ![s.val, 0, 0, 0] ![1, 1, 352, 512] inb).emb (ix4 0 0 r q) = ix4 s 0 r q := by
  funext a
  apply Fin.ext
  match a with
  | 0 => show s.val + 1 * 0 = s.val; omega
  | 1 => rfl
  | 2 => show 0 + 1 * r.val = r.val; omega
  | 3 => show 0 + 1 * q.val = q.val; omega

/-- A step's result is the product of its two blocks, the first transposed: its upper and its lower half. -/
theorem out_apply (x0 : Vec Ideal S1x2048x704 .bf16) (x1 : Vec Ideal S2048x512 .f32) (s : Fin 2) (r : Fin 352) (q : Fin 512) :
    out0_2 x0 x1 (ix4 s 0 r q)
      = ∑ k : Fin 2048, x0 (ix3 0 k ⟨s.val * 352 + r.val, by omega⟩) * x1 (ix2 k q) := by
  unfold out0_2 r0_0 r0_1 r0_2 r0_3
  rw [View.ld_unit_zero zero3, View.ld_unit_zero zero2]
  fin_cases s
  · refine (View.canon_cons_of_not_mem _ _ ?_).trans ?_
    · intro h
      have h' := (Rect.mem_set_unit (inb := inb_S2x1x352x512_S1x1x352x512_1_0_0_0)).mp h
      exact absurd (show 1 ≤ 0 from (h' 0).1) (by decide)
    · refine (congrArg _ (emb_part 0 r q _).symm).trans ((View.canon_cons_emb _ _ _ _).trans ?_)
      unfold k0_pay2 k0_pay1
      pointwise
  · refine (congrArg _ (emb_part 1 r q _).symm).trans ((View.canon_cons_emb _ _ _ _).trans ?_)
    unfold k0_pay3 k0_pay1
    pointwise

theorem arr : (dats m 0 c).arrAt 2 cfg0.N = grad (V m c main_arg0) (V m c main_arg1) := by
  refine (dats m 0 c).arrAt_eq_of_covers 2 _ (by decide +kernel) fun t hf y => ?_
  obtain ⟨e0, e1, e2, e3⟩ := index2 t
  blk_simp
  rw [after0_2]
  idx_vars y
  obtain rfl : y1 = 0 := Subsingleton.elim _ _
  refine (out_apply _ _ _ _ _).trans ?_
  unfold grad
  refine Finset.sum_congr rfl fun k _ => ?_
  rw [iblk0_eq, iblk1_eq]
  congr 2
  · blk_ext [e0, e1, e2, e3]
  · blk_ext [e0, e1, e2, e3]

end

/-- The reference's result is the same sum. -/
theorem ref_eq (x : Vec Ideal S4x2048x704 .bf16) (d : Vec Ideal S2048x1024 .f32) :
    Cert.Reference3Ideal.Read.val_main_v10 (F := Ideal) x d = grad x d := by
  funext y
  idx_vars y
  unfold Cert.Reference3Ideal.Read.val_main_v10 Cert.Reference3Ideal.Read.val_main_v9 Cert.Reference3Ideal.Read.val_main_v8 Cert.Reference3Ideal.Read.val_main_v7 Cert.Reference3Ideal.Read.val_main_v6 Cert.Reference3Ideal.Read.val_main_v5 Cert.Reference3Ideal.Read.val_main_v4 Cert.Reference3Ideal.Read.val_main_v0 grad
  pointwise
  exact Finset.sum_congr rfl fun k _ => mul_comm _ _

/-! ## The claims -/

theorem frame_reference : Cert.quiescent_Reference3Ideal := fun m g _ =>
  (θ_run (Cert.Reference3Ideal.defs (F := Ideal)) _ _).mono
    (fun r h => ⟨fun c => (h c).2, sem_eq_zero_of_no_sems (by decide) r.2⟩)
    (Cert.Reference3Ideal.Value.run (F := Ideal) m g)

theorem algebraic : Cert.algebraic_Kernel3Ideal_Reference3Ideal := by
  intro m g m' g' _ hargs
  refine ⟨fun c => grad (V m c main_arg0) (V m c main_arg1), ?_, ?_⟩
  · refine (θ_run _ _ _).mono (fun r h c => ?_) (Cert.Kernel3Ideal.Value.run_blocks m g)
    obtain ⟨h0, hk⟩ := h c
    exact ⟨h0.trans (arr m c), hk⟩
  · refine (θ_run _ _ _).mono (fun r h c => ?_) (Cert.Reference3Ideal.Value.run m' g')
    obtain ⟨h0, hk⟩ := h c
    rw [Cert.Reference3Ideal.Read.val_main_v10_eq, (hargs c).1, (hargs c).2] at h0
    exact ⟨h0.trans (ref_eq _ _), hk⟩

end Cert.DWDown

end
-- ==== Proof.DAct.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Quiescent

@[expose] public section

/-! # The down-projection's gradient, of its left factor

The grid has two tiles of 1024 rows by four blocks of 704 features; a step is one product over all 1024 columns. -/

set_option maxRecDepth 16384

noncomputable section

namespace Cert.DAct

open Cert.Kernel2Ideal Cert.Kernel2Ideal.Gen Idealize.ShloMosaic Idealize.ShloMosaic.Tactic Idealize.SL.Sem

/-- The cotangent times the weight's transpose, in blocks of features. -/
def grad (w : Vec Ideal S2816x1024 .bf16) (dh : Vec Ideal S2048x1024 .f32) : Vec Ideal S4x2048x704 .f32 := fun y =>
  ∑ k : Fin 1024, dh (ix2 (y 1) k) * w (ix2 ⟨(y 0).val * 704 + (y 2).val, by
    have h0 : (y 0).val < 4 := (y 0).isLt
    have h2 : (y 2).val < 704 := (y 2).isLt
    omega⟩ k)

section
variable (m : (ℓ : Loc nD τ sig) → Buf (Elt Ideal) ℓ) (c : Dev nD)

theorem t_lt (t : Fin cfg0.N) : t.val < 8 := t.isLt

theorem index0 : ∀ t : Fin cfg0.N, (cfg0.win 0).index t 0 = t.val / 4 ∧ (cfg0.win 0).index t 1 = 0 := by decide +kernel

theorem index1 : ∀ t : Fin cfg0.N, (cfg0.win 1).index t 0 = t.val % 4 ∧ (cfg0.win 1).index t 1 = 0 := by decide +kernel

theorem index2 : ∀ t : Fin cfg0.N, (cfg0.win 2).index t 0 = t.val % 4 ∧ (cfg0.win 2).index t 1 = t.val / 4
    ∧ (cfg0.win 2).index t 2 = 0 := by decide +kernel

theorem iblk0_eq (t : Fin cfg0.N) (r k : Fin 1024) :
    iblk m c 0 t (ix2 r k) = V m c main_arg1 (ix2 ⟨1024 * (t.val / 4) + r.val, by have := t_lt t; omega⟩ k) := by
  obtain ⟨e0, e1⟩ := index0 t
  blk_ext [iblk, e0, e1]

theorem iblk1_eq (t : Fin cfg0.N) (r : Fin 704) (k : Fin 1024) :
    iblk m c 1 t (ix2 r k) = V m c main_arg0 (ix2 ⟨704 * (t.val % 4) + r.val, by have := t_lt t; omega⟩ k) := by
  obtain ⟨e0, e1⟩ := index1 t
  blk_ext [iblk, e0, e1]

theorem zero2 : (![0, 0] : Fin 2 → ℕ) = fun _ => 0 := by decide

theorem zero3 : (![0, 0, 0] : Fin 3 → ℕ) = fun _ => 0 := by decide

/-- A step's result is the product of its two blocks. -/
theorem out_apply (x0 : Vec Ideal S1024x1024 .f32) (x1 : Vec Ideal S704x1024 .bf16) (r : Fin 1024) (q : Fin 704) :
    out0_2 x0 x1 (ix3 0 r q) = ∑ k : Fin 1024, x0 (ix2 r k) * x1 (ix2 q k) := by
  unfold out0_2 r0_0 r0_1 r0_2
  rw [View.canon_unit_zero zero3, View.ld_unit_zero zero2, View.ld_unit_zero zero2]
  unfold k0_pay1
  pointwise

theorem arr : (dats m 0 c).arrAt 2 cfg0.N = grad (V m c main_arg0) (V m c main_arg1) := by
  refine (dats m 0 c).arrAt_eq_of_covers 2 _ (by decide +kernel) fun t hf y => ?_
  obtain ⟨e0, e1, e2⟩ := index2 t
  blk_simp
  rw [after0_2]
  idx_vars y
  obtain rfl : y0 = 0 := Subsingleton.elim _ _
  refine (out_apply _ _ _ _).trans ?_
  unfold grad
  refine Finset.sum_congr rfl fun k _ => ?_
  rw [iblk0_eq, iblk1_eq]
  congr 2
  · blk_ext [e0, e1, e2]
  · blk_ext [e0, e1, e2]

end

/-- The reference's result is the same sum. -/
theorem ref_eq (w : Vec Ideal S2816x1024 .bf16) (dh : Vec Ideal S2048x1024 .f32) :
    Cert.Reference2Ideal.Read.val_main_v5 (F := Ideal) w dh = grad w dh := by
  funext y
  idx_vars y
  unfold Cert.Reference2Ideal.Read.val_main_v5 Cert.Reference2Ideal.Read.val_main_v4 Cert.Reference2Ideal.Read.val_main_v2 Cert.Reference2Ideal.Read.val_main_v0 grad
  pointwise

/-! ## The claims -/

theorem frame_reference : Cert.quiescent_Reference2Ideal := fun m g _ =>
  (θ_run (Cert.Reference2Ideal.defs (F := Ideal)) _ _).mono
    (fun r h => ⟨fun c => (h c).2, sem_eq_zero_of_no_sems (by decide) r.2⟩)
    (Cert.Reference2Ideal.Value.run (F := Ideal) m g)

theorem algebraic : Cert.algebraic_Kernel2Ideal_Reference2Ideal := by
  intro m g m' g' _ hargs
  refine ⟨fun c => grad (V m c main_arg0) (V m c main_arg1), ?_, ?_⟩
  · refine (θ_run _ _ _).mono (fun r h c => ?_) (Cert.Kernel2Ideal.Value.run_blocks m g)
    obtain ⟨h0, hk⟩ := h c
    exact ⟨h0.trans (arr m c), hk⟩
  · refine (θ_run _ _ _).mono (fun r h c => ?_) (Cert.Reference2Ideal.Value.run m' g')
    obtain ⟨h0, hk⟩ := h c
    rw [Cert.Reference2Ideal.Read.val_main_v5_eq, (hargs c).1, (hargs c).2] at h0
    exact ⟨h0.trans (ref_eq _ _), hk⟩

end Cert.DAct

end
-- ==== Proof.MixIn.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Quiescent

@[expose] public section

/-! # Layer 0's mixer: the product with the wide columns of its first weight

The grid has eight blocks of 512 columns of the result. A step is one product over all 1024 columns. -/

set_option maxRecDepth 16384

noncomputable section

namespace Cert.MixIn

open Cert.Kernel8Ideal Cert.Kernel8Ideal.Gen Idealize.ShloMosaic Idealize.ShloMosaic.Tactic Idealize.SL.Sem

/-- The product. -/
def prod (hn : Vec Ideal S2048x1024 .bf16) (w : Vec Ideal S1024x4096 .bf16) : Vec Ideal S2048x4096 .f32 := fun j =>
  ∑ k : Fin 1024, hn (ix2 (j 0) k) * w (ix2 k (j 1))

section
variable (m : (ℓ : Loc nD τ sig) → Buf (Elt Ideal) ℓ) (c : Dev nD)

theorem t_lt (t : Fin cfg0.N) : t.val < 8 := t.isLt

theorem index0 : ∀ t : Fin cfg0.N, (cfg0.win 0).index t 0 = 0 ∧ (cfg0.win 0).index t 1 = 0 := by decide +kernel

theorem index1 : ∀ t : Fin cfg0.N, (cfg0.win 1).index t 0 = 0 ∧ (cfg0.win 1).index t 1 = t.val := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 1024) (q : Fin 512) :
    iblk m c 1 t (ix2 r q) = V m c main_arg1 (ix2 r ⟨512 * t.val + q.val, by have := t_lt t; omega⟩) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .bf16) (x1 : Vec Ideal S1024x512 .bf16) (r : Fin 2048) (q : Fin 512) :
    out0_2 x0 x1 (ix2 r q) = ∑ k : Fin 1024, x0 (ix2 r k) * x1 (ix2 k q) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (hn : Vec Ideal S2048x1024 .bf16) (w : Vec Ideal S1024x4096 .bf16) :
    Cert.Reference8Ideal.Read.val_main_v2 (F := Ideal) hn w = prod hn w := by
  funext y
  idx_vars y
  unfold Cert.Reference8Ideal.Read.val_main_v2 Cert.Reference8Ideal.Read.val_main_v1 Cert.Reference8Ideal.Read.val_main_v0 prod
  pointwise

/-! ## The claims -/

theorem frame_reference : Cert.quiescent_Reference8Ideal := fun m g _ =>
  (θ_run (Cert.Reference8Ideal.defs (F := Ideal)) _ _).mono
    (fun r h => ⟨fun c => (h c).2, sem_eq_zero_of_no_sems (by decide) r.2⟩)
    (Cert.Reference8Ideal.Value.run (F := Ideal) m g)

theorem algebraic : Cert.algebraic_Kernel8Ideal_Reference8Ideal := by
  intro m g m' g' _ hargs
  refine ⟨fun c => prod (V m c main_arg0) (V m c main_arg1), ?_, ?_⟩
  · refine (θ_run _ _ _).mono (fun r h c => ?_) (Cert.Kernel8Ideal.Value.run_blocks m g)
    obtain ⟨h0, hk⟩ := h c
    exact ⟨h0.trans (arr m c), hk⟩
  · refine (θ_run _ _ _).mono (fun r h c => ?_) (Cert.Reference8Ideal.Value.run m' g')
    obtain ⟨h0, hk⟩ := h c
    rw [Cert.Reference8Ideal.Read.val_main_v2_eq, (hargs c).1, (hargs c).2] at h0
    exact ⟨h0.trans (ref_eq _ _), hk⟩

end Cert.MixIn

end
-- ==== Proof.MixInNarrow.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Quiescent

@[expose] public section

/-! # Layer 0's mixer: the product with the narrow columns of its first weight

The grid has one step. A step is one product over all 1024 columns. -/

set_option maxRecDepth 16384

noncomputable section

namespace Cert.MixInNarrow

open Cert.Kernel9Ideal Cert.Kernel9Ideal.Gen Idealize.ShloMosaic Idealize.ShloMosaic.Tactic Idealize.SL.Sem

/-- The product. -/
def prod (hn : Vec Ideal S2048x1024 .bf16) (w : Vec Ideal S1024x128 .bf16) : Vec Ideal S2048x128 .f32 := fun j =>
  ∑ k : Fin 1024, hn (ix2 (j 0) k) * w (ix2 k (j 1))

section
variable (m : (ℓ : Loc nD τ sig) → Buf (Elt Ideal) ℓ) (c : Dev nD)

theorem t_lt (t : Fin cfg0.N) : t.val < 1 := t.isLt

theorem index0 : ∀ t : Fin cfg0.N, (cfg0.win 0).index t 0 = 0 ∧ (cfg0.win 0).index t 1 = 0 := by decide +kernel

theorem index1 : ∀ t : Fin cfg0.N, (cfg0.win 1).index t 0 = 0 ∧ (cfg0.win 1).index t 1 = t.val := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 1024) (q : Fin 128) :
    iblk m c 1 t (ix2 r q) = V m c main_arg1 (ix2 r ⟨128 * t.val + q.val, by have := t_lt t; omega⟩) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .bf16) (x1 : Vec Ideal S1024x128 .bf16) (r : Fin 2048) (q : Fin 128) :
    out0_2 x0 x1 (ix2 r q) = ∑ k : Fin 1024, x0 (ix2 r k) * x1 (ix2 k q) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (hn : Vec Ideal S2048x1024 .bf16) (w : Vec Ideal S1024x128 .bf16) :
    Cert.Reference9Ideal.Read.val_main_v2 (F := Ideal) hn w = prod hn w := by
  funext y
  idx_vars y
  unfold Cert.Reference9Ideal.Read.val_main_v2 Cert.Reference9Ideal.Read.val_main_v1 Cert.Reference9Ideal.Read.val_main_v0 prod
  pointwise

/-! ## The claims -/

theorem frame_reference : Cert.quiescent_Reference9Ideal := fun m g _ =>
  (θ_run (Cert.Reference9Ideal.defs (F := Ideal)) _ _).mono
    (fun r h => ⟨fun c => (h c).2, sem_eq_zero_of_no_sems (by decide) r.2⟩)
    (Cert.Reference9Ideal.Value.run (F := Ideal) m g)

theorem algebraic : Cert.algebraic_Kernel9Ideal_Reference9Ideal := by
  intro m g m' g' _ hargs
  refine ⟨fun c => prod (V m c main_arg0) (V m c main_arg1), ?_, ?_⟩
  · refine (θ_run _ _ _).mono (fun r h c => ?_) (Cert.Kernel9Ideal.Value.run_blocks m g)
    obtain ⟨h0, hk⟩ := h c
    exact ⟨h0.trans (arr m c), hk⟩
  · refine (θ_run _ _ _).mono (fun r h c => ?_) (Cert.Reference9Ideal.Value.run m' g')
    obtain ⟨h0, hk⟩ := h c
    rw [Cert.Reference9Ideal.Read.val_main_v2_eq, (hargs c).1, (hargs c).2] at h0
    exact ⟨h0.trans (ref_eq _ _), hk⟩

end Cert.MixInNarrow

end
-- ==== Proof.MixOut.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Quiescent

@[expose] public section

/-! # A mixer's product with its last weight, and the residual

The grid has two blocks of 512 columns of the result. A step is one product over all 1024 columns, and the block of what is added. -/

set_option maxRecDepth 16384

noncomputable section

namespace Cert.MixOut

open Cert.Kernel10Ideal Cert.Kernel10Ideal.Gen Idealize.ShloMosaic Idealize.ShloMosaic.Tactic Idealize.SL.Sem

/-- The product, and what is added to it. -/
def prod (y : Vec Ideal S2048x1024 .bf16) (w : Vec Ideal S1024x1024 .bf16) (h : Vec Ideal S2048x1024 .f32) : Vec Ideal S2048x1024 .f32 := fun j =>
  (∑ k : Fin 1024, y (ix2 (j 0) k) * w (ix2 k (j 1))) + h j

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = 0 ∧ (cfg0.win 0).index t 1 = 0 := by decide +kernel

theorem index1 : ∀ t : Fin cfg0.N, (cfg0.win 1).index t 0 = 0 ∧ (cfg0.win 1).index t 1 = t.val := by decide +kernel

theorem index2 : ∀ t : Fin cfg0.N, (cfg0.win 2).index t 0 = 0 ∧ (cfg0.win 2).index t 1 = t.val := by decide +kernel

theorem index3 : ∀ t : Fin cfg0.N, (cfg0.win 3).index t 0 = 0 ∧ (cfg0.win 3).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 1024) (q : Fin 512) :
    iblk m c 1 t (ix2 r q) = V m c main_arg1 (ix2 r ⟨512 * t.val + q.val, by have := t_lt t; omega⟩) := by
  obtain ⟨e0, e1⟩ := index1 t
  blk_ext [iblk, e0, e1]

theorem iblk2_eq (t : Fin cfg0.N) (r : Fin 2048) (q : Fin 512) :
    iblk m c 2 t (ix2 r q) = V m c main_arg2 (ix2 r ⟨512 * t.val + q.val, by have := t_lt t; omega⟩) := by
  obtain ⟨e0, e1⟩ := index2 t
  blk_ext [iblk, e0, e1]

theorem zero2 : (![0, 0] : Fin 2 → ℕ) = fun _ => 0 := by decide

/-- A step's result. -/
theorem out_apply (x0 : Vec Ideal S2048x1024 .bf16) (x1 : Vec Ideal S1024x512 .bf16) (x2 : Vec Ideal S2048x512 .f32) (r : Fin 2048) (q : Fin 512) :
    out0_3 x0 x1 x2 (ix2 r q) = (∑ k : Fin 1024, x0 (ix2 r k) * x1 (ix2 k q)) + x2 (ix2 r q) := by
  unfold out0_3 r0_0 r0_1 r0_2
  rw [View.canon_unit_zero zero2, View.ld_unit_zero zero2, View.ld_unit_zero zero2, View.ld_unit_zero zero2]
  unfold k0_pay1
  pointwise

theorem arr : (dats m 0 c).arrAt 3 cfg0.N = prod (V m c main_arg0) (V m c main_arg1) (V m c main_arg2) := by
  refine (dats m 0 c).arrAt_eq_of_covers 3 _ (by decide +kernel) fun t hf y => ?_
  obtain ⟨e0, e1⟩ := index3 t
  blk_simp
  rw [after0_3]
  idx_vars y
  refine (out_apply _ _ _ _ _).trans ?_
  unfold prod
  rw [iblk2_eq]
  refine congrArg₂ (· + ·) (Finset.sum_congr rfl fun k _ => ?_) (congrArg _ ?_)
  · rw [iblk0_eq, iblk1_eq]
    congr 2
    · blk_ext [e0, e1]
    · blk_ext [e0, e1]
  · blk_ext [e0, e1]

end

/-- The reference's result is the same sum. -/
theorem ref_eq (y : Vec Ideal S2048x1024 .bf16) (w : Vec Ideal S1024x1024 .bf16) (h : Vec Ideal S2048x1024 .f32) :
    Cert.Reference10Ideal.Read.val_main_v3 (F := Ideal) y w h = prod y w h := by
  funext y
  idx_vars y
  unfold Cert.Reference10Ideal.Read.val_main_v3 Cert.Reference10Ideal.Read.val_main_v2 Cert.Reference10Ideal.Read.val_main_v1 Cert.Reference10Ideal.Read.val_main_v0 prod
  pointwise
  exact add_comm _ _

/-! ## The claims -/

theorem frame_reference : Cert.quiescent_Reference10Ideal := fun m g _ =>
  (θ_run (Cert.Reference10Ideal.defs (F := Ideal)) _ _).mono
    (fun r h => ⟨fun c => (h c).2, sem_eq_zero_of_no_sems (by decide) r.2⟩)
    (Cert.Reference10Ideal.Value.run (F := Ideal) m g)

theorem algebraic : Cert.algebraic_Kernel10Ideal_Reference10Ideal := by
  intro m g m' g' _ hargs
  refine ⟨fun c => prod (V m c main_arg0) (V m c main_arg1) (V m c main_arg2), ?_, ?_⟩
  · refine (θ_run _ _ _).mono (fun r h c => ?_) (Cert.Kernel10Ideal.Value.run_blocks m g)
    obtain ⟨h0, hk⟩ := h c
    exact ⟨h0.trans (arr m c), hk⟩
  · refine (θ_run _ _ _).mono (fun r h c => ?_) (Cert.Reference10Ideal.Value.run m' g')
    obtain ⟨h0, hk⟩ := h c
    rw [Cert.Reference10Ideal.Read.val_main_v3_eq, (hargs c).1, (hargs c).2.1, (hargs c).2.2] at h0
    exact ⟨h0.trans (ref_eq _ _ _), hk⟩

end Cert.MixOut

end
-- ==== Proof.LruIn.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Quiescent

@[expose] public section

/-! # Layer 1's mixer: the product with one half of its first weight

The grid has two blocks of 512 columns of the result. A step is one product over all 1024 columns. -/

set_option maxRecDepth 16384

noncomputable section

namespace Cert.LruIn

open Cert.Kernel11Ideal Cert.Kernel11Ideal.Gen Idealize.ShloMosaic Idealize.ShloMosaic.Tactic Idealize.SL.Sem

/-- The product. -/
def prod (hn : Vec Ideal S2048x1024 .bf16) (w : Vec Ideal S1024x1024 .bf16) : Vec Ideal S2048x1024 .f32 := fun j =>
  ∑ k : Fin 1024, hn (ix2 (j 0) k) * w (ix2 k (j 1))

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = 0 ∧ (cfg0.win 0).index t 1 = 0 := by decide +kernel

theorem index1 : ∀ t : Fin cfg0.N, (cfg0.win 1).index t 0 = 0 ∧ (cfg0.win 1).index t 1 = t.val := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 1024) (q : Fin 512) :
    iblk m c 1 t (ix2 r q) = V m c main_arg1 (ix2 r ⟨512 * t.val + q.val, by have := t_lt t; omega⟩) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .bf16) (x1 : Vec Ideal S1024x512 .bf16) (r : Fin 2048) (q : Fin 512) :
    out0_2 x0 x1 (ix2 r q) = ∑ k : Fin 1024, x0 (ix2 r k) * x1 (ix2 k q) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (hn : Vec Ideal S2048x1024 .bf16) (w : Vec Ideal S1024x1024 .bf16) :
    Cert.Reference11Ideal.Read.val_main_v2 (F := Ideal) hn w = prod hn w := by
  funext y
  idx_vars y
  unfold Cert.Reference11Ideal.Read.val_main_v2 Cert.Reference11Ideal.Read.val_main_v1 Cert.Reference11Ideal.Read.val_main_v0 prod
  pointwise

/-! ## The claims -/

theorem frame_reference : Cert.quiescent_Reference11Ideal := fun m g _ =>
  (θ_run (Cert.Reference11Ideal.defs (F := Ideal)) _ _).mono
    (fun r h => ⟨fun c => (h c).2, sem_eq_zero_of_no_sems (by decide) r.2⟩)
    (Cert.Reference11Ideal.Value.run (F := Ideal) m g)

theorem algebraic : Cert.algebraic_Kernel11Ideal_Reference11Ideal := by
  intro m g m' g' _ hargs
  refine ⟨fun c => prod (V m c main_arg0) (V m c main_arg1), ?_, ?_⟩
  · refine (θ_run _ _ _).mono (fun r h c => ?_) (Cert.Kernel11Ideal.Value.run_blocks m g)
    obtain ⟨h0, hk⟩ := h c
    exact ⟨h0.trans (arr m c), hk⟩
  · refine (θ_run _ _ _).mono (fun r h c => ?_) (Cert.Reference11Ideal.Value.run m' g')
    obtain ⟨h0, hk⟩ := h c
    rw [Cert.Reference11Ideal.Read.val_main_v2_eq, (hargs c).1, (hargs c).2] at h0
    exact ⟨h0.trans (ref_eq _ _), hk⟩

end Cert.LruIn

end
-- ==== Proof.DMixY.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Quiescent

@[expose] public section

/-! # The product with a mixer's last weight: the gradient of its left factor

The grid has two blocks of 512 columns of the result. A step is one product over all 1024 columns. -/

set_option maxRecDepth 16384

noncomputable section

namespace Cert.DMixY

open Cert.Kernel12Ideal Cert.Kernel12Ideal.Gen Idealize.ShloMosaic Idealize.ShloMosaic.Tactic Idealize.SL.Sem

/-- The product. -/
def prod (d : Vec Ideal S2048x1024 .f32) (w : Vec Ideal S1024x1024 .bf16) : Vec Ideal S2048x1024 .f32 := fun j =>
  ∑ k : Fin 1024, d (ix2 (j 0) k) * w (ix2 (j 1) k)

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = 0 ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 512) (q : Fin 1024) :
    iblk m c 1 t (ix2 r q) = V m c main_arg1 (ix2 ⟨512 * t.val + r.val, by have := t_lt t; omega⟩ q) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .f32) (x1 : Vec Ideal S512x1024 .bf16) (r : Fin 2048) (q : Fin 512) :
    out0_2 x0 x1 (ix2 r q) = ∑ k : Fin 1024, x0 (ix2 r k) * x1 (ix2 q k) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (d : Vec Ideal S2048x1024 .f32) (w : Vec Ideal S1024x1024 .bf16) :
    Cert.Reference12Ideal.Read.val_main_v3 (F := Ideal) d w = prod d w := by
  funext y
  idx_vars y
  unfold Cert.Reference12Ideal.Read.val_main_v3 Cert.Reference12Ideal.Read.val_main_v0 prod
  pointwise

/-! ## The claims -/

theorem frame_reference : Cert.quiescent_Reference12Ideal := fun m g _ =>
  (θ_run (Cert.Reference12Ideal.defs (F := Ideal)) _ _).mono
    (fun r h => ⟨fun c => (h c).2, sem_eq_zero_of_no_sems (by decide) r.2⟩)
    (Cert.Reference12Ideal.Value.run (F := Ideal) m g)

theorem algebraic : Cert.algebraic_Kernel12Ideal_Reference12Ideal := by
  intro m g m' g' _ hargs
  refine ⟨fun c => prod (V m c main_arg0) (V m c main_arg1), ?_, ?_⟩
  · refine (θ_run _ _ _).mono (fun r h c => ?_) (Cert.Kernel12Ideal.Value.run_blocks m g)
    obtain ⟨h0, hk⟩ := h c
    exact ⟨h0.trans (arr m c), hk⟩
  · refine (θ_run _ _ _).mono (fun r h c => ?_) (Cert.Reference12Ideal.Value.run m' g')
    obtain ⟨h0, hk⟩ := h c
    rw [Cert.Reference12Ideal.Read.val_main_v3_eq, (hargs c).1, (hargs c).2] at h0
    exact ⟨h0.trans (ref_eq _ _), hk⟩

end Cert.DMixY

end
-- ==== Proof.DMixWOut.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Quiescent

@[expose] public section

/-! # The product with a mixer's last weight: the gradient of the weight

The grid has two blocks of 512 columns of the result. A step is one product over all 2048 rows. -/

set_option maxRecDepth 16384

noncomputable section

namespace Cert.DMixWOut

open Cert.Kernel13Ideal Cert.Kernel13Ideal.Gen Idealize.ShloMosaic Idealize.ShloMosaic.Tactic Idealize.SL.Sem

/-- The product. -/
def prod (y : Vec Ideal S2048x1024 .bf16) (d : Vec Ideal S2048x1024 .f32) : Vec Ideal S1024x1024 .bf16 := fun j =>
  ∑ k : Fin 2048, y (ix2 k (j 0)) * d (ix2 k (j 1))

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = 0 ∧ (cfg0.win 0).index t 1 = 0 := by decide +kernel

theorem index1 : ∀ t : Fin cfg0.N, (cfg0.win 1).index t 0 = 0 ∧ (cfg0.win 1).index t 1 = t.val := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 2048) (q : Fin 512) :
    iblk m c 1 t (ix2 r q) = V m c main_arg1 (ix2 r ⟨512 * t.val + q.val, by have := t_lt t; omega⟩) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .bf16) (x1 : Vec Ideal S2048x512 .f32) (r : Fin 1024) (q : Fin 512) :
    out0_2 x0 x1 (ix2 r q) = ∑ k : Fin 2048, x0 (ix2 k r) * x1 (ix2 k q) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (y : Vec Ideal S2048x1024 .bf16) (d : Vec Ideal S2048x1024 .f32) :
    Cert.Reference13Ideal.Read.val_main_v5 (F := Ideal) y d = prod y d := by
  funext y
  idx_vars y
  unfold Cert.Reference13Ideal.Read.val_main_v5 Cert.Reference13Ideal.Read.val_main_v4 Cert.Reference13Ideal.Read.val_main_v3 Cert.Reference13Ideal.Read.val_main_v0 prod
  pointwise
  exact Finset.sum_congr rfl fun k _ => mul_comm _ _

/-! ## The claims -/

theorem frame_reference : Cert.quiescent_Reference13Ideal := fun m g _ =>
  (θ_run (Cert.Reference13Ideal.defs (F := Ideal)) _ _).mono
    (fun r h => ⟨fun c => (h c).2, sem_eq_zero_of_no_sems (by decide) r.2⟩)
    (Cert.Reference13Ideal.Value.run (F := Ideal) m g)

theorem algebraic : Cert.algebraic_Kernel13Ideal_Reference13Ideal := by
  intro m g m' g' _ hargs
  refine ⟨fun c => prod (V m c main_arg0) (V m c main_arg1), ?_, ?_⟩
  · refine (θ_run _ _ _).mono (fun r h c => ?_) (Cert.Kernel13Ideal.Value.run_blocks m g)
    obtain ⟨h0, hk⟩ := h c
    exact ⟨h0.trans (arr m c), hk⟩
  · refine (θ_run _ _ _).mono (fun r h c => ?_) (Cert.Reference13Ideal.Value.run m' g')
    obtain ⟨h0, hk⟩ := h c
    rw [Cert.Reference13Ideal.Read.val_main_v5_eq, (hargs c).1, (hargs c).2] at h0
    exact ⟨h0.trans (ref_eq _ _), hk⟩

end Cert.DMixWOut

end
-- ==== Proof.DLruHnGate.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Quiescent

@[expose] public section

/-! # The product with one half of layer 1's first weight: the gradient of its left factor

The grid has two blocks of 512 columns of the result. A step is one product over all 1024 columns. -/

set_option maxRecDepth 16384

noncomputable section

namespace Cert.DLruHnGate

open Cert.Kernel14Ideal Cert.Kernel14Ideal.Gen Idealize.ShloMosaic Idealize.ShloMosaic.Tactic Idealize.SL.Sem

/-- The product. -/
def prod (d : Vec Ideal S2048x1024 .bf16) (w : Vec Ideal S1024x1024 .bf16) : Vec Ideal S2048x1024 .f32 := fun j =>
  ∑ k : Fin 1024, d (ix2 (j 0) k) * w (ix2 (j 1) k)

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = 0 ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 512) (q : Fin 1024) :
    iblk m c 1 t (ix2 r q) = V m c main_arg1 (ix2 ⟨512 * t.val + r.val, by have := t_lt t; omega⟩ q) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .bf16) (x1 : Vec Ideal S512x1024 .bf16) (r : Fin 2048) (q : Fin 512) :
    out0_2 x0 x1 (ix2 r q) = ∑ k : Fin 1024, x0 (ix2 r k) * x1 (ix2 q k) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (d : Vec Ideal S2048x1024 .bf16) (w : Vec Ideal S1024x1024 .bf16) :
    Cert.Reference14Ideal.Read.val_main_v4 (F := Ideal) d w = prod d w := by
  funext y
  idx_vars y
  unfold Cert.Reference14Ideal.Read.val_main_v4 Cert.Reference14Ideal.Read.val_main_v3 Cert.Reference14Ideal.Read.val_main_v0 prod
  pointwise

/-! ## The claims -/

theorem frame_reference : Cert.quiescent_Reference14Ideal := fun m g _ =>
  (θ_run (Cert.Reference14Ideal.defs (F := Ideal)) _ _).mono
    (fun r h => ⟨fun c => (h c).2, sem_eq_zero_of_no_sems (by decide) r.2⟩)
    (Cert.Reference14Ideal.Value.run (F := Ideal) m g)

theorem algebraic : Cert.algebraic_Kernel14Ideal_Reference14Ideal := by
  intro m g m' g' _ hargs
  refine ⟨fun c => prod (V m c main_arg0) (V m c main_arg1), ?_, ?_⟩
  · refine (θ_run _ _ _).mono (fun r h c => ?_) (Cert.Kernel14Ideal.Value.run_blocks m g)
    obtain ⟨h0, hk⟩ := h c
    exact ⟨h0.trans (arr m c), hk⟩
  · refine (θ_run _ _ _).mono (fun r h c => ?_) (Cert.Reference14Ideal.Value.run m' g')
    obtain ⟨h0, hk⟩ := h c
    rw [Cert.Reference14Ideal.Read.val_main_v4_eq, (hargs c).1, (hargs c).2] at h0
    exact ⟨h0.trans (ref_eq _ _), hk⟩

end Cert.DLruHnGate

end
-- ==== Proof.DLruHn.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.Quiescent

@[expose] public section

/-! # The same gradient, added to the other half's

The grid has two blocks of 512 columns of the result. A step is one product over all 1024 columns, and the block of what is added. -/

set_option maxRecDepth 16384

noncomputable section

namespace Cert.DLruHn

open Cert.Kernel15Ideal Cert.Kernel15Ideal.Gen Idealize.ShloMosaic Idealize.ShloMosaic.Tactic Idealize.SL.Sem

/-- The product, and what is added to it. -/
def prod (d : Vec Ideal S2048x1024 .bf16) (w : Vec Ideal S1024x1024 .bf16) (h : Vec Ideal S2048x1024 .f32) : Vec Ideal S2048x1024 .f32 := fun j =>
  (∑ k : Fin 1024, d (ix2 (j 0) k) * w (ix2 (j 1) k)) + h j

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = 0 ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = 0 ∧ (cfg0.win 2).index t 1 = t.val := by decide +kernel

theorem index3 : ∀ t : Fin cfg0.N, (cfg0.win 3).index t 0 = 0 ∧ (cfg0.win 3).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 512) (q : Fin 1024) :
    iblk m c 1 t (ix2 r q) = V m c main_arg1 (ix2 ⟨512 * t.val + r.val, by have := t_lt t; omega⟩ q) := by
  obtain ⟨e0, e1⟩ := index1 t
  blk_ext [iblk, e0, e1]

theorem iblk2_eq (t : Fin cfg0.N) (r : Fin 2048) (q : Fin 512) :
    iblk m c 2 t (ix2 r q) = V m c main_arg2 (ix2 r ⟨512 * t.val + q.val, by have := t_lt t; omega⟩) := by
  obtain ⟨e0, e1⟩ := index2 t
  blk_ext [iblk, e0, e1]

theorem zero2 : (![0, 0] : Fin 2 → ℕ) = fun _ => 0 := by decide

/-- A step's result. -/
theorem out_apply (x0 : Vec Ideal S2048x1024 .bf16) (x1 : Vec Ideal S512x1024 .bf16) (x2 : Vec Ideal S2048x512 .f32) (r : Fin 2048) (q : Fin 512) :
    out0_3 x0 x1 x2 (ix2 r q) = (∑ k : Fin 1024, x0 (ix2 r k) * x1 (ix2 q k)) + x2 (ix2 r q) := by
  unfold out0_3 r0_0 r0_1 r0_2
  rw [View.canon_unit_zero zero2, View.ld_unit_zero zero2, View.ld_unit_zero zero2, View.ld_unit_zero zero2]
  unfold k0_pay1
  pointwise

theorem arr : (dats m 0 c).arrAt 3 cfg0.N = prod (V m c main_arg0) (V m c main_arg1) (V m c main_arg2) := by
  refine (dats m 0 c).arrAt_eq_of_covers 3 _ (by decide +kernel) fun t hf y => ?_
  obtain ⟨e0, e1⟩ := index3 t
  blk_simp
  rw [after0_3]
  idx_vars y
  refine (out_apply _ _ _ _ _).trans ?_
  unfold prod
  rw [iblk2_eq]
  refine congrArg₂ (· + ·) (Finset.sum_congr rfl fun k _ => ?_) (congrArg _ ?_)
  · rw [iblk0_eq, iblk1_eq]
    congr 2
    · blk_ext [e0, e1]
    · blk_ext [e0, e1]
  · blk_ext [e0, e1]

end

/-- The reference's result is the same sum. -/
theorem ref_eq (d : Vec Ideal S2048x1024 .bf16) (w : Vec Ideal S1024x1024 .bf16) (h : Vec Ideal S2048x1024 .f32) :
    Cert.Reference15Ideal.Read.val_main_v5 (F := Ideal) d w h = prod d w h := by
  funext y
  idx_vars y
  unfold Cert.Reference15Ideal.Read.val_main_v5 Cert.Reference15Ideal.Read.val_main_v4 Cert.Reference15Ideal.Read.val_main_v3 Cert.Reference15Ideal.Read.val_main_v0 prod
  pointwise
  exact add_comm _ _

/-! ## The claims -/

theorem frame_reference : Cert.quiescent_Reference15Ideal := fun m g _ =>
  (θ_run (Cert.Reference15Ideal.defs (F := Ideal)) _ _).mono
    (fun r h => ⟨fun c => (h c).2, sem_eq_zero_of_no_sems (by decide) r.2⟩)
    (Cert.Reference15Ideal.Value.run (F := Ideal) m g)

theorem algebraic : Cert.algebraic_Kernel15Ideal_Reference15Ideal := by
  intro m g m' g' _ hargs
  refine ⟨fun c => prod (V m c main_arg0) (V m c main_arg1) (V m c main_arg2), ?_, ?_⟩
  · refine (θ_run _ _ _).mono (fun r h c => ?_) (Cert.Kernel15Ideal.Value.run_blocks m g)
    obtain ⟨h0, hk⟩ := h c
    exact ⟨h0.trans (arr m c), hk⟩
  · refine (θ_run _ _ _).mono (fun r h c => ?_) (Cert.Reference15Ideal.Value.run m' g')
    obtain ⟨h0, hk⟩ := h c
    rw [Cert.Reference15Ideal.Read.val_main_v5_eq, (hargs c).1, (hargs c).2.1, (hargs c).2.2] at h0
    exact ⟨h0.trans (ref_eq _ _ _), hk⟩

end Cert.DLruHn

end
-- ==== Proof.DLruWIn.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Quiescent

@[expose] public section

/-! # The product with one half of layer 1's first weight: the gradient of the weight

The grid has two blocks of 512 columns of the result. A step is one product over all 2048 rows. -/

set_option maxRecDepth 16384

noncomputable section

namespace Cert.DLruWIn

open Cert.Kernel16Ideal Cert.Kernel16Ideal.Gen Idealize.ShloMosaic Idealize.ShloMosaic.Tactic Idealize.SL.Sem

/-- The product. -/
def prod (hn : Vec Ideal S2048x1024 .bf16) (d : Vec Ideal S2048x1024 .bf16) : Vec Ideal S1024x1024 .bf16 := fun j =>
  ∑ k : Fin 2048, hn (ix2 k (j 0)) * d (ix2 k (j 1))

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = 0 ∧ (cfg0.win 0).index t 1 = 0 := by decide +kernel

theorem index1 : ∀ t : Fin cfg0.N, (cfg0.win 1).index t 0 = 0 ∧ (cfg0.win 1).index t 1 = t.val := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 2048) (q : Fin 512) :
    iblk m c 1 t (ix2 r q) = V m c main_arg1 (ix2 r ⟨512 * t.val + q.val, by have := t_lt t; omega⟩) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .bf16) (x1 : Vec Ideal S2048x512 .bf16) (r : Fin 1024) (q : Fin 512) :
    out0_2 x0 x1 (ix2 r q) = ∑ k : Fin 2048, x0 (ix2 k r) * x1 (ix2 k q) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (hn : Vec Ideal S2048x1024 .bf16) (d : Vec Ideal S2048x1024 .bf16) :
    Cert.Reference16Ideal.Read.val_main_v6 (F := Ideal) hn d = prod hn d := by
  funext y
  idx_vars y
  unfold Cert.Reference16Ideal.Read.val_main_v6 Cert.Reference16Ideal.Read.val_main_v5 Cert.Reference16Ideal.Read.val_main_v4 Cert.Reference16Ideal.Read.val_main_v3 Cert.Reference16Ideal.Read.val_main_v0 prod
  pointwise
  exact Finset.sum_congr rfl fun k _ => mul_comm _ _

/-! ## The claims -/

theorem frame_reference : Cert.quiescent_Reference16Ideal := fun m g _ =>
  (θ_run (Cert.Reference16Ideal.defs (F := Ideal)) _ _).mono
    (fun r h => ⟨fun c => (h c).2, sem_eq_zero_of_no_sems (by decide) r.2⟩)
    (Cert.Reference16Ideal.Value.run (F := Ideal) m g)

theorem algebraic : Cert.algebraic_Kernel16Ideal_Reference16Ideal := by
  intro m g m' g' _ hargs
  refine ⟨fun c => prod (V m c main_arg0) (V m c main_arg1), ?_, ?_⟩
  · refine (θ_run _ _ _).mono (fun r h c => ?_) (Cert.Kernel16Ideal.Value.run_blocks m g)
    obtain ⟨h0, hk⟩ := h c
    exact ⟨h0.trans (arr m c), hk⟩
  · refine (θ_run _ _ _).mono (fun r h c => ?_) (Cert.Reference16Ideal.Value.run m' g')
    obtain ⟨h0, hk⟩ := h c
    rw [Cert.Reference16Ideal.Read.val_main_v6_eq, (hargs c).1, (hargs c).2] at h0
    exact ⟨h0.trans (ref_eq _ _), hk⟩

end Cert.DLruWIn

end
-- ==== Proof.DMixHn.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ValueKit.Tiles
public import Idealize.ShloMosaic.Lib.Pipeline.ReadBack
public import Idealize.ShloMosaic.Lib.Pointwise
public import Idealize.ShloMosaic.Lib.Quiescent

@[expose] public section

/-! # The product with the wide columns: the gradient of its left factor

The grid has two tiles of 512 columns of the result, each over four blocks of 1024 columns of the cotangent.
The blocks' products are summed in a scratch buffer, and the tile's last step writes the sum. -/

set_option maxRecDepth 16384

noncomputable section

namespace Cert.DMixHn

open Cert.Kernel17Ideal Cert.Kernel17Ideal.Gen Idealize.ShloMosaic Idealize.ShloMosaic.Tactic Idealize.SL.Sem

/-- The part of the gradient from the cotangent's block `b` of columns. -/
def part (d : Vec Ideal S2048x4096 .bf16) (w : Vec Ideal S1024x4096 .bf16) (b : Fin 4) (y : S2048x1024.Idx) : EReal :=
  ∑ k : Fin 1024, d (ix2 (y 0) ⟨b.val * 1024 + k.val, by omega⟩) * w (ix2 (y 1) ⟨b.val * 1024 + k.val, by omega⟩)

/-- The gradient: the four blocks' parts summed. -/
def grad (d : Vec Ideal S2048x4096 .bf16) (w : Vec Ideal S1024x4096 .bf16) : Vec Ideal S2048x1024 .f32 := fun y =>
  ∑ b : Fin 4, part d w b y

/-! ## One step -/

theorem zero2 : (![0, 0] : Fin 2 → ℕ) = fun _ => 0 := by decide

/-- One block's product. -/
def step (x0 : Vec Ideal S2048x1024 .bf16) (x1 : Vec Ideal S512x1024 .bf16) : Vec Ideal S2048x512 .f32 := fun y =>
  ∑ k : Fin 1024, x0 (ix2 (y 0) k) * x1 (ix2 (y 1) k)

theorem pay1_eq (x0 : Vec Ideal S2048x1024 .bf16) (x1 : Vec Ideal S512x1024 .bf16) : k0_pay1 x0 x1 = step x0 x1 := by
  funext y
  idx_vars y
  unfold k0_pay1 step
  pointwise

section
variable (c : Dev nD) (i : grid0.Coords) (arg3 : Memref sig .tc .vmem S2048x1024 .bf16) (harg3 : arg3.IsWhole) (arg4 : Memref sig .tc .vmem S512x1024 .bf16) (harg4 : arg4.IsWhole) (arg5 : Memref sig .tc .vmem S2048x512 .f32) (harg5 : arg5.IsWhole) (arg6 : Memref sig .tc .vmem S2048x512 .f32) (harg6 : arg6.IsWhole)
variable (x0 : Vec Ideal S2048x1024 .bf16) (x1 : Vec Ideal S512x1024 .bf16) (xs : Vec Ideal S2048x512 .f32)

/-- The first step leaves its product in the scratch; -/
theorem scr_A (hc0 : cond0_0 i) (hc1 : ¬cond0_1 i) (hc2 : ¬cond0_2 i) :
    sout0_A_0 c i arg3 harg3 arg4 harg4 arg5 harg5 arg6 harg6 hc0 hc1 hc2 x0 x1 = step x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp (disch := decide) only [↓View.readCov_skip, ↓View.readCov_fill, View.readAt_eq_ld, harg3.read_unread, harg4.read_unread,
    harg6.read_unread]
  rw [View.canon_unit_zero zero2, View.ld_unit_zero zero2, View.ld_unit_zero zero2]
  unfold k0_pay2
  rw [pay1_eq]
  funext y
  idx_vars y
  pointwise

/-- a later one adds its own to it; -/
theorem scr_B (hc0 : ¬cond0_0 i) (hc1 : cond0_1 i) (hc2 : ¬cond0_2 i) :
    sout0_B_0 c i arg3 harg3 arg4 harg4 arg5 harg5 arg6 harg6 hc0 hc1 hc2 x0 x1 xs = fun y => xs y + step x0 x1 y := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  simp (disch := decide) only [↓View.readCov_skip, ↓View.readCov_fill, View.readAt_eq_ld, harg3.read_unread, harg4.read_unread,
    harg6.read_unread]
  rw [View.canon_unit_zero zero2, View.ld_unit_zero zero2, View.ld_unit_zero zero2, View.ld_unit_zero zero2]
  unfold k0_pay3
  rw [pay1_eq]
  funext y
  idx_vars y
  pointwise

/-- the last writes the sum. -/
theorem out_C (hc0 : ¬cond0_0 i) (hc1 : ¬cond0_1 i) (hc2 : cond0_2 i) :
    out0_C_2 c i arg3 harg3 arg4 harg4 arg5 harg5 arg6 harg6 hc0 hc1 hc2 x0 x1 xs = fun y => xs y + step x0 x1 y := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  simp (disch := decide) only [↓View.readCov_skip, ↓View.readCov_fill, View.readAt_eq_ld, harg3.read_unread, harg4.read_unread,
    harg6.read_unread]
  rw [View.canon_unit_zero zero2, View.ld_unit_zero zero2, View.ld_unit_zero zero2, View.ld_unit_zero zero2]
  unfold k0_pay4
  rw [pay1_eq]
  funext y
  idx_vars y
  pointwise

end

/-! ## The four steps of one tile -/

section
variable (m : (ℓ : Loc nD τ sig) → Buf (Elt Ideal) ℓ) (c : Dev nD)

theorem t_lt (t : Fin cfg0.N) : t.val < 8 := t.isLt

theorem index0 : ∀ t : Fin cfg0.N, (cfg0.win 0).index t 0 = 0 ∧ (cfg0.win 0).index t 1 = t.val % 4 := by decide +kernel

theorem index1 : ∀ t : Fin cfg0.N, (cfg0.win 1).index t 0 = t.val / 4 ∧ (cfg0.win 1).index t 1 = t.val % 4 := by decide +kernel

theorem index2 : ∀ t : Fin cfg0.N, (cfg0.win 2).index t 0 = 0 ∧ (cfg0.win 2).index t 1 = t.val / 4 := by decide +kernel

theorem flush2 : ∀ t : Fin cfg0.N, (cfg0.win 2).flush t = true → t.val % 4 = 3 := by decide +kernel

theorem iblk0_eq (t : Fin cfg0.N) (r : Fin 2048) (q : Fin 1024) :
    iblk m c 0 t (ix2 r q) = V m c main_arg0 (ix2 r ⟨(t.val % 4) * 1024 + q.val, by omega⟩) := by
  obtain ⟨e0, e1⟩ := index0 t
  blk_ext [iblk, e0, e1]

theorem iblk1_eq (t : Fin cfg0.N) (r : Fin 512) (q : Fin 1024) :
    iblk m c 1 t (ix2 r q) = V m c main_arg1 (ix2 ⟨512 * (t.val / 4) + r.val, by have := t_lt t; omega⟩ ⟨(t.val % 4) * 1024 + q.val, by omega⟩) := by
  obtain ⟨e0, e1⟩ := index1 t
  blk_ext [iblk, e0, e1]

/-- A tile's place in the whole. -/
def at2 (t : Fin cfg0.N) (y : S2048x512.Idx) : S2048x1024.Idx :=
  ix2 (y 0) ⟨512 * (t.val / 4) + (y 1).val, by have := t_lt t; have h : (y 1).val < 512 := (y 1).isLt; omega⟩

/-- A step's product is one of the four parts. -/
theorem step_eq (t : Fin cfg0.N) (y : S2048x512.Idx) :
    step (iblk m c 0 t) (iblk m c 1 t) y = part (V m c main_arg0) (V m c main_arg1) ⟨t.val % 4, by omega⟩ (at2 t y) := by
  unfold step part
  exact Finset.sum_congr rfl fun k _ => congrArg₂ (· * ·) (iblk0_eq m c t (y 0) k) (iblk1_eq m c t (y 1) k)

theorem scr_first (t : Fin cfg0.N) (h : t.val % 4 = 0) :
    (outsAt0 m c t.val t.isLt).2 = step (iblk m c 0 t) (iblk m c 1 t) := by
  rw [outsAt0_A m c t h (by omega) (by omega)]
  dsimp only
  rw [scr_A]

theorem scr_next (t : Fin cfg0.N) (h : 1 ≤ t.val % 4 ∧ t.val % 4 ≤ 2) :
    (outsAt0 m c t.val t.isLt).2 = fun y => (outsAt0 m c (t.val - 1) (Nat.lt_of_le_of_lt (Nat.sub_le _ _) t.isLt)).2 y + step (iblk m c 0 t) (iblk m c 1 t) y := by
  rw [outsAt0_B m c t (by omega) h (by omega)]
  dsimp only
  rw [scr_B]

theorem out_last (t : Fin cfg0.N) (h : t.val % 4 = 3) :
    (outsAt0 m c t.val t.isLt).1 = fun y => (outsAt0 m c (t.val - 1) (Nat.lt_of_le_of_lt (Nat.sub_le _ _) t.isLt)).2 y + step (iblk m c 0 t) (iblk m c 1 t) y := by
  rw [outsAt0_C m c t (by omega) (by omega) h]
  dsimp only
  rw [out_C]

/-- The last step's result is all four parts. -/
theorem out_eq (t : Fin cfg0.N) (h : t.val % 4 = 3) (y : S2048x512.Idx) :
    (outsAt0 m c t.val t.isLt).1 y = grad (V m c main_arg0) (V m c main_arg1) (at2 t y) := by
  have hN := t_lt t
  have h1 : t.val - 1 < cfg0.N := lt_of_le_of_lt (Nat.sub_le _ _) t.isLt
  have h2 : t.val - 1 - 1 < cfg0.N := lt_of_le_of_lt (Nat.sub_le _ _) h1
  have h3 : t.val - 1 - 1 - 1 < cfg0.N := lt_of_le_of_lt (Nat.sub_le _ _) h2
  have e1 := congrFun (scr_next m c ⟨t.val - 1, h1⟩ (by dsimp only; omega)) y
  have e2 := congrFun (scr_next m c ⟨t.val - 1 - 1, h2⟩ (by dsimp only; omega)) y
  have e3 := congrFun (scr_first m c ⟨t.val - 1 - 1 - 1, h3⟩ (by dsimp only; omega)) y
  dsimp only at e1 e2 e3
  rw [out_last m c t h]
  dsimp only
  rw [e1, e2, e3, step_eq, step_eq, step_eq, step_eq]
  have f (u : ℕ) (hu : u < cfg0.N) (hd : u / 4 = t.val / 4) : at2 ⟨u, hu⟩ y = at2 t y := by
    unfold at2
    congr 2
    show 512 * (u / 4) + _ = _
    omega
  rw [f _ h1 (by omega), f _ h2 (by omega), f _ h3 (by omega)]
  unfold grad
  rw [Fin.sum_univ_four]
  have g (u : ℕ) (a : Fin 4) (hu : u = a.val) (hl : u < 4) : (⟨u, hl⟩ : Fin 4) = a := Fin.ext hu
  rw [g (t.val % 4) 3 h]
  dsimp only
  rw [g ((t.val - 1) % 4) 2 (by show _ = 2; omega), g ((t.val - 1 - 1) % 4) 1 (by show _ = 1; omega), g ((t.val - 1 - 1 - 1) % 4) 0 (by show _ = 0; omega)]

theorem arr : (dats m 0 c).arrAt 2 cfg0.N = grad (V m c main_arg0) (V m c main_arg1) := by
  refine (dats m 0 c).arrAt_eq_of_covers 2 _ (by decide +kernel) fun t hf y => ?_
  obtain ⟨e0, e1⟩ := index2 t
  blk_simp
  rw [after0_2]
  refine (out_eq m c t (flush2 t hf) y).trans (congrArg _ ?_)
  idx_vars y
  unfold at2
  blk_ext [e0, e1]

end

/-- The reference's result is the same sum, over all the columns at once. -/
theorem ref_eq (d : Vec Ideal S2048x4096 .bf16) (w : Vec Ideal S1024x4096 .bf16) :
    Cert.Reference17Ideal.Read.val_main_v4 (F := Ideal) d w = grad d w := by
  funext y
  have e : grad d w y = ∑ k : Fin 4096, d (ix2 (y 0) k) * w (ix2 (y 1) k) :=
    (Fin.sum_univ_tiles 4 1024 (by decide) fun k : Fin 4096 => d (ix2 (y 0) k) * w (ix2 (y 1) k)).symm
  rw [e]
  idx_vars y
  unfold Cert.Reference17Ideal.Read.val_main_v4 Cert.Reference17Ideal.Read.val_main_v3 Cert.Reference17Ideal.Read.val_main_v0
  pointwise

/-! ## The claims -/

theorem frame_reference : Cert.quiescent_Reference17Ideal := fun m g _ =>
  (θ_run (Cert.Reference17Ideal.defs (F := Ideal)) _ _).mono
    (fun r h => ⟨fun c => (h c).2, sem_eq_zero_of_no_sems (by decide) r.2⟩)
    (Cert.Reference17Ideal.Value.run (F := Ideal) m g)

theorem algebraic : Cert.algebraic_Kernel17Ideal_Reference17Ideal := by
  intro m g m' g' _ hargs
  refine ⟨fun c => grad (V m c main_arg0) (V m c main_arg1), ?_, ?_⟩
  · refine (θ_run _ _ _).mono (fun r h c => ?_) (Cert.Kernel17Ideal.Value.run_blocks m g)
    obtain ⟨h0, hk⟩ := h c
    exact ⟨h0.trans (arr m c), hk⟩
  · refine (θ_run _ _ _).mono (fun r h c => ?_) (Cert.Reference17Ideal.Value.run m' g')
    obtain ⟨h0, hk⟩ := h c
    rw [Cert.Reference17Ideal.Read.val_main_v4_eq, (hargs c).1, (hargs c).2] at h0
    exact ⟨h0.trans (ref_eq _ _), hk⟩

end Cert.DMixHn

end
-- ==== Proof.DMixHnNarrow.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pointwise
public import Idealize.ShloMosaic.Lib.Quiescent

@[expose] public section

/-! # The product with the narrow columns: the gradient of its left factor, added to the wide columns'

The grid has two blocks of 512 columns of the result. A step is one product over all 128 columns, and the block of what is added. -/

set_option maxRecDepth 16384

noncomputable section

namespace Cert.DMixHnNarrow

open Cert.Kernel18Ideal Cert.Kernel18Ideal.Gen Idealize.ShloMosaic Idealize.ShloMosaic.Tactic Idealize.SL.Sem

/-- The product, and what is added to it. -/
def prod (d : Vec Ideal S2048x128 .bf16) (w : Vec Ideal S1024x128 .bf16) (h : Vec Ideal S2048x1024 .f32) : Vec Ideal S2048x1024 .f32 := fun j =>
  (∑ k : Fin 128, d (ix2 (j 0) k) * w (ix2 (j 1) k)) + h j

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = 0 ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = 0 ∧ (cfg0.win 2).index t 1 = t.val := by decide +kernel

theorem index3 : ∀ t : Fin cfg0.N, (cfg0.win 3).index t 0 = 0 ∧ (cfg0.win 3).index t 1 = t.val := by decide +kernel

theorem iblk0_eq (t : Fin cfg0.N) (r : Fin 2048) (q : Fin 128) : iblk m c 0 t (ix2 r q) = V m c main_arg0 (ix2 r q) := by
  obtain ⟨e0, e1⟩ := index0 t
  blk_ext [iblk, e0, e1]

theorem iblk1_eq (t : Fin cfg0.N) (r : Fin 512) (q : Fin 128) :
    iblk m c 1 t (ix2 r q) = V m c main_arg1 (ix2 ⟨512 * t.val + r.val, by have := t_lt t; omega⟩ q) := by
  obtain ⟨e0, e1⟩ := index1 t
  blk_ext [iblk, e0, e1]

theorem iblk2_eq (t : Fin cfg0.N) (r : Fin 2048) (q : Fin 512) :
    iblk m c 2 t (ix2 r q) = V m c main_arg2 (ix2 r ⟨512 * t.val + q.val, by have := t_lt t; omega⟩) := by
  obtain ⟨e0, e1⟩ := index2 t
  blk_ext [iblk, e0, e1]

theorem zero2 : (![0, 0] : Fin 2 → ℕ) = fun _ => 0 := by decide

/-- A step's result. -/
theorem out_apply (x0 : Vec Ideal S2048x128 .bf16) (x1 : Vec Ideal S512x128 .bf16) (x2 : Vec Ideal S2048x512 .f32) (r : Fin 2048) (q : Fin 512) :
    out0_3 x0 x1 x2 (ix2 r q) = (∑ k : Fin 128, x0 (ix2 r k) * x1 (ix2 q k)) + x2 (ix2 r q) := by
  unfold out0_3 r0_0 r0_1 r0_2
  rw [View.canon_unit_zero zero2, View.ld_unit_zero zero2, View.ld_unit_zero zero2, View.ld_unit_zero zero2]
  unfold k0_pay1
  pointwise

theorem arr : (dats m 0 c).arrAt 3 cfg0.N = prod (V m c main_arg0) (V m c main_arg1) (V m c main_arg2) := by
  refine (dats m 0 c).arrAt_eq_of_covers 3 _ (by decide +kernel) fun t hf y => ?_
  obtain ⟨e0, e1⟩ := index3 t
  blk_simp
  rw [after0_3]
  idx_vars y
  refine (out_apply _ _ _ _ _).trans ?_
  unfold prod
  rw [iblk2_eq]
  refine congrArg₂ (· + ·) (Finset.sum_congr rfl fun k _ => ?_) (congrArg _ ?_)
  · rw [iblk0_eq, iblk1_eq]
    congr 2
    · blk_ext [e0, e1]
    · blk_ext [e0, e1]
  · blk_ext [e0, e1]

end

/-- The reference's result is the same sum. -/
theorem ref_eq (d : Vec Ideal S2048x128 .bf16) (w : Vec Ideal S1024x128 .bf16) (h : Vec Ideal S2048x1024 .f32) :
    Cert.Reference18Ideal.Read.val_main_v5 (F := Ideal) d w h = prod d w h := by
  funext y
  idx_vars y
  unfold Cert.Reference18Ideal.Read.val_main_v5 Cert.Reference18Ideal.Read.val_main_v4 Cert.Reference18Ideal.Read.val_main_v3 Cert.Reference18Ideal.Read.val_main_v0 prod
  pointwise
  exact add_comm _ _

/-! ## The claims -/

theorem frame_reference : Cert.quiescent_Reference18Ideal := fun m g _ =>
  (θ_run (Cert.Reference18Ideal.defs (F := Ideal)) _ _).mono
    (fun r h => ⟨fun c => (h c).2, sem_eq_zero_of_no_sems (by decide) r.2⟩)
    (Cert.Reference18Ideal.Value.run (F := Ideal) m g)

theorem algebraic : Cert.algebraic_Kernel18Ideal_Reference18Ideal := by
  intro m g m' g' _ hargs
  refine ⟨fun c => prod (V m c main_arg0) (V m c main_arg1) (V m c main_arg2), ?_, ?_⟩
  · refine (θ_run _ _ _).mono (fun r h c => ?_) (Cert.Kernel18Ideal.Value.run_blocks m g)
    obtain ⟨h0, hk⟩ := h c
    exact ⟨h0.trans (arr m c), hk⟩
  · refine (θ_run _ _ _).mono (fun r h c => ?_) (Cert.Reference18Ideal.Value.run m' g')
    obtain ⟨h0, hk⟩ := h c
    rw [Cert.Reference18Ideal.Read.val_main_v5_eq, (hargs c).1, (hargs c).2.1, (hargs c).2.2] at h0
    exact ⟨h0.trans (ref_eq _ _ _), hk⟩

end Cert.DMixHnNarrow

end
-- ==== Proof.DMixWIn.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise
public import Idealize.ShloMosaic.Lib.Quiescent

@[expose] public section

/-! # The product with the wide columns: the gradient of the weight

The grid has eight blocks of 512 columns of the result. A step is one product over all 2048 rows. -/

set_option maxRecDepth 16384

noncomputable section

namespace Cert.DMixWIn

open Cert.Kernel19Ideal Cert.Kernel19Ideal.Gen Idealize.ShloMosaic Idealize.ShloMosaic.Tactic Idealize.SL.Sem

/-- The product. -/
def prod (hn : Vec Ideal S2048x1024 .bf16) (d : Vec Ideal S2048x4096 .bf16) : Vec Ideal S1024x4096 .bf16 := fun j =>
  ∑ k : Fin 2048, hn (ix2 k (j 0)) * d (ix2 k (j 1))

section
variable (m : (ℓ : Loc nD τ sig) → Buf (Elt Ideal) ℓ) (c : Dev nD)

theorem t_lt (t : Fin cfg0.N) : t.val < 8 := t.isLt

theorem index0 : ∀ t : Fin cfg0.N, (cfg0.win 0).index t 0 = 0 ∧ (cfg0.win 0).index t 1 = 0 := by decide +kernel

theorem index1 : ∀ t : Fin cfg0.N, (cfg0.win 1).index t 0 = 0 ∧ (cfg0.win 1).index t 1 = t.val := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 2048) (q : Fin 512) :
    iblk m c 1 t (ix2 r q) = V m c main_arg1 (ix2 r ⟨512 * t.val + q.val, by have := t_lt t; omega⟩) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .bf16) (x1 : Vec Ideal S2048x512 .bf16) (r : Fin 1024) (q : Fin 512) :
    out0_2 x0 x1 (ix2 r q) = ∑ k : Fin 2048, x0 (ix2 k r) * x1 (ix2 k q) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (hn : Vec Ideal S2048x1024 .bf16) (d : Vec Ideal S2048x4096 .bf16) :
    Cert.Reference19Ideal.Read.val_main_v6 (F := Ideal) hn d = prod hn d := by
  funext y
  idx_vars y
  unfold Cert.Reference19Ideal.Read.val_main_v6 Cert.Reference19Ideal.Read.val_main_v5 Cert.Reference19Ideal.Read.val_main_v4 Cert.Reference19Ideal.Read.val_main_v3 Cert.Reference19Ideal.Read.val_main_v0 prod
  pointwise
  exact Finset.sum_congr rfl fun k _ => mul_comm _ _

/-! ## The claims -/

theorem frame_reference : Cert.quiescent_Reference19Ideal := fun m g _ =>
  (θ_run (Cert.Reference19Ideal.defs (F := Ideal)) _ _).mono
    (fun r h => ⟨fun c => (h c).2, sem_eq_zero_of_no_sems (by decide) r.2⟩)
    (Cert.Reference19Ideal.Value.run (F := Ideal) m g)

theorem algebraic : Cert.algebraic_Kernel19Ideal_Reference19Ideal := by
  intro m g m' g' _ hargs
  refine ⟨fun c => prod (V m c main_arg0) (V m c main_arg1), ?_, ?_⟩
  · refine (θ_run _ _ _).mono (fun r h c => ?_) (Cert.Kernel19Ideal.Value.run_blocks m g)
    obtain ⟨h0, hk⟩ := h c
    exact ⟨h0.trans (arr m c), hk⟩
  · refine (θ_run _ _ _).mono (fun r h c => ?_) (Cert.Reference19Ideal.Value.run m' g')
    obtain ⟨h0, hk⟩ := h c
    rw [Cert.Reference19Ideal.Read.val_main_v6_eq, (hargs c).1, (hargs c).2] at h0
    exact ⟨h0.trans (ref_eq _ _), hk⟩

end Cert.DMixWIn

end
-- ==== Proof.DMixWInNarrow.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise
public import Idealize.ShloMosaic.Lib.Quiescent

@[expose] public section

/-! # The product with the narrow columns: the gradient of the weight

The grid has one step. A step is one product over all 2048 rows. -/

set_option maxRecDepth 16384

noncomputable section

namespace Cert.DMixWInNarrow

open Cert.Kernel20Ideal Cert.Kernel20Ideal.Gen Idealize.ShloMosaic Idealize.ShloMosaic.Tactic Idealize.SL.Sem

/-- The product. -/
def prod (hn : Vec Ideal S2048x1024 .bf16) (d : Vec Ideal S2048x128 .bf16) : Vec Ideal S1024x128 .bf16 := fun j =>
  ∑ k : Fin 2048, hn (ix2 k (j 0)) * d (ix2 k (j 1))

section
variable (m : (ℓ : Loc nD τ sig) → Buf (Elt Ideal) ℓ) (c : Dev nD)

theorem t_lt (t : Fin cfg0.N) : t.val < 1 := t.isLt

theorem index0 : ∀ t : Fin cfg0.N, (cfg0.win 0).index t 0 = 0 ∧ (cfg0.win 0).index t 1 = 0 := by decide +kernel

theorem index1 : ∀ t : Fin cfg0.N, (cfg0.win 1).index t 0 = 0 ∧ (cfg0.win 1).index t 1 = t.val := by decide +kernel

theorem index2 : ∀ t : Fin cfg0.N, (cfg0.win 2).index t 0 = 0 ∧ (cfg0.win 2).index t 1 = t.val := by decide +kernel

theorem iblk0_eq (t : Fin cfg0.N) (r : Fin 2048) (q : Fin 1024) : iblk m c 0 t (ix2 r q) = V m c main_arg0 (ix2 r q) := by
  obtain ⟨e0, e1⟩ := index0 t
  blk_ext [iblk, e0, e1]

theorem iblk1_eq (t : Fin cfg0.N) (r : Fin 2048) (q : Fin 128) :
    iblk m c 1 t (ix2 r q) = V m c main_arg1 (ix2 r ⟨128 * t.val + q.val, by have := t_lt t; omega⟩) := by
  obtain ⟨e0, e1⟩ := index1 t
  blk_ext [iblk, e0, e1]

theorem zero2 : (![0, 0] : Fin 2 → ℕ) = fun _ => 0 := by decide

/-- A step's result. -/
theorem out_apply (x0 : Vec Ideal S2048x1024 .bf16) (x1 : Vec Ideal S2048x128 .bf16) (r : Fin 1024) (q : Fin 128) :
    out0_2 x0 x1 (ix2 r q) = ∑ k : Fin 2048, x0 (ix2 k r) * x1 (ix2 k q) := by
  unfold out0_2 r0_0 r0_1 r0_2
  rw [View.canon_unit_zero zero2, View.ld_unit_zero zero2, View.ld_unit_zero zero2]
  unfold k0_pay1
  pointwise

theorem arr : (dats m 0 c).arrAt 2 cfg0.N = prod (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold prod
  refine Finset.sum_congr rfl fun k _ => ?_
  rw [iblk0_eq, iblk1_eq]
  congr 2
  · blk_ext [e0, e1]
  · blk_ext [e0, e1]

end

/-- The reference's result is the same sum. -/
theorem ref_eq (hn : Vec Ideal S2048x1024 .bf16) (d : Vec Ideal S2048x128 .bf16) :
    Cert.Reference20Ideal.Read.val_main_v6 (F := Ideal) hn d = prod hn d := by
  funext y
  idx_vars y
  unfold Cert.Reference20Ideal.Read.val_main_v6 Cert.Reference20Ideal.Read.val_main_v5 Cert.Reference20Ideal.Read.val_main_v4 Cert.Reference20Ideal.Read.val_main_v3 Cert.Reference20Ideal.Read.val_main_v0 prod
  pointwise
  exact Finset.sum_congr rfl fun k _ => mul_comm _ _

/-! ## The claims -/

theorem frame_reference : Cert.quiescent_Reference20Ideal := fun m g _ =>
  (θ_run (Cert.Reference20Ideal.defs (F := Ideal)) _ _).mono
    (fun r h => ⟨fun c => (h c).2, sem_eq_zero_of_no_sems (by decide) r.2⟩)
    (Cert.Reference20Ideal.Value.run (F := Ideal) m g)

theorem algebraic : Cert.algebraic_Kernel20Ideal_Reference20Ideal := by
  intro m g m' g' _ hargs
  refine ⟨fun c => prod (V m c main_arg0) (V m c main_arg1), ?_, ?_⟩
  · refine (θ_run _ _ _).mono (fun r h c => ?_) (Cert.Kernel20Ideal.Value.run_blocks m g)
    obtain ⟨h0, hk⟩ := h c
    exact ⟨h0.trans (arr m c), hk⟩
  · refine (θ_run _ _ _).mono (fun r h c => ?_) (Cert.Reference20Ideal.Value.run m' g')
    obtain ⟨h0, hk⟩ := h c
    rw [Cert.Reference20Ideal.Read.val_main_v6_eq, (hargs c).1, (hargs c).2] at h0
    exact ⟨h0.trans (ref_eq _ _), hk⟩

end Cert.DMixWInNarrow

end
-- ==== Proof.Norm.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise
public import Idealize.ShloMosaic.Lib.Quiescent

@[expose] public section

/-! # A norm's forward call

The grid has two blocks of 1024 rows. A step divides each row by its root mean square and multiplies it by the gain. -/

set_option maxRecDepth 16384

noncomputable section

namespace Cert.Norm

open Cert.Kernel21Ideal Cert.Kernel21Ideal.Gen Idealize.ShloMosaic Idealize.ShloMosaic.Tactic Idealize.SL.Sem

/-- What a row is multiplied by: one over its root mean square, the small constant added. -/
def scale (h : Fin 1024 → EReal) : EReal :=
  Ideal.rsqrt (Ideal.div (∑ k : Fin 1024, h k * h k) (Scalar.ofBits (F := Ideal) .f32 0x44800000#32) + Scalar.ofBits (F := Ideal) .f32 0x358637BD#32)

/-- The rows, scaled, times the gain. -/
def norm (h : Vec Ideal S2048x1024 .f32) (g : Vec Ideal S1x1024 .f32) : Vec Ideal S2048x1024 .bf16 := fun y =>
  h y * scale (fun k => h (ix2 (y 0) k)) * g (ix2 0 (y 1))

section
variable (m : (ℓ : Loc nD τ sig) → Buf (Elt Ideal) ℓ) (c : Dev nD)

theorem t_lt (t : Fin cfg0.N) : t.val < 2 := t.isLt

theorem index0 : ∀ t : Fin cfg0.N, (cfg0.win 0).index t 0 = t.val ∧ (cfg0.win 0).index t 1 = 0 := by decide +kernel

theorem index1 : ∀ t : Fin cfg0.N, (cfg0.win 1).index t 0 = 0 ∧ (cfg0.win 1).index t 1 = 0 := by decide +kernel

theorem index2 : ∀ t : Fin cfg0.N, (cfg0.win 2).index t 0 = t.val ∧ (cfg0.win 2).index t 1 = 0 := by decide +kernel

theorem iblk0_eq (t : Fin cfg0.N) (r q : Fin 1024) : iblk m c 0 t (ix2 r q) = V m c main_arg0 (ix2 ⟨1024 * t.val + r.val, by have := t_lt t; omega⟩ q) := by
  obtain ⟨e0, e1⟩ := index0 t
  blk_ext [iblk, e0, e1]

theorem iblk1_eq (t : Fin cfg0.N) (q : Fin 1024) : iblk m c 1 t (ix2 0 q) = V m c main_arg1 (ix2 0 q) := by
  obtain ⟨e0, e1⟩ := index1 t
  blk_ext [iblk, e0, e1]

theorem zero2 : (![0, 0] : Fin 2 → ℕ) = fun _ => 0 := by decide

/-- A step's result. -/
theorem out_apply (x0 : Vec Ideal S1024x1024 .f32) (x1 : Vec Ideal S1x1024 .f32) (r q : Fin 1024) :
    out0_2 x0 x1 (ix2 r q) = x0 (ix2 r q) * scale (fun k => x0 (ix2 r k)) * x1 (ix2 0 q) := by
  unfold out0_2 r0_0 r0_1
  rw [View.canon_unit_zero zero2, View.ld_unit_zero zero2, View.ld_unit_zero zero2]
  unfold k0_pay1 scale
  pointwise

theorem arr : (dats m 0 c).arrAt 2 cfg0.N = norm (V m c main_arg0) (V m c main_arg1) := by
  refine (dats m 0 c).arrAt_eq_of_covers 2 _ (by decide +kernel) fun t hf y => ?_
  obtain ⟨e0, e1⟩ := index2 t
  blk_simp
  rw [after0_2]
  idx_vars y
  refine (out_apply _ _ _ _).trans ?_
  unfold norm
  refine congrArg₂ (· * ·) (congrArg₂ (· * ·) ?_ (congrArg scale (funext fun k => ?_))) ?_
  · rw [iblk0_eq]
    congr 1
    blk_ext [e0, e1]
  · rw [iblk0_eq]
    congr 1
    blk_ext [e0, e1]
  · rw [iblk1_eq]
    congr 1
    blk_ext [e0, e1]

end

/-- The reference's result is the same. -/
theorem ref_eq (h : Vec Ideal S2048x1024 .f32) (g : Vec Ideal S1x1024 .f32) :
    Cert.Reference21Ideal.Read.val_main_v12 (F := Ideal) h g = norm h g := by
  funext y
  idx_vars y
  unfold Cert.Reference21Ideal.Read.val_main_v12 Cert.Reference21Ideal.Read.val_main_v11 Cert.Reference21Ideal.Read.val_main_v10 Cert.Reference21Ideal.Read.val_main_v9 Cert.Reference21Ideal.Read.val_main_v8 Cert.Reference21Ideal.Read.val_main_v7 Cert.Reference21Ideal.Read.val_main_v6 Cert.Reference21Ideal.Read.val_main_v5 Cert.Reference21Ideal.Read.val_main_cst_1 Cert.Reference21Ideal.Read.val_main_v4 Cert.Reference21Ideal.Read.val_main_v3 Cert.Reference21Ideal.Read.val_main_cst_0 Cert.Reference21Ideal.Read.val_main_v2 Cert.Reference21Ideal.Read.val_main_v1 Cert.Reference21Ideal.Read.val_main_cst Cert.Reference21Ideal.Read.val_main_v0 norm scale
  pointwise

/-! ## The claims -/

theorem frame_reference : Cert.quiescent_Reference21Ideal := fun m g _ =>
  (θ_run (Cert.Reference21Ideal.defs (F := Ideal)) _ _).mono
    (fun r h => ⟨fun c => (h c).2, sem_eq_zero_of_no_sems (by decide) r.2⟩)
    (Cert.Reference21Ideal.Value.run (F := Ideal) m g)

theorem algebraic : Cert.algebraic_Kernel21Ideal_Reference21Ideal := by
  intro m g m' g' _ hargs
  refine ⟨fun c => norm (V m c main_arg0) (V m c main_arg1), ?_, ?_⟩
  · refine (θ_run _ _ _).mono (fun r h c => ?_) (Cert.Kernel21Ideal.Value.run_blocks m g)
    obtain ⟨h0, hk⟩ := h c
    exact ⟨h0.trans (arr m c), hk⟩
  · refine (θ_run _ _ _).mono (fun r h c => ?_) (Cert.Reference21Ideal.Value.run m' g')
    obtain ⟨h0, hk⟩ := h c
    rw [Cert.Reference21Ideal.Read.val_main_v12_eq, (hargs c).1, (hargs c).2] at h0
    exact ⟨h0.trans (ref_eq _ _), hk⟩

end Cert.Norm

end
-- ==== Proof.FfnAct.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import proofs.«01_k».proof.Proof.FfnRun
public import Idealize.ShloMosaic.Lib.Pointwise
public import Idealize.ShloMosaic.Lib.Quiescent

@[expose] public section

/-! # The feed-forward activation's forward call

The grid walks each block of 704 features through its four tiles of 512 rows. A step convolves the tile of both halves,
reading the eight rows before it, and multiplies the value by the gate times the gate's logistic. -/

set_option maxRecDepth 16384

noncomputable section

namespace Cert.FfnAct

open Cert.Kernel22Ideal Cert.Kernel22Ideal.Gen Idealize.ShloMosaic Idealize.ShloMosaic.Tactic Idealize.SL.Sem
open Cert.FfnBlock (past conv past_read)
open Cert.FfnRun (U lag convG)

/-- The activation over the whole sequence. -/
def act (up : Vec Ideal S2x4x2048x704 .f32) (cw : Vec Ideal S2x4x3x704 .f32) (cb : Vec Ideal S2x4x1x704 .f32) : Vec Ideal S4x2048x704 .bf16 := fun y =>
  convG up cw cb 0 (y 0) (y 1).val (y 2) * FfnBlock.sig (convG up cw cb 0 (y 0) (y 1).val (y 2)) * convG up cw cb 1 (y 0) (y 1).val (y 2)

/-! ## One step -/

/-- One of the two halves of a block: of the tile's rows, the eight rows before, the weights and the bias. -/
def halfU (s : Fin 2) (x : Vec Ideal S2x1x512x704 .f32) : Vec Ideal S1x1x512x704 .f32 := fun y => x (ix4 s 0 (y 2) (y 3))

def halfP (s : Fin 2) (x : Vec Ideal S2x1x8x704 .f32) : Vec Ideal S1x1x8x704 .f32 := fun y => x (ix4 s 0 (y 2) (y 3))

def halfW (s : Fin 2) (x : Vec Ideal S2x1x3x704 .f32) : Vec Ideal S1x1x3x704 .f32 := fun y => x (ix4 s 0 (y 2) (y 3))

def halfB (s : Fin 2) (x : Vec Ideal S2x1x1x704 .f32) : Vec Ideal S1x1x1x704 .f32 := fun y => x (ix4 s 0 (y 2) (y 3))

theorem ld_halfU (s : Fin 2) (x : Vec Ideal S2x1x512x704 .f32) (inb) :
    View.ld x (Rect.unit ![s.val, 0, 0, 0] ![1, 1, 512, 704] inb) = halfU s x := by
  funext y
  refine View.ld_unit_apply_of _ _ _ _ _ _ fun a => ?_
  have h0 : (y 0).val < 1 := (y 0).isLt
  have h1 : (y 1).val < 1 := (y 1).isLt
  match a with
  | 0 => show s.val = s.val + (y 0).val; omega
  | 1 => show 0 = 0 + (y 1).val; omega
  | 2 => show (y 2).val = 0 + (y 2).val; omega
  | 3 => show (y 3).val = 0 + (y 3).val; omega

theorem ld_U0 (x : Vec Ideal S2x1x512x704 .f32) (inb) : View.ld x (Rect.unit ![0, 0, 0, 0] ![1, 1, 512, 704] inb) = halfU 0 x := ld_halfU 0 x inb

theorem ld_U1 (x : Vec Ideal S2x1x512x704 .f32) (inb) : View.ld x (Rect.unit ![1, 0, 0, 0] ![1, 1, 512, 704] inb) = halfU 1 x := ld_halfU 1 x inb

theorem ld_halfP (s : Fin 2) (x : Vec Ideal S2x1x8x704 .f32) (inb) :
    View.ld x (Rect.unit ![s.val, 0, 0, 0] ![1, 1, 8, 704] inb) = halfP s x := by
  funext y
  refine View.ld_unit_apply_of _ _ _ _ _ _ fun a => ?_
  have h0 : (y 0).val < 1 := (y 0).isLt
  have h1 : (y 1).val < 1 := (y 1).isLt
  match a with
  | 0 => show s.val = s.val + (y 0).val; omega
  | 1 => show 0 = 0 + (y 1).val; omega
  | 2 => show (y 2).val = 0 + (y 2).val; omega
  | 3 => show (y 3).val = 0 + (y 3).val; omega

theorem ld_P0 (x : Vec Ideal S2x1x8x704 .f32) (inb) : View.ld x (Rect.unit ![0, 0, 0, 0] ![1, 1, 8, 704] inb) = halfP 0 x := ld_halfP 0 x inb

theorem ld_P1 (x : Vec Ideal S2x1x8x704 .f32) (inb) : View.ld x (Rect.unit ![1, 0, 0, 0] ![1, 1, 8, 704] inb) = halfP 1 x := ld_halfP 1 x inb

theorem ld_halfW (s : Fin 2) (x : Vec Ideal S2x1x3x704 .f32) (inb) :
    View.ld x (Rect.unit ![s.val, 0, 0, 0] ![1, 1, 3, 704] inb) = halfW s x := by
  funext y
  refine View.ld_unit_apply_of _ _ _ _ _ _ fun a => ?_
  have h0 : (y 0).val < 1 := (y 0).isLt
  have h1 : (y 1).val < 1 := (y 1).isLt
  match a with
  | 0 => show s.val = s.val + (y 0).val; omega
  | 1 => show 0 = 0 + (y 1).val; omega
  | 2 => show (y 2).val = 0 + (y 2).val; omega
  | 3 => show (y 3).val = 0 + (y 3).val; omega

theorem ld_W0 (x : Vec Ideal S2x1x3x704 .f32) (inb) : View.ld x (Rect.unit ![0, 0, 0, 0] ![1, 1, 3, 704] inb) = halfW 0 x := ld_halfW 0 x inb

theorem ld_W1 (x : Vec Ideal S2x1x3x704 .f32) (inb) : View.ld x (Rect.unit ![1, 0, 0, 0] ![1, 1, 3, 704] inb) = halfW 1 x := ld_halfW 1 x inb

theorem ld_halfB (s : Fin 2) (x : Vec Ideal S2x1x1x704 .f32) (inb) :
    View.ld x (Rect.unit ![s.val, 0, 0, 0] ![1, 1, 1, 704] inb) = halfB s x := by
  funext y
  refine View.ld_unit_apply_of _ _ _ _ _ _ fun a => ?_
  have h0 : (y 0).val < 1 := (y 0).isLt
  have h1 : (y 1).val < 1 := (y 1).isLt
  match a with
  | 0 => show s.val = s.val + (y 0).val; omega
  | 1 => show 0 = 0 + (y 1).val; omega
  | 2 => show (y 2).val = 0 + (y 2).val; omega
  | 3 => show (y 3).val = 0 + (y 3).val; omega

theorem ld_B0 (x : Vec Ideal S2x1x1x704 .f32) (inb) : View.ld x (Rect.unit ![0, 0, 0, 0] ![1, 1, 1, 704] inb) = halfB 0 x := ld_halfB 0 x inb

theorem ld_B1 (x : Vec Ideal S2x1x1x704 .f32) (inb) : View.ld x (Rect.unit ![1, 0, 0, 0] ![1, 1, 1, 704] inb) = halfB 1 x := ld_halfB 1 x inb

/-- A step is the first of its sequence when its tile coordinate is zero. -/
def firstBit (i : grid0.Coords) : BitVec 1 := Scalar.cmpi .eq (BitVec.ofNat 32 (i 1).val) 0#32

section
variable (i : grid0.Coords) (v0 : BitVec 1) (u : Vec Ideal S1x1x512x704 .f32) (p : Vec Ideal S1x1x8x704 .f32)
  (w : Vec Ideal S1x1x3x704 .f32) (b : Vec Ideal S1x1x1x704 .f32) (r : Fin 512) (q : Fin 704)

/-- The convolution of one half of the block. -/
def half (v0 : BitVec 1) (u : Vec Ideal S1x1x512x704 .f32) (p : Vec Ideal S1x1x8x704 .f32)
    (w : Vec Ideal S1x1x3x704 .f32) (b : Vec Ideal S1x1x1x704 .f32) (r : Fin 512) (q : Fin 704) : EReal :=
  conv (v0 = 1#1) (fun r q => u (ix4 0 0 r q)) (fun r q => p (ix4 0 0 r q)) (fun k q => w (ix4 0 0 k q)) (fun q => b (ix4 0 0 0 q)) r q

theorem gate1_apply : k0_pay6 i u p (ix2 r q) = past (firstBit i = 1#1) (fun r q => u (ix4 0 0 r q)) (fun r q => p (ix4 0 0 r q)) 1 r q := by
  unfold k0_pay6 k0_pay3 k0_pay2
  pointwise
  exact past_read (firstBit i) (fun r q => u (ix4 0 0 r q)) (fun r q => p (ix4 0 0 r q)) 1 r q

theorem gate2_apply : k0_pay7 i u p w (ix2 r q)
    = w (ix4 0 0 0 q) * past (firstBit i = 1#1) (fun r q => u (ix4 0 0 r q)) (fun r q => p (ix4 0 0 r q)) 2 r q := by
  unfold k0_pay7 k0_pay4 k0_pay3 k0_pay2
  pointwise
  exact congrArg _ (past_read (firstBit i) (fun r q => u (ix4 0 0 r q)) (fun r q => p (ix4 0 0 r q)) 2 r q)

theorem value1_apply : k0_pay14 v0 u p (ix2 r q) = past (v0 = 1#1) (fun r q => u (ix4 0 0 r q)) (fun r q => p (ix4 0 0 r q)) 1 r q := by
  unfold k0_pay14 k0_pay11 k0_pay10
  pointwise
  exact past_read v0 (fun r q => u (ix4 0 0 r q)) (fun r q => p (ix4 0 0 r q)) 1 r q

theorem value2_apply : k0_pay15 v0 u p (ix2 r q) = past (v0 = 1#1) (fun r q => u (ix4 0 0 r q)) (fun r q => p (ix4 0 0 r q)) 2 r q := by
  unfold k0_pay15 k0_pay11 k0_pay10
  pointwise
  exact past_read v0 (fun r q => u (ix4 0 0 r q)) (fun r q => p (ix4 0 0 r q)) 2 r q

/-- The gate's convolution. -/
theorem gate_apply : k0_pay9 (k0_pay2 u) (k0_pay4 w) (k0_pay5 b) (k0_pay6 i u p) (k0_pay7 i u p w) (k0_pay8 w) (ix2 r q)
    = half (firstBit i) u p w b r q := by
  unfold half conv
  rw [← gate1_apply, ← gate2_apply (w := w)]
  unfold k0_pay9 k0_pay8 k0_pay5 k0_pay4 k0_pay2
  generalize k0_pay7 i u p w = s2
  generalize k0_pay6 i u p = s1
  pointwise

/-- The step's product, from the gate's convolution. -/
theorem product_apply (g : FVec Ideal S512x704 .f32) :
    k0_pay1 g (k0_pay10 u) (k0_pay12 w) (k0_pay13 b) (k0_pay14 v0 u p) (k0_pay15 v0 u p) (k0_pay16 w) (ix3 0 r q)
      = g (ix2 r q) * FfnBlock.sig (g (ix2 r q)) * half v0 u p w b r q := by
  unfold half conv FfnBlock.sig
  rw [← value1_apply, ← value2_apply]
  unfold k0_pay1 k0_pay16 k0_pay13 k0_pay12 k0_pay10
  generalize k0_pay15 v0 u p = s2
  generalize k0_pay14 v0 u p = s1
  pointwise

end

theorem zero3 : (![0, 0, 0] : Fin 3 → ℕ) = fun _ => 0 := by decide

/-- The convolution of one half, of a step's blocks. -/
def convB (i : grid0.Coords) (x0 : Vec Ideal S2x1x512x704 .f32) (x1 : Vec Ideal S2x1x8x704 .f32) (x2 : Vec Ideal S2x1x3x704 .f32)
    (x3 : Vec Ideal S2x1x1x704 .f32) (s : Fin 2) (r : Fin 512) (q : Fin 704) : EReal :=
  half (firstBit i) (halfU s x0) (halfP s x1) (halfW s x2) (halfB s x3) r q

/-- A step's result. -/
theorem out_apply (i : grid0.Coords) (x0 : Vec Ideal S2x1x512x704 .f32) (x1 : Vec Ideal S2x1x8x704 .f32) (x2 : Vec Ideal S2x1x3x704 .f32)
    (x3 : Vec Ideal S2x1x1x704 .f32) (r : Fin 512) (q : Fin 704) : out0_4 i x0 x1 x2 x3 (ix3 0 r q)
      = convB i x0 x1 x2 x3 0 r q * FfnBlock.sig (convB i x0 x1 x2 x3 0 r q) * convB i x0 x1 x2 x3 1 r q := by
  unfold out0_4 r0_0 r0_1 r0_2 r0_3 r0_4 r0_5 r0_6 r0_7 r0_8
  rw [View.canon_unit_zero zero3]
  simp only [ld_U0, ld_U1, ld_P0, ld_P1, ld_W0, ld_W1, ld_B0, ld_B1]
  rw [product_apply, gate_apply]
  rfl

/-! ## The whole run -/

section
variable (m : (ℓ : Loc nD τ sig) → Buf (Elt Ideal) ℓ) (c : Dev nD)

theorem t_lt (t : Fin cfg0.N) : t.val < 16 := t.isLt

/-- The block of features a step works on, and the tile of rows. -/
def fb (t : Fin cfg0.N) : Fin 4 := ⟨t.val / 4, by have := t_lt t; omega⟩
def tile (t : Fin cfg0.N) : ℕ := t.val % 4

theorem tile_le (t : Fin cfg0.N) : tile t ≤ 3 := by unfold tile; omega

theorem index0 : ∀ t : Fin cfg0.N, (cfg0.win 0).index t 0 = 0 ∧ (cfg0.win 0).index t 1 = t.val / 4
    ∧ (cfg0.win 0).index t 2 = t.val % 4 ∧ (cfg0.win 0).index t 3 = 0 := by decide +kernel

theorem index1 : ∀ t : Fin cfg0.N, (cfg0.win 1).index t 0 = 0 ∧ (cfg0.win 1).index t 1 = t.val / 4
    ∧ (cfg0.win 1).index t 2 = 64 * (t.val % 4) - 1 ∧ (cfg0.win 1).index t 3 = 0 := by decide +kernel

theorem index2 : ∀ t : Fin cfg0.N, (cfg0.win 2).index t 0 = 0 ∧ (cfg0.win 2).index t 1 = t.val / 4
    ∧ (cfg0.win 2).index t 2 = 0 ∧ (cfg0.win 2).index t 3 = 0 := by decide +kernel

theorem index3 : ∀ t : Fin cfg0.N, (cfg0.win 3).index t 0 = 0 ∧ (cfg0.win 3).index t 1 = t.val / 4
    ∧ (cfg0.win 3).index t 2 = 0 ∧ (cfg0.win 3).index t 3 = 0 := by decide +kernel

theorem index4 : ∀ t : Fin cfg0.N, (cfg0.win 4).index t 0 = t.val / 4 ∧ (cfg0.win 4).index t 1 = t.val % 4
    ∧ (cfg0.win 4).index t 2 = 0 := by decide +kernel

theorem firstBit_tile : ∀ t : Fin cfg0.N, firstBit (grid0.coords t) = 1#1 ↔ t.val % 4 = 0 := by decide +kernel

theorem iblk0_eq (t : Fin cfg0.N) (s : Fin 2) (r : Fin 512) (q : Fin 704) :
    iblk m c 0 t (ix4 s 0 r q) = V m c main_arg0 (ix4 s (fb t) ⟨512 * tile t + r.val, by have := tile_le t; omega⟩ q) := by
  obtain ⟨e0, e1, e2, e3⟩ := index0 t
  unfold fb tile
  blk_ext [iblk, e0, e1, e2, e3]

theorem iblk1_eq (t : Fin cfg0.N) (h : tile t ≠ 0) (s : Fin 2) (r : Fin 8) (q : Fin 704) :
    iblk m c 1 t (ix4 s 0 r q) = V m c main_arg0 (ix4 s (fb t) ⟨8 * (64 * tile t - 1) + r.val, by have := tile_le t; omega⟩ q) := by
  obtain ⟨e0, e1, e2, e3⟩ := index1 t
  unfold fb tile
  blk_ext [iblk, e0, e1, e2, e3]

theorem iblk2_eq (t : Fin cfg0.N) (s : Fin 2) (k : Fin 3) (q : Fin 704) :
    iblk m c 2 t (ix4 s 0 k q) = V m c main_arg1 (ix4 s (fb t) k q) := by
  obtain ⟨e0, e1, e2, e3⟩ := index2 t
  unfold fb
  blk_ext [iblk, e0, e1, e2, e3]

theorem iblk3_eq (t : Fin cfg0.N) (s : Fin 2) (q : Fin 704) :
    iblk m c 3 t (ix4 s 0 0 q) = V m c main_arg2 (ix4 s (fb t) 0 q) := by
  obtain ⟨e0, e1, e2, e3⟩ := index3 t
  unfold fb
  blk_ext [iblk, e0, e1, e2, e3]

/-- A row moved down in the block is a row before in the sequence. -/
theorem past_eq (t : Fin cfg0.N) (s : Fin 2) (k : Fin 3) (r : Fin 512) (q : Fin 704) :
    past (firstBit (grid0.coords t) = 1#1) (fun r q => iblk m c 0 t (ix4 s 0 r q)) (fun r q => iblk m c 1 t (ix4 s 0 r q)) k r q
      = lag (V m c main_arg0) s (fb t) k.val (512 * tile t + r.val) q := by
  have hk := k.isLt
  have hr := r.isLt
  have ht := tile_le t
  have hf : firstBit (grid0.coords t) = 1#1 ↔ tile t = 0 := firstBit_tile t
  unfold past lag U
  by_cases hlt : r.val < k.val
  · rw [dif_pos hlt]
    by_cases h0 : tile t = 0
    · rw [if_pos (hf.mpr h0), if_pos (by omega)]
    · rw [if_neg (fun h => h0 (hf.mp h)), if_neg (by omega), dif_pos (by omega)]
      beta_reduce
      rw [iblk1_eq m c t h0]
      congr 2
      apply Fin.ext
      show 8 * (64 * tile t - 1) + (8 - k.val + r.val) = 512 * tile t + r.val - k.val
      omega
  · rw [dif_neg hlt, if_neg (by omega), dif_pos (by omega)]
    beta_reduce
    rw [iblk0_eq]
    congr 2
    apply Fin.ext
    show 512 * tile t + (r.val - k.val) = 512 * tile t + r.val - k.val
    omega

theorem convB_eq (t : Fin cfg0.N) (s : Fin 2) (r : Fin 512) (q : Fin 704) :
    convB (grid0.coords t) (iblk m c 0 t) (iblk m c 1 t) (iblk m c 2 t) (iblk m c 3 t) s r q
      = convG (V m c main_arg0) (V m c main_arg1) (V m c main_arg2) s (fb t) (512 * tile t + r.val) q := by
  have ht := tile_le t
  have h2 := past_eq m c t s 2 r q
  have h1 := past_eq m c t s 1 r q
  unfold convB half conv convG
  unfold halfU halfP halfW halfB
  refine congrArg₂ (· + ·) (congrArg₂ (· + ·) (congrArg₂ (· + ·) (congrArg₂ (· * ·) (iblk2_eq m c t s 0 q) h2)
    (congrArg₂ (· * ·) (iblk2_eq m c t s 1 q) h1)) (congrArg₂ (· * ·) (iblk2_eq m c t s 2 q) ?_)) (iblk3_eq m c t s q)
  unfold U
  rw [dif_pos (by omega)]
  exact iblk0_eq m c t s r q

theorem arr : (dats m 0 c).arrAt 4 cfg0.N = act (V m c main_arg0) (V m c main_arg1) (V m c main_arg2) := by
  refine (dats m 0 c).arrAt_eq_of_covers 4 _ (by decide +kernel) fun t hf y => ?_
  obtain ⟨e0, e1, e2⟩ := index4 t
  blk_simp
  rw [after0_4]
  idx_vars y
  obtain rfl : y0 = 0 := Subsingleton.elim _ _
  refine (out_apply _ _ _ _ _ _ _).trans ?_
  rw [convB_eq, convB_eq]
  show act (V m c main_arg0) (V m c main_arg1) (V m c main_arg2) (ix3 (fb t) ⟨512 * tile t + y1.val, by have := tile_le t; omega⟩ y2) = _
  refine congrArg (act (V m c main_arg0) (V m c main_arg1) (V m c main_arg2)) ?_
  unfold fb tile
  blk_ext [e0, e1, e2]

end

/-! ## The reference's result is the same -/

section
open Cert.Reference22Ideal.Read
variable (up : Vec Ideal S2x4x2048x704 .f32) (cw : Vec Ideal S2x4x3x704 .f32) (cb : Vec Ideal S2x4x1x704 .f32)

theorem padded_apply (s : Fin 2) (j : Fin 4) (t : Fin 2050) (q : Fin 704) : val_main_v1 (F := Ideal) up (ix4 s j t q) = lag up s j 2 t.val q := by
  have ht := t.isLt
  unfold val_main_v1 val_main_v0 val_main_cst lag U
  pointwise
  by_cases h : t.val < 2
  · rw [dif_pos h, if_pos h]
  · rw [dif_neg h, if_neg h, dif_pos (by omega)]

theorem lag2_apply (s : Fin 2) (j : Fin 4) (t : Fin 2048) (q : Fin 704) : val_main_v3 (F := Ideal) up (ix4 s j t q) = lag up s j 2 t.val q := by
  unfold val_main_v3
  pointwise
  rw [padded_apply]

theorem lag1_apply (s : Fin 2) (j : Fin 4) (t : Fin 2048) (q : Fin 704) : val_main_v9 (F := Ideal) up (ix4 s j t q) = lag up s j 1 t.val q := by
  unfold val_main_v9
  pointwise
  rw [padded_apply]
  unfold lag
  dsimp only
  by_cases h : t.val < 1
  · rw [if_pos h, if_pos (by omega)]
  · rw [if_neg h, if_neg (by omega)]
    congr 1
    omega

theorem lag0_apply (s : Fin 2) (j : Fin 4) (t : Fin 2048) (q : Fin 704) : val_main_v14 (F := Ideal) up (ix4 s j t q) = U up s j t.val q := by
  unfold val_main_v14
  pointwise
  rw [padded_apply]
  unfold lag
  dsimp only
  rw [if_neg (by omega)]
  congr 1
  omega

theorem conv_apply (s : Fin 2) (j : Fin 4) (t : Fin 2048) (q : Fin 704) : val_main_v19 (F := Ideal) up cw cb (ix4 s j t q) = convG up cw cb s j t.val q := by
  unfold val_main_v19 val_main_v18 val_main_v17 val_main_v16 val_main_v15 val_main_v13 val_main_v12 val_main_v11 val_main_v10 val_main_v8 val_main_v7 val_main_v6 val_main_v5 val_main_v4 val_main_v2 val_main_cst_0
  pointwise
  rw [lag2_apply, lag1_apply, lag0_apply]
  unfold convG
  simp only [zero_add]

theorem ref_gate (j : Fin 4) (t : Fin 2048) (q : Fin 704) : val_main_v21 (F := Ideal) up cw cb (ix3 j t q) = convG up cw cb 0 j t.val q := by
  unfold val_main_v21 val_main_v20
  pointwise
  exact conv_apply up cw cb 0 j t q

theorem ref_value (j : Fin 4) (t : Fin 2048) (q : Fin 704) : val_main_v23 (F := Ideal) up cw cb (ix3 j t q) = convG up cw cb 1 j t.val q := by
  unfold val_main_v23 val_main_v22
  pointwise
  exact conv_apply up cw cb 1 j t q

theorem ref_eq : val_main_v26 (F := Ideal) up cw cb = act up cw cb := by
  funext y
  idx_vars y
  unfold val_main_v26 val_main_v25 val_main_v24 val_main_call0_v5 val_main_call0_v4 val_main_call0_cst_0 val_main_call0_v3 val_main_call0_v2 val_main_call0_cst val_main_call0_v1 val_main_call0_v0
  pointwise
  rw [ref_gate, ref_value]
  unfold act FfnBlock.sig
  simp only [zero_sub]
  rfl

end

/-! ## The claims -/

theorem frame_reference : Cert.quiescent_Reference22Ideal := fun m g _ =>
  (θ_run (Cert.Reference22Ideal.defs (F := Ideal)) _ _).mono
    (fun r h => ⟨fun c => (h c).2, sem_eq_zero_of_no_sems (by decide) r.2⟩)
    (Cert.Reference22Ideal.Value.run (F := Ideal) m g)

theorem algebraic : Cert.algebraic_Kernel22Ideal_Reference22Ideal := by
  intro m g m' g' _ hargs
  refine ⟨fun c => act (V m c main_arg0) (V m c main_arg1) (V m c main_arg2), ?_, ?_⟩
  · refine (θ_run _ _ _).mono (fun r h c => ?_) (Cert.Kernel22Ideal.Value.run_blocks m g)
    obtain ⟨h0, hk⟩ := h c
    exact ⟨h0.trans (arr m c), hk⟩
  · refine (θ_run _ _ _).mono (fun r h c => ?_) (Cert.Reference22Ideal.Value.run m' g')
    obtain ⟨h0, hk⟩ := h c
    rw [Cert.Reference22Ideal.Read.val_main_v26_eq, (hargs c).1, (hargs c).2.1, (hargs c).2.2] at h0
    exact ⟨h0.trans (ref_eq _ _ _), hk⟩

end Cert.FfnAct

end
-- ==== Proof.AdamW.lean ====
module

public import proofs.«01_k».proof.Defs
public import Idealize.ShloMosaic.Lib.Pointwise

@[expose] public section

/-! # One AdamW step of one entry -/

noncomputable section

namespace Cert.AdamW

open Idealize.ShloMosaic

/-- The first moment's new entry. -/
def first (g u : EReal) : EReal := Scalar.ofBits (F := Ideal) .f32 0x3F666666#32 * u + Scalar.ofBits (F := Ideal) .f32 0x3DCCCCCD#32 * g

/-- The second moment's new entry. -/
def second (g v : EReal) : EReal := Scalar.ofBits (F := Ideal) .f32 0x3F7FBE77#32 * v + Scalar.ofBits (F := Ideal) .f32 0x3A83126F#32 * (g * g)

/-- The parameter's change. -/
def change (p g u v : EReal) : EReal :=
  Scalar.ofBits (F := Ideal) .f32 0xBA83126F#32 *
    (Ideal.div (Ideal.div (first g u) (Scalar.ofBits (F := Ideal) .f32 0x3F26BD02#32))
        (Ideal.sqrt (Ideal.div (second g v) (Scalar.ofBits (F := Ideal) .f32 0x3C231ACC#32)) + Scalar.ofBits (F := Ideal) .f32 0x322BCC77#32)
      + Scalar.ofBits (F := Ideal) .f32 0x3C23D70A#32 * p)

end Cert.AdamW

end
-- ==== Proof.AdamUp.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 2048 rows of 704

The grid has four blocks of 512 rows. A step updates each entry by itself. -/

set_option maxRecDepth 16384

noncomputable section

namespace Cert.AdamUp

open Cert.Kernel23Ideal Cert.Kernel23Ideal.Gen Idealize.ShloMosaic Idealize.ShloMosaic.Tactic Idealize.SL.Sem Cert.AdamW

/-! The three results, entry by entry. -/

def firsts (g u : Vec Ideal S2048x704 .f32) : Vec Ideal S2048x704 .f32 := fun y => first (g y) (u y)

def seconds (g v : Vec Ideal S2048x704 .f32) : Vec Ideal S2048x704 .f32 := fun y => second (g y) (v y)

def changes (p g u v : Vec Ideal S2048x704 .f32) : Vec Ideal S2048x704 .f32 := fun y => change (p y) (g y) (u y) (v y)

section
variable (m : (ℓ : Loc nD τ sig) → Buf (Elt Ideal) ℓ) (c : Dev nD)

theorem t_lt (t : Fin cfg0.N) : t.val < 4 := t.isLt

/-- A block's place in the whole. -/
def at2 (t : Fin cfg0.N) (r : Fin 512) (q : Fin 704) : S2048x704.Idx := ix2 ⟨512 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 512) (q : Fin 704) : iblk m c 0 t (ix2 r q) = V m c main_arg0 (at2 t r q) := by
  obtain ⟨e0, e1⟩ := index0 t
  unfold at2
  blk_ext [iblk, e0, e1]

theorem iblk1_eq (t : Fin cfg0.N) (r : Fin 512) (q : Fin 704) : iblk m c 1 t (ix2 r q) = V m c main_arg1 (at2 t r q) := by
  obtain ⟨e0, e1⟩ := index1 t
  unfold at2
  blk_ext [iblk, e0, e1]

theorem iblk2_eq (t : Fin cfg0.N) (r : Fin 512) (q : Fin 704) : iblk m c 2 t (ix2 r q) = V m c main_arg2 (at2 t r q) := by
  obtain ⟨e0, e1⟩ := index2 t
  unfold at2
  blk_ext [iblk, e0, e1]

theorem iblk3_eq (t : Fin cfg0.N) (r : Fin 512) (q : Fin 704) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S512x704 .f32) (r : Fin 512) (q : Fin 704)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference23Ideal.Read

/-! The reference's results are the same. -/

theorem ref_changes (p g u v : Vec Ideal S2048x704 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S2048x704 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S2048x704 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference23Ideal := fun m g _ =>
  (θ_run (Cert.Reference23Ideal.defs (F := Ideal)) _ _).mono
    (fun r h => ⟨fun c => (h c).2.2.2, sem_eq_zero_of_no_sems (by decide) r.2⟩)
    (Cert.Reference23Ideal.Value.run (F := Ideal) m g)

theorem algebraic : Cert.algebraic_Kernel23Ideal_Reference23Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel23Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference23Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamUp

end
-- ==== Proof.AdamDown.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 704 rows of 1024

The grid has two blocks of 352 rows. A step updates each entry by itself. -/

set_option maxRecDepth 16384

noncomputable section

namespace Cert.AdamDown

open Cert.Kernel24Ideal Cert.Kernel24Ideal.Gen Idealize.ShloMosaic Idealize.ShloMosaic.Tactic Idealize.SL.Sem Cert.AdamW

/-! The three results, entry by entry. -/

def firsts (g u : Vec Ideal S704x1024 .f32) : Vec Ideal S704x1024 .f32 := fun y => first (g y) (u y)

def seconds (g v : Vec Ideal S704x1024 .f32) : Vec Ideal S704x1024 .f32 := fun y => second (g y) (v y)

def changes (p g u v : Vec Ideal S704x1024 .f32) : Vec Ideal S704x1024 .f32 := fun y => change (p y) (g y) (u y) (v y)

section
variable (m : (ℓ : Loc nD τ sig) → Buf (Elt Ideal) ℓ) (c : Dev nD)

theorem t_lt (t : Fin cfg0.N) : t.val < 2 := t.isLt

/-- A block's place in the whole. -/
def at2 (t : Fin cfg0.N) (r : Fin 352) (q : Fin 1024) : S704x1024.Idx := ix2 ⟨352 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 352) (q : Fin 1024) : iblk m c 0 t (ix2 r q) = V m c main_arg0 (at2 t r q) := by
  obtain ⟨e0, e1⟩ := index0 t
  unfold at2
  blk_ext [iblk, e0, e1]

theorem iblk1_eq (t : Fin cfg0.N) (r : Fin 352) (q : Fin 1024) : iblk m c 1 t (ix2 r q) = V m c main_arg1 (at2 t r q) := by
  obtain ⟨e0, e1⟩ := index1 t
  unfold at2
  blk_ext [iblk, e0, e1]

theorem iblk2_eq (t : Fin cfg0.N) (r : Fin 352) (q : Fin 1024) : iblk m c 2 t (ix2 r q) = V m c main_arg2 (at2 t r q) := by
  obtain ⟨e0, e1⟩ := index2 t
  unfold at2
  blk_ext [iblk, e0, e1]

theorem iblk3_eq (t : Fin cfg0.N) (r : Fin 352) (q : Fin 1024) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S352x1024 .f32) (r : Fin 352) (q : Fin 1024)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference24Ideal.Read

/-! The reference's results are the same. -/

theorem ref_changes (p g u v : Vec Ideal S704x1024 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S704x1024 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S704x1024 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference24Ideal := fun m g _ =>
  (θ_run (Cert.Reference24Ideal.defs (F := Ideal)) _ _).mono
    (fun r h => ⟨fun c => (h c).2.2.2, sem_eq_zero_of_no_sems (by decide) r.2⟩)
    (Cert.Reference24Ideal.Value.run (F := Ideal) m g)

theorem algebraic : Cert.algebraic_Kernel24Ideal_Reference24Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel24Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference24Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamDown

end
-- ==== Proof.NormGrad.lean ====
module

public import proofs.«01_k».proof.Defs
public import Idealize.ShloMosaic.Lib.IdealHost
public import Idealize.ShloMosaic.Lib.Pipeline.ValueKit

@[expose] public section

/-! # The gradient of a root mean square norm at one row

For a row `x` of 1024 numbers let `v` be the mean of the squares plus a small constant and `r = 1/√v`. The norm is `x · r` (times a gain). For a cotangent `a` of `x · r` a kernel writes the gradient as

  `r · (a_q − x_q r · mean (a · x r))`,

while differentiating line by line gives

  `a_q r + x_q z + z x_q`, with `z = (Σ x a) · (−½ · (r / v)) / 1024`.

They are equal for all extended reals, infinite ones among them. If a square is infinite, then `r` is zero and both are zero. Otherwise `r` is a positive real, by which sums may be multiplied term by term, and `r · r` is the inverse of `v`. -/

noncomputable section

namespace Cert.NormGrad

open Idealize.ShloMosaic

/-- The length of a row, as the programs write it. -/
abbrev len : EReal := Scalar.ofBits (F := Ideal) .f32 0x44800000#32
/-- The constant added to the mean of the squares. -/
abbrev eps : EReal := Scalar.ofBits (F := Ideal) .f32 0x358637BD#32
/-- The exponent of the root. -/
abbrev mhalf : EReal := Scalar.ofBits (F := Ideal) .f32 0xBF000000#32

theorem len_eq : len = ((1024 : ℝ) : EReal) := by
  show Ideal.ofBits .f32 0x44800000#32 = _
  simp [Ideal.ofBits, Ideal.ieee, -EReal.coe_mul]; norm_num

theorem eps_eq : eps = ((8796093 / 2 ^ 43 : ℝ) : EReal) := by
  show Ideal.ofBits .f32 0x358637BD#32 = _
  simp [Ideal.ofBits, Ideal.ieee, -EReal.coe_mul]; norm_num

theorem mhalf_eq : mhalf = ((-(1 / 2) : ℝ) : EReal) := by
  show Ideal.ofBits .f32 0xBF000000#32 = _
  simp [Ideal.ofBits, Ideal.ieee, -EReal.coe_mul, -EReal.coe_neg]; norm_num

theorem div_len (u : EReal) : Ideal.div u len = u * ((1024⁻¹ : ℝ) : EReal) := by
  rw [len_eq, EReal.coe_inv]
  unfold Ideal.div
  rw [if_neg (by exact_mod_cast (by norm_num : (1024 : ℝ) ≠ 0))]

theorem square_nonneg (x : EReal) : 0 ≤ x * x := by
  induction x with
  | bot => simp
  | top => simp
  | coe r => exact_mod_cast mul_self_nonneg r

/-- The mean of a row's squares, and the constant. -/
def var (x : Fin 1024 → EReal) : EReal := Ideal.div (∑ k, x k * x k) len + eps

/-- The row's factor. -/
def factor (x : Fin 1024 → EReal) : EReal := Ideal.rsqrt (var x)

/-- It is infinite or a positive real. -/
theorem var_cases (x : Fin 1024 → EReal) : var x = ⊤ ∨ ∃ v : ℝ, 0 < v ∧ var x = (v : EReal) := by
  have h : 0 ≤ ∑ k, x k * x k := Finset.sum_nonneg fun k _ => square_nonneg (x k)
  have h' : 0 ≤ (∑ k, x k * x k) * ((1024⁻¹ : ℝ) : EReal) := EReal.mul_nonneg h (by exact_mod_cast (by norm_num : (0 : ℝ) ≤ 1024⁻¹))
  unfold var
  rw [div_len, eps_eq]
  generalize (∑ k, x k * x k) * ((1024⁻¹ : ℝ) : EReal) = u at h'
  induction u with
  | bot => simp at h'
  | top => exact .inl (EReal.top_add_coe _)
  | coe u =>
    have hu : 0 ≤ u := by exact_mod_cast h'
    exact .inr ⟨u + 8796093 / 2 ^ 43, by positivity, by rw [EReal.coe_add]⟩

theorem mul_sum_real {ι : Type} (r : ℝ) (hr : 0 < r) (f : ι → EReal) (s : Finset ι) :
    ∑ k ∈ s, (r : EReal) * f k = r * ∑ k ∈ s, f k := by
  induction s using Finset.cons_induction with
  | empty => simp
  | cons k s h ih =>
    rw [Finset.sum_cons, Finset.sum_cons, ih]
    exact (EReal.left_distrib_of_nonneg_of_ne_top (by exact_mod_cast hr.le) (EReal.coe_ne_top r) _ _).symm

/-- Two halves with the sign turned. -/
theorem halves (w : EReal) : mhalf * w + mhalf * w = -w := by
  rw [mhalf_eq]
  induction w with
  | bot => rw [EReal.coe_mul_bot_of_neg (by norm_num)]; rfl
  | top => rw [EReal.coe_mul_top_of_neg (by norm_num)]; rfl
  | coe w => exact_mod_cast (by ring : -(1 / 2) * w + -(1 / 2) * w = -w)

/-- The gradient, as a kernel writes it. -/
def back (x a : Fin 1024 → EReal) (q : Fin 1024) : EReal :=
  factor x * (a q - x q * factor x * Ideal.div (∑ k, a k * (x k * factor x)) len)

/-- The derivative through the mean of the squares. -/
def slope (x a : Fin 1024 → EReal) : EReal :=
  Ideal.div ((∑ k, x k * a k) * (mhalf * Ideal.div (factor x) (var x))) len

theorem back_eq (x a : Fin 1024 → EReal) (q : Fin 1024) :
    a q * factor x + x q * slope x a + slope x a * x q = back x a q := by
  rcases var_cases x with h | ⟨v, hv, h⟩
  · have hr : factor x = 0 := by unfold factor; rw [h]; rfl
    have hs : slope x a = 0 := by
      unfold slope
      rw [div_len, hr, h]
      unfold Ideal.div
      rw [if_neg (by simp), zero_mul, mul_zero, mul_zero, zero_mul]
    unfold back
    rw [hs, hr]
    simp
  · have hs0 : Real.sqrt v ≠ 0 := (Real.sqrt_pos.mpr hv).ne'
    obtain ⟨r, hr0, hrr, hr⟩ : ∃ r : ℝ, 0 < r ∧ r * r = v⁻¹ ∧ factor x = (r : EReal) := by
      refine ⟨(Real.sqrt v)⁻¹, inv_pos.mpr (Real.sqrt_pos.mpr hv), by rw [← mul_inv, Real.mul_self_sqrt hv.le], ?_⟩
      unfold factor Ideal.rsqrt
      rw [h]
      show (if v < 0 then _ else if v = 0 then _ else _) = _
      rw [if_neg hv.not_gt, if_neg hv.ne']
    have hd : Ideal.div (factor x) (var x) = ((r * (r * r) : ℝ) : EReal) := by
      rw [hr, h, hrr, EReal.coe_mul, EReal.coe_inv]
      unfold Ideal.div
      rw [if_neg (by exact_mod_cast hv.ne')]
    have hsum : ∑ k, a k * (x k * factor x) = (r : EReal) * ∑ k, x k * a k := by
      rw [← mul_sum_real r hr0, hr]
      exact Finset.sum_congr rfl fun k _ => by ac_rfl
    unfold back slope
    rw [hsum, hd, hr, div_len, div_len, sub_eq_add_neg,
      EReal.left_distrib_of_nonneg_of_ne_top (by exact_mod_cast hr0.le) (EReal.coe_ne_top r), add_assoc, mul_comm (a q)]
    congr 1
    generalize ∑ k, x k * a k = s
    rw [EReal.coe_mul, EReal.coe_mul, mul_neg]
    refine Eq.trans ?_ (halves _)
    congr 1 <;> ac_rfl

/-! ## Tiles of rows -/

/-- Row `j` of tile `k`. -/
def row (k : ℕ) (j : Fin 512) : Fin 2048 := ⟨(512 * k + j.val) % 2048, Nat.mod_lt _ (by decide)⟩

theorem row_val (k : ℕ) (hk : k < 4) (j : Fin 512) : (row k j).val = 512 * k + j.val :=
  Nat.mod_eq_of_lt (by have := j.isLt; omega)

/-- The four tiles of 512 rows are all 2048 rows. -/
theorem sum_rows (f : Fin 2048 → EReal) : ∑ k ∈ Finset.range 4, ∑ j, f (row k j) = ∑ u, f u := by
  rw [← Fin.sum_univ_eq_sum_range fun k => ∑ j, f (row k j)]
  rw [← Equiv.sum_comp (finProdFinEquiv (m := 4) (n := 512)) f, Fintype.sum_prod_type]
  refine Finset.sum_congr rfl fun k _ => Finset.sum_congr rfl fun j _ => congrArg f (Fin.ext ?_)
  rw [row_val k.val k.isLt]
  show 512 * k.val + j.val = j.val + 512 * k.val
  omega

end Cert.NormGrad

end
-- ==== Proof.NormBwd.lean ====
module

public import proofs.«01_k».proof.Defs
public import proofs.«01_k».proof.Proof.NormGrad
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit
public import Idealize.ShloMosaic.Lib.Pipeline.ReadBack
public import Idealize.ShloMosaic.Lib.Pointwise
public import Idealize.ShloMosaic.Lib.Quiescent

@[expose] public section

/-! # The gradient of a layer's norm

The grid has four tiles of 512 rows. A step writes its rows of the gradient of the residual stream, which it adds to what has come back along the stream already. The gradient of the gain is a sum over all rows. Its block stays in place from step to step: the first step clears it, and each adds its rows. -/

set_option maxRecDepth 16384

noncomputable section

namespace Cert.NormBwd

open Cert.Kernel25Ideal Cert.Kernel25Ideal.Gen Idealize.ShloMosaic Idealize.ShloMosaic.Tactic Idealize.SL.Sem Cert.NormGrad

/-- The gradient of the stream. -/
def dx (h : Vec Ideal S2048x1024 .f32) (g : Vec Ideal S1x1024 .f32) (dy dr : Vec Ideal S2048x1024 .f32) : Vec Ideal S2048x1024 .f32 := fun j =>
  dr j + back (fun k => h (ix2 (j 0) k)) (fun k => dy (ix2 (j 0) k) * g (ix2 0 k)) (j 1)

/-- What row `u` adds to the gradient of the gain's entry `q`. -/
def gain (h dy : Vec Ideal S2048x1024 .f32) (q : Fin 1024) (u : Fin 2048) : EReal :=
  dy (ix2 u q) * (h (ix2 u q) * factor fun k => h (ix2 u k))

/-- The gradient of the gain. -/
def dg (h dy : Vec Ideal S2048x1024 .f32) : Vec Ideal S1x1024 .f32 := fun j => ∑ u, gain h dy (j 1) u

/-! ## One step -/

theorem pay1_apply (x : Vec Ideal S512x1024 .f32) (j : Fin 512) : k0_pay1 x (ix2 j 0) = factor fun k => x (ix2 j k) := by
  unfold k0_pay1 factor var
  pointwise

theorem pay2_apply (x : Vec Ideal S512x1024 .f32) (j : Fin 512) (q : Fin 1024) :
    k0_pay2 x (ix2 j q) = x (ix2 j q) * factor fun k => x (ix2 j k) := by
  rw [← pay1_apply]
  unfold k0_pay2
  pointwise

theorem pay3_apply (y : S1x1024.Idx) : k0_pay3 (F := Ideal) y = 0 := by
  idx_vars y
  unfold k0_pay3
  pointwise

theorem pay4_apply (x dy : Vec Ideal S512x1024 .f32) (v : Vec Ideal S1x1024 .f32) (y : S1x1024.Idx) :
    k0_pay4 x dy v y = v y + ∑ j : Fin 512, dy (ix2 j (y 1)) * (x (ix2 j (y 1)) * factor fun k => x (ix2 j k)) := by
  idx_vars y
  unfold k0_pay4
  pointwise
  simp only [pay2_apply]

theorem pay5_apply (x dy : Vec Ideal S512x1024 .f32) (g : Vec Ideal S1x1024 .f32) (dr : Vec Ideal S512x1024 .f32) (j : Fin 512) (q : Fin 1024) :
    k0_pay5 x dy g dr (ix2 j q) = dr (ix2 j q) + back (fun k => x (ix2 j k)) (fun k => dy (ix2 j k) * g (ix2 0 k)) q := by
  unfold back k0_pay5
  pointwise
  simp only [pay2_apply, pay1_apply]

theorem zero2 : (![0, 0] : Fin 2 → ℕ) = fun _ => 0 := by decide

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole)
variable (x0 : Vec Ideal S512x1024 .f32) (x1 : Vec Ideal S1x1024 .f32) (x2 x3 : Vec Ideal S512x1024 .f32) (xo : Vec Ideal S1x1024 .f32)

theorem dx_A (hc0 : cond0_0 i) :
    out0_A_4 c i arg1 harg1 arg2 harg2 arg3 harg3 arg4 harg4 arg5 harg5 arg6 harg6 hc0 x0 x1 x2 x3 = k0_pay5 x0 x2 x1 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

theorem dx_B (hc0 : ¬cond0_0 i) :
    out0_B_4 c i arg1 harg1 arg2 harg2 arg3 harg3 arg4 harg4 arg5 harg5 arg6 harg6 hc0 x0 x1 x2 x3 xo = k0_pay5 x0 x2 x1 x3 := by
  unfold out0_B_4
  rw [View.read_writes_eq_canon _ _ _ (cover0_B_4 c i arg1 harg1 arg2 harg2 arg3 harg3 arg4 harg4 arg5 harg5 arg6 harg6 hc0 x0 x1 x2 x3 xo)]
  unfold kernelRun0_B
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

theorem dg_A (hc0 : cond0_0 i) :
    out0_A_5 c i arg1 harg1 arg2 harg2 arg3 harg3 arg4 harg4 arg5 harg5 arg6 harg6 hc0 x0 x1 x2 x3 = k0_pay4 x0 x2 (k0_pay3 (F := Ideal)) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

theorem dg_B (hc0 : ¬cond0_0 i) :
    out0_B_5 c i arg1 harg1 arg2 harg2 arg3 harg3 arg4 harg4 arg5 harg5 arg6 harg6 hc0 x0 x1 x2 x3 xo = k0_pay4 x0 x2 xo := by
  unfold out0_B_5
  rw [View.read_writes_eq_canon _ _ _ (cover0_B_5 c i arg1 harg1 arg2 harg2 arg3 harg3 arg4 harg4 arg5 harg5 arg6 harg6 hc0 x0 x1 x2 x3 xo)]
  unfold kernelRun0_B
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

end

/-! ## The blocks and the sums -/

section
variable (m : (ℓ : Loc nD τ sig) → Buf (Elt Ideal) ℓ) (c : Dev nD)

theorem t_lt (t : Fin cfg0.N) : t.val < 4 := t.isLt

theorem index0 : ∀ t : Fin cfg0.N, (cfg0.win 0).index t 0 = t.val ∧ (cfg0.win 0).index t 1 = 0 := by decide +kernel
theorem index1 : ∀ t : Fin cfg0.N, (cfg0.win 1).index t 0 = 0 ∧ (cfg0.win 1).index t 1 = 0 := by decide +kernel
theorem index2 : ∀ t : Fin cfg0.N, (cfg0.win 2).index t 0 = t.val ∧ (cfg0.win 2).index t 1 = 0 := by decide +kernel
theorem index3 : ∀ t : Fin cfg0.N, (cfg0.win 3).index t 0 = t.val ∧ (cfg0.win 3).index t 1 = 0 := by decide +kernel
theorem index4 : ∀ t : Fin cfg0.N, (cfg0.win 4).index t 0 = t.val ∧ (cfg0.win 4).index t 1 = 0 := by decide +kernel
theorem index5 : ∀ t : Fin cfg0.N, (cfg0.win 5).index t 0 = 0 ∧ (cfg0.win 5).index t 1 = 0 := by decide +kernel

theorem iblk0_eq (t : Fin cfg0.N) (j : Fin 512) (q : Fin 1024) : iblk m c 0 t (ix2 j q) = V m c main_arg0 (ix2 (row t.val j) q) := by
  obtain ⟨e0, e1⟩ := index0 t
  have hr := row_val t.val (t_lt t) j
  blk_ext [iblk, e0, e1, hr]

theorem iblk1_eq (t : Fin cfg0.N) (q : Fin 1024) : iblk m c 1 t (ix2 0 q) = V m c main_arg1 (ix2 0 q) := by
  obtain ⟨e0, e1⟩ := index1 t
  blk_ext [iblk, e0, e1]

theorem iblk2_eq (t : Fin cfg0.N) (j : Fin 512) (q : Fin 1024) : iblk m c 2 t (ix2 j q) = V m c main_arg2 (ix2 (row t.val j) q) := by
  obtain ⟨e0, e1⟩ := index2 t
  have hr := row_val t.val (t_lt t) j
  blk_ext [iblk, e0, e1, hr]

theorem iblk3_eq (t : Fin cfg0.N) (j : Fin 512) (q : Fin 1024) : iblk m c 3 t (ix2 j q) = V m c main_arg3 (ix2 (row t.val j) q) := by
  obtain ⟨e0, e1⟩ := index3 t
  have hr := row_val t.val (t_lt t) j
  blk_ext [iblk, e0, e1, hr]

/-- What tile `k` adds to the gain's gradient. -/
def part (h dy : Vec Ideal S2048x1024 .f32) (k : ℕ) : Vec Ideal S1x1024 .f32 := fun y => ∑ j, gain h dy (y 1) (row k j)

def term (_ k : ℕ) : Vec Ideal S1x1024 .f32 := part (V m c main_arg0) (V m c main_arg2) k

theorem step_eq (t : Fin cfg0.N) (v : Vec Ideal S1x1024 .f32) (y : S1x1024.Idx) :
    k0_pay4 (iblk m c 0 t) (iblk m c 2 t) v y = v y + term m c (t.val / 4) (t.val % 4) y := by
  rw [Nat.mod_eq_of_lt (t_lt t), pay4_apply]
  exact congrArg (fun z : EReal => v y + z) (Finset.sum_congr rfl fun j _ => congrArg₂ (fun a b : EReal => a * b) (iblk2_eq m c t j (y 1))
    (congrArg₂ (fun a b : EReal => a * b) (iblk0_eq m c t j (y 1)) (congrArg factor (funext fun q => iblk0_eq m c t j q))))

theorem after_dx (t : Fin cfg0.N) : (outsAt0 m c t.val t.isLt).1 = k0_pay5 (iblk m c 0 t) (iblk m c 2 t) (iblk m c 1 t) (iblk m c 3 t) := by
  by_cases h0 : t.val % 4 = 0
  · rw [outsAt0_A m c t h0]
    dsimp only
    rw [dx_A]
  · rw [outsAt0_B m c t h0]
    dsimp only
    rw [dx_B]

theorem dg_sum (t : Fin cfg0.N) (y : S1x1024.Idx) :
    (outsAt0 m c t.val t.isLt).2 y = 0 + ∑ k ∈ Finset.range (t.val % 4 + 1), term m c (t.val / 4) k y := by
  refine Pipeline.eq_sum_of_reset_step_apply_divmod (fun n h => (outsAt0 m c n h).2) 4 (fun _ => (0 : EReal)) (term m c) (fun t h0 y => ?_) (fun t h0 y => ?_) t y
  · beta_reduce
    rw [outsAt0_A m c t h0]
    dsimp only
    rw [dg_A, step_eq, pay3_apply]
  · beta_reduce
    rw [outsAt0_B m c t h0]
    dsimp only
    rw [dg_B]
    exact step_eq m c t _ y

/-! ## The arrays -/

theorem flush5 : ∀ t : Fin cfg0.N, (cfg0.win 5).flush t = true → t.val % 4 = 3 := by decide +kernel

theorem arr4 : (dats m 0 c).arrAt 4 cfg0.N = dx (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4, after_dx]
  idx_vars y
  refine (pay5_apply _ _ _ _ _ _).trans ?_
  simp only [iblk0_eq, iblk1_eq, iblk2_eq, iblk3_eq]
  have hr := row_val t.val (t_lt t)
  refine Eq.trans (b := dx (V m c main_arg0) (V m c main_arg1) (V m c main_arg2) (V m c main_arg3) (ix2 (row t.val ‹_›) ‹_›)) rfl (congrArg _ ?_)
  blk_ext [e0, e1, hr]

theorem dg_last (t : Fin cfg0.N) (h3 : t.val % 4 = 3) (y : S1x1024.Idx) :
    (outsAt0 m c t.val t.isLt).2 y = dg (V m c main_arg0) (V m c main_arg2) y := by
  rw [dg_sum, h3, zero_add]
  exact sum_rows (gain (V m c main_arg0) (V m c main_arg2) (y 1))

theorem arr5 : (dats m 0 c).arrAt 5 cfg0.N = dg (V m c main_arg0) (V m c main_arg2) := by
  refine (dats m 0 c).arrAt_eq_of_covers 5 _ (by decide +kernel) fun t hf y => ?_
  obtain ⟨e0, e1⟩ := index5 t
  have h3 := flush5 t hf
  blk_simp
  rw [after0_5]
  idx_vars y
  refine (dg_last m c t h3 _).trans (congrArg _ ?_)
  blk_ext [e0, e1]

end

open Cert.Reference25Ideal.Read

/-! ## The reference -/

theorem ref_dx_apply (h : Vec Ideal S2048x1024 .f32) (g : Vec Ideal S1x1024 .f32) (dy dr : Vec Ideal S2048x1024 .f32) (r : Fin 2048) (q : Fin 1024) :
    val_main_v34 (F := Ideal) h g dy dr (ix2 r q)
      = dr (ix2 r q) + (dy (ix2 r q) * g (ix2 0 q) * factor (fun k => h (ix2 r k))
        + h (ix2 r q) * NormGrad.slope (fun k => h (ix2 r k)) (fun k => dy (ix2 r k) * g (ix2 0 k))
        + NormGrad.slope (fun k => h (ix2 r k)) (fun k => dy (ix2 r k) * g (ix2 0 k)) * h (ix2 r q)) := by
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_v10 val_main_v9 val_main_v8 val_main_v7 val_main_v6 val_main_v5 val_main_v4 val_main_v3 val_main_v2 val_main_v1 val_main_v0 val_main_cst_6 val_main_cst_5 val_main_cst_4 val_main_cst_2 val_main_cst_1 val_main_cst_0 val_main_cst NormGrad.slope factor var
  pointwise
  simp only [Fin.sum_univ_one]

theorem ref_dx_back (h : Vec Ideal S2048x1024 .f32) (g : Vec Ideal S1x1024 .f32) (dy dr : Vec Ideal S2048x1024 .f32) (r : Fin 2048) (q : Fin 1024) :
    val_main_v34 (F := Ideal) h g dy dr (ix2 r q)
      = dr (ix2 r q) + back (fun k => h (ix2 r k)) (fun k => dy (ix2 r k) * g (ix2 0 k)) q :=
  (ref_dx_apply h g dy dr r q).trans
    (congrArg (fun z : EReal => dr (ix2 r q) + z) (back_eq (fun k => h (ix2 r k)) (fun k => dy (ix2 r k) * g (ix2 0 k)) q))

theorem ref_dx (h : Vec Ideal S2048x1024 .f32) (g : Vec Ideal S1x1024 .f32) (dy dr : Vec Ideal S2048x1024 .f32) :
    val_main_v34 (F := Ideal) h g dy dr = dx h g dy dr := by
  funext y
  idx_vars y
  exact ref_dx_back h g dy dr _ _

theorem ref_dg (h dy : Vec Ideal S2048x1024 .f32) :
    val_main_v17 (F := Ideal) h dy = dg h dy := by
  funext y
  idx_vars y
  unfold val_main_v17 val_main_v16 val_main_v15 val_main_v12 val_main_v11 val_main_v7 val_main_v6 val_main_v5 val_main_v4 val_main_v3 val_main_v2 val_main_v1 val_main_v0 val_main_cst_3 val_main_cst_1 val_main_cst_0 val_main_cst dg gain factor var
  pointwise
  exact Finset.sum_congr rfl fun k _ => mul_comm _ _

/-! ## The claims -/

theorem frame_reference : Cert.quiescent_Reference25Ideal := fun m g _ =>
  (θ_run (Cert.Reference25Ideal.defs (F := Ideal)) _ _).mono
    (fun r h => ⟨fun c => (h c).2.2, sem_eq_zero_of_no_sems (by decide) r.2⟩)
    (Cert.Reference25Ideal.Value.run (F := Ideal) m g)

theorem algebraic : Cert.algebraic_Kernel25Ideal_Reference25Ideal := by
  intro m g m' g' _ hargs
  refine ⟨fun c => dx (V m c main_arg0) (V m c main_arg1) (V m c main_arg2) (V m c main_arg3),
    fun c => dg (V m c main_arg0) (V m c main_arg2), ?_, ?_⟩
  · refine (θ_run _ _ _).mono (fun r h c => ?_) (Cert.Kernel25Ideal.Value.run_blocks m g)
    obtain ⟨h0, h1, hk⟩ := h c
    exact ⟨h0.trans (arr4 m c), h1.trans (arr5 m c), hk⟩
  · refine (θ_run _ _ _).mono (fun r h c => ?_) (Cert.Reference25Ideal.Value.run m' g')
    obtain ⟨h0, h1, hk⟩ := h c
    rw [val_main_v34_eq, (hargs c).1, (hargs c).2.1, (hargs c).2.2.1, (hargs c).2.2.2] at h0
    rw [val_main_v17_eq, (hargs c).1, (hargs c).2.2.1] at h1
    exact ⟨h0.trans (ref_dx _ _ _ _), h1.trans (ref_dg _ _), hk⟩

end Cert.NormBwd

end
-- ==== Proof.Loss.lean ====
module

public import proofs.«01_k».proof.Defs
public import proofs.«01_k».proof.Proof.NormGrad
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit
public import Idealize.ShloMosaic.Lib.Pipeline.ReadBack
public import Idealize.ShloMosaic.Lib.Pointwise
public import Idealize.ShloMosaic.Lib.Quiescent

@[expose] public section

/-! # The final norm, the loss and their gradients

The grid has four tiles of 512 rows. A step writes its rows of the gradient of what the norm is of. The gradient of the norm's gain and the loss are sums over all rows: their blocks stay in place from step to step, the first step clears them, and each adds its rows. Each tile's loss is halved before it is added, where the reference halves the sum; a positive real may be taken out of a sum of extended reals. -/

set_option maxRecDepth 16384

noncomputable section

namespace Cert.Loss

open Cert.Kernel26Ideal Cert.Kernel26Ideal.Gen Idealize.ShloMosaic Idealize.ShloMosaic.Tactic Idealize.SL.Sem Cert.NormGrad

/-! ## Constants -/

/-- One half. -/
abbrev half : EReal := Scalar.ofBits (F := Ideal) .f32 0x3F000000#32
/-- The reciprocal of a row's length. -/
abbrev perLen : EReal := Scalar.ofBits (F := Ideal) .f32 0x3A800000#32
/-- Two. -/
abbrev two : EReal := Scalar.ofBits (F := Ideal) .f32 0x40000000#32
/-- One. -/
abbrev one : EReal := Scalar.ofBits (F := Ideal) .f32 0x3F800000#32

theorem half_eq : half = ((1 / 2 : ℝ) : EReal) := by
  show Ideal.ofBits .f32 0x3F000000#32 = _
  simp [Ideal.ofBits, Ideal.ieee, -EReal.coe_mul]; norm_num

theorem perLen_eq : perLen = ((1 / 1024 : ℝ) : EReal) := by
  show Ideal.ofBits .f32 0x3A800000#32 = _
  simp [Ideal.ofBits, Ideal.ieee, -EReal.coe_mul]; norm_num

theorem two_eq : two = ((2 : ℝ) : EReal) := by
  show Ideal.ofBits .f32 0x40000000#32 = _
  simp [Ideal.ofBits, Ideal.ieee, -EReal.coe_mul]; norm_num

theorem one_eq : one = ((1 : ℝ) : EReal) := by
  show Ideal.ofBits .f32 0x3F800000#32 = _
  rw [Ideal.ofBits_one_f32]; rfl

/-- The factor of the error in its derivative. -/
theorem factor_eq (e : EReal) : Ideal.div (half * one) len * (two * e) = e * perLen := by
  rw [div_len, half_eq, one_eq, two_eq, perLen_eq, ← mul_assoc, ← EReal.coe_mul, ← EReal.coe_mul, ← EReal.coe_mul, mul_comm e]
  congr 2
  norm_num

/-! ## One row -/

/-- The error. -/
def err (x g t : Fin 1024 → EReal) (q : Fin 1024) : EReal := x q * factor x * g q - t q

/-- Its mean square. -/
def sq (x g t : Fin 1024 → EReal) : EReal := Ideal.div (∑ q, err x g t q * err x g t q) len

/-- The derivative of half of it along the norm. -/
def dy (x g t : Fin 1024 → EReal) (q : Fin 1024) : EReal := err x g t q * perLen

/-- What the row adds to the gradient of the gain. -/
def gainRow (x g t : Fin 1024 → EReal) (q : Fin 1024) : EReal := dy x g t q * (x q * factor x)

/-- The gradient of what the norm is of. -/
def dxRow (x g t : Fin 1024 → EReal) (q : Fin 1024) : EReal := back x (fun k => dy x g t k * g k) q

/-- The gradients and the loss of all rows. -/
def dx (h : Vec Ideal S2048x1024 .f32) (g : Vec Ideal S1x1024 .f32) (t : Vec Ideal S2048x1024 .f32) : Vec Ideal S2048x1024 .f32 := fun j =>
  dxRow (fun k => h (ix2 (j 0) k)) (fun k => g (ix2 0 k)) (fun k => t (ix2 (j 0) k)) (j 1)

def gain (h : Vec Ideal S2048x1024 .f32) (g : Vec Ideal S1x1024 .f32) (t : Vec Ideal S2048x1024 .f32) (q : Fin 1024) (u : Fin 2048) : EReal :=
  gainRow (fun k => h (ix2 u k)) (fun k => g (ix2 0 k)) (fun k => t (ix2 u k)) q

def dg (h : Vec Ideal S2048x1024 .f32) (g : Vec Ideal S1x1024 .f32) (t : Vec Ideal S2048x1024 .f32) : Vec Ideal S1x1024 .f32 := fun j => ∑ u, gain h g t (j 1) u

def sqs (h : Vec Ideal S2048x1024 .f32) (g : Vec Ideal S1x1024 .f32) (t : Vec Ideal S2048x1024 .f32) (u : Fin 2048) : EReal :=
  sq (fun k => h (ix2 u k)) (fun k => g (ix2 0 k)) (fun k => t (ix2 u k))

def loss (h : Vec Ideal S2048x1024 .f32) (g : Vec Ideal S1x1024 .f32) (t : Vec Ideal S2048x1024 .f32) : Vec Ideal S1x1 .f32 := fun _ => half * ∑ u, sqs h g t u

/-! ## One step -/

theorem pay3_apply (x : Vec Ideal S512x1024 .f32) (j : Fin 512) : k0_pay3 x (ix2 j 0) = factor fun k => x (ix2 j k) := by
  unfold k0_pay3 factor var
  pointwise

theorem pay4_apply (x : Vec Ideal S512x1024 .f32) (j : Fin 512) (q : Fin 1024) :
    k0_pay4 x (ix2 j q) = x (ix2 j q) * factor fun k => x (ix2 j k) := by
  rw [← pay3_apply]
  unfold k0_pay4
  pointwise

theorem pay5_apply (x : Vec Ideal S512x1024 .f32) (g : Vec Ideal S1x1024 .f32) (t : Vec Ideal S512x1024 .f32) (j : Fin 512) (q : Fin 1024) :
    k0_pay5 x g t (ix2 j q) = err (fun k => x (ix2 j k)) (fun k => g (ix2 0 k)) (fun k => t (ix2 j k)) q := by
  unfold k0_pay5 err
  pointwise
  simp only [pay4_apply]

theorem pay9_apply (x : Vec Ideal S512x1024 .f32) (g : Vec Ideal S1x1024 .f32) (t : Vec Ideal S512x1024 .f32) (j : Fin 512) (q : Fin 1024) :
    k0_pay9 x g t (ix2 j q) = dy (fun k => x (ix2 j k)) (fun k => g (ix2 0 k)) (fun k => t (ix2 j k)) q := by
  unfold k0_pay9 dy
  pointwise
  simp only [pay5_apply]

theorem pay6_apply (y : S1x1024.Idx) : k0_pay6 (F := Ideal) y = 0 := by
  idx_vars y
  unfold k0_pay6
  pointwise

theorem pay7_apply (y : S1x1.Idx) : k0_pay7 (F := Ideal) y = 0 := by
  idx_vars y
  unfold k0_pay7
  pointwise

theorem pay2_apply (x : Vec Ideal S512x1024 .f32) (g : Vec Ideal S1x1024 .f32) (t : Vec Ideal S512x1024 .f32) (j : Fin 512) (q : Fin 1024) :
    k0_pay2 (k0_pay3 x) (k0_pay4 x) (k0_pay9 x g t) g (ix2 j q) = dxRow (fun k => x (ix2 j k)) (fun k => g (ix2 0 k)) (fun k => t (ix2 j k)) q := by
  unfold k0_pay2 dxRow back
  pointwise
  simp only [pay3_apply, pay4_apply, pay9_apply]

theorem pay1_apply (x : Vec Ideal S512x1024 .f32) (g : Vec Ideal S1x1024 .f32) (t : Vec Ideal S512x1024 .f32) (v : Vec Ideal S1x1024 .f32) (y : S1x1024.Idx) :
    k0_pay1 (k0_pay4 x) (k0_pay9 x g t) v y = v y + ∑ j : Fin 512, gainRow (fun k => x (ix2 j k)) (fun k => g (ix2 0 k)) (fun k => t (ix2 j k)) (y 1) := by
  idx_vars y
  unfold k0_pay1 gainRow
  pointwise
  simp only [pay4_apply, pay9_apply]

theorem pay8_apply (x : Vec Ideal S512x1024 .f32) (g : Vec Ideal S1x1024 .f32) (t : Vec Ideal S512x1024 .f32) (v : Vec Ideal S1x1 .f32) (y : S1x1.Idx) :
    k0_pay8 x g t v y = v y + half * ∑ j : Fin 512, sq (fun k => x (ix2 j k)) (fun k => g (ix2 0 k)) (fun k => t (ix2 j k)) := by
  idx_vars y
  unfold k0_pay8 sq
  pointwise
  simp only [pay5_apply]

theorem zero2 : (![0, 0] : Fin 2 → ℕ) = fun _ => 0 := by decide

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1 .f32) (harg6 : arg6.IsWhole)
variable (x0 : Vec Ideal S512x1024 .f32) (x1 : Vec Ideal S1x1024 .f32) (x2 : Vec Ideal S512x1024 .f32) (xo4 : Vec Ideal S1x1024 .f32) (xo5 : Vec Ideal S1x1 .f32)

theorem dx_A (hc0 : cond0_0 i) :
    out0_A_3 c i arg1 harg1 arg2 harg2 arg3 harg3 arg4 harg4 arg5 harg5 arg6 harg6 hc0 x0 x1 x2 = k0_pay2 (k0_pay3 x0) (k0_pay4 x0) (k0_pay9 x0 x1 x2) x1 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

theorem dx_B (hc0 : ¬cond0_0 i) :
    out0_B_3 c i arg1 harg1 arg2 harg2 arg3 harg3 arg4 harg4 arg5 harg5 arg6 harg6 hc0 x0 x1 x2 xo4 xo5 = k0_pay2 (k0_pay3 x0) (k0_pay4 x0) (k0_pay9 x0 x1 x2) x1 := by
  unfold out0_B_3
  rw [View.read_writes_eq_canon _ _ _ (cover0_B_3 c i arg1 harg1 arg2 harg2 arg3 harg3 arg4 harg4 arg5 harg5 arg6 harg6 hc0 x0 x1 x2 xo4 xo5)]
  unfold kernelRun0_B
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

theorem dg_A (hc0 : cond0_0 i) :
    out0_A_4 c i arg1 harg1 arg2 harg2 arg3 harg3 arg4 harg4 arg5 harg5 arg6 harg6 hc0 x0 x1 x2 = k0_pay1 (k0_pay4 x0) (k0_pay9 x0 x1 x2) (k0_pay6 (F := Ideal)) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

theorem dg_B (hc0 : ¬cond0_0 i) :
    out0_B_4 c i arg1 harg1 arg2 harg2 arg3 harg3 arg4 harg4 arg5 harg5 arg6 harg6 hc0 x0 x1 x2 xo4 xo5 = k0_pay1 (k0_pay4 x0) (k0_pay9 x0 x1 x2) xo4 := by
  unfold out0_B_4
  rw [View.read_writes_eq_canon _ _ _ (cover0_B_4 c i arg1 harg1 arg2 harg2 arg3 harg3 arg4 harg4 arg5 harg5 arg6 harg6 hc0 x0 x1 x2 xo4 xo5)]
  unfold kernelRun0_B
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

theorem loss_A (hc0 : cond0_0 i) :
    out0_A_5 c i arg1 harg1 arg2 harg2 arg3 harg3 arg4 harg4 arg5 harg5 arg6 harg6 hc0 x0 x1 x2 = k0_pay8 x0 x1 x2 (k0_pay7 (F := Ideal)) := by
  unfold out0_A_5
  rw [View.read_writes_eq_canon _ _ _ (cover0_A_5 c i arg1 harg1 arg2 harg2 arg3 harg3 arg4 harg4 arg5 harg5 arg6 harg6 hc0 x0 x1 x2)]
  unfold kernelRun0_A
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

theorem loss_B (hc0 : ¬cond0_0 i) :
    out0_B_5 c i arg1 harg1 arg2 harg2 arg3 harg3 arg4 harg4 arg5 harg5 arg6 harg6 hc0 x0 x1 x2 xo4 xo5 = k0_pay8 x0 x1 x2 xo5 := by
  unfold out0_B_5
  rw [View.read_writes_eq_canon _ _ _ (cover0_B_5 c i arg1 harg1 arg2 harg2 arg3 harg3 arg4 harg4 arg5 harg5 arg6 harg6 hc0 x0 x1 x2 xo4 xo5)]
  unfold kernelRun0_B
  dsimp only
  sl_unfold_words
  simp (disch := decide) only [↓View.readCov_skip, ↓View.readCov_fill, View.readAt_eq_ld, harg1.read_unread, harg2.read_unread, harg3.read_unread,
    harg4.read_unread, harg5.read_unread, harg6.read_unread]
  rw [View.canon_cons_unit_zero zero2]
  repeat rw [View.ld_unit_zero zero2]

end

/-! ## The blocks and the sums -/

section
variable (m : (ℓ : Loc nD τ sig) → Buf (Elt Ideal) ℓ) (c : Dev nD)

theorem t_lt (t : Fin cfg0.N) : t.val < 4 := t.isLt

theorem index0 : ∀ t : Fin cfg0.N, (cfg0.win 0).index t 0 = t.val ∧ (cfg0.win 0).index t 1 = 0 := by decide +kernel
theorem index1 : ∀ t : Fin cfg0.N, (cfg0.win 1).index t 0 = 0 ∧ (cfg0.win 1).index t 1 = 0 := by decide +kernel
theorem index2 : ∀ t : Fin cfg0.N, (cfg0.win 2).index t 0 = t.val ∧ (cfg0.win 2).index t 1 = 0 := by decide +kernel
theorem index3 : ∀ t : Fin cfg0.N, (cfg0.win 3).index t 0 = t.val ∧ (cfg0.win 3).index t 1 = 0 := by decide +kernel
theorem index4 : ∀ t : Fin cfg0.N, (cfg0.win 4).index t 0 = 0 ∧ (cfg0.win 4).index t 1 = 0 := by decide +kernel
theorem index5 : ∀ t : Fin cfg0.N, (cfg0.win 5).index t 0 = 0 ∧ (cfg0.win 5).index t 1 = 0 := by decide +kernel

theorem iblk0_eq (t : Fin cfg0.N) (j : Fin 512) (q : Fin 1024) : iblk m c 0 t (ix2 j q) = V m c main_arg0 (ix2 (row t.val j) q) := by
  obtain ⟨e0, e1⟩ := index0 t
  have hr := row_val t.val (t_lt t) j
  blk_ext [iblk, e0, e1, hr]

theorem iblk2_eq (t : Fin cfg0.N) (j : Fin 512) (q : Fin 1024) : iblk m c 2 t (ix2 j q) = V m c main_arg2 (ix2 (row t.val j) q) := by
  obtain ⟨e0, e1⟩ := index2 t
  have hr := row_val t.val (t_lt t) j
  blk_ext [iblk, e0, e1, hr]

theorem iblk1_eq (t : Fin cfg0.N) (q : Fin 1024) : iblk m c 1 t (ix2 0 q) = V m c main_arg1 (ix2 0 q) := by
  obtain ⟨e0, e1⟩ := index1 t
  blk_ext [iblk, e0, e1]

/-- What tile `k` adds to the gain's gradient and to the loss. -/
def gains (_ k : ℕ) : Vec Ideal S1x1024 .f32 := fun y => ∑ j, gain (V m c main_arg0) (V m c main_arg1) (V m c main_arg2) (y 1) (row k j)

def tileLoss (_ k : ℕ) : Vec Ideal S1x1 .f32 := fun _ => half * ∑ j, sqs (V m c main_arg0) (V m c main_arg1) (V m c main_arg2) (row k j)

theorem gains_eq (t : Fin cfg0.N) (v : Vec Ideal S1x1024 .f32) (y : S1x1024.Idx) :
    k0_pay1 (k0_pay4 (iblk m c 0 t)) (k0_pay9 (iblk m c 0 t) (iblk m c 1 t) (iblk m c 2 t)) v y = v y + gains m c (t.val / 4) (t.val % 4) y := by
  rw [Nat.mod_eq_of_lt (t_lt t), pay1_apply]
  refine congrArg (fun z : EReal => v y + z) (Finset.sum_congr rfl fun j _ => ?_)
  unfold gain
  simp only [iblk0_eq, iblk1_eq, iblk2_eq]

theorem tileLoss_eq (t : Fin cfg0.N) (v : Vec Ideal S1x1 .f32) (y : S1x1.Idx) :
    k0_pay8 (iblk m c 0 t) (iblk m c 1 t) (iblk m c 2 t) v y = v y + tileLoss m c (t.val / 4) (t.val % 4) y := by
  rw [Nat.mod_eq_of_lt (t_lt t), pay8_apply]
  unfold tileLoss sqs
  simp only [iblk0_eq, iblk1_eq, iblk2_eq]

theorem after_dx (t : Fin cfg0.N) : (outsAt0 m c t.val t.isLt).1
    = k0_pay2 (k0_pay3 (iblk m c 0 t)) (k0_pay4 (iblk m c 0 t)) (k0_pay9 (iblk m c 0 t) (iblk m c 1 t) (iblk m c 2 t)) (iblk m c 1 t) := by
  by_cases h0 : t.val % 4 = 0
  · rw [outsAt0_A m c t h0]
    dsimp only
    rw [dx_A]
  · rw [outsAt0_B m c t h0]
    dsimp only
    rw [dx_B]

theorem dg_sum (t : Fin cfg0.N) (y : S1x1024.Idx) :
    (outsAt0 m c t.val t.isLt).2.1 y = 0 + ∑ k ∈ Finset.range (t.val % 4 + 1), gains m c (t.val / 4) k y := by
  refine Pipeline.eq_sum_of_reset_step_apply_divmod (fun n h => (outsAt0 m c n h).2.1) 4 (fun _ => (0 : EReal)) (gains m c) (fun t h0 y => ?_) (fun t h0 y => ?_) t y
  · beta_reduce
    rw [outsAt0_A m c t h0]
    dsimp only
    rw [dg_A, gains_eq, pay6_apply]
  · beta_reduce
    rw [outsAt0_B m c t h0]
    dsimp only
    rw [dg_B]
    exact gains_eq m c t _ y

theorem loss_sum (t : Fin cfg0.N) (y : S1x1.Idx) :
    (outsAt0 m c t.val t.isLt).2.2 y = 0 + ∑ k ∈ Finset.range (t.val % 4 + 1), tileLoss m c (t.val / 4) k y := by
  refine Pipeline.eq_sum_of_reset_step_apply_divmod (fun n h => (outsAt0 m c n h).2.2) 4 (fun _ => (0 : EReal)) (tileLoss m c) (fun t h0 y => ?_) (fun t h0 y => ?_) t y
  · beta_reduce
    rw [outsAt0_A m c t h0]
    dsimp only
    rw [loss_A, tileLoss_eq, pay7_apply]
  · beta_reduce
    rw [outsAt0_B m c t h0]
    dsimp only
    rw [loss_B]
    exact tileLoss_eq m c t _ y

/-! ## The arrays -/

theorem flush4 : ∀ t : Fin cfg0.N, (cfg0.win 4).flush t = true → t.val % 4 = 3 := by decide +kernel
theorem flush5 : ∀ t : Fin cfg0.N, (cfg0.win 5).flush t = true → t.val % 4 = 3 := by decide +kernel

theorem dx_block (t : Fin cfg0.N) (j : Fin 512) (q : Fin 1024) :
    k0_pay2 (k0_pay3 (iblk m c 0 t)) (k0_pay4 (iblk m c 0 t)) (k0_pay9 (iblk m c 0 t) (iblk m c 1 t) (iblk m c 2 t)) (iblk m c 1 t) (ix2 j q) = dx (V m c main_arg0) (V m c main_arg1) (V m c main_arg2) (ix2 (row t.val j) q) := by
  refine (pay2_apply _ _ _ _ _).trans ?_
  simp only [iblk0_eq, iblk1_eq, iblk2_eq]
  rfl

theorem arr3 : (dats m 0 c).arrAt 3 cfg0.N = dx (V m c main_arg0) (V m c main_arg1) (V m c main_arg2) := by
  refine (dats m 0 c).arrAt_eq_of_covers 3 _ (by decide +kernel) fun t hf y => ?_
  obtain ⟨e0, e1⟩ := index3 t
  blk_simp
  rw [after0_3, after_dx]
  idx_vars y
  have hr := row_val t.val (t_lt t)
  refine (dx_block m c t _ _).trans (congrArg _ ?_)
  blk_ext [e0, e1, hr]

theorem dg_last (t : Fin cfg0.N) (h3 : t.val % 4 = 3) (y : S1x1024.Idx) :
    (outsAt0 m c t.val t.isLt).2.1 y = dg (V m c main_arg0) (V m c main_arg1) (V m c main_arg2) y := by
  rw [dg_sum, h3, zero_add]
  exact sum_rows (gain (V m c main_arg0) (V m c main_arg1) (V m c main_arg2) (y 1))

theorem loss_last (t : Fin cfg0.N) (h3 : t.val % 4 = 3) (y : S1x1.Idx) :
    (outsAt0 m c t.val t.isLt).2.2 y = loss (V m c main_arg0) (V m c main_arg1) (V m c main_arg2) y := by
  rw [loss_sum, h3, zero_add]
  unfold tileLoss loss
  rw [half_eq, mul_sum_real _ (by norm_num)]
  exact congrArg (fun z : EReal => ((1 / 2 : ℝ) : EReal) * z) (sum_rows (sqs (V m c main_arg0) (V m c main_arg1) (V m c main_arg2)))

theorem arr4 : (dats m 0 c).arrAt 4 cfg0.N = dg (V m c main_arg0) (V m c main_arg1) (V m c main_arg2) := by
  refine (dats m 0 c).arrAt_eq_of_covers 4 _ (by decide +kernel) fun t hf y => ?_
  obtain ⟨e0, e1⟩ := index4 t
  have h3 := flush4 t hf
  blk_simp
  rw [after0_4]
  idx_vars y
  refine (dg_last m c t h3 _).trans (congrArg _ ?_)
  blk_ext [e0, e1]

theorem arr5 : (dats m 0 c).arrAt 5 cfg0.N = loss (V m c main_arg0) (V m c main_arg1) (V m c main_arg2) := by
  refine (dats m 0 c).arrAt_eq_of_covers 5 _ (by decide +kernel) fun t hf y => ?_
  have h3 := flush5 t hf
  blk_simp
  rw [after0_5]
  exact loss_last m c t h3 _

end

open Cert.Reference26Ideal.Read

/-! ## The reference -/

theorem ref_err (h : Vec Ideal S2048x1024 .f32) (g : Vec Ideal S1x1024 .f32) (t : Vec Ideal S2048x1024 .f32) (r : Fin 2048) (q : Fin 1024) :
    val_main_v15 (F := Ideal) h g t (ix2 r q) = err (fun k => h (ix2 r k)) (fun k => g (ix2 0 k)) (fun k => t (ix2 r k)) q := by
  unfold val_main_v15 val_main_v14 val_main_v13 val_main_v12 val_main_v11 val_main_v7 val_main_v6 val_main_v5 val_main_v4 val_main_v3 val_main_v2 val_main_v1 val_main_v0 val_main_cst_1 val_main_cst_0 val_main_cst err factor var
  pointwise

theorem ref_dy (h : Vec Ideal S2048x1024 .f32) (g : Vec Ideal S1x1024 .f32) (t : Vec Ideal S2048x1024 .f32) (r : Fin 2048) (q : Fin 1024) :
    val_main_v29 (F := Ideal) h g t (ix2 r q) = dy (fun k => h (ix2 r k)) (fun k => g (ix2 0 k)) (fun k => t (ix2 r k)) q := by
  unfold dy
  rw [← factor_eq, ← ref_err]
  unfold val_main_v29 val_main_v28 val_main_v27 val_main_v26 val_main_v25 val_main_v24 val_main_v18 val_main_v17 val_main_cst_3 val_main_cst_8 val_main_cst_9 val_main_cst_10
  pointwise

theorem ref_dx_apply (h : Vec Ideal S2048x1024 .f32) (g : Vec Ideal S1x1024 .f32) (t : Vec Ideal S2048x1024 .f32) (r : Fin 2048) (q : Fin 1024) :
    val_main_v48 (F := Ideal) h g t (ix2 r q)
      = dy (fun k => h (ix2 r k)) (fun k => g (ix2 0 k)) (fun k => t (ix2 r k)) q * g (ix2 0 q) * factor (fun k => h (ix2 r k))
        + h (ix2 r q) * NormGrad.slope (fun k => h (ix2 r k)) (fun p => dy (fun k => h (ix2 r k)) (fun k => g (ix2 0 k)) (fun k => t (ix2 r k)) p * g (ix2 0 p))
        + NormGrad.slope (fun k => h (ix2 r k)) (fun p => dy (fun k => h (ix2 r k)) (fun k => g (ix2 0 k)) (fun k => t (ix2 r k)) p * g (ix2 0 p)) * h (ix2 r q) := by
  simp only [← ref_dy]
  unfold val_main_v48 val_main_v47 val_main_v46 val_main_v45 val_main_v44 val_main_v43 val_main_v42 val_main_v41 val_main_v40 val_main_v39 val_main_v38 val_main_v37 val_main_v36 val_main_v35 val_main_v34 val_main_v33 val_main_v10 val_main_v9 val_main_v8 val_main_v7 val_main_v6 val_main_v5 val_main_v4 val_main_v3 val_main_v2 val_main_v1 val_main_v0 val_main_cst val_main_cst_0 val_main_cst_1 val_main_cst_2 val_main_cst_12 val_main_cst_13 val_main_cst_14 NormGrad.slope factor var
  pointwise
  simp only [Fin.sum_univ_one]

theorem ref_dx_row (h : Vec Ideal S2048x1024 .f32) (g : Vec Ideal S1x1024 .f32) (t : Vec Ideal S2048x1024 .f32) (r : Fin 2048) (q : Fin 1024) :
    val_main_v48 (F := Ideal) h g t (ix2 r q) = dxRow (fun k => h (ix2 r k)) (fun k => g (ix2 0 k)) (fun k => t (ix2 r k)) q :=
  (ref_dx_apply h g t r q).trans (back_eq (fun k => h (ix2 r k)) (fun p => dy (fun k => h (ix2 r k)) (fun k => g (ix2 0 k)) (fun k => t (ix2 r k)) p * g (ix2 0 p)) q)

theorem ref_dx (h : Vec Ideal S2048x1024 .f32) (g : Vec Ideal S1x1024 .f32) (t : Vec Ideal S2048x1024 .f32) :
    val_main_v48 (F := Ideal) h g t = dx h g t := by
  funext y
  idx_vars y
  exact ref_dx_row h g t _ _

theorem ref_dg (h : Vec Ideal S2048x1024 .f32) (g : Vec Ideal S1x1024 .f32) (t : Vec Ideal S2048x1024 .f32) :
    val_main_v32 (F := Ideal) h g t = dg h g t := by
  funext y
  idx_vars y
  unfold dg gain gainRow
  unfold val_main_v32 val_main_v31 val_main_v30 val_main_cst_11 val_main_v12 val_main_v11 val_main_v7 val_main_v6 val_main_v5 val_main_v4 val_main_v3 val_main_v2 val_main_v1 val_main_v0 val_main_cst val_main_cst_0 val_main_cst_1 factor var
  pointwise
  refine Finset.sum_congr rfl fun k _ => ?_
  rw [ref_dy]
  exact mul_comm _ _

theorem ref_loss (h : Vec Ideal S2048x1024 .f32) (g : Vec Ideal S1x1024 .f32) (t : Vec Ideal S2048x1024 .f32) :
    val_main_v49 (F := Ideal) h g t = loss h g t := by
  funext y
  idx_vars y
  unfold loss sqs sq
  simp only [← ref_err]
  unfold val_main_v49 val_main_v23 val_main_v22 val_main_v21 val_main_v20 val_main_v19 val_main_v16 val_main_cst_4 val_main_cst_5 val_main_cst_6 val_main_cst_7
  pointwise

/-! ## The claims -/

theorem frame_reference : Cert.quiescent_Reference26Ideal := fun m g _ =>
  (θ_run (Cert.Reference26Ideal.defs (F := Ideal)) _ _).mono
    (fun r h => ⟨fun c => (h c).2.2.2, sem_eq_zero_of_no_sems (by decide) r.2⟩)
    (Cert.Reference26Ideal.Value.run (F := Ideal) m g)

theorem algebraic : Cert.algebraic_Kernel26Ideal_Reference26Ideal := by
  intro m g m' g' _ hargs
  refine ⟨fun c => dx (V m c main_arg0) (V m c main_arg1) (V m c main_arg2), fun c => dg (V m c main_arg0) (V m c main_arg1) (V m c main_arg2), fun c => loss (V m c main_arg0) (V m c main_arg1) (V m c main_arg2), ?_, ?_⟩
  · refine (θ_run _ _ _).mono (fun r h c => ?_) (Cert.Kernel26Ideal.Value.run_blocks m g)
    obtain ⟨h0, h1, h2, hk⟩ := h c
    exact ⟨h0.trans (arr3 m c), h1.trans (arr4 m c), h2.trans (arr5 m c), hk⟩
  · refine (θ_run _ _ _).mono (fun r h c => ?_) (Cert.Reference26Ideal.Value.run m' g')
    obtain ⟨h0, h1, h2, hk⟩ := h c
    rw [val_main_v48_eq, (hargs c).1, (hargs c).2.1, (hargs c).2.2] at h0
    rw [val_main_v32_eq, (hargs c).1, (hargs c).2.1, (hargs c).2.2] at h1
    rw [val_main_v49_eq, (hargs c).1, (hargs c).2.1, (hargs c).2.2] at h2
    exact ⟨h0.trans (ref_dx _ _ _), h1.trans (ref_dg _ _ _), h2.trans (ref_loss _ _ _), hk⟩

end Cert.Loss

end
-- ==== Proof.AdamNorm.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 2 rows of 1024

The grid has one step. A step updates each entry by itself. -/

set_option maxRecDepth 16384

noncomputable section

namespace Cert.AdamNorm

open Cert.Kernel27Ideal Cert.Kernel27Ideal.Gen Idealize.ShloMosaic Idealize.ShloMosaic.Tactic Idealize.SL.Sem Cert.AdamW

/-! The three results, entry by entry. -/

def firsts (g u : Vec Ideal S2x1024 .f32) : Vec Ideal S2x1024 .f32 := fun y => first (g y) (u y)

def seconds (g v : Vec Ideal S2x1024 .f32) : Vec Ideal S2x1024 .f32 := fun y => second (g y) (v y)

def changes (p g u v : Vec Ideal S2x1024 .f32) : Vec Ideal S2x1024 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 2) (q : Fin 1024) : S2x1024.Idx := ix2 ⟨2 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 2) (q : Fin 1024) : iblk m c 0 t (ix2 r q) = V m c main_arg0 (at2 t r q) := by
  obtain ⟨e0, e1⟩ := index0 t
  unfold at2
  blk_ext [iblk, e0, e1]

theorem iblk1_eq (t : Fin cfg0.N) (r : Fin 2) (q : Fin 1024) : iblk m c 1 t (ix2 r q) = V m c main_arg1 (at2 t r q) := by
  obtain ⟨e0, e1⟩ := index1 t
  unfold at2
  blk_ext [iblk, e0, e1]

theorem iblk2_eq (t : Fin cfg0.N) (r : Fin 2) (q : Fin 1024) : iblk m c 2 t (ix2 r q) = V m c main_arg2 (at2 t r q) := by
  obtain ⟨e0, e1⟩ := index2 t
  unfold at2
  blk_ext [iblk, e0, e1]

theorem iblk3_eq (t : Fin cfg0.N) (r : Fin 2) (q : Fin 1024) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S2x1024 .f32) (r : Fin 2) (q : Fin 1024)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference27Ideal.Read

/-! The reference's results are the same. -/

theorem ref_changes (p g u v : Vec Ideal S2x1024 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S2x1024 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S2x1024 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference27Ideal := fun m g _ =>
  (θ_run (Cert.Reference27Ideal.defs (F := Ideal)) _ _).mono
    (fun r h => ⟨fun c => (h c).2.2.2, sem_eq_zero_of_no_sems (by decide) r.2⟩)
    (Cert.Reference27Ideal.Value.run (F := Ideal) m g)

theorem algebraic : Cert.algebraic_Kernel27Ideal_Reference27Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel27Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference27Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamNorm

end
-- ==== Proof.AdamMixIn.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 1024 rows of 513

The grid has two blocks of 512 rows. A step updates each entry by itself. -/

set_option maxRecDepth 16384

noncomputable section

namespace Cert.AdamMixIn

open Cert.Kernel28Ideal Cert.Kernel28Ideal.Gen Idealize.ShloMosaic Idealize.ShloMosaic.Tactic Idealize.SL.Sem Cert.AdamW

/-! The three results, entry by entry. -/

def firsts (g u : Vec Ideal S1024x513 .f32) : Vec Ideal S1024x513 .f32 := fun y => first (g y) (u y)

def seconds (g v : Vec Ideal S1024x513 .f32) : Vec Ideal S1024x513 .f32 := fun y => second (g y) (v y)

def changes (p g u v : Vec Ideal S1024x513 .f32) : Vec Ideal S1024x513 .f32 := fun y => change (p y) (g y) (u y) (v y)

section
variable (m : (ℓ : Loc nD τ sig) → Buf (Elt Ideal) ℓ) (c : Dev nD)

theorem t_lt (t : Fin cfg0.N) : t.val < 2 := t.isLt

/-- A block's place in the whole. -/
def at2 (t : Fin cfg0.N) (r : Fin 512) (q : Fin 513) : S1024x513.Idx := ix2 ⟨512 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 512) (q : Fin 513) : iblk m c 0 t (ix2 r q) = V m c main_arg0 (at2 t r q) := by
  obtain ⟨e0, e1⟩ := index0 t
  unfold at2
  blk_ext [iblk, e0, e1]

theorem iblk1_eq (t : Fin cfg0.N) (r : Fin 512) (q : Fin 513) : iblk m c 1 t (ix2 r q) = V m c main_arg1 (at2 t r q) := by
  obtain ⟨e0, e1⟩ := index1 t
  unfold at2
  blk_ext [iblk, e0, e1]

theorem iblk2_eq (t : Fin cfg0.N) (r : Fin 512) (q : Fin 513) : iblk m c 2 t (ix2 r q) = V m c main_arg2 (at2 t r q) := by
  obtain ⟨e0, e1⟩ := index2 t
  unfold at2
  blk_ext [iblk, e0, e1]

theorem iblk3_eq (t : Fin cfg0.N) (r : Fin 512) (q : Fin 513) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S512x513 .f32) (r : Fin 512) (q : Fin 513)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference28Ideal.Read

/-! The reference's results are the same. -/

theorem ref_changes (p g u v : Vec Ideal S1024x513 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S1024x513 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S1024x513 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference28Ideal := fun m g _ =>
  (θ_run (Cert.Reference28Ideal.defs (F := Ideal)) _ _).mono
    (fun r h => ⟨fun c => (h c).2.2.2, sem_eq_zero_of_no_sems (by decide) r.2⟩)
    (Cert.Reference28Ideal.Value.run (F := Ideal) m g)

theorem algebraic : Cert.algebraic_Kernel28Ideal_Reference28Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel28Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference28Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamMixIn

end
-- ==== Proof.AdamGdnConv.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 4 rows of 192

The grid has one step. A step updates each entry by itself. -/

set_option maxRecDepth 16384

noncomputable section

namespace Cert.AdamGdnConv

open Cert.Kernel29Ideal Cert.Kernel29Ideal.Gen Idealize.ShloMosaic Idealize.ShloMosaic.Tactic Idealize.SL.Sem Cert.AdamW

/-! The three results, entry by entry. -/

def firsts (g u : Vec Ideal S4x192 .f32) : Vec Ideal S4x192 .f32 := fun y => first (g y) (u y)

def seconds (g v : Vec Ideal S4x192 .f32) : Vec Ideal S4x192 .f32 := fun y => second (g y) (v y)

def changes (p g u v : Vec Ideal S4x192 .f32) : Vec Ideal S4x192 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 4) (q : Fin 192) : S4x192.Idx := ix2 ⟨4 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 4) (q : Fin 192) : iblk m c 0 t (ix2 r q) = V m c main_arg0 (at2 t r q) := by
  obtain ⟨e0, e1⟩ := index0 t
  unfold at2
  blk_ext [iblk, e0, e1]

theorem iblk1_eq (t : Fin cfg0.N) (r : Fin 4) (q : Fin 192) : iblk m c 1 t (ix2 r q) = V m c main_arg1 (at2 t r q) := by
  obtain ⟨e0, e1⟩ := index1 t
  unfold at2
  blk_ext [iblk, e0, e1]

theorem iblk2_eq (t : Fin cfg0.N) (r : Fin 4) (q : Fin 192) : iblk m c 2 t (ix2 r q) = V m c main_arg2 (at2 t r q) := by
  obtain ⟨e0, e1⟩ := index2 t
  unfold at2
  blk_ext [iblk, e0, e1]

theorem iblk3_eq (t : Fin cfg0.N) (r : Fin 4) (q : Fin 192) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S4x192 .f32) (r : Fin 4) (q : Fin 192)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference29Ideal.Read

/-! The reference's results are the same. -/

theorem ref_changes (p g u v : Vec Ideal S4x192 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S4x192 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S4x192 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference29Ideal := fun m g _ =>
  (θ_run (Cert.Reference29Ideal.defs (F := Ideal)) _ _).mono
    (fun r h => ⟨fun c => (h c).2.2.2, sem_eq_zero_of_no_sems (by decide) r.2⟩)
    (Cert.Reference29Ideal.Value.run (F := Ideal) m g)

theorem algebraic : Cert.algebraic_Kernel29Ideal_Reference29Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel29Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference29Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamGdnConv

end
-- ==== Proof.AdamDecay.lean ====
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 1 rows of 4

The grid has one step. A step updates each entry by itself. -/

set_option maxRecDepth 16384

noncomputable section

namespace Cert.AdamDecay

open Cert.Kernel30Ideal Cert.Kernel30Ideal.Gen Idealize.ShloMosaic Idealize.ShloMosaic.Tactic Idealize.SL.Sem Cert.AdamW

/-! The three results, entry by entry. -/

def firsts (g u : Vec Ideal S1x4 .f32) : Vec Ideal S1x4 .f32 := fun y => first (g y) (u y)

def seconds (g v : Vec Ideal S1x4 .f32) : Vec Ideal S1x4 .f32 := fun y => second (g y) (v y)

def changes (p g u v : Vec Ideal S1x4 .f32) : Vec Ideal S1x4 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 1) (q : Fin 4) : S1x4.Idx := ix2 ⟨1 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 1) (q : Fin 4) : iblk m c 0 t (ix2 r q) = V m c main_arg0 (at2 t r q) := by
  obtain ⟨e0, e1⟩ := index0 t
  unfold at2
  blk_ext [iblk, e0, e1]

theorem iblk1_eq (t : Fin cfg0.N) (r : Fin 1) (q : Fin 4) : iblk m c 1 t (ix2 r q) = V m c main_arg1 (at2 t r q) := by
  obtain ⟨e0, e1⟩ := index1 t
  unfold at2
  blk_ext [iblk, e0, e1]

theorem iblk2_eq (t : Fin cfg0.N) (r : Fin 1) (q : Fin 4) : iblk m c 2 t (ix2 r q) = V m c main_arg2 (at2 t r q) := by
  obtain ⟨e0, e1⟩ := index2 t
  unfold at2
  blk_ext [iblk, e0, e1]

theorem iblk3_eq (t : Fin cfg0.N) (r : Fin 1) (q : Fin 4) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S1x4 .f32) (r : Fin 1) (q : Fin 4)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference30Ideal.Read

/-! The reference's results are the same. -/

theorem ref_changes (p g u v : Vec Ideal S1x4 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S1x4 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S1x4 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference30Ideal := fun m g _ =>
  (θ_run (Cert.Reference30Ideal.defs (F := Ideal)) _ _).mono
    (fun r h => ⟨fun c => (h c).2.2.2, sem_eq_zero_of_no_sems (by decide) r.2⟩)
    (Cert.Reference30Ideal.Value.run (F := Ideal) m g)

theorem algebraic : Cert.algebraic_Kernel30Ideal_Reference30Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel30Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference30Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamDecay

end
-- ==== Proof.AdamLruVec.lean ====
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 1 rows of 128

The grid has one step. A step updates each entry by itself. -/

set_option maxRecDepth 16384

noncomputable section

namespace Cert.AdamLruVec

open Cert.Kernel31Ideal Cert.Kernel31Ideal.Gen Idealize.ShloMosaic Idealize.ShloMosaic.Tactic Idealize.SL.Sem Cert.AdamW

/-! The three results, entry by entry. -/

def firsts (g u : Vec Ideal S1x128 .f32) : Vec Ideal S1x128 .f32 := fun y => first (g y) (u y)

def seconds (g v : Vec Ideal S1x128 .f32) : Vec Ideal S1x128 .f32 := fun y => second (g y) (v y)

def changes (p g u v : Vec Ideal S1x128 .f32) : Vec Ideal S1x128 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 1) (q : Fin 128) : S1x128.Idx := ix2 ⟨1 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 1) (q : Fin 128) : iblk m c 0 t (ix2 r q) = V m c main_arg0 (at2 t r q) := by
  obtain ⟨e0, e1⟩ := index0 t
  unfold at2
  blk_ext [iblk, e0, e1]

theorem iblk1_eq (t : Fin cfg0.N) (r : Fin 1) (q : Fin 128) : iblk m c 1 t (ix2 r q) = V m c main_arg1 (at2 t r q) := by
  obtain ⟨e0, e1⟩ := index1 t
  unfold at2
  blk_ext [iblk, e0, e1]

theorem iblk2_eq (t : Fin cfg0.N) (r : Fin 1) (q : Fin 128) : iblk m c 2 t (ix2 r q) = V m c main_arg2 (at2 t r q) := by
  obtain ⟨e0, e1⟩ := index2 t
  unfold at2
  blk_ext [iblk, e0, e1]

theorem iblk3_eq (t : Fin cfg0.N) (r : Fin 1) (q : Fin 128) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S1x128 .f32) (r : Fin 1) (q : Fin 128)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference31Ideal.Read

/-! The reference's results are the same. -/

theorem ref_changes (p g u v : Vec Ideal S1x128 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S1x128 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S1x128 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference31Ideal := fun m g _ =>
  (θ_run (Cert.Reference31Ideal.defs (F := Ideal)) _ _).mono
    (fun r h => ⟨fun c => (h c).2.2.2, sem_eq_zero_of_no_sems (by decide) r.2⟩)
    (Cert.Reference31Ideal.Value.run (F := Ideal) m g)

theorem algebraic : Cert.algebraic_Kernel31Ideal_Reference31Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel31Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference31Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamLruVec

end
-- ==== Proof.AdamMixOut.lean ====
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 128 rows of 1024

The grid has one step. A step updates each entry by itself. -/

set_option maxRecDepth 16384

noncomputable section

namespace Cert.AdamMixOut

open Cert.Kernel32Ideal Cert.Kernel32Ideal.Gen Idealize.ShloMosaic Idealize.ShloMosaic.Tactic Idealize.SL.Sem Cert.AdamW

/-! The three results, entry by entry. -/

def firsts (g u : Vec Ideal S128x1024 .f32) : Vec Ideal S128x1024 .f32 := fun y => first (g y) (u y)

def seconds (g v : Vec Ideal S128x1024 .f32) : Vec Ideal S128x1024 .f32 := fun y => second (g y) (v y)

def changes (p g u v : Vec Ideal S128x1024 .f32) : Vec Ideal S128x1024 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 128) (q : Fin 1024) : S128x1024.Idx := ix2 ⟨128 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 128) (q : Fin 1024) : iblk m c 0 t (ix2 r q) = V m c main_arg0 (at2 t r q) := by
  obtain ⟨e0, e1⟩ := index0 t
  unfold at2
  blk_ext [iblk, e0, e1]

theorem iblk1_eq (t : Fin cfg0.N) (r : Fin 128) (q : Fin 1024) : iblk m c 1 t (ix2 r q) = V m c main_arg1 (at2 t r q) := by
  obtain ⟨e0, e1⟩ := index1 t
  unfold at2
  blk_ext [iblk, e0, e1]

theorem iblk2_eq (t : Fin cfg0.N) (r : Fin 128) (q : Fin 1024) : iblk m c 2 t (ix2 r q) = V m c main_arg2 (at2 t r q) := by
  obtain ⟨e0, e1⟩ := index2 t
  unfold at2
  blk_ext [iblk, e0, e1]

theorem iblk3_eq (t : Fin cfg0.N) (r : Fin 128) (q : Fin 1024) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S128x1024 .f32) (r : Fin 128) (q : Fin 1024)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference32Ideal.Read

/-! The reference's results are the same. -/

theorem ref_changes (p g u v : Vec Ideal S128x1024 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S128x1024 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S128x1024 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference32Ideal := fun m g _ =>
  (θ_run (Cert.Reference32Ideal.defs (F := Ideal)) _ _).mono
    (fun r h => ⟨fun c => (h c).2.2.2, sem_eq_zero_of_no_sems (by decide) r.2⟩)
    (Cert.Reference32Ideal.Value.run (F := Ideal) m g)

theorem algebraic : Cert.algebraic_Kernel32Ideal_Reference32Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel32Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference32Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamMixOut

end
-- ==== Proof.AdamLruIn.lean ====
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 1024 rows of 256

The grid has one step. A step updates each entry by itself. -/

set_option maxRecDepth 16384

noncomputable section

namespace Cert.AdamLruIn

open Cert.Kernel33Ideal Cert.Kernel33Ideal.Gen Idealize.ShloMosaic Idealize.ShloMosaic.Tactic Idealize.SL.Sem Cert.AdamW

/-! The three results, entry by entry. -/

def firsts (g u : Vec Ideal S1024x256 .f32) : Vec Ideal S1024x256 .f32 := fun y => first (g y) (u y)

def seconds (g v : Vec Ideal S1024x256 .f32) : Vec Ideal S1024x256 .f32 := fun y => second (g y) (v y)

def changes (p g u v : Vec Ideal S1024x256 .f32) : Vec Ideal S1024x256 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 1024) (q : Fin 256) : S1024x256.Idx := ix2 ⟨1024 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 1024) (q : Fin 256) : iblk m c 0 t (ix2 r q) = V m c main_arg0 (at2 t r q) := by
  obtain ⟨e0, e1⟩ := index0 t
  unfold at2
  blk_ext [iblk, e0, e1]

theorem iblk1_eq (t : Fin cfg0.N) (r : Fin 1024) (q : Fin 256) : iblk m c 1 t (ix2 r q) = V m c main_arg1 (at2 t r q) := by
  obtain ⟨e0, e1⟩ := index1 t
  unfold at2
  blk_ext [iblk, e0, e1]

theorem iblk2_eq (t : Fin cfg0.N) (r : Fin 1024) (q : Fin 256) : iblk m c 2 t (ix2 r q) = V m c main_arg2 (at2 t r q) := by
  obtain ⟨e0, e1⟩ := index2 t
  unfold at2
  blk_ext [iblk, e0, e1]

theorem iblk3_eq (t : Fin cfg0.N) (r : Fin 1024) (q : Fin 256) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S1024x256 .f32) (r : Fin 1024) (q : Fin 256)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference33Ideal.Read

/-! The reference's results are the same. -/

theorem ref_changes (p g u v : Vec Ideal S1024x256 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S1024x256 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S1024x256 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference33Ideal := fun m g _ =>
  (θ_run (Cert.Reference33Ideal.defs (F := Ideal)) _ _).mono
    (fun r h => ⟨fun c => (h c).2.2.2, sem_eq_zero_of_no_sems (by decide) r.2⟩)
    (Cert.Reference33Ideal.Value.run (F := Ideal) m g)

theorem algebraic : Cert.algebraic_Kernel33Ideal_Reference33Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel33Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference33Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamLruIn

end
-- ==== Proof.AdamLruConv.lean ====
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 4 rows of 128

The grid has one step. A step updates each entry by itself. -/

set_option maxRecDepth 16384

noncomputable section

namespace Cert.AdamLruConv

open Cert.Kernel34Ideal Cert.Kernel34Ideal.Gen Idealize.ShloMosaic Idealize.ShloMosaic.Tactic Idealize.SL.Sem Cert.AdamW

/-! The three results, entry by entry. -/

def firsts (g u : Vec Ideal S4x128 .f32) : Vec Ideal S4x128 .f32 := fun y => first (g y) (u y)

def seconds (g v : Vec Ideal S4x128 .f32) : Vec Ideal S4x128 .f32 := fun y => second (g y) (v y)

def changes (p g u v : Vec Ideal S4x128 .f32) : Vec Ideal S4x128 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 4) (q : Fin 128) : S4x128.Idx := ix2 ⟨4 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 4) (q : Fin 128) : iblk m c 0 t (ix2 r q) = V m c main_arg0 (at2 t r q) := by
  obtain ⟨e0, e1⟩ := index0 t
  unfold at2
  blk_ext [iblk, e0, e1]

theorem iblk1_eq (t : Fin cfg0.N) (r : Fin 4) (q : Fin 128) : iblk m c 1 t (ix2 r q) = V m c main_arg1 (at2 t r q) := by
  obtain ⟨e0, e1⟩ := index1 t
  unfold at2
  blk_ext [iblk, e0, e1]

theorem iblk2_eq (t : Fin cfg0.N) (r : Fin 4) (q : Fin 128) : iblk m c 2 t (ix2 r q) = V m c main_arg2 (at2 t r q) := by
  obtain ⟨e0, e1⟩ := index2 t
  unfold at2
  blk_ext [iblk, e0, e1]

theorem iblk3_eq (t : Fin cfg0.N) (r : Fin 4) (q : Fin 128) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S4x128 .f32) (r : Fin 4) (q : Fin 128)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference34Ideal.Read

/-! The reference's results are the same. -/

theorem ref_changes (p g u v : Vec Ideal S4x128 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S4x128 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S4x128 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference34Ideal := fun m g _ =>
  (θ_run (Cert.Reference34Ideal.defs (F := Ideal)) _ _).mono
    (fun r h => ⟨fun c => (h c).2.2.2, sem_eq_zero_of_no_sems (by decide) r.2⟩)
    (Cert.Reference34Ideal.Value.run (F := Ideal) m g)

theorem algebraic : Cert.algebraic_Kernel34Ideal_Reference34Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel34Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference34Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamLruConv

end
-- ==== Proof.AdamLruGate.lean ====
module

public import proofs.«01_k».proof.Defs
public import proofs.«01_k».proof.Proof.Gen.Kernel35Ideal.Value
public import proofs.«01_k».proof.Proof.Gen.Reference35Ideal.Run
public import proofs.«01_k».proof.Proof.Gen.Reference35Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 1024 rows of 128

The grid has one step. A step updates each entry by itself. -/

set_option maxRecDepth 16384

noncomputable section

namespace Cert.AdamLruGate

open Cert.Kernel35Ideal Cert.Kernel35Ideal.Gen Idealize.ShloMosaic Idealize.ShloMosaic.Tactic Idealize.SL.Sem Cert.AdamW

/-! The three results, entry by entry. -/

def firsts (g u : Vec Ideal S1024x128 .f32) : Vec Ideal S1024x128 .f32 := fun y => first (g y) (u y)

def seconds (g v : Vec Ideal S1024x128 .f32) : Vec Ideal S1024x128 .f32 := fun y => second (g y) (v y)

def changes (p g u v : Vec Ideal S1024x128 .f32) : Vec Ideal S1024x128 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 1024) (q : Fin 128) : S1024x128.Idx := ix2 ⟨1024 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 1024) (q : Fin 128) : iblk m c 0 t (ix2 r q) = V m c main_arg0 (at2 t r q) := by
  obtain ⟨e0, e1⟩ := index0 t
  unfold at2
  blk_ext [iblk, e0, e1]

theorem iblk1_eq (t : Fin cfg0.N) (r : Fin 1024) (q : Fin 128) : iblk m c 1 t (ix2 r q) = V m c main_arg1 (at2 t r q) := by
  obtain ⟨e0, e1⟩ := index1 t
  unfold at2
  blk_ext [iblk, e0, e1]

theorem iblk2_eq (t : Fin cfg0.N) (r : Fin 1024) (q : Fin 128) : iblk m c 2 t (ix2 r q) = V m c main_arg2 (at2 t r q) := by
  obtain ⟨e0, e1⟩ := index2 t
  unfold at2
  blk_ext [iblk, e0, e1]

theorem iblk3_eq (t : Fin cfg0.N) (r : Fin 1024) (q : Fin 128) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S1024x128 .f32) (r : Fin 1024) (q : Fin 128)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference35Ideal.Read

/-! The reference's results are the same. -/

theorem ref_changes (p g u v : Vec Ideal S1024x128 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S1024x128 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S1024x128 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference35Ideal := fun m g _ =>
  (θ_run (Cert.Reference35Ideal.defs (F := Ideal)) _ _).mono
    (fun r h => ⟨fun c => (h c).2.2.2, sem_eq_zero_of_no_sems (by decide) r.2⟩)
    (Cert.Reference35Ideal.Value.run (F := Ideal) m g)

theorem algebraic : Cert.algebraic_Kernel35Ideal_Reference35Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel35Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference35Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamLruGate

end
-- ==== Proof.AdamFfnConv.lean ====
module

public import proofs.«01_k».proof.Defs
public import proofs.«01_k».proof.Proof.Gen.Kernel36Ideal.Value
public import proofs.«01_k».proof.Proof.Gen.Reference36Ideal.Run
public import proofs.«01_k».proof.Proof.Gen.Reference36Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 6 rows of 704

The grid has one step. A step updates each entry by itself. -/

set_option maxRecDepth 16384

noncomputable section

namespace Cert.AdamFfnConv

open Cert.Kernel36Ideal Cert.Kernel36Ideal.Gen Idealize.ShloMosaic Idealize.ShloMosaic.Tactic Idealize.SL.Sem Cert.AdamW

/-! The three results, entry by entry. -/

def firsts (g u : Vec Ideal S6x704 .f32) : Vec Ideal S6x704 .f32 := fun y => first (g y) (u y)

def seconds (g v : Vec Ideal S6x704 .f32) : Vec Ideal S6x704 .f32 := fun y => second (g y) (v y)

def changes (p g u v : Vec Ideal S6x704 .f32) : Vec Ideal S6x704 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 6) (q : Fin 704) : S6x704.Idx := ix2 ⟨6 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 6) (q : Fin 704) : iblk m c 0 t (ix2 r q) = V m c main_arg0 (at2 t r q) := by
  obtain ⟨e0, e1⟩ := index0 t
  unfold at2
  blk_ext [iblk, e0, e1]

theorem iblk1_eq (t : Fin cfg0.N) (r : Fin 6) (q : Fin 704) : iblk m c 1 t (ix2 r q) = V m c main_arg1 (at2 t r q) := by
  obtain ⟨e0, e1⟩ := index1 t
  unfold at2
  blk_ext [iblk, e0, e1]

theorem iblk2_eq (t : Fin cfg0.N) (r : Fin 6) (q : Fin 704) : iblk m c 2 t (ix2 r q) = V m c main_arg2 (at2 t r q) := by
  obtain ⟨e0, e1⟩ := index2 t
  unfold at2
  blk_ext [iblk, e0, e1]

theorem iblk3_eq (t : Fin cfg0.N) (r : Fin 6) (q : Fin 704) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S6x704 .f32) (r : Fin 6) (q : Fin 704)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference36Ideal.Read

/-! The reference's results are the same. -/

theorem ref_changes (p g u v : Vec Ideal S6x704 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S6x704 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S6x704 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference36Ideal := fun m g _ =>
  (θ_run (Cert.Reference36Ideal.defs (F := Ideal)) _ _).mono
    (fun r h => ⟨fun c => (h c).2.2.2, sem_eq_zero_of_no_sems (by decide) r.2⟩)
    (Cert.Reference36Ideal.Value.run (F := Ideal) m g)

theorem algebraic : Cert.algebraic_Kernel36Ideal_Reference36Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel36Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference36Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamFfnConv

end
-- ==== Proof.AdamFfnBias.lean ====
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 2 rows of 5632

The grid has one step. A step updates each entry by itself. -/

set_option maxRecDepth 16384

noncomputable section

namespace Cert.AdamFfnBias

open Cert.Kernel37Ideal Cert.Kernel37Ideal.Gen Idealize.ShloMosaic Idealize.ShloMosaic.Tactic Idealize.SL.Sem Cert.AdamW

/-! The three results, entry by entry. -/

def firsts (g u : Vec Ideal S2x5632 .f32) : Vec Ideal S2x5632 .f32 := fun y => first (g y) (u y)

def seconds (g v : Vec Ideal S2x5632 .f32) : Vec Ideal S2x5632 .f32 := fun y => second (g y) (v y)

def changes (p g u v : Vec Ideal S2x5632 .f32) : Vec Ideal S2x5632 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 2) (q : Fin 5632) : S2x5632.Idx := ix2 ⟨2 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 2) (q : Fin 5632) : iblk m c 0 t (ix2 r q) = V m c main_arg0 (at2 t r q) := by
  obtain ⟨e0, e1⟩ := index0 t
  unfold at2
  blk_ext [iblk, e0, e1]

theorem iblk1_eq (t : Fin cfg0.N) (r : Fin 2) (q : Fin 5632) : iblk m c 1 t (ix2 r q) = V m c main_arg1 (at2 t r q) := by
  obtain ⟨e0, e1⟩ := index1 t
  unfold at2
  blk_ext [iblk, e0, e1]

theorem iblk2_eq (t : Fin cfg0.N) (r : Fin 2) (q : Fin 5632) : iblk m c 2 t (ix2 r q) = V m c main_arg2 (at2 t r q) := by
  obtain ⟨e0, e1⟩ := index2 t
  unfold at2
  blk_ext [iblk, e0, e1]

theorem iblk3_eq (t : Fin cfg0.N) (r : Fin 2) (q : Fin 5632) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S2x5632 .f32) (r : Fin 2) (q : Fin 5632)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference37Ideal.Read

/-! The reference's results are the same. -/

theorem ref_changes (p g u v : Vec Ideal S2x5632 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S2x5632 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S2x5632 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference37Ideal := fun m g _ =>
  (θ_run (Cert.Reference37Ideal.defs (F := Ideal)) _ _).mono
    (fun r h => ⟨fun c => (h c).2.2.2, sem_eq_zero_of_no_sems (by decide) r.2⟩)
    (Cert.Reference37Ideal.Value.run (F := Ideal) m g)

theorem algebraic : Cert.algebraic_Kernel37Ideal_Reference37Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel37Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference37Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamFfnBias

end
-- ==== Proof.AdamNormFinal.lean ====
module

public import proofs.«01_k».proof.Defs
public import proofs.«01_k».proof.Proof.Gen.Kernel38Ideal.Value
public import proofs.«01_k».proof.Proof.Gen.Reference38Ideal.Run
public import proofs.«01_k».proof.Proof.Gen.Reference38Ideal.Read
public import proofs.«01_k».proof.Proof.AdamW
public import Idealize.ShloMosaic.Lib.Pipeline.ValueKit
public import Idealize.ShloMosaic.Lib.Pointwise
public import Idealize.ShloMosaic.Lib.Quiescent

@[expose] public section

/-! # AdamW on 1 rows of 1024

The grid has one step. A step updates each entry by itself. -/

set_option maxRecDepth 16384

noncomputable section

namespace Cert.AdamNormFinal

open Cert.Kernel38Ideal Cert.Kernel38Ideal.Gen Idealize.ShloMosaic Idealize.ShloMosaic.Tactic Idealize.SL.Sem Cert.AdamW

/-! The three results, entry by entry. -/

def firsts (g u : Vec Ideal S1x1024 .f32) : Vec Ideal S1x1024 .f32 := fun y => first (g y) (u y)

def seconds (g v : Vec Ideal S1x1024 .f32) : Vec Ideal S1x1024 .f32 := fun y => second (g y) (v y)

def changes (p g u v : Vec Ideal S1x1024 .f32) : Vec Ideal S1x1024 .f32 := fun y => change (p y) (g y) (u y) (v y)

section
variable (m : (ℓ : Loc nD τ sig) → Buf (Elt Ideal) ℓ) (c : Dev nD)

theorem t_lt (t : Fin cfg0.N) : t.val < 1 := t.isLt

/-- A block's place in the whole. -/
def at2 (t : Fin cfg0.N) (r : Fin 1) (q : Fin 1024) : S1x1024.Idx := ix2 ⟨1 * t.val + r.val, by have := t_lt t; omega⟩ q

theorem index0 : ∀ t : Fin cfg0.N, (cfg0.win 0).index t 0 = t.val ∧ (cfg0.win 0).index t 1 = 0 := by decide +kernel

theorem index1 : ∀ t : Fin cfg0.N, (cfg0.win 1).index t 0 = t.val ∧ (cfg0.win 1).index t 1 = 0 := by decide +kernel

theorem index2 : ∀ t : Fin cfg0.N, (cfg0.win 2).index t 0 = t.val ∧ (cfg0.win 2).index t 1 = 0 := by decide +kernel

theorem index3 : ∀ t : Fin cfg0.N, (cfg0.win 3).index t 0 = t.val ∧ (cfg0.win 3).index t 1 = 0 := by decide +kernel

theorem index4 : ∀ t : Fin cfg0.N, (cfg0.win 4).index t 0 = t.val ∧ (cfg0.win 4).index t 1 = 0 := by decide +kernel

theorem index5 : ∀ t : Fin cfg0.N, (cfg0.win 5).index t 0 = t.val ∧ (cfg0.win 5).index t 1 = 0 := by decide +kernel

theorem index6 : ∀ t : Fin cfg0.N, (cfg0.win 6).index t 0 = t.val ∧ (cfg0.win 6).index t 1 = 0 := by decide +kernel

theorem iblk0_eq (t : Fin cfg0.N) (r : Fin 1) (q : Fin 1024) : iblk m c 0 t (ix2 r q) = V m c main_arg0 (at2 t r q) := by
  obtain ⟨e0, e1⟩ := index0 t
  unfold at2
  blk_ext [iblk, e0, e1]

theorem iblk1_eq (t : Fin cfg0.N) (r : Fin 1) (q : Fin 1024) : iblk m c 1 t (ix2 r q) = V m c main_arg1 (at2 t r q) := by
  obtain ⟨e0, e1⟩ := index1 t
  unfold at2
  blk_ext [iblk, e0, e1]

theorem iblk2_eq (t : Fin cfg0.N) (r : Fin 1) (q : Fin 1024) : iblk m c 2 t (ix2 r q) = V m c main_arg2 (at2 t r q) := by
  obtain ⟨e0, e1⟩ := index2 t
  unfold at2
  blk_ext [iblk, e0, e1]

theorem iblk3_eq (t : Fin cfg0.N) (r : Fin 1) (q : Fin 1024) : iblk m c 3 t (ix2 r q) = V m c main_arg3 (at2 t r q) := by
  obtain ⟨e0, e1⟩ := index3 t
  unfold at2
  blk_ext [iblk, e0, e1]

theorem zero2 : (![0, 0] : Fin 2 → ℕ) = fun _ => 0 := by decide

section
variable (x0 x1 x2 x3 : Vec Ideal S1x1024 .f32) (r : Fin 1) (q : Fin 1024)

/-! What a step writes. -/

theorem change_apply : out0_4 x0 x1 x2 x3 (ix2 r q) = change (x0 (ix2 r q)) (x1 (ix2 r q)) (x2 (ix2 r q)) (x3 (ix2 r q)) := by
  unfold out0_4 r0_0
  rw [View.canon_unit_zero zero2, View.ld_unit_zero zero2, View.ld_unit_zero zero2, View.ld_unit_zero zero2, View.ld_unit_zero zero2]
  unfold k0_pay3 k0_pay2 k0_pay1 change first second
  pointwise

theorem first_apply : out0_5 x0 x1 x2 x3 (ix2 r q) = first (x1 (ix2 r q)) (x2 (ix2 r q)) := by
  unfold out0_5 r0_0
  rw [View.canon_unit_zero zero2, View.ld_unit_zero zero2, View.ld_unit_zero zero2]
  unfold k0_pay1 first
  pointwise

theorem second_apply : out0_6 x0 x1 x2 x3 (ix2 r q) = second (x1 (ix2 r q)) (x3 (ix2 r q)) := by
  unfold out0_6 r0_0
  rw [View.canon_unit_zero zero2, View.ld_unit_zero zero2, View.ld_unit_zero zero2]
  unfold k0_pay2 second
  pointwise

end

theorem arr4 : (dats m 0 c).arrAt 4 cfg0.N = changes (V m c main_arg0) (V m c main_arg1) (V m c main_arg2) (V m c main_arg3) := by
  refine (dats m 0 c).arrAt_eq_of_covers 4 _ (by decide +kernel) fun t hf y => ?_
  obtain ⟨e0, e1⟩ := index4 t
  blk_simp
  rw [after0_4]
  idx_vars y
  refine (change_apply _ _ _ _ _ _).trans ?_
  rw [iblk0_eq, iblk1_eq, iblk2_eq, iblk3_eq]
  refine congrArg (changes (V m c main_arg0) (V m c main_arg1) (V m c main_arg2) (V m c main_arg3)) ?_
  unfold at2
  blk_ext [e0, e1]

theorem arr5 : (dats m 0 c).arrAt 5 cfg0.N = firsts (V m c main_arg1) (V m c main_arg2) := by
  refine (dats m 0 c).arrAt_eq_of_covers 5 _ (by decide +kernel) fun t hf y => ?_
  obtain ⟨e0, e1⟩ := index5 t
  blk_simp
  rw [after0_5]
  idx_vars y
  refine (first_apply _ _ _ _ _ _).trans ?_
  rw [iblk1_eq, iblk2_eq]
  refine congrArg (firsts (V m c main_arg1) (V m c main_arg2)) ?_
  unfold at2
  blk_ext [e0, e1]

theorem arr6 : (dats m 0 c).arrAt 6 cfg0.N = seconds (V m c main_arg1) (V m c main_arg3) := by
  refine (dats m 0 c).arrAt_eq_of_covers 6 _ (by decide +kernel) fun t hf y => ?_
  obtain ⟨e0, e1⟩ := index6 t
  blk_simp
  rw [after0_6]
  idx_vars y
  refine (second_apply _ _ _ _ _ _).trans ?_
  rw [iblk1_eq, iblk3_eq]
  refine congrArg (seconds (V m c main_arg1) (V m c main_arg3)) ?_
  unfold at2
  blk_ext [e0, e1]

end

open Cert.Reference38Ideal.Read

/-! The reference's results are the same. -/

theorem ref_changes (p g u v : Vec Ideal S1x1024 .f32) : val_main_v23 (F := Ideal) p g u v = changes p g u v := by
  funext y
  idx_vars y
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst changes change first second
  pointwise

theorem ref_firsts (g u : Vec Ideal S1x1024 .f32) : val_main_v4 (F := Ideal) g u = firsts g u := by
  funext y
  idx_vars y
  unfold val_main_v4 val_main_v3 val_main_v2 val_main_cst_0 val_main_v1 val_main_v0 val_main_cst firsts first
  pointwise

theorem ref_seconds (g v : Vec Ideal S1x1024 .f32) : val_main_v10 (F := Ideal) g v = seconds g v := by
  funext y
  idx_vars y
  unfold val_main_v10 val_main_v9 val_main_v8 val_main_cst_2 val_main_v7 val_main_v6 val_main_v5 val_main_cst_1 seconds second
  pointwise

/-! ## The claims -/

theorem frame_reference : Cert.quiescent_Reference38Ideal := fun m g _ =>
  (θ_run (Cert.Reference38Ideal.defs (F := Ideal)) _ _).mono
    (fun r h => ⟨fun c => (h c).2.2.2, sem_eq_zero_of_no_sems (by decide) r.2⟩)
    (Cert.Reference38Ideal.Value.run (F := Ideal) m g)

theorem algebraic : Cert.algebraic_Kernel38Ideal_Reference38Ideal := by
  intro m g m' g' _ hargs
  refine ⟨fun c => changes (V m c main_arg0) (V m c main_arg1) (V m c main_arg2) (V m c main_arg3),
    fun c => firsts (V m c main_arg1) (V m c main_arg2), fun c => seconds (V m c main_arg1) (V m c main_arg3), ?_, ?_⟩
  · refine (θ_run _ _ _).mono (fun r h c => ?_) (Cert.Kernel38Ideal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.Reference38Ideal.Value.run m' g')
    obtain ⟨h0, h1, h2, hk⟩ := h c
    rw [val_main_v23_eq, (hargs c).1, (hargs c).2.1, (hargs c).2.2.1, (hargs c).2.2.2] at h0
    rw [val_main_v4_eq, (hargs c).2.1, (hargs c).2.2.1] at h1
    rw [val_main_v10_eq, (hargs c).2.1, (hargs c).2.2.2] at h2
    exact ⟨h0.trans (ref_changes _ _ _ _), h1.trans (ref_firsts _ _), h2.trans (ref_seconds _ _), hk⟩

end Cert.AdamNormFinal

end
-- ==== Proof.RetHead.lean ====
module

public import proofs.«01_k».proof.Proof.Gen.Kernel39Ideal.Value
public import Idealize.ShloMosaic.Lib.IdealHost
public import Idealize.ShloMosaic.Lib.Pipeline.ValueKit

@[expose] public section

/-! # Retention: one head on one chunk of 128 rows

`q`, `k`, `v`, `g` are the head's queries, keys, values and gates on the chunk, `c` and `s` the rotation's tables,
`dm` the decay between two rows, `qd` and `kt` the decay from the chunk's start and to its end, `cd` the decay over
a whole chunk, and `st` the state the chunk starts with. -/

set_option maxRecDepth 16384

noncomputable section

namespace Cert.RetHead

open Idealize.ShloMosaic

abbrev Mat := Fin 128 → Fin 128 → EReal

/-- The constants, as the programs write them. -/
abbrev qscale : EReal := Scalar.ofBits (F := Ideal) .f32 0x3DB504F3#32
abbrev len : EReal := Scalar.ofBits (F := Ideal) .f32 0x43000000#32
abbrev eps : EReal := Scalar.ofBits (F := Ideal) .f32 0x358637BD#32
abbrev one : EReal := Scalar.ofBits (F := Ideal) .f32 0x3F800000#32

/-- The same feature of the row's other half. -/
def swap (d : Fin 128) : Fin 128 := ⟨(d.val + 128 - 64) % 128, Nat.mod_lt _ (by decide)⟩

/-- A rotated row. -/
def rot (x c s : Mat) : Mat := fun i d => x i d * c i d + x i (swap d) * s i d

/-- The rotated keys, scaled. -/
def key (k c s : Mat) : Mat := fun i d => rot k c s i d * qscale

/-- The decayed products of queries and keys. -/
def score (q k dm : Mat) : Mat := fun i l => (∑ d, q i d * k l d) * dm i l

/-- The head's result before its norm. -/
def mix (q k v dm qd st : Mat) : Mat := fun i j => ∑ l, score q k dm i l * v l j + ∑ d, q i d * qd i d * st d j

/-- The norm's factor. -/
def inv (o : Mat) (i : Fin 128) : EReal := Ideal.rsqrt (Ideal.div (∑ j, o i j * o i j) len + eps)

/-- The gate. -/
def gate (g : EReal) : EReal := g * Ideal.div one (one + Ideal.exp (-g))

/-- The head's result. -/
def res (o g : Mat) : Mat := fun i j => o i j * inv o i * gate (g i j)

/-- The state after the chunk. -/
def carry (k v kt st : Mat) (cd : Fin 128 → EReal) : Mat := fun d j => st d j * cd j + ∑ l, k l d * kt l d * v l j

section
open Cert.Kernel39Ideal Cert.Kernel39Ideal.Gen

theorem pay5_apply (c s x : Vec Ideal S128x128 .f32) (i d : Fin 128) :
    k0_pay5 c s x (ix2 i d) = rot (fun i d => x (ix2 i d)) (fun i d => c (ix2 i d)) (fun i d => s (ix2 i d)) i d := by
  unfold k0_pay5 k0_pay3 k0_pay4 rot swap
  pointwise

theorem pay6_apply (c s x : Vec Ideal S128x128 .f32) (i d : Fin 128) :
    k0_pay6 c s x (ix2 i d) = key (fun i d => x (ix2 i d)) (fun i d => c (ix2 i d)) (fun i d => s (ix2 i d)) i d := by
  unfold k0_pay6 k0_pay3 k0_pay4 key rot swap
  pointwise

theorem pay7_apply (st : Vec Ideal S1x128x128 .f32) (d j : Fin 128) : k0_pay7 st (ix2 d j) = st (ix3 0 d j) := by
  unfold k0_pay7
  pointwise

theorem pay8_apply (st : Vec Ideal S1x128x128 .f32) (d j : Fin 128) : k0_pay8 st (ix4 0 0 d j) = st (ix3 0 d j) := by
  unfold k0_pay8 k0_pay7
  pointwise

theorem pay9_apply (c s q k : Vec Ideal S128x128 .f32) (i l : Fin 128) :
    k0_pay9 c s q k (ix2 i l) = ∑ d, k0_pay5 c s q (ix2 i d) * k0_pay6 c s k (ix2 l d) := by
  unfold k0_pay9
  pointwise

theorem pay26_apply (v q st sc : Vec Ideal S128x128 .f32) (dm : Vec Ideal S1x128x128 .f32) (qd : Vec Ideal S1x1x128x128 .f32) (i j : Fin 128) :
    k0_pay26 v q st sc dm qd (ix2 i j) = ∑ l, sc (ix2 i l) * dm (ix3 0 i l) * v (ix2 l j) + ∑ d, q (ix2 i d) * qd (ix4 0 0 i d) * st (ix2 d j) := by
  unfold k0_pay26
  pointwise

theorem pay11_apply (v q st sc : Vec Ideal S128x128 .f32) (dm : Vec Ideal S1x128x128 .f32) (qd : Vec Ideal S1x1x128x128 .f32) (i j : Fin 128) :
    k0_pay11 v q st sc dm qd (ix2 i j) = k0_pay26 v q st sc dm qd (ix2 i j) * inv (fun i j => k0_pay26 v q st sc dm qd (ix2 i j)) i := by
  show mulf (k0_pay26 v q st sc dm qd) (k0_pay28 v q st sc dm qd) (ix2 i j) = _
  unfold k0_pay28 inv
  pointwise

theorem pay12_apply (g y : Vec Ideal S128x128 .f32) (i j : Fin 128) :
    k0_pay12 g y (Scalar.ofBits .f32 0x00000000#32) (ix2 i j) = y (ix2 i j) * gate (g (ix2 i j)) := by
  unfold k0_pay12 gate
  pointwise
  rw [zero_sub]

theorem pay10_apply (v k st : Vec Ideal S128x128 .f32) (cd : Vec Ideal S1x8x128 .f32) (kt : Vec Ideal S1x1x128x128 .f32) (d j : Fin 128) :
    k0_pay10 v k st cd kt (ix3 0 d j) = st (ix2 d j) * cd (ix3 0 0 j) + ∑ l, k (ix2 l d) * kt (ix4 0 0 l d) * v (ix2 l j) := by
  unfold k0_pay10
  pointwise

/-- A head's result and its next state, as the kernel computes them. -/
def headY (c s q k v g : Vec Ideal S128x128 .f32) (st dm : Vec Ideal S1x128x128 .f32) (qd : Vec Ideal S1x1x128x128 .f32) : FVec Ideal S128x128 .bf16 :=
  k0_pay12 g (k0_pay11 v (k0_pay5 c s q) (k0_pay7 st) (k0_pay9 c s q k) dm qd) (Scalar.ofBits .f32 0x00000000#32)

def headS (c s k v : Vec Ideal S128x128 .f32) (st : Vec Ideal S1x128x128 .f32) (cd : Vec Ideal S1x8x128 .f32) (kt : Vec Ideal S1x1x128x128 .f32) : FVec Ideal S1x128x128 .f32 :=
  k0_pay10 v (k0_pay6 c s k) (k0_pay7 st) cd kt

theorem headY1 (c s q k v g : Vec Ideal S128x128 .f32) (st dm : Vec Ideal S1x128x128 .f32) (qd : Vec Ideal S1x1x128x128 .f32) :
    k0_pay20 g (k0_pay19 v (k0_pay13 (k0_pay3 c) (k0_pay4 s) q) (k0_pay15 st) (k0_pay17 (k0_pay3 c) (k0_pay4 s) q k) dm qd)
      = headY c s q k v g st dm qd := rfl

theorem headY2 (c s q k v g : Vec Ideal S128x128 .f32) (st dm : Vec Ideal S1x128x128 .f32) (qd : Vec Ideal S1x1x128x128 .f32) :
    k0_pay29 g (k0_pay26 v (k0_pay21 (k0_pay3 c) (k0_pay4 s) q) (k0_pay23 st) (k0_pay25 (k0_pay3 c) (k0_pay4 s) q k) dm qd)
      (k0_pay28 v (k0_pay21 (k0_pay3 c) (k0_pay4 s) q) (k0_pay23 st) (k0_pay25 (k0_pay3 c) (k0_pay4 s) q k) dm qd)
      = headY c s q k v g st dm qd := rfl

theorem headY3 (c s q k v g : Vec Ideal S128x128 .f32) (st dm : Vec Ideal S1x128x128 .f32) (qd : Vec Ideal S1x1x128x128 .f32) :
    k0_pay1 g (k0_pay35 v (k0_pay30 (k0_pay3 c) (k0_pay4 s) q) (k0_pay32 st) (k0_pay34 (k0_pay3 c) (k0_pay4 s) q k) dm qd)
      (k0_pay37 v (k0_pay30 (k0_pay3 c) (k0_pay4 s) q) (k0_pay32 st) (k0_pay34 (k0_pay3 c) (k0_pay4 s) q k) dm qd)
      = headY c s q k v g st dm qd := rfl

theorem headS1 (c s k v : Vec Ideal S128x128 .f32) (st : Vec Ideal S1x128x128 .f32) (cd : Vec Ideal S1x8x128 .f32) (kt : Vec Ideal S1x1x128x128 .f32) :
    k0_pay18 v (k0_pay14 (k0_pay3 c) (k0_pay4 s) k) (k0_pay15 st) cd kt = headS c s k v st cd kt := rfl

theorem headS2 (c s k v : Vec Ideal S128x128 .f32) (st : Vec Ideal S1x128x128 .f32) (cd : Vec Ideal S1x8x128 .f32) (kt : Vec Ideal S1x1x128x128 .f32) :
    k0_pay27 v (k0_pay22 (k0_pay3 c) (k0_pay4 s) k) (k0_pay23 st) cd kt = headS c s k v st cd kt := rfl

theorem headS3 (c s k v : Vec Ideal S128x128 .f32) (st : Vec Ideal S1x128x128 .f32) (cd : Vec Ideal S1x8x128 .f32) (kt : Vec Ideal S1x1x128x128 .f32) :
    k0_pay36 v (k0_pay31 (k0_pay3 c) (k0_pay4 s) k) (k0_pay32 st) cd kt = headS c s k v st cd kt := rfl

theorem headY_apply (c s q k v g : Vec Ideal S128x128 .f32) (st dm : Vec Ideal S1x128x128 .f32) (qd : Vec Ideal S1x1x128x128 .f32) (i j : Fin 128) :
    headY c s q k v g st dm qd (ix2 i j)
      = res (mix (rot (fun i d => q (ix2 i d)) (fun i d => c (ix2 i d)) (fun i d => s (ix2 i d)))
          (key (fun i d => k (ix2 i d)) (fun i d => c (ix2 i d)) (fun i d => s (ix2 i d))) (fun i d => v (ix2 i d)) (fun i d => dm (ix3 0 i d))
          (fun i d => qd (ix4 0 0 i d)) (fun i d => st (ix3 0 i d))) (fun i d => g (ix2 i d)) i j := by
  unfold headY
  rw [pay12_apply, pay11_apply]
  simp only [pay26_apply, pay9_apply, pay5_apply, pay6_apply, pay7_apply]
  rfl

theorem headS_apply (c s k v : Vec Ideal S128x128 .f32) (st : Vec Ideal S1x128x128 .f32) (cd : Vec Ideal S1x8x128 .f32) (kt : Vec Ideal S1x1x128x128 .f32) (d j : Fin 128) :
    headS c s k v st cd kt (ix3 0 d j)
      = carry (key (fun i d => k (ix2 i d)) (fun i d => c (ix2 i d)) (fun i d => s (ix2 i d))) (fun i d => v (ix2 i d))
          (fun i d => kt (ix4 0 0 i d)) (fun i d => st (ix3 0 i d)) (fun j => cd (ix3 0 0 j)) d j := by
  unfold headS
  rw [pay10_apply]
  simp only [pay6_apply, pay7_apply]
  rfl

end

end Cert.RetHead

end
-- ==== Proof.RetStep.lean ====
module

public import proofs.«01_k».proof.Proof.RetHead
public import Idealize.ShloMosaic.Lib.Pipeline.ReadBack
public import Idealize.ShloMosaic.Lib.Pipeline.ValueKit.Tiles

@[expose] public section

/-! # Retention: what one step of the kernel leaves in its buffers

A step works on one chunk, its four heads after one another. `st` holds the heads' states before the chunk. -/

set_option maxRecDepth 16384

noncomputable section

namespace Cert.RetStep

open Cert.Kernel39Ideal Cert.Kernel39Ideal.Gen Idealize.ShloMosaic Idealize.ShloMosaic.Tactic Cert.RetHead

/-! A head's part of a block, as a load reads it. -/

/-- Head `h` of the queries (`o = 0`), keys, values or gates. -/
def sec (o h : Fin 4) (x : Vec Ideal S128x2048 .f32) : Vec Ideal S128x128 .f32 := fun y => x (ix2 (y 0) ⟨512 * o.val + 128 * h.val + (y 1).val, by
  have h1 : (y 1).val < 128 := (y 1).isLt
  omega⟩)
def mat (h : Fin 4) (x : Vec Ideal S4x128x128 .f32) : Vec Ideal S1x128x128 .f32 := fun y => x (ix3 h (y 1) (y 2))
def tab (h : Fin 4) (e : Fin 2) (x : Vec Ideal S4x2x128x128 .f32) : Vec Ideal S1x1x128x128 .f32 := fun y => x (ix4 h e (y 2) (y 3))
def dec (h : Fin 4) (x : Vec Ideal S4x8x128 .f32) : Vec Ideal S1x8x128 .f32 := fun y => x (ix3 h (y 1) (y 2))

theorem ld_sec (o h : Fin 4) (x : Vec Ideal S128x2048 .f32) (inb) :
    View.ld x (Rect.unit ![0, 512 * o.val + 128 * h.val] ![128, 128] inb) = sec o h x := by
  funext y
  refine View.ld_unit_apply_of _ _ _ _ _ _ fun a => ?_
  match a with
  | 0 => show (y 0).val = 0 + (y 0).val; omega
  | 1 => rfl

theorem ld_mat (h : Fin 4) (x : Vec Ideal S4x128x128 .f32) (inb) :
    View.ld x (Rect.unit ![h.val, 0, 0] ![1, 128, 128] inb) = mat h x := by
  funext y
  refine View.ld_unit_apply_of _ _ _ _ _ _ fun a => ?_
  have h0 : (y 0).val < 1 := (y 0).isLt
  match a with
  | 0 => show h.val = h.val + (y 0).val; omega
  | 1 => show (y 1).val = 0 + (y 1).val; omega
  | 2 => show (y 2).val = 0 + (y 2).val; omega

theorem ld_dec (h : Fin 4) (x : Vec Ideal S4x8x128 .f32) (inb) :
    View.ld x (Rect.unit ![h.val, 0, 0] ![1, 8, 128] inb) = dec h x := by
  funext y
  refine View.ld_unit_apply_of _ _ _ _ _ _ fun a => ?_
  have h0 : (y 0).val < 1 := (y 0).isLt
  match a with
  | 0 => show h.val = h.val + (y 0).val; omega
  | 1 => show (y 1).val = 0 + (y 1).val; omega
  | 2 => show (y 2).val = 0 + (y 2).val; omega

theorem ld_tab (h : Fin 4) (e : Fin 2) (x : Vec Ideal S4x2x128x128 .f32) (inb) :
    View.ld x (Rect.unit ![h.val, e.val, 0, 0] ![1, 1, 128, 128] inb) = tab h e x := by
  funext y
  refine View.ld_unit_apply_of _ _ _ _ _ _ fun a => ?_
  have h0 : (y 0).val < 1 := (y 0).isLt
  have h1 : (y 1).val < 1 := (y 1).isLt
  match a with
  | 0 => show h.val = h.val + (y 0).val; omega
  | 1 => show e.val = e.val + (y 1).val; omega
  | 2 => show (y 2).val = 0 + (y 2).val; omega
  | 3 => show (y 3).val = 0 + (y 3).val; omega

theorem ld_all (x : Vec Ideal S128x128 .f32) (inb) : View.ld x (Rect.unit ![0, 0] ![128, 128] inb) = x :=
  View.ld_unit_zero (S := S128x128) (by funext a; match a with | 0 => rfl | 1 => rfl) _ _

/-! The same loads at the literal offsets the kernel writes. -/

theorem ldP_00 (x : Vec Ideal S128x2048 .f32) (inb) : View.ld x (Rect.unit ![0, 0] ![128, 128] inb) = sec 0 0 x := ld_sec 0 0 x inb
theorem ldP_01 (x : Vec Ideal S128x2048 .f32) (inb) : View.ld x (Rect.unit ![0, 128] ![128, 128] inb) = sec 0 1 x := ld_sec 0 1 x inb
theorem ldP_02 (x : Vec Ideal S128x2048 .f32) (inb) : View.ld x (Rect.unit ![0, 256] ![128, 128] inb) = sec 0 2 x := ld_sec 0 2 x inb
theorem ldP_03 (x : Vec Ideal S128x2048 .f32) (inb) : View.ld x (Rect.unit ![0, 384] ![128, 128] inb) = sec 0 3 x := ld_sec 0 3 x inb
theorem ldP_10 (x : Vec Ideal S128x2048 .f32) (inb) : View.ld x (Rect.unit ![0, 512] ![128, 128] inb) = sec 1 0 x := ld_sec 1 0 x inb
theorem ldP_11 (x : Vec Ideal S128x2048 .f32) (inb) : View.ld x (Rect.unit ![0, 640] ![128, 128] inb) = sec 1 1 x := ld_sec 1 1 x inb
theorem ldP_12 (x : Vec Ideal S128x2048 .f32) (inb) : View.ld x (Rect.unit ![0, 768] ![128, 128] inb) = sec 1 2 x := ld_sec 1 2 x inb
theorem ldP_13 (x : Vec Ideal S128x2048 .f32) (inb) : View.ld x (Rect.unit ![0, 896] ![128, 128] inb) = sec 1 3 x := ld_sec 1 3 x inb
theorem ldP_20 (x : Vec Ideal S128x2048 .f32) (inb) : View.ld x (Rect.unit ![0, 1024] ![128, 128] inb) = sec 2 0 x := ld_sec 2 0 x inb
theorem ldP_21 (x : Vec Ideal S128x2048 .f32) (inb) : View.ld x (Rect.unit ![0, 1152] ![128, 128] inb) = sec 2 1 x := ld_sec 2 1 x inb
theorem ldP_22 (x : Vec Ideal S128x2048 .f32) (inb) : View.ld x (Rect.unit ![0, 1280] ![128, 128] inb) = sec 2 2 x := ld_sec 2 2 x inb
theorem ldP_23 (x : Vec Ideal S128x2048 .f32) (inb) : View.ld x (Rect.unit ![0, 1408] ![128, 128] inb) = sec 2 3 x := ld_sec 2 3 x inb
theorem ldP_30 (x : Vec Ideal S128x2048 .f32) (inb) : View.ld x (Rect.unit ![0, 1536] ![128, 128] inb) = sec 3 0 x := ld_sec 3 0 x inb
theorem ldP_31 (x : Vec Ideal S128x2048 .f32) (inb) : View.ld x (Rect.unit ![0, 1664] ![128, 128] inb) = sec 3 1 x := ld_sec 3 1 x inb
theorem ldP_32 (x : Vec Ideal S128x2048 .f32) (inb) : View.ld x (Rect.unit ![0, 1792] ![128, 128] inb) = sec 3 2 x := ld_sec 3 2 x inb
theorem ldP_33 (x : Vec Ideal S128x2048 .f32) (inb) : View.ld x (Rect.unit ![0, 1920] ![128, 128] inb) = sec 3 3 x := ld_sec 3 3 x inb
theorem ldM_0 (x : Vec Ideal S4x128x128 .f32) (inb) : View.ld x (Rect.unit ![0, 0, 0] ![1, 128, 128] inb) = mat 0 x := ld_mat 0 x inb
theorem ldD_0 (x : Vec Ideal S4x8x128 .f32) (inb) : View.ld x (Rect.unit ![0, 0, 0] ![1, 8, 128] inb) = dec 0 x := ld_dec 0 x inb
theorem ldT_00 (x : Vec Ideal S4x2x128x128 .f32) (inb) : View.ld x (Rect.unit ![0, 0, 0, 0] ![1, 1, 128, 128] inb) = tab 0 0 x := ld_tab 0 0 x inb
theorem ldT_01 (x : Vec Ideal S4x2x128x128 .f32) (inb) : View.ld x (Rect.unit ![0, 1, 0, 0] ![1, 1, 128, 128] inb) = tab 0 1 x := ld_tab 0 1 x inb
theorem ldM_1 (x : Vec Ideal S4x128x128 .f32) (inb) : View.ld x (Rect.unit ![1, 0, 0] ![1, 128, 128] inb) = mat 1 x := ld_mat 1 x inb
theorem ldD_1 (x : Vec Ideal S4x8x128 .f32) (inb) : View.ld x (Rect.unit ![1, 0, 0] ![1, 8, 128] inb) = dec 1 x := ld_dec 1 x inb
theorem ldT_10 (x : Vec Ideal S4x2x128x128 .f32) (inb) : View.ld x (Rect.unit ![1, 0, 0, 0] ![1, 1, 128, 128] inb) = tab 1 0 x := ld_tab 1 0 x inb
theorem ldT_11 (x : Vec Ideal S4x2x128x128 .f32) (inb) : View.ld x (Rect.unit ![1, 1, 0, 0] ![1, 1, 128, 128] inb) = tab 1 1 x := ld_tab 1 1 x inb
theorem ldM_2 (x : Vec Ideal S4x128x128 .f32) (inb) : View.ld x (Rect.unit ![2, 0, 0] ![1, 128, 128] inb) = mat 2 x := ld_mat 2 x inb
theorem ldD_2 (x : Vec Ideal S4x8x128 .f32) (inb) : View.ld x (Rect.unit ![2, 0, 0] ![1, 8, 128] inb) = dec 2 x := ld_dec 2 x inb
theorem ldT_20 (x : Vec Ideal S4x2x128x128 .f32) (inb) : View.ld x (Rect.unit ![2, 0, 0, 0] ![1, 1, 128, 128] inb) = tab 2 0 x := ld_tab 2 0 x inb
theorem ldT_21 (x : Vec Ideal S4x2x128x128 .f32) (inb) : View.ld x (Rect.unit ![2, 1, 0, 0] ![1, 1, 128, 128] inb) = tab 2 1 x := ld_tab 2 1 x inb
theorem ldM_3 (x : Vec Ideal S4x128x128 .f32) (inb) : View.ld x (Rect.unit ![3, 0, 0] ![1, 128, 128] inb) = mat 3 x := ld_mat 3 x inb
theorem ldD_3 (x : Vec Ideal S4x8x128 .f32) (inb) : View.ld x (Rect.unit ![3, 0, 0] ![1, 8, 128] inb) = dec 3 x := ld_dec 3 x inb
theorem ldT_30 (x : Vec Ideal S4x2x128x128 .f32) (inb) : View.ld x (Rect.unit ![3, 0, 0, 0] ![1, 1, 128, 128] inb) = tab 3 0 x := ld_tab 3 0 x inb
theorem ldT_31 (x : Vec Ideal S4x2x128x128 .f32) (inb) : View.ld x (Rect.unit ![3, 1, 0, 0] ![1, 1, 128, 128] inb) = tab 3 1 x := ld_tab 3 1 x inb

/-! Where a head's store lies in its buffer. -/

theorem emb_y (h : Fin 4) (i j : Fin 128) (inb) :
    (Rect.unit (s := S128x512) ![0, 128 * h.val] ![128, 128] inb).emb (ix2 i j) = ix2 i ⟨128 * h.val + j.val, by omega⟩ := by
  funext a
  apply Fin.ext
  match a with
  | 0 => show 0 + 1 * i.val = i.val; omega
  | 1 => show 128 * h.val + 1 * j.val = 128 * h.val + j.val; omega

theorem emb_s (h : Fin 4) (d j : Fin 128) (inb) :
    (Rect.unit (s := S1x4x128x128) ![0, h.val, 0, 0] ![1, 1, 128, 128] inb).emb (ix4 0 0 d j) = ix4 0 h d j := by
  funext a
  apply Fin.ext
  match a with
  | 0 => rfl
  | 1 => show h.val + 1 * 0 = h.val; omega
  | 2 => show 0 + 1 * d.val = d.val; omega
  | 3 => show 0 + 1 * j.val = j.val; omega

theorem emb_c (h : Fin 4) (d j : Fin 128) (inb) :
    (Rect.unit (s := S4x128x128) ![h.val, 0, 0] ![1, 128, 128] inb).emb (ix3 0 d j) = ix3 h d j := by
  funext a
  apply Fin.ext
  match a with
  | 0 => show h.val + 1 * 0 = h.val; omega
  | 1 => show 0 + 1 * d.val = d.val; omega
  | 2 => show 0 + 1 * j.val = j.val; omega

/-- Four stores over any earlier ones, read back. -/
theorem canon_over4 {S : Shape} {e : EltTy} (G : S.Idx → Elt Ideal e) {p1 p2 p3 p4 : View.Piece (Elt Ideal) S e} (L : List (View.Piece (Elt Ideal) S e))
    (h : View.PiecesOf G [p1, p2, p3, p4]) (y : S.Idx) (hc : ∃ p ∈ [p1, p2, p3, p4], y ∈ p.1.set) :
    View.canon (p1 :: p2 :: p3 :: p4 :: L) y = G y := View.canon_append_of_piecesOf G L [p1, p2, p3, p4] h y hc

section
variable (x0 : Vec Ideal S128x2048 .f32) (x1 x2 : Vec Ideal S128x128 .f32) (x3 : Vec Ideal S4x128x128 .f32) (x4 : Vec Ideal S4x2x128x128 .f32)
  (x5 : Vec Ideal S4x8x128 .f32) (st : Vec Ideal S4x128x128 .f32)

/-- Head `h`'s result, and its next state. -/
def hY (h : Fin 4) : FVec Ideal S128x128 .bf16 :=
  headY x1 x2 (sec 0 h x0) (sec 1 h x0) (sec 2 h x0) (sec 3 h x0) (mat h st) (mat h x3) (tab h 1 x4)
def hS (h : Fin 4) : FVec Ideal S1x128x128 .f32 :=
  headS x1 x2 (sec 1 h x0) (sec 2 h x0) (mat h st) (dec h x5) (tab h 0 x4)

/-- What the step leaves in the result. -/
def stepY : Vec Ideal S128x512 .bf16 := fun y => hY x0 x1 x2 x3 x4 st ⟨(y 1).val / 128, by
  have h1 : (y 1).val < 512 := (y 1).isLt
  omega⟩ (ix2 (y 0) ⟨(y 1).val % 128, Nat.mod_lt _ (by decide)⟩)

/-- What it leaves in the array of the states. -/
def stepO : Vec Ideal S1x4x128x128 .f32 := fun y => st (ix3 (y 1) (y 2) (y 3))

/-- What it carries to the next step. -/
def stepC : Vec Ideal S4x128x128 .f32 := fun y => hS x0 x1 x2 x4 x5 st (y 0) (ix3 0 (y 1) (y 2))

theorem stepY_at (h : Fin 4) (i j : Fin 128) :
    stepY x0 x1 x2 x3 x4 st (ix2 i ⟨128 * h.val + j.val, by omega⟩) = hY x0 x1 x2 x3 x4 st h (ix2 i j) := by
  unfold stepY
  have e1 : (⟨(128 * h.val + j.val) / 128, by omega⟩ : Fin 4) = h := Fin.ext (by dsimp only; omega)
  have e2 : (⟨(128 * h.val + j.val) % 128, Nat.mod_lt _ (by decide)⟩ : Fin 128) = j := Fin.ext (by dsimp only; omega)
  show hY x0 x1 x2 x3 x4 st ⟨(128 * h.val + j.val) / 128, _⟩ (ix2 i ⟨(128 * h.val + j.val) % 128, _⟩) = _
  rw [e1, e2]

end

section
variable (c : Dev nD) (i : grid0.Coords) (arg1 : Memref sig .tc .vmem S128x2048 .f32) (harg1 : arg1.IsWhole) (arg2 : Memref sig .tc .vmem S128x128 .f32) (harg2 : arg2.IsWhole)
  (arg3 : Memref sig .tc .vmem S128x128 .f32) (harg3 : arg3.IsWhole) (arg4 : Memref sig .tc .vmem S4x128x128 .f32) (harg4 : arg4.IsWhole)
  (arg5 : Memref sig .tc .vmem S4x2x128x128 .f32) (harg5 : arg5.IsWhole) (arg6 : Memref sig .tc .vmem S4x8x128 .f32) (harg6 : arg6.IsWhole)
  (arg7 : Memref sig .tc .vmem S128x512 .bf16) (harg7 : arg7.IsWhole) (arg8 : Memref sig .tc .vmem S1x4x128x128 .f32) (harg8 : arg8.IsWhole)
  (arg9 : Memref sig .tc .vmem S4x128x128 .f32) (harg9 : arg9.IsWhole)
  (x0 : Vec Ideal S128x2048 .f32) (x1 x2 : Vec Ideal S128x128 .f32) (x3 : Vec Ideal S4x128x128 .f32) (x4 : Vec Ideal S4x2x128x128 .f32)
  (x5 : Vec Ideal S4x8x128 .f32) (xs0 : Vec Ideal S4x128x128 .f32)

set_option maxHeartbeats 400000 in
theorem y_A (hc0 : cond0_0 i) : out0_A_6 c i arg1 harg1 arg2 harg2 arg3 harg3 arg4 harg4 arg5 harg5 arg6 harg6 arg7 harg7 arg8 harg8 arg9 harg9 hc0 x0 x1 x2 x3 x4 x5 = stepY x0 x1 x2 x3 x4 (k0_pay2 (F := Ideal)) := by
  funext y
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg9.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldM_1, ldD_1, ldT_10, ldT_11, ldM_2, ldD_2, ldT_20, ldT_21, ldM_3, ldD_3, ldT_30, ldT_31, ld_all]
  generalize k0_pay2 (F := Ideal) = z
  refine View.canon_apply_of_pieces (stepY x0 x1 x2 x3 x4 z) [_, _, _, _] (View.PiecesOf.mem (show View.PiecesOf (stepY x0 x1 x2 x3 x4 z) [_, _, _, _] from ⟨?_, ?_, ?_, ?_, trivial⟩)) y ?_
  · intro q
    change S128x128.Idx at q
    idx_vars q
    exact (stepY_at x0 x1 x2 x3 x4 z 3 q0 q1).symm.trans (congrArg (stepY x0 x1 x2 x3 x4 z) (emb_y 3 q0 q1 _).symm)
  · intro q
    change S128x128.Idx at q
    idx_vars q
    exact (stepY_at x0 x1 x2 x3 x4 z 2 q0 q1).symm.trans (congrArg (stepY x0 x1 x2 x3 x4 z) (emb_y 2 q0 q1 _).symm)
  · intro q
    change S128x128.Idx at q
    idx_vars q
    exact (stepY_at x0 x1 x2 x3 x4 z 1 q0 q1).symm.trans (congrArg (stepY x0 x1 x2 x3 x4 z) (emb_y 1 q0 q1 _).symm)
  · intro q
    change S128x128.Idx at q
    idx_vars q
    exact (stepY_at x0 x1 x2 x3 x4 z 0 q0 q1).symm.trans (congrArg (stepY x0 x1 x2 x3 x4 z) (emb_y 0 q0 q1 _).symm)
  · exact View.cover_of_tiledL (_ : List (View.Piece (Elt Ideal) S128x512 .bf16)) S128x128.size (by sl_kernel_rfl) y

set_option maxHeartbeats 400000 in
theorem o_A (hc0 : cond0_0 i) : out0_A_7 c i arg1 harg1 arg2 harg2 arg3 harg3 arg4 harg4 arg5 harg5 arg6 harg6 arg7 harg7 arg8 harg8 arg9 harg9 hc0 x0 x1 x2 x3 x4 x5 = stepO (k0_pay2 (F := Ideal)) := by
  funext y
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg9.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldM_1, ldD_1, ldT_10, ldT_11, ldM_2, ldD_2, ldT_20, ldT_21, ldM_3, ldD_3, ldT_30, ldT_31, ld_all]
  generalize k0_pay2 (F := Ideal) = z
  refine View.canon_apply_of_pieces (stepO z) [_, _, _, _] (View.PiecesOf.mem (show View.PiecesOf (stepO z) [_, _, _, _] from ⟨?_, ?_, ?_, ?_, trivial⟩)) y ?_
  · intro q
    change S1x1x128x128.Idx at q
    idx_vars q
    obtain rfl : q0 = 0 := Subsingleton.elim _ _
    obtain rfl : q1 = 0 := Subsingleton.elim _ _
    exact (pay8_apply _ _ _).trans (congrArg (stepO z) (emb_s 3 q2 q3 _).symm)
  · intro q
    change S1x1x128x128.Idx at q
    idx_vars q
    obtain rfl : q0 = 0 := Subsingleton.elim _ _
    obtain rfl : q1 = 0 := Subsingleton.elim _ _
    exact (pay8_apply _ _ _).trans (congrArg (stepO z) (emb_s 2 q2 q3 _).symm)
  · intro q
    change S1x1x128x128.Idx at q
    idx_vars q
    obtain rfl : q0 = 0 := Subsingleton.elim _ _
    obtain rfl : q1 = 0 := Subsingleton.elim _ _
    exact (pay8_apply _ _ _).trans (congrArg (stepO z) (emb_s 1 q2 q3 _).symm)
  · intro q
    change S1x1x128x128.Idx at q
    idx_vars q
    obtain rfl : q0 = 0 := Subsingleton.elim _ _
    obtain rfl : q1 = 0 := Subsingleton.elim _ _
    exact (pay8_apply _ _ _).trans (congrArg (stepO z) (emb_s 0 q2 q3 _).symm)
  · exact View.cover_of_tiledL (_ : List (View.Piece (Elt Ideal) S1x4x128x128 .f32)) S1x1x128x128.size (by sl_kernel_rfl) y

set_option maxHeartbeats 400000 in
theorem c_A (hc0 : cond0_0 i) : sout0_A_0 c i arg1 harg1 arg2 harg2 arg3 harg3 arg4 harg4 arg5 harg5 arg6 harg6 arg7 harg7 arg8 harg8 arg9 harg9 hc0 x0 x1 x2 x3 x4 x5 = stepC x0 x1 x2 x4 x5 (k0_pay2 (F := Ideal)) := by
  funext y
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg9.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldM_1, ldD_1, ldT_10, ldT_11, ldM_2, ldD_2, ldT_20, ldT_21, ldM_3, ldD_3, ldT_30, ldT_31, ld_all]
  generalize k0_pay2 (F := Ideal) = z
  refine canon_over4 (stepC x0 x1 x2 x4 x5 z) _ ⟨?_, ?_, ?_, ?_, trivial⟩ y ?_
  · intro q
    change S1x128x128.Idx at q
    idx_vars q
    obtain rfl : q0 = 0 := Subsingleton.elim _ _
    exact congrArg (stepC x0 x1 x2 x4 x5 z) (emb_c 3 q1 q2 _).symm
  · intro q
    change S1x128x128.Idx at q
    idx_vars q
    obtain rfl : q0 = 0 := Subsingleton.elim _ _
    exact congrArg (stepC x0 x1 x2 x4 x5 z) (emb_c 2 q1 q2 _).symm
  · intro q
    change S1x128x128.Idx at q
    idx_vars q
    obtain rfl : q0 = 0 := Subsingleton.elim _ _
    exact congrArg (stepC x0 x1 x2 x4 x5 z) (emb_c 1 q1 q2 _).symm
  · intro q
    change S1x128x128.Idx at q
    idx_vars q
    obtain rfl : q0 = 0 := Subsingleton.elim _ _
    exact congrArg (stepC x0 x1 x2 x4 x5 z) (emb_c 0 q1 q2 _).symm
  · exact View.cover_of_tiledL (_ : List (View.Piece (Elt Ideal) S4x128x128 .f32)) S1x128x128.size (by sl_kernel_rfl) y

set_option maxHeartbeats 400000 in
theorem y_B (hc0 : ¬cond0_0 i) : out0_B_6 c i arg1 harg1 arg2 harg2 arg3 harg3 arg4 harg4 arg5 harg5 arg6 harg6 arg7 harg7 arg8 harg8 arg9 harg9 hc0 x0 x1 x2 x3 x4 x5 xs0 = stepY x0 x1 x2 x3 x4 xs0 := by
  funext y
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xs0)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg9.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldM_1, ldD_1, ldT_10, ldT_11, ldM_2, ldD_2, ldT_20, ldT_21, ldM_3, ldD_3, ldT_30, ldT_31, ld_all]
  refine View.canon_apply_of_pieces (stepY x0 x1 x2 x3 x4 xs0) [_, _, _, _] (View.PiecesOf.mem (show View.PiecesOf (stepY x0 x1 x2 x3 x4 xs0) [_, _, _, _] from ⟨?_, ?_, ?_, ?_, trivial⟩)) y ?_
  · intro q
    change S128x128.Idx at q
    idx_vars q
    exact (stepY_at x0 x1 x2 x3 x4 xs0 3 q0 q1).symm.trans (congrArg (stepY x0 x1 x2 x3 x4 xs0) (emb_y 3 q0 q1 _).symm)
  · intro q
    change S128x128.Idx at q
    idx_vars q
    exact (stepY_at x0 x1 x2 x3 x4 xs0 2 q0 q1).symm.trans (congrArg (stepY x0 x1 x2 x3 x4 xs0) (emb_y 2 q0 q1 _).symm)
  · intro q
    change S128x128.Idx at q
    idx_vars q
    exact (stepY_at x0 x1 x2 x3 x4 xs0 1 q0 q1).symm.trans (congrArg (stepY x0 x1 x2 x3 x4 xs0) (emb_y 1 q0 q1 _).symm)
  · intro q
    change S128x128.Idx at q
    idx_vars q
    exact (stepY_at x0 x1 x2 x3 x4 xs0 0 q0 q1).symm.trans (congrArg (stepY x0 x1 x2 x3 x4 xs0) (emb_y 0 q0 q1 _).symm)
  · exact View.cover_of_tiledL (_ : List (View.Piece (Elt Ideal) S128x512 .bf16)) S128x128.size (by sl_kernel_rfl) y

set_option maxHeartbeats 400000 in
theorem o_B (hc0 : ¬cond0_0 i) : out0_B_7 c i arg1 harg1 arg2 harg2 arg3 harg3 arg4 harg4 arg5 harg5 arg6 harg6 arg7 harg7 arg8 harg8 arg9 harg9 hc0 x0 x1 x2 x3 x4 x5 xs0 = stepO xs0 := by
  funext y
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xs0)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg9.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldM_1, ldD_1, ldT_10, ldT_11, ldM_2, ldD_2, ldT_20, ldT_21, ldM_3, ldD_3, ldT_30, ldT_31, ld_all]
  refine View.canon_apply_of_pieces (stepO xs0) [_, _, _, _] (View.PiecesOf.mem (show View.PiecesOf (stepO xs0) [_, _, _, _] from ⟨?_, ?_, ?_, ?_, trivial⟩)) y ?_
  · intro q
    change S1x1x128x128.Idx at q
    idx_vars q
    obtain rfl : q0 = 0 := Subsingleton.elim _ _
    obtain rfl : q1 = 0 := Subsingleton.elim _ _
    exact (pay8_apply _ _ _).trans (congrArg (stepO xs0) (emb_s 3 q2 q3 _).symm)
  · intro q
    change S1x1x128x128.Idx at q
    idx_vars q
    obtain rfl : q0 = 0 := Subsingleton.elim _ _
    obtain rfl : q1 = 0 := Subsingleton.elim _ _
    exact (pay8_apply _ _ _).trans (congrArg (stepO xs0) (emb_s 2 q2 q3 _).symm)
  · intro q
    change S1x1x128x128.Idx at q
    idx_vars q
    obtain rfl : q0 = 0 := Subsingleton.elim _ _
    obtain rfl : q1 = 0 := Subsingleton.elim _ _
    exact (pay8_apply _ _ _).trans (congrArg (stepO xs0) (emb_s 1 q2 q3 _).symm)
  · intro q
    change S1x1x128x128.Idx at q
    idx_vars q
    obtain rfl : q0 = 0 := Subsingleton.elim _ _
    obtain rfl : q1 = 0 := Subsingleton.elim _ _
    exact (pay8_apply _ _ _).trans (congrArg (stepO xs0) (emb_s 0 q2 q3 _).symm)
  · exact View.cover_of_tiledL (_ : List (View.Piece (Elt Ideal) S1x4x128x128 .f32)) S1x1x128x128.size (by sl_kernel_rfl) y

set_option maxHeartbeats 400000 in
theorem c_B (hc0 : ¬cond0_0 i) : sout0_B_0 c i arg1 harg1 arg2 harg2 arg3 harg3 arg4 harg4 arg5 harg5 arg6 harg6 arg7 harg7 arg8 harg8 arg9 harg9 hc0 x0 x1 x2 x3 x4 x5 xs0 = stepC x0 x1 x2 x4 x5 xs0 := by
  funext y
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 xs0)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg9.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldM_1, ldD_1, ldT_10, ldT_11, ldM_2, ldD_2, ldT_20, ldT_21, ldM_3, ldD_3, ldT_30, ldT_31, ld_all]
  refine View.canon_apply_of_pieces (stepC x0 x1 x2 x4 x5 xs0) [_, _, _, _] (View.PiecesOf.mem (show View.PiecesOf (stepC x0 x1 x2 x4 x5 xs0) [_, _, _, _] from ⟨?_, ?_, ?_, ?_, trivial⟩)) y ?_
  · intro q
    change S1x128x128.Idx at q
    idx_vars q
    obtain rfl : q0 = 0 := Subsingleton.elim _ _
    exact congrArg (stepC x0 x1 x2 x4 x5 xs0) (emb_c 3 q1 q2 _).symm
  · intro q
    change S1x128x128.Idx at q
    idx_vars q
    obtain rfl : q0 = 0 := Subsingleton.elim _ _
    exact congrArg (stepC x0 x1 x2 x4 x5 xs0) (emb_c 2 q1 q2 _).symm
  · intro q
    change S1x128x128.Idx at q
    idx_vars q
    obtain rfl : q0 = 0 := Subsingleton.elim _ _
    exact congrArg (stepC x0 x1 x2 x4 x5 xs0) (emb_c 1 q1 q2 _).symm
  · intro q
    change S1x128x128.Idx at q
    idx_vars q
    obtain rfl : q0 = 0 := Subsingleton.elim _ _
    exact congrArg (stepC x0 x1 x2 x4 x5 xs0) (emb_c 0 q1 q2 _).symm
  · exact View.cover_of_tiledL (_ : List (View.Piece (Elt Ideal) S4x128x128 .f32)) S1x128x128.size (by sl_kernel_rfl) y

end

end Cert.RetStep

end
-- ==== Proof.RetSpec.lean ====
module

public import proofs.«01_k».proof.Proof.RetHead

@[expose] public section

/-! # Retention over the whole sequence, chunk by chunk

`P` holds queries, keys, values and gates, `C` and `S` the rotation, `D` the decay between two rows of a chunk,
`T` the decays from a chunk's start and to its end, `E` the decay over a chunk. -/

set_option maxRecDepth 16384

noncomputable section

namespace Cert.RetSpec

open Cert.Kernel39Ideal Idealize.ShloMosaic Cert.RetHead

/-- Row `i` of chunk `n`. -/
def row (n : ℕ) (i : Fin 128) : Fin 2048 := ⟨(128 * n + i.val) % 2048, Nat.mod_lt _ (by decide)⟩

/-- Column `j` of head `h` of the queries (`o = 0`), keys, values or gates. -/
def col (o h : Fin 4) (j : Fin 128) : Fin 2048 := ⟨512 * o.val + 128 * h.val + j.val, by omega⟩

section
variable (P : Vec Ideal S2048x2048 .f32) (C S : Vec Ideal S2048x128 .f32) (D : Vec Ideal S4x128x128 .f32) (T : Vec Ideal S4x2x128x128 .f32)
  (E : Vec Ideal S4x8x128 .f32)

def part (o h : Fin 4) (n : ℕ) : Mat := fun i j => P (ix2 (row n i) (col o h j))
def turn (n : ℕ) (X : Vec Ideal S2048x128 .f32) : Mat := fun i d => X (ix2 (row n i) d)
def qry (h : Fin 4) (n : ℕ) : Mat := rot (part P 0 h n) (turn n C) (turn n S)
def keyG (h : Fin 4) (n : ℕ) : Mat := key (part P 1 h n) (turn n C) (turn n S)

/-- The state of head `h` before chunk `n`. -/
def stG : ℕ → Fin 4 → Mat
  | 0, _ => fun _ _ => 0
  | n + 1, h => carry (keyG P C S h n) (part P 2 h n) (fun i d => T (ix4 h 0 i d)) (stG n h) (fun j => E (ix3 h 0 j))

/-- Head `h`'s result on chunk `n`. -/
def yG (n : ℕ) (h : Fin 4) : Mat :=
  res (mix (qry P C S h n) (keyG P C S h n) (part P 2 h n) (fun i l => D (ix3 h i l)) (fun i d => T (ix4 h 1 i d)) (stG P C S T E n h)) (part P 3 h n)

/-- The result, and the states. -/
def Y : Vec Ideal S2048x512 .bf16 := fun y => yG P C S D T E ((y 0).val / 128) ⟨(y 1).val / 128, by
  have h1 : (y 1).val < 512 := (y 1).isLt
  omega⟩ ⟨(y 0).val % 128, Nat.mod_lt _ (by decide)⟩ ⟨(y 1).val % 128, Nat.mod_lt _ (by decide)⟩
def O : Vec Ideal S16x4x128x128 .f32 := fun y => stG P C S T E (y 0).val (y 1) (y 2) (y 3)

theorem Y_at (n : Fin 16) (h : Fin 4) (i j : Fin 128) :
    Y P C S D T E (ix2 ⟨128 * n.val + i.val, by omega⟩ ⟨128 * h.val + j.val, by omega⟩) = yG P C S D T E n.val h i j := by
  unfold Y
  have e0 : (128 * n.val + i.val) / 128 = n.val := by omega
  have e1 : (⟨(128 * h.val + j.val) / 128, by omega⟩ : Fin 4) = h := Fin.ext (by dsimp only; omega)
  have e2 : (⟨(128 * n.val + i.val) % 128, Nat.mod_lt _ (by decide)⟩ : Fin 128) = i := Fin.ext (by dsimp only; omega)
  have e3 : (⟨(128 * h.val + j.val) % 128, Nat.mod_lt _ (by decide)⟩ : Fin 128) = j := Fin.ext (by dsimp only; omega)
  show yG P C S D T E ((128 * n.val + i.val) / 128) ⟨(128 * h.val + j.val) / 128, _⟩ ⟨(128 * n.val + i.val) % 128, _⟩ ⟨(128 * h.val + j.val) % 128, _⟩ = _
  rw [e0, e1, e2, e3]

end

end Cert.RetSpec

end
-- ==== Proof.RetRun.lean ====
module

public import proofs.«01_k».proof.Proof.RetStep
public import proofs.«01_k».proof.Proof.RetSpec
public import Idealize.ShloMosaic.Lib.Pipeline.ValueKit

@[expose] public section

/-! # Retention: what the whole run of the kernel leaves in its two arrays -/

set_option maxRecDepth 16384

noncomputable section

namespace Cert.RetRun

open Cert.Kernel39Ideal Cert.Kernel39Ideal.Gen Idealize.ShloMosaic Idealize.ShloMosaic.Tactic Cert.RetHead Cert.RetStep Cert.RetSpec

section
variable (m : (ℓ : Loc nD τ sig) → Buf (Elt Ideal) ℓ) (c : Dev nD)

theorem t_lt (t : Fin cfg0.N) : t.val < 16 := t.isLt

theorem index0 : ∀ t : Fin cfg0.N, (cfg0.win 0).index t 0 = t.val ∧ (cfg0.win 0).index t 1 = 0 := by decide +kernel
theorem index1 : ∀ t : Fin cfg0.N, (cfg0.win 1).index t 0 = t.val ∧ (cfg0.win 1).index t 1 = 0 := by decide +kernel
theorem index2 : ∀ t : Fin cfg0.N, (cfg0.win 2).index t 0 = t.val ∧ (cfg0.win 2).index t 1 = 0 := by decide +kernel
theorem index3 : ∀ t : Fin cfg0.N, (cfg0.win 3).index t 0 = 0 ∧ (cfg0.win 3).index t 1 = 0 ∧ (cfg0.win 3).index t 2 = 0 := by decide +kernel
theorem index4 : ∀ t : Fin cfg0.N, (cfg0.win 4).index t 0 = 0 ∧ (cfg0.win 4).index t 1 = 0 ∧ (cfg0.win 4).index t 2 = 0 ∧ (cfg0.win 4).index t 3 = 0 := by decide +kernel
theorem index5 : ∀ t : Fin cfg0.N, (cfg0.win 5).index t 0 = 0 ∧ (cfg0.win 5).index t 1 = 0 ∧ (cfg0.win 5).index t 2 = 0 := by decide +kernel
theorem index6 : ∀ t : Fin cfg0.N, (cfg0.win 6).index t 0 = t.val ∧ (cfg0.win 6).index t 1 = 0 := by decide +kernel
theorem index7 : ∀ t : Fin cfg0.N, (cfg0.win 7).index t 0 = t.val ∧ (cfg0.win 7).index t 1 = 0 ∧ (cfg0.win 7).index t 2 = 0 ∧ (cfg0.win 7).index t 3 = 0 := by decide +kernel

theorem row_eq (t : Fin cfg0.N) (i : Fin 128) : row t.val i = ⟨128 * t.val + i.val, by have := t_lt t; omega⟩ :=
  Fin.ext (Nat.mod_eq_of_lt (by have := t_lt t; omega))

theorem iblk0_eq (t : Fin cfg0.N) (i : Fin 128) (k : Fin 2048) : iblk m c 0 t (ix2 i k) = V m c main_arg0 (ix2 (row t.val i) k) := by
  obtain ⟨e0, e1⟩ := index0 t
  rw [row_eq]
  blk_ext [iblk, e0, e1]

theorem iblk1_eq (t : Fin cfg0.N) (i : Fin 128) (d : Fin 128) : iblk m c 1 t (ix2 i d) = V m c main_v15 (ix2 (row t.val i) d) := by
  obtain ⟨e0, e1⟩ := index1 t
  rw [row_eq]
  blk_ext [iblk, e0, e1]

theorem iblk2_eq (t : Fin cfg0.N) (i : Fin 128) (d : Fin 128) : iblk m c 2 t (ix2 i d) = V m c main_v17 (ix2 (row t.val i) d) := by
  obtain ⟨e0, e1⟩ := index2 t
  rw [row_eq]
  blk_ext [iblk, e0, e1]

theorem iblk3_eq (t : Fin cfg0.N) (h : Fin 4) (i l : Fin 128) : iblk m c 3 t (ix3 h i l) = V m c main_v41 (ix3 h i l) := by
  obtain ⟨e0, e1, e2⟩ := index3 t
  blk_ext [iblk, e0, e1, e2]

theorem iblk4_eq (t : Fin cfg0.N) (h : Fin 4) (e : Fin 2) (i d : Fin 128) : iblk m c 4 t (ix4 h e i d) = V m c main_v62 (ix4 h e i d) := by
  obtain ⟨e0, e1, e2, e3⟩ := index4 t
  blk_ext [iblk, e0, e1, e2, e3]

theorem iblk5_eq (t : Fin cfg0.N) (h : Fin 4) (r : Fin 8) (d : Fin 128) : iblk m c 5 t (ix3 h r d) = V m c main_v67 (ix3 h r d) := by
  obtain ⟨e0, e1, e2⟩ := index5 t
  blk_ext [iblk, e0, e1, e2]

/-- The states before step `n`. -/
abbrev stM (n : ℕ) (h : Fin 4) : Mat := stG (V m c main_arg0) (V m c main_v15) (V m c main_v17) (V m c main_v62) (V m c main_v67) n h
def before (n : ℕ) : Vec Ideal S4x128x128 .f32 := fun y => stM m c n (y 0) (y 1) (y 2)

theorem hS_eq (t : Fin cfg0.N) (h : Fin 4) (d j : Fin 128) :
    hS (iblk m c 0 t) (iblk m c 1 t) (iblk m c 2 t) (iblk m c 4 t) (iblk m c 5 t) (before m c t.val) h (ix3 0 d j) = stM m c (t.val + 1) h d j := by
  have e1 : (fun i d => sec 1 h (iblk m c 0 t) (ix2 i d)) = part (V m c main_arg0) 1 h t.val := funext fun i => funext fun d => iblk0_eq m c t i _
  have e2 : (fun i d => sec 2 h (iblk m c 0 t) (ix2 i d)) = part (V m c main_arg0) 2 h t.val := funext fun i => funext fun d => iblk0_eq m c t i _
  have e3 : (fun i d => iblk m c 1 t (ix2 i d)) = turn t.val (V m c main_v15) := funext fun i => funext fun d => iblk1_eq m c t i d
  have e4 : (fun i d => iblk m c 2 t (ix2 i d)) = turn t.val (V m c main_v17) := funext fun i => funext fun d => iblk2_eq m c t i d
  have e5 : (fun i d => tab h 0 (iblk m c 4 t) (ix4 0 0 i d)) = fun i d => V m c main_v62 (ix4 h 0 i d) := funext fun i => funext fun d => iblk4_eq m c t h 0 i d
  have e6 : (fun j => dec h (iblk m c 5 t) (ix3 0 0 j)) = fun j => V m c main_v67 (ix3 h 0 j) := funext fun j => iblk5_eq m c t h 0 j
  unfold hS
  rw [headS_apply, e1, e2, e3, e4, e5, e6]
  rfl

theorem hY_eq (t : Fin cfg0.N) (h : Fin 4) (i j : Fin 128) :
    hY (iblk m c 0 t) (iblk m c 1 t) (iblk m c 2 t) (iblk m c 3 t) (iblk m c 4 t) (before m c t.val) h (ix2 i j)
      = yG (V m c main_arg0) (V m c main_v15) (V m c main_v17) (V m c main_v41) (V m c main_v62) (V m c main_v67) t.val h i j := by
  have e0 (o : Fin 4) : (fun i d => sec o h (iblk m c 0 t) (ix2 i d)) = part (V m c main_arg0) o h t.val := funext fun i => funext fun d => iblk0_eq m c t i _
  have e3 : (fun i d => iblk m c 1 t (ix2 i d)) = turn t.val (V m c main_v15) := funext fun i => funext fun d => iblk1_eq m c t i d
  have e4 : (fun i d => iblk m c 2 t (ix2 i d)) = turn t.val (V m c main_v17) := funext fun i => funext fun d => iblk2_eq m c t i d
  have e5 : (fun i d => tab h 1 (iblk m c 4 t) (ix4 0 0 i d)) = fun i d => V m c main_v62 (ix4 h 1 i d) := funext fun i => funext fun d => iblk4_eq m c t h 1 i d
  have e6 : (fun i d => mat h (iblk m c 3 t) (ix3 0 i d)) = fun i l => V m c main_v41 (ix3 h i l) := funext fun i => funext fun d => iblk3_eq m c t h i d
  unfold hY
  rw [headY_apply, e0 0, e0 1, e0 2, e0 3, e3, e4, e5, e6]
  rfl

theorem stepC_eq (t : Fin cfg0.N) :
    stepC (iblk m c 0 t) (iblk m c 1 t) (iblk m c 2 t) (iblk m c 4 t) (iblk m c 5 t) (before m c t.val) = before m c (t.val + 1) :=
  funext fun y => hS_eq m c t (y 0) (y 1) (y 2)

theorem fill_eq : k0_pay2 (F := Ideal) = before m c 0 := by
  funext y
  show _ = (0 : EReal)
  idx_vars y
  unfold k0_pay2
  pointwise

theorem outs_eq (n : ℕ) (hn : n < cfg0.N) : outsAt0 m c n hn
    = (stepY (iblk m c 0 ⟨n, hn⟩) (iblk m c 1 ⟨n, hn⟩) (iblk m c 2 ⟨n, hn⟩) (iblk m c 3 ⟨n, hn⟩) (iblk m c 4 ⟨n, hn⟩) (before m c n),
      stepO (before m c n),
      stepC (iblk m c 0 ⟨n, hn⟩) (iblk m c 1 ⟨n, hn⟩) (iblk m c 2 ⟨n, hn⟩) (iblk m c 4 ⟨n, hn⟩) (iblk m c 5 ⟨n, hn⟩) (before m c n)) := by
  induction n with
  | zero =>
    refine (outsAt0_A m c ⟨0, hn⟩ rfl).trans ?_
    rw [y_A, o_A, c_A, fill_eq m c]
  | succ n ih =>
    have h16 : n + 1 < 16 := hn
    refine (outsAt0_B m c ⟨n + 1, hn⟩ (by dsimp only; omega)).trans ?_
    rw [y_B, o_B, c_B]
    have e : (outsAt0 m c ((⟨n + 1, hn⟩ : Fin cfg0.N).val - 1) (Nat.lt_of_le_of_lt (Nat.sub_le _ _) hn)).2.2 = before m c (n + 1) := by
      have h := ih (Nat.lt_of_succ_lt hn)
      refine (congrArg (fun z => z.2.2) h).trans ?_
      exact stepC_eq m c ⟨n, Nat.lt_of_succ_lt hn⟩
    rw [e]

/-! ## The arrays -/

theorem arr6 : (dats m 0 c).arrAt 6 cfg0.N
    = Y (V m c main_arg0) (V m c main_v15) (V m c main_v17) (V m c main_v41) (V m c main_v62) (V m c main_v67) := by
  refine (dats m 0 c).arrAt_eq_of_covers 6 _ (by decide +kernel) fun t hf y => ?_
  obtain ⟨e0, e1⟩ := index6 t
  blk_simp
  rw [after0_6]
  idx_vars y
  have hy : y1.val < 512 := y1.isLt
  obtain ⟨h, j, e⟩ : ∃ (h : Fin 4) (j : Fin 128), y1 = ⟨128 * h.val + j.val, by omega⟩ :=
    ⟨⟨y1.val / 128, by omega⟩, ⟨y1.val % 128, Nat.mod_lt _ (by decide)⟩, Fin.ext (by dsimp only; omega)⟩
  rw [outs_eq m c t.val t.isLt]
  dsimp only
  rw [e, stepY_at]
  refine (hY_eq m c t h y0 j).trans ?_
  refine (Y_at _ _ _ _ _ _ ⟨t.val, t_lt t⟩ h y0 j).symm.trans ?_
  congr 1
  blk_ext [e0, e1]

theorem arr7 : (dats m 0 c).arrAt 7 cfg0.N
    = O (V m c main_arg0) (V m c main_v15) (V m c main_v17) (V m c main_v62) (V m c main_v67) := by
  refine (dats m 0 c).arrAt_eq_of_covers 7 _ (by decide +kernel) fun t hf y => ?_
  obtain ⟨e0, e1, e2, e3⟩ := index7 t
  blk_simp
  rw [after0_7]
  idx_vars y
  obtain rfl : y0 = 0 := Subsingleton.elim _ _
  rw [outs_eq m c t.val t.isLt]
  show O (V m c main_arg0) (V m c main_v15) (V m c main_v17) (V m c main_v62) (V m c main_v67) (ix4 ⟨t.val, t_lt t⟩ y1 y2 y3) = _
  congr 1
  blk_ext [e0, e1, e2, e3]

end

end Cert.RetRun

end
-- ==== Proof.RetTab.lean ====
module

public import proofs.«01_k».proof.Proof.RetSpec
public import proofs.«01_k».proof.Proof.Gen.Kernel39Ideal.Value
public import proofs.«01_k».proof.Proof.Gen.Reference39Ideal.Read
public import Idealize.ShloMosaic.Lib.Pipeline.ValueKit

@[expose] public section

/-! # Retention: the tables the host prepares for the kernel are the reference's -/

set_option maxRecDepth 16384

noncomputable section

namespace Cert.RetTab

open Cert.Kernel39Ideal Cert.Kernel39Ideal.Gen Idealize.ShloMosaic Idealize.ShloMosaic.Tactic
open Cert.Reference39Ideal.Read

section
variable (m : (ℓ : Loc nD τ sig) → Buf (Elt Ideal) ℓ) (c : Dev nD)

/-- The rotation's cosines, and its sines with their signs. -/
def cosT : Vec Ideal S2048x128 .f32 := fun y => val_main_v18 (F := Ideal) (ix2 (y 0) ⟨(y 1).val % 64, Nat.mod_lt _ (by decide)⟩)
def sinT : Vec Ideal S2048x128 .f32 := fun y =>
  if (y 1).val < 64 then -val_main_v20 (F := Ideal) (ix2 (y 0) ⟨(y 1).val % 64, Nat.mod_lt _ (by decide)⟩)
  else val_main_v20 (F := Ideal) (ix2 (y 0) ⟨(y 1).val % 64, Nat.mod_lt _ (by decide)⟩)

/-- The decays to a chunk's end and from its start, and over a whole chunk. -/
def tabT : Vec Ideal S4x2x128x128 .f32 := fun y =>
  if (y 1).val = 0 then Ideal.exp (val_main_v73 (F := Ideal) (ix1 (y 0)) * val_main_v105 (F := Ideal) (ix1 (y 2)))
  else Ideal.exp (val_main_v73 (F := Ideal) (ix1 (y 0)) * val_main_v219 (F := Ideal) (ix1 (y 2)))
def decT : Vec Ideal S4x8x128 .f32 := fun y => val_main_v117 (F := Ideal) (ix1 (y 0))

theorem cos_cat (x : Vec Ideal S2048x64 .f32) (h) (y : S2048x128.Idx) :
    concatenate S2048x128 1 [⟨S2048x64, x⟩, ⟨S2048x64, x⟩] h y = x (ix2 (y 0) ⟨(y 1).val % 64, Nat.mod_lt _ (by decide)⟩) := by
  idx_vars y
  pointwise
  rcases y1 with ⟨d, hd⟩
  by_cases h1 : d < 64
  · simp only [h1, dite_true, Nat.mod_eq_of_lt h1]
  · have e : d % 64 = d - 64 := by omega
    simp only [h1, dite_false, e]

theorem sin_cat (x : Vec Ideal S2048x64 .f32) (h) (y : S2048x128.Idx) :
    concatenate (α := Elt Ideal .f32) S2048x128 1 [⟨S2048x64, Host.negf (F := Ideal) (φ := .f32) x⟩, ⟨S2048x64, x⟩] h y
      = if (y 1).val < 64 then -x (ix2 (y 0) ⟨(y 1).val % 64, Nat.mod_lt _ (by decide)⟩) else x (ix2 (y 0) ⟨(y 1).val % 64, Nat.mod_lt _ (by decide)⟩) := by
  idx_vars y
  pointwise
  rcases y1 with ⟨d, hd⟩
  by_cases h1 : d < 64
  · simp only [h1, dite_true, if_true, Nat.mod_eq_of_lt h1]
  · have e : d % 64 = d - 64 := by omega
    simp only [h1, dite_false, if_false, e]

theorem tab_cat (g : Vec Ideal S4 .f32) (a b : Vec Ideal S128 .f32) (y : S4x2x128x128.Idx) :
    broadcastInDim S4x2x128x128 ![0, 1, 2, 3] bcast_S4x2x128x1_S4x2x128x128_0_1_2_3 (broadcastInDim S4x2x128x1 ![0, 1, 2] bcast_S4x2x128_S4x2x128x1_0_1_2
      (concatenate (α := Elt Ideal .f32) S4x2x128 1 [
        ⟨S4x1x128, broadcastInDim S4x1x128 ![0, 2] bcast_S4x128_S4x1x128_0_2 (Host.exp (F := Ideal) (φ := .f32) (mulf (broadcastInDim S4x128 ![0, 1] bcast_S4x1_S4x128_0_1 (broadcastInDim S4x1 ![0] bcast_S4_S4x1_0 g))
          (broadcastInDim S4x128 ![0, 1] bcast_S1x128_S4x128_0_1 (broadcastInDim S1x128 ![1] bcast_S128_S1x128_1 a))))⟩,
        ⟨S4x1x128, broadcastInDim S4x1x128 ![0, 2] bcast_S4x128_S4x1x128_0_2 (Host.exp (F := Ideal) (φ := .f32) (mulf (broadcastInDim S4x128 ![0, 1] bcast_S4x1_S4x128_0_1 (broadcastInDim S4x1 ![0] bcast_S4_S4x1_0 g))
          (broadcastInDim S4x128 ![0, 1] bcast_S1x128_S4x128_0_1 (broadcastInDim S1x128 ![1] bcast_S128_S1x128_1 b))))⟩]
        concatenates_S4x1x128_S4x1x128_S4x2x128_d1)) y
      = if (y 1).val = 0 then Ideal.exp (g (ix1 (y 0)) * a (ix1 (y 2))) else Ideal.exp (g (ix1 (y 0)) * b (ix1 (y 2))) := by
  idx_vars y
  pointwise
  by_cases h1 : y1.val = 0 <;> simp [h1]

theorem dec_cat (g : Vec Ideal S4 .f32) (y : S4x8x128.Idx) :
    broadcastInDim S4x8x128 ![0, 1, 2] bcast_S4x1x1_S4x8x128_0_1_2 (broadcastInDim S4x1x1 ![0] bcast_S4_S4x1x1_0 g) y = g (ix1 (y 0)) := by
  idx_vars y
  pointwise

theorem v15_eq : V m c main_v15 = cosT := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  exact funext (cos_cat (val_main_v18 (F := Ideal)) _)

theorem v17_eq : V m c main_v17 = sinT := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  exact funext (sin_cat (val_main_v20 (F := Ideal)) _)

theorem v41_eq : V m c main_v41 = val_main_v97 (F := Ideal) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  rfl

theorem v62_eq : V m c main_v62 = tabT := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  exact funext (tab_cat (val_main_v73 (F := Ideal)) (val_main_v105 (F := Ideal)) (val_main_v219 (F := Ideal)))

theorem v67_eq : V m c main_v67 = decT := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  exact funext (dec_cat (val_main_v117 (F := Ideal)))

end

end Cert.RetTab

end
-- ==== Proof.RetRef.lean ====
module

public import proofs.«01_k».proof.Proof.RetTab
public import Idealize.ShloMosaic.Lib.Pipeline.ValueKit

@[expose] public section

/-! # Retention: the reference, head by head and chunk by chunk -/

set_option maxRecDepth 16384

noncomputable section

namespace Cert.RetRef

open Cert.Reference39Ideal Idealize.ShloMosaic Idealize.ShloMosaic.Tactic
open Cert.Reference39Ideal.Read Cert.RetHead Cert.RetSpec Cert.RetTab

section
variable (x : Vec Ideal S2048x2048 .f32)

theorem row_eq (n : Fin 16) (i : Fin 128) (hb : n.val * 128 + i.val < 2048) : (⟨n.val * 128 + i.val, hb⟩ : Fin 2048) = row n.val i := by
  apply Fin.ext
  show n.val * 128 + i.val = (128 * n.val + i.val) % 2048
  omega

theorem v5_at (r : Fin 2048) (h : Fin 4) (d : Fin 128) : val_main_v5 (F := Ideal) x (ix3 r h d) = x (ix2 r (col 0 h d)) := by
  unfold val_main_v5 val_main_v0
  pointwise
  refine congrArg x (congrArg (ix2 r) (Fin.ext ?_))
  show h.val * 128 + d.val = 512 * 0 + 128 * h.val + d.val
  omega

theorem v35_at (r : Fin 2048) (h : Fin 4) (d : Fin 128) : val_main_v35 (F := Ideal) x (ix3 r h d) = x (ix2 r (col 1 h d)) := by
  unfold val_main_v35 val_main_v1
  pointwise
  refine congrArg x (congrArg (ix2 r) (Fin.ext ?_))
  show 512 + (h.val * 128 + d.val) = 512 * 1 + 128 * h.val + d.val
  omega

theorem v65_at (r : Fin 2048) (h : Fin 4) (d : Fin 128) : val_main_v65 (F := Ideal) x (ix3 r h d) = x (ix2 r (col 2 h d)) := by
  unfold val_main_v65 val_main_v2
  pointwise
  refine congrArg x (congrArg (ix2 r) (Fin.ext ?_))
  show 1024 + (h.val * 128 + d.val) = 512 * 2 + 128 * h.val + d.val
  omega

theorem v48_eq : val_main_v48 (F := Ideal) = val_main_v18 := rfl
theorem v50_eq : val_main_v50 (F := Ideal) = val_main_v20 := rfl

theorem v34_at (r : Fin 2048) (h : Fin 4) (d : Fin 128) : val_main_v34 (F := Ideal) x (ix3 r h d)
    = x (ix2 r (col 0 h d)) * cosT (ix2 r d) + x (ix2 r (col 0 h (swap d))) * sinT (ix2 r d) := by
  rw [← v5_at x r h d, ← v5_at x r h (swap d)]
  unfold val_main_v34 val_main_v33 val_main_v32 val_main_v31 val_main_v30 val_main_v29 val_main_v28 val_main_v27 val_main_v26 val_main_v25 val_main_v24 val_main_v23 val_main_v22 val_main_v21 val_main_v19 cosT sinT
  skip
  generalize val_main_v5 (F := Ideal) x = z
  generalize val_main_v18 (F := Ideal) = c
  generalize val_main_v20 (F := Ideal) = s
  pointwise
  rcases d with ⟨d, hd⟩
  by_cases h1 : d < 64
  · have e : swap ⟨d, hd⟩ = ⟨64 + d, by omega⟩ := Fin.ext (by show (d + 128 - 64) % 128 = 64 + d; omega)
    simp only [h1, dite_true, if_true, Nat.mod_eq_of_lt h1, e, mul_neg, sub_eq_add_neg]
  · have e : swap ⟨d, hd⟩ = ⟨d - 64, by omega⟩ := Fin.ext (by show (d + 128 - 64) % 128 = d - 64; omega)
    have e2 : d % 64 = d - 64 := by omega
    have e3 (hb) : (⟨64 + (d - 64), hb⟩ : Fin 128) = ⟨d, hd⟩ := Fin.ext (by dsimp only; omega)
    simp only [h1, dite_false, if_false, e, e2, e3]
    exact add_comm _ _

theorem v64_at (r : Fin 2048) (h : Fin 4) (d : Fin 128) : val_main_v64 (F := Ideal) x (ix3 r h d)
    = x (ix2 r (col 1 h d)) * cosT (ix2 r d) + x (ix2 r (col 1 h (swap d))) * sinT (ix2 r d) := by
  rw [← v35_at x r h d, ← v35_at x r h (swap d)]
  unfold val_main_v64 val_main_v63 val_main_v62 val_main_v61 val_main_v60 val_main_v59 val_main_v58 val_main_v57 val_main_v56 val_main_v55 val_main_v54 val_main_v53 val_main_v52 val_main_v51 val_main_v49 cosT sinT
  rw [v48_eq, v50_eq]
  generalize val_main_v35 (F := Ideal) x = z
  generalize val_main_v18 (F := Ideal) = c
  generalize val_main_v20 (F := Ideal) = s
  pointwise
  rcases d with ⟨d, hd⟩
  by_cases h1 : d < 64
  · have e : swap ⟨d, hd⟩ = ⟨64 + d, by omega⟩ := Fin.ext (by show (d + 128 - 64) % 128 = 64 + d; omega)
    simp only [h1, dite_true, if_true, Nat.mod_eq_of_lt h1, e, mul_neg, sub_eq_add_neg]
  · have e : swap ⟨d, hd⟩ = ⟨d - 64, by omega⟩ := Fin.ext (by show (d + 128 - 64) % 128 = d - 64; omega)
    have e2 : d % 64 = d - 64 := by omega
    have e3 (hb) : (⟨64 + (d - 64), hb⟩ : Fin 128) = ⟨d, hd⟩ := Fin.ext (by dsimp only; omega)
    simp only [h1, dite_false, if_false, e, e2, e3]
    exact add_comm _ _

theorem v75_at (h : Fin 4) (n : Fin 16) (i d : Fin 128) : val_main_v75 (F := Ideal) x (ix4 h n i d) = val_main_v34 (F := Ideal) x (ix3 (row n.val i) h d) := by
  unfold val_main_v75 val_main_v74
  generalize val_main_v34 (F := Ideal) x = z
  pointwise
  rw [row_eq]

theorem v79_at (h : Fin 4) (n : Fin 16) (i d : Fin 128) : val_main_v79 (F := Ideal) x (ix4 h n i d) = val_main_v77 (F := Ideal) x (ix3 (row n.val i) h d) := by
  unfold val_main_v79 val_main_v78
  generalize val_main_v77 (F := Ideal) x = z
  pointwise
  rw [row_eq]

theorem v81_at (h : Fin 4) (n : Fin 16) (i d : Fin 128) : val_main_v81 (F := Ideal) x (ix4 h n i d) = val_main_v65 (F := Ideal) x (ix3 (row n.val i) h d) := by
  unfold val_main_v81 val_main_v80
  generalize val_main_v65 (F := Ideal) x = z
  pointwise
  rw [row_eq]

theorem v77_at (r : Fin 2048) (h : Fin 4) (d : Fin 128) : val_main_v77 (F := Ideal) x (ix3 r h d) = val_main_v64 (F := Ideal) x (ix3 r h d) * qscale := by
  unfold val_main_v77 val_main_v76 val_main_cst_5
  generalize val_main_v64 (F := Ideal) x = z
  pointwise

/-- The rotated queries, the rotated and scaled keys, and the values. -/
theorem q_at (h : Fin 4) (n : Fin 16) (i d : Fin 128) : val_main_v75 (F := Ideal) x (ix4 h n i d) = qry x cosT sinT h n.val i d := by
  rw [v75_at, v34_at]
  rfl
theorem k_at (h : Fin 4) (n : Fin 16) (i d : Fin 128) : val_main_v79 (F := Ideal) x (ix4 h n i d) = keyG x cosT sinT h n.val i d := by
  rw [v79_at, v77_at, v64_at]
  rfl
theorem v_at (h : Fin 4) (n : Fin 16) (i d : Fin 128) : val_main_v81 (F := Ideal) x (ix4 h n i d) = part x 2 h n.val i d := by
  rw [v81_at, v65_at]
  rfl

theorem v114_at (h : Fin 4) (n : Fin 16) (d j : Fin 128) : val_main_v114 (F := Ideal) x (ix4 n h d j)
    = ∑ l, val_main_v113 (F := Ideal) x (ix4 h n l d) * val_main_v81 (F := Ideal) x (ix4 h n l j) := by
  rw [val_main_v114_apply]
  refine Finset.sum_congr rfl fun l _ => ?_
  congr 2 <;> (funext a; fin_cases a <;> rfl)

theorem v113_at (h : Fin 4) (n : Fin 16) (i d : Fin 128) : val_main_v113 (F := Ideal) x (ix4 h n i d)
    = val_main_v79 (F := Ideal) x (ix4 h n i d) * tabT (ix4 h 0 i d) := by
  unfold val_main_v113 val_main_v112 val_main_v111 val_main_v110 val_main_v109 val_main_v108 val_main_v107 val_main_v106 val_main_v103 tabT
  generalize val_main_v79 (F := Ideal) x = z
  generalize val_main_v73 (F := Ideal) = g
  generalize val_main_v105 (F := Ideal) = w
  pointwise

theorem v227_at (h : Fin 4) (n : Fin 16) (i d : Fin 128) : val_main_v227 (F := Ideal) x (ix4 h n i d)
    = val_main_v75 (F := Ideal) x (ix4 h n i d) * tabT (ix4 h 1 i d) := by
  unfold val_main_v227 val_main_v226 val_main_v225 val_main_v224 val_main_v223 val_main_v222 val_main_v221 val_main_v220 val_main_v217 tabT
  generalize val_main_v75 (F := Ideal) x = z
  generalize val_main_v73 (F := Ideal) = g
  generalize val_main_v219 (F := Ideal) = w
  pointwise

/-- What a chunk adds to the state. -/
theorem add_at (h : Fin 4) (n : Fin 16) (d j : Fin 128) : val_main_v114 (F := Ideal) x (ix4 n h d j)
    = ∑ l, keyG x cosT sinT h n.val l d * tabT (ix4 h 0 l d) * part x 2 h n.val l j := by
  rw [v114_at]
  refine Finset.sum_congr rfl fun l _ => ?_
  rw [v113_at, k_at, v_at]

/-- The state's chain. -/
theorem st0_at (h : Fin 4) (d j : Fin 128) : val_main_v119 (F := Ideal) (ix3 h d j) = stG x cosT sinT tabT decT 0 h d j := by
  unfold val_main_v119 val_main_cst_11
  pointwise
  rfl

theorem st1_at (h : Fin 4) (d j : Fin 128) : val_main_v154 (F := Ideal) x (ix3 h d j) = stG x cosT sinT tabT decT 1 h d j := by
  have e0 := st0_at x h d j
  have e1 := add_at x h 0 d j
  have e2 : val_main_v154 (F := Ideal) x (ix3 h d j) = val_main_v119 (F := Ideal) (ix3 h d j) * val_main_v117 (F := Ideal) (ix1 h) + val_main_v114 (F := Ideal) x (ix4 0 h d j) := by
    unfold val_main_v154 val_main_v153 val_main_v152 val_main_v118 val_main_v121 val_main_v120
    generalize val_main_v119 (F := Ideal) = z
    generalize val_main_v114 (F := Ideal) x = w
    generalize val_main_v117 (F := Ideal) = g
    pointwise
  rw [e2, e0, e1]
  rfl

theorem st2_at (h : Fin 4) (d j : Fin 128) : val_main_v157 (F := Ideal) x (ix3 h d j) = stG x cosT sinT tabT decT 2 h d j := by
  have e0 := st1_at x h d j
  have e1 := add_at x h 1 d j
  have e2 : val_main_v157 (F := Ideal) x (ix3 h d j) = val_main_v154 (F := Ideal) x (ix3 h d j) * val_main_v117 (F := Ideal) (ix1 h) + val_main_v114 (F := Ideal) x (ix4 1 h d j) := by
    unfold val_main_v157 val_main_v156 val_main_v155 val_main_v118 val_main_v123 val_main_v122
    generalize val_main_v154 (F := Ideal) x = z
    generalize val_main_v114 (F := Ideal) x = w
    generalize val_main_v117 (F := Ideal) = g
    pointwise
  rw [e2, e0, e1]
  rfl

theorem st3_at (h : Fin 4) (d j : Fin 128) : val_main_v160 (F := Ideal) x (ix3 h d j) = stG x cosT sinT tabT decT 3 h d j := by
  have e0 := st2_at x h d j
  have e1 := add_at x h 2 d j
  have e2 : val_main_v160 (F := Ideal) x (ix3 h d j) = val_main_v157 (F := Ideal) x (ix3 h d j) * val_main_v117 (F := Ideal) (ix1 h) + val_main_v114 (F := Ideal) x (ix4 2 h d j) := by
    unfold val_main_v160 val_main_v159 val_main_v158 val_main_v118 val_main_v125 val_main_v124
    generalize val_main_v157 (F := Ideal) x = z
    generalize val_main_v114 (F := Ideal) x = w
    generalize val_main_v117 (F := Ideal) = g
    pointwise
  rw [e2, e0, e1]
  rfl

theorem st4_at (h : Fin 4) (d j : Fin 128) : val_main_v163 (F := Ideal) x (ix3 h d j) = stG x cosT sinT tabT decT 4 h d j := by
  have e0 := st3_at x h d j
  have e1 := add_at x h 3 d j
  have e2 : val_main_v163 (F := Ideal) x (ix3 h d j) = val_main_v160 (F := Ideal) x (ix3 h d j) * val_main_v117 (F := Ideal) (ix1 h) + val_main_v114 (F := Ideal) x (ix4 3 h d j) := by
    unfold val_main_v163 val_main_v162 val_main_v161 val_main_v118 val_main_v127 val_main_v126
    generalize val_main_v160 (F := Ideal) x = z
    generalize val_main_v114 (F := Ideal) x = w
    generalize val_main_v117 (F := Ideal) = g
    pointwise
  rw [e2, e0, e1]
  rfl

theorem st5_at (h : Fin 4) (d j : Fin 128) : val_main_v166 (F := Ideal) x (ix3 h d j) = stG x cosT sinT tabT decT 5 h d j := by
  have e0 := st4_at x h d j
  have e1 := add_at x h 4 d j
  have e2 : val_main_v166 (F := Ideal) x (ix3 h d j) = val_main_v163 (F := Ideal) x (ix3 h d j) * val_main_v117 (F := Ideal) (ix1 h) + val_main_v114 (F := Ideal) x (ix4 4 h d j) := by
    unfold val_main_v166 val_main_v165 val_main_v164 val_main_v118 val_main_v129 val_main_v128
    generalize val_main_v163 (F := Ideal) x = z
    generalize val_main_v114 (F := Ideal) x = w
    generalize val_main_v117 (F := Ideal) = g
    pointwise
  rw [e2, e0, e1]
  rfl

theorem st6_at (h : Fin 4) (d j : Fin 128) : val_main_v169 (F := Ideal) x (ix3 h d j) = stG x cosT sinT tabT decT 6 h d j := by
  have e0 := st5_at x h d j
  have e1 := add_at x h 5 d j
  have e2 : val_main_v169 (F := Ideal) x (ix3 h d j) = val_main_v166 (F := Ideal) x (ix3 h d j) * val_main_v117 (F := Ideal) (ix1 h) + val_main_v114 (F := Ideal) x (ix4 5 h d j) := by
    unfold val_main_v169 val_main_v168 val_main_v167 val_main_v118 val_main_v131 val_main_v130
    generalize val_main_v166 (F := Ideal) x = z
    generalize val_main_v114 (F := Ideal) x = w
    generalize val_main_v117 (F := Ideal) = g
    pointwise
  rw [e2, e0, e1]
  rfl

theorem st7_at (h : Fin 4) (d j : Fin 128) : val_main_v172 (F := Ideal) x (ix3 h d j) = stG x cosT sinT tabT decT 7 h d j := by
  have e0 := st6_at x h d j
  have e1 := add_at x h 6 d j
  have e2 : val_main_v172 (F := Ideal) x (ix3 h d j) = val_main_v169 (F := Ideal) x (ix3 h d j) * val_main_v117 (F := Ideal) (ix1 h) + val_main_v114 (F := Ideal) x (ix4 6 h d j) := by
    unfold val_main_v172 val_main_v171 val_main_v170 val_main_v118 val_main_v133 val_main_v132
    generalize val_main_v169 (F := Ideal) x = z
    generalize val_main_v114 (F := Ideal) x = w
    generalize val_main_v117 (F := Ideal) = g
    pointwise
  rw [e2, e0, e1]
  rfl

theorem st8_at (h : Fin 4) (d j : Fin 128) : val_main_v175 (F := Ideal) x (ix3 h d j) = stG x cosT sinT tabT decT 8 h d j := by
  have e0 := st7_at x h d j
  have e1 := add_at x h 7 d j
  have e2 : val_main_v175 (F := Ideal) x (ix3 h d j) = val_main_v172 (F := Ideal) x (ix3 h d j) * val_main_v117 (F := Ideal) (ix1 h) + val_main_v114 (F := Ideal) x (ix4 7 h d j) := by
    unfold val_main_v175 val_main_v174 val_main_v173 val_main_v118 val_main_v135 val_main_v134
    generalize val_main_v172 (F := Ideal) x = z
    generalize val_main_v114 (F := Ideal) x = w
    generalize val_main_v117 (F := Ideal) = g
    pointwise
  rw [e2, e0, e1]
  rfl

theorem st9_at (h : Fin 4) (d j : Fin 128) : val_main_v178 (F := Ideal) x (ix3 h d j) = stG x cosT sinT tabT decT 9 h d j := by
  have e0 := st8_at x h d j
  have e1 := add_at x h 8 d j
  have e2 : val_main_v178 (F := Ideal) x (ix3 h d j) = val_main_v175 (F := Ideal) x (ix3 h d j) * val_main_v117 (F := Ideal) (ix1 h) + val_main_v114 (F := Ideal) x (ix4 8 h d j) := by
    unfold val_main_v178 val_main_v177 val_main_v176 val_main_v118 val_main_v137 val_main_v136
    generalize val_main_v175 (F := Ideal) x = z
    generalize val_main_v114 (F := Ideal) x = w
    generalize val_main_v117 (F := Ideal) = g
    pointwise
  rw [e2, e0, e1]
  rfl

theorem st10_at (h : Fin 4) (d j : Fin 128) : val_main_v181 (F := Ideal) x (ix3 h d j) = stG x cosT sinT tabT decT 10 h d j := by
  have e0 := st9_at x h d j
  have e1 := add_at x h 9 d j
  have e2 : val_main_v181 (F := Ideal) x (ix3 h d j) = val_main_v178 (F := Ideal) x (ix3 h d j) * val_main_v117 (F := Ideal) (ix1 h) + val_main_v114 (F := Ideal) x (ix4 9 h d j) := by
    unfold val_main_v181 val_main_v180 val_main_v179 val_main_v118 val_main_v139 val_main_v138
    generalize val_main_v178 (F := Ideal) x = z
    generalize val_main_v114 (F := Ideal) x = w
    generalize val_main_v117 (F := Ideal) = g
    pointwise
  rw [e2, e0, e1]
  rfl

theorem st11_at (h : Fin 4) (d j : Fin 128) : val_main_v184 (F := Ideal) x (ix3 h d j) = stG x cosT sinT tabT decT 11 h d j := by
  have e0 := st10_at x h d j
  have e1 := add_at x h 10 d j
  have e2 : val_main_v184 (F := Ideal) x (ix3 h d j) = val_main_v181 (F := Ideal) x (ix3 h d j) * val_main_v117 (F := Ideal) (ix1 h) + val_main_v114 (F := Ideal) x (ix4 10 h d j) := by
    unfold val_main_v184 val_main_v183 val_main_v182 val_main_v118 val_main_v141 val_main_v140
    generalize val_main_v181 (F := Ideal) x = z
    generalize val_main_v114 (F := Ideal) x = w
    generalize val_main_v117 (F := Ideal) = g
    pointwise
  rw [e2, e0, e1]
  rfl

theorem st12_at (h : Fin 4) (d j : Fin 128) : val_main_v187 (F := Ideal) x (ix3 h d j) = stG x cosT sinT tabT decT 12 h d j := by
  have e0 := st11_at x h d j
  have e1 := add_at x h 11 d j
  have e2 : val_main_v187 (F := Ideal) x (ix3 h d j) = val_main_v184 (F := Ideal) x (ix3 h d j) * val_main_v117 (F := Ideal) (ix1 h) + val_main_v114 (F := Ideal) x (ix4 11 h d j) := by
    unfold val_main_v187 val_main_v186 val_main_v185 val_main_v118 val_main_v143 val_main_v142
    generalize val_main_v184 (F := Ideal) x = z
    generalize val_main_v114 (F := Ideal) x = w
    generalize val_main_v117 (F := Ideal) = g
    pointwise
  rw [e2, e0, e1]
  rfl

theorem st13_at (h : Fin 4) (d j : Fin 128) : val_main_v190 (F := Ideal) x (ix3 h d j) = stG x cosT sinT tabT decT 13 h d j := by
  have e0 := st12_at x h d j
  have e1 := add_at x h 12 d j
  have e2 : val_main_v190 (F := Ideal) x (ix3 h d j) = val_main_v187 (F := Ideal) x (ix3 h d j) * val_main_v117 (F := Ideal) (ix1 h) + val_main_v114 (F := Ideal) x (ix4 12 h d j) := by
    unfold val_main_v190 val_main_v189 val_main_v188 val_main_v118 val_main_v145 val_main_v144
    generalize val_main_v187 (F := Ideal) x = z
    generalize val_main_v114 (F := Ideal) x = w
    generalize val_main_v117 (F := Ideal) = g
    pointwise
  rw [e2, e0, e1]
  rfl

theorem st14_at (h : Fin 4) (d j : Fin 128) : val_main_v193 (F := Ideal) x (ix3 h d j) = stG x cosT sinT tabT decT 14 h d j := by
  have e0 := st13_at x h d j
  have e1 := add_at x h 13 d j
  have e2 : val_main_v193 (F := Ideal) x (ix3 h d j) = val_main_v190 (F := Ideal) x (ix3 h d j) * val_main_v117 (F := Ideal) (ix1 h) + val_main_v114 (F := Ideal) x (ix4 13 h d j) := by
    unfold val_main_v193 val_main_v192 val_main_v191 val_main_v118 val_main_v147 val_main_v146
    generalize val_main_v190 (F := Ideal) x = z
    generalize val_main_v114 (F := Ideal) x = w
    generalize val_main_v117 (F := Ideal) = g
    pointwise
  rw [e2, e0, e1]
  rfl

theorem st15_at (h : Fin 4) (d j : Fin 128) : val_main_v196 (F := Ideal) x (ix3 h d j) = stG x cosT sinT tabT decT 15 h d j := by
  have e0 := st14_at x h d j
  have e1 := add_at x h 14 d j
  have e2 : val_main_v196 (F := Ideal) x (ix3 h d j) = val_main_v193 (F := Ideal) x (ix3 h d j) * val_main_v117 (F := Ideal) (ix1 h) + val_main_v114 (F := Ideal) x (ix4 14 h d j) := by
    unfold val_main_v196 val_main_v195 val_main_v194 val_main_v118 val_main_v149 val_main_v148
    generalize val_main_v193 (F := Ideal) x = z
    generalize val_main_v114 (F := Ideal) x = w
    generalize val_main_v117 (F := Ideal) = g
    pointwise
  rw [e2, e0, e1]
  rfl

end
end Cert.RetRef

end
-- ==== Proof.RetOut.lean ====
module

public import proofs.«01_k».proof.Proof.RetRef
public import Idealize.ShloMosaic.Lib.Pipeline.ValueKit

@[expose] public section

/-! # Retention: the reference's two results -/

set_option maxRecDepth 16384

noncomputable section

namespace Cert.RetOut

open Cert.Reference39Ideal Idealize.ShloMosaic Idealize.ShloMosaic.Tactic
open Cert.Reference39Ideal.Read Cert.RetHead Cert.RetSpec Cert.RetTab Cert.RetRef

section
variable (x : Vec Ideal S2048x2048 .f32)

theorem s_at (n : Fin 16) (h : Fin 4) (d j : Fin 128) : val_main_v216 (F := Ideal) x (ix4 n h d j) = stG x cosT sinT tabT decT n.val h d j := by
  have e : val_main_v216 (F := Ideal) x (ix4 n h d j) = (![val_main_v200 (F := Ideal), val_main_v201 (F := Ideal) x, val_main_v202 (F := Ideal) x, val_main_v203 (F := Ideal) x, val_main_v204 (F := Ideal) x, val_main_v205 (F := Ideal) x, val_main_v206 (F := Ideal) x, val_main_v207 (F := Ideal) x, val_main_v208 (F := Ideal) x, val_main_v209 (F := Ideal) x, val_main_v210 (F := Ideal) x, val_main_v211 (F := Ideal) x, val_main_v212 (F := Ideal) x, val_main_v213 (F := Ideal) x, val_main_v214 (F := Ideal) x, val_main_v215 (F := Ideal) x] : Fin 16 → Vec Ideal S1x4x128x128 .f32) n (ix4 0 h d j) := by
    unfold val_main_v216
    generalize val_main_v200 (F := Ideal) = z0
    generalize val_main_v201 (F := Ideal) x = z1
    generalize val_main_v202 (F := Ideal) x = z2
    generalize val_main_v203 (F := Ideal) x = z3
    generalize val_main_v204 (F := Ideal) x = z4
    generalize val_main_v205 (F := Ideal) x = z5
    generalize val_main_v206 (F := Ideal) x = z6
    generalize val_main_v207 (F := Ideal) x = z7
    generalize val_main_v208 (F := Ideal) x = z8
    generalize val_main_v209 (F := Ideal) x = z9
    generalize val_main_v210 (F := Ideal) x = z10
    generalize val_main_v211 (F := Ideal) x = z11
    generalize val_main_v212 (F := Ideal) x = z12
    generalize val_main_v213 (F := Ideal) x = z13
    generalize val_main_v214 (F := Ideal) x = z14
    generalize val_main_v215 (F := Ideal) x = z15
    fin_cases n <;> pointwise
  rw [e]
  fin_cases n
  · exact (show val_main_v200 (F := Ideal) (ix4 0 h d j) = val_main_v119 (F := Ideal) (ix3 h d j) by
      unfold val_main_v200
      generalize val_main_v119 (F := Ideal) = z
      pointwise).trans (st0_at x h d j)
  · exact (show val_main_v201 (F := Ideal) x (ix4 0 h d j) = val_main_v154 (F := Ideal) x (ix3 h d j) by
      unfold val_main_v201
      generalize val_main_v154 (F := Ideal) x = z
      pointwise).trans (st1_at x h d j)
  · exact (show val_main_v202 (F := Ideal) x (ix4 0 h d j) = val_main_v157 (F := Ideal) x (ix3 h d j) by
      unfold val_main_v202
      generalize val_main_v157 (F := Ideal) x = z
      pointwise).trans (st2_at x h d j)
  · exact (show val_main_v203 (F := Ideal) x (ix4 0 h d j) = val_main_v160 (F := Ideal) x (ix3 h d j) by
      unfold val_main_v203
      generalize val_main_v160 (F := Ideal) x = z
      pointwise).trans (st3_at x h d j)
  · exact (show val_main_v204 (F := Ideal) x (ix4 0 h d j) = val_main_v163 (F := Ideal) x (ix3 h d j) by
      unfold val_main_v204
      generalize val_main_v163 (F := Ideal) x = z
      pointwise).trans (st4_at x h d j)
  · exact (show val_main_v205 (F := Ideal) x (ix4 0 h d j) = val_main_v166 (F := Ideal) x (ix3 h d j) by
      unfold val_main_v205
      generalize val_main_v166 (F := Ideal) x = z
      pointwise).trans (st5_at x h d j)
  · exact (show val_main_v206 (F := Ideal) x (ix4 0 h d j) = val_main_v169 (F := Ideal) x (ix3 h d j) by
      unfold val_main_v206
      generalize val_main_v169 (F := Ideal) x = z
      pointwise).trans (st6_at x h d j)
  · exact (show val_main_v207 (F := Ideal) x (ix4 0 h d j) = val_main_v172 (F := Ideal) x (ix3 h d j) by
      unfold val_main_v207
      generalize val_main_v172 (F := Ideal) x = z
      pointwise).trans (st7_at x h d j)
  · exact (show val_main_v208 (F := Ideal) x (ix4 0 h d j) = val_main_v175 (F := Ideal) x (ix3 h d j) by
      unfold val_main_v208
      generalize val_main_v175 (F := Ideal) x = z
      pointwise).trans (st8_at x h d j)
  · exact (show val_main_v209 (F := Ideal) x (ix4 0 h d j) = val_main_v178 (F := Ideal) x (ix3 h d j) by
      unfold val_main_v209
      generalize val_main_v178 (F := Ideal) x = z
      pointwise).trans (st9_at x h d j)
  · exact (show val_main_v210 (F := Ideal) x (ix4 0 h d j) = val_main_v181 (F := Ideal) x (ix3 h d j) by
      unfold val_main_v210
      generalize val_main_v181 (F := Ideal) x = z
      pointwise).trans (st10_at x h d j)
  · exact (show val_main_v211 (F := Ideal) x (ix4 0 h d j) = val_main_v184 (F := Ideal) x (ix3 h d j) by
      unfold val_main_v211
      generalize val_main_v184 (F := Ideal) x = z
      pointwise).trans (st11_at x h d j)
  · exact (show val_main_v212 (F := Ideal) x (ix4 0 h d j) = val_main_v187 (F := Ideal) x (ix3 h d j) by
      unfold val_main_v212
      generalize val_main_v187 (F := Ideal) x = z
      pointwise).trans (st12_at x h d j)
  · exact (show val_main_v213 (F := Ideal) x (ix4 0 h d j) = val_main_v190 (F := Ideal) x (ix3 h d j) by
      unfold val_main_v213
      generalize val_main_v190 (F := Ideal) x = z
      pointwise).trans (st13_at x h d j)
  · exact (show val_main_v214 (F := Ideal) x (ix4 0 h d j) = val_main_v193 (F := Ideal) x (ix3 h d j) by
      unfold val_main_v214
      generalize val_main_v193 (F := Ideal) x = z
      pointwise).trans (st14_at x h d j)
  · exact (show val_main_v215 (F := Ideal) x (ix4 0 h d j) = val_main_v196 (F := Ideal) x (ix3 h d j) by
      unfold val_main_v215
      generalize val_main_v196 (F := Ideal) x = z
      pointwise).trans (st15_at x h d j)

theorem ref_s : val_main_v216 (F := Ideal) x = O x cosT sinT tabT decT := by
  funext y
  idx_vars y
  exact s_at x y0 y1 y2 y3

theorem score_at (h : Fin 4) (n : Fin 16) (i l : Fin 128) : val_main_v101 (F := Ideal) x (ix4 h n i l)
    = score (qry x cosT sinT h n.val) (keyG x cosT sinT h n.val) (fun i l => val_main_v97 (F := Ideal) (ix3 h i l)) i l := by
  have e1 : val_main_v101 (F := Ideal) x (ix4 h n i l) = val_main_v98 (F := Ideal) x (ix4 h n i l) * val_main_v97 (F := Ideal) (ix3 h i l) := by
    unfold val_main_v101 val_main_v100 val_main_v99
    generalize val_main_v98 (F := Ideal) x = z
    generalize val_main_v97 (F := Ideal) = w
    pointwise
  have e2 : val_main_v98 (F := Ideal) x (ix4 h n i l) = ∑ d, val_main_v75 (F := Ideal) x (ix4 h n i d) * val_main_v79 (F := Ideal) x (ix4 h n l d) := by
    rw [val_main_v98_apply]
    refine Finset.sum_congr rfl fun d _ => ?_
    congr 2 <;> (funext a; fin_cases a <;> rfl)
  rw [e1, e2]
  unfold score
  refine congrArg (· * _) (Finset.sum_congr rfl fun d _ => ?_)
  rw [q_at, k_at]

/-- The head's result before its norm. -/
def mixG (h : Fin 4) (n : ℕ) : Mat :=
  mix (qry x cosT sinT h n) (keyG x cosT sinT h n) (part x 2 h n) (fun i l => val_main_v97 (F := Ideal) (ix3 h i l)) (fun i d => tabT (ix4 h 1 i d)) (stG x cosT sinT tabT decT n h)

theorem mix_at (h : Fin 4) (n : Fin 16) (i j : Fin 128) : val_main_v229 (F := Ideal) x (ix4 h n i j) = mixG x h n.val i j := by
  have e1 : val_main_v102 (F := Ideal) x (ix4 h n i j) = ∑ l, val_main_v101 (F := Ideal) x (ix4 h n i l) * val_main_v81 (F := Ideal) x (ix4 h n l j) := by
    rw [val_main_v102_apply]
    refine Finset.sum_congr rfl fun d _ => ?_
    congr 2 <;> (funext a; fin_cases a <;> rfl)
  have e2 : val_main_v228 (F := Ideal) x (ix4 h n i j) = ∑ d, val_main_v227 (F := Ideal) x (ix4 h n i d) * val_main_v216 (F := Ideal) x (ix4 n h d j) := by
    rw [val_main_v228_apply]
    refine Finset.sum_congr rfl fun d _ => ?_
    congr 2 <;> (funext a; fin_cases a <;> rfl)
  have e3 : val_main_v229 (F := Ideal) x (ix4 h n i j) = val_main_v102 (F := Ideal) x (ix4 h n i j) + val_main_v228 (F := Ideal) x (ix4 h n i j) := by
    unfold val_main_v229
    pointwise
  rw [e3, e1, e2]
  unfold mixG mix
  refine congrArg₂ (· + ·) (Finset.sum_congr rfl fun l _ => ?_) (Finset.sum_congr rfl fun d _ => ?_)
  · rw [score_at, v_at]
  · rw [v227_at, q_at, s_at]

theorem v231_at (n : Fin 16) (h : Fin 4) (i j : Fin 128) :
    val_main_v231 (F := Ideal) x (ix3 ⟨128 * n.val + i.val, by omega⟩ h j) = val_main_v229 (F := Ideal) x (ix4 h n i j) := by
  unfold val_main_v231 val_main_v230
  generalize val_main_v229 (F := Ideal) x = z
  pointwise

theorem v241_at (r : Fin 2048) (h : Fin 4) (j : Fin 128) : val_main_v241 (F := Ideal) x (ix3 r h j)
    = val_main_v231 (F := Ideal) x (ix3 r h j) * Ideal.rsqrt (Ideal.div (∑ k, val_main_v231 (F := Ideal) x (ix3 r h k) * val_main_v231 (F := Ideal) x (ix3 r h k)) len + eps) := by
  unfold val_main_v241 val_main_v240 val_main_v239 val_main_v238 val_main_v237 val_main_v236 val_main_v235 val_main_v234 val_main_v233 val_main_v232
    val_main_cst_13 val_main_cst_14 val_main_cst_15
  generalize val_main_v231 (F := Ideal) x = z
  pointwise

theorem v245_at (r : Fin 2048) (h : Fin 4) (j : Fin 128) : val_main_v245 (F := Ideal) x (ix2 r ⟨128 * h.val + j.val, by omega⟩)
    = val_main_v241 (F := Ideal) x (ix3 r h j) * gate (x (ix2 r (col 3 h j))) := by
  unfold val_main_v245 val_main_v244 val_main_v243 val_main_v242 val_main_call2_v5 val_main_call2_v4 val_main_call2_cst_0 val_main_call2_v3 val_main_call2_v2
    val_main_call2_cst val_main_call2_v1 val_main_call2_v0 val_main_v3 gate
  generalize val_main_v241 (F := Ideal) x = z
  pointwise
  have e (hb) : (⟨1536 + (128 * h.val + j.val), hb⟩ : Fin 2048) = col 3 h j := Fin.ext (by
    show 1536 + (128 * h.val + j.val) = 512 * 3 + 128 * h.val + j.val
    omega)
  simp only [e]

theorem y_at (n : Fin 16) (h : Fin 4) (i j : Fin 128) :
    val_main_v245 (F := Ideal) x (ix2 ⟨128 * n.val + i.val, by omega⟩ ⟨128 * h.val + j.val, by omega⟩)
      = yG x cosT sinT (val_main_v97 (F := Ideal)) tabT decT n.val h i j := by
  have e (hb) : (⟨128 * n.val + i.val, hb⟩ : Fin 2048) = row n.val i := Fin.ext (by
    show 128 * n.val + i.val = (128 * n.val + i.val) % 2048
    omega)
  have e' (k : Fin 128) : val_main_v231 (F := Ideal) x (ix3 (row n.val i) h k) = mixG x h n.val i k := by
    rw [← e (by omega), v231_at, mix_at]
  rw [v245_at, v241_at]
  simp only [e, e']
  rfl

theorem ref_y : val_main_v245 (F := Ideal) x = Y x cosT sinT (val_main_v97 (F := Ideal)) tabT decT := by
  funext y
  idx_vars y
  have e0 : y0 = ⟨128 * (⟨y0.val / 128, by omega⟩ : Fin 16).val + (⟨y0.val % 128, by omega⟩ : Fin 128).val, by dsimp only; omega⟩ := Fin.ext (by dsimp only; omega)
  have e1 : y1 = ⟨128 * (⟨y1.val / 128, by omega⟩ : Fin 4).val + (⟨y1.val % 128, by omega⟩ : Fin 128).val, by dsimp only; omega⟩ := Fin.ext (by dsimp only; omega)
  rw [e0, e1, y_at]
  exact (Y_at x cosT sinT (val_main_v97 (F := Ideal)) tabT decT _ _ _ _).symm

end
end Cert.RetOut

end
-- ==== Proof.Retention.lean ====
module

public import proofs.«01_k».proof.Proof.RetRun
public import proofs.«01_k».proof.Proof.RetOut
public import proofs.«01_k».proof.Defs
public import proofs.«01_k».proof.Proof.Gen.Reference39Ideal.Run

@[expose] public section

/-! # Retention: the call's claims -/

set_option maxRecDepth 16384

noncomputable section

namespace Cert.Retention

open Cert.Kernel39Ideal Cert.Kernel39Ideal.Gen Idealize.ShloMosaic Idealize.SL.Sem
open Cert.RetSpec Cert.RetRun Cert.RetTab Cert.RetOut

theorem frame_reference : Cert.quiescent_Reference39Ideal := fun m g _ =>
  (θ_run (Cert.Reference39Ideal.defs (F := Ideal)) _ _).mono
    (fun r h => ⟨fun c => (h c).2.2, sem_eq_zero_of_no_sems (by decide) r.2⟩)
    (Cert.Reference39Ideal.Value.run (F := Ideal) m g)

theorem algebraic : Cert.algebraic_Kernel39Ideal_Reference39Ideal := by
  intro m g m' g' _ hargs
  refine ⟨fun c => Y (V m c main_arg0) cosT sinT (Cert.Reference39Ideal.Read.val_main_v97 (F := Ideal)) tabT decT,
    fun c => O (V m c main_arg0) cosT sinT tabT decT, ?_, ?_⟩
  · refine (θ_run _ _ _).mono (fun r h c => ?_) (Cert.Kernel39Ideal.Value.run_blocks m g)
    obtain ⟨h0, h1, hk⟩ := h c
    have e0 := arr6 m c
    have e1 := arr7 m c
    rw [v15_eq, v17_eq, v41_eq, v62_eq, v67_eq] at e0
    rw [v15_eq, v17_eq, v62_eq, v67_eq] at e1
    exact ⟨h0.trans e0, h1.trans e1, hk⟩
  · refine (θ_run _ _ _).mono (fun r h c => ?_) (Cert.Reference39Ideal.Value.run m' g')
    obtain ⟨h0, h1, hk⟩ := h c
    have e : StableHlo.launchContents m' c (Proc.devRef .tc Cert.Reference39Ideal.main_arg0) = V m c main_arg0 := hargs c
    have e0 := congrArg (Cert.Reference39Ideal.Read.val_main_v245 (F := Ideal)) e
    have e1 := congrArg (Cert.Reference39Ideal.Read.val_main_v216 (F := Ideal)) e
    exact ⟨(h0.trans (Cert.Reference39Ideal.Read.val_main_v245_eq _)).trans (e0.trans (ref_y _)),
      (h1.trans (Cert.Reference39Ideal.Read.val_main_v216_eq _)).trans (e1.trans (ref_s _)), hk⟩

end Cert.Retention

end
-- ==== Proof.GradHead.lean ====
module

public import proofs.«01_k».proof.Proof.RetHead
public import proofs.«01_k».proof.Proof.Gen.Kernel40Ideal.Skeleton
public import Idealize.ShloMosaic.Lib.IdealHost
public import Idealize.ShloMosaic.Lib.Pipeline.ValueKit

@[expose] public section

/-! # Retention's gradient: one head on one chunk of 128 rows

`o` is the head's result before its norm, `dy` the cotangent of the gated result, `e` the cotangent of `o`, `ds` that of
the state after the chunk. -/

set_option maxRecDepth 16384

noncomputable section

namespace Cert.GradHead

open Idealize.ShloMosaic Cert.RetHead

/-- The normed result. -/
def hat (o : Mat) : Mat := fun i j => o i j * inv o i
def sig (g : EReal) : EReal := Ideal.div one (one + Ideal.exp (-g))

/-- The gate's gradient, and the cotangents of the normed result and of the result before the norm. -/
def dGate (o g dy : Mat) : Mat := fun i j => dy i j * hat o i j * sig (g i j) * (one + g i j * (one - sig (g i j)))
def dNorm (g dy : Mat) : Mat := fun i j => dy i j * (g i j * sig (g i j))
def dOut (o g dy : Mat) : Mat := fun i j => inv o i * (dNorm g dy i j - hat o i j * Ideal.div (∑ k, dNorm g dy i k * hat o i k) len)

/-- The cotangents of the products, and the gradients of values, rotated queries and rotated keys. -/
def dScore (e v dm : Mat) : Mat := fun i l => (∑ j, e i j * v l j) * dm i l
def dVal (sc e k kt ds : Mat) : Mat := fun l j => ∑ i, sc i l * e i j + ∑ d, k l d * kt l d * ds d j
def dQry (p k e st qd : Mat) : Mat := fun i d => ∑ l, p i l * k l d + (∑ j, e i j * st d j) * qd i d
def dKey (p q v ds kt : Mat) : Mat := fun l d => (∑ i, p i l * q i d + (∑ j, v l j * ds d j) * kt l d) * qscale

/-- The rotation turned back. -/
def unrot (x c s : Mat) : Mat := fun i d => x i d * c i d + x i (swap d) * s i (swap d)

/-- The cotangent of the state before the chunk. -/
def carryBack (ds : Mat) (cd : Fin 128 → EReal) (q qd e : Mat) : Mat := fun d j => ds d j * cd j + ∑ i, q i d * qd i d * e i j

section
open Cert.Kernel40Ideal Cert.Kernel40Ideal.Gen

abbrev B := Vec Ideal S128x128 .f32
abbrev B3 := Vec Ideal S1x128x128 .f32
abbrev B4 := Vec Ideal S1x1x128x128 .f32
abbrev rd (x : B) : Mat := fun i d => x (ix2 i d)
abbrev rd3 (x : B3) : Mat := fun i d => x (ix3 0 i d)
abbrev rd4 (x : B4) : Mat := fun i d => x (ix4 0 0 i d)

theorem pay6_apply (c s x : B) (i d : Fin 128) : k0_pay6 c s x (ix2 i d) = rot (rd x) (rd c) (rd s) i d := by
  unfold k0_pay6 k0_pay4 k0_pay5 rot swap
  pointwise
theorem pay7_apply (c s x : B) (i d : Fin 128) : k0_pay7 c s x (ix2 i d) = key (rd x) (rd c) (rd s) i d := by
  unfold k0_pay7 k0_pay4 k0_pay5 key rot swap
  pointwise
theorem pay8_apply (x : B4) (i d : Fin 128) : k0_pay8 x (ix2 i d) = rd4 x i d := by
  unfold k0_pay8
  pointwise
theorem pay9_apply (x : B3) (i d : Fin 128) : k0_pay9 x (ix2 i d) = rd3 x i d := by
  unfold k0_pay9
  pointwise
theorem pay10_apply (x : B4) (i d : Fin 128) : k0_pay10 x (ix2 i d) = rd4 x i d := by
  unfold k0_pay10
  pointwise
theorem pay11_apply (x : B4) (i d : Fin 128) : k0_pay11 x (ix2 i d) = rd4 x i d := by
  unfold k0_pay11
  pointwise
theorem pay12_apply (q k dm : B) (i l : Fin 128) : k0_pay12 (F := Ideal) q k dm (ix2 i l) = score (rd q) (rd k) (rd dm) i l := by
  unfold k0_pay12 score
  pointwise
theorem pay13_apply (q : B) (qd : B4) (i d : Fin 128) : k0_pay13 q qd (ix2 i d) = q (ix2 i d) * rd4 qd i d := by
  unfold k0_pay13 k0_pay11
  pointwise
theorem pay14_apply (k kt : B) (i d : Fin 128) : k0_pay14 (F := Ideal) k kt (ix2 i d) = k (ix2 i d) * kt (ix2 i d) := by
  unfold k0_pay14
  pointwise
theorem pay15_apply (v q k st dm : B) (qd : B4) (i j : Fin 128) :
    k0_pay15 v q k st dm qd (ix2 i j) = mix (rd q) (rd k) (rd v) (rd dm) (rd4 qd) (rd st) i j := by
  unfold k0_pay15 mix score
  unfold k0_pay12 k0_pay13 k0_pay11
  pointwise

section
variable (v g q k st dm : B) (qd : B4) (dy : B)

abbrev O : Mat := rd (k0_pay15 v q k st dm qd)

theorem pay16_apply (i : Fin 128) : k0_pay16 v q k st dm qd (ix2 i 0) = inv (O v q k st dm qd) i := by
  unfold k0_pay16 RetHead.inv O
  generalize k0_pay15 v q k st dm qd = o
  pointwise
theorem pay17_apply (i j : Fin 128) : k0_pay17 v q k st dm qd (ix2 i j) = hat (O v q k st dm qd) i j := by
  unfold k0_pay17 hat
  rw [← pay16_apply]
  unfold O
  generalize k0_pay15 v q k st dm qd = o
  generalize k0_pay16 v q k st dm qd = n
  pointwise
theorem pay18_apply (i j : Fin 128) : k0_pay18 g (ix2 i j) = sig (g (ix2 i j)) := by
  unfold k0_pay18 sig
  pointwise
  rw [zero_sub]
theorem pay19_apply (i j : Fin 128) : k0_pay19 v g q k st dm qd dy (ix2 i j) = dGate (O v q k st dm qd) (rd g) (rd dy) i j := by
  unfold k0_pay19 dGate
  rw [← pay17_apply, ← pay18_apply]
  generalize k0_pay17 v q k st dm qd = o
  generalize k0_pay18 g = n
  pointwise
theorem pay20_apply (i j : Fin 128) : k0_pay20 g dy (ix2 i j) = dNorm (rd g) (rd dy) i j := by
  unfold k0_pay20 dNorm
  rw [← pay18_apply]
  generalize k0_pay18 g = n
  pointwise
theorem pay21_apply (i : Fin 128) : k0_pay21 v g q k st dm qd dy (ix1 i) = ∑ j, dNorm (rd g) (rd dy) i j * hat (O v q k st dm qd) i j := by
  unfold k0_pay21
  simp only [← pay17_apply, ← pay20_apply]
  generalize k0_pay17 v q k st dm qd = o
  generalize k0_pay20 g dy = n
  pointwise

/-- The cotangent of the head's result before its norm. -/
def cot : FVec Ideal S128x128 .f32 :=
  k0_pay22 (k0_pay16 v q k st dm qd) (k0_pay17 v q k st dm qd) (k0_pay20 g dy) (k0_pay21 v g q k st dm qd dy)

theorem cot_apply (i j : Fin 128) : cot v g q k st dm qd dy (ix2 i j) = dOut (O v q k st dm qd) (rd g) (rd dy) i j := by
  unfold dOut cot
  rw [← pay16_apply, ← pay17_apply, ← pay20_apply, ← pay21_apply]
  unfold k0_pay22
  generalize k0_pay17 v q k st dm qd = o
  generalize k0_pay20 g dy = n
  generalize k0_pay16 v q k st dm qd = a
  generalize k0_pay21 v g q k st dm qd dy = b
  pointwise
end

section
variable (v q k st dm kt qd sc ke : B) (n : FVec Ideal S128x1 .f32) (a b : B) (t : FVec Ideal S128 .f32) (ds : B3)

abbrev E : Mat := rd (k0_pay22 n a b t)

theorem pay24_apply (i l : Fin 128) : k0_pay24 v dm n a b t (ix2 i l) = dScore (E n a b t) (rd v) (rd dm) i l := by
  unfold k0_pay24 dScore E
  generalize k0_pay22 n a b t = e
  pointwise
theorem pay25_apply (l j : Fin 128) : k0_pay25 sc ke n a b t ds (ix2 l j)
    = ∑ i, sc (ix2 i l) * E n a b t i j + ∑ d, ke (ix2 l d) * rd3 ds d j := by
  unfold k0_pay25 k0_pay23 E
  generalize k0_pay22 n a b t = e
  pointwise
theorem pay26_apply (i d : Fin 128) : k0_pay26 v k st dm qd n a b t (ix2 i d)
    = dQry (dScore (E n a b t) (rd v) (rd dm)) (rd k) (E n a b t) (rd st) (rd qd) i d := by
  unfold k0_pay26 dQry
  simp only [← pay24_apply]
  unfold E
  generalize k0_pay24 v dm n a b t = p
  generalize k0_pay22 n a b t = e
  pointwise
theorem pay27_apply (l d : Fin 128) : k0_pay27 v q dm kt n a b t ds (ix2 l d)
    = dKey (dScore (E n a b t) (rd v) (rd dm)) (rd q) (rd v) (rd3 ds) (rd kt) l d := by
  unfold k0_pay27 k0_pay23 dKey
  simp only [← pay24_apply]
  generalize k0_pay24 v dm n a b t = p
  pointwise
end

theorem pay30_apply (e u w : B) (d j : Fin 128) : k0_pay30 (F := Ideal) e u (k0_pay29 w) (ix3 0 d j) = u (ix2 d j) + ∑ i, w (ix2 i d) * e (ix2 i j) := by
  unfold k0_pay30 k0_pay29
  pointwise
theorem pay28_apply (ds : B3) (cd : Vec Ideal S1x8x128 .f32) (d j : Fin 128) : k0_pay28 ds cd (ix2 d j) = rd3 ds d j * cd (ix3 0 0 j) := by
  unfold k0_pay28 k0_pay23
  pointwise
theorem pay31_apply (c s x : B) (i d : Fin 128) : k0_pay31 (k0_pay4 c) (k0_pay5 s) x (ix2 i d) = unrot (rd x) (rd c) (rd s) i d := by
  unfold k0_pay31 k0_pay4 k0_pay5 unrot swap
  pointwise
theorem pay32_apply (c s x : B) (i d : Fin 128) : k0_pay32 (k0_pay4 c) (k0_pay5 s) x (ix2 i d) = unrot (rd x) (rd c) (rd s) i d := by
  unfold k0_pay32 k0_pay4 k0_pay5 unrot swap
  pointwise

/-! ## The head's results, as the kernel computes them -/

section
variable (c s q k v g : B) (st : B4) (dm : B3) (kt qd : B4) (dy : B) (ds : B3) (cd : Vec Ideal S1x8x128 .f32)

abbrev rq : FVec Ideal S128x128 .f32 := k0_pay6 c s q
abbrev rk : FVec Ideal S128x128 .f32 := k0_pay7 c s k
def headG : FVec Ideal S128x128 .bf16 := k0_pay34 (k0_pay19 v g (rq c s q) (rk c s k) (k0_pay8 st) (k0_pay9 dm) qd dy)
def headV : FVec Ideal S128x128 .bf16 :=
  k0_pay33 (k0_pay25 (k0_pay12 (rq c s q) (rk c s k) (k0_pay9 dm)) (k0_pay14 (rk c s k) (k0_pay10 kt))
    (k0_pay16 v (rq c s q) (rk c s k) (k0_pay8 st) (k0_pay9 dm) qd) (k0_pay17 v (rq c s q) (rk c s k) (k0_pay8 st) (k0_pay9 dm) qd) (k0_pay20 g dy)
    (k0_pay21 v g (rq c s q) (rk c s k) (k0_pay8 st) (k0_pay9 dm) qd dy) ds)
def headQ : FVec Ideal S128x128 .bf16 :=
  k0_pay31 (k0_pay4 c) (k0_pay5 s) (k0_pay26 v (rk c s k) (k0_pay8 st) (k0_pay9 dm) (k0_pay11 qd)
    (k0_pay16 v (rq c s q) (rk c s k) (k0_pay8 st) (k0_pay9 dm) qd) (k0_pay17 v (rq c s q) (rk c s k) (k0_pay8 st) (k0_pay9 dm) qd) (k0_pay20 g dy)
    (k0_pay21 v g (rq c s q) (rk c s k) (k0_pay8 st) (k0_pay9 dm) qd dy))
def headK : FVec Ideal S128x128 .bf16 :=
  k0_pay32 (k0_pay4 c) (k0_pay5 s) (k0_pay27 v (rq c s q) (k0_pay9 dm) (k0_pay10 kt)
    (k0_pay16 v (rq c s q) (rk c s k) (k0_pay8 st) (k0_pay9 dm) qd) (k0_pay17 v (rq c s q) (rk c s k) (k0_pay8 st) (k0_pay9 dm) qd) (k0_pay20 g dy)
    (k0_pay21 v g (rq c s q) (rk c s k) (k0_pay8 st) (k0_pay9 dm) qd dy) ds)
def headD : FVec Ideal S1x128x128 .f32 :=
  k0_pay30 (cot v g (rq c s q) (rk c s k) (k0_pay8 st) (k0_pay9 dm) qd dy) (k0_pay28 ds cd) (k0_pay29 (k0_pay13 (rq c s q) qd))

abbrev mq : Mat := rot (rd q) (rd c) (rd s)
abbrev mk : Mat := key (rd k) (rd c) (rd s)
abbrev mo : Mat := mix (mq c s q) (mk c s k) (rd v) (rd3 dm) (rd4 qd) (rd4 st)
abbrev me : Mat := dOut (mo c s q k v st dm qd) (rd g) (rd dy)

theorem rd_rq : rd (rq c s q) = mq c s q := funext fun i => funext fun d => pay6_apply c s q i d
theorem rd_rk : rd (rk c s k) = mk c s k := funext fun i => funext fun d => pay7_apply c s k i d
theorem rd_st : rd (k0_pay8 st) = rd4 st := funext fun i => funext fun d => pay8_apply st i d
theorem rd_dm : rd (k0_pay9 dm) = rd3 dm := funext fun i => funext fun d => pay9_apply dm i d
theorem rd_kt : rd (k0_pay10 kt) = rd4 kt := funext fun i => funext fun d => pay10_apply kt i d
theorem rd_qd : rd (k0_pay11 qd) = rd4 qd := funext fun i => funext fun d => pay11_apply qd i d
theorem O_eq : O v (rq c s q) (rk c s k) (k0_pay8 st) (k0_pay9 dm) qd = mo c s q k v st dm qd := by
  funext i j
  refine (pay15_apply _ _ _ _ _ _ i j).trans ?_
  rw [rd_rq, rd_rk, rd_st, rd_dm]
theorem cot_eq : rd (cot v g (rq c s q) (rk c s k) (k0_pay8 st) (k0_pay9 dm) qd dy) = me c s q k v g st dm qd dy := by
  funext i j
  refine (cot_apply _ _ _ _ _ _ _ _ i j).trans ?_
  rw [O_eq]
theorem E_eq : E (k0_pay16 v (rq c s q) (rk c s k) (k0_pay8 st) (k0_pay9 dm) qd) (k0_pay17 v (rq c s q) (rk c s k) (k0_pay8 st) (k0_pay9 dm) qd) (k0_pay20 g dy)
    (k0_pay21 v g (rq c s q) (rk c s k) (k0_pay8 st) (k0_pay9 dm) qd dy) = me c s q k v g st dm qd dy := cot_eq c s q k v g st dm qd dy

theorem headG_apply (i j : Fin 128) : headG c s q k v g st dm qd dy (ix2 i j) = dGate (mo c s q k v st dm qd) (rd g) (rd dy) i j := by
  refine (pay19_apply v g (rq c s q) (rk c s k) (k0_pay8 st) (k0_pay9 dm) qd dy i j).trans ?_
  rw [O_eq]
theorem headV_apply (i j : Fin 128) : headV c s q k v g st dm kt qd dy ds (ix2 i j)
    = dVal (score (mq c s q) (mk c s k) (rd3 dm)) (me c s q k v g st dm qd dy) (mk c s k) (rd4 kt) (rd3 ds) i j := by
  refine (pay25_apply _ _ _ _ _ _ _ i j).trans ?_
  rw [E_eq]
  simp only [pay12_apply, pay14_apply, rd_rq, rd_rk, rd_dm]
  unfold dVal
  simp only [pay7_apply, pay10_apply]
theorem headQ_apply (i d : Fin 128) : headQ c s q k v g st dm qd dy (ix2 i d)
    = unrot (dQry (dScore (me c s q k v g st dm qd dy) (rd v) (rd3 dm)) (mk c s k) (me c s q k v g st dm qd dy) (rd4 st) (rd4 qd)) (rd c) (rd s) i d := by
  refine (pay31_apply _ _ _ i d).trans ?_
  refine congrArg (fun x => unrot x (rd c) (rd s) i d) (funext fun i => funext fun d => (pay26_apply _ _ _ _ _ _ _ _ _ i d).trans ?_)
  rw [E_eq, rd_rk, rd_dm, rd_st, rd_qd]
theorem headK_apply (i d : Fin 128) : headK c s q k v g st dm kt qd dy ds (ix2 i d)
    = unrot (dKey (dScore (me c s q k v g st dm qd dy) (rd v) (rd3 dm)) (mq c s q) (rd v) (rd3 ds) (rd4 kt)) (rd c) (rd s) i d := by
  refine (pay32_apply _ _ _ i d).trans ?_
  refine congrArg (fun x => unrot x (rd c) (rd s) i d) (funext fun i => funext fun d => (pay27_apply _ _ _ _ _ _ _ _ _ i d).trans ?_)
  rw [E_eq, rd_rq, rd_dm, rd_kt]
theorem headD_apply (d j : Fin 128) : headD c s q k v g st dm qd dy ds cd (ix3 0 d j)
    = carryBack (rd3 ds) (fun j => cd (ix3 0 0 j)) (mq c s q) (rd4 qd) (me c s q k v g st dm qd dy) d j := by
  refine (pay30_apply _ _ _ d j).trans ?_
  unfold carryBack
  rw [pay28_apply, ← cot_eq]
  refine congrArg (_ + ·) (Finset.sum_congr rfl fun i _ => ?_)
  rw [pay13_apply]
  exact congrArg (fun z => z * _ * _) (pay6_apply c s q i d)
end

end

end Cert.GradHead

end
-- ==== Proof.GradStep.lean ====
module

public import proofs.«01_k».proof.Proof.RetStep
public import proofs.«01_k».proof.Proof.GradHead
public import proofs.«01_k».proof.Proof.Gen.Kernel40Ideal.Value

@[expose] public section

/-! # Retention's gradient: what one step of the kernel leaves in its buffers

A step works on one chunk, its four heads after one another; `ds` holds the cotangents of the heads' states after the chunk. -/

set_option maxRecDepth 16384

noncomputable section

namespace Cert.GradStep

open Cert.Kernel40Ideal Cert.Kernel40Ideal.Gen Idealize.ShloMosaic Idealize.ShloMosaic.Tactic Cert.RetHead Cert.RetStep Cert.GradHead

def cotY (h : Fin 4) (x : Vec Ideal S128x512 .f32) : Vec Ideal S128x128 .f32 := fun y => x (ix2 (y 0) ⟨128 * h.val + (y 1).val, by
  have h1 : (y 1).val < 128 := (y 1).isLt
  omega⟩)
def state (h : Fin 4) (x : Vec Ideal S1x4x128x128 .f32) : Vec Ideal S1x1x128x128 .f32 := fun y => x (ix4 0 h (y 2) (y 3))

theorem ld_cotY (h : Fin 4) (x : Vec Ideal S128x512 .f32) (inb) : View.ld x (Rect.unit ![0, 128 * h.val] ![128, 128] inb) = cotY h x := by
  funext y
  refine View.ld_unit_apply_of _ _ _ _ _ _ fun a => ?_
  match a with
  | 0 => show (y 0).val = 0 + (y 0).val; omega
  | 1 => rfl

theorem ld_state (h : Fin 4) (x : Vec Ideal S1x4x128x128 .f32) (inb) :
    View.ld x (Rect.unit ![0, h.val, 0, 0] ![1, 1, 128, 128] inb) = state h x := by
  funext y
  refine View.ld_unit_apply_of _ _ _ _ _ _ fun a => ?_
  have h0 : (y 0).val < 1 := (y 0).isLt
  have h1 : (y 1).val < 1 := (y 1).isLt
  match a with
  | 0 => show 0 = 0 + (y 0).val; omega
  | 1 => show h.val = h.val + (y 1).val; omega
  | 2 => show (y 2).val = 0 + (y 2).val; omega
  | 3 => show (y 3).val = 0 + (y 3).val; omega

theorem ldY_0 (x : Vec Ideal S128x512 .f32) (inb) : View.ld x (Rect.unit ![0, 0] ![128, 128] inb) = cotY 0 x := ld_cotY 0 x inb
theorem ldS_0 (x : Vec Ideal S1x4x128x128 .f32) (inb) : View.ld x (Rect.unit ![0, 0, 0, 0] ![1, 1, 128, 128] inb) = state 0 x := ld_state 0 x inb
theorem ldY_1 (x : Vec Ideal S128x512 .f32) (inb) : View.ld x (Rect.unit ![0, 128] ![128, 128] inb) = cotY 1 x := ld_cotY 1 x inb
theorem ldS_1 (x : Vec Ideal S1x4x128x128 .f32) (inb) : View.ld x (Rect.unit ![0, 1, 0, 0] ![1, 1, 128, 128] inb) = state 1 x := ld_state 1 x inb
theorem ldY_2 (x : Vec Ideal S128x512 .f32) (inb) : View.ld x (Rect.unit ![0, 256] ![128, 128] inb) = cotY 2 x := ld_cotY 2 x inb
theorem ldS_2 (x : Vec Ideal S1x4x128x128 .f32) (inb) : View.ld x (Rect.unit ![0, 2, 0, 0] ![1, 1, 128, 128] inb) = state 2 x := ld_state 2 x inb
theorem ldY_3 (x : Vec Ideal S128x512 .f32) (inb) : View.ld x (Rect.unit ![0, 384] ![128, 128] inb) = cotY 3 x := ld_cotY 3 x inb
theorem ldS_3 (x : Vec Ideal S1x4x128x128 .f32) (inb) : View.ld x (Rect.unit ![0, 3, 0, 0] ![1, 1, 128, 128] inb) = state 3 x := ld_state 3 x inb

theorem emb_p (o h : Fin 4) (i j : Fin 128) (inb) :
    (Rect.unit (s := S128x2048) ![0, 512 * o.val + 128 * h.val] ![128, 128] inb).emb (ix2 i j) = ix2 i ⟨512 * o.val + 128 * h.val + j.val, by omega⟩ := by
  funext a
  apply Fin.ext
  match a with
  | 0 => show 0 + 1 * i.val = i.val; omega
  | 1 => show 512 * o.val + 128 * h.val + 1 * j.val = 512 * o.val + 128 * h.val + j.val; omega

section
variable (x0 : Vec Ideal S128x2048 .f32) (x1 x2 : Vec Ideal S128x128 .f32) (x3 : Vec Ideal S4x128x128 .f32) (x4 : Vec Ideal S4x2x128x128 .f32)
  (x5 : Vec Ideal S4x8x128 .f32) (x6 : Vec Ideal S1x4x128x128 .f32) (x7 : Vec Ideal S128x512 .f32) (ds : Vec Ideal S4x128x128 .f32)

/-- Head `h`'s gradients of queries (`o = 0`), keys, values and gates. -/
def hP (o h : Fin 4) : FVec Ideal S128x128 .bf16 :=
  match o with
  | 0 => headQ x1 x2 (sec 0 h x0) (sec 1 h x0) (sec 2 h x0) (sec 3 h x0) (state h x6) (mat h x3) (tab h 1 x4) (cotY h x7)
  | 1 => headK x1 x2 (sec 0 h x0) (sec 1 h x0) (sec 2 h x0) (sec 3 h x0) (state h x6) (mat h x3) (tab h 0 x4) (tab h 1 x4) (cotY h x7) (mat h ds)
  | 2 => headV x1 x2 (sec 0 h x0) (sec 1 h x0) (sec 2 h x0) (sec 3 h x0) (state h x6) (mat h x3) (tab h 0 x4) (tab h 1 x4) (cotY h x7) (mat h ds)
  | 3 => headG x1 x2 (sec 0 h x0) (sec 1 h x0) (sec 2 h x0) (sec 3 h x0) (state h x6) (mat h x3) (tab h 1 x4) (cotY h x7)

/-- The cotangent of head `h`'s state before the chunk. -/
def hD (h : Fin 4) : FVec Ideal S1x128x128 .f32 :=
  headD x1 x2 (sec 0 h x0) (sec 1 h x0) (sec 2 h x0) (sec 3 h x0) (state h x6) (mat h x3) (tab h 1 x4) (cotY h x7) (mat h ds) (dec h x5)

/-- What the step leaves in the result, and what it carries on. -/
def stepP : Vec Ideal S128x2048 .bf16 := fun y => hP x0 x1 x2 x3 x4 x6 x7 ds ⟨(y 1).val / 512, by
  have h1 : (y 1).val < 2048 := (y 1).isLt
  omega⟩ ⟨(y 1).val / 128 % 4, Nat.mod_lt _ (by decide)⟩ (ix2 (y 0) ⟨(y 1).val % 128, Nat.mod_lt _ (by decide)⟩)
def stepD : Vec Ideal S4x128x128 .f32 := fun y => hD x0 x1 x2 x3 x4 x5 x6 x7 ds (y 0) (ix3 0 (y 1) (y 2))

theorem stepP_at (o h : Fin 4) (i j : Fin 128) :
    stepP x0 x1 x2 x3 x4 x6 x7 ds (ix2 i ⟨512 * o.val + 128 * h.val + j.val, by omega⟩) = hP x0 x1 x2 x3 x4 x6 x7 ds o h (ix2 i j) := by
  unfold stepP
  have e0 : (⟨(512 * o.val + 128 * h.val + j.val) / 512, by omega⟩ : Fin 4) = o := Fin.ext (by dsimp only; omega)
  have e1 : (⟨(512 * o.val + 128 * h.val + j.val) / 128 % 4, Nat.mod_lt _ (by decide)⟩ : Fin 4) = h := Fin.ext (by dsimp only; omega)
  have e2 : (⟨(512 * o.val + 128 * h.val + j.val) % 128, Nat.mod_lt _ (by decide)⟩ : Fin 128) = j := Fin.ext (by dsimp only; omega)
  show hP x0 x1 x2 x3 x4 x6 x7 ds ⟨(512 * o.val + 128 * h.val + j.val) / 512, _⟩ ⟨(512 * o.val + 128 * h.val + j.val) / 128 % 4, _⟩ (ix2 i ⟨(512 * o.val + 128 * h.val + j.val) % 128, _⟩) = _
  rw [e0, e1, e2]

end

section
variable (c : Dev nD) (i : grid0.Coords) (arg1 : Memref sig .tc .vmem S128x2048 .f32) (harg1 : arg1.IsWhole) (arg2 : Memref sig .tc .vmem S128x128 .f32) (harg2 : arg2.IsWhole)
  (arg3 : Memref sig .tc .vmem S128x128 .f32) (harg3 : arg3.IsWhole) (arg4 : Memref sig .tc .vmem S4x128x128 .f32) (harg4 : arg4.IsWhole)
  (arg5 : Memref sig .tc .vmem S4x2x128x128 .f32) (harg5 : arg5.IsWhole) (arg6 : Memref sig .tc .vmem S4x8x128 .f32) (harg6 : arg6.IsWhole)
  (arg7 : Memref sig .tc .vmem S1x4x128x128 .f32) (harg7 : arg7.IsWhole) (arg8 : Memref sig .tc .vmem S128x512 .f32) (harg8 : arg8.IsWhole)
  (arg9 : Memref sig .tc .vmem S128x2048 .bf16) (harg9 : arg9.IsWhole) (arg10 : Memref sig .tc .vmem S4x128x128 .f32) (harg10 : arg10.IsWhole)

  (x0 : Vec Ideal S128x2048 .f32) (x1 x2 : Vec Ideal S128x128 .f32) (x3 : Vec Ideal S4x128x128 .f32) (x4 : Vec Ideal S4x2x128x128 .f32)
  (x5 : Vec Ideal S4x8x128 .f32) (x6 : Vec Ideal S1x4x128x128 .f32) (x7 : Vec Ideal S128x512 .f32) (xs0 : Vec Ideal S4x128x128 .f32)

set_option maxHeartbeats 1000000 in
theorem p_A (hc0 : cond0_0 i) : out0_A_8 c i arg1 harg1 arg2 harg2 arg3 harg3 arg4 harg4 arg5 harg5 arg6 harg6 arg7 harg7 arg8 harg8 arg9 harg9 arg10 harg10 hc0 x0 x1 x2 x3 x4 x5 x6 x7 = stepP x0 x1 x2 x3 x4 x6 x7 (k0_pay3 (F := Ideal)) := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldY_0, ldS_0, ldM_1, ldD_1, ldT_10, ldT_11, ldY_1, ldS_1, ldM_2, ldD_2, ldT_20, ldT_21, ldY_2, ldS_2, ldM_3, ldD_3, ldT_30, ldT_31, ldY_3, ldS_3, ld_all]
  generalize k0_pay3 (F := Ideal) = z
  refine View.canon_apply_of_pieces (stepP x0 x1 x2 x3 x4 x6 x7 z) [_, _, _, _, _, _, _, _, _, _, _, _, _, _, _, _] (View.PiecesOf.mem (show View.PiecesOf (stepP x0 x1 x2 x3 x4 x6 x7 z) [_, _, _, _, _, _, _, _, _, _, _, _, _, _, _, _] from ⟨?_, ?_, ?_, ?_, ?_, ?_, ?_, ?_, ?_, ?_, ?_, ?_, ?_, ?_, ?_, ?_, trivial⟩)) y ?_
  · intro q
    change S128x128.Idx at q
    idx_vars q
    exact (stepP_at x0 x1 x2 x3 x4 x6 x7 z 3 3 q0 q1).symm.trans (congrArg (stepP x0 x1 x2 x3 x4 x6 x7 z) (emb_p 3 3 q0 q1 _).symm)
  · intro q
    change S128x128.Idx at q
    idx_vars q
    exact (stepP_at x0 x1 x2 x3 x4 x6 x7 z 2 3 q0 q1).symm.trans (congrArg (stepP x0 x1 x2 x3 x4 x6 x7 z) (emb_p 2 3 q0 q1 _).symm)
  · intro q
    change S128x128.Idx at q
    idx_vars q
    exact (stepP_at x0 x1 x2 x3 x4 x6 x7 z 1 3 q0 q1).symm.trans (congrArg (stepP x0 x1 x2 x3 x4 x6 x7 z) (emb_p 1 3 q0 q1 _).symm)
  · intro q
    change S128x128.Idx at q
    idx_vars q
    exact (stepP_at x0 x1 x2 x3 x4 x6 x7 z 0 3 q0 q1).symm.trans (congrArg (stepP x0 x1 x2 x3 x4 x6 x7 z) (emb_p 0 3 q0 q1 _).symm)
  · intro q
    change S128x128.Idx at q
    idx_vars q
    exact (stepP_at x0 x1 x2 x3 x4 x6 x7 z 3 2 q0 q1).symm.trans (congrArg (stepP x0 x1 x2 x3 x4 x6 x7 z) (emb_p 3 2 q0 q1 _).symm)
  · intro q
    change S128x128.Idx at q
    idx_vars q
    exact (stepP_at x0 x1 x2 x3 x4 x6 x7 z 2 2 q0 q1).symm.trans (congrArg (stepP x0 x1 x2 x3 x4 x6 x7 z) (emb_p 2 2 q0 q1 _).symm)
  · intro q
    change S128x128.Idx at q
    idx_vars q
    exact (stepP_at x0 x1 x2 x3 x4 x6 x7 z 1 2 q0 q1).symm.trans (congrArg (stepP x0 x1 x2 x3 x4 x6 x7 z) (emb_p 1 2 q0 q1 _).symm)
  · intro q
    change S128x128.Idx at q
    idx_vars q
    exact (stepP_at x0 x1 x2 x3 x4 x6 x7 z 0 2 q0 q1).symm.trans (congrArg (stepP x0 x1 x2 x3 x4 x6 x7 z) (emb_p 0 2 q0 q1 _).symm)
  · intro q
    change S128x128.Idx at q
    idx_vars q
    exact (stepP_at x0 x1 x2 x3 x4 x6 x7 z 3 1 q0 q1).symm.trans (congrArg (stepP x0 x1 x2 x3 x4 x6 x7 z) (emb_p 3 1 q0 q1 _).symm)
  · intro q
    change S128x128.Idx at q
    idx_vars q
    exact (stepP_at x0 x1 x2 x3 x4 x6 x7 z 2 1 q0 q1).symm.trans (congrArg (stepP x0 x1 x2 x3 x4 x6 x7 z) (emb_p 2 1 q0 q1 _).symm)
  · intro q
    change S128x128.Idx at q
    idx_vars q
    exact (stepP_at x0 x1 x2 x3 x4 x6 x7 z 1 1 q0 q1).symm.trans (congrArg (stepP x0 x1 x2 x3 x4 x6 x7 z) (emb_p 1 1 q0 q1 _).symm)
  · intro q
    change S128x128.Idx at q
    idx_vars q
    exact (stepP_at x0 x1 x2 x3 x4 x6 x7 z 0 1 q0 q1).symm.trans (congrArg (stepP x0 x1 x2 x3 x4 x6 x7 z) (emb_p 0 1 q0 q1 _).symm)
  · intro q
    change S128x128.Idx at q
    idx_vars q
    exact (stepP_at x0 x1 x2 x3 x4 x6 x7 z 3 0 q0 q1).symm.trans (congrArg (stepP x0 x1 x2 x3 x4 x6 x7 z) (emb_p 3 0 q0 q1 _).symm)
  · intro q
    change S128x128.Idx at q
    idx_vars q
    exact (stepP_at x0 x1 x2 x3 x4 x6 x7 z 2 0 q0 q1).symm.trans (congrArg (stepP x0 x1 x2 x3 x4 x6 x7 z) (emb_p 2 0 q0 q1 _).symm)
  · intro q
    change S128x128.Idx at q
    idx_vars q
    exact (stepP_at x0 x1 x2 x3 x4 x6 x7 z 1 0 q0 q1).symm.trans (congrArg (stepP x0 x1 x2 x3 x4 x6 x7 z) (emb_p 1 0 q0 q1 _).symm)
  · intro q
    change S128x128.Idx at q
    idx_vars q
    exact (stepP_at x0 x1 x2 x3 x4 x6 x7 z 0 0 q0 q1).symm.trans (congrArg (stepP x0 x1 x2 x3 x4 x6 x7 z) (emb_p 0 0 q0 q1 _).symm)
  · exact View.cover_of_tiledL (_ : List (View.Piece (Elt Ideal) S128x2048 .bf16)) S128x128.size (by sl_kernel_rfl) y

set_option maxHeartbeats 1000000 in
theorem d_A (hc0 : cond0_0 i) : sout0_A_0 c i arg1 harg1 arg2 harg2 arg3 harg3 arg4 harg4 arg5 harg5 arg6 harg6 arg7 harg7 arg8 harg8 arg9 harg9 arg10 harg10 hc0 x0 x1 x2 x3 x4 x5 x6 x7 = stepD x0 x1 x2 x3 x4 x5 x6 x7 (k0_pay3 (F := Ideal)) := by
  funext y
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldY_0, ldS_0, ldM_1, ldD_1, ldT_10, ldT_11, ldY_1, ldS_1, ldM_2, ldD_2, ldT_20, ldT_21, ldY_2, ldS_2, ldM_3, ldD_3, ldT_30, ldT_31, ldY_3, ldS_3, ld_all]
  generalize k0_pay3 (F := Ideal) = z
  refine canon_over4 (stepD x0 x1 x2 x3 x4 x5 x6 x7 z) _ ⟨?_, ?_, ?_, ?_, trivial⟩ y ?_
  · intro q
    change S1x128x128.Idx at q
    idx_vars q
    obtain rfl : q0 = 0 := Subsingleton.elim _ _
    exact congrArg (stepD x0 x1 x2 x3 x4 x5 x6 x7 z) (emb_c 3 q1 q2 _).symm
  · intro q
    change S1x128x128.Idx at q
    idx_vars q
    obtain rfl : q0 = 0 := Subsingleton.elim _ _
    exact congrArg (stepD x0 x1 x2 x3 x4 x5 x6 x7 z) (emb_c 2 q1 q2 _).symm
  · intro q
    change S1x128x128.Idx at q
    idx_vars q
    obtain rfl : q0 = 0 := Subsingleton.elim _ _
    exact congrArg (stepD x0 x1 x2 x3 x4 x5 x6 x7 z) (emb_c 1 q1 q2 _).symm
  · intro q
    change S1x128x128.Idx at q
    idx_vars q
    obtain rfl : q0 = 0 := Subsingleton.elim _ _
    exact congrArg (stepD x0 x1 x2 x3 x4 x5 x6 x7 z) (emb_c 0 q1 q2 _).symm
  · exact View.cover_of_tiledL (_ : List (View.Piece (Elt Ideal) S4x128x128 .f32)) S1x128x128.size (by sl_kernel_rfl) y

set_option maxHeartbeats 1000000 in
theorem p_B (hc0 : ¬cond0_0 i) : out0_B_8 c i arg1 harg1 arg2 harg2 arg3 harg3 arg4 harg4 arg5 harg5 arg6 harg6 arg7 harg7 arg8 harg8 arg9 harg9 arg10 harg10 hc0 x0 x1 x2 x3 x4 x5 x6 x7 xs0 = stepP x0 x1 x2 x3 x4 x6 x7 xs0 := by
  funext y
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldY_0, ldS_0, ldM_1, ldD_1, ldT_10, ldT_11, ldY_1, ldS_1, ldM_2, ldD_2, ldT_20, ldT_21, ldY_2, ldS_2, ldM_3, ldD_3, ldT_30, ldT_31, ldY_3, ldS_3, ld_all]
  refine View.canon_apply_of_pieces (stepP x0 x1 x2 x3 x4 x6 x7 xs0) [_, _, _, _, _, _, _, _, _, _, _, _, _, _, _, _] (View.PiecesOf.mem (show View.PiecesOf (stepP x0 x1 x2 x3 x4 x6 x7 xs0) [_, _, _, _, _, _, _, _, _, _, _, _, _, _, _, _] from ⟨?_, ?_, ?_, ?_, ?_, ?_, ?_, ?_, ?_, ?_, ?_, ?_, ?_, ?_, ?_, ?_, trivial⟩)) y ?_
  · intro q
    change S128x128.Idx at q
    idx_vars q
    exact (stepP_at x0 x1 x2 x3 x4 x6 x7 xs0 3 3 q0 q1).symm.trans (congrArg (stepP x0 x1 x2 x3 x4 x6 x7 xs0) (emb_p 3 3 q0 q1 _).symm)
  · intro q
    change S128x128.Idx at q
    idx_vars q
    exact (stepP_at x0 x1 x2 x3 x4 x6 x7 xs0 2 3 q0 q1).symm.trans (congrArg (stepP x0 x1 x2 x3 x4 x6 x7 xs0) (emb_p 2 3 q0 q1 _).symm)
  · intro q
    change S128x128.Idx at q
    idx_vars q
    exact (stepP_at x0 x1 x2 x3 x4 x6 x7 xs0 1 3 q0 q1).symm.trans (congrArg (stepP x0 x1 x2 x3 x4 x6 x7 xs0) (emb_p 1 3 q0 q1 _).symm)
  · intro q
    change S128x128.Idx at q
    idx_vars q
    exact (stepP_at x0 x1 x2 x3 x4 x6 x7 xs0 0 3 q0 q1).symm.trans (congrArg (stepP x0 x1 x2 x3 x4 x6 x7 xs0) (emb_p 0 3 q0 q1 _).symm)
  · intro q
    change S128x128.Idx at q
    idx_vars q
    exact (stepP_at x0 x1 x2 x3 x4 x6 x7 xs0 3 2 q0 q1).symm.trans (congrArg (stepP x0 x1 x2 x3 x4 x6 x7 xs0) (emb_p 3 2 q0 q1 _).symm)
  · intro q
    change S128x128.Idx at q
    idx_vars q
    exact (stepP_at x0 x1 x2 x3 x4 x6 x7 xs0 2 2 q0 q1).symm.trans (congrArg (stepP x0 x1 x2 x3 x4 x6 x7 xs0) (emb_p 2 2 q0 q1 _).symm)
  · intro q
    change S128x128.Idx at q
    idx_vars q
    exact (stepP_at x0 x1 x2 x3 x4 x6 x7 xs0 1 2 q0 q1).symm.trans (congrArg (stepP x0 x1 x2 x3 x4 x6 x7 xs0) (emb_p 1 2 q0 q1 _).symm)
  · intro q
    change S128x128.Idx at q
    idx_vars q
    exact (stepP_at x0 x1 x2 x3 x4 x6 x7 xs0 0 2 q0 q1).symm.trans (congrArg (stepP x0 x1 x2 x3 x4 x6 x7 xs0) (emb_p 0 2 q0 q1 _).symm)
  · intro q
    change S128x128.Idx at q
    idx_vars q
    exact (stepP_at x0 x1 x2 x3 x4 x6 x7 xs0 3 1 q0 q1).symm.trans (congrArg (stepP x0 x1 x2 x3 x4 x6 x7 xs0) (emb_p 3 1 q0 q1 _).symm)
  · intro q
    change S128x128.Idx at q
    idx_vars q
    exact (stepP_at x0 x1 x2 x3 x4 x6 x7 xs0 2 1 q0 q1).symm.trans (congrArg (stepP x0 x1 x2 x3 x4 x6 x7 xs0) (emb_p 2 1 q0 q1 _).symm)
  · intro q
    change S128x128.Idx at q
    idx_vars q
    exact (stepP_at x0 x1 x2 x3 x4 x6 x7 xs0 1 1 q0 q1).symm.trans (congrArg (stepP x0 x1 x2 x3 x4 x6 x7 xs0) (emb_p 1 1 q0 q1 _).symm)
  · intro q
    change S128x128.Idx at q
    idx_vars q
    exact (stepP_at x0 x1 x2 x3 x4 x6 x7 xs0 0 1 q0 q1).symm.trans (congrArg (stepP x0 x1 x2 x3 x4 x6 x7 xs0) (emb_p 0 1 q0 q1 _).symm)
  · intro q
    change S128x128.Idx at q
    idx_vars q
    exact (stepP_at x0 x1 x2 x3 x4 x6 x7 xs0 3 0 q0 q1).symm.trans (congrArg (stepP x0 x1 x2 x3 x4 x6 x7 xs0) (emb_p 3 0 q0 q1 _).symm)
  · intro q
    change S128x128.Idx at q
    idx_vars q
    exact (stepP_at x0 x1 x2 x3 x4 x6 x7 xs0 2 0 q0 q1).symm.trans (congrArg (stepP x0 x1 x2 x3 x4 x6 x7 xs0) (emb_p 2 0 q0 q1 _).symm)
  · intro q
    change S128x128.Idx at q
    idx_vars q
    exact (stepP_at x0 x1 x2 x3 x4 x6 x7 xs0 1 0 q0 q1).symm.trans (congrArg (stepP x0 x1 x2 x3 x4 x6 x7 xs0) (emb_p 1 0 q0 q1 _).symm)
  · intro q
    change S128x128.Idx at q
    idx_vars q
    exact (stepP_at x0 x1 x2 x3 x4 x6 x7 xs0 0 0 q0 q1).symm.trans (congrArg (stepP x0 x1 x2 x3 x4 x6 x7 xs0) (emb_p 0 0 q0 q1 _).symm)
  · exact View.cover_of_tiledL (_ : List (View.Piece (Elt Ideal) S128x2048 .bf16)) S128x128.size (by sl_kernel_rfl) y

set_option maxHeartbeats 1000000 in
theorem d_B (hc0 : ¬cond0_0 i) : sout0_B_0 c i arg1 harg1 arg2 harg2 arg3 harg3 arg4 harg4 arg5 harg5 arg6 harg6 arg7 harg7 arg8 harg8 arg9 harg9 arg10 harg10 hc0 x0 x1 x2 x3 x4 x5 x6 x7 xs0 = stepD x0 x1 x2 x3 x4 x5 x6 x7 xs0 := by
  funext y
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, ldP_00, ldP_01, ldP_02, ldP_03, ldP_10, ldP_11, ldP_12, ldP_13, ldP_20, ldP_21, ldP_22, ldP_23, ldP_30, ldP_31, ldP_32, ldP_33, ldM_0, ldD_0, ldT_00, ldT_01, ldY_0, ldS_0, ldM_1, ldD_1, ldT_10, ldT_11, ldY_1, ldS_1, ldM_2, ldD_2, ldT_20, ldT_21, ldY_2, ldS_2, ldM_3, ldD_3, ldT_30, ldT_31, ldY_3, ldS_3, ld_all]
  refine View.canon_apply_of_pieces (stepD x0 x1 x2 x3 x4 x5 x6 x7 xs0) [_, _, _, _] (View.PiecesOf.mem (show View.PiecesOf (stepD x0 x1 x2 x3 x4 x5 x6 x7 xs0) [_, _, _, _] from ⟨?_, ?_, ?_, ?_, trivial⟩)) y ?_
  · intro q
    change S1x128x128.Idx at q
    idx_vars q
    obtain rfl : q0 = 0 := Subsingleton.elim _ _
    exact congrArg (stepD x0 x1 x2 x3 x4 x5 x6 x7 xs0) (emb_c 3 q1 q2 _).symm
  · intro q
    change S1x128x128.Idx at q
    idx_vars q
    obtain rfl : q0 = 0 := Subsingleton.elim _ _
    exact congrArg (stepD x0 x1 x2 x3 x4 x5 x6 x7 xs0) (emb_c 2 q1 q2 _).symm
  · intro q
    change S1x128x128.Idx at q
    idx_vars q
    obtain rfl : q0 = 0 := Subsingleton.elim _ _
    exact congrArg (stepD x0 x1 x2 x3 x4 x5 x6 x7 xs0) (emb_c 1 q1 q2 _).symm
  · intro q
    change S1x128x128.Idx at q
    idx_vars q
    obtain rfl : q0 = 0 := Subsingleton.elim _ _
    exact congrArg (stepD x0 x1 x2 x3 x4 x5 x6 x7 xs0) (emb_c 0 q1 q2 _).symm
  · exact View.cover_of_tiledL (_ : List (View.Piece (Elt Ideal) S4x128x128 .f32)) S1x128x128.size (by sl_kernel_rfl) y

end

end Cert.GradStep

end
-- ==== Proof.GradSpec.lean ====
module

public import proofs.«01_k».proof.Proof.RetSpec
public import proofs.«01_k».proof.Proof.GradHead

@[expose] public section

/-! # Retention's gradient over the whole sequence, from the last chunk to the first

Beside the forward's arrays: `St` holds the states before each chunk, `R` the cotangent of the result. -/

set_option maxRecDepth 16384

noncomputable section

namespace Cert.GradSpec

open Cert.Kernel40Ideal Idealize.ShloMosaic Cert.RetHead Cert.RetSpec Cert.GradHead

section
variable (P : Vec Ideal S2048x2048 .f32) (C S : Vec Ideal S2048x128 .f32) (D : Vec Ideal S4x128x128 .f32) (T : Vec Ideal S4x2x128x128 .f32)
  (E : Vec Ideal S4x8x128 .f32) (St : ℕ → Fin 4 → Mat) (R : Vec Ideal S2048x1024 .f32)

def cotG (h : Fin 4) (n : ℕ) : Mat := fun i j => R (ix2 (row n i) ⟨128 * h.val + j.val, by omega⟩)
def tri (h : Fin 4) : Mat := fun i l => D (ix3 h i l)
def dk (e : Fin 2) (h : Fin 4) : Mat := fun i d => T (ix4 h e i d)

/-- Head `h`'s result on chunk `n` before its norm, and its cotangent. -/
def oG (n : ℕ) (h : Fin 4) : Mat := mix (qry P C S h n) (keyG P C S h n) (part P 2 h n) (tri D h) (dk T 1 h) (St n h)
def eG (n : ℕ) (h : Fin 4) : Mat := dOut (oG P C S D T St n h) (part P 3 h n) (cotG R h n)

/-- The cotangent of the state after `16 - k` chunks. -/
def dsG : ℕ → Fin 4 → Mat
  | 0, _ => fun _ _ => 0
  | k + 1, h => carryBack (dsG k h) (fun j => E (ix3 h 0 j)) (qry P C S h (15 - k)) (dk T 1 h) (eG P C S D T St R (15 - k) h)

/-- Head `h`'s gradients on chunk `n`. -/
def pG (o : Fin 4) (n : ℕ) (h : Fin 4) : Mat :=
  match o with
  | 0 => unrot (dQry (dScore (eG P C S D T St R n h) (part P 2 h n) (tri D h)) (keyG P C S h n) (eG P C S D T St R n h) (St n h) (dk T 1 h)) (turn n C) (turn n S)
  | 1 => unrot (dKey (dScore (eG P C S D T St R n h) (part P 2 h n) (tri D h)) (qry P C S h n) (part P 2 h n) (dsG P C S D T E St R (15 - n) h) (dk T 0 h))
      (turn n C) (turn n S)
  | 2 => dVal (score (qry P C S h n) (keyG P C S h n) (tri D h)) (eG P C S D T St R n h) (keyG P C S h n) (dk T 0 h) (dsG P C S D T E St R (15 - n) h)
  | 3 => dGate (oG P C S D T St n h) (part P 3 h n) (cotG R h n)

def W : Vec Ideal S2048x2048 .bf16 := fun y => pG P C S D T E St R ⟨(y 1).val / 512, by
  have h1 : (y 1).val < 2048 := (y 1).isLt
  omega⟩ ((y 0).val / 128) ⟨(y 1).val / 128 % 4, Nat.mod_lt _ (by decide)⟩ ⟨(y 0).val % 128, Nat.mod_lt _ (by decide)⟩ ⟨(y 1).val % 128, Nat.mod_lt _ (by decide)⟩

theorem W_at (n : Fin 16) (o h : Fin 4) (i j : Fin 128) :
    W P C S D T E St R (ix2 ⟨128 * n.val + i.val, by omega⟩ ⟨512 * o.val + 128 * h.val + j.val, by omega⟩) = pG P C S D T E St R o n.val h i j := by
  unfold W
  have e0 : (128 * n.val + i.val) / 128 = n.val := by omega
  have e1 : (⟨(512 * o.val + 128 * h.val + j.val) / 512, by omega⟩ : Fin 4) = o := Fin.ext (by dsimp only; omega)
  have e2 : (⟨(512 * o.val + 128 * h.val + j.val) / 128 % 4, Nat.mod_lt _ (by decide)⟩ : Fin 4) = h := Fin.ext (by dsimp only; omega)
  have e3 : (⟨(128 * n.val + i.val) % 128, Nat.mod_lt _ (by decide)⟩ : Fin 128) = i := Fin.ext (by dsimp only; omega)
  have e4 : (⟨(512 * o.val + 128 * h.val + j.val) % 128, Nat.mod_lt _ (by decide)⟩ : Fin 128) = j := Fin.ext (by dsimp only; omega)
  show pG P C S D T E St R ⟨(512 * o.val + 128 * h.val + j.val) / 512, _⟩ ((128 * n.val + i.val) / 128) ⟨(512 * o.val + 128 * h.val + j.val) / 128 % 4, _⟩
    ⟨(128 * n.val + i.val) % 128, _⟩ ⟨(512 * o.val + 128 * h.val + j.val) % 128, _⟩ = _
  rw [e0, e1, e2, e3, e4]

end

end Cert.GradSpec

end
-- ==== Proof.GradRun.lean ====
module

public import proofs.«01_k».proof.Proof.GradStep
public import proofs.«01_k».proof.Proof.GradSpec
public import Idealize.ShloMosaic.Lib.Pipeline.ValueKit

@[expose] public section

/-! # Retention's gradient: what the whole run of the kernel leaves in its array

Step `t` works on chunk `15 - t`. -/

set_option maxRecDepth 16384

noncomputable section

namespace Cert.GradRun

open Cert.Kernel40Ideal Cert.Kernel40Ideal.Gen Idealize.ShloMosaic Idealize.ShloMosaic.Tactic Cert.RetHead Cert.RetStep Cert.RetSpec Cert.GradHead Cert.GradStep Cert.GradSpec

section
variable (m : (ℓ : Loc nD τ sig) → Buf (Elt Ideal) ℓ) (c : Dev nD)

theorem t_lt (t : Fin cfg0.N) : t.val < 16 := t.isLt

theorem index0 : ∀ t : Fin cfg0.N, (cfg0.win 0).index t 0 = 15 - t.val ∧ (cfg0.win 0).index t 1 = 0 := by decide +kernel
theorem index1 : ∀ t : Fin cfg0.N, (cfg0.win 1).index t 0 = 15 - t.val ∧ (cfg0.win 1).index t 1 = 0 := by decide +kernel
theorem index2 : ∀ t : Fin cfg0.N, (cfg0.win 2).index t 0 = 15 - t.val ∧ (cfg0.win 2).index t 1 = 0 := by decide +kernel
theorem index3 : ∀ t : Fin cfg0.N, (cfg0.win 3).index t 0 = 0 ∧ (cfg0.win 3).index t 1 = 0 ∧ (cfg0.win 3).index t 2 = 0 := by decide +kernel
theorem index4 : ∀ t : Fin cfg0.N, (cfg0.win 4).index t 0 = 0 ∧ (cfg0.win 4).index t 1 = 0 ∧ (cfg0.win 4).index t 2 = 0 ∧ (cfg0.win 4).index t 3 = 0 := by decide +kernel
theorem index5 : ∀ t : Fin cfg0.N, (cfg0.win 5).index t 0 = 0 ∧ (cfg0.win 5).index t 1 = 0 ∧ (cfg0.win 5).index t 2 = 0 := by decide +kernel
theorem index6 : ∀ t : Fin cfg0.N, (cfg0.win 6).index t 0 = 15 - t.val ∧ (cfg0.win 6).index t 1 = 0 ∧ (cfg0.win 6).index t 2 = 0 ∧ (cfg0.win 6).index t 3 = 0 := by decide +kernel
theorem index7 : ∀ t : Fin cfg0.N, (cfg0.win 7).index t 0 = 15 - t.val ∧ (cfg0.win 7).index t 1 = 0 := by decide +kernel
theorem index8 : ∀ t : Fin cfg0.N, (cfg0.win 8).index t 0 = 15 - t.val ∧ (cfg0.win 8).index t 1 = 0 := by decide +kernel

theorem row_eq (t : Fin cfg0.N) (i : Fin 128) : row (15 - t.val) i = ⟨128 * (15 - t.val) + i.val, by omega⟩ :=
  Fin.ext (Nat.mod_eq_of_lt (by omega))

theorem iblk0_eq (t : Fin cfg0.N) (i : Fin 128) (k : Fin 2048) : iblk m c 0 t (ix2 i k) = V m c main_arg0 (ix2 (row (15 - t.val) i) k) := by
  obtain ⟨e0, e1⟩ := index0 t
  rw [row_eq]
  blk_ext [iblk, e0, e1]
theorem iblk1_eq (t : Fin cfg0.N) (i : Fin 128) (d : Fin 128) : iblk m c 1 t (ix2 i d) = V m c main_v15 (ix2 (row (15 - t.val) i) d) := by
  obtain ⟨e0, e1⟩ := index1 t
  rw [row_eq]
  blk_ext [iblk, e0, e1]
theorem iblk2_eq (t : Fin cfg0.N) (i : Fin 128) (d : Fin 128) : iblk m c 2 t (ix2 i d) = V m c main_v17 (ix2 (row (15 - t.val) i) d) := by
  obtain ⟨e0, e1⟩ := index2 t
  rw [row_eq]
  blk_ext [iblk, e0, e1]
theorem iblk3_eq (t : Fin cfg0.N) (h : Fin 4) (i l : Fin 128) : iblk m c 3 t (ix3 h i l) = V m c main_v41 (ix3 h i l) := by
  obtain ⟨e0, e1, e2⟩ := index3 t
  blk_ext [iblk, e0, e1, e2]
theorem iblk4_eq (t : Fin cfg0.N) (h : Fin 4) (e : Fin 2) (i d : Fin 128) : iblk m c 4 t (ix4 h e i d) = V m c main_v62 (ix4 h e i d) := by
  obtain ⟨e0, e1, e2, e3⟩ := index4 t
  blk_ext [iblk, e0, e1, e2, e3]
theorem iblk5_eq (t : Fin cfg0.N) (h : Fin 4) (r : Fin 8) (d : Fin 128) : iblk m c 5 t (ix3 h r d) = V m c main_v67 (ix3 h r d) := by
  obtain ⟨e0, e1, e2⟩ := index5 t
  blk_ext [iblk, e0, e1, e2]
theorem iblk6_eq (t : Fin cfg0.N) (h : Fin 4) (d j : Fin 128) : iblk m c 6 t (ix4 0 h d j) = V m c main_v309 (ix4 ⟨15 - t.val, by omega⟩ h d j) := by
  obtain ⟨e0, e1, e2, e3⟩ := index6 t
  blk_ext [iblk, e0, e1, e2, e3]
theorem iblk7_eq (t : Fin cfg0.N) (i : Fin 128) (k : Fin 512) : iblk m c 7 t (ix2 i k) = V m c main_arg1 (ix2 (row (15 - t.val) i) ⟨k.val, by omega⟩) := by
  obtain ⟨e0, e1⟩ := index7 t
  rw [row_eq]
  blk_ext [iblk, e0, e1]

/-- The states the host hands to the kernel. -/
def stH (n : ℕ) (h : Fin 4) : Mat := fun d j => V m c main_v309 (ix4 ⟨n % 16, Nat.mod_lt _ (by decide)⟩ h d j)

/-- The cotangents before step `n`. -/
abbrev dsM (n : ℕ) (h : Fin 4) : Mat :=
  dsG (V m c main_arg0) (V m c main_v15) (V m c main_v17) (V m c main_v41) (V m c main_v62) (V m c main_v67) (stH m c) (V m c main_arg1) n h
def before (n : ℕ) : Vec Ideal S4x128x128 .f32 := fun y => dsM m c n (y 0) (y 1) (y 2)

section
variable (t : Fin cfg0.N) (h : Fin 4)

theorem rd_sec (o : Fin 4) : rd (sec o h (iblk m c 0 t)) = part (V m c main_arg0) o h (15 - t.val) := funext fun i => funext fun d => iblk0_eq m c t i _
theorem rd_cos : rd (iblk m c 1 t) = turn (15 - t.val) (V m c main_v15) := funext fun i => funext fun d => iblk1_eq m c t i d
theorem rd_sin : rd (iblk m c 2 t) = turn (15 - t.val) (V m c main_v17) := funext fun i => funext fun d => iblk2_eq m c t i d
theorem rd_tri : rd3 (mat h (iblk m c 3 t)) = tri (V m c main_v41) h := funext fun i => funext fun d => iblk3_eq m c t h i d
theorem rd_dk (e : Fin 2) : rd4 (tab h e (iblk m c 4 t)) = dk (V m c main_v62) e h := funext fun i => funext fun d => iblk4_eq m c t h e i d
theorem rd_dec : (fun j => dec h (iblk m c 5 t) (ix3 0 0 j)) = fun j => V m c main_v67 (ix3 h 0 j) := funext fun j => iblk5_eq m c t h 0 j
theorem rd_state : rd4 (state h (iblk m c 6 t)) = stH m c (15 - t.val) h := by
  funext d j
  refine (iblk6_eq m c t h d j).trans ?_
  unfold stH
  congr 2
  exact Fin.ext (by dsimp only; omega)
theorem rd_cot : rd (cotY h (iblk m c 7 t)) = cotG (V m c main_arg1) h (15 - t.val) := funext fun i => funext fun d => iblk7_eq m c t i _
theorem rd_ds : rd3 (mat h (before m c t.val)) = dsM m c (15 - (15 - t.val)) h := by
  have e : 15 - (15 - t.val) = t.val := by have := t_lt t; omega
  rw [e]
  rfl

theorem hD_eq (d j : Fin 128) :
    hD (iblk m c 0 t) (iblk m c 1 t) (iblk m c 2 t) (iblk m c 3 t) (iblk m c 4 t) (iblk m c 5 t) (iblk m c 6 t) (iblk m c 7 t) (before m c t.val) h (ix3 0 d j)
      = dsM m c (t.val + 1) h d j := by
  unfold hD
  rw [headD_apply]
  unfold me mo mq mk
  rw [rd_sec, rd_sec, rd_sec, rd_sec, rd_cos, rd_sin, rd_tri, rd_dk, rd_dec, rd_state, rd_cot]
  rfl

theorem hP_eq (o : Fin 4) (i j : Fin 128) :
    hP (iblk m c 0 t) (iblk m c 1 t) (iblk m c 2 t) (iblk m c 3 t) (iblk m c 4 t) (iblk m c 6 t) (iblk m c 7 t) (before m c t.val) o h (ix2 i j)
      = pG (V m c main_arg0) (V m c main_v15) (V m c main_v17) (V m c main_v41) (V m c main_v62) (V m c main_v67) (stH m c) (V m c main_arg1) o (15 - t.val) h i j := by
  match o with
  | 0 =>
    show headQ _ _ _ _ _ _ _ _ _ _ _ = _
    rw [headQ_apply]
    unfold me mo mq mk
    rw [rd_sec, rd_sec, rd_sec, rd_sec, rd_cos, rd_sin, rd_tri, rd_dk, rd_state, rd_cot]
    rfl
  | 1 =>
    show headK _ _ _ _ _ _ _ _ _ _ _ _ _ = _
    rw [headK_apply]
    unfold me mo mq mk
    rw [rd_sec, rd_sec, rd_sec, rd_sec, rd_cos, rd_sin, rd_tri, rd_dk, rd_dk, rd_state, rd_cot, rd_ds]
    rfl
  | 2 =>
    show headV _ _ _ _ _ _ _ _ _ _ _ _ _ = _
    rw [headV_apply]
    unfold me mo mq mk
    rw [rd_sec, rd_sec, rd_sec, rd_sec, rd_cos, rd_sin, rd_tri, rd_dk, rd_dk, rd_state, rd_cot, rd_ds]
    rfl
  | 3 =>
    show headG _ _ _ _ _ _ _ _ _ _ _ = _
    rw [headG_apply]
    unfold mo mq mk
    rw [rd_sec, rd_sec, rd_sec, rd_sec, rd_cos, rd_sin, rd_tri, rd_dk, rd_state, rd_cot]
    rfl

end

theorem stepD_eq (t : Fin cfg0.N) :
    stepD (iblk m c 0 t) (iblk m c 1 t) (iblk m c 2 t) (iblk m c 3 t) (iblk m c 4 t) (iblk m c 5 t) (iblk m c 6 t) (iblk m c 7 t) (before m c t.val)
      = before m c (t.val + 1) :=
  funext fun y => hD_eq m c t (y 0) (y 1) (y 2)

theorem fill_eq : k0_pay3 (F := Ideal) = before m c 0 := by
  funext y
  show _ = (0 : EReal)
  idx_vars y
  unfold k0_pay3
  pointwise

theorem outs_eq (n : ℕ) (hn : n < cfg0.N) : outsAt0 m c n hn
    = (stepP (iblk m c 0 ⟨n, hn⟩) (iblk m c 1 ⟨n, hn⟩) (iblk m c 2 ⟨n, hn⟩) (iblk m c 3 ⟨n, hn⟩) (iblk m c 4 ⟨n, hn⟩) (iblk m c 6 ⟨n, hn⟩) (iblk m c 7 ⟨n, hn⟩) (before m c n),
      stepD (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩)
        (iblk m c 7 ⟨n, hn⟩) (before m c n)) := by
  induction n with
  | zero =>
    refine (outsAt0_A m c ⟨0, hn⟩ rfl).trans ?_
    rw [p_A, d_A, fill_eq m c]
  | succ n ih =>
    have h16 : n + 1 < 16 := hn
    refine (outsAt0_B m c ⟨n + 1, hn⟩ (by dsimp only; omega)).trans ?_
    rw [p_B, d_B]
    have e : (outsAt0 m c ((⟨n + 1, hn⟩ : Fin cfg0.N).val - 1) (Nat.lt_of_le_of_lt (Nat.sub_le _ _) hn)).2 = before m c (n + 1) := by
      have h := ih (Nat.lt_of_succ_lt hn)
      refine (congrArg (fun z => z.2) h).trans ?_
      exact stepD_eq m c ⟨n, Nat.lt_of_succ_lt hn⟩
    rw [e]

theorem arr8 : (dats m 0 c).arrAt 8 cfg0.N
    = W (V m c main_arg0) (V m c main_v15) (V m c main_v17) (V m c main_v41) (V m c main_v62) (V m c main_v67) (stH m c) (V m c main_arg1) := by
  refine (dats m 0 c).arrAt_eq_of_covers 8 _ (by decide +kernel) fun t hf y => ?_
  obtain ⟨e0, e1⟩ := index8 t
  blk_simp
  rw [after0_8]
  idx_vars y
  have hy : y1.val < 2048 := y1.isLt
  obtain ⟨o, h, j, e⟩ : ∃ (o h : Fin 4) (j : Fin 128), y1 = ⟨512 * o.val + 128 * h.val + j.val, by omega⟩ :=
    ⟨⟨y1.val / 512, by omega⟩, ⟨y1.val / 128 % 4, Nat.mod_lt _ (by decide)⟩, ⟨y1.val % 128, Nat.mod_lt _ (by decide)⟩, Fin.ext (by dsimp only; omega)⟩
  rw [outs_eq m c t.val t.isLt]
  dsimp only
  rw [e, stepP_at]
  refine (hP_eq m c t h o y0 j).trans ?_
  refine (W_at _ _ _ _ _ _ _ _ ⟨15 - t.val, by omega⟩ o h y0 j).symm.trans ?_
  congr 1
  blk_ext [e0, e1]

end

end Cert.GradRun

end
-- ==== Proof.GradTab.lean ====
module

public import proofs.«01_k».proof.Proof.RetOut
public import proofs.«01_k».proof.Proof.GradRun

@[expose] public section

/-! # Retention's gradient: the tables and the states the host prepares for the kernel -/

set_option maxRecDepth 65536

noncomputable section

namespace Cert.GradTab

open Cert.Kernel40Ideal Cert.Kernel40Ideal.Gen Idealize.ShloMosaic Idealize.ShloMosaic.Tactic
open Cert.Reference39Ideal.Read Cert.RetHead Cert.RetSpec Cert.RetTab Cert.RetRef Cert.RetOut

/-- One chunk's step of the states, as the host takes it. -/
def stp (g : Vec Ideal S4 .f32) (a b : Vec Ideal S4x1x128x128 .f32) (s : Vec Ideal S4x128x128 .f32) : Vec Ideal S4x128x128 .f32 :=
  addf (F := Ideal) (φ := .f32) (mulf (F := Ideal) (φ := .f32) s (broadcastInDim S4x128x128 ![0, 1, 2] bcast_S4x1x1_S4x128x128_0_1_2 (broadcastInDim S4x1x1 ![0] bcast_S4_S4x1x1_0 g)))
    (Host.dotGeneral (F := Ideal) (φ₁ := .f32) (φ₂ := .f32) dot_S4x128x128_S4x128x128_S4x128x128_1_1_2_2_0_0 none (shapeCast S4x128x128 a shapeCasts_S4x1x128x128_S4x128x128)
      (shapeCast S4x128x128 b shapeCasts_S4x1x128x128_S4x128x128))

theorem stp_at (g : Vec Ideal S4 .f32) (a b : Vec Ideal S4x1x128x128 .f32) (s : Vec Ideal S4x128x128 .f32) (h : Fin 4) (d j : Fin 128) :
    stp g a b s (ix3 h d j) = s (ix3 h d j) * g (ix1 h) + ∑ l, a (ix4 h 0 l d) * b (ix4 h 0 l j) := by
  unfold stp
  pointwise

section
variable (x : Vec Ideal S2048x2048 .f32)

def c0 : Vec Ideal S4x128x128 .f32 := val_main_v119 (F := Ideal)
def c1 : Vec Ideal S4x128x128 .f32 := stp (val_main_v117 (F := Ideal))
  (extractStridedSlice S4x1x128x128 ![0, 0, 0, 0] (val_main_v113 (F := Ideal) x) slices_S4x16x128x128_S4x1x128x128_0_0_0_0)
  (extractStridedSlice S4x1x128x128 ![0, 0, 0, 0] (val_main_v81 (F := Ideal) x) slices_S4x16x128x128_S4x1x128x128_0_0_0_0) c0
def c2 : Vec Ideal S4x128x128 .f32 := stp (val_main_v117 (F := Ideal))
  (extractStridedSlice S4x1x128x128 ![0, 1, 0, 0] (val_main_v113 (F := Ideal) x) slices_S4x16x128x128_S4x1x128x128_0_1_0_0)
  (extractStridedSlice S4x1x128x128 ![0, 1, 0, 0] (val_main_v81 (F := Ideal) x) slices_S4x16x128x128_S4x1x128x128_0_1_0_0) (c1 x)
def c3 : Vec Ideal S4x128x128 .f32 := stp (val_main_v117 (F := Ideal))
  (extractStridedSlice S4x1x128x128 ![0, 2, 0, 0] (val_main_v113 (F := Ideal) x) slices_S4x16x128x128_S4x1x128x128_0_2_0_0)
  (extractStridedSlice S4x1x128x128 ![0, 2, 0, 0] (val_main_v81 (F := Ideal) x) slices_S4x16x128x128_S4x1x128x128_0_2_0_0) (c2 x)
def c4 : Vec Ideal S4x128x128 .f32 := stp (val_main_v117 (F := Ideal))
  (extractStridedSlice S4x1x128x128 ![0, 3, 0, 0] (val_main_v113 (F := Ideal) x) slices_S4x16x128x128_S4x1x128x128_0_3_0_0)
  (extractStridedSlice S4x1x128x128 ![0, 3, 0, 0] (val_main_v81 (F := Ideal) x) slices_S4x16x128x128_S4x1x128x128_0_3_0_0) (c3 x)
def c5 : Vec Ideal S4x128x128 .f32 := stp (val_main_v117 (F := Ideal))
  (extractStridedSlice S4x1x128x128 ![0, 4, 0, 0] (val_main_v113 (F := Ideal) x) slices_S4x16x128x128_S4x1x128x128_0_4_0_0)
  (extractStridedSlice S4x1x128x128 ![0, 4, 0, 0] (val_main_v81 (F := Ideal) x) slices_S4x16x128x128_S4x1x128x128_0_4_0_0) (c4 x)
def c6 : Vec Ideal S4x128x128 .f32 := stp (val_main_v117 (F := Ideal))
  (extractStridedSlice S4x1x128x128 ![0, 5, 0, 0] (val_main_v113 (F := Ideal) x) slices_S4x16x128x128_S4x1x128x128_0_5_0_0)
  (extractStridedSlice S4x1x128x128 ![0, 5, 0, 0] (val_main_v81 (F := Ideal) x) slices_S4x16x128x128_S4x1x128x128_0_5_0_0) (c5 x)
def c7 : Vec Ideal S4x128x128 .f32 := stp (val_main_v117 (F := Ideal))
  (extractStridedSlice S4x1x128x128 ![0, 6, 0, 0] (val_main_v113 (F := Ideal) x) slices_S4x16x128x128_S4x1x128x128_0_6_0_0)
  (extractStridedSlice S4x1x128x128 ![0, 6, 0, 0] (val_main_v81 (F := Ideal) x) slices_S4x16x128x128_S4x1x128x128_0_6_0_0) (c6 x)
def c8 : Vec Ideal S4x128x128 .f32 := stp (val_main_v117 (F := Ideal))
  (extractStridedSlice S4x1x128x128 ![0, 7, 0, 0] (val_main_v113 (F := Ideal) x) slices_S4x16x128x128_S4x1x128x128_0_7_0_0)
  (extractStridedSlice S4x1x128x128 ![0, 7, 0, 0] (val_main_v81 (F := Ideal) x) slices_S4x16x128x128_S4x1x128x128_0_7_0_0) (c7 x)
def c9 : Vec Ideal S4x128x128 .f32 := stp (val_main_v117 (F := Ideal))
  (extractStridedSlice S4x1x128x128 ![0, 8, 0, 0] (val_main_v113 (F := Ideal) x) slices_S4x16x128x128_S4x1x128x128_0_8_0_0)
  (extractStridedSlice S4x1x128x128 ![0, 8, 0, 0] (val_main_v81 (F := Ideal) x) slices_S4x16x128x128_S4x1x128x128_0_8_0_0) (c8 x)
def c10 : Vec Ideal S4x128x128 .f32 := stp (val_main_v117 (F := Ideal))
  (extractStridedSlice S4x1x128x128 ![0, 9, 0, 0] (val_main_v113 (F := Ideal) x) slices_S4x16x128x128_S4x1x128x128_0_9_0_0)
  (extractStridedSlice S4x1x128x128 ![0, 9, 0, 0] (val_main_v81 (F := Ideal) x) slices_S4x16x128x128_S4x1x128x128_0_9_0_0) (c9 x)
def c11 : Vec Ideal S4x128x128 .f32 := stp (val_main_v117 (F := Ideal))
  (extractStridedSlice S4x1x128x128 ![0, 10, 0, 0] (val_main_v113 (F := Ideal) x) slices_S4x16x128x128_S4x1x128x128_0_10_0_0)
  (extractStridedSlice S4x1x128x128 ![0, 10, 0, 0] (val_main_v81 (F := Ideal) x) slices_S4x16x128x128_S4x1x128x128_0_10_0_0) (c10 x)
def c12 : Vec Ideal S4x128x128 .f32 := stp (val_main_v117 (F := Ideal))
  (extractStridedSlice S4x1x128x128 ![0, 11, 0, 0] (val_main_v113 (F := Ideal) x) slices_S4x16x128x128_S4x1x128x128_0_11_0_0)
  (extractStridedSlice S4x1x128x128 ![0, 11, 0, 0] (val_main_v81 (F := Ideal) x) slices_S4x16x128x128_S4x1x128x128_0_11_0_0) (c11 x)
def c13 : Vec Ideal S4x128x128 .f32 := stp (val_main_v117 (F := Ideal))
  (extractStridedSlice S4x1x128x128 ![0, 12, 0, 0] (val_main_v113 (F := Ideal) x) slices_S4x16x128x128_S4x1x128x128_0_12_0_0)
  (extractStridedSlice S4x1x128x128 ![0, 12, 0, 0] (val_main_v81 (F := Ideal) x) slices_S4x16x128x128_S4x1x128x128_0_12_0_0) (c12 x)
def c14 : Vec Ideal S4x128x128 .f32 := stp (val_main_v117 (F := Ideal))
  (extractStridedSlice S4x1x128x128 ![0, 13, 0, 0] (val_main_v113 (F := Ideal) x) slices_S4x16x128x128_S4x1x128x128_0_13_0_0)
  (extractStridedSlice S4x1x128x128 ![0, 13, 0, 0] (val_main_v81 (F := Ideal) x) slices_S4x16x128x128_S4x1x128x128_0_13_0_0) (c13 x)
def c15 : Vec Ideal S4x128x128 .f32 := stp (val_main_v117 (F := Ideal))
  (extractStridedSlice S4x1x128x128 ![0, 14, 0, 0] (val_main_v113 (F := Ideal) x) slices_S4x16x128x128_S4x1x128x128_0_14_0_0)
  (extractStridedSlice S4x1x128x128 ![0, 14, 0, 0] (val_main_v81 (F := Ideal) x) slices_S4x16x128x128_S4x1x128x128_0_14_0_0) (c14 x)

def up (s : Vec Ideal S4x128x128 .f32) : Vec Ideal S1x4x128x128 .f32 := broadcastInDim S1x4x128x128 ![1, 2, 3] bcast_S4x128x128_S1x4x128x128_1_2_3 s

theorem up_at (s : Vec Ideal S4x128x128 .f32) (h : Fin 4) (d j : Fin 128) : up s (ix4 0 h d j) = s (ix3 h d j) := by
  unfold up
  pointwise

theorem pile_of (z : Fin 16 → Vec Ideal S1x4x128x128 .f32) (n : Fin 16) (h : Fin 4) (d j : Fin 128) :
    concatenate (α := Elt Ideal .f32) S16x4x128x128 0 [⟨S1x4x128x128, z 0⟩, ⟨S1x4x128x128, z 1⟩, ⟨S1x4x128x128, z 2⟩, ⟨S1x4x128x128, z 3⟩, ⟨S1x4x128x128, z 4⟩, ⟨S1x4x128x128, z 5⟩, ⟨S1x4x128x128, z 6⟩, ⟨S1x4x128x128, z 7⟩, ⟨S1x4x128x128, z 8⟩, ⟨S1x4x128x128, z 9⟩, ⟨S1x4x128x128, z 10⟩, ⟨S1x4x128x128, z 11⟩, ⟨S1x4x128x128, z 12⟩, ⟨S1x4x128x128, z 13⟩, ⟨S1x4x128x128, z 14⟩, ⟨S1x4x128x128, z 15⟩] concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0 (ix4 n h d j) = z n (ix4 0 h d j) := by
  fin_cases n <;> pointwise

/-- The sixteen states, one after another. -/
def pile : Vec Ideal S16x4x128x128 .f32 := concatenate (α := Elt Ideal .f32) S16x4x128x128 0 [⟨S1x4x128x128, up c0⟩, ⟨S1x4x128x128, up (c1 x)⟩, ⟨S1x4x128x128, up (c2 x)⟩, ⟨S1x4x128x128, up (c3 x)⟩, ⟨S1x4x128x128, up (c4 x)⟩, ⟨S1x4x128x128, up (c5 x)⟩, ⟨S1x4x128x128, up (c6 x)⟩, ⟨S1x4x128x128, up (c7 x)⟩, ⟨S1x4x128x128, up (c8 x)⟩, ⟨S1x4x128x128, up (c9 x)⟩, ⟨S1x4x128x128, up (c10 x)⟩, ⟨S1x4x128x128, up (c11 x)⟩, ⟨S1x4x128x128, up (c12 x)⟩, ⟨S1x4x128x128, up (c13 x)⟩, ⟨S1x4x128x128, up (c14 x)⟩, ⟨S1x4x128x128, up (c15 x)⟩] concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0

theorem c0_at (h : Fin 4) (d j : Fin 128) : c0 (ix3 h d j) = stG x cosT sinT tabT decT 0 h d j := st0_at x h d j
theorem c1_at (h : Fin 4) (d j : Fin 128) : c1 x (ix3 h d j) = stG x cosT sinT tabT decT 1 h d j := by
  unfold c1
  rw [stp_at, c0_at x]
  refine congrArg (_ + ·) ((Finset.sum_congr rfl fun l _ => ?_).trans ((v114_at x h 0 d j).symm.trans (add_at x h 0 d j)))
  generalize val_main_v113 (F := Ideal) x = a
  generalize val_main_v81 (F := Ideal) x = b
  pointwise
theorem c2_at (h : Fin 4) (d j : Fin 128) : c2 x (ix3 h d j) = stG x cosT sinT tabT decT 2 h d j := by
  unfold c2
  rw [stp_at, c1_at x]
  refine congrArg (_ + ·) ((Finset.sum_congr rfl fun l _ => ?_).trans ((v114_at x h 1 d j).symm.trans (add_at x h 1 d j)))
  generalize val_main_v113 (F := Ideal) x = a
  generalize val_main_v81 (F := Ideal) x = b
  pointwise
theorem c3_at (h : Fin 4) (d j : Fin 128) : c3 x (ix3 h d j) = stG x cosT sinT tabT decT 3 h d j := by
  unfold c3
  rw [stp_at, c2_at x]
  refine congrArg (_ + ·) ((Finset.sum_congr rfl fun l _ => ?_).trans ((v114_at x h 2 d j).symm.trans (add_at x h 2 d j)))
  generalize val_main_v113 (F := Ideal) x = a
  generalize val_main_v81 (F := Ideal) x = b
  pointwise
theorem c4_at (h : Fin 4) (d j : Fin 128) : c4 x (ix3 h d j) = stG x cosT sinT tabT decT 4 h d j := by
  unfold c4
  rw [stp_at, c3_at x]
  refine congrArg (_ + ·) ((Finset.sum_congr rfl fun l _ => ?_).trans ((v114_at x h 3 d j).symm.trans (add_at x h 3 d j)))
  generalize val_main_v113 (F := Ideal) x = a
  generalize val_main_v81 (F := Ideal) x = b
  pointwise
theorem c5_at (h : Fin 4) (d j : Fin 128) : c5 x (ix3 h d j) = stG x cosT sinT tabT decT 5 h d j := by
  unfold c5
  rw [stp_at, c4_at x]
  refine congrArg (_ + ·) ((Finset.sum_congr rfl fun l _ => ?_).trans ((v114_at x h 4 d j).symm.trans (add_at x h 4 d j)))
  generalize val_main_v113 (F := Ideal) x = a
  generalize val_main_v81 (F := Ideal) x = b
  pointwise
theorem c6_at (h : Fin 4) (d j : Fin 128) : c6 x (ix3 h d j) = stG x cosT sinT tabT decT 6 h d j := by
  unfold c6
  rw [stp_at, c5_at x]
  refine congrArg (_ + ·) ((Finset.sum_congr rfl fun l _ => ?_).trans ((v114_at x h 5 d j).symm.trans (add_at x h 5 d j)))
  generalize val_main_v113 (F := Ideal) x = a
  generalize val_main_v81 (F := Ideal) x = b
  pointwise
theorem c7_at (h : Fin 4) (d j : Fin 128) : c7 x (ix3 h d j) = stG x cosT sinT tabT decT 7 h d j := by
  unfold c7
  rw [stp_at, c6_at x]
  refine congrArg (_ + ·) ((Finset.sum_congr rfl fun l _ => ?_).trans ((v114_at x h 6 d j).symm.trans (add_at x h 6 d j)))
  generalize val_main_v113 (F := Ideal) x = a
  generalize val_main_v81 (F := Ideal) x = b
  pointwise
theorem c8_at (h : Fin 4) (d j : Fin 128) : c8 x (ix3 h d j) = stG x cosT sinT tabT decT 8 h d j := by
  unfold c8
  rw [stp_at, c7_at x]
  refine congrArg (_ + ·) ((Finset.sum_congr rfl fun l _ => ?_).trans ((v114_at x h 7 d j).symm.trans (add_at x h 7 d j)))
  generalize val_main_v113 (F := Ideal) x = a
  generalize val_main_v81 (F := Ideal) x = b
  pointwise
theorem c9_at (h : Fin 4) (d j : Fin 128) : c9 x (ix3 h d j) = stG x cosT sinT tabT decT 9 h d j := by
  unfold c9
  rw [stp_at, c8_at x]
  refine congrArg (_ + ·) ((Finset.sum_congr rfl fun l _ => ?_).trans ((v114_at x h 8 d j).symm.trans (add_at x h 8 d j)))
  generalize val_main_v113 (F := Ideal) x = a
  generalize val_main_v81 (F := Ideal) x = b
  pointwise
theorem c10_at (h : Fin 4) (d j : Fin 128) : c10 x (ix3 h d j) = stG x cosT sinT tabT decT 10 h d j := by
  unfold c10
  rw [stp_at, c9_at x]
  refine congrArg (_ + ·) ((Finset.sum_congr rfl fun l _ => ?_).trans ((v114_at x h 9 d j).symm.trans (add_at x h 9 d j)))
  generalize val_main_v113 (F := Ideal) x = a
  generalize val_main_v81 (F := Ideal) x = b
  pointwise
theorem c11_at (h : Fin 4) (d j : Fin 128) : c11 x (ix3 h d j) = stG x cosT sinT tabT decT 11 h d j := by
  unfold c11
  rw [stp_at, c10_at x]
  refine congrArg (_ + ·) ((Finset.sum_congr rfl fun l _ => ?_).trans ((v114_at x h 10 d j).symm.trans (add_at x h 10 d j)))
  generalize val_main_v113 (F := Ideal) x = a
  generalize val_main_v81 (F := Ideal) x = b
  pointwise
theorem c12_at (h : Fin 4) (d j : Fin 128) : c12 x (ix3 h d j) = stG x cosT sinT tabT decT 12 h d j := by
  unfold c12
  rw [stp_at, c11_at x]
  refine congrArg (_ + ·) ((Finset.sum_congr rfl fun l _ => ?_).trans ((v114_at x h 11 d j).symm.trans (add_at x h 11 d j)))
  generalize val_main_v113 (F := Ideal) x = a
  generalize val_main_v81 (F := Ideal) x = b
  pointwise
theorem c13_at (h : Fin 4) (d j : Fin 128) : c13 x (ix3 h d j) = stG x cosT sinT tabT decT 13 h d j := by
  unfold c13
  rw [stp_at, c12_at x]
  refine congrArg (_ + ·) ((Finset.sum_congr rfl fun l _ => ?_).trans ((v114_at x h 12 d j).symm.trans (add_at x h 12 d j)))
  generalize val_main_v113 (F := Ideal) x = a
  generalize val_main_v81 (F := Ideal) x = b
  pointwise
theorem c14_at (h : Fin 4) (d j : Fin 128) : c14 x (ix3 h d j) = stG x cosT sinT tabT decT 14 h d j := by
  unfold c14
  rw [stp_at, c13_at x]
  refine congrArg (_ + ·) ((Finset.sum_congr rfl fun l _ => ?_).trans ((v114_at x h 13 d j).symm.trans (add_at x h 13 d j)))
  generalize val_main_v113 (F := Ideal) x = a
  generalize val_main_v81 (F := Ideal) x = b
  pointwise
theorem c15_at (h : Fin 4) (d j : Fin 128) : c15 x (ix3 h d j) = stG x cosT sinT tabT decT 15 h d j := by
  unfold c15
  rw [stp_at, c14_at x]
  refine congrArg (_ + ·) ((Finset.sum_congr rfl fun l _ => ?_).trans ((v114_at x h 14 d j).symm.trans (add_at x h 14 d j)))
  generalize val_main_v113 (F := Ideal) x = a
  generalize val_main_v81 (F := Ideal) x = b
  pointwise

theorem pile_at (n : Fin 16) (h : Fin 4) (d j : Fin 128) : pile x (ix4 n h d j) = stG x cosT sinT tabT decT n.val h d j := by
  refine (pile_of ![up c0, up (c1 x), up (c2 x), up (c3 x), up (c4 x), up (c5 x), up (c6 x), up (c7 x), up (c8 x), up (c9 x), up (c10 x), up (c11 x), up (c12 x), up (c13 x), up (c14 x), up (c15 x)] n h d j).trans ?_
  fin_cases n
  · exact (up_at c0 h d j).trans (c0_at x h d j)
  · exact (up_at (c1 x) h d j).trans (c1_at x h d j)
  · exact (up_at (c2 x) h d j).trans (c2_at x h d j)
  · exact (up_at (c3 x) h d j).trans (c3_at x h d j)
  · exact (up_at (c4 x) h d j).trans (c4_at x h d j)
  · exact (up_at (c5 x) h d j).trans (c5_at x h d j)
  · exact (up_at (c6 x) h d j).trans (c6_at x h d j)
  · exact (up_at (c7 x) h d j).trans (c7_at x h d j)
  · exact (up_at (c8 x) h d j).trans (c8_at x h d j)
  · exact (up_at (c9 x) h d j).trans (c9_at x h d j)
  · exact (up_at (c10 x) h d j).trans (c10_at x h d j)
  · exact (up_at (c11 x) h d j).trans (c11_at x h d j)
  · exact (up_at (c12 x) h d j).trans (c12_at x h d j)
  · exact (up_at (c13 x) h d j).trans (c13_at x h d j)
  · exact (up_at (c14 x) h d j).trans (c14_at x h d j)
  · exact (up_at (c15 x) h d j).trans (c15_at x h d j)
end

section
variable (m : (ℓ : Loc nD τ sig) → Buf (Elt Ideal) ℓ) (c : Dev nD)

theorem v15_eq : V m c main_v15 = cosT := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  exact funext (cos_cat (val_main_v18 (F := Ideal)) _)

theorem v17_eq : V m c main_v17 = sinT := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  exact funext (sin_cat (val_main_v20 (F := Ideal)) _)

theorem v41_eq : V m c main_v41 = val_main_v97 (F := Ideal) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  rfl

theorem v62_eq : V m c main_v62 = tabT := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  exact funext (tab_cat (val_main_v73 (F := Ideal)) (val_main_v105 (F := Ideal)) (val_main_v219 (F := Ideal)))

theorem v67_eq : V m c main_v67 = decT := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  exact funext (dec_cat (val_main_v117 (F := Ideal)))

end

end Cert.GradTab

end
-- ==== Proof.GradCut.lean ====
module

public import proofs.«01_k».proof.Proof.GradTab

@[expose] public section

/-! # Retention's gradient: the host's states, put together -/

set_option maxRecDepth 65536

noncomputable section

namespace Cert.GradCut

open Cert.Kernel40Ideal Cert.Kernel40Ideal.Gen Idealize.ShloMosaic Idealize.ShloMosaic.Tactic
open Cert.RetSpec Cert.RetTab Cert.GradTab

/-- The host's operations up to the last state, before the states are put together. -/
def cutOps : List (HloOp τ sig (Elt Ideal)) := List.flatten [hostOps0, hostOps0_1, hostOps0_2, hostOps0_3, List.take 256 hostOps0_4]

def cat (z : Fin 16 → Vec Ideal S1x4x128x128 .f32) : Vec Ideal S16x4x128x128 .f32 :=
  concatenate (α := Elt Ideal .f32) S16x4x128x128 0 [⟨S1x4x128x128, z 0⟩, ⟨S1x4x128x128, z 1⟩, ⟨S1x4x128x128, z 2⟩, ⟨S1x4x128x128, z 3⟩, ⟨S1x4x128x128, z 4⟩, ⟨S1x4x128x128, z 5⟩, ⟨S1x4x128x128, z 6⟩, ⟨S1x4x128x128, z 7⟩, ⟨S1x4x128x128, z 8⟩, ⟨S1x4x128x128, z 9⟩, ⟨S1x4x128x128, z 10⟩, ⟨S1x4x128x128, z 11⟩, ⟨S1x4x128x128, z 12⟩, ⟨S1x4x128x128, z 13⟩, ⟨S1x4x128x128, z 14⟩, ⟨S1x4x128x128, z 15⟩] concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0

theorem last (G : Valuation τ sig (Elt Ideal)) : StableHlo.after (List.drop 256 (hostOps0_4 (F := Ideal))) G (Proc.devRef .tc main_v309)
    = cat ![up (G (Proc.devRef .tc main_v164)), up (G (Proc.devRef .tc main_v172)), up (G (Proc.devRef .tc main_v180)), up (G (Proc.devRef .tc main_v188)), up (G (Proc.devRef .tc main_v196)), up (G (Proc.devRef .tc main_v204)), up (G (Proc.devRef .tc main_v212)), up (G (Proc.devRef .tc main_v220)), up (G (Proc.devRef .tc main_v228)), up (G (Proc.devRef .tc main_v236)), up (G (Proc.devRef .tc main_v244)), up (G (Proc.devRef .tc main_v252)), up (G (Proc.devRef .tc main_v260)), up (G (Proc.devRef .tc main_v268)), up (G (Proc.devRef .tc main_v276)), up (G (Proc.devRef .tc main_v284))] := by
  simp only [hostOps0_4, List.drop_succ_cons, List.drop_zero]
  simp only [StableHlo.after_cons, StableHlo.after_nil]
  after_results_simp
  rfl

theorem after_app (a b : List (HloOp τ sig (Elt Ideal))) (G : Valuation τ sig (Elt Ideal)) :
    StableHlo.after (a ++ b) G = StableHlo.after b (StableHlo.after a G) := by
  induction a generalizing G with
  | nil => rfl
  | cons p a h => exact h _

variable (m : (ℓ : Loc nD τ sig) → Buf (Elt Ideal) ℓ) (c : Dev nD)

theorem v309_cut : V m c main_v309 = StableHlo.after (List.drop 256 (hostOps0_4 (F := Ideal))) (StableHlo.after cutOps (fun b => m (c, b))) (Proc.devRef .tc main_v309) := by
  rw [← after_app]
  show StableHlo.after (List.flatten [hostOps0, hostOps0_1, hostOps0_2, hostOps0_3, hostOps0_4]) (fun b => m (c, b)) _ = _
  unfold cutOps
  simp only [List.flatten_cons, List.flatten_nil, List.append_nil, List.append_assoc, List.take_append_drop]

end Cert.GradCut

end
-- ==== Proof.GradHostA.lean ====
module

public import proofs.«01_k».proof.Proof.GradCut

@[expose] public section

/-! # Retention's gradient: the host's states, read one by one -/

set_option maxRecDepth 65536

noncomputable section

namespace Cert.GradHostA

open Cert.Kernel40Ideal Cert.Kernel40Ideal.Gen Idealize.ShloMosaic Idealize.ShloMosaic.Tactic
open Cert.RetSpec Cert.RetTab Cert.GradTab

open Cert.GradCut

variable (m : (ℓ : Loc nD τ sig) → Buf (Elt Ideal) ℓ) (c : Dev nD)

set_option maxHeartbeats 4000000 in
theorem st0 : StableHlo.after cutOps (fun b => m (c, b)) (Proc.devRef .tc main_v164) = c0 := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st3 : StableHlo.after cutOps (fun b => m (c, b)) (Proc.devRef .tc main_v188) = c3 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st6 : StableHlo.after cutOps (fun b => m (c, b)) (Proc.devRef .tc main_v212) = c6 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st9 : StableHlo.after cutOps (fun b => m (c, b)) (Proc.devRef .tc main_v236) = c9 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st12 : StableHlo.after cutOps (fun b => m (c, b)) (Proc.devRef .tc main_v260) = c12 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st15 : StableHlo.after cutOps (fun b => m (c, b)) (Proc.devRef .tc main_v284) = c15 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

end Cert.GradHostA

end
-- ==== Proof.GradHostB.lean ====
module

public import proofs.«01_k».proof.Proof.GradCut

@[expose] public section

/-! # Retention's gradient: the host's states, read one by one -/

set_option maxRecDepth 65536

noncomputable section

namespace Cert.GradHostB

open Cert.Kernel40Ideal Cert.Kernel40Ideal.Gen Idealize.ShloMosaic Idealize.ShloMosaic.Tactic
open Cert.RetSpec Cert.RetTab Cert.GradTab

open Cert.GradCut

variable (m : (ℓ : Loc nD τ sig) → Buf (Elt Ideal) ℓ) (c : Dev nD)

set_option maxHeartbeats 4000000 in
theorem st1 : StableHlo.after cutOps (fun b => m (c, b)) (Proc.devRef .tc main_v172) = c1 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st4 : StableHlo.after cutOps (fun b => m (c, b)) (Proc.devRef .tc main_v196) = c4 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st7 : StableHlo.after cutOps (fun b => m (c, b)) (Proc.devRef .tc main_v220) = c7 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st10 : StableHlo.after cutOps (fun b => m (c, b)) (Proc.devRef .tc main_v244) = c10 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st13 : StableHlo.after cutOps (fun b => m (c, b)) (Proc.devRef .tc main_v268) = c13 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

end Cert.GradHostB

end
-- ==== Proof.GradHostC.lean ====
module

public import proofs.«01_k».proof.Proof.GradCut

@[expose] public section

/-! # Retention's gradient: the host's states, read one by one -/

set_option maxRecDepth 65536

noncomputable section

namespace Cert.GradHostC

open Cert.Kernel40Ideal Cert.Kernel40Ideal.Gen Idealize.ShloMosaic Idealize.ShloMosaic.Tactic
open Cert.RetSpec Cert.RetTab Cert.GradTab

open Cert.GradCut

variable (m : (ℓ : Loc nD τ sig) → Buf (Elt Ideal) ℓ) (c : Dev nD)

set_option maxHeartbeats 4000000 in
theorem st2 : StableHlo.after cutOps (fun b => m (c, b)) (Proc.devRef .tc main_v180) = c2 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st5 : StableHlo.after cutOps (fun b => m (c, b)) (Proc.devRef .tc main_v204) = c5 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st8 : StableHlo.after cutOps (fun b => m (c, b)) (Proc.devRef .tc main_v228) = c8 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st11 : StableHlo.after cutOps (fun b => m (c, b)) (Proc.devRef .tc main_v252) = c11 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

set_option maxHeartbeats 4000000 in
theorem st14 : StableHlo.after cutOps (fun b => m (c, b)) (Proc.devRef .tc main_v276) = c14 (V m c main_arg0) := by
  simp only [cutOps, hostOps0, hostOps0_1, hostOps0_2, hostOps0_3, hostOps0_4, List.take_succ_cons, List.take_zero, List.flatten_cons, List.flatten_nil, List.append_nil, List.cons_append, List.nil_append]
  after_results
  all_goals rfl

end Cert.GradHostC

end
-- ==== Proof.GradHost.lean ====
module

public import proofs.«01_k».proof.Proof.GradHostA
public import proofs.«01_k».proof.Proof.GradHostB
public import proofs.«01_k».proof.Proof.GradHostC

@[expose] public section

/-! # Retention's gradient: the host's states are the reference's -/

set_option maxRecDepth 65536

noncomputable section

namespace Cert.GradHost

open Cert.Kernel40Ideal Cert.Kernel40Ideal.Gen Idealize.ShloMosaic Idealize.ShloMosaic.Tactic
open Cert.RetSpec Cert.RetTab Cert.GradTab

variable (m : (ℓ : Loc nD τ sig) → Buf (Elt Ideal) ℓ) (c : Dev nD)

theorem v309_eq : V m c main_v309 = pile (V m c main_arg0) := by
  rw [GradCut.v309_cut, GradCut.last, GradHostA.st0, GradHostB.st1, GradHostC.st2, GradHostA.st3, GradHostB.st4, GradHostC.st5, GradHostA.st6, GradHostB.st7, GradHostC.st8, GradHostA.st9, GradHostB.st10, GradHostC.st11, GradHostA.st12, GradHostB.st13, GradHostC.st14, GradHostA.st15]
  rfl

/-- The host's states are the reference's. -/
theorem states_eq (n : ℕ) (hn : n < 16) (h : Fin 4) : GradRun.stH m c n h = stG (V m c main_arg0) cosT sinT tabT decT n h := by
  funext d j
  unfold GradRun.stH
  rw [v309_eq]
  have e : (⟨n % 16, Nat.mod_lt _ (by decide)⟩ : Fin 16) = ⟨n, hn⟩ := Fin.ext (Nat.mod_eq_of_lt hn)
  rw [e]
  exact pile_at _ ⟨n, hn⟩ h d j

end Cert.GradHost

end
-- ==== Proof.GradSame.lean ====
module

public import proofs.«01_k».proof.Proof.RetOut
public import proofs.«01_k».proof.Proof.Gen.Reference40Ideal.Read

@[expose] public section

/-! # Retention's gradient: the forward pass inside the reference is the forward program's -/

set_option maxRecDepth 16384

noncomputable section

namespace Cert.GradSame

open Idealize.ShloMosaic
open Cert.Reference40Ideal.Read

theorem v18_eq : val_main_v18 (F := Ideal) = Reference39Ideal.Read.val_main_v18 := rfl
theorem v20_eq : val_main_v20 (F := Ideal) = Reference39Ideal.Read.val_main_v20 := rfl
theorem v48_eq : val_main_v48 (F := Ideal) = Reference39Ideal.Read.val_main_v18 := rfl
theorem v50_eq : val_main_v50 (F := Ideal) = Reference39Ideal.Read.val_main_v20 := rfl
theorem v73_eq : val_main_v73 (F := Ideal) = Reference39Ideal.Read.val_main_v73 := rfl
theorem v97_eq : val_main_v97 (F := Ideal) = Reference39Ideal.Read.val_main_v97 := rfl
theorem v105_eq : val_main_v105 (F := Ideal) = Reference39Ideal.Read.val_main_v105 := rfl
theorem v220_eq : val_main_v220 (F := Ideal) = Reference39Ideal.Read.val_main_v219 := rfl
theorem v117_eq : val_main_v117 (F := Ideal) = Reference39Ideal.Read.val_main_v117 := rfl

section
variable (x : Vec Ideal Reference40Ideal.S2048x2048 .f32)
theorem v75_eq : val_main_v75 (F := Ideal) x = Reference39Ideal.Read.val_main_v75 x := rfl
theorem v79_eq : val_main_v79 (F := Ideal) x = Reference39Ideal.Read.val_main_v79 x := rfl
theorem v81_eq : val_main_v81 (F := Ideal) x = Reference39Ideal.Read.val_main_v81 x := rfl
theorem v101_eq : val_main_v101 (F := Ideal) x = Reference39Ideal.Read.val_main_v101 x := rfl
theorem v113_eq : val_main_v113 (F := Ideal) x = Reference39Ideal.Read.val_main_v113 x := rfl
theorem v216_eq : val_main_v216 (F := Ideal) x = Reference39Ideal.Read.val_main_v216 x := rfl
theorem v228_eq : val_main_v228 (F := Ideal) x = Reference39Ideal.Read.val_main_v227 x := rfl
theorem v230_eq : val_main_v230 (F := Ideal) x = Reference39Ideal.Read.val_main_v229 x := rfl
end

end Cert.GradSame

end
-- ==== Proof.GradReal.lean ====
module

public import proofs.«01_k».proof.Proof.GradHead
public import proofs.«01_k».proof.Proof.NormGrad

@[expose] public section

/-! # Retention's gradient: where the kernel's formulas and the chain rule's agree -/

noncomputable section

namespace Cert.GradReal

open Idealize.ShloMosaic Cert.RetHead Cert.GradHead
open Cert.NormGrad (mhalf mhalf_eq eps_eq square_nonneg mul_sum_real)

abbrev two : EReal := Scalar.ofBits (F := Ideal) .f32 0x40000000#32

theorem len_eq : len = ((128 : ℝ) : EReal) := by
  show Ideal.ofBits .f32 0x43000000#32 = _
  simp [Ideal.ofBits, Ideal.ieee, -EReal.coe_mul]; norm_num

theorem one_eq : one = 1 := by
  show Ideal.ofBits .f32 0x3F800000#32 = _
  simp [Ideal.ofBits, Ideal.ieee, -EReal.coe_mul]; norm_num

theorem two_eq : two = ((2 : ℝ) : EReal) := by
  show Ideal.ofBits .f32 0x40000000#32 = _
  simp [Ideal.ofBits, Ideal.ieee, -EReal.coe_mul]; norm_num

theorem mhalf_two : mhalf * two = -1 := by
  rw [mhalf_eq, two_eq, ← EReal.coe_mul]
  norm_num

theorem div_len (u : EReal) : Ideal.div u len = u * ((128⁻¹ : ℝ) : EReal) := by
  rw [len_eq, EReal.coe_inv]
  unfold Ideal.div
  rw [if_neg (by exact_mod_cast (by norm_num : (128 : ℝ) ≠ 0))]

/-- The mean of a row's squares, and the constant. -/
def var (o : Mat) (i : Fin 128) : EReal := Ideal.div (∑ j, o i j * o i j) len + eps

/-- It is infinite, or the row is real and it is a positive real. -/
theorem var_cases (o : Mat) (i : Fin 128) : var o i = ⊤ ∨ ∃ v : ℝ, 0 < v ∧ var o i = (v : EReal) ∧ ∀ j, ∃ r : ℝ, o i j = r := by
  have h : 0 ≤ ∑ k, o i k * o i k := Finset.sum_nonneg fun k _ => square_nonneg (o i k)
  have hp : (0 : EReal) < ((128⁻¹ : ℝ) : EReal) := by exact_mod_cast (by norm_num : (0 : ℝ) < 128⁻¹)
  have hle (j : Fin 128) : o i j * o i j ≤ ∑ k, o i k * o i k :=
    Finset.single_le_sum (f := fun k => o i k * o i k) (fun k _ => square_nonneg (o i k)) (Finset.mem_univ j)
  unfold var
  rw [div_len, show eps = _ from eps_eq]
  generalize (∑ k, o i k * o i k) = u at h hle
  induction u with
  | bot => simp at h
  | top => exact .inl (by rw [EReal.top_mul_of_pos hp]; exact EReal.top_add_coe _)
  | coe u =>
    have hu : 0 ≤ u := by exact_mod_cast h
    refine .inr ⟨u * 128⁻¹ + 8796093 / 2 ^ 43, by positivity, by rw [EReal.coe_add, EReal.coe_mul], fun j => ?_⟩
    have hj := hle j
    generalize o i j = z at hj
    induction z with
    | bot => exact absurd (lt_of_lt_of_le (EReal.coe_lt_top u) (by rwa [EReal.bot_mul_bot] at hj)) (lt_irrefl _)
    | top => exact absurd (lt_of_lt_of_le (EReal.coe_lt_top u) (by rwa [EReal.top_mul_top] at hj)) (lt_irrefl _)
    | coe r => exact ⟨r, rfl⟩

theorem inv_of_top {o : Mat} {i : Fin 128} (h : var o i = ⊤) : RetHead.inv o i = 0 := by
  show Ideal.rsqrt (var o i) = 0
  rw [h]; rfl

theorem inv_of_real {o : Mat} {i : Fin 128} {v : ℝ} (hv : 0 < v) (h : var o i = (v : EReal)) :
    ∃ r : ℝ, 0 < r ∧ r * r = v⁻¹ ∧ RetHead.inv o i = (r : EReal) := by
  refine ⟨(Real.sqrt v)⁻¹, inv_pos.mpr (Real.sqrt_pos.mpr hv), by rw [← mul_inv, Real.mul_self_sqrt hv.le], ?_⟩
  show Ideal.rsqrt (var o i) = _
  unfold Ideal.rsqrt
  rw [h]
  show (if v < 0 then _ else if v = 0 then _ else _) = _
  rw [if_neg hv.not_gt, if_neg hv.ne']

theorem hat_real (o : Mat) (i j : Fin 128) : ∃ r : ℝ, hat o i j = r := by
  unfold hat
  rcases var_cases o i with h | ⟨v, hv, h, hr⟩
  · exact ⟨0, by rw [inv_of_top h, mul_zero]; rfl⟩
  · obtain ⟨r, _, _, e⟩ := inv_of_real hv h
    obtain ⟨s, es⟩ := hr j
    exact ⟨s * r, by rw [e, es, EReal.coe_mul]⟩

/-- The norm's gradient. -/
theorem dOut_eq (o g dy : Mat) (i j : Fin 128) :
    dNorm g dy i j * RetHead.inv o i + Ideal.div ((∑ k, o i k * dNorm g dy i k) * (mhalf * Ideal.div (RetHead.inv o i) (var o i))) len * (two * o i j) = dOut o g dy i j := by
  unfold dOut hat
  generalize dNorm g dy = t
  rcases var_cases o i with h | ⟨v, hv, h, -⟩
  · rw [inv_of_top h, h, div_len]
    unfold Ideal.div
    rw [if_neg (by simp)]
    simp
  · obtain ⟨r, hr0, hrr, hr⟩ := inv_of_real hv h
    have hd : Ideal.div (RetHead.inv o i) (var o i) = ((r * (r * r) : ℝ) : EReal) := by
      rw [hr, h, hrr, EReal.coe_mul, EReal.coe_inv]
      unfold Ideal.div
      rw [if_neg (by exact_mod_cast hv.ne')]
    have hsum : ∑ k, t i k * (o i k * RetHead.inv o i) = (r : EReal) * ∑ k, o i k * t i k := by
      rw [← mul_sum_real r hr0, hr]
      exact Finset.sum_congr rfl fun k _ => by ac_rfl
    rw [hsum, hd, hr, div_len, div_len, sub_eq_add_neg,
      EReal.left_distrib_of_nonneg_of_ne_top (by exact_mod_cast hr0.le) (EReal.coe_ne_top r), mul_comm (t i j)]
    congr 1
    generalize ∑ k, o i k * t i k = s
    rw [EReal.coe_mul, EReal.coe_mul, mul_neg, ← neg_one_mul, ← mhalf_two]
    ac_rfl

theorem sig_real (g : EReal) : ∃ r : ℝ, sig g = r := by
  unfold sig Ideal.div
  have he : (0 : EReal) ≤ Ideal.exp (-g) := by
    induction g using EReal.rec with
    | bot => exact le_top
    | top => exact le_refl _
    | coe r => exact EReal.coe_nonneg.mpr (Real.exp_pos (-r)).le
  have h1 : (1 : EReal) ≤ 1 + Ideal.exp (-g) := le_add_of_nonneg_right he
  rw [one_eq]
  generalize 1 + Ideal.exp (-g) = x at h1
  have h0 : x ≠ 0 := fun h => by rw [h] at h1; exact absurd h1 (by norm_num)
  rw [if_neg h0, one_mul]
  induction x using EReal.rec with
  | bot => exact absurd (le_bot_iff.mp h1) (by decide)
  | coe r => exact ⟨r⁻¹, (EReal.coe_inv r).symm⟩
  | top => exact ⟨0, by rw [EReal.inv_top]; rfl⟩

theorem real_mul_one_add (a : ℝ) (c : EReal) : (a : EReal) * (1 + c) = a + a * c := by
  induction c using EReal.rec with
  | bot =>
    rcases lt_trichotomy a 0 with h | h | h
    · rw [EReal.add_bot, EReal.coe_mul_bot_of_neg h, EReal.coe_add_top]
    · subst h; simp
    · rw [EReal.add_bot, EReal.coe_mul_bot_of_pos h, EReal.add_bot]
  | top =>
    have h1 : (1 : EReal) + ⊤ = ⊤ := EReal.coe_add_top 1
    rcases lt_trichotomy a 0 with h | h | h
    · rw [h1, EReal.coe_mul_top_of_neg h, EReal.add_bot]
    · subst h; simp
    · rw [h1, EReal.coe_mul_top_of_pos h, EReal.coe_add_top]
  | coe r => rw [← EReal.coe_one]; norm_cast; ring

/-- The gate's gradient, for a real cotangent. -/
theorem dGate_eq (o g dy : Mat) (i j : Fin 128) (hd : ∃ r : ℝ, dy i j = r) :
    hat o i j * dy i j * sig (g i j) + g i j * (hat o i j * dy i j) * (sig (g i j) * (one - sig (g i j))) = dGate o g dy i j := by
  obtain ⟨d, hd⟩ := hd
  obtain ⟨v, hv⟩ := hat_real o i j
  obtain ⟨r, hr⟩ := sig_real (g i j)
  unfold dGate
  rw [hd, hv, hr, one_eq]
  have h := real_mul_one_add (d * v * r) (g i j * (1 - r))
  rw [EReal.coe_mul, EReal.coe_mul] at h
  rw [h]
  congr 1 <;> ac_rfl

end Cert.GradReal

end
-- ==== Proof.GradRef.lean ====
module

public import proofs.«01_k».proof.Proof.GradSame
public import proofs.«01_k».proof.Proof.GradReal
public import proofs.«01_k».proof.Proof.GradSpec

@[expose] public section

/-! # Retention's gradient: the reference through the gate and the norm -/

set_option maxRecDepth 16384

noncomputable section

namespace Cert.GradRef

open Cert.Reference40Ideal Idealize.ShloMosaic Idealize.ShloMosaic.Tactic
open Cert.Reference40Ideal.Read Cert.RetHead Cert.RetSpec Cert.RetTab Cert.GradHead Cert.GradSpec Cert.GradSame
open Cert.GradReal (var two)
open Cert.NormGrad (mhalf)

abbrev D : Vec Ideal S4x128x128 .f32 := Reference39Ideal.Read.val_main_v97 (F := Ideal)

section
variable (x : Vec Ideal S2048x2048 .f32) (y : Vec Ideal S2048x1024 .f32)

abbrev oR (n : ℕ) (h : Fin 4) : Mat := oG x cosT sinT D tabT (stG x cosT sinT tabT decT) n h
abbrev eR (n : ℕ) (h : Fin 4) : Mat := eG x cosT sinT D tabT (stG x cosT sinT tabT decT) y n h

theorem row_mk (n : Fin 16) (i : Fin 128) : row n.val i = ⟨128 * n.val + i.val, by omega⟩ := Fin.ext (by
  show (128 * n.val + i.val) % 2048 = 128 * n.val + i.val
  omega)

theorem v232_at (n : Fin 16) (h : Fin 4) (i j : Fin 128) : val_main_v232 (F := Ideal) x (ix3 (row n.val i) h j) = oR x n.val h i j := by
  have e : val_main_v232 (F := Ideal) x (ix3 (row n.val i) h j) = val_main_v230 (F := Ideal) x (ix4 h n i j) := by
    rw [row_mk]
    unfold val_main_v232 val_main_v231
    generalize val_main_v230 (F := Ideal) x = z
    pointwise
  rw [e, v230_eq, RetOut.mix_at]
  rfl

theorem v241_read (r : Fin 2048) (h : Fin 4) : val_main_v241 (F := Ideal) x (ix3 r h 0)
    = Ideal.div (∑ k, val_main_v232 (F := Ideal) x (ix3 r h k) * val_main_v232 (F := Ideal) x (ix3 r h k)) len + eps := by
  unfold val_main_v241 val_main_v240 val_main_v239 val_main_v238 val_main_v237 val_main_v236 val_main_v233 val_main_cst_15 val_main_cst_16 val_main_cst_17
  generalize val_main_v232 (F := Ideal) x = z
  pointwise

theorem v241_at (n : Fin 16) (h : Fin 4) (i : Fin 128) : val_main_v241 (F := Ideal) x (ix3 (row n.val i) h 0) = var (oR x n.val h) i := by
  rw [v241_read]
  simp only [v232_at]
  rfl

theorem v242_at (n : Fin 16) (h : Fin 4) (i : Fin 128) : val_main_v242 (F := Ideal) x (ix3 (row n.val i) h 0) = RetHead.inv (oR x n.val h) i := by
  show Ideal.rsqrt (val_main_v241 (F := Ideal) x (ix3 (row n.val i) h 0)) = _
  rw [v241_at]
  rfl

theorem v245_at (n : Fin 16) (h : Fin 4) (i : Fin 128) : val_main_v245 (F := Ideal) x (ix3 (row n.val i) h 0)
    = mhalf * Ideal.div (RetHead.inv (oR x n.val h) i) (var (oR x n.val h) i) := by
  rw [← v241_at, ← v242_at]
  unfold val_main_v245 val_main_v244 val_main_v243 val_main_cst_18
  generalize val_main_v241 (F := Ideal) x = z
  generalize val_main_v242 (F := Ideal) x = w
  pointwise

theorem v248_at (n : Fin 16) (h : Fin 4) (i j : Fin 128) : val_main_v248 (F := Ideal) x (ix2 (row n.val i) ⟨128 * h.val + j.val, by omega⟩)
    = hat (oR x n.val h) i j := by
  have e : val_main_v248 (F := Ideal) x (ix2 (row n.val i) ⟨128 * h.val + j.val, by omega⟩)
      = val_main_v232 (F := Ideal) x (ix3 (row n.val i) h j) * val_main_v242 (F := Ideal) x (ix3 (row n.val i) h 0) := by
    unfold val_main_v248 val_main_v247 val_main_v246
    generalize val_main_v232 (F := Ideal) x = z
    generalize val_main_v242 (F := Ideal) x = w
    pointwise
  rw [e, v232_at, v242_at]
  rfl

theorem v3_at (r : Fin 2048) (h : Fin 4) (j : Fin 128) : val_main_v3 (F := Ideal) x (ix2 r ⟨128 * h.val + j.val, by omega⟩) = x (ix2 r (col 3 h j)) := by
  unfold val_main_v3
  pointwise
  refine congrArg x (congrArg (ix2 r) (Fin.ext ?_))
  show 1536 + (128 * h.val + j.val) = 512 * 3 + 128 * h.val + j.val
  omega

theorem sig_at (r : Fin 2048) (k : Fin 512) : val_main_v249_2 (F := Ideal) x (ix2 r k) = GradHead.sig (val_main_v3 (F := Ideal) x (ix2 r k)) := by
  unfold val_main_v249_2 val_main_call2_v4 val_main_call2_v3 val_main_call2_v2 val_main_call2_v1 val_main_call2_v0 val_main_call2_cst val_main_call2_cst_0 GradHead.sig
  generalize val_main_v3 (F := Ideal) x = z
  pointwise

theorem v251_at (r : Fin 2048) (k : Fin 512) : val_main_v251 (F := Ideal) y (ix2 r k) = y (ix2 r ⟨k.val, by omega⟩) := by
  unfold val_main_v251
  pointwise

theorem v253_at (n : Fin 16) (h : Fin 4) (i j : Fin 128) : val_main_v253 (F := Ideal) x y (ix2 (row n.val i) ⟨128 * h.val + j.val, by omega⟩)
    = dNorm (part x 3 h n.val) (cotG y h n.val) i j := by
  show val_main_v251 (F := Ideal) y _ * (val_main_v3 (F := Ideal) x _ * val_main_v249_2 (F := Ideal) x _) = _
  rw [sig_at, v3_at, v251_at]
  rfl

theorem v254_at (n : Fin 16) (h : Fin 4) (i j : Fin 128) (hy : ∃ r : ℝ, cotG y h n.val i j = r) :
    val_main_v254 (F := Ideal) x y (ix2 (row n.val i) ⟨128 * h.val + j.val, by omega⟩) = dGate (oR x n.val h) (part x 3 h n.val) (cotG y h n.val) i j := by
  rw [← GradReal.dGate_eq _ _ _ _ _ hy]
  have e (k : Fin 512) : val_main_v249_1 (F := Ideal) x (ix2 (row n.val i) k)
      = val_main_v249_2 (F := Ideal) x (ix2 (row n.val i) k) * (one - val_main_v249_2 (F := Ideal) x (ix2 (row n.val i) k)) := by
    unfold val_main_v249_1 val_main_call2_v7 val_main_call2_v6 val_main_call2_cst_1
    generalize val_main_v249_2 (F := Ideal) x = z
    pointwise
  show val_main_v248 (F := Ideal) x _ * val_main_v251 (F := Ideal) y _ * val_main_v249_2 (F := Ideal) x _
    + val_main_v3 (F := Ideal) x _ * (val_main_v248 (F := Ideal) x _ * val_main_v251 (F := Ideal) y _) * val_main_v249_1 (F := Ideal) x _ = _
  rw [e, sig_at, v3_at, v251_at, v248_at]
  rfl

theorem v255_at (n : Fin 16) (h : Fin 4) (i j : Fin 128) : val_main_v255 (F := Ideal) x y (ix3 (row n.val i) h j)
    = dNorm (part x 3 h n.val) (cotG y h n.val) i j := by
  rw [← v253_at]
  unfold val_main_v255
  generalize val_main_v253 (F := Ideal) x y = z
  pointwise
  exact congrArg z (congrArg (ix2 _) (Fin.ext (by dsimp only; omega)))

theorem v267_read (r : Fin 2048) (h : Fin 4) (j : Fin 128) : val_main_v267 (F := Ideal) x y (ix3 r h j)
    = val_main_v255 (F := Ideal) x y (ix3 r h j) * val_main_v242 (F := Ideal) x (ix3 r h 0)
      + Ideal.div ((∑ k, val_main_v232 (F := Ideal) x (ix3 r h k) * val_main_v255 (F := Ideal) x y (ix3 r h k)) * val_main_v245 (F := Ideal) x (ix3 r h 0)) len
        * (two * val_main_v232 (F := Ideal) x (ix3 r h j)) := by
  unfold val_main_v267 val_main_v266 val_main_v265 val_main_v264 val_main_v263 val_main_v262 val_main_v261 val_main_v260 val_main_v259 val_main_v258 val_main_v257
    val_main_v256 val_main_v235 val_main_v234 val_main_cst_14 val_main_cst_19 val_main_cst_20 val_main_cst_21
  generalize val_main_v232 (F := Ideal) x = z
  generalize val_main_v242 (F := Ideal) x = w
  generalize val_main_v245 (F := Ideal) x = u
  generalize val_main_v255 (F := Ideal) x y = t
  pointwise
  rw [Fin.sum_univ_one]

theorem do_at (n : Fin 16) (h : Fin 4) (i j : Fin 128) : val_main_v269 (F := Ideal) x y (ix4 h n i j) = eR x y n.val h i j := by
  have e : val_main_v269 (F := Ideal) x y (ix4 h n i j) = val_main_v267 (F := Ideal) x y (ix3 (row n.val i) h j) := by
    unfold val_main_v269 val_main_v268
    generalize val_main_v267 (F := Ideal) x y = z
    pointwise
    rw [RetRef.row_eq]
  rw [e, v267_read]
  simp only [v232_at, v242_at, v245_at, v255_at]
  exact GradReal.dOut_eq _ _ _ _ _

end

end Cert.GradRef

end
-- ==== Proof.GradBack.lean ====
module

public import proofs.«01_k».proof.Proof.GradRef

@[expose] public section

/-! # Retention's gradient: the reference from the states' cotangents to its result -/

set_option maxRecDepth 16384

noncomputable section

namespace Cert.GradBack

open Cert.Reference40Ideal Idealize.ShloMosaic Idealize.ShloMosaic.Tactic
open Cert.Reference40Ideal.Read Cert.RetHead Cert.RetSpec Cert.RetTab Cert.GradHead Cert.GradSpec Cert.GradSame Cert.GradRef

section
variable (x : Vec Ideal S2048x2048 .f32) (y : Vec Ideal S2048x1024 .f32)

abbrev dsR (k : ℕ) (h : Fin 4) : Mat := dsG x cosT sinT D tabT decT (stG x cosT sinT tabT decT) y k h

theorem qd_at (h : Fin 4) (n : Fin 16) (i d : Fin 128) : val_main_v228 (F := Ideal) x (ix4 h n i d) = qry x cosT sinT h n.val i d * tabT (ix4 h 1 i d) := by
  rw [v228_eq, RetRef.v227_at, RetRef.q_at]

theorem kd_at (h : Fin 4) (n : Fin 16) (i d : Fin 128) : val_main_v113 (F := Ideal) x (ix4 h n i d) = keyG x cosT sinT h n.val i d * tabT (ix4 h 0 i d) := by
  rw [v113_eq, RetRef.v113_at, RetRef.k_at]

/-- What a chunk adds to the state's cotangent. -/
theorem v271_at (n : Fin 16) (h : Fin 4) (d j : Fin 128) : val_main_v271 (F := Ideal) x y (ix4 n h d j)
    = ∑ i, qry x cosT sinT h n.val i d * tabT (ix4 h 1 i d) * eR x y n.val h i j := by
  have e : val_main_v271 (F := Ideal) x y (ix4 n h d j) = val_main_v270 (F := Ideal) x y (ix4 h n j d) := by
    unfold val_main_v271
    generalize val_main_v270 (F := Ideal) x y = z
    pointwise
  have e1 : val_main_v270 (F := Ideal) x y (ix4 h n j d) = ∑ i, val_main_v269 (F := Ideal) x y (ix4 h n i j) * val_main_v228 (F := Ideal) x (ix4 h n i d) := by
    rw [val_main_v270_apply]
    refine Finset.sum_congr rfl fun l _ => ?_
    congr 2 <;> (funext a; fin_cases a <;> rfl)
  rw [e, e1]
  refine Finset.sum_congr rfl fun i _ => ?_
  rw [do_at, qd_at, mul_comm]

/-- One chunk's step of the state's cotangent, on any two arrays. -/
theorem stepB (a b : Vec Ideal S4x128x128 .f32) (h : Fin 4) (d j : Fin 128) :
    addf (F := Ideal) (φ := .f32) a (mulf (F := Ideal) (φ := .f32) b (val_main_v307 (F := Ideal))) (ix3 h d j) = a (ix3 h d j) + b (ix3 h d j) * decT (ix3 h 0 j) := by
  show _ = _ + _ * Reference39Ideal.Read.val_main_v117 (F := Ideal) (ix1 h)
  rw [← v117_eq]
  unfold val_main_v307 val_main_v118
  generalize val_main_v117 (F := Ideal) = g
  pointwise

theorem next (n k : ℕ) (hn : n = 15 - k) (h : Fin 4) (d j : Fin 128) (a b : EReal)
    (ha : a = ∑ i, qry x cosT sinT h n i d * tabT (ix4 h 1 i d) * eR x y n h i j) (hb : b = dsR x y k h d j) :
    a + b * decT (ix3 h 0 j) = dsR x y (k + 1) h d j := by
  subst hn ha hb
  exact add_comm _ _

theorem a15_at (h : Fin 4) (d j : Fin 128) : val_main_v306 (F := Ideal) x y (ix3 h d j) = val_main_v271 (F := Ideal) x y (ix4 15 h d j) := by
  unfold val_main_v306 val_main_v305
  generalize val_main_v271 (F := Ideal) x y = z
  pointwise
theorem a14_at (h : Fin 4) (d j : Fin 128) : val_main_v304 (F := Ideal) x y (ix3 h d j) = val_main_v271 (F := Ideal) x y (ix4 14 h d j) := by
  unfold val_main_v304 val_main_v303
  generalize val_main_v271 (F := Ideal) x y = z
  pointwise
theorem a13_at (h : Fin 4) (d j : Fin 128) : val_main_v302 (F := Ideal) x y (ix3 h d j) = val_main_v271 (F := Ideal) x y (ix4 13 h d j) := by
  unfold val_main_v302 val_main_v301
  generalize val_main_v271 (F := Ideal) x y = z
  pointwise
theorem a12_at (h : Fin 4) (d j : Fin 128) : val_main_v300 (F := Ideal) x y (ix3 h d j) = val_main_v271 (F := Ideal) x y (ix4 12 h d j) := by
  unfold val_main_v300 val_main_v299
  generalize val_main_v271 (F := Ideal) x y = z
  pointwise
theorem a11_at (h : Fin 4) (d j : Fin 128) : val_main_v298 (F := Ideal) x y (ix3 h d j) = val_main_v271 (F := Ideal) x y (ix4 11 h d j) := by
  unfold val_main_v298 val_main_v297
  generalize val_main_v271 (F := Ideal) x y = z
  pointwise
theorem a10_at (h : Fin 4) (d j : Fin 128) : val_main_v296 (F := Ideal) x y (ix3 h d j) = val_main_v271 (F := Ideal) x y (ix4 10 h d j) := by
  unfold val_main_v296 val_main_v295
  generalize val_main_v271 (F := Ideal) x y = z
  pointwise
theorem a9_at (h : Fin 4) (d j : Fin 128) : val_main_v294 (F := Ideal) x y (ix3 h d j) = val_main_v271 (F := Ideal) x y (ix4 9 h d j) := by
  unfold val_main_v294 val_main_v293
  generalize val_main_v271 (F := Ideal) x y = z
  pointwise
theorem a8_at (h : Fin 4) (d j : Fin 128) : val_main_v292 (F := Ideal) x y (ix3 h d j) = val_main_v271 (F := Ideal) x y (ix4 8 h d j) := by
  unfold val_main_v292 val_main_v291
  generalize val_main_v271 (F := Ideal) x y = z
  pointwise
theorem a7_at (h : Fin 4) (d j : Fin 128) : val_main_v290 (F := Ideal) x y (ix3 h d j) = val_main_v271 (F := Ideal) x y (ix4 7 h d j) := by
  unfold val_main_v290 val_main_v289
  generalize val_main_v271 (F := Ideal) x y = z
  pointwise
theorem a6_at (h : Fin 4) (d j : Fin 128) : val_main_v288 (F := Ideal) x y (ix3 h d j) = val_main_v271 (F := Ideal) x y (ix4 6 h d j) := by
  unfold val_main_v288 val_main_v287
  generalize val_main_v271 (F := Ideal) x y = z
  pointwise
theorem a5_at (h : Fin 4) (d j : Fin 128) : val_main_v286 (F := Ideal) x y (ix3 h d j) = val_main_v271 (F := Ideal) x y (ix4 5 h d j) := by
  unfold val_main_v286 val_main_v285
  generalize val_main_v271 (F := Ideal) x y = z
  pointwise
theorem a4_at (h : Fin 4) (d j : Fin 128) : val_main_v284 (F := Ideal) x y (ix3 h d j) = val_main_v271 (F := Ideal) x y (ix4 4 h d j) := by
  unfold val_main_v284 val_main_v283
  generalize val_main_v271 (F := Ideal) x y = z
  pointwise
theorem a3_at (h : Fin 4) (d j : Fin 128) : val_main_v282 (F := Ideal) x y (ix3 h d j) = val_main_v271 (F := Ideal) x y (ix4 3 h d j) := by
  unfold val_main_v282 val_main_v281
  generalize val_main_v271 (F := Ideal) x y = z
  pointwise
theorem a2_at (h : Fin 4) (d j : Fin 128) : val_main_v280 (F := Ideal) x y (ix3 h d j) = val_main_v271 (F := Ideal) x y (ix4 2 h d j) := by
  unfold val_main_v280 val_main_v279
  generalize val_main_v271 (F := Ideal) x y = z
  pointwise
theorem a1_at (h : Fin 4) (d j : Fin 128) : val_main_v278 (F := Ideal) x y (ix3 h d j) = val_main_v271 (F := Ideal) x y (ix4 1 h d j) := by
  unfold val_main_v278 val_main_v277
  generalize val_main_v271 (F := Ideal) x y = z
  pointwise

theorem ds15 (h : Fin 4) (d j : Fin 128) : val_main_v349 (F := Ideal) (ix3 h d j) = dsR x y 0 h d j := by
  unfold val_main_v349 val_main_cst_22
  pointwise
  rfl
theorem ds14 (h : Fin 4) (d j : Fin 128) : val_main_v306 (F := Ideal) x y (ix3 h d j) = dsR x y 1 h d j := by
  rw [a15_at, v271_at, ← next x y 15 0 rfl h d j _ 0 rfl rfl, zero_mul, add_zero]
  rfl
theorem ds13 (h : Fin 4) (d j : Fin 128) : val_main_v309 (F := Ideal) x y (ix3 h d j) = dsR x y 2 h d j :=
  (stepB (val_main_v304 (F := Ideal) x y) (val_main_v306 (F := Ideal) x y) h d j).trans
    (next x y 14 1 rfl h d j _ _ ((a14_at x y h d j).trans (v271_at x y 14 h d j)) (ds14 x y h d j))
theorem ds12 (h : Fin 4) (d j : Fin 128) : val_main_v312 (F := Ideal) x y (ix3 h d j) = dsR x y 3 h d j :=
  (stepB (val_main_v302 (F := Ideal) x y) (val_main_v309 (F := Ideal) x y) h d j).trans
    (next x y 13 2 rfl h d j _ _ ((a13_at x y h d j).trans (v271_at x y 13 h d j)) (ds13 x y h d j))
theorem ds11 (h : Fin 4) (d j : Fin 128) : val_main_v315 (F := Ideal) x y (ix3 h d j) = dsR x y 4 h d j :=
  (stepB (val_main_v300 (F := Ideal) x y) (val_main_v312 (F := Ideal) x y) h d j).trans
    (next x y 12 3 rfl h d j _ _ ((a12_at x y h d j).trans (v271_at x y 12 h d j)) (ds12 x y h d j))
theorem ds10 (h : Fin 4) (d j : Fin 128) : val_main_v318 (F := Ideal) x y (ix3 h d j) = dsR x y 5 h d j :=
  (stepB (val_main_v298 (F := Ideal) x y) (val_main_v315 (F := Ideal) x y) h d j).trans
    (next x y 11 4 rfl h d j _ _ ((a11_at x y h d j).trans (v271_at x y 11 h d j)) (ds11 x y h d j))
theorem ds9 (h : Fin 4) (d j : Fin 128) : val_main_v321 (F := Ideal) x y (ix3 h d j) = dsR x y 6 h d j :=
  (stepB (val_main_v296 (F := Ideal) x y) (val_main_v318 (F := Ideal) x y) h d j).trans
    (next x y 10 5 rfl h d j _ _ ((a10_at x y h d j).trans (v271_at x y 10 h d j)) (ds10 x y h d j))
theorem ds8 (h : Fin 4) (d j : Fin 128) : val_main_v324 (F := Ideal) x y (ix3 h d j) = dsR x y 7 h d j :=
  (stepB (val_main_v294 (F := Ideal) x y) (val_main_v321 (F := Ideal) x y) h d j).trans
    (next x y 9 6 rfl h d j _ _ ((a9_at x y h d j).trans (v271_at x y 9 h d j)) (ds9 x y h d j))
theorem ds7 (h : Fin 4) (d j : Fin 128) : val_main_v327 (F := Ideal) x y (ix3 h d j) = dsR x y 8 h d j :=
  (stepB (val_main_v292 (F := Ideal) x y) (val_main_v324 (F := Ideal) x y) h d j).trans
    (next x y 8 7 rfl h d j _ _ ((a8_at x y h d j).trans (v271_at x y 8 h d j)) (ds8 x y h d j))
theorem ds6 (h : Fin 4) (d j : Fin 128) : val_main_v330 (F := Ideal) x y (ix3 h d j) = dsR x y 9 h d j :=
  (stepB (val_main_v290 (F := Ideal) x y) (val_main_v327 (F := Ideal) x y) h d j).trans
    (next x y 7 8 rfl h d j _ _ ((a7_at x y h d j).trans (v271_at x y 7 h d j)) (ds7 x y h d j))
theorem ds5 (h : Fin 4) (d j : Fin 128) : val_main_v333 (F := Ideal) x y (ix3 h d j) = dsR x y 10 h d j :=
  (stepB (val_main_v288 (F := Ideal) x y) (val_main_v330 (F := Ideal) x y) h d j).trans
    (next x y 6 9 rfl h d j _ _ ((a6_at x y h d j).trans (v271_at x y 6 h d j)) (ds6 x y h d j))
theorem ds4 (h : Fin 4) (d j : Fin 128) : val_main_v336 (F := Ideal) x y (ix3 h d j) = dsR x y 11 h d j :=
  (stepB (val_main_v286 (F := Ideal) x y) (val_main_v333 (F := Ideal) x y) h d j).trans
    (next x y 5 10 rfl h d j _ _ ((a5_at x y h d j).trans (v271_at x y 5 h d j)) (ds5 x y h d j))
theorem ds3 (h : Fin 4) (d j : Fin 128) : val_main_v339 (F := Ideal) x y (ix3 h d j) = dsR x y 12 h d j :=
  (stepB (val_main_v284 (F := Ideal) x y) (val_main_v336 (F := Ideal) x y) h d j).trans
    (next x y 4 11 rfl h d j _ _ ((a4_at x y h d j).trans (v271_at x y 4 h d j)) (ds4 x y h d j))
theorem ds2 (h : Fin 4) (d j : Fin 128) : val_main_v342 (F := Ideal) x y (ix3 h d j) = dsR x y 13 h d j :=
  (stepB (val_main_v282 (F := Ideal) x y) (val_main_v339 (F := Ideal) x y) h d j).trans
    (next x y 3 12 rfl h d j _ _ ((a3_at x y h d j).trans (v271_at x y 3 h d j)) (ds3 x y h d j))
theorem ds1 (h : Fin 4) (d j : Fin 128) : val_main_v345 (F := Ideal) x y (ix3 h d j) = dsR x y 14 h d j :=
  (stepB (val_main_v280 (F := Ideal) x y) (val_main_v342 (F := Ideal) x y) h d j).trans
    (next x y 2 13 rfl h d j _ _ ((a2_at x y h d j).trans (v271_at x y 2 h d j)) (ds2 x y h d j))
theorem ds0 (h : Fin 4) (d j : Fin 128) : val_main_v348 (F := Ideal) x y (ix3 h d j) = dsR x y 15 h d j :=
  (stepB (val_main_v278 (F := Ideal) x y) (val_main_v345 (F := Ideal) x y) h d j).trans
    (next x y 1 14 rfl h d j _ _ ((a1_at x y h d j).trans (v271_at x y 1 h d j)) (ds1 x y h d j))

theorem v366_at (n : Fin 16) (h : Fin 4) (d j : Fin 128) : val_main_v366 (F := Ideal) x y (ix4 n h d j) = dsR x y (15 - n.val) h d j := by
  have e : val_main_v366 (F := Ideal) x y (ix4 n h d j) = (![val_main_v350 (F := Ideal) x y, val_main_v351 (F := Ideal) x y, val_main_v352 (F := Ideal) x y, val_main_v353 (F := Ideal) x y, val_main_v354 (F := Ideal) x y, val_main_v355 (F := Ideal) x y, val_main_v356 (F := Ideal) x y, val_main_v357 (F := Ideal) x y, val_main_v358 (F := Ideal) x y, val_main_v359 (F := Ideal) x y, val_main_v360 (F := Ideal) x y, val_main_v361 (F := Ideal) x y, val_main_v362 (F := Ideal) x y, val_main_v363 (F := Ideal) x y, val_main_v364 (F := Ideal) x y, val_main_v365 (F := Ideal)] : Fin 16 → Vec Ideal S1x4x128x128 .f32) n (ix4 0 h d j) := by
    unfold val_main_v366
    fin_cases n <;> pointwise
  rw [e]
  fin_cases n
  · exact (show val_main_v350 (F := Ideal) x y (ix4 0 h d j) = val_main_v348 (F := Ideal) x y (ix3 h d j) by
      unfold val_main_v350
      generalize val_main_v348 (F := Ideal) x y = z
      pointwise).trans (ds0 x y h d j)
  · exact (show val_main_v351 (F := Ideal) x y (ix4 0 h d j) = val_main_v345 (F := Ideal) x y (ix3 h d j) by
      unfold val_main_v351
      generalize val_main_v345 (F := Ideal) x y = z
      pointwise).trans (ds1 x y h d j)
  · exact (show val_main_v352 (F := Ideal) x y (ix4 0 h d j) = val_main_v342 (F := Ideal) x y (ix3 h d j) by
      unfold val_main_v352
      generalize val_main_v342 (F := Ideal) x y = z
      pointwise).trans (ds2 x y h d j)
  · exact (show val_main_v353 (F := Ideal) x y (ix4 0 h d j) = val_main_v339 (F := Ideal) x y (ix3 h d j) by
      unfold val_main_v353
      generalize val_main_v339 (F := Ideal) x y = z
      pointwise).trans (ds3 x y h d j)
  · exact (show val_main_v354 (F := Ideal) x y (ix4 0 h d j) = val_main_v336 (F := Ideal) x y (ix3 h d j) by
      unfold val_main_v354
      generalize val_main_v336 (F := Ideal) x y = z
      pointwise).trans (ds4 x y h d j)
  · exact (show val_main_v355 (F := Ideal) x y (ix4 0 h d j) = val_main_v333 (F := Ideal) x y (ix3 h d j) by
      unfold val_main_v355
      generalize val_main_v333 (F := Ideal) x y = z
      pointwise).trans (ds5 x y h d j)
  · exact (show val_main_v356 (F := Ideal) x y (ix4 0 h d j) = val_main_v330 (F := Ideal) x y (ix3 h d j) by
      unfold val_main_v356
      generalize val_main_v330 (F := Ideal) x y = z
      pointwise).trans (ds6 x y h d j)
  · exact (show val_main_v357 (F := Ideal) x y (ix4 0 h d j) = val_main_v327 (F := Ideal) x y (ix3 h d j) by
      unfold val_main_v357
      generalize val_main_v327 (F := Ideal) x y = z
      pointwise).trans (ds7 x y h d j)
  · exact (show val_main_v358 (F := Ideal) x y (ix4 0 h d j) = val_main_v324 (F := Ideal) x y (ix3 h d j) by
      unfold val_main_v358
      generalize val_main_v324 (F := Ideal) x y = z
      pointwise).trans (ds8 x y h d j)
  · exact (show val_main_v359 (F := Ideal) x y (ix4 0 h d j) = val_main_v321 (F := Ideal) x y (ix3 h d j) by
      unfold val_main_v359
      generalize val_main_v321 (F := Ideal) x y = z
      pointwise).trans (ds9 x y h d j)
  · exact (show val_main_v360 (F := Ideal) x y (ix4 0 h d j) = val_main_v318 (F := Ideal) x y (ix3 h d j) by
      unfold val_main_v360
      generalize val_main_v318 (F := Ideal) x y = z
      pointwise).trans (ds10 x y h d j)
  · exact (show val_main_v361 (F := Ideal) x y (ix4 0 h d j) = val_main_v315 (F := Ideal) x y (ix3 h d j) by
      unfold val_main_v361
      generalize val_main_v315 (F := Ideal) x y = z
      pointwise).trans (ds11 x y h d j)
  · exact (show val_main_v362 (F := Ideal) x y (ix4 0 h d j) = val_main_v312 (F := Ideal) x y (ix3 h d j) by
      unfold val_main_v362
      generalize val_main_v312 (F := Ideal) x y = z
      pointwise).trans (ds12 x y h d j)
  · exact (show val_main_v363 (F := Ideal) x y (ix4 0 h d j) = val_main_v309 (F := Ideal) x y (ix3 h d j) by
      unfold val_main_v363
      generalize val_main_v309 (F := Ideal) x y = z
      pointwise).trans (ds13 x y h d j)
  · exact (show val_main_v364 (F := Ideal) x y (ix4 0 h d j) = val_main_v306 (F := Ideal) x y (ix3 h d j) by
      unfold val_main_v364
      generalize val_main_v306 (F := Ideal) x y = z
      pointwise).trans (ds14 x y h d j)
  · exact (show val_main_v365 (F := Ideal) (ix4 0 h d j) = val_main_v349 (F := Ideal) (ix3 h d j) by
      unfold val_main_v365
      generalize val_main_v349 (F := Ideal) = z
      pointwise).trans (ds15 x y h d j)

end

end Cert.GradBack

end
-- ==== Proof.GradOut.lean ====
module

public import proofs.«01_k».proof.Proof.GradBack

@[expose] public section

/-! # Retention's gradient: the reference's result -/

set_option maxRecDepth 16384

noncomputable section

namespace Cert.GradOut

open Cert.Reference40Ideal Idealize.ShloMosaic Idealize.ShloMosaic.Tactic
open Cert.Reference40Ideal.Read Cert.RetHead Cert.RetSpec Cert.RetTab Cert.GradHead Cert.GradSpec Cert.GradSame Cert.GradRef Cert.GradBack

section
variable (x : Vec Ideal S2048x2048 .f32) (y : Vec Ideal S2048x1024 .f32)

abbrev scR (n : ℕ) (h : Fin 4) : Mat := dScore (eR x y n h) (part x 2 h n) (tri D h)
abbrev dqR (n : ℕ) (h : Fin 4) : Mat := dQry (scR x y n h) (keyG x cosT sinT h n) (eR x y n h) (stG x cosT sinT tabT decT n h) (dk tabT 1 h)
abbrev dkR (n : ℕ) (h : Fin 4) : Mat := dKey (scR x y n h) (qry x cosT sinT h n) (part x 2 h n) (dsR x y (15 - n) h) (dk tabT 0 h)
abbrev dvR (n : ℕ) (h : Fin 4) : Mat :=
  dVal (score (qry x cosT sinT h n) (keyG x cosT sinT h n) (tri D h)) (eR x y n h) (keyG x cosT sinT h n) (dk tabT 0 h) (dsR x y (15 - n) h)

theorem sc_at (h : Fin 4) (n : Fin 16) (i l : Fin 128) : val_main_v378 (F := Ideal) x y (ix4 h n i l) = scR x y n.val h i l := by
  have e1 : val_main_v378 (F := Ideal) x y (ix4 h n i l) = val_main_v376 (F := Ideal) x y (ix4 h n i l) * Reference39Ideal.Read.val_main_v97 (F := Ideal) (ix3 h i l) := by
    unfold val_main_v378 val_main_v377 val_main_v99
    rw [v97_eq]
    generalize val_main_v376 (F := Ideal) x y = z
    generalize Reference39Ideal.Read.val_main_v97 (F := Ideal) = w
    pointwise
  have e2 : val_main_v376 (F := Ideal) x y (ix4 h n i l) = ∑ j, val_main_v269 (F := Ideal) x y (ix4 h n i j) * val_main_v81 (F := Ideal) x (ix4 h n l j) := by
    rw [val_main_v376_apply]
    refine Finset.sum_congr rfl fun d _ => ?_
    congr 2 <;> (funext a; fin_cases a <;> rfl)
  rw [e1, e2]
  refine congrArg (· * _) (Finset.sum_congr rfl fun j _ => ?_)
  rw [do_at, v81_eq, RetRef.v_at]

theorem dv_at (h : Fin 4) (n : Fin 16) (l j : Fin 128) : val_main_v375 (F := Ideal) x y (ix4 h n l j) = dvR x y n.val h l j := by
  have e : val_main_v375 (F := Ideal) x y (ix4 h n l j) = val_main_v367 (F := Ideal) x y (ix4 n h j l) + val_main_v373 (F := Ideal) x y (ix4 h n j l) := by
    unfold val_main_v375 val_main_v368 val_main_v374
    generalize val_main_v367 (F := Ideal) x y = z
    generalize val_main_v373 (F := Ideal) x y = w
    pointwise
  have e1 : val_main_v367 (F := Ideal) x y (ix4 n h j l) = ∑ d, val_main_v366 (F := Ideal) x y (ix4 n h d j) * val_main_v113 (F := Ideal) x (ix4 h n l d) := by
    rw [val_main_v367_apply]
    refine Finset.sum_congr rfl fun d _ => ?_
    congr 2 <;> (funext a; fin_cases a <;> rfl)
  have e2 : val_main_v373 (F := Ideal) x y (ix4 h n j l) = ∑ i, val_main_v269 (F := Ideal) x y (ix4 h n i j) * val_main_v101 (F := Ideal) x (ix4 h n i l) := by
    rw [val_main_v373_apply]
    refine Finset.sum_congr rfl fun d _ => ?_
    congr 2 <;> (funext a; fin_cases a <;> rfl)
  rw [e, e1, e2, add_comm]
  refine congrArg₂ (· + ·) (Finset.sum_congr rfl fun i _ => ?_) (Finset.sum_congr rfl fun d _ => ?_)
  · rw [do_at, v101_eq, RetOut.score_at, mul_comm]
    rfl
  · rw [v366_at, kd_at, mul_comm]
    rfl

theorem dk_at (h : Fin 4) (n : Fin 16) (l d : Fin 128) : val_main_v380 (F := Ideal) x y (ix4 h n l d) * qscale = dkR x y n.val h l d := by
  have e : val_main_v380 (F := Ideal) x y (ix4 h n l d) = val_main_v369 (F := Ideal) x y (ix4 n h d l) * tabT (ix4 h 0 l d) + val_main_v379 (F := Ideal) x y (ix4 h n l d) := by
    unfold val_main_v380 val_main_v372 val_main_v371 val_main_v370 val_main_v111 val_main_v110 val_main_v109 val_main_v108 val_main_v107 val_main_v106 val_main_v103 tabT
    rw [v105_eq, v73_eq]
    generalize val_main_v369 (F := Ideal) x y = z
    generalize val_main_v379 (F := Ideal) x y = u
    generalize Reference39Ideal.Read.val_main_v73 (F := Ideal) = g
    generalize Reference39Ideal.Read.val_main_v105 (F := Ideal) = w
    pointwise
  have e1 : val_main_v369 (F := Ideal) x y (ix4 n h d l) = ∑ j, val_main_v366 (F := Ideal) x y (ix4 n h d j) * val_main_v81 (F := Ideal) x (ix4 h n l j) := by
    rw [val_main_v369_apply]
    refine Finset.sum_congr rfl fun d _ => ?_
    congr 2 <;> (funext a; fin_cases a <;> rfl)
  have e2 : val_main_v379 (F := Ideal) x y (ix4 h n l d) = ∑ i, val_main_v378 (F := Ideal) x y (ix4 h n i l) * val_main_v75 (F := Ideal) x (ix4 h n i d) := by
    rw [val_main_v379_apply]
    refine Finset.sum_congr rfl fun d _ => ?_
    congr 2 <;> (funext a; fin_cases a <;> rfl)
  rw [e, e1, e2, add_comm]
  refine congrArg (· * _) (congrArg₂ (· + ·) (Finset.sum_congr rfl fun i _ => ?_) (congrArg (· * _) (Finset.sum_congr rfl fun j _ => ?_)))
  · rw [sc_at, v75_eq, RetRef.q_at]
  · rw [v366_at, v81_eq, RetRef.v_at, mul_comm]

theorem dq_at (h : Fin 4) (n : Fin 16) (i d : Fin 128) : val_main_v382 (F := Ideal) x y (ix4 h n i d) = dqR x y n.val h i d := by
  have e : val_main_v382 (F := Ideal) x y (ix4 h n i d) = val_main_v272 (F := Ideal) x y (ix4 h n i d) * tabT (ix4 h 1 i d) + val_main_v381 (F := Ideal) x y (ix4 h n i d) := by
    unfold val_main_v382 val_main_v274 val_main_v273 val_main_v226 val_main_v225 val_main_v224 val_main_v223 val_main_v222 val_main_v221 val_main_v218 tabT
    rw [v220_eq, v73_eq]
    generalize val_main_v272 (F := Ideal) x y = z
    generalize val_main_v381 (F := Ideal) x y = u
    generalize Reference39Ideal.Read.val_main_v73 (F := Ideal) = g
    generalize Reference39Ideal.Read.val_main_v219 (F := Ideal) = w
    pointwise
  have e1 : val_main_v272 (F := Ideal) x y (ix4 h n i d) = ∑ j, val_main_v269 (F := Ideal) x y (ix4 h n i j) * val_main_v216 (F := Ideal) x (ix4 n h d j) := by
    rw [val_main_v272_apply]
    refine Finset.sum_congr rfl fun d _ => ?_
    congr 2 <;> (funext a; fin_cases a <;> rfl)
  have e2 : val_main_v381 (F := Ideal) x y (ix4 h n i d) = ∑ l, val_main_v378 (F := Ideal) x y (ix4 h n i l) * val_main_v79 (F := Ideal) x (ix4 h n l d) := by
    rw [val_main_v381_apply]
    refine Finset.sum_congr rfl fun d _ => ?_
    congr 2 <;> (funext a; fin_cases a <;> rfl)
  rw [e, e1, e2, add_comm]
  refine congrArg₂ (· + ·) (Finset.sum_congr rfl fun l _ => ?_) (congrArg (· * _) (Finset.sum_congr rfl fun j _ => ?_))
  · rw [sc_at, v79_eq, RetRef.k_at]
  · rw [do_at, v216_eq, RetOut.s_at]

/-- Back to rows, heads and features. -/
theorem v391_at (n : Fin 16) (h : Fin 4) (i j : Fin 128) : val_main_v391 (F := Ideal) x y (ix2 (row n.val i) ⟨128 * h.val + j.val, by omega⟩) = dvR x y n.val h i j := by
  rw [← dv_at, row_mk]
  have e : val_main_v391 (F := Ideal) x y (ix2 ⟨128 * n.val + i.val, by omega⟩ ⟨128 * h.val + j.val, by omega⟩)
      = val_main_v384 (F := Ideal) x y (ix3 ⟨128 * n.val + i.val, by omega⟩ h j) := by
    unfold val_main_v391
    generalize val_main_v384 (F := Ideal) x y = z
    pointwise
  rw [e]
  unfold val_main_v384 val_main_v383
  generalize val_main_v375 (F := Ideal) x y = z
  pointwise

theorem v388_at (n : Fin 16) (h : Fin 4) (i d : Fin 128) : val_main_v388 (F := Ideal) x y (ix3 (row n.val i) h d) = dkR x y n.val h i d := by
  rw [← dk_at, row_mk]
  unfold val_main_v388 val_main_v387 val_main_v386 val_main_v385 val_main_cst_23
  generalize val_main_v380 (F := Ideal) x y = z
  pointwise

theorem v390_at (n : Fin 16) (h : Fin 4) (i d : Fin 128) : val_main_v390 (F := Ideal) x y (ix3 (row n.val i) h d) = dqR x y n.val h i d := by
  rw [← dq_at, row_mk]
  unfold val_main_v390 val_main_v389
  generalize val_main_v382 (F := Ideal) x y = z
  pointwise

theorem v408_at (r : Fin 2048) (h : Fin 4) (d : Fin 128) : val_main_v408 (F := Ideal) x y (ix2 r ⟨128 * h.val + d.val, by omega⟩)
    = val_main_v388 (F := Ideal) x y (ix3 r h d) * cosT (ix2 r d) + val_main_v388 (F := Ideal) x y (ix3 r h (swap d)) * sinT (ix2 r (swap d)) := by
  have e : val_main_v408 (F := Ideal) x y (ix2 r ⟨128 * h.val + d.val, by omega⟩) = val_main_v407 (F := Ideal) x y (ix3 r h d) := by
    unfold val_main_v408
    generalize val_main_v407 (F := Ideal) x y = z
    pointwise
  rw [e]
  unfold val_main_v407 val_main_v406 val_main_v405 val_main_v404 val_main_v403 val_main_v402 val_main_v401 val_main_v400 val_main_v399 val_main_v398 val_main_v397
    val_main_v396 val_main_v395 val_main_v394 val_main_v393 val_main_v392 val_main_v51 val_main_v49 val_main_cst_24 val_main_cst_25 cosT sinT
  rw [v48_eq, v50_eq]
  generalize val_main_v388 (F := Ideal) x y = z
  generalize Reference39Ideal.Read.val_main_v18 (F := Ideal) = c
  generalize Reference39Ideal.Read.val_main_v20 (F := Ideal) = s
  pointwise
  rcases d with ⟨d, hd⟩
  by_cases h1 : d < 64
  · have e : swap ⟨d, hd⟩ = ⟨64 + d, by omega⟩ := Fin.ext (by show (d + 128 - 64) % 128 = 64 + d; omega)
    have e2 (b) : (⟨d % 64, b⟩ : Fin 64) = ⟨d, h1⟩ := Fin.ext (by dsimp only; omega)
    have e3 (b) : (⟨(64 + d) % 64, b⟩ : Fin 64) = ⟨d, h1⟩ := Fin.ext (by dsimp only; omega)
    simp only [h1, e, e2, e3]
    rw [dif_neg (by omega), dif_pos trivial, if_neg (by omega), zero_add, add_comm]
  · have e : swap ⟨d, hd⟩ = ⟨d - 64, by omega⟩ := Fin.ext (by show (d + 128 - 64) % 128 = d - 64; omega)
    have e2 (b) : (⟨d % 64, b⟩ : Fin 64) = ⟨d - 64, by omega⟩ := Fin.ext (by dsimp only; omega)
    have e3 (b) : (⟨(d - 64) % 64, b⟩ : Fin 64) = ⟨d - 64, by omega⟩ := Fin.ext (by dsimp only; omega)
    have e4 (b) : (⟨64 + (d - 64), b⟩ : Fin 128) = ⟨d, hd⟩ := Fin.ext (by dsimp only; omega)
    simp only [h1, e, e2, e3, e4]
    rw [dif_pos ⟨by omega, by omega⟩, dif_neg not_false, if_pos (by omega), add_zero, neg_mul, mul_neg]

theorem v425_at (r : Fin 2048) (h : Fin 4) (d : Fin 128) : val_main_v425 (F := Ideal) x y (ix2 r ⟨128 * h.val + d.val, by omega⟩)
    = val_main_v390 (F := Ideal) x y (ix3 r h d) * cosT (ix2 r d) + val_main_v390 (F := Ideal) x y (ix3 r h (swap d)) * sinT (ix2 r (swap d)) := by
  have e : val_main_v425 (F := Ideal) x y (ix2 r ⟨128 * h.val + d.val, by omega⟩) = val_main_v424 (F := Ideal) x y (ix3 r h d) := by
    unfold val_main_v425
    generalize val_main_v424 (F := Ideal) x y = z
    pointwise
  rw [e]
  unfold val_main_v424 val_main_v423 val_main_v422 val_main_v421 val_main_v420 val_main_v419 val_main_v418 val_main_v417 val_main_v416 val_main_v415 val_main_v414
    val_main_v413 val_main_v412 val_main_v411 val_main_v410 val_main_v409 val_main_v21 val_main_v19 val_main_cst_26 val_main_cst_27 cosT sinT
  rw [v18_eq, v20_eq]
  generalize val_main_v390 (F := Ideal) x y = z
  generalize Reference39Ideal.Read.val_main_v18 (F := Ideal) = c
  generalize Reference39Ideal.Read.val_main_v20 (F := Ideal) = s
  pointwise
  rcases d with ⟨d, hd⟩
  by_cases h1 : d < 64
  · have e : swap ⟨d, hd⟩ = ⟨64 + d, by omega⟩ := Fin.ext (by show (d + 128 - 64) % 128 = 64 + d; omega)
    have e2 (b) : (⟨d % 64, b⟩ : Fin 64) = ⟨d, h1⟩ := Fin.ext (by dsimp only; omega)
    have e3 (b) : (⟨(64 + d) % 64, b⟩ : Fin 64) = ⟨d, h1⟩ := Fin.ext (by dsimp only; omega)
    simp only [h1, e, e2, e3]
    rw [dif_neg (by omega), dif_pos trivial, if_neg (by omega), zero_add, add_comm]
  · have e : swap ⟨d, hd⟩ = ⟨d - 64, by omega⟩ := Fin.ext (by show (d + 128 - 64) % 128 = d - 64; omega)
    have e2 (b) : (⟨d % 64, b⟩ : Fin 64) = ⟨d - 64, by omega⟩ := Fin.ext (by dsimp only; omega)
    have e3 (b) : (⟨(d - 64) % 64, b⟩ : Fin 64) = ⟨d - 64, by omega⟩ := Fin.ext (by dsimp only; omega)
    have e4 (b) : (⟨64 + (d - 64), b⟩ : Fin 128) = ⟨d, hd⟩ := Fin.ext (by dsimp only; omega)
    simp only [h1, e, e2, e3, e4]
    rw [dif_pos ⟨by omega, by omega⟩, dif_neg not_false, if_pos (by omega), add_zero, neg_mul, mul_neg]

theorem cat0 (a b c d : Vec Ideal S2048x512 .f32) (hc) (r q : Fin 2048) (k : Fin 512) (hq : q.val = 0 + k.val) :
    concatenate S2048x2048 1 [⟨S2048x512, (a : (⟨S2048x512, .f32⟩ : BufTy).Contents (Elt Ideal))⟩, ⟨S2048x512, (b : (⟨S2048x512, .f32⟩ : BufTy).Contents (Elt Ideal))⟩, ⟨S2048x512, (c : (⟨S2048x512, .f32⟩ : BufTy).Contents (Elt Ideal))⟩, ⟨S2048x512, (d : (⟨S2048x512, .f32⟩ : BufTy).Contents (Elt Ideal))⟩] hc (ix2 r q) = a (ix2 r k) := by
  pointwise
  rw [dif_pos (by omega)]
  exact congrArg a (congrArg (ix2 r) (Fin.ext (by dsimp only; omega)))

theorem cat1 (a b c d : Vec Ideal S2048x512 .f32) (hc) (r q : Fin 2048) (k : Fin 512) (hq : q.val = 512 + k.val) :
    concatenate S2048x2048 1 [⟨S2048x512, (a : (⟨S2048x512, .f32⟩ : BufTy).Contents (Elt Ideal))⟩, ⟨S2048x512, (b : (⟨S2048x512, .f32⟩ : BufTy).Contents (Elt Ideal))⟩, ⟨S2048x512, (c : (⟨S2048x512, .f32⟩ : BufTy).Contents (Elt Ideal))⟩, ⟨S2048x512, (d : (⟨S2048x512, .f32⟩ : BufTy).Contents (Elt Ideal))⟩] hc (ix2 r q) = b (ix2 r k) := by
  pointwise
  rw [dif_neg (by omega), dif_pos (by omega)]
  exact congrArg b (congrArg (ix2 r) (Fin.ext (by dsimp only; omega)))

theorem cat2 (a b c d : Vec Ideal S2048x512 .f32) (hc) (r q : Fin 2048) (k : Fin 512) (hq : q.val = 1024 + k.val) :
    concatenate S2048x2048 1 [⟨S2048x512, (a : (⟨S2048x512, .f32⟩ : BufTy).Contents (Elt Ideal))⟩, ⟨S2048x512, (b : (⟨S2048x512, .f32⟩ : BufTy).Contents (Elt Ideal))⟩, ⟨S2048x512, (c : (⟨S2048x512, .f32⟩ : BufTy).Contents (Elt Ideal))⟩, ⟨S2048x512, (d : (⟨S2048x512, .f32⟩ : BufTy).Contents (Elt Ideal))⟩] hc (ix2 r q) = c (ix2 r k) := by
  pointwise
  rw [dif_neg (by omega), dif_neg (by omega), dif_pos (by omega)]
  exact congrArg c (congrArg (ix2 r) (Fin.ext (by dsimp only; omega)))

theorem cat3 (a b c d : Vec Ideal S2048x512 .f32) (hc) (r q : Fin 2048) (k : Fin 512) (hq : q.val = 1536 + k.val) :
    concatenate S2048x2048 1 [⟨S2048x512, (a : (⟨S2048x512, .f32⟩ : BufTy).Contents (Elt Ideal))⟩, ⟨S2048x512, (b : (⟨S2048x512, .f32⟩ : BufTy).Contents (Elt Ideal))⟩, ⟨S2048x512, (c : (⟨S2048x512, .f32⟩ : BufTy).Contents (Elt Ideal))⟩, ⟨S2048x512, (d : (⟨S2048x512, .f32⟩ : BufTy).Contents (Elt Ideal))⟩] hc (ix2 r q) = d (ix2 r k) := by
  pointwise
  rw [dif_neg (by omega), dif_neg (by omega), dif_neg (by omega)]
  exact congrArg d (congrArg (ix2 r) (Fin.ext (by dsimp only; omega)))

theorem part_at (o : Fin 4) (n : Fin 16) (h : Fin 4) (i j : Fin 128) (hy : ∃ r : ℝ, cotG y h n.val i j = r) :
    val_main_v427 (F := Ideal) x y (ix2 (row n.val i) ⟨512 * o.val + 128 * h.val + j.val, by omega⟩)
      = pG x cosT sinT D tabT decT (stG x cosT sinT tabT decT) y o n.val h i j := by
  show val_main_v426 (F := Ideal) x y (ix2 (row n.val i) _) = _
  unfold val_main_v426
  fin_cases o
  · rw [cat0 _ _ _ _ _ _ _ ⟨128 * h.val + j.val, by omega⟩ (by dsimp only; omega), v425_at, v390_at, v390_at]
    rfl
  · rw [cat1 _ _ _ _ _ _ _ ⟨128 * h.val + j.val, by omega⟩ (by dsimp only; omega), v408_at, v388_at, v388_at]
    rfl
  · rw [cat2 _ _ _ _ _ _ _ ⟨128 * h.val + j.val, by omega⟩ (by dsimp only; omega), v391_at]
    rfl
  · rw [cat3 _ _ _ _ _ _ _ ⟨128 * h.val + j.val, by omega⟩ (by dsimp only; omega), v254_at x y n h i j hy]
    rfl

/-- The reference's result, for a real cotangent. -/
theorem ref_W (hy : ∀ (r : Fin 2048) (k : Fin 512), ∃ e : ℝ, y (ix2 r ⟨k.val, by omega⟩) = e) :
    val_main_v427 (F := Ideal) x y = W x cosT sinT D tabT decT (stG x cosT sinT tabT decT) y := by
  funext p
  idx_vars p
  have e0 : p0 = ⟨128 * (⟨p0.val / 128, by omega⟩ : Fin 16).val + (⟨p0.val % 128, by omega⟩ : Fin 128).val, by dsimp only; omega⟩ := Fin.ext (by dsimp only; omega)
  have e1 : p1 = ⟨512 * (⟨p1.val / 512, by omega⟩ : Fin 4).val + 128 * (⟨p1.val / 128 % 4, by omega⟩ : Fin 4).val + (⟨p1.val % 128, by omega⟩ : Fin 128).val,
      by dsimp only; omega⟩ := Fin.ext (by dsimp only; omega)
  rw [e0, e1, W_at, ← row_mk, part_at]
  exact hy _ ⟨128 * (p1.val / 128 % 4) + p1.val % 128, by omega⟩

end

/-- Only the states before the sixteen chunks are read. -/
theorem W_congr (P : Vec Ideal Kernel40Ideal.S2048x2048 .f32) (C S : Vec Ideal Kernel40Ideal.S2048x128 .f32) (M : Vec Ideal Kernel40Ideal.S4x128x128 .f32) (T : Vec Ideal Kernel40Ideal.S4x2x128x128 .f32)
    (E : Vec Ideal Kernel40Ideal.S4x8x128 .f32) (A B : ℕ → Fin 4 → Mat) (R : Vec Ideal Kernel40Ideal.S2048x1024 .f32) (hAB : ∀ n, n < 16 → ∀ h, A n h = B n h) :
    W P C S M T E A R = W P C S M T E B R := by
  have ho (n : ℕ) (hn : n < 16) (h : Fin 4) : oG P C S M T A n h = oG P C S M T B n h := by
    unfold oG
    rw [hAB n hn h]
  have he (n : ℕ) (hn : n < 16) (h : Fin 4) : eG P C S M T A R n h = eG P C S M T B R n h := by
    unfold eG
    rw [ho n hn h]
  have hd (k : ℕ) (h : Fin 4) : dsG P C S M T E A R k h = dsG P C S M T E B R k h := by
    induction k with
    | zero => rfl
    | succ k ih =>
      unfold dsG
      rw [ih, he (15 - k) (by omega) h]
  have hp (o : Fin 4) (n : ℕ) (hn : n < 16) (h : Fin 4) : pG P C S M T E A R o n h = pG P C S M T E B R o n h := by
    unfold pG
    simp only [ho n hn h, he n hn h, hd, hAB n hn h]
  funext p
  unfold W
  rw [hp _ _ (by
    have h0 : (p 0).val < 2048 := (p 0).isLt
    omega)]

end Cert.GradOut

end
-- ==== Proof.RetGrad.lean ====
module

public import proofs.«01_k».proof.Proof.GradHost
public import proofs.«01_k».proof.Proof.GradOut
public import proofs.«01_k».proof.Proof.Gen.Pre_cotangent_finite
public import proofs.«01_k».proof.Defs
public import proofs.«01_k».proof.Proof.Gen.Reference40Ideal.Run

@[expose] public section

/-! # Retention's gradient: the call's claims -/

set_option maxRecDepth 16384

noncomputable section

namespace Cert.RetGrad

open Cert.Kernel40Ideal Cert.Kernel40Ideal.Gen Idealize.ShloMosaic Idealize.ShloMosaic.Tactic Idealize.SL.Sem
open Cert.RetSpec Cert.RetTab Cert.GradSpec

/-! ## What the precondition gives -/

/-- A number whose absolute value is below some number is real. -/
theorem real_of_mask (x y : EReal) (h : BitVec.ofBool (decide (FloatOps.absf (F := Ideal) (φ := .f32) x < y)) = 1#1) : ∃ r : ℝ, x = r := by
  have hlt : FloatOps.absf (F := Ideal) (φ := .f32) x < y := by
    by_contra hn
    rw [decide_eq_false hn] at h
    exact absurd h (by decide)
  induction x using EReal.rec with
  | bot => exact absurd (show (⊤ : EReal) < y from lt_of_le_of_lt (le_of_eq_of_le EReal.neg_bot.symm (le_max_right ⊥ (-⊥))) hlt) not_top_lt
  | coe r => exact ⟨r, rfl⟩
  | top => exact absurd (show (⊤ : EReal) < y from lt_of_le_of_lt (le_max_left ⊤ (-⊤)) hlt) not_top_lt

section
open Cert.Pre_cotangent_finite.Gen

theorem finite_of_mask (x : Vec Ideal S2048x2048 .f32) (y : Vec Ideal S2048x1024 .f32) (h : Cert.Pre_cotangent_finite.fn (F := Ideal) x y = (fun _ => 1#1))
    (r : Fin 2048) (k : Fin 512) : ∃ e : ℝ, y (ix2 r ⟨k.val, by omega⟩) = e := by
  have e := congrFun h (ix2 r k)
  revert e
  unfold Cert.Pre_cotangent_finite.fn
  dsimp only
  pointwise
  exact real_of_mask _ _

end

/-! ## The claims -/

theorem frame_reference : Cert.quiescent_Reference40Ideal := fun m g _ =>
  (θ_run (Cert.Reference40Ideal.defs (F := Ideal)) _ _).mono
    (fun r h => ⟨fun c => (h c).2, sem_eq_zero_of_no_sems (by decide) r.2⟩)
    (Cert.Reference40Ideal.Value.run (F := Ideal) m g)

theorem algebraic : Cert.algebraic_Kernel40Ideal_Reference40Ideal_pre_cotangent_finite := by
  intro m g m' g' hpre hargs
  refine ⟨fun c => W (V m c main_arg0) cosT sinT (Cert.Reference39Ideal.Read.val_main_v97 (F := Ideal)) tabT decT (stG (V m c main_arg0) cosT sinT tabT decT) (V m c main_arg1), ?_, ?_⟩
  · refine (θ_run _ _ _).mono (fun r h c => ?_) (Cert.Kernel40Ideal.Value.run_blocks m g)
    obtain ⟨h0, hk⟩ := h c
    have e0 := GradRun.arr8 m c
    rw [GradTab.v15_eq, GradTab.v17_eq, GradTab.v41_eq, GradTab.v62_eq, GradTab.v67_eq,
      GradOut.W_congr _ _ _ _ _ _ _ _ _ (fun n hn h => GradHost.states_eq m c n hn h)] at e0
    exact ⟨h0.trans e0, hk⟩
  · refine (θ_run _ _ _).mono (fun r h c => ?_) (Cert.Reference40Ideal.Value.run m' g')
    obtain ⟨h0, hk⟩ := h c
    have hf := finite_of_mask _ _ (hpre c)
    have e : StableHlo.launchContents m' c (Proc.devRef .tc Cert.Reference40Ideal.main_arg0) = V m c main_arg0 := (hargs c).1
    have e' : StableHlo.launchContents m' c (Proc.devRef .tc Cert.Reference40Ideal.main_arg1) = V m c main_arg1 := (hargs c).2
    have e0 := congrArg₂ (Cert.Reference40Ideal.Read.val_main_v427 (F := Ideal)) e e'
    exact ⟨(h0.trans (Cert.Reference40Ideal.Read.val_main_v427_eq _)).trans (e0.trans (GradOut.ref_W _ _ hf)), hk⟩

end Cert.RetGrad

end
-- ==== Proof.lean ====
/- The proof of the claims (proof/Defs.lean): the products of the feed-forward layer and of the mixers with their weights,
   forward and backward, the feed-forward activation and its gradient, the norms and the loss with their gradients, retention, and the
   optimiser: the generated frames, and each program's value, proved in a module of its own. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal.Frame
public import proofs.«01_k».proof.Proof.Gen.Kernel7
public import proofs.«01_k».proof.Proof.Gen.Kernel7.Frame
public import proofs.«01_k».proof.Proof.Gen.Kernel7Ideal.Frame
public import proofs.«01_k».proof.Proof.Gen.Kernel8
public import proofs.«01_k».proof.Proof.Gen.Kernel8.Frame
public import proofs.«01_k».proof.Proof.Gen.Kernel8Ideal.Frame
public import proofs.«01_k».proof.Proof.Gen.Kernel9
public import proofs.«01_k».proof.Proof.Gen.Kernel9.Frame
public import proofs.«01_k».proof.Proof.Gen.Kernel9Ideal.Frame
public import proofs.«01_k».proof.Proof.Gen.Kernel10
public import proofs.«01_k».proof.Proof.Gen.Kernel10.Frame
public import proofs.«01_k».proof.Proof.Gen.Kernel10Ideal.Frame
public import proofs.«01_k».proof.Proof.Gen.Kernel11
public import proofs.«01_k».proof.Proof.Gen.Kernel11.Frame
public import proofs.«01_k».proof.Proof.Gen.Kernel11Ideal.Frame
public import proofs.«01_k».proof.Proof.Gen.Kernel12
public import proofs.«01_k».proof.Proof.Gen.Kernel12.Frame
public import proofs.«01_k».proof.Proof.Gen.Kernel12Ideal.Frame
public import proofs.«01_k».proof.Proof.Gen.Kernel13
public import proofs.«01_k».proof.Proof.Gen.Kernel13.Frame
public import proofs.«01_k».proof.Proof.Gen.Kernel13Ideal.Frame
public import proofs.«01_k».proof.Proof.Gen.Kernel14
public import proofs.«01_k».proof.Proof.Gen.Kernel14.Frame
public import proofs.«01_k».proof.Proof.Gen.Kernel14Ideal.Frame
public import proofs.«01_k».proof.Proof.Gen.Kernel15
public import proofs.«01_k».proof.Proof.Gen.Kernel15.Frame
public import proofs.«01_k».proof.Proof.Gen.Kernel15Ideal.Frame
public import proofs.«01_k».proof.Proof.Gen.Kernel16
public import proofs.«01_k».proof.Proof.Gen.Kernel16.Frame
public import proofs.«01_k».proof.Proof.Gen.Kernel16Ideal.Frame
public import proofs.«01_k».proof.Proof.Gen.Kernel17
public import proofs.«01_k».proof.Proof.Gen.Kernel17.Frame
public import proofs.«01_k».proof.Proof.Gen.Kernel17Ideal.Frame
public import proofs.«01_k».proof.Proof.Gen.Kernel18
public import proofs.«01_k».proof.Proof.Gen.Kernel18.Frame
public import proofs.«01_k».proof.Proof.Gen.Kernel18Ideal.Frame
public import proofs.«01_k».proof.Proof.Gen.Kernel19
public import proofs.«01_k».proof.Proof.Gen.Kernel19.Frame
public import proofs.«01_k».proof.Proof.Gen.Kernel19Ideal.Frame
public import proofs.«01_k».proof.Proof.Gen.Kernel20
public import proofs.«01_k».proof.Proof.Gen.Kernel20.Frame
public import proofs.«01_k».proof.Proof.Gen.Kernel20Ideal.Frame
public import proofs.«01_k».proof.Proof.Gen.Kernel21
public import proofs.«01_k».proof.Proof.Gen.Kernel21.Frame
public import proofs.«01_k».proof.Proof.Gen.Kernel21Ideal.Frame
public import proofs.«01_k».proof.Proof.Gen.Kernel22
public import proofs.«01_k».proof.Proof.Gen.Kernel22.Frame
public import proofs.«01_k».proof.Proof.Gen.Kernel22Ideal.Frame
public import proofs.«01_k».proof.Proof.Gen.Kernel23
public import proofs.«01_k».proof.Proof.Gen.Kernel23.Frame
public import proofs.«01_k».proof.Proof.Gen.Kernel23Ideal.Frame
public import proofs.«01_k».proof.Proof.Gen.Kernel24
public import proofs.«01_k».proof.Proof.Gen.Kernel24.Frame
public import proofs.«01_k».proof.Proof.Gen.Kernel24Ideal.Frame
public import proofs.«01_k».proof.Proof.Gen.Kernel25
public import proofs.«01_k».proof.Proof.Gen.Kernel25.Frame
public import proofs.«01_k».proof.Proof.Gen.Kernel25Ideal.Frame
public import proofs.«01_k».proof.Proof.Gen.Kernel26
public import proofs.«01_k».proof.Proof.Gen.Kernel26.Frame
public import proofs.«01_k».proof.Proof.Gen.Kernel26Ideal.Frame
public import proofs.«01_k».proof.Proof.Gen.Kernel27
public import proofs.«01_k».proof.Proof.Gen.Kernel27.Frame
public import proofs.«01_k».proof.Proof.Gen.Kernel27Ideal.Frame
public import proofs.«01_k».proof.Proof.Gen.Kernel28
public import proofs.«01_k».proof.Proof.Gen.Kernel28.Frame
public import proofs.«01_k».proof.Proof.Gen.Kernel28Ideal.Frame
public import proofs.«01_k».proof.Proof.Gen.Kernel29
public import proofs.«01_k».proof.Proof.Gen.Kernel29.Frame
public import proofs.«01_k».proof.Proof.Gen.Kernel29Ideal.Frame
public import proofs.«01_k».proof.Proof.Gen.Kernel30
public import proofs.«01_k».proof.Proof.Gen.Kernel30.Frame
public import proofs.«01_k».proof.Proof.Gen.Kernel30Ideal.Frame
public import proofs.«01_k».proof.Proof.Gen.Kernel31
public import proofs.«01_k».proof.Proof.Gen.Kernel31.Frame
public import proofs.«01_k».proof.Proof.Gen.Kernel31Ideal.Frame
public import proofs.«01_k».proof.Proof.Gen.Kernel32
public import proofs.«01_k».proof.Proof.Gen.Kernel32.Frame
public import proofs.«01_k».proof.Proof.Gen.Kernel32Ideal.Frame
public import proofs.«01_k».proof.Proof.Gen.Kernel33
public import proofs.«01_k».proof.Proof.Gen.Kernel33.Frame
public import proofs.«01_k».proof.Proof.Gen.Kernel33Ideal.Frame
public import proofs.«01_k».proof.Proof.Gen.Kernel34
public import proofs.«01_k».proof.Proof.Gen.Kernel34.Frame
public import proofs.«01_k».proof.Proof.Gen.Kernel34Ideal.Frame
public import proofs.«01_k».proof.Proof.Gen.Kernel35
public import proofs.«01_k».proof.Proof.Gen.Kernel35.Frame
public import proofs.«01_k».proof.Proof.Gen.Kernel35Ideal.Frame
public import proofs.«01_k».proof.Proof.Gen.Kernel36
public import proofs.«01_k».proof.Proof.Gen.Kernel36.Frame
public import proofs.«01_k».proof.Proof.Gen.Kernel36Ideal.Frame
public import proofs.«01_k».proof.Proof.Gen.Kernel37
public import proofs.«01_k».proof.Proof.Gen.Kernel37.Frame
public import proofs.«01_k».proof.Proof.Gen.Kernel37Ideal.Frame
public import proofs.«01_k».proof.Proof.Gen.Kernel38
public import proofs.«01_k».proof.Proof.Gen.Kernel38.Frame
public import proofs.«01_k».proof.Proof.Gen.Kernel38Ideal.Frame
public import proofs.«01_k».proof.Proof.Gen.Kernel39
public import proofs.«01_k».proof.Proof.Gen.Kernel39.Frame
public import proofs.«01_k».proof.Proof.Gen.Kernel39Ideal.Frame
public import proofs.«01_k».proof.Proof.Gen.Kernel40
public import proofs.«01_k».proof.Proof.Gen.Kernel40.Frame
public import proofs.«01_k».proof.Proof.Gen.Kernel40Ideal.Frame
public import proofs.«01_k».proof.Proof.Gen.Pre_cotangent_finite
public import proofs.«01_k».proof.Proof.Ffn
public import proofs.«01_k».proof.Proof.Down
public import proofs.«01_k».proof.Proof.DWUp
public import proofs.«01_k».proof.Proof.Up
public import proofs.«01_k».proof.Proof.DHn
public import proofs.«01_k».proof.Proof.DWDown
public import proofs.«01_k».proof.Proof.DAct
public import proofs.«01_k».proof.Proof.MixIn
public import proofs.«01_k».proof.Proof.MixInNarrow
public import proofs.«01_k».proof.Proof.MixOut
public import proofs.«01_k».proof.Proof.LruIn
public import proofs.«01_k».proof.Proof.DMixY
public import proofs.«01_k».proof.Proof.DMixWOut
public import proofs.«01_k».proof.Proof.DLruHnGate
public import proofs.«01_k».proof.Proof.DLruHn
public import proofs.«01_k».proof.Proof.DLruWIn
public import proofs.«01_k».proof.Proof.DMixHn
public import proofs.«01_k».proof.Proof.DMixHnNarrow
public import proofs.«01_k».proof.Proof.DMixWIn
public import proofs.«01_k».proof.Proof.DMixWInNarrow
public import proofs.«01_k».proof.Proof.Norm
public import proofs.«01_k».proof.Proof.FfnAct
public import proofs.«01_k».proof.Proof.AdamUp
public import proofs.«01_k».proof.Proof.AdamDown
public import proofs.«01_k».proof.Proof.NormBwd
public import proofs.«01_k».proof.Proof.Loss
public import proofs.«01_k».proof.Proof.AdamNorm
public import proofs.«01_k».proof.Proof.AdamMixIn
public import proofs.«01_k».proof.Proof.AdamGdnConv
public import proofs.«01_k».proof.Proof.AdamDecay
public import proofs.«01_k».proof.Proof.AdamLruVec
public import proofs.«01_k».proof.Proof.AdamMixOut
public import proofs.«01_k».proof.Proof.AdamLruIn
public import proofs.«01_k».proof.Proof.AdamLruConv
public import proofs.«01_k».proof.Proof.AdamLruGate
public import proofs.«01_k».proof.Proof.AdamFfnConv
public import proofs.«01_k».proof.Proof.AdamFfnBias
public import proofs.«01_k».proof.Proof.AdamNormFinal
public import proofs.«01_k».proof.Proof.Retention
public import proofs.«01_k».proof.Proof.RetGrad

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Pre_cotangent_and_value_half_finite.Gen.facts,
    Cert.Pre_cotangent_finite.Gen.facts,
    fun m g _ => Cert.Kernel.Gen.frame m g,
    fun m g _ => Cert.KernelIdeal.Gen.frame m g,
    fun m g _ => Cert.KernelIdeal.Gen.frame m g,
    Cert.Ffn.frame_reference,
    fun m g _ => Cert.Ffn.frame_reference m g trivial,
    fun m g _ => Cert.Kernel2.Gen.frame m g, fun m g _ => Cert.Kernel2Ideal.Gen.frame m g, Cert.DAct.frame_reference,
    fun m g _ => Cert.Kernel3.Gen.frame m g, fun m g _ => Cert.Kernel3Ideal.Gen.frame m g, Cert.DWDown.frame_reference,
    fun m g _ => Cert.Kernel4.Gen.frame m g, fun m g _ => Cert.Kernel4Ideal.Gen.frame m g, Cert.DHn.frame_reference,
    fun m g _ => Cert.Kernel5.Gen.frame m g, fun m g _ => Cert.Kernel5Ideal.Gen.frame m g, Cert.Up.frame_reference,
    fun m g _ => Cert.Kernel6.Gen.frame m g, fun m g _ => Cert.Kernel6Ideal.Gen.frame m g, Cert.DWUp.frame_reference,
    fun m g _ => Cert.Kernel7.Gen.frame m g, fun m g _ => Cert.Kernel7Ideal.Gen.frame m g, Cert.Down.frame_reference,
    fun m g _ => Cert.Kernel8.Gen.frame m g, fun m g _ => Cert.Kernel8Ideal.Gen.frame m g, Cert.MixIn.frame_reference,
    fun m g _ => Cert.Kernel9.Gen.frame m g, fun m g _ => Cert.Kernel9Ideal.Gen.frame m g, Cert.MixInNarrow.frame_reference,
    fun m g _ => Cert.Kernel10.Gen.frame m g, fun m g _ => Cert.Kernel10Ideal.Gen.frame m g, Cert.MixOut.frame_reference,
    fun m g _ => Cert.Kernel11.Gen.frame m g, fun m g _ => Cert.Kernel11Ideal.Gen.frame m g, Cert.LruIn.frame_reference,
    fun m g _ => Cert.Kernel12.Gen.frame m g, fun m g _ => Cert.Kernel12Ideal.Gen.frame m g, Cert.DMixY.frame_reference,
    fun m g _ => Cert.Kernel13.Gen.frame m g, fun m g _ => Cert.Kernel13Ideal.Gen.frame m g, Cert.DMixWOut.frame_reference,
    fun m g _ => Cert.Kernel14.Gen.frame m g, fun m g _ => Cert.Kernel14Ideal.Gen.frame m g, Cert.DLruHnGate.frame_reference,
    fun m g _ => Cert.Kernel15.Gen.frame m g, fun m g _ => Cert.Kernel15Ideal.Gen.frame m g, Cert.DLruHn.frame_reference,
    fun m g _ => Cert.Kernel16.Gen.frame m g, fun m g _ => Cert.Kernel16Ideal.Gen.frame m g, Cert.DLruWIn.frame_reference,
    fun m g _ => Cert.Kernel17.Gen.frame m g, fun m g _ => Cert.Kernel17Ideal.Gen.frame m g, Cert.DMixHn.frame_reference,
    fun m g _ => Cert.Kernel18.Gen.frame m g, fun m g _ => Cert.Kernel18Ideal.Gen.frame m g, Cert.DMixHnNarrow.frame_reference,
    fun m g _ => Cert.Kernel19.Gen.frame m g, fun m g _ => Cert.Kernel19Ideal.Gen.frame m g, Cert.DMixWIn.frame_reference,
    fun m g _ => Cert.Kernel20.Gen.frame m g, fun m g _ => Cert.Kernel20Ideal.Gen.frame m g, Cert.DMixWInNarrow.frame_reference,
    fun m g _ => Cert.Kernel21.Gen.frame m g, fun m g _ => Cert.Kernel21Ideal.Gen.frame m g, Cert.Norm.frame_reference,
    fun m g _ => Cert.Kernel22.Gen.frame m g, fun m g _ => Cert.Kernel22Ideal.Gen.frame m g, Cert.FfnAct.frame_reference,
    fun m g _ => Cert.Kernel23.Gen.frame m g, fun m g _ => Cert.Kernel23Ideal.Gen.frame m g, Cert.AdamUp.frame_reference,
    fun m g _ => Cert.Kernel24.Gen.frame m g, fun m g _ => Cert.Kernel24Ideal.Gen.frame m g, Cert.AdamDown.frame_reference,
    fun m g _ => Cert.Kernel25.Gen.frame m g, fun m g _ => Cert.Kernel25Ideal.Gen.frame m g, Cert.NormBwd.frame_reference,
    fun m g _ => Cert.Kernel26.Gen.frame m g, fun m g _ => Cert.Kernel26Ideal.Gen.frame m g, Cert.Loss.frame_reference,
    fun m g _ => Cert.Kernel27.Gen.frame m g, fun m g _ => Cert.Kernel27Ideal.Gen.frame m g, Cert.AdamNorm.frame_reference,
    fun m g _ => Cert.Kernel28.Gen.frame m g, fun m g _ => Cert.Kernel28Ideal.Gen.frame m g, Cert.AdamMixIn.frame_reference,
    fun m g _ => Cert.Kernel29.Gen.frame m g, fun m g _ => Cert.Kernel29Ideal.Gen.frame m g, Cert.AdamGdnConv.frame_reference,
    fun m g _ => Cert.Kernel30.Gen.frame m g, fun m g _ => Cert.Kernel30Ideal.Gen.frame m g, Cert.AdamDecay.frame_reference,
    fun m g _ => Cert.Kernel31.Gen.frame m g, fun m g _ => Cert.Kernel31Ideal.Gen.frame m g, Cert.AdamLruVec.frame_reference,
    fun m g _ => Cert.Kernel32.Gen.frame m g, fun m g _ => Cert.Kernel32Ideal.Gen.frame m g, Cert.AdamMixOut.frame_reference,
    fun m g _ => Cert.Kernel33.Gen.frame m g, fun m g _ => Cert.Kernel33Ideal.Gen.frame m g, Cert.AdamLruIn.frame_reference,
    fun m g _ => Cert.Kernel34.Gen.frame m g, fun m g _ => Cert.Kernel34Ideal.Gen.frame m g, Cert.AdamLruConv.frame_reference,
    fun m g _ => Cert.Kernel35.Gen.frame m g, fun m g _ => Cert.Kernel35Ideal.Gen.frame m g, Cert.AdamLruGate.frame_reference,
    fun m g _ => Cert.Kernel36.Gen.frame m g, fun m g _ => Cert.Kernel36Ideal.Gen.frame m g, Cert.AdamFfnConv.frame_reference,
    fun m g _ => Cert.Kernel37.Gen.frame m g, fun m g _ => Cert.Kernel37Ideal.Gen.frame m g, Cert.AdamFfnBias.frame_reference,
    fun m g _ => Cert.Kernel38.Gen.frame m g, fun m g _ => Cert.Kernel38Ideal.Gen.frame m g, Cert.AdamNormFinal.frame_reference,
    fun m g _ => Cert.Kernel39.Gen.frame m g, fun m g _ => Cert.Kernel39Ideal.Gen.frame m g, Cert.Retention.frame_reference,
    fun m g _ => Cert.Kernel40.Gen.frame m g,
    fun m g _ => Cert.Kernel40Ideal.Gen.frame m g,
    fun m g _ => Cert.Kernel40Ideal.Gen.frame m g,
    Cert.RetGrad.frame_reference,
    fun m g _ => Cert.RetGrad.frame_reference m g trivial,
    trivial, Cert.Ffn.algebraic,
    trivial, Cert.DAct.algebraic,
    trivial, Cert.DWDown.algebraic,
    trivial, Cert.DHn.algebraic,
    trivial, Cert.Up.algebraic,
    trivial, Cert.DWUp.algebraic,
    trivial, Cert.Down.algebraic,
    trivial, Cert.MixIn.algebraic,
    trivial, Cert.MixInNarrow.algebraic,
    trivial, Cert.MixOut.algebraic,
    trivial, Cert.LruIn.algebraic,
    trivial, Cert.DMixY.algebraic,
    trivial, Cert.DMixWOut.algebraic,
    trivial, Cert.DLruHnGate.algebraic,
    trivial, Cert.DLruHn.algebraic,
    trivial, Cert.DLruWIn.algebraic,
    trivial, Cert.DMixHn.algebraic,
    trivial, Cert.DMixHnNarrow.algebraic,
    trivial, Cert.DMixWIn.algebraic,
    trivial, Cert.DMixWInNarrow.algebraic,
    trivial, Cert.Norm.algebraic,
    trivial, Cert.FfnAct.algebraic,
    trivial, Cert.AdamUp.algebraic,
    trivial, Cert.AdamDown.algebraic,
    trivial, Cert.NormBwd.algebraic,
    trivial, Cert.Loss.algebraic,
    trivial, Cert.AdamNorm.algebraic,
    trivial, Cert.AdamMixIn.algebraic,
    trivial, Cert.AdamGdnConv.algebraic,
    trivial, Cert.AdamDecay.algebraic,
    trivial, Cert.AdamLruVec.algebraic,
    trivial, Cert.AdamMixOut.algebraic,
    trivial, Cert.AdamLruIn.algebraic,
    trivial, Cert.AdamLruConv.algebraic,
    trivial, Cert.AdamLruGate.algebraic,
    trivial, Cert.AdamFfnConv.algebraic,
    trivial, Cert.AdamFfnBias.algebraic,
    trivial, Cert.AdamNormFinal.algebraic,
    trivial, Cert.Retention.algebraic,
    trivial, Cert.RetGrad.algebraic⟩

end Cert.Proof

end
